-- ==== Defs.lean ====
def Pre_Kernel [hPre_ids_ok : Cert.Pre_ids_ok.Facts] (m : (ℓ : Loc Cert.Kernel.nD Cert.Kernel.τ Cert.Kernel.sig) → Buf (Elt Bits) ℓ) : Prop :=
  ∀ c : Dev Cert.Kernel.nD,
    (Cert.Pre_ids_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_ok : Cert.Pre_ids_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_ok : Cert.Pre_ids_ok.Facts) (hPre_inputs_ok : Cert.Pre_inputs_ok.Facts),
    quiescent_Kernel (hKernel := hKernel) (hPre_ids_ok := hPre_ids_ok)
    ∧ quiescent_KernelIdeal (hKernelIdeal := hKernelIdeal) (hPre_ids_ok := hPre_ids_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_ids_ok.lean ====
abbrev S1024x200 : Shape := ⟨2, ![1024, 200]⟩
abbrev S100000x128 : Shape := ⟨2, ![100000, 128]⟩
abbrev S2x128 : Shape := ⟨2, ![2, 128]⟩
abbrev S512x128 : Shape := ⟨2, ![512, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S2x128 .f32) (main_arg3 : FVec F S512x128 .f32) (main_arg4 : FVec F S128 .f32) (main_arg5 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Pre_inputs_ok.lean ====
abbrev S1024x200 : Shape := ⟨2, ![1024, 200]⟩
abbrev S100000x128 : Shape := ⟨2, ![100000, 128]⟩
abbrev S2x128 : Shape := ⟨2, ![2, 128]⟩
abbrev S512x128 : Shape := ⟨2, ![512, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S2x128 : S_.BroadcastsInDim S2x128 (![] : Fin 0 → Fin S2x128.rank)
  reducesTo_S2x128_S_d0_1 : S2x128.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v15 : IVec S_ 1) (main_v16 : FVec F S512x128 .f32) : IVec S_ 1 :=
  let main_cst_5 : FVec F S_ .f32 := constant S_ .f32 0x7F800000#32
  let main_v17 : FVec F S512x128 .f32 := broadcastInDim S512x128 ![] bcast_S_S512x128 main_cst_5
  let main_v18 : IVec S512x128 1 := cmpf .olt main_v16 main_v17
  let main_c_6 : IVec S_ 1 := constantI S_ 1 1#1
  let main_v19 : IVec S_ 1 := (fun x v => Host.reduce IntOp.andi x v reducesTo_S512x128_S_d0_1 h_S_) main_v18 main_c_6
  let main_v20 : IVec S_ 1 := andi main_v15 main_v19
  main_v20

def fn {F : FTy → Type} [FloatOps F] (main_arg0 : IVec S1024x200 32) (main_arg1 : FVec F S100000x128 .f32) (main_arg2 : FVec F S2x128 .f32) (main_arg3 : FVec F S512x128 .f32) (main_arg4 : FVec F S128 .f32) (main_arg5 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S2x128 .f32 := Host.absf main_arg2
  let main_cst_3 : FVec F S_ .f32 := constant S_ .f32 0x7F800000#32
  let main_v12 : FVec F S2x128 .f32 := broadcastInDim S2x128 ![] bcast_S_S2x128 main_cst_3
  let main_v13 : IVec S2x128 1 := cmpf .olt main_v11 main_v12
  let main_c_4 : IVec S_ 1 := constantI S_ 1 1#1
  let main_v14 : IVec S_ 1 := (fun x v => Host.reduce IntOp.andi x v reducesTo_S2x128_S_d0_1 h_S_) main_v13 main_c_4
  let main_v15 : IVec S_ 1 := andi main_v10 main_v14
  let main_v16 : FVec F S512x128 .f32 := Host.absf main_arg3
  fn_part1 (F := F) main_v15 main_v16
-- ==== Kernel.lean ====
abbrev S1024x200 : Shape := ⟨2, ![1024, 200]⟩
abbrev S100000x128 : Shape := ⟨2, ![100000, 128]⟩
abbrev S2x128 : Shape := ⟨2, ![2, 128]⟩
abbrev S512x128 : Shape := ⟨2, ![512, 128]⟩
abbrev S128 : Shape := ⟨1, ![128]⟩
abbrev S_ : Shape := ⟨0, ![]⟩
abbrev S1x128 : Shape := ⟨2, ![1, 128]⟩
abbrev S204800 : Shape := ⟨1, ![204800]⟩
abbrev S204800x128 : Shape := ⟨2, ![204800, 128]⟩
abbrev S6400 : Shape := ⟨1, ![6400]⟩
abbrev S64x128 : Shape := ⟨2, ![64, 128]⟩
abbrev S64 : Shape := ⟨1, ![64]⟩
abbrev S16 : Shape := ⟨1, ![16]⟩
abbrev S1x16 : Shape := ⟨2, ![1, 16]⟩
abbrev S1 : Shape := ⟨1, ![1]⟩
abbrev S1024x200x128 : Shape := ⟨3, ![1024, 200, 128]⟩

abbrev nBuf : Table → Nat
  | .hbm => 29
  | .local .scVector .vmem => 12
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S2x128, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S1024x200, .i32⟩
  | .hbm, ⟨8, _⟩ => ⟨S1024x200, .i1⟩
  | .hbm, ⟨9, _⟩ => ⟨S1024x200, .i32⟩
  | .hbm, ⟨10, _⟩ => ⟨S_, .i32⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S_, .i32⟩
  | .hbm, ⟨15, _⟩ => ⟨S1024x200, .i32⟩
  | .hbm, ⟨16, _⟩ => ⟨S1024x200, .i32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S512x128, .f32⟩
  | .hbm, ⟨21, _⟩ => ⟨S512x128, .f32⟩
  | .hbm, ⟨22, _⟩ => ⟨S1x128, .f32⟩
  | .hbm, ⟨23, _⟩ => ⟨S1x128, .f32⟩
  | .hbm, ⟨24, _⟩ => ⟨S2x128, .f32⟩
  | .hbm, ⟨25, _⟩ => ⟨S204800, .i32⟩
  | .hbm, ⟨26, _⟩ => ⟨S204800, .i32⟩
  | .hbm, ⟨27, _⟩ => ⟨S204800x128, .f32⟩
  | .hbm, ⟨28, _⟩ => ⟨S1024x200x128, .f32⟩
  | .local .scVector .vmem, ⟨0, _⟩ => ⟨S6400, .i32⟩
  | .local .scVector .vmem, ⟨1, _⟩ => ⟨S6400, .i32⟩
  | .local .scVector .vmem, ⟨2, _⟩ => ⟨S512x128, .f32⟩
  | .local .scVector .vmem, ⟨3, _⟩ => ⟨S2x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64, .f32⟩
  | .local .scVector .vmem, ⟨9, _⟩ => ⟨S64, .f32⟩
  | .local .scVector .vmem, ⟨10, _⟩ => ⟨S64, .f32⟩
  | .local .scVector .vmem, ⟨11, _⟩ => ⟨S64, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_c : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v15_scv : Ref sig .scVector := ⟨.hbm, 25, rfl⟩
abbrev main_v16_scv : Ref sig .scVector := ⟨.hbm, 26, rfl⟩
abbrev main_arg1_scv : Ref sig .scVector := ⟨.hbm, 1, rfl⟩
abbrev main_v11_scv : Ref sig .scVector := ⟨.hbm, 21, rfl⟩
abbrev main_v14_scv : Ref sig .scVector := ⟨.hbm, 24, rfl⟩
abbrev main_v17_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_33 : BitVec 32 := 0#32
  let c4_i32 : BitVec 32 := 4#32
  let v46 : BitVec 32 := Scalar.addi c0_i32_33 c4_i32
  let c1_i32_34 : BitVec 32 := 1#32
  ⟨c0_i32_33, v46, c1_i32_34⟩
def k0_off2 (k0_t1 : Fin k0_t1_loop.trips) : Fin 1 → Nat :=
  let c0_i32_84 : BitVec 32 := 0#32
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v80 : BitVec 32 := Scalar.addi c0_i32_84 v79
  let v81 : Index := Scalar.indexCast v80
  ![v81.toNat]
def k0_off3 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v92 : Index := Scalar.indexCast v83
  let c0_89 : Index := 0#32
  ![v92.toNat, 0]
def k0_off4 (v87 : BitVec 32) : Fin 2 → Nat :=
  let v94 : Index := Scalar.indexCast v87
  let c0_90 : Index := 0#32
  ![v94.toNat, 0]

def k0_off5 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v100 : Index := Scalar.indexCast v83
  let c16_91 : Index := 16#32
  ![v100.toNat, 16]
def k0_off6 (v87 : BitVec 32) : Fin 2 → Nat :=
  let v102 : Index := Scalar.indexCast v87
  let c16_92 : Index := 16#32
  ![v102.toNat, 16]
def k0_off7 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v108 : Index := Scalar.indexCast v83
  let c32_93 : Index := 32#32
  ![v108.toNat, 32]
def k0_off8 (v87 : BitVec 32) : Fin 2 → Nat :=
  let v110 : Index := Scalar.indexCast v87
  let c32_94 : Index := 32#32
  ![v110.toNat, 32]
def k0_off9 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v116 : Index := Scalar.indexCast v83
  let c48_95 : Index := 48#32
  ![v116.toNat, 48]
def k0_off10 (v87 : BitVec 32) : Fin 2 → Nat :=
  let v118 : Index := Scalar.indexCast v87
  let c48_96 : Index := 48#32
  ![v118.toNat, 48]
def k0_off11 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v124 : Index := Scalar.indexCast v83
  let c64_97 : Index := 64#32
  ![v124.toNat, 64]
def k0_off12 (v87 : BitVec 32) : Fin 2 → Nat :=
  let v126 : Index := Scalar.indexCast v87
  let c64_98 : Index := 64#32
  ![v126.toNat, 64]
def k0_off13 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v132 : Index := Scalar.indexCast v83
  let c80_99 : Index := 80#32
  ![v132.toNat, 80]
def k0_off14 (v87 : BitVec 32) : Fin 2 → Nat :=
  let v134 : Index := Scalar.indexCast v87
  let c80_100 : Index := 80#32
  ![v134.toNat, 80]
def k0_off15 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v140 : Index := Scalar.indexCast v83
  let c96_101 : Index := 96#32
  ![v140.toNat, 96]
def k0_off16 (v87 : BitVec 32) : Fin 2 → Nat :=
  let v142 : Index := Scalar.indexCast v87
  let c96_102 : Index := 96#32
  ![v142.toNat, 96]
def k0_off17 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v148 : Index := Scalar.indexCast v83
  let c112_103 : Index := 112#32
  ![v148.toNat, 112]
def k0_off18 (v87 : BitVec 32) : Fin 2 → Nat :=
  let v150 : Index := Scalar.indexCast v87
  let c112_104 : Index := 112#32
  ![v150.toNat, 112]

def k0_chk1 (v87 : BitVec 32) : Prop :=
  (∀ a, (k0_off4 v87) a + S1x16.size a ≤ S512x128.size a) ∧
  (∀ a, (k0_off6 v87) a + S1x16.size a ≤ S512x128.size a) ∧
  (∀ a, (k0_off8 v87) a + S1x16.size a ≤ S512x128.size a) ∧
  (∀ a, (k0_off10 v87) a + S1x16.size a ≤ S512x128.size a) ∧
  (∀ a, (k0_off12 v87) a + S1x16.size a ≤ S512x128.size a) ∧
  (∀ a, (k0_off14 v87) a + S1x16.size a ≤ S512x128.size a) ∧
  (∀ a, (k0_off16 v87) a + S1x16.size a ≤ S512x128.size a) ∧
  (∀ a, (k0_off18 v87) a + S1x16.size a ≤ S512x128.size a)
theorem k0_off4_inb : ∀ (v87 : BitVec 32) (k0_hw1 : k0_chk1 v87), ∀ a, (k0_off4 v87) a + S1x16.size a ≤ S512x128.size a := fun v87 k0_hw1 => k0_hw1.1
theorem k0_off6_inb : ∀ (v87 : BitVec 32) (k0_hw1 : k0_chk1 v87), ∀ a, (k0_off6 v87) a + S1x16.size a ≤ S512x128.size a := fun v87 k0_hw1 => k0_hw1.2.1
theorem k0_off8_inb : ∀ (v87 : BitVec 32) (k0_hw1 : k0_chk1 v87), ∀ a, (k0_off8 v87) a + S1x16.size a ≤ S512x128.size a := fun v87 k0_hw1 => k0_hw1.2.2.1
theorem k0_off10_inb : ∀ (v87 : BitVec 32) (k0_hw1 : k0_chk1 v87), ∀ a, (k0_off10 v87) a + S1x16.size a ≤ S512x128.size a := fun v87 k0_hw1 => k0_hw1.2.2.2.1
theorem k0_off12_inb : ∀ (v87 : BitVec 32) (k0_hw1 : k0_chk1 v87), ∀ a, (k0_off12 v87) a + S1x16.size a ≤ S512x128.size a := fun v87 k0_hw1 => k0_hw1.2.2.2.2.1
theorem k0_off14_inb : ∀ (v87 : BitVec 32) (k0_hw1 : k0_chk1 v87), ∀ a, (k0_off14 v87) a + S1x16.size a ≤ S512x128.size a := fun v87 k0_hw1 => k0_hw1.2.2.2.2.2.1
theorem k0_off16_inb : ∀ (v87 : BitVec 32) (k0_hw1 : k0_chk1 v87), ∀ a, (k0_off16 v87) a + S1x16.size a ≤ S512x128.size a := fun v87 k0_hw1 => k0_hw1.2.2.2.2.2.2.1
theorem k0_off18_inb : ∀ (v87 : BitVec 32) (k0_hw1 : k0_chk1 v87), ∀ a, (k0_off18 v87) a + S1x16.size a ≤ S512x128.size a := fun v87 k0_hw1 => k0_hw1.2.2.2.2.2.2.2

def k0_off19 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v254 : Index := Scalar.indexCast v85
  let c0_107 : Index := 0#32
  ![v254.toNat, 0]
def k0_off20 (v89 : BitVec 32) : Fin 2 → Nat :=
  let v256 : Index := Scalar.indexCast v89
  let c0_108 : Index := 0#32
  ![v256.toNat, 0]

def k0_off21 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v262 : Index := Scalar.indexCast v85
  let c16_109 : Index := 16#32
  ![v262.toNat, 16]
def k0_off22 (v89 : BitVec 32) : Fin 2 → Nat :=
  let v264 : Index := Scalar.indexCast v89
  let c16_110 : Index := 16#32
  ![v264.toNat, 16]
def k0_off23 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v270 : Index := Scalar.indexCast v85
  let c32_111 : Index := 32#32
  ![v270.toNat, 32]
def k0_off24 (v89 : BitVec 32) : Fin 2 → Nat :=
  let v272 : Index := Scalar.indexCast v89
  let c32_112 : Index := 32#32
  ![v272.toNat, 32]
def k0_off25 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v278 : Index := Scalar.indexCast v85
  let c48_113 : Index := 48#32
  ![v278.toNat, 48]
def k0_off26 (v89 : BitVec 32) : Fin 2 → Nat :=
  let v280 : Index := Scalar.indexCast v89
  let c48_114 : Index := 48#32
  ![v280.toNat, 48]
def k0_off27 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v286 : Index := Scalar.indexCast v85
  let c64_115 : Index := 64#32
  ![v286.toNat, 64]
def k0_off28 (v89 : BitVec 32) : Fin 2 → Nat :=
  let v288 : Index := Scalar.indexCast v89
  let c64_116 : Index := 64#32
  ![v288.toNat, 64]
def k0_off29 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v294 : Index := Scalar.indexCast v85
  let c80_117 : Index := 80#32
  ![v294.toNat, 80]
def k0_off30 (v89 : BitVec 32) : Fin 2 → Nat :=
  let v296 : Index := Scalar.indexCast v89
  let c80_118 : Index := 80#32
  ![v296.toNat, 80]
def k0_off31 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v302 : Index := Scalar.indexCast v85
  let c96_119 : Index := 96#32
  ![v302.toNat, 96]
def k0_off32 (v89 : BitVec 32) : Fin 2 → Nat :=
  let v304 : Index := Scalar.indexCast v89
  let c96_120 : Index := 96#32
  ![v304.toNat, 96]
def k0_off33 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v310 : Index := Scalar.indexCast v85
  let c112_121 : Index := 112#32
  ![v310.toNat, 112]
def k0_off34 (v89 : BitVec 32) : Fin 2 → Nat :=
  let v312 : Index := Scalar.indexCast v89
  let c112_122 : Index := 112#32
  ![v312.toNat, 112]

def k0_chk2 (v89 : BitVec 32) : Prop :=
  (∀ a, (k0_off20 v89) a + S1x16.size a ≤ S512x128.size a) ∧
  (∀ a, (k0_off22 v89) a + S1x16.size a ≤ S512x128.size a) ∧
  (∀ a, (k0_off24 v89) a + S1x16.size a ≤ S512x128.size a) ∧
  (∀ a, (k0_off26 v89) a + S1x16.size a ≤ S512x128.size a) ∧
  (∀ a, (k0_off28 v89) a + S1x16.size a ≤ S512x128.size a) ∧
  (∀ a, (k0_off30 v89) a + S1x16.size a ≤ S512x128.size a) ∧
  (∀ a, (k0_off32 v89) a + S1x16.size a ≤ S512x128.size a) ∧
  (∀ a, (k0_off34 v89) a + S1x16.size a ≤ S512x128.size a)
theorem k0_off20_inb : ∀ (v89 : BitVec 32) (k0_hw2 : k0_chk2 v89), ∀ a, (k0_off20 v89) a + S1x16.size a ≤ S512x128.size a := fun v89 k0_hw2 => k0_hw2.1
theorem k0_off22_inb : ∀ (v89 : BitVec 32) (k0_hw2 : k0_chk2 v89), ∀ a, (k0_off22 v89) a + S1x16.size a ≤ S512x128.size a := fun v89 k0_hw2 => k0_hw2.2.1
theorem k0_off24_inb : ∀ (v89 : BitVec 32) (k0_hw2 : k0_chk2 v89), ∀ a, (k0_off24 v89) a + S1x16.size a ≤ S512x128.size a := fun v89 k0_hw2 => k0_hw2.2.2.1
theorem k0_off26_inb : ∀ (v89 : BitVec 32) (k0_hw2 : k0_chk2 v89), ∀ a, (k0_off26 v89) a + S1x16.size a ≤ S512x128.size a := fun v89 k0_hw2 => k0_hw2.2.2.2.1
theorem k0_off28_inb : ∀ (v89 : BitVec 32) (k0_hw2 : k0_chk2 v89), ∀ a, (k0_off28 v89) a + S1x16.size a ≤ S512x128.size a := fun v89 k0_hw2 => k0_hw2.2.2.2.2.1
theorem k0_off30_inb : ∀ (v89 : BitVec 32) (k0_hw2 : k0_chk2 v89), ∀ a, (k0_off30 v89) a + S1x16.size a ≤ S512x128.size a := fun v89 k0_hw2 => k0_hw2.2.2.2.2.2.1
theorem k0_off32_inb : ∀ (v89 : BitVec 32) (k0_hw2 : k0_chk2 v89), ∀ a, (k0_off32 v89) a + S1x16.size a ≤ S512x128.size a := fun v89 k0_hw2 => k0_hw2.2.2.2.2.2.2.1
theorem k0_off34_inb : ∀ (v89 : BitVec 32) (k0_hw2 : k0_chk2 v89), ∀ a, (k0_off34 v89) a + S1x16.size a ≤ S512x128.size a := fun v89 k0_hw2 => k0_hw2.2.2.2.2.2.2.2

def k0_off35 (k0_t1 : Fin k0_t1_loop.trips) (c0_i32_85 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v83 : BitVec 32 := Scalar.addi v79 c0_i32_85
  let v450 : Index := Scalar.indexCast v83
  let c0_130 : Index := 0#32
  ![v450.toNat, 0]
def k0_off36 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v456 : Index := Scalar.indexCast v83
  let c16_131 : Index := 16#32
  ![v456.toNat, 16]
def k0_off37 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v462 : Index := Scalar.indexCast v83
  let c32_132 : Index := 32#32
  ![v462.toNat, 32]
def k0_off38 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v468 : Index := Scalar.indexCast v83
  let c48_133 : Index := 48#32
  ![v468.toNat, 48]
def k0_off39 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v474 : Index := Scalar.indexCast v83
  let c64_134 : Index := 64#32
  ![v474.toNat, 64]
def k0_off40 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v480 : Index := Scalar.indexCast v83
  let c80_135 : Index := 80#32
  ![v480.toNat, 80]
def k0_off41 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v486 : Index := Scalar.indexCast v83
  let c96_136 : Index := 96#32
  ![v486.toNat, 96]
def k0_off42 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_85 : BitVec 32 := 0#32
  let v83 : BitVec 32 := Scalar.addi v79 c0_i32_85
  let v492 : Index := Scalar.indexCast v83
  let c112_137 : Index := 112#32
  ![v492.toNat, 112]
def k0_off43 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v504 : Index := Scalar.indexCast v85
  let c0_138 : Index := 0#32
  ![v504.toNat, 0]
def k0_off44 (v552 : BitVec 32) : Fin 2 → Nat :=
  let v559 : Index := Scalar.indexCast v552
  let c0_152 : Index := 0#32
  ![v559.toNat, 0]

def k0_off45 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v565 : Index := Scalar.indexCast v548
  let c16_153 : Index := 16#32
  ![v565.toNat, 16]
def k0_off46 (v552 : BitVec 32) : Fin 2 → Nat :=
  let v567 : Index := Scalar.indexCast v552
  let c16_154 : Index := 16#32
  ![v567.toNat, 16]
def k0_off47 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v573 : Index := Scalar.indexCast v548
  let c32_155 : Index := 32#32
  ![v573.toNat, 32]
def k0_off48 (v552 : BitVec 32) : Fin 2 → Nat :=
  let v575 : Index := Scalar.indexCast v552
  let c32_156 : Index := 32#32
  ![v575.toNat, 32]
def k0_off49 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v581 : Index := Scalar.indexCast v548
  let c48_157 : Index := 48#32
  ![v581.toNat, 48]
def k0_off50 (v552 : BitVec 32) : Fin 2 → Nat :=
  let v583 : Index := Scalar.indexCast v552
  let c48_158 : Index := 48#32
  ![v583.toNat, 48]
def k0_off51 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v589 : Index := Scalar.indexCast v548
  let c64_159 : Index := 64#32
  ![v589.toNat, 64]
def k0_off52 (v552 : BitVec 32) : Fin 2 → Nat :=
  let v591 : Index := Scalar.indexCast v552
  let c64_160 : Index := 64#32
  ![v591.toNat, 64]
def k0_off53 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v597 : Index := Scalar.indexCast v548
  let c80_161 : Index := 80#32
  ![v597.toNat, 80]
def k0_off54 (v552 : BitVec 32) : Fin 2 → Nat :=
  let v599 : Index := Scalar.indexCast v552
  let c80_162 : Index := 80#32
  ![v599.toNat, 80]
def k0_off55 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v605 : Index := Scalar.indexCast v548
  let c96_163 : Index := 96#32
  ![v605.toNat, 96]
def k0_off56 (v552 : BitVec 32) : Fin 2 → Nat :=
  let v607 : Index := Scalar.indexCast v552
  let c96_164 : Index := 96#32
  ![v607.toNat, 96]
def k0_off57 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v613 : Index := Scalar.indexCast v548
  let c112_165 : Index := 112#32
  ![v613.toNat, 112]
def k0_off58 (v552 : BitVec 32) : Fin 2 → Nat :=
  let v615 : Index := Scalar.indexCast v552
  let c112_166 : Index := 112#32
  ![v615.toNat, 112]

def k0_chk3 (v552 : BitVec 32) : Prop :=
  (∀ a, (k0_off44 v552) a + S1x16.size a ≤ S512x128.size a) ∧
  (∀ a, (k0_off46 v552) a + S1x16.size a ≤ S512x128.size a) ∧
  (∀ a, (k0_off48 v552) a + S1x16.size a ≤ S512x128.size a) ∧
  (∀ a, (k0_off50 v552) a + S1x16.size a ≤ S512x128.size a) ∧
  (∀ a, (k0_off52 v552) a + S1x16.size a ≤ S512x128.size a) ∧
  (∀ a, (k0_off54 v552) a + S1x16.size a ≤ S512x128.size a) ∧
  (∀ a, (k0_off56 v552) a + S1x16.size a ≤ S512x128.size a) ∧
  (∀ a, (k0_off58 v552) a + S1x16.size a ≤ S512x128.size a)
theorem k0_off44_inb : ∀ (v552 : BitVec 32) (k0_hw3 : k0_chk3 v552), ∀ a, (k0_off44 v552) a + S1x16.size a ≤ S512x128.size a := fun v552 k0_hw3 => k0_hw3.1
theorem k0_off46_inb : ∀ (v552 : BitVec 32) (k0_hw3 : k0_chk3 v552), ∀ a, (k0_off46 v552) a + S1x16.size a ≤ S512x128.size a := fun v552 k0_hw3 => k0_hw3.2.1
theorem k0_off48_inb : ∀ (v552 : BitVec 32) (k0_hw3 : k0_chk3 v552), ∀ a, (k0_off48 v552) a + S1x16.size a ≤ S512x128.size a := fun v552 k0_hw3 => k0_hw3.2.2.1
theorem k0_off50_inb : ∀ (v552 : BitVec 32) (k0_hw3 : k0_chk3 v552), ∀ a, (k0_off50 v552) a + S1x16.size a ≤ S512x128.size a := fun v552 k0_hw3 => k0_hw3.2.2.2.1
theorem k0_off52_inb : ∀ (v552 : BitVec 32) (k0_hw3 : k0_chk3 v552), ∀ a, (k0_off52 v552) a + S1x16.size a ≤ S512x128.size a := fun v552 k0_hw3 => k0_hw3.2.2.2.2.1
theorem k0_off54_inb : ∀ (v552 : BitVec 32) (k0_hw3 : k0_chk3 v552), ∀ a, (k0_off54 v552) a + S1x16.size a ≤ S512x128.size a := fun v552 k0_hw3 => k0_hw3.2.2.2.2.2.1
theorem k0_off56_inb : ∀ (v552 : BitVec 32) (k0_hw3 : k0_chk3 v552), ∀ a, (k0_off56 v552) a + S1x16.size a ≤ S512x128.size a := fun v552 k0_hw3 => k0_hw3.2.2.2.2.2.2.1
theorem k0_off58_inb : ∀ (v552 : BitVec 32) (k0_hw3 : k0_chk3 v552), ∀ a, (k0_off58 v552) a + S1x16.size a ≤ S512x128.size a := fun v552 k0_hw3 => k0_hw3.2.2.2.2.2.2.2

def k0_off59 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v719 : Index := Scalar.indexCast v550
  let c0_169 : Index := 0#32
  ![v719.toNat, 0]
def k0_off60 (v554 : BitVec 32) : Fin 2 → Nat :=
  let v721 : Index := Scalar.indexCast v554
  let c0_170 : Index := 0#32
  ![v721.toNat, 0]

def k0_off61 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v727 : Index := Scalar.indexCast v550
  let c16_171 : Index := 16#32
  ![v727.toNat, 16]
def k0_off62 (v554 : BitVec 32) : Fin 2 → Nat :=
  let v729 : Index := Scalar.indexCast v554
  let c16_172 : Index := 16#32
  ![v729.toNat, 16]
def k0_off63 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v735 : Index := Scalar.indexCast v550
  let c32_173 : Index := 32#32
  ![v735.toNat, 32]
def k0_off64 (v554 : BitVec 32) : Fin 2 → Nat :=
  let v737 : Index := Scalar.indexCast v554
  let c32_174 : Index := 32#32
  ![v737.toNat, 32]
def k0_off65 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v743 : Index := Scalar.indexCast v550
  let c48_175 : Index := 48#32
  ![v743.toNat, 48]
def k0_off66 (v554 : BitVec 32) : Fin 2 → Nat :=
  let v745 : Index := Scalar.indexCast v554
  let c48_176 : Index := 48#32
  ![v745.toNat, 48]
def k0_off67 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v751 : Index := Scalar.indexCast v550
  let c64_177 : Index := 64#32
  ![v751.toNat, 64]
def k0_off68 (v554 : BitVec 32) : Fin 2 → Nat :=
  let v753 : Index := Scalar.indexCast v554
  let c64_178 : Index := 64#32
  ![v753.toNat, 64]
def k0_off69 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v759 : Index := Scalar.indexCast v550
  let c80_179 : Index := 80#32
  ![v759.toNat, 80]
def k0_off70 (v554 : BitVec 32) : Fin 2 → Nat :=
  let v761 : Index := Scalar.indexCast v554
  let c80_180 : Index := 80#32
  ![v761.toNat, 80]
def k0_off71 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v767 : Index := Scalar.indexCast v550
  let c96_181 : Index := 96#32
  ![v767.toNat, 96]
def k0_off72 (v554 : BitVec 32) : Fin 2 → Nat :=
  let v769 : Index := Scalar.indexCast v554
  let c96_182 : Index := 96#32
  ![v769.toNat, 96]
def k0_off73 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v775 : Index := Scalar.indexCast v550
  let c112_183 : Index := 112#32
  ![v775.toNat, 112]
def k0_off74 (v554 : BitVec 32) : Fin 2 → Nat :=
  let v777 : Index := Scalar.indexCast v554
  let c112_184 : Index := 112#32
  ![v777.toNat, 112]

def k0_chk4 (v554 : BitVec 32) : Prop :=
  (∀ a, (k0_off60 v554) a + S1x16.size a ≤ S512x128.size a) ∧
  (∀ a, (k0_off62 v554) a + S1x16.size a ≤ S512x128.size a) ∧
  (∀ a, (k0_off64 v554) a + S1x16.size a ≤ S512x128.size a) ∧
  (∀ a, (k0_off66 v554) a + S1x16.size a ≤ S512x128.size a) ∧
  (∀ a, (k0_off68 v554) a + S1x16.size a ≤ S512x128.size a) ∧
  (∀ a, (k0_off70 v554) a + S1x16.size a ≤ S512x128.size a) ∧
  (∀ a, (k0_off72 v554) a + S1x16.size a ≤ S512x128.size a) ∧
  (∀ a, (k0_off74 v554) a + S1x16.size a ≤ S512x128.size a)
theorem k0_off60_inb : ∀ (v554 : BitVec 32) (k0_hw4 : k0_chk4 v554), ∀ a, (k0_off60 v554) a + S1x16.size a ≤ S512x128.size a := fun v554 k0_hw4 => k0_hw4.1
theorem k0_off62_inb : ∀ (v554 : BitVec 32) (k0_hw4 : k0_chk4 v554), ∀ a, (k0_off62 v554) a + S1x16.size a ≤ S512x128.size a := fun v554 k0_hw4 => k0_hw4.2.1
theorem k0_off64_inb : ∀ (v554 : BitVec 32) (k0_hw4 : k0_chk4 v554), ∀ a, (k0_off64 v554) a + S1x16.size a ≤ S512x128.size a := fun v554 k0_hw4 => k0_hw4.2.2.1
theorem k0_off66_inb : ∀ (v554 : BitVec 32) (k0_hw4 : k0_chk4 v554), ∀ a, (k0_off66 v554) a + S1x16.size a ≤ S512x128.size a := fun v554 k0_hw4 => k0_hw4.2.2.2.1
theorem k0_off68_inb : ∀ (v554 : BitVec 32) (k0_hw4 : k0_chk4 v554), ∀ a, (k0_off68 v554) a + S1x16.size a ≤ S512x128.size a := fun v554 k0_hw4 => k0_hw4.2.2.2.2.1
theorem k0_off70_inb : ∀ (v554 : BitVec 32) (k0_hw4 : k0_chk4 v554), ∀ a, (k0_off70 v554) a + S1x16.size a ≤ S512x128.size a := fun v554 k0_hw4 => k0_hw4.2.2.2.2.2.1
theorem k0_off72_inb : ∀ (v554 : BitVec 32) (k0_hw4 : k0_chk4 v554), ∀ a, (k0_off72 v554) a + S1x16.size a ≤ S512x128.size a := fun v554 k0_hw4 => k0_hw4.2.2.2.2.2.2.1
theorem k0_off74_inb : ∀ (v554 : BitVec 32) (k0_hw4 : k0_chk4 v554), ∀ a, (k0_off74 v554) a + S1x16.size a ≤ S512x128.size a := fun v554 k0_hw4 => k0_hw4.2.2.2.2.2.2.2

def k0_off75 (k0_t1 : Fin k0_t1_loop.trips) (c2_i32_146 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v548 : BitVec 32 := Scalar.addi v79 c2_i32_146
  let v915 : Index := Scalar.indexCast v548
  let c0_192 : Index := 0#32
  ![v915.toNat, 0]
def k0_off76 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v921 : Index := Scalar.indexCast v548
  let c16_193 : Index := 16#32
  ![v921.toNat, 16]
def k0_off77 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v927 : Index := Scalar.indexCast v548
  let c32_194 : Index := 32#32
  ![v927.toNat, 32]
def k0_off78 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v933 : Index := Scalar.indexCast v548
  let c48_195 : Index := 48#32
  ![v933.toNat, 48]
def k0_off79 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v939 : Index := Scalar.indexCast v548
  let c64_196 : Index := 64#32
  ![v939.toNat, 64]
def k0_off80 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v945 : Index := Scalar.indexCast v548
  let c80_197 : Index := 80#32
  ![v945.toNat, 80]
def k0_off81 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v951 : Index := Scalar.indexCast v548
  let c96_198 : Index := 96#32
  ![v951.toNat, 96]
def k0_off82 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_146 : BitVec 32 := 2#32
  let v548 : BitVec 32 := Scalar.addi v79 c2_i32_146
  let v957 : Index := Scalar.indexCast v548
  let c112_199 : Index := 112#32
  ![v957.toNat, 112]
def k0_off83 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v969 : Index := Scalar.indexCast v550
  let c0_200 : Index := 0#32
  ![v969.toNat, 0]
def k0_off84 (v1017 : BitVec 32) : Fin 2 → Nat :=
  let v1024 : Index := Scalar.indexCast v1017
  let c0_214 : Index := 0#32
  ![v1024.toNat, 0]

def k0_off85 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1030 : Index := Scalar.indexCast v1013
  let c16_215 : Index := 16#32
  ![v1030.toNat, 16]
def k0_off86 (v1017 : BitVec 32) : Fin 2 → Nat :=
  let v1032 : Index := Scalar.indexCast v1017
  let c16_216 : Index := 16#32
  ![v1032.toNat, 16]
def k0_off87 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1038 : Index := Scalar.indexCast v1013
  let c32_217 : Index := 32#32
  ![v1038.toNat, 32]
def k0_off88 (v1017 : BitVec 32) : Fin 2 → Nat :=
  let v1040 : Index := Scalar.indexCast v1017
  let c32_218 : Index := 32#32
  ![v1040.toNat, 32]
def k0_off89 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1046 : Index := Scalar.indexCast v1013
  let c48_219 : Index := 48#32
  ![v1046.toNat, 48]
def k0_off90 (v1017 : BitVec 32) : Fin 2 → Nat :=
  let v1048 : Index := Scalar.indexCast v1017
  let c48_220 : Index := 48#32
  ![v1048.toNat, 48]
def k0_off91 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1054 : Index := Scalar.indexCast v1013
  let c64_221 : Index := 64#32
  ![v1054.toNat, 64]
def k0_off92 (v1017 : BitVec 32) : Fin 2 → Nat :=
  let v1056 : Index := Scalar.indexCast v1017
  let c64_222 : Index := 64#32
  ![v1056.toNat, 64]
def k0_off93 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1062 : Index := Scalar.indexCast v1013
  let c80_223 : Index := 80#32
  ![v1062.toNat, 80]
def k0_off94 (v1017 : BitVec 32) : Fin 2 → Nat :=
  let v1064 : Index := Scalar.indexCast v1017
  let c80_224 : Index := 80#32
  ![v1064.toNat, 80]
def k0_off95 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1070 : Index := Scalar.indexCast v1013
  let c96_225 : Index := 96#32
  ![v1070.toNat, 96]
def k0_off96 (v1017 : BitVec 32) : Fin 2 → Nat :=
  let v1072 : Index := Scalar.indexCast v1017
  let c96_226 : Index := 96#32
  ![v1072.toNat, 96]
def k0_off97 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1078 : Index := Scalar.indexCast v1013
  let c112_227 : Index := 112#32
  ![v1078.toNat, 112]
def k0_off98 (v1017 : BitVec 32) : Fin 2 → Nat :=
  let v1080 : Index := Scalar.indexCast v1017
  let c112_228 : Index := 112#32
  ![v1080.toNat, 112]

def k0_chk5 (v1017 : BitVec 32) : Prop :=
  (∀ a, (k0_off84 v1017) a + S1x16.size a ≤ S512x128.size a) ∧
  (∀ a, (k0_off86 v1017) a + S1x16.size a ≤ S512x128.size a) ∧
  (∀ a, (k0_off88 v1017) a + S1x16.size a ≤ S512x128.size a) ∧
  (∀ a, (k0_off90 v1017) a + S1x16.size a ≤ S512x128.size a) ∧
  (∀ a, (k0_off92 v1017) a + S1x16.size a ≤ S512x128.size a) ∧
  (∀ a, (k0_off94 v1017) a + S1x16.size a ≤ S512x128.size a) ∧
  (∀ a, (k0_off96 v1017) a + S1x16.size a ≤ S512x128.size a) ∧
  (∀ a, (k0_off98 v1017) a + S1x16.size a ≤ S512x128.size a)
theorem k0_off84_inb : ∀ (v1017 : BitVec 32) (k0_hw5 : k0_chk5 v1017), ∀ a, (k0_off84 v1017) a + S1x16.size a ≤ S512x128.size a := fun v1017 k0_hw5 => k0_hw5.1
theorem k0_off86_inb : ∀ (v1017 : BitVec 32) (k0_hw5 : k0_chk5 v1017), ∀ a, (k0_off86 v1017) a + S1x16.size a ≤ S512x128.size a := fun v1017 k0_hw5 => k0_hw5.2.1
theorem k0_off88_inb : ∀ (v1017 : BitVec 32) (k0_hw5 : k0_chk5 v1017), ∀ a, (k0_off88 v1017) a + S1x16.size a ≤ S512x128.size a := fun v1017 k0_hw5 => k0_hw5.2.2.1
theorem k0_off90_inb : ∀ (v1017 : BitVec 32) (k0_hw5 : k0_chk5 v1017), ∀ a, (k0_off90 v1017) a + S1x16.size a ≤ S512x128.size a := fun v1017 k0_hw5 => k0_hw5.2.2.2.1
theorem k0_off92_inb : ∀ (v1017 : BitVec 32) (k0_hw5 : k0_chk5 v1017), ∀ a, (k0_off92 v1017) a + S1x16.size a ≤ S512x128.size a := fun v1017 k0_hw5 => k0_hw5.2.2.2.2.1
theorem k0_off94_inb : ∀ (v1017 : BitVec 32) (k0_hw5 : k0_chk5 v1017), ∀ a, (k0_off94 v1017) a + S1x16.size a ≤ S512x128.size a := fun v1017 k0_hw5 => k0_hw5.2.2.2.2.2.1
theorem k0_off96_inb : ∀ (v1017 : BitVec 32) (k0_hw5 : k0_chk5 v1017), ∀ a, (k0_off96 v1017) a + S1x16.size a ≤ S512x128.size a := fun v1017 k0_hw5 => k0_hw5.2.2.2.2.2.2.1
theorem k0_off98_inb : ∀ (v1017 : BitVec 32) (k0_hw5 : k0_chk5 v1017), ∀ a, (k0_off98 v1017) a + S1x16.size a ≤ S512x128.size a := fun v1017 k0_hw5 => k0_hw5.2.2.2.2.2.2.2

def k0_off99 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1184 : Index := Scalar.indexCast v1015
  let c0_231 : Index := 0#32
  ![v1184.toNat, 0]
def k0_off100 (v1019 : BitVec 32) : Fin 2 → Nat :=
  let v1186 : Index := Scalar.indexCast v1019
  let c0_232 : Index := 0#32
  ![v1186.toNat, 0]

def k0_off101 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1192 : Index := Scalar.indexCast v1015
  let c16_233 : Index := 16#32
  ![v1192.toNat, 16]
def k0_off102 (v1019 : BitVec 32) : Fin 2 → Nat :=
  let v1194 : Index := Scalar.indexCast v1019
  let c16_234 : Index := 16#32
  ![v1194.toNat, 16]
def k0_off103 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1200 : Index := Scalar.indexCast v1015
  let c32_235 : Index := 32#32
  ![v1200.toNat, 32]
def k0_off104 (v1019 : BitVec 32) : Fin 2 → Nat :=
  let v1202 : Index := Scalar.indexCast v1019
  let c32_236 : Index := 32#32
  ![v1202.toNat, 32]
def k0_off105 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1208 : Index := Scalar.indexCast v1015
  let c48_237 : Index := 48#32
  ![v1208.toNat, 48]
def k0_off106 (v1019 : BitVec 32) : Fin 2 → Nat :=
  let v1210 : Index := Scalar.indexCast v1019
  let c48_238 : Index := 48#32
  ![v1210.toNat, 48]
def k0_off107 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1216 : Index := Scalar.indexCast v1015
  let c64_239 : Index := 64#32
  ![v1216.toNat, 64]
def k0_off108 (v1019 : BitVec 32) : Fin 2 → Nat :=
  let v1218 : Index := Scalar.indexCast v1019
  let c64_240 : Index := 64#32
  ![v1218.toNat, 64]
def k0_off109 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1224 : Index := Scalar.indexCast v1015
  let c80_241 : Index := 80#32
  ![v1224.toNat, 80]
def k0_off110 (v1019 : BitVec 32) : Fin 2 → Nat :=
  let v1226 : Index := Scalar.indexCast v1019
  let c80_242 : Index := 80#32
  ![v1226.toNat, 80]
def k0_off111 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1232 : Index := Scalar.indexCast v1015
  let c96_243 : Index := 96#32
  ![v1232.toNat, 96]
def k0_off112 (v1019 : BitVec 32) : Fin 2 → Nat :=
  let v1234 : Index := Scalar.indexCast v1019
  let c96_244 : Index := 96#32
  ![v1234.toNat, 96]
def k0_off113 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1240 : Index := Scalar.indexCast v1015
  let c112_245 : Index := 112#32
  ![v1240.toNat, 112]
def k0_off114 (v1019 : BitVec 32) : Fin 2 → Nat :=
  let v1242 : Index := Scalar.indexCast v1019
  let c112_246 : Index := 112#32
  ![v1242.toNat, 112]

def k0_chk6 (v1019 : BitVec 32) : Prop :=
  (∀ a, (k0_off100 v1019) a + S1x16.size a ≤ S512x128.size a) ∧
  (∀ a, (k0_off102 v1019) a + S1x16.size a ≤ S512x128.size a) ∧
  (∀ a, (k0_off104 v1019) a + S1x16.size a ≤ S512x128.size a) ∧
  (∀ a, (k0_off106 v1019) a + S1x16.size a ≤ S512x128.size a) ∧
  (∀ a, (k0_off108 v1019) a + S1x16.size a ≤ S512x128.size a) ∧
  (∀ a, (k0_off110 v1019) a + S1x16.size a ≤ S512x128.size a) ∧
  (∀ a, (k0_off112 v1019) a + S1x16.size a ≤ S512x128.size a) ∧
  (∀ a, (k0_off114 v1019) a + S1x16.size a ≤ S512x128.size a)
theorem k0_off100_inb : ∀ (v1019 : BitVec 32) (k0_hw6 : k0_chk6 v1019), ∀ a, (k0_off100 v1019) a + S1x16.size a ≤ S512x128.size a := fun v1019 k0_hw6 => k0_hw6.1
theorem k0_off102_inb : ∀ (v1019 : BitVec 32) (k0_hw6 : k0_chk6 v1019), ∀ a, (k0_off102 v1019) a + S1x16.size a ≤ S512x128.size a := fun v1019 k0_hw6 => k0_hw6.2.1
theorem k0_off104_inb : ∀ (v1019 : BitVec 32) (k0_hw6 : k0_chk6 v1019), ∀ a, (k0_off104 v1019) a + S1x16.size a ≤ S512x128.size a := fun v1019 k0_hw6 => k0_hw6.2.2.1
theorem k0_off106_inb : ∀ (v1019 : BitVec 32) (k0_hw6 : k0_chk6 v1019), ∀ a, (k0_off106 v1019) a + S1x16.size a ≤ S512x128.size a := fun v1019 k0_hw6 => k0_hw6.2.2.2.1
theorem k0_off108_inb : ∀ (v1019 : BitVec 32) (k0_hw6 : k0_chk6 v1019), ∀ a, (k0_off108 v1019) a + S1x16.size a ≤ S512x128.size a := fun v1019 k0_hw6 => k0_hw6.2.2.2.2.1
theorem k0_off110_inb : ∀ (v1019 : BitVec 32) (k0_hw6 : k0_chk6 v1019), ∀ a, (k0_off110 v1019) a + S1x16.size a ≤ S512x128.size a := fun v1019 k0_hw6 => k0_hw6.2.2.2.2.2.1
theorem k0_off112_inb : ∀ (v1019 : BitVec 32) (k0_hw6 : k0_chk6 v1019), ∀ a, (k0_off112 v1019) a + S1x16.size a ≤ S512x128.size a := fun v1019 k0_hw6 => k0_hw6.2.2.2.2.2.2.1
theorem k0_off114_inb : ∀ (v1019 : BitVec 32) (k0_hw6 : k0_chk6 v1019), ∀ a, (k0_off114 v1019) a + S1x16.size a ≤ S512x128.size a := fun v1019 k0_hw6 => k0_hw6.2.2.2.2.2.2.2

def k0_off115 (k0_t1 : Fin k0_t1_loop.trips) (c4_i32_208 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v1013 : BitVec 32 := Scalar.addi v79 c4_i32_208
  let v1380 : Index := Scalar.indexCast v1013
  let c0_254 : Index := 0#32
  ![v1380.toNat, 0]
def k0_off116 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1386 : Index := Scalar.indexCast v1013
  let c16_255 : Index := 16#32
  ![v1386.toNat, 16]
def k0_off117 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1392 : Index := Scalar.indexCast v1013
  let c32_256 : Index := 32#32
  ![v1392.toNat, 32]
def k0_off118 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1398 : Index := Scalar.indexCast v1013
  let c48_257 : Index := 48#32
  ![v1398.toNat, 48]
def k0_off119 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1404 : Index := Scalar.indexCast v1013
  let c64_258 : Index := 64#32
  ![v1404.toNat, 64]
def k0_off120 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1410 : Index := Scalar.indexCast v1013
  let c80_259 : Index := 80#32
  ![v1410.toNat, 80]
def k0_off121 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1416 : Index := Scalar.indexCast v1013
  let c96_260 : Index := 96#32
  ![v1416.toNat, 96]
def k0_off122 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_208 : BitVec 32 := 4#32
  let v1013 : BitVec 32 := Scalar.addi v79 c4_i32_208
  let v1422 : Index := Scalar.indexCast v1013
  let c112_261 : Index := 112#32
  ![v1422.toNat, 112]
def k0_off123 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1434 : Index := Scalar.indexCast v1015
  let c0_262 : Index := 0#32
  ![v1434.toNat, 0]
def k0_off124 (v1482 : BitVec 32) : Fin 2 → Nat :=
  let v1489 : Index := Scalar.indexCast v1482
  let c0_275 : Index := 0#32
  ![v1489.toNat, 0]

def k0_off125 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1495 : Index := Scalar.indexCast v1478
  let c16_276 : Index := 16#32
  ![v1495.toNat, 16]
def k0_off126 (v1482 : BitVec 32) : Fin 2 → Nat :=
  let v1497 : Index := Scalar.indexCast v1482
  let c16_277 : Index := 16#32
  ![v1497.toNat, 16]
def k0_off127 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1503 : Index := Scalar.indexCast v1478
  let c32_278 : Index := 32#32
  ![v1503.toNat, 32]
def k0_off128 (v1482 : BitVec 32) : Fin 2 → Nat :=
  let v1505 : Index := Scalar.indexCast v1482
  let c32_279 : Index := 32#32
  ![v1505.toNat, 32]
def k0_off129 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1511 : Index := Scalar.indexCast v1478
  let c48_280 : Index := 48#32
  ![v1511.toNat, 48]
def k0_off130 (v1482 : BitVec 32) : Fin 2 → Nat :=
  let v1513 : Index := Scalar.indexCast v1482
  let c48_281 : Index := 48#32
  ![v1513.toNat, 48]
def k0_off131 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1519 : Index := Scalar.indexCast v1478
  let c64_282 : Index := 64#32
  ![v1519.toNat, 64]
def k0_off132 (v1482 : BitVec 32) : Fin 2 → Nat :=
  let v1521 : Index := Scalar.indexCast v1482
  let c64_283 : Index := 64#32
  ![v1521.toNat, 64]
def k0_off133 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1527 : Index := Scalar.indexCast v1478
  let c80_284 : Index := 80#32
  ![v1527.toNat, 80]
def k0_off134 (v1482 : BitVec 32) : Fin 2 → Nat :=
  let v1529 : Index := Scalar.indexCast v1482
  let c80_285 : Index := 80#32
  ![v1529.toNat, 80]
def k0_off135 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1535 : Index := Scalar.indexCast v1478
  let c96_286 : Index := 96#32
  ![v1535.toNat, 96]
def k0_off136 (v1482 : BitVec 32) : Fin 2 → Nat :=
  let v1537 : Index := Scalar.indexCast v1482
  let c96_287 : Index := 96#32
  ![v1537.toNat, 96]
def k0_off137 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1543 : Index := Scalar.indexCast v1478
  let c112_288 : Index := 112#32
  ![v1543.toNat, 112]
def k0_off138 (v1482 : BitVec 32) : Fin 2 → Nat :=
  let v1545 : Index := Scalar.indexCast v1482
  let c112_289 : Index := 112#32
  ![v1545.toNat, 112]

def k0_chk7 (v1482 : BitVec 32) : Prop :=
  (∀ a, (k0_off124 v1482) a + S1x16.size a ≤ S512x128.size a) ∧
  (∀ a, (k0_off126 v1482) a + S1x16.size a ≤ S512x128.size a) ∧
  (∀ a, (k0_off128 v1482) a + S1x16.size a ≤ S512x128.size a) ∧
  (∀ a, (k0_off130 v1482) a + S1x16.size a ≤ S512x128.size a) ∧
  (∀ a, (k0_off132 v1482) a + S1x16.size a ≤ S512x128.size a) ∧
  (∀ a, (k0_off134 v1482) a + S1x16.size a ≤ S512x128.size a) ∧
  (∀ a, (k0_off136 v1482) a + S1x16.size a ≤ S512x128.size a) ∧
  (∀ a, (k0_off138 v1482) a + S1x16.size a ≤ S512x128.size a)
theorem k0_off124_inb : ∀ (v1482 : BitVec 32) (k0_hw7 : k0_chk7 v1482), ∀ a, (k0_off124 v1482) a + S1x16.size a ≤ S512x128.size a := fun v1482 k0_hw7 => k0_hw7.1
theorem k0_off126_inb : ∀ (v1482 : BitVec 32) (k0_hw7 : k0_chk7 v1482), ∀ a, (k0_off126 v1482) a + S1x16.size a ≤ S512x128.size a := fun v1482 k0_hw7 => k0_hw7.2.1
theorem k0_off128_inb : ∀ (v1482 : BitVec 32) (k0_hw7 : k0_chk7 v1482), ∀ a, (k0_off128 v1482) a + S1x16.size a ≤ S512x128.size a := fun v1482 k0_hw7 => k0_hw7.2.2.1
theorem k0_off130_inb : ∀ (v1482 : BitVec 32) (k0_hw7 : k0_chk7 v1482), ∀ a, (k0_off130 v1482) a + S1x16.size a ≤ S512x128.size a := fun v1482 k0_hw7 => k0_hw7.2.2.2.1
theorem k0_off132_inb : ∀ (v1482 : BitVec 32) (k0_hw7 : k0_chk7 v1482), ∀ a, (k0_off132 v1482) a + S1x16.size a ≤ S512x128.size a := fun v1482 k0_hw7 => k0_hw7.2.2.2.2.1
theorem k0_off134_inb : ∀ (v1482 : BitVec 32) (k0_hw7 : k0_chk7 v1482), ∀ a, (k0_off134 v1482) a + S1x16.size a ≤ S512x128.size a := fun v1482 k0_hw7 => k0_hw7.2.2.2.2.2.1
theorem k0_off136_inb : ∀ (v1482 : BitVec 32) (k0_hw7 : k0_chk7 v1482), ∀ a, (k0_off136 v1482) a + S1x16.size a ≤ S512x128.size a := fun v1482 k0_hw7 => k0_hw7.2.2.2.2.2.2.1
theorem k0_off138_inb : ∀ (v1482 : BitVec 32) (k0_hw7 : k0_chk7 v1482), ∀ a, (k0_off138 v1482) a + S1x16.size a ≤ S512x128.size a := fun v1482 k0_hw7 => k0_hw7.2.2.2.2.2.2.2

def k0_off139 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1649 : Index := Scalar.indexCast v1480
  let c0_292 : Index := 0#32
  ![v1649.toNat, 0]
def k0_off140 (v1484 : BitVec 32) : Fin 2 → Nat :=
  let v1651 : Index := Scalar.indexCast v1484
  let c0_293 : Index := 0#32
  ![v1651.toNat, 0]

def k0_off141 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1657 : Index := Scalar.indexCast v1480
  let c16_294 : Index := 16#32
  ![v1657.toNat, 16]
def k0_off142 (v1484 : BitVec 32) : Fin 2 → Nat :=
  let v1659 : Index := Scalar.indexCast v1484
  let c16_295 : Index := 16#32
  ![v1659.toNat, 16]
def k0_off143 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1665 : Index := Scalar.indexCast v1480
  let c32_296 : Index := 32#32
  ![v1665.toNat, 32]
def k0_off144 (v1484 : BitVec 32) : Fin 2 → Nat :=
  let v1667 : Index := Scalar.indexCast v1484
  let c32_297 : Index := 32#32
  ![v1667.toNat, 32]
def k0_off145 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1673 : Index := Scalar.indexCast v1480
  let c48_298 : Index := 48#32
  ![v1673.toNat, 48]
def k0_off146 (v1484 : BitVec 32) : Fin 2 → Nat :=
  let v1675 : Index := Scalar.indexCast v1484
  let c48_299 : Index := 48#32
  ![v1675.toNat, 48]
def k0_off147 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1681 : Index := Scalar.indexCast v1480
  let c64_300 : Index := 64#32
  ![v1681.toNat, 64]
def k0_off148 (v1484 : BitVec 32) : Fin 2 → Nat :=
  let v1683 : Index := Scalar.indexCast v1484
  let c64_301 : Index := 64#32
  ![v1683.toNat, 64]
def k0_off149 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1689 : Index := Scalar.indexCast v1480
  let c80_302 : Index := 80#32
  ![v1689.toNat, 80]
def k0_off150 (v1484 : BitVec 32) : Fin 2 → Nat :=
  let v1691 : Index := Scalar.indexCast v1484
  let c80_303 : Index := 80#32
  ![v1691.toNat, 80]
def k0_off151 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1697 : Index := Scalar.indexCast v1480
  let c96_304 : Index := 96#32
  ![v1697.toNat, 96]
def k0_off152 (v1484 : BitVec 32) : Fin 2 → Nat :=
  let v1699 : Index := Scalar.indexCast v1484
  let c96_305 : Index := 96#32
  ![v1699.toNat, 96]
def k0_off153 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1705 : Index := Scalar.indexCast v1480
  let c112_306 : Index := 112#32
  ![v1705.toNat, 112]
def k0_off154 (v1484 : BitVec 32) : Fin 2 → Nat :=
  let v1707 : Index := Scalar.indexCast v1484
  let c112_307 : Index := 112#32
  ![v1707.toNat, 112]

def k0_chk8 (v1484 : BitVec 32) : Prop :=
  (∀ a, (k0_off140 v1484) a + S1x16.size a ≤ S512x128.size a) ∧
  (∀ a, (k0_off142 v1484) a + S1x16.size a ≤ S512x128.size a) ∧
  (∀ a, (k0_off144 v1484) a + S1x16.size a ≤ S512x128.size a) ∧
  (∀ a, (k0_off146 v1484) a + S1x16.size a ≤ S512x128.size a) ∧
  (∀ a, (k0_off148 v1484) a + S1x16.size a ≤ S512x128.size a) ∧
  (∀ a, (k0_off150 v1484) a + S1x16.size a ≤ S512x128.size a) ∧
  (∀ a, (k0_off152 v1484) a + S1x16.size a ≤ S512x128.size a) ∧
  (∀ a, (k0_off154 v1484) a + S1x16.size a ≤ S512x128.size a)
theorem k0_off140_inb : ∀ (v1484 : BitVec 32) (k0_hw8 : k0_chk8 v1484), ∀ a, (k0_off140 v1484) a + S1x16.size a ≤ S512x128.size a := fun v1484 k0_hw8 => k0_hw8.1
theorem k0_off142_inb : ∀ (v1484 : BitVec 32) (k0_hw8 : k0_chk8 v1484), ∀ a, (k0_off142 v1484) a + S1x16.size a ≤ S512x128.size a := fun v1484 k0_hw8 => k0_hw8.2.1
theorem k0_off144_inb : ∀ (v1484 : BitVec 32) (k0_hw8 : k0_chk8 v1484), ∀ a, (k0_off144 v1484) a + S1x16.size a ≤ S512x128.size a := fun v1484 k0_hw8 => k0_hw8.2.2.1
theorem k0_off146_inb : ∀ (v1484 : BitVec 32) (k0_hw8 : k0_chk8 v1484), ∀ a, (k0_off146 v1484) a + S1x16.size a ≤ S512x128.size a := fun v1484 k0_hw8 => k0_hw8.2.2.2.1
theorem k0_off148_inb : ∀ (v1484 : BitVec 32) (k0_hw8 : k0_chk8 v1484), ∀ a, (k0_off148 v1484) a + S1x16.size a ≤ S512x128.size a := fun v1484 k0_hw8 => k0_hw8.2.2.2.2.1
theorem k0_off150_inb : ∀ (v1484 : BitVec 32) (k0_hw8 : k0_chk8 v1484), ∀ a, (k0_off150 v1484) a + S1x16.size a ≤ S512x128.size a := fun v1484 k0_hw8 => k0_hw8.2.2.2.2.2.1
theorem k0_off152_inb : ∀ (v1484 : BitVec 32) (k0_hw8 : k0_chk8 v1484), ∀ a, (k0_off152 v1484) a + S1x16.size a ≤ S512x128.size a := fun v1484 k0_hw8 => k0_hw8.2.2.2.2.2.2.1
theorem k0_off154_inb : ∀ (v1484 : BitVec 32) (k0_hw8 : k0_chk8 v1484), ∀ a, (k0_off154 v1484) a + S1x16.size a ≤ S512x128.size a := fun v1484 k0_hw8 => k0_hw8.2.2.2.2.2.2.2

def k0_off155 (k0_t1 : Fin k0_t1_loop.trips) (c6_i32 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v1478 : BitVec 32 := Scalar.addi v79 c6_i32
  let v1845 : Index := Scalar.indexCast v1478
  let c0_315 : Index := 0#32
  ![v1845.toNat, 0]
def k0_off156 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1851 : Index := Scalar.indexCast v1478
  let c16_316 : Index := 16#32
  ![v1851.toNat, 16]
def k0_off157 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1857 : Index := Scalar.indexCast v1478
  let c32_317 : Index := 32#32
  ![v1857.toNat, 32]
def k0_off158 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1863 : Index := Scalar.indexCast v1478
  let c48_318 : Index := 48#32
  ![v1863.toNat, 48]
def k0_off159 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1869 : Index := Scalar.indexCast v1478
  let c64_319 : Index := 64#32
  ![v1869.toNat, 64]
def k0_off160 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1875 : Index := Scalar.indexCast v1478
  let c80_320 : Index := 80#32
  ![v1875.toNat, 80]
def k0_off161 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1881 : Index := Scalar.indexCast v1478
  let c96_321 : Index := 96#32
  ![v1881.toNat, 96]
def k0_off162 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32 : BitVec 32 := 6#32
  let v1478 : BitVec 32 := Scalar.addi v79 c6_i32
  let v1887 : Index := Scalar.indexCast v1478
  let c112_322 : Index := 112#32
  ![v1887.toNat, 112]
def k0_off163 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1899 : Index := Scalar.indexCast v1480
  let c0_323 : Index := 0#32
  ![v1899.toNat, 0]
def k0_off164 (v1947 : BitVec 32) : Fin 2 → Nat :=
  let v1954 : Index := Scalar.indexCast v1947
  let c0_337 : Index := 0#32
  ![v1954.toNat, 0]

def k0_off165 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v1960 : Index := Scalar.indexCast v1943
  let c16_338 : Index := 16#32
  ![v1960.toNat, 16]
def k0_off166 (v1947 : BitVec 32) : Fin 2 → Nat :=
  let v1962 : Index := Scalar.indexCast v1947
  let c16_339 : Index := 16#32
  ![v1962.toNat, 16]
def k0_off167 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v1968 : Index := Scalar.indexCast v1943
  let c32_340 : Index := 32#32
  ![v1968.toNat, 32]
def k0_off168 (v1947 : BitVec 32) : Fin 2 → Nat :=
  let v1970 : Index := Scalar.indexCast v1947
  let c32_341 : Index := 32#32
  ![v1970.toNat, 32]
def k0_off169 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v1976 : Index := Scalar.indexCast v1943
  let c48_342 : Index := 48#32
  ![v1976.toNat, 48]
def k0_off170 (v1947 : BitVec 32) : Fin 2 → Nat :=
  let v1978 : Index := Scalar.indexCast v1947
  let c48_343 : Index := 48#32
  ![v1978.toNat, 48]
def k0_off171 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v1984 : Index := Scalar.indexCast v1943
  let c64_344 : Index := 64#32
  ![v1984.toNat, 64]
def k0_off172 (v1947 : BitVec 32) : Fin 2 → Nat :=
  let v1986 : Index := Scalar.indexCast v1947
  let c64_345 : Index := 64#32
  ![v1986.toNat, 64]
def k0_off173 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v1992 : Index := Scalar.indexCast v1943
  let c80_346 : Index := 80#32
  ![v1992.toNat, 80]
def k0_off174 (v1947 : BitVec 32) : Fin 2 → Nat :=
  let v1994 : Index := Scalar.indexCast v1947
  let c80_347 : Index := 80#32
  ![v1994.toNat, 80]
def k0_off175 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2000 : Index := Scalar.indexCast v1943
  let c96_348 : Index := 96#32
  ![v2000.toNat, 96]
def k0_off176 (v1947 : BitVec 32) : Fin 2 → Nat :=
  let v2002 : Index := Scalar.indexCast v1947
  let c96_349 : Index := 96#32
  ![v2002.toNat, 96]
def k0_off177 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2008 : Index := Scalar.indexCast v1943
  let c112_350 : Index := 112#32
  ![v2008.toNat, 112]
def k0_off178 (v1947 : BitVec 32) : Fin 2 → Nat :=
  let v2010 : Index := Scalar.indexCast v1947
  let c112_351 : Index := 112#32
  ![v2010.toNat, 112]

def k0_chk9 (v1947 : BitVec 32) : Prop :=
  (∀ a, (k0_off164 v1947) a + S1x16.size a ≤ S512x128.size a) ∧
  (∀ a, (k0_off166 v1947) a + S1x16.size a ≤ S512x128.size a) ∧
  (∀ a, (k0_off168 v1947) a + S1x16.size a ≤ S512x128.size a) ∧
  (∀ a, (k0_off170 v1947) a + S1x16.size a ≤ S512x128.size a) ∧
  (∀ a, (k0_off172 v1947) a + S1x16.size a ≤ S512x128.size a) ∧
  (∀ a, (k0_off174 v1947) a + S1x16.size a ≤ S512x128.size a) ∧
  (∀ a, (k0_off176 v1947) a + S1x16.size a ≤ S512x128.size a) ∧
  (∀ a, (k0_off178 v1947) a + S1x16.size a ≤ S512x128.size a)
theorem k0_off164_inb : ∀ (v1947 : BitVec 32) (k0_hw9 : k0_chk9 v1947), ∀ a, (k0_off164 v1947) a + S1x16.size a ≤ S512x128.size a := fun v1947 k0_hw9 => k0_hw9.1
theorem k0_off166_inb : ∀ (v1947 : BitVec 32) (k0_hw9 : k0_chk9 v1947), ∀ a, (k0_off166 v1947) a + S1x16.size a ≤ S512x128.size a := fun v1947 k0_hw9 => k0_hw9.2.1
theorem k0_off168_inb : ∀ (v1947 : BitVec 32) (k0_hw9 : k0_chk9 v1947), ∀ a, (k0_off168 v1947) a + S1x16.size a ≤ S512x128.size a := fun v1947 k0_hw9 => k0_hw9.2.2.1
theorem k0_off170_inb : ∀ (v1947 : BitVec 32) (k0_hw9 : k0_chk9 v1947), ∀ a, (k0_off170 v1947) a + S1x16.size a ≤ S512x128.size a := fun v1947 k0_hw9 => k0_hw9.2.2.2.1
theorem k0_off172_inb : ∀ (v1947 : BitVec 32) (k0_hw9 : k0_chk9 v1947), ∀ a, (k0_off172 v1947) a + S1x16.size a ≤ S512x128.size a := fun v1947 k0_hw9 => k0_hw9.2.2.2.2.1
theorem k0_off174_inb : ∀ (v1947 : BitVec 32) (k0_hw9 : k0_chk9 v1947), ∀ a, (k0_off174 v1947) a + S1x16.size a ≤ S512x128.size a := fun v1947 k0_hw9 => k0_hw9.2.2.2.2.2.1
theorem k0_off176_inb : ∀ (v1947 : BitVec 32) (k0_hw9 : k0_chk9 v1947), ∀ a, (k0_off176 v1947) a + S1x16.size a ≤ S512x128.size a := fun v1947 k0_hw9 => k0_hw9.2.2.2.2.2.2.1
theorem k0_off178_inb : ∀ (v1947 : BitVec 32) (k0_hw9 : k0_chk9 v1947), ∀ a, (k0_off178 v1947) a + S1x16.size a ≤ S512x128.size a := fun v1947 k0_hw9 => k0_hw9.2.2.2.2.2.2.2

def k0_off179 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2114 : Index := Scalar.indexCast v1945
  let c0_354 : Index := 0#32
  ![v2114.toNat, 0]
def k0_off180 (v1949 : BitVec 32) : Fin 2 → Nat :=
  let v2116 : Index := Scalar.indexCast v1949
  let c0_355 : Index := 0#32
  ![v2116.toNat, 0]

def k0_off181 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2122 : Index := Scalar.indexCast v1945
  let c16_356 : Index := 16#32
  ![v2122.toNat, 16]
def k0_off182 (v1949 : BitVec 32) : Fin 2 → Nat :=
  let v2124 : Index := Scalar.indexCast v1949
  let c16_357 : Index := 16#32
  ![v2124.toNat, 16]
def k0_off183 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2130 : Index := Scalar.indexCast v1945
  let c32_358 : Index := 32#32
  ![v2130.toNat, 32]
def k0_off184 (v1949 : BitVec 32) : Fin 2 → Nat :=
  let v2132 : Index := Scalar.indexCast v1949
  let c32_359 : Index := 32#32
  ![v2132.toNat, 32]
def k0_off185 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2138 : Index := Scalar.indexCast v1945
  let c48_360 : Index := 48#32
  ![v2138.toNat, 48]
def k0_off186 (v1949 : BitVec 32) : Fin 2 → Nat :=
  let v2140 : Index := Scalar.indexCast v1949
  let c48_361 : Index := 48#32
  ![v2140.toNat, 48]
def k0_off187 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2146 : Index := Scalar.indexCast v1945
  let c64_362 : Index := 64#32
  ![v2146.toNat, 64]
def k0_off188 (v1949 : BitVec 32) : Fin 2 → Nat :=
  let v2148 : Index := Scalar.indexCast v1949
  let c64_363 : Index := 64#32
  ![v2148.toNat, 64]
def k0_off189 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2154 : Index := Scalar.indexCast v1945
  let c80_364 : Index := 80#32
  ![v2154.toNat, 80]
def k0_off190 (v1949 : BitVec 32) : Fin 2 → Nat :=
  let v2156 : Index := Scalar.indexCast v1949
  let c80_365 : Index := 80#32
  ![v2156.toNat, 80]
def k0_off191 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2162 : Index := Scalar.indexCast v1945
  let c96_366 : Index := 96#32
  ![v2162.toNat, 96]
def k0_off192 (v1949 : BitVec 32) : Fin 2 → Nat :=
  let v2164 : Index := Scalar.indexCast v1949
  let c96_367 : Index := 96#32
  ![v2164.toNat, 96]
def k0_off193 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2170 : Index := Scalar.indexCast v1945
  let c112_368 : Index := 112#32
  ![v2170.toNat, 112]
def k0_off194 (v1949 : BitVec 32) : Fin 2 → Nat :=
  let v2172 : Index := Scalar.indexCast v1949
  let c112_369 : Index := 112#32
  ![v2172.toNat, 112]

def k0_chk10 (v1949 : BitVec 32) : Prop :=
  (∀ a, (k0_off180 v1949) a + S1x16.size a ≤ S512x128.size a) ∧
  (∀ a, (k0_off182 v1949) a + S1x16.size a ≤ S512x128.size a) ∧
  (∀ a, (k0_off184 v1949) a + S1x16.size a ≤ S512x128.size a) ∧
  (∀ a, (k0_off186 v1949) a + S1x16.size a ≤ S512x128.size a) ∧
  (∀ a, (k0_off188 v1949) a + S1x16.size a ≤ S512x128.size a) ∧
  (∀ a, (k0_off190 v1949) a + S1x16.size a ≤ S512x128.size a) ∧
  (∀ a, (k0_off192 v1949) a + S1x16.size a ≤ S512x128.size a) ∧
  (∀ a, (k0_off194 v1949) a + S1x16.size a ≤ S512x128.size a)
theorem k0_off180_inb : ∀ (v1949 : BitVec 32) (k0_hw10 : k0_chk10 v1949), ∀ a, (k0_off180 v1949) a + S1x16.size a ≤ S512x128.size a := fun v1949 k0_hw10 => k0_hw10.1
theorem k0_off182_inb : ∀ (v1949 : BitVec 32) (k0_hw10 : k0_chk10 v1949), ∀ a, (k0_off182 v1949) a + S1x16.size a ≤ S512x128.size a := fun v1949 k0_hw10 => k0_hw10.2.1
theorem k0_off184_inb : ∀ (v1949 : BitVec 32) (k0_hw10 : k0_chk10 v1949), ∀ a, (k0_off184 v1949) a + S1x16.size a ≤ S512x128.size a := fun v1949 k0_hw10 => k0_hw10.2.2.1
theorem k0_off186_inb : ∀ (v1949 : BitVec 32) (k0_hw10 : k0_chk10 v1949), ∀ a, (k0_off186 v1949) a + S1x16.size a ≤ S512x128.size a := fun v1949 k0_hw10 => k0_hw10.2.2.2.1
theorem k0_off188_inb : ∀ (v1949 : BitVec 32) (k0_hw10 : k0_chk10 v1949), ∀ a, (k0_off188 v1949) a + S1x16.size a ≤ S512x128.size a := fun v1949 k0_hw10 => k0_hw10.2.2.2.2.1
theorem k0_off190_inb : ∀ (v1949 : BitVec 32) (k0_hw10 : k0_chk10 v1949), ∀ a, (k0_off190 v1949) a + S1x16.size a ≤ S512x128.size a := fun v1949 k0_hw10 => k0_hw10.2.2.2.2.2.1
theorem k0_off192_inb : ∀ (v1949 : BitVec 32) (k0_hw10 : k0_chk10 v1949), ∀ a, (k0_off192 v1949) a + S1x16.size a ≤ S512x128.size a := fun v1949 k0_hw10 => k0_hw10.2.2.2.2.2.2.1
theorem k0_off194_inb : ∀ (v1949 : BitVec 32) (k0_hw10 : k0_chk10 v1949), ∀ a, (k0_off194 v1949) a + S1x16.size a ≤ S512x128.size a := fun v1949 k0_hw10 => k0_hw10.2.2.2.2.2.2.2

def k0_off195 (k0_t1 : Fin k0_t1_loop.trips) (c8_i32_331 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v1943 : BitVec 32 := Scalar.addi v79 c8_i32_331
  let v2310 : Index := Scalar.indexCast v1943
  let c0_377 : Index := 0#32
  ![v2310.toNat, 0]
def k0_off196 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2316 : Index := Scalar.indexCast v1943
  let c16_378 : Index := 16#32
  ![v2316.toNat, 16]
def k0_off197 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2322 : Index := Scalar.indexCast v1943
  let c32_379 : Index := 32#32
  ![v2322.toNat, 32]
def k0_off198 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2328 : Index := Scalar.indexCast v1943
  let c48_380 : Index := 48#32
  ![v2328.toNat, 48]
def k0_off199 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2334 : Index := Scalar.indexCast v1943
  let c64_381 : Index := 64#32
  ![v2334.toNat, 64]
def k0_off200 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2340 : Index := Scalar.indexCast v1943
  let c80_382 : Index := 80#32
  ![v2340.toNat, 80]
def k0_off201 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2346 : Index := Scalar.indexCast v1943
  let c96_383 : Index := 96#32
  ![v2346.toNat, 96]
def k0_off202 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_331 : BitVec 32 := 8#32
  let v1943 : BitVec 32 := Scalar.addi v79 c8_i32_331
  let v2352 : Index := Scalar.indexCast v1943
  let c112_384 : Index := 112#32
  ![v2352.toNat, 112]
def k0_off203 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2364 : Index := Scalar.indexCast v1945
  let c0_385 : Index := 0#32
  ![v2364.toNat, 0]
def k0_off204 (v2412 : BitVec 32) : Fin 2 → Nat :=
  let v2419 : Index := Scalar.indexCast v2412
  let c0_398 : Index := 0#32
  ![v2419.toNat, 0]

def k0_off205 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2425 : Index := Scalar.indexCast v2408
  let c16_399 : Index := 16#32
  ![v2425.toNat, 16]
def k0_off206 (v2412 : BitVec 32) : Fin 2 → Nat :=
  let v2427 : Index := Scalar.indexCast v2412
  let c16_400 : Index := 16#32
  ![v2427.toNat, 16]
def k0_off207 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2433 : Index := Scalar.indexCast v2408
  let c32_401 : Index := 32#32
  ![v2433.toNat, 32]
def k0_off208 (v2412 : BitVec 32) : Fin 2 → Nat :=
  let v2435 : Index := Scalar.indexCast v2412
  let c32_402 : Index := 32#32
  ![v2435.toNat, 32]
def k0_off209 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2441 : Index := Scalar.indexCast v2408
  let c48_403 : Index := 48#32
  ![v2441.toNat, 48]
def k0_off210 (v2412 : BitVec 32) : Fin 2 → Nat :=
  let v2443 : Index := Scalar.indexCast v2412
  let c48_404 : Index := 48#32
  ![v2443.toNat, 48]
def k0_off211 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2449 : Index := Scalar.indexCast v2408
  let c64_405 : Index := 64#32
  ![v2449.toNat, 64]
def k0_off212 (v2412 : BitVec 32) : Fin 2 → Nat :=
  let v2451 : Index := Scalar.indexCast v2412
  let c64_406 : Index := 64#32
  ![v2451.toNat, 64]
def k0_off213 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2457 : Index := Scalar.indexCast v2408
  let c80_407 : Index := 80#32
  ![v2457.toNat, 80]
def k0_off214 (v2412 : BitVec 32) : Fin 2 → Nat :=
  let v2459 : Index := Scalar.indexCast v2412
  let c80_408 : Index := 80#32
  ![v2459.toNat, 80]
def k0_off215 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2465 : Index := Scalar.indexCast v2408
  let c96_409 : Index := 96#32
  ![v2465.toNat, 96]
def k0_off216 (v2412 : BitVec 32) : Fin 2 → Nat :=
  let v2467 : Index := Scalar.indexCast v2412
  let c96_410 : Index := 96#32
  ![v2467.toNat, 96]
def k0_off217 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2473 : Index := Scalar.indexCast v2408
  let c112_411 : Index := 112#32
  ![v2473.toNat, 112]
def k0_off218 (v2412 : BitVec 32) : Fin 2 → Nat :=
  let v2475 : Index := Scalar.indexCast v2412
  let c112_412 : Index := 112#32
  ![v2475.toNat, 112]

def k0_chk11 (v2412 : BitVec 32) : Prop :=
  (∀ a, (k0_off204 v2412) a + S1x16.size a ≤ S512x128.size a) ∧
  (∀ a, (k0_off206 v2412) a + S1x16.size a ≤ S512x128.size a) ∧
  (∀ a, (k0_off208 v2412) a + S1x16.size a ≤ S512x128.size a) ∧
  (∀ a, (k0_off210 v2412) a + S1x16.size a ≤ S512x128.size a) ∧
  (∀ a, (k0_off212 v2412) a + S1x16.size a ≤ S512x128.size a) ∧
  (∀ a, (k0_off214 v2412) a + S1x16.size a ≤ S512x128.size a) ∧
  (∀ a, (k0_off216 v2412) a + S1x16.size a ≤ S512x128.size a) ∧
  (∀ a, (k0_off218 v2412) a + S1x16.size a ≤ S512x128.size a)
theorem k0_off204_inb : ∀ (v2412 : BitVec 32) (k0_hw11 : k0_chk11 v2412), ∀ a, (k0_off204 v2412) a + S1x16.size a ≤ S512x128.size a := fun v2412 k0_hw11 => k0_hw11.1
theorem k0_off206_inb : ∀ (v2412 : BitVec 32) (k0_hw11 : k0_chk11 v2412), ∀ a, (k0_off206 v2412) a + S1x16.size a ≤ S512x128.size a := fun v2412 k0_hw11 => k0_hw11.2.1
theorem k0_off208_inb : ∀ (v2412 : BitVec 32) (k0_hw11 : k0_chk11 v2412), ∀ a, (k0_off208 v2412) a + S1x16.size a ≤ S512x128.size a := fun v2412 k0_hw11 => k0_hw11.2.2.1
theorem k0_off210_inb : ∀ (v2412 : BitVec 32) (k0_hw11 : k0_chk11 v2412), ∀ a, (k0_off210 v2412) a + S1x16.size a ≤ S512x128.size a := fun v2412 k0_hw11 => k0_hw11.2.2.2.1
theorem k0_off212_inb : ∀ (v2412 : BitVec 32) (k0_hw11 : k0_chk11 v2412), ∀ a, (k0_off212 v2412) a + S1x16.size a ≤ S512x128.size a := fun v2412 k0_hw11 => k0_hw11.2.2.2.2.1
theorem k0_off214_inb : ∀ (v2412 : BitVec 32) (k0_hw11 : k0_chk11 v2412), ∀ a, (k0_off214 v2412) a + S1x16.size a ≤ S512x128.size a := fun v2412 k0_hw11 => k0_hw11.2.2.2.2.2.1
theorem k0_off216_inb : ∀ (v2412 : BitVec 32) (k0_hw11 : k0_chk11 v2412), ∀ a, (k0_off216 v2412) a + S1x16.size a ≤ S512x128.size a := fun v2412 k0_hw11 => k0_hw11.2.2.2.2.2.2.1
theorem k0_off218_inb : ∀ (v2412 : BitVec 32) (k0_hw11 : k0_chk11 v2412), ∀ a, (k0_off218 v2412) a + S1x16.size a ≤ S512x128.size a := fun v2412 k0_hw11 => k0_hw11.2.2.2.2.2.2.2

def k0_off219 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2579 : Index := Scalar.indexCast v2410
  let c0_415 : Index := 0#32
  ![v2579.toNat, 0]
def k0_off220 (v2414 : BitVec 32) : Fin 2 → Nat :=
  let v2581 : Index := Scalar.indexCast v2414
  let c0_416 : Index := 0#32
  ![v2581.toNat, 0]

def k0_off221 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2587 : Index := Scalar.indexCast v2410
  let c16_417 : Index := 16#32
  ![v2587.toNat, 16]
def k0_off222 (v2414 : BitVec 32) : Fin 2 → Nat :=
  let v2589 : Index := Scalar.indexCast v2414
  let c16_418 : Index := 16#32
  ![v2589.toNat, 16]
def k0_off223 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2595 : Index := Scalar.indexCast v2410
  let c32_419 : Index := 32#32
  ![v2595.toNat, 32]
def k0_off224 (v2414 : BitVec 32) : Fin 2 → Nat :=
  let v2597 : Index := Scalar.indexCast v2414
  let c32_420 : Index := 32#32
  ![v2597.toNat, 32]
def k0_off225 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2603 : Index := Scalar.indexCast v2410
  let c48_421 : Index := 48#32
  ![v2603.toNat, 48]
def k0_off226 (v2414 : BitVec 32) : Fin 2 → Nat :=
  let v2605 : Index := Scalar.indexCast v2414
  let c48_422 : Index := 48#32
  ![v2605.toNat, 48]
def k0_off227 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2611 : Index := Scalar.indexCast v2410
  let c64_423 : Index := 64#32
  ![v2611.toNat, 64]
def k0_off228 (v2414 : BitVec 32) : Fin 2 → Nat :=
  let v2613 : Index := Scalar.indexCast v2414
  let c64_424 : Index := 64#32
  ![v2613.toNat, 64]
def k0_off229 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2619 : Index := Scalar.indexCast v2410
  let c80_425 : Index := 80#32
  ![v2619.toNat, 80]
def k0_off230 (v2414 : BitVec 32) : Fin 2 → Nat :=
  let v2621 : Index := Scalar.indexCast v2414
  let c80_426 : Index := 80#32
  ![v2621.toNat, 80]
def k0_off231 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2627 : Index := Scalar.indexCast v2410
  let c96_427 : Index := 96#32
  ![v2627.toNat, 96]
def k0_off232 (v2414 : BitVec 32) : Fin 2 → Nat :=
  let v2629 : Index := Scalar.indexCast v2414
  let c96_428 : Index := 96#32
  ![v2629.toNat, 96]
def k0_off233 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2635 : Index := Scalar.indexCast v2410
  let c112_429 : Index := 112#32
  ![v2635.toNat, 112]
def k0_off234 (v2414 : BitVec 32) : Fin 2 → Nat :=
  let v2637 : Index := Scalar.indexCast v2414
  let c112_430 : Index := 112#32
  ![v2637.toNat, 112]

def k0_chk12 (v2414 : BitVec 32) : Prop :=
  (∀ a, (k0_off220 v2414) a + S1x16.size a ≤ S512x128.size a) ∧
  (∀ a, (k0_off222 v2414) a + S1x16.size a ≤ S512x128.size a) ∧
  (∀ a, (k0_off224 v2414) a + S1x16.size a ≤ S512x128.size a) ∧
  (∀ a, (k0_off226 v2414) a + S1x16.size a ≤ S512x128.size a) ∧
  (∀ a, (k0_off228 v2414) a + S1x16.size a ≤ S512x128.size a) ∧
  (∀ a, (k0_off230 v2414) a + S1x16.size a ≤ S512x128.size a) ∧
  (∀ a, (k0_off232 v2414) a + S1x16.size a ≤ S512x128.size a) ∧
  (∀ a, (k0_off234 v2414) a + S1x16.size a ≤ S512x128.size a)
theorem k0_off220_inb : ∀ (v2414 : BitVec 32) (k0_hw12 : k0_chk12 v2414), ∀ a, (k0_off220 v2414) a + S1x16.size a ≤ S512x128.size a := fun v2414 k0_hw12 => k0_hw12.1
theorem k0_off222_inb : ∀ (v2414 : BitVec 32) (k0_hw12 : k0_chk12 v2414), ∀ a, (k0_off222 v2414) a + S1x16.size a ≤ S512x128.size a := fun v2414 k0_hw12 => k0_hw12.2.1
theorem k0_off224_inb : ∀ (v2414 : BitVec 32) (k0_hw12 : k0_chk12 v2414), ∀ a, (k0_off224 v2414) a + S1x16.size a ≤ S512x128.size a := fun v2414 k0_hw12 => k0_hw12.2.2.1
theorem k0_off226_inb : ∀ (v2414 : BitVec 32) (k0_hw12 : k0_chk12 v2414), ∀ a, (k0_off226 v2414) a + S1x16.size a ≤ S512x128.size a := fun v2414 k0_hw12 => k0_hw12.2.2.2.1
theorem k0_off228_inb : ∀ (v2414 : BitVec 32) (k0_hw12 : k0_chk12 v2414), ∀ a, (k0_off228 v2414) a + S1x16.size a ≤ S512x128.size a := fun v2414 k0_hw12 => k0_hw12.2.2.2.2.1
theorem k0_off230_inb : ∀ (v2414 : BitVec 32) (k0_hw12 : k0_chk12 v2414), ∀ a, (k0_off230 v2414) a + S1x16.size a ≤ S512x128.size a := fun v2414 k0_hw12 => k0_hw12.2.2.2.2.2.1
theorem k0_off232_inb : ∀ (v2414 : BitVec 32) (k0_hw12 : k0_chk12 v2414), ∀ a, (k0_off232 v2414) a + S1x16.size a ≤ S512x128.size a := fun v2414 k0_hw12 => k0_hw12.2.2.2.2.2.2.1
theorem k0_off234_inb : ∀ (v2414 : BitVec 32) (k0_hw12 : k0_chk12 v2414), ∀ a, (k0_off234 v2414) a + S1x16.size a ≤ S512x128.size a := fun v2414 k0_hw12 => k0_hw12.2.2.2.2.2.2.2

def k0_off235 (k0_t1 : Fin k0_t1_loop.trips) (c10_i32 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v2408 : BitVec 32 := Scalar.addi v79 c10_i32
  let v2775 : Index := Scalar.indexCast v2408
  let c0_438 : Index := 0#32
  ![v2775.toNat, 0]
def k0_off236 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2781 : Index := Scalar.indexCast v2408
  let c16_439 : Index := 16#32
  ![v2781.toNat, 16]
def k0_off237 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2787 : Index := Scalar.indexCast v2408
  let c32_440 : Index := 32#32
  ![v2787.toNat, 32]
def k0_off238 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2793 : Index := Scalar.indexCast v2408
  let c48_441 : Index := 48#32
  ![v2793.toNat, 48]
def k0_off239 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2799 : Index := Scalar.indexCast v2408
  let c64_442 : Index := 64#32
  ![v2799.toNat, 64]
def k0_off240 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2805 : Index := Scalar.indexCast v2408
  let c80_443 : Index := 80#32
  ![v2805.toNat, 80]
def k0_off241 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2811 : Index := Scalar.indexCast v2408
  let c96_444 : Index := 96#32
  ![v2811.toNat, 96]
def k0_off242 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32 : BitVec 32 := 10#32
  let v2408 : BitVec 32 := Scalar.addi v79 c10_i32
  let v2817 : Index := Scalar.indexCast v2408
  let c112_445 : Index := 112#32
  ![v2817.toNat, 112]
def k0_off243 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2829 : Index := Scalar.indexCast v2410
  let c0_446 : Index := 0#32
  ![v2829.toNat, 0]
def k0_off244 (v2877 : BitVec 32) : Fin 2 → Nat :=
  let v2884 : Index := Scalar.indexCast v2877
  let c0_459 : Index := 0#32
  ![v2884.toNat, 0]

def k0_off245 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2890 : Index := Scalar.indexCast v2873
  let c16_460 : Index := 16#32
  ![v2890.toNat, 16]
def k0_off246 (v2877 : BitVec 32) : Fin 2 → Nat :=
  let v2892 : Index := Scalar.indexCast v2877
  let c16_461 : Index := 16#32
  ![v2892.toNat, 16]
def k0_off247 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2898 : Index := Scalar.indexCast v2873
  let c32_462 : Index := 32#32
  ![v2898.toNat, 32]
def k0_off248 (v2877 : BitVec 32) : Fin 2 → Nat :=
  let v2900 : Index := Scalar.indexCast v2877
  let c32_463 : Index := 32#32
  ![v2900.toNat, 32]
def k0_off249 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2906 : Index := Scalar.indexCast v2873
  let c48_464 : Index := 48#32
  ![v2906.toNat, 48]
def k0_off250 (v2877 : BitVec 32) : Fin 2 → Nat :=
  let v2908 : Index := Scalar.indexCast v2877
  let c48_465 : Index := 48#32
  ![v2908.toNat, 48]
def k0_off251 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2914 : Index := Scalar.indexCast v2873
  let c64_466 : Index := 64#32
  ![v2914.toNat, 64]
def k0_off252 (v2877 : BitVec 32) : Fin 2 → Nat :=
  let v2916 : Index := Scalar.indexCast v2877
  let c64_467 : Index := 64#32
  ![v2916.toNat, 64]
def k0_off253 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2922 : Index := Scalar.indexCast v2873
  let c80_468 : Index := 80#32
  ![v2922.toNat, 80]
def k0_off254 (v2877 : BitVec 32) : Fin 2 → Nat :=
  let v2924 : Index := Scalar.indexCast v2877
  let c80_469 : Index := 80#32
  ![v2924.toNat, 80]
def k0_off255 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2930 : Index := Scalar.indexCast v2873
  let c96_470 : Index := 96#32
  ![v2930.toNat, 96]
def k0_off256 (v2877 : BitVec 32) : Fin 2 → Nat :=
  let v2932 : Index := Scalar.indexCast v2877
  let c96_471 : Index := 96#32
  ![v2932.toNat, 96]
def k0_off257 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v2938 : Index := Scalar.indexCast v2873
  let c112_472 : Index := 112#32
  ![v2938.toNat, 112]
def k0_off258 (v2877 : BitVec 32) : Fin 2 → Nat :=
  let v2940 : Index := Scalar.indexCast v2877
  let c112_473 : Index := 112#32
  ![v2940.toNat, 112]

def k0_chk13 (v2877 : BitVec 32) : Prop :=
  (∀ a, (k0_off244 v2877) a + S1x16.size a ≤ S512x128.size a) ∧
  (∀ a, (k0_off246 v2877) a + S1x16.size a ≤ S512x128.size a) ∧
  (∀ a, (k0_off248 v2877) a + S1x16.size a ≤ S512x128.size a) ∧
  (∀ a, (k0_off250 v2877) a + S1x16.size a ≤ S512x128.size a) ∧
  (∀ a, (k0_off252 v2877) a + S1x16.size a ≤ S512x128.size a) ∧
  (∀ a, (k0_off254 v2877) a + S1x16.size a ≤ S512x128.size a) ∧
  (∀ a, (k0_off256 v2877) a + S1x16.size a ≤ S512x128.size a) ∧
  (∀ a, (k0_off258 v2877) a + S1x16.size a ≤ S512x128.size a)
theorem k0_off244_inb : ∀ (v2877 : BitVec 32) (k0_hw13 : k0_chk13 v2877), ∀ a, (k0_off244 v2877) a + S1x16.size a ≤ S512x128.size a := fun v2877 k0_hw13 => k0_hw13.1
theorem k0_off246_inb : ∀ (v2877 : BitVec 32) (k0_hw13 : k0_chk13 v2877), ∀ a, (k0_off246 v2877) a + S1x16.size a ≤ S512x128.size a := fun v2877 k0_hw13 => k0_hw13.2.1
theorem k0_off248_inb : ∀ (v2877 : BitVec 32) (k0_hw13 : k0_chk13 v2877), ∀ a, (k0_off248 v2877) a + S1x16.size a ≤ S512x128.size a := fun v2877 k0_hw13 => k0_hw13.2.2.1
theorem k0_off250_inb : ∀ (v2877 : BitVec 32) (k0_hw13 : k0_chk13 v2877), ∀ a, (k0_off250 v2877) a + S1x16.size a ≤ S512x128.size a := fun v2877 k0_hw13 => k0_hw13.2.2.2.1
theorem k0_off252_inb : ∀ (v2877 : BitVec 32) (k0_hw13 : k0_chk13 v2877), ∀ a, (k0_off252 v2877) a + S1x16.size a ≤ S512x128.size a := fun v2877 k0_hw13 => k0_hw13.2.2.2.2.1
theorem k0_off254_inb : ∀ (v2877 : BitVec 32) (k0_hw13 : k0_chk13 v2877), ∀ a, (k0_off254 v2877) a + S1x16.size a ≤ S512x128.size a := fun v2877 k0_hw13 => k0_hw13.2.2.2.2.2.1
theorem k0_off256_inb : ∀ (v2877 : BitVec 32) (k0_hw13 : k0_chk13 v2877), ∀ a, (k0_off256 v2877) a + S1x16.size a ≤ S512x128.size a := fun v2877 k0_hw13 => k0_hw13.2.2.2.2.2.2.1
theorem k0_off258_inb : ∀ (v2877 : BitVec 32) (k0_hw13 : k0_chk13 v2877), ∀ a, (k0_off258 v2877) a + S1x16.size a ≤ S512x128.size a := fun v2877 k0_hw13 => k0_hw13.2.2.2.2.2.2.2

def k0_off259 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3044 : Index := Scalar.indexCast v2875
  let c0_476 : Index := 0#32
  ![v3044.toNat, 0]
def k0_off260 (v2879 : BitVec 32) : Fin 2 → Nat :=
  let v3046 : Index := Scalar.indexCast v2879
  let c0_477 : Index := 0#32
  ![v3046.toNat, 0]

def k0_off261 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3052 : Index := Scalar.indexCast v2875
  let c16_478 : Index := 16#32
  ![v3052.toNat, 16]
def k0_off262 (v2879 : BitVec 32) : Fin 2 → Nat :=
  let v3054 : Index := Scalar.indexCast v2879
  let c16_479 : Index := 16#32
  ![v3054.toNat, 16]
def k0_off263 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3060 : Index := Scalar.indexCast v2875
  let c32_480 : Index := 32#32
  ![v3060.toNat, 32]
def k0_off264 (v2879 : BitVec 32) : Fin 2 → Nat :=
  let v3062 : Index := Scalar.indexCast v2879
  let c32_481 : Index := 32#32
  ![v3062.toNat, 32]
def k0_off265 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3068 : Index := Scalar.indexCast v2875
  let c48_482 : Index := 48#32
  ![v3068.toNat, 48]
def k0_off266 (v2879 : BitVec 32) : Fin 2 → Nat :=
  let v3070 : Index := Scalar.indexCast v2879
  let c48_483 : Index := 48#32
  ![v3070.toNat, 48]
def k0_off267 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3076 : Index := Scalar.indexCast v2875
  let c64_484 : Index := 64#32
  ![v3076.toNat, 64]
def k0_off268 (v2879 : BitVec 32) : Fin 2 → Nat :=
  let v3078 : Index := Scalar.indexCast v2879
  let c64_485 : Index := 64#32
  ![v3078.toNat, 64]
def k0_off269 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3084 : Index := Scalar.indexCast v2875
  let c80_486 : Index := 80#32
  ![v3084.toNat, 80]
def k0_off270 (v2879 : BitVec 32) : Fin 2 → Nat :=
  let v3086 : Index := Scalar.indexCast v2879
  let c80_487 : Index := 80#32
  ![v3086.toNat, 80]
def k0_off271 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3092 : Index := Scalar.indexCast v2875
  let c96_488 : Index := 96#32
  ![v3092.toNat, 96]
def k0_off272 (v2879 : BitVec 32) : Fin 2 → Nat :=
  let v3094 : Index := Scalar.indexCast v2879
  let c96_489 : Index := 96#32
  ![v3094.toNat, 96]
def k0_off273 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3100 : Index := Scalar.indexCast v2875
  let c112_490 : Index := 112#32
  ![v3100.toNat, 112]
def k0_off274 (v2879 : BitVec 32) : Fin 2 → Nat :=
  let v3102 : Index := Scalar.indexCast v2879
  let c112_491 : Index := 112#32
  ![v3102.toNat, 112]

def k0_chk14 (v2879 : BitVec 32) : Prop :=
  (∀ a, (k0_off260 v2879) a + S1x16.size a ≤ S512x128.size a) ∧
  (∀ a, (k0_off262 v2879) a + S1x16.size a ≤ S512x128.size a) ∧
  (∀ a, (k0_off264 v2879) a + S1x16.size a ≤ S512x128.size a) ∧
  (∀ a, (k0_off266 v2879) a + S1x16.size a ≤ S512x128.size a) ∧
  (∀ a, (k0_off268 v2879) a + S1x16.size a ≤ S512x128.size a) ∧
  (∀ a, (k0_off270 v2879) a + S1x16.size a ≤ S512x128.size a) ∧
  (∀ a, (k0_off272 v2879) a + S1x16.size a ≤ S512x128.size a) ∧
  (∀ a, (k0_off274 v2879) a + S1x16.size a ≤ S512x128.size a)
theorem k0_off260_inb : ∀ (v2879 : BitVec 32) (k0_hw14 : k0_chk14 v2879), ∀ a, (k0_off260 v2879) a + S1x16.size a ≤ S512x128.size a := fun v2879 k0_hw14 => k0_hw14.1
theorem k0_off262_inb : ∀ (v2879 : BitVec 32) (k0_hw14 : k0_chk14 v2879), ∀ a, (k0_off262 v2879) a + S1x16.size a ≤ S512x128.size a := fun v2879 k0_hw14 => k0_hw14.2.1
theorem k0_off264_inb : ∀ (v2879 : BitVec 32) (k0_hw14 : k0_chk14 v2879), ∀ a, (k0_off264 v2879) a + S1x16.size a ≤ S512x128.size a := fun v2879 k0_hw14 => k0_hw14.2.2.1
theorem k0_off266_inb : ∀ (v2879 : BitVec 32) (k0_hw14 : k0_chk14 v2879), ∀ a, (k0_off266 v2879) a + S1x16.size a ≤ S512x128.size a := fun v2879 k0_hw14 => k0_hw14.2.2.2.1
theorem k0_off268_inb : ∀ (v2879 : BitVec 32) (k0_hw14 : k0_chk14 v2879), ∀ a, (k0_off268 v2879) a + S1x16.size a ≤ S512x128.size a := fun v2879 k0_hw14 => k0_hw14.2.2.2.2.1
theorem k0_off270_inb : ∀ (v2879 : BitVec 32) (k0_hw14 : k0_chk14 v2879), ∀ a, (k0_off270 v2879) a + S1x16.size a ≤ S512x128.size a := fun v2879 k0_hw14 => k0_hw14.2.2.2.2.2.1
theorem k0_off272_inb : ∀ (v2879 : BitVec 32) (k0_hw14 : k0_chk14 v2879), ∀ a, (k0_off272 v2879) a + S1x16.size a ≤ S512x128.size a := fun v2879 k0_hw14 => k0_hw14.2.2.2.2.2.2.1
theorem k0_off274_inb : ∀ (v2879 : BitVec 32) (k0_hw14 : k0_chk14 v2879), ∀ a, (k0_off274 v2879) a + S1x16.size a ≤ S512x128.size a := fun v2879 k0_hw14 => k0_hw14.2.2.2.2.2.2.2

def k0_off275 (k0_t1 : Fin k0_t1_loop.trips) (c12_i32 : BitVec 32) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let v2873 : BitVec 32 := Scalar.addi v79 c12_i32
  let v3240 : Index := Scalar.indexCast v2873
  let c0_499 : Index := 0#32
  ![v3240.toNat, 0]
def k0_off276 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3246 : Index := Scalar.indexCast v2873
  let c16_500 : Index := 16#32
  ![v3246.toNat, 16]
def k0_off277 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3252 : Index := Scalar.indexCast v2873
  let c32_501 : Index := 32#32
  ![v3252.toNat, 32]
def k0_off278 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3258 : Index := Scalar.indexCast v2873
  let c48_502 : Index := 48#32
  ![v3258.toNat, 48]
def k0_off279 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3264 : Index := Scalar.indexCast v2873
  let c64_503 : Index := 64#32
  ![v3264.toNat, 64]
def k0_off280 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3270 : Index := Scalar.indexCast v2873
  let c80_504 : Index := 80#32
  ![v3270.toNat, 80]
def k0_off281 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3276 : Index := Scalar.indexCast v2873
  let c96_505 : Index := 96#32
  ![v3276.toNat, 96]
def k0_off282 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32 : BitVec 32 := 12#32
  let v2873 : BitVec 32 := Scalar.addi v79 c12_i32
  let v3282 : Index := Scalar.indexCast v2873
  let c112_506 : Index := 112#32
  ![v3282.toNat, 112]
def k0_off283 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3294 : Index := Scalar.indexCast v2875
  let c0_507 : Index := 0#32
  ![v3294.toNat, 0]
def k0_off284 (v3342 : BitVec 32) : Fin 2 → Nat :=
  let v3349 : Index := Scalar.indexCast v3342
  let c0_520 : Index := 0#32
  ![v3349.toNat, 0]

def k0_off285 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3355 : Index := Scalar.indexCast v3338
  let c16_521 : Index := 16#32
  ![v3355.toNat, 16]
def k0_off286 (v3342 : BitVec 32) : Fin 2 → Nat :=
  let v3357 : Index := Scalar.indexCast v3342
  let c16_522 : Index := 16#32
  ![v3357.toNat, 16]
def k0_off287 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3363 : Index := Scalar.indexCast v3338
  let c32_523 : Index := 32#32
  ![v3363.toNat, 32]
def k0_off288 (v3342 : BitVec 32) : Fin 2 → Nat :=
  let v3365 : Index := Scalar.indexCast v3342
  let c32_524 : Index := 32#32
  ![v3365.toNat, 32]
def k0_off289 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3371 : Index := Scalar.indexCast v3338
  let c48_525 : Index := 48#32
  ![v3371.toNat, 48]
def k0_off290 (v3342 : BitVec 32) : Fin 2 → Nat :=
  let v3373 : Index := Scalar.indexCast v3342
  let c48_526 : Index := 48#32
  ![v3373.toNat, 48]
def k0_off291 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3379 : Index := Scalar.indexCast v3338
  let c64_527 : Index := 64#32
  ![v3379.toNat, 64]
def k0_off292 (v3342 : BitVec 32) : Fin 2 → Nat :=
  let v3381 : Index := Scalar.indexCast v3342
  let c64_528 : Index := 64#32
  ![v3381.toNat, 64]
def k0_off293 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3387 : Index := Scalar.indexCast v3338
  let c80_529 : Index := 80#32
  ![v3387.toNat, 80]
def k0_off294 (v3342 : BitVec 32) : Fin 2 → Nat :=
  let v3389 : Index := Scalar.indexCast v3342
  let c80_530 : Index := 80#32
  ![v3389.toNat, 80]
def k0_off295 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3395 : Index := Scalar.indexCast v3338
  let c96_531 : Index := 96#32
  ![v3395.toNat, 96]
def k0_off296 (v3342 : BitVec 32) : Fin 2 → Nat :=
  let v3397 : Index := Scalar.indexCast v3342
  let c96_532 : Index := 96#32
  ![v3397.toNat, 96]
def k0_off297 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3403 : Index := Scalar.indexCast v3338
  let c112_533 : Index := 112#32
  ![v3403.toNat, 112]
def k0_off298 (v3342 : BitVec 32) : Fin 2 → Nat :=
  let v3405 : Index := Scalar.indexCast v3342
  let c112_534 : Index := 112#32
  ![v3405.toNat, 112]

def k0_chk15 (v3342 : BitVec 32) : Prop :=
  (∀ a, (k0_off284 v3342) a + S1x16.size a ≤ S512x128.size a) ∧
  (∀ a, (k0_off286 v3342) a + S1x16.size a ≤ S512x128.size a) ∧
  (∀ a, (k0_off288 v3342) a + S1x16.size a ≤ S512x128.size a) ∧
  (∀ a, (k0_off290 v3342) a + S1x16.size a ≤ S512x128.size a) ∧
  (∀ a, (k0_off292 v3342) a + S1x16.size a ≤ S512x128.size a) ∧
  (∀ a, (k0_off294 v3342) a + S1x16.size a ≤ S512x128.size a) ∧
  (∀ a, (k0_off296 v3342) a + S1x16.size a ≤ S512x128.size a) ∧
  (∀ a, (k0_off298 v3342) a + S1x16.size a ≤ S512x128.size a)
theorem k0_off284_inb : ∀ (v3342 : BitVec 32) (k0_hw15 : k0_chk15 v3342), ∀ a, (k0_off284 v3342) a + S1x16.size a ≤ S512x128.size a := fun v3342 k0_hw15 => k0_hw15.1
theorem k0_off286_inb : ∀ (v3342 : BitVec 32) (k0_hw15 : k0_chk15 v3342), ∀ a, (k0_off286 v3342) a + S1x16.size a ≤ S512x128.size a := fun v3342 k0_hw15 => k0_hw15.2.1
theorem k0_off288_inb : ∀ (v3342 : BitVec 32) (k0_hw15 : k0_chk15 v3342), ∀ a, (k0_off288 v3342) a + S1x16.size a ≤ S512x128.size a := fun v3342 k0_hw15 => k0_hw15.2.2.1
theorem k0_off290_inb : ∀ (v3342 : BitVec 32) (k0_hw15 : k0_chk15 v3342), ∀ a, (k0_off290 v3342) a + S1x16.size a ≤ S512x128.size a := fun v3342 k0_hw15 => k0_hw15.2.2.2.1
theorem k0_off292_inb : ∀ (v3342 : BitVec 32) (k0_hw15 : k0_chk15 v3342), ∀ a, (k0_off292 v3342) a + S1x16.size a ≤ S512x128.size a := fun v3342 k0_hw15 => k0_hw15.2.2.2.2.1
theorem k0_off294_inb : ∀ (v3342 : BitVec 32) (k0_hw15 : k0_chk15 v3342), ∀ a, (k0_off294 v3342) a + S1x16.size a ≤ S512x128.size a := fun v3342 k0_hw15 => k0_hw15.2.2.2.2.2.1
theorem k0_off296_inb : ∀ (v3342 : BitVec 32) (k0_hw15 : k0_chk15 v3342), ∀ a, (k0_off296 v3342) a + S1x16.size a ≤ S512x128.size a := fun v3342 k0_hw15 => k0_hw15.2.2.2.2.2.2.1
theorem k0_off298_inb : ∀ (v3342 : BitVec 32) (k0_hw15 : k0_chk15 v3342), ∀ a, (k0_off298 v3342) a + S1x16.size a ≤ S512x128.size a := fun v3342 k0_hw15 => k0_hw15.2.2.2.2.2.2.2

def k0_off299 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3509 : Index := Scalar.indexCast v3340
  let c0_537 : Index := 0#32
  ![v3509.toNat, 0]
def k0_off300 (v3344 : BitVec 32) : Fin 2 → Nat :=
  let v3511 : Index := Scalar.indexCast v3344
  let c0_538 : Index := 0#32
  ![v3511.toNat, 0]

def k0_off301 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3517 : Index := Scalar.indexCast v3340
  let c16_539 : Index := 16#32
  ![v3517.toNat, 16]
def k0_off302 (v3344 : BitVec 32) : Fin 2 → Nat :=
  let v3519 : Index := Scalar.indexCast v3344
  let c16_540 : Index := 16#32
  ![v3519.toNat, 16]
def k0_off303 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3525 : Index := Scalar.indexCast v3340
  let c32_541 : Index := 32#32
  ![v3525.toNat, 32]
def k0_off304 (v3344 : BitVec 32) : Fin 2 → Nat :=
  let v3527 : Index := Scalar.indexCast v3344
  let c32_542 : Index := 32#32
  ![v3527.toNat, 32]
def k0_off305 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3533 : Index := Scalar.indexCast v3340
  let c48_543 : Index := 48#32
  ![v3533.toNat, 48]
def k0_off306 (v3344 : BitVec 32) : Fin 2 → Nat :=
  let v3535 : Index := Scalar.indexCast v3344
  let c48_544 : Index := 48#32
  ![v3535.toNat, 48]
def k0_off307 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3541 : Index := Scalar.indexCast v3340
  let c64_545 : Index := 64#32
  ![v3541.toNat, 64]
def k0_off308 (v3344 : BitVec 32) : Fin 2 → Nat :=
  let v3543 : Index := Scalar.indexCast v3344
  let c64_546 : Index := 64#32
  ![v3543.toNat, 64]
def k0_off309 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3549 : Index := Scalar.indexCast v3340
  let c80_547 : Index := 80#32
  ![v3549.toNat, 80]
def k0_off310 (v3344 : BitVec 32) : Fin 2 → Nat :=
  let v3551 : Index := Scalar.indexCast v3344
  let c80_548 : Index := 80#32
  ![v3551.toNat, 80]
def k0_off311 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3557 : Index := Scalar.indexCast v3340
  let c96_549 : Index := 96#32
  ![v3557.toNat, 96]
def k0_off312 (v3344 : BitVec 32) : Fin 2 → Nat :=
  let v3559 : Index := Scalar.indexCast v3344
  let c96_550 : Index := 96#32
  ![v3559.toNat, 96]
def k0_off313 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3565 : Index := Scalar.indexCast v3340
  let c112_551 : Index := 112#32
  ![v3565.toNat, 112]
def k0_off314 (v3344 : BitVec 32) : Fin 2 → Nat :=
  let v3567 : Index := Scalar.indexCast v3344
  let c112_552 : Index := 112#32
  ![v3567.toNat, 112]

def k0_chk16 (v3344 : BitVec 32) : Prop :=
  (∀ a, (k0_off300 v3344) a + S1x16.size a ≤ S512x128.size a) ∧
  (∀ a, (k0_off302 v3344) a + S1x16.size a ≤ S512x128.size a) ∧
  (∀ a, (k0_off304 v3344) a + S1x16.size a ≤ S512x128.size a) ∧
  (∀ a, (k0_off306 v3344) a + S1x16.size a ≤ S512x128.size a) ∧
  (∀ a, (k0_off308 v3344) a + S1x16.size a ≤ S512x128.size a) ∧
  (∀ a, (k0_off310 v3344) a + S1x16.size a ≤ S512x128.size a) ∧
  (∀ a, (k0_off312 v3344) a + S1x16.size a ≤ S512x128.size a) ∧
  (∀ a, (k0_off314 v3344) a + S1x16.size a ≤ S512x128.size a)
theorem k0_off300_inb : ∀ (v3344 : BitVec 32) (k0_hw16 : k0_chk16 v3344), ∀ a, (k0_off300 v3344) a + S1x16.size a ≤ S512x128.size a := fun v3344 k0_hw16 => k0_hw16.1
theorem k0_off302_inb : ∀ (v3344 : BitVec 32) (k0_hw16 : k0_chk16 v3344), ∀ a, (k0_off302 v3344) a + S1x16.size a ≤ S512x128.size a := fun v3344 k0_hw16 => k0_hw16.2.1
theorem k0_off304_inb : ∀ (v3344 : BitVec 32) (k0_hw16 : k0_chk16 v3344), ∀ a, (k0_off304 v3344) a + S1x16.size a ≤ S512x128.size a := fun v3344 k0_hw16 => k0_hw16.2.2.1
theorem k0_off306_inb : ∀ (v3344 : BitVec 32) (k0_hw16 : k0_chk16 v3344), ∀ a, (k0_off306 v3344) a + S1x16.size a ≤ S512x128.size a := fun v3344 k0_hw16 => k0_hw16.2.2.2.1
theorem k0_off308_inb : ∀ (v3344 : BitVec 32) (k0_hw16 : k0_chk16 v3344), ∀ a, (k0_off308 v3344) a + S1x16.size a ≤ S512x128.size a := fun v3344 k0_hw16 => k0_hw16.2.2.2.2.1
theorem k0_off310_inb : ∀ (v3344 : BitVec 32) (k0_hw16 : k0_chk16 v3344), ∀ a, (k0_off310 v3344) a + S1x16.size a ≤ S512x128.size a := fun v3344 k0_hw16 => k0_hw16.2.2.2.2.2.1
theorem k0_off312_inb : ∀ (v3344 : BitVec 32) (k0_hw16 : k0_chk16 v3344), ∀ a, (k0_off312 v3344) a + S1x16.size a ≤ S512x128.size a := fun v3344 k0_hw16 => k0_hw16.2.2.2.2.2.2.1
theorem k0_off314_inb : ∀ (v3344 : BitVec 32) (k0_hw16 : k0_chk16 v3344), ∀ a, (k0_off314 v3344) a + S1x16.size a ≤ S512x128.size a := fun v3344 k0_hw16 => k0_hw16.2.2.2.2.2.2.2

def k0_off315 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3705 : Index := Scalar.indexCast v3338
  let c0_560 : Index := 0#32
  ![v3705.toNat, 0]
def k0_off316 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3711 : Index := Scalar.indexCast v3338
  let c16_561 : Index := 16#32
  ![v3711.toNat, 16]
def k0_off317 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3717 : Index := Scalar.indexCast v3338
  let c32_562 : Index := 32#32
  ![v3717.toNat, 32]
def k0_off318 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3723 : Index := Scalar.indexCast v3338
  let c48_563 : Index := 48#32
  ![v3723.toNat, 48]
def k0_off319 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3729 : Index := Scalar.indexCast v3338
  let c64_564 : Index := 64#32
  ![v3729.toNat, 64]
def k0_off320 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3735 : Index := Scalar.indexCast v3338
  let c80_565 : Index := 80#32
  ![v3735.toNat, 80]
def k0_off321 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3741 : Index := Scalar.indexCast v3338
  let c96_566 : Index := 96#32
  ![v3741.toNat, 96]
def k0_off322 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32 : BitVec 32 := 14#32
  let v3338 : BitVec 32 := Scalar.addi v79 c14_i32
  let v3747 : Index := Scalar.indexCast v3338
  let c112_567 : Index := 112#32
  ![v3747.toNat, 112]
def k0_off323 (k0_t1 : Fin k0_t1_loop.trips) : Fin 2 → Nat :=
  let c0_i32_33 : BitVec 32 := 0#32
  let c1_i32_34 : BitVec 32 := 1#32
  let arg28 : BitVec 32 := Scf.iv c0_i32_33 c1_i32_34 k0_t1
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3759 : Index := Scalar.indexCast v3340
  let c0_568 : Index := 0#32
  ![v3759.toNat, 0]
def k0_off324 (i : grid0.Coords) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v47 : BitVec 32 := Scalar.addi v2 c0_i32_36
  let c0_i32_37 : BitVec 32 := 0#32
  ![v47.toNat, 0]
def k0_off324_at (r : Fin 4) : BitVec 32 :=
  if r.val < 2 then
    if r.val < 1 then
      0#32
    else
      64#32
  else
    if r.val < 3 then
      6272#32
    else
      6336#32
@[reducible] def k0_t2_loop : Scf.Loop 32 :=
  let c0_i32_45 : BitVec 32 := 0#32
  let c4_i32_46 : BitVec 32 := 4#32
  let v54 : BitVec 32 := Scalar.addi c0_i32_45 c4_i32_46
  let c1_i32_47 : BitVec 32 := 1#32
  ⟨c0_i32_45, v54, c1_i32_47⟩
def k0_off325 (k0_t2 : Fin k0_t2_loop.trips) : Fin 1 → Nat :=
  let c64_i32_84 : BitVec 32 := 64#32
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v80 : BitVec 32 := Scalar.addi c64_i32_84 v79
  let v81 : Index := Scalar.indexCast v80
  ![v81.toNat]
def k0_off326 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v92 : Index := Scalar.indexCast v83
  let c0_89 : Index := 0#32
  ![v92.toNat, 0]
def k0_off327 (v87 : BitVec 32) : Fin 2 → Nat :=
  let v94 : Index := Scalar.indexCast v87
  let c0_90 : Index := 0#32
  ![v94.toNat, 0]

def k0_off328 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v100 : Index := Scalar.indexCast v83
  let c16_91 : Index := 16#32
  ![v100.toNat, 16]
def k0_off329 (v87 : BitVec 32) : Fin 2 → Nat :=
  let v102 : Index := Scalar.indexCast v87
  let c16_92 : Index := 16#32
  ![v102.toNat, 16]
def k0_off330 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v108 : Index := Scalar.indexCast v83
  let c32_93 : Index := 32#32
  ![v108.toNat, 32]
def k0_off331 (v87 : BitVec 32) : Fin 2 → Nat :=
  let v110 : Index := Scalar.indexCast v87
  let c32_94 : Index := 32#32
  ![v110.toNat, 32]
def k0_off332 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v116 : Index := Scalar.indexCast v83
  let c48_95 : Index := 48#32
  ![v116.toNat, 48]
def k0_off333 (v87 : BitVec 32) : Fin 2 → Nat :=
  let v118 : Index := Scalar.indexCast v87
  let c48_96 : Index := 48#32
  ![v118.toNat, 48]
def k0_off334 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v124 : Index := Scalar.indexCast v83
  let c64_97 : Index := 64#32
  ![v124.toNat, 64]
def k0_off335 (v87 : BitVec 32) : Fin 2 → Nat :=
  let v126 : Index := Scalar.indexCast v87
  let c64_98 : Index := 64#32
  ![v126.toNat, 64]
def k0_off336 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v132 : Index := Scalar.indexCast v83
  let c80_99 : Index := 80#32
  ![v132.toNat, 80]
def k0_off337 (v87 : BitVec 32) : Fin 2 → Nat :=
  let v134 : Index := Scalar.indexCast v87
  let c80_100 : Index := 80#32
  ![v134.toNat, 80]
def k0_off338 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v140 : Index := Scalar.indexCast v83
  let c96_101 : Index := 96#32
  ![v140.toNat, 96]
def k0_off339 (v87 : BitVec 32) : Fin 2 → Nat :=
  let v142 : Index := Scalar.indexCast v87
  let c96_102 : Index := 96#32
  ![v142.toNat, 96]
def k0_off340 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v148 : Index := Scalar.indexCast v83
  let c112_103 : Index := 112#32
  ![v148.toNat, 112]
def k0_off341 (v87 : BitVec 32) : Fin 2 → Nat :=
  let v150 : Index := Scalar.indexCast v87
  let c112_104 : Index := 112#32
  ![v150.toNat, 112]

def k0_chk17 (v87 : BitVec 32) : Prop :=
  (∀ a, (k0_off327 v87) a + S1x16.size a ≤ S512x128.size a) ∧
  (∀ a, (k0_off329 v87) a + S1x16.size a ≤ S512x128.size a) ∧
  (∀ a, (k0_off331 v87) a + S1x16.size a ≤ S512x128.size a) ∧
  (∀ a, (k0_off333 v87) a + S1x16.size a ≤ S512x128.size a) ∧
  (∀ a, (k0_off335 v87) a + S1x16.size a ≤ S512x128.size a) ∧
  (∀ a, (k0_off337 v87) a + S1x16.size a ≤ S512x128.size a) ∧
  (∀ a, (k0_off339 v87) a + S1x16.size a ≤ S512x128.size a) ∧
  (∀ a, (k0_off341 v87) a + S1x16.size a ≤ S512x128.size a)
theorem k0_off327_inb : ∀ (v87 : BitVec 32) (k0_hw17 : k0_chk17 v87), ∀ a, (k0_off327 v87) a + S1x16.size a ≤ S512x128.size a := fun v87 k0_hw17 => k0_hw17.1
theorem k0_off329_inb : ∀ (v87 : BitVec 32) (k0_hw17 : k0_chk17 v87), ∀ a, (k0_off329 v87) a + S1x16.size a ≤ S512x128.size a := fun v87 k0_hw17 => k0_hw17.2.1
theorem k0_off331_inb : ∀ (v87 : BitVec 32) (k0_hw17 : k0_chk17 v87), ∀ a, (k0_off331 v87) a + S1x16.size a ≤ S512x128.size a := fun v87 k0_hw17 => k0_hw17.2.2.1
theorem k0_off333_inb : ∀ (v87 : BitVec 32) (k0_hw17 : k0_chk17 v87), ∀ a, (k0_off333 v87) a + S1x16.size a ≤ S512x128.size a := fun v87 k0_hw17 => k0_hw17.2.2.2.1
theorem k0_off335_inb : ∀ (v87 : BitVec 32) (k0_hw17 : k0_chk17 v87), ∀ a, (k0_off335 v87) a + S1x16.size a ≤ S512x128.size a := fun v87 k0_hw17 => k0_hw17.2.2.2.2.1
theorem k0_off337_inb : ∀ (v87 : BitVec 32) (k0_hw17 : k0_chk17 v87), ∀ a, (k0_off337 v87) a + S1x16.size a ≤ S512x128.size a := fun v87 k0_hw17 => k0_hw17.2.2.2.2.2.1
theorem k0_off339_inb : ∀ (v87 : BitVec 32) (k0_hw17 : k0_chk17 v87), ∀ a, (k0_off339 v87) a + S1x16.size a ≤ S512x128.size a := fun v87 k0_hw17 => k0_hw17.2.2.2.2.2.2.1
theorem k0_off341_inb : ∀ (v87 : BitVec 32) (k0_hw17 : k0_chk17 v87), ∀ a, (k0_off341 v87) a + S1x16.size a ≤ S512x128.size a := fun v87 k0_hw17 => k0_hw17.2.2.2.2.2.2.2

def k0_off342 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v254 : Index := Scalar.indexCast v85
  let c0_107 : Index := 0#32
  ![v254.toNat, 0]
def k0_off343 (v89 : BitVec 32) : Fin 2 → Nat :=
  let v256 : Index := Scalar.indexCast v89
  let c0_108 : Index := 0#32
  ![v256.toNat, 0]

def k0_off344 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v262 : Index := Scalar.indexCast v85
  let c16_109 : Index := 16#32
  ![v262.toNat, 16]
def k0_off345 (v89 : BitVec 32) : Fin 2 → Nat :=
  let v264 : Index := Scalar.indexCast v89
  let c16_110 : Index := 16#32
  ![v264.toNat, 16]
def k0_off346 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v270 : Index := Scalar.indexCast v85
  let c32_111 : Index := 32#32
  ![v270.toNat, 32]
def k0_off347 (v89 : BitVec 32) : Fin 2 → Nat :=
  let v272 : Index := Scalar.indexCast v89
  let c32_112 : Index := 32#32
  ![v272.toNat, 32]
def k0_off348 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v278 : Index := Scalar.indexCast v85
  let c48_113 : Index := 48#32
  ![v278.toNat, 48]
def k0_off349 (v89 : BitVec 32) : Fin 2 → Nat :=
  let v280 : Index := Scalar.indexCast v89
  let c48_114 : Index := 48#32
  ![v280.toNat, 48]
def k0_off350 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v286 : Index := Scalar.indexCast v85
  let c64_115 : Index := 64#32
  ![v286.toNat, 64]
def k0_off351 (v89 : BitVec 32) : Fin 2 → Nat :=
  let v288 : Index := Scalar.indexCast v89
  let c64_116 : Index := 64#32
  ![v288.toNat, 64]
def k0_off352 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v294 : Index := Scalar.indexCast v85
  let c80_117 : Index := 80#32
  ![v294.toNat, 80]
def k0_off353 (v89 : BitVec 32) : Fin 2 → Nat :=
  let v296 : Index := Scalar.indexCast v89
  let c80_118 : Index := 80#32
  ![v296.toNat, 80]
def k0_off354 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v302 : Index := Scalar.indexCast v85
  let c96_119 : Index := 96#32
  ![v302.toNat, 96]
def k0_off355 (v89 : BitVec 32) : Fin 2 → Nat :=
  let v304 : Index := Scalar.indexCast v89
  let c96_120 : Index := 96#32
  ![v304.toNat, 96]
def k0_off356 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v310 : Index := Scalar.indexCast v85
  let c112_121 : Index := 112#32
  ![v310.toNat, 112]
def k0_off357 (v89 : BitVec 32) : Fin 2 → Nat :=
  let v312 : Index := Scalar.indexCast v89
  let c112_122 : Index := 112#32
  ![v312.toNat, 112]

def k0_chk18 (v89 : BitVec 32) : Prop :=
  (∀ a, (k0_off343 v89) a + S1x16.size a ≤ S512x128.size a) ∧
  (∀ a, (k0_off345 v89) a + S1x16.size a ≤ S512x128.size a) ∧
  (∀ a, (k0_off347 v89) a + S1x16.size a ≤ S512x128.size a) ∧
  (∀ a, (k0_off349 v89) a + S1x16.size a ≤ S512x128.size a) ∧
  (∀ a, (k0_off351 v89) a + S1x16.size a ≤ S512x128.size a) ∧
  (∀ a, (k0_off353 v89) a + S1x16.size a ≤ S512x128.size a) ∧
  (∀ a, (k0_off355 v89) a + S1x16.size a ≤ S512x128.size a) ∧
  (∀ a, (k0_off357 v89) a + S1x16.size a ≤ S512x128.size a)
theorem k0_off343_inb : ∀ (v89 : BitVec 32) (k0_hw18 : k0_chk18 v89), ∀ a, (k0_off343 v89) a + S1x16.size a ≤ S512x128.size a := fun v89 k0_hw18 => k0_hw18.1
theorem k0_off345_inb : ∀ (v89 : BitVec 32) (k0_hw18 : k0_chk18 v89), ∀ a, (k0_off345 v89) a + S1x16.size a ≤ S512x128.size a := fun v89 k0_hw18 => k0_hw18.2.1
theorem k0_off347_inb : ∀ (v89 : BitVec 32) (k0_hw18 : k0_chk18 v89), ∀ a, (k0_off347 v89) a + S1x16.size a ≤ S512x128.size a := fun v89 k0_hw18 => k0_hw18.2.2.1
theorem k0_off349_inb : ∀ (v89 : BitVec 32) (k0_hw18 : k0_chk18 v89), ∀ a, (k0_off349 v89) a + S1x16.size a ≤ S512x128.size a := fun v89 k0_hw18 => k0_hw18.2.2.2.1
theorem k0_off351_inb : ∀ (v89 : BitVec 32) (k0_hw18 : k0_chk18 v89), ∀ a, (k0_off351 v89) a + S1x16.size a ≤ S512x128.size a := fun v89 k0_hw18 => k0_hw18.2.2.2.2.1
theorem k0_off353_inb : ∀ (v89 : BitVec 32) (k0_hw18 : k0_chk18 v89), ∀ a, (k0_off353 v89) a + S1x16.size a ≤ S512x128.size a := fun v89 k0_hw18 => k0_hw18.2.2.2.2.2.1
theorem k0_off355_inb : ∀ (v89 : BitVec 32) (k0_hw18 : k0_chk18 v89), ∀ a, (k0_off355 v89) a + S1x16.size a ≤ S512x128.size a := fun v89 k0_hw18 => k0_hw18.2.2.2.2.2.2.1
theorem k0_off357_inb : ∀ (v89 : BitVec 32) (k0_hw18 : k0_chk18 v89), ∀ a, (k0_off357 v89) a + S1x16.size a ≤ S512x128.size a := fun v89 k0_hw18 => k0_hw18.2.2.2.2.2.2.2

def k0_off358 (k0_t2 : Fin k0_t2_loop.trips) (c0_i32_85 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v83 : BitVec 32 := Scalar.addi v79 c0_i32_85
  let v450 : Index := Scalar.indexCast v83
  let c0_130 : Index := 0#32
  ![v450.toNat, 0]
def k0_off359 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v456 : Index := Scalar.indexCast v83
  let c16_131 : Index := 16#32
  ![v456.toNat, 16]
def k0_off360 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v462 : Index := Scalar.indexCast v83
  let c32_132 : Index := 32#32
  ![v462.toNat, 32]
def k0_off361 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v468 : Index := Scalar.indexCast v83
  let c48_133 : Index := 48#32
  ![v468.toNat, 48]
def k0_off362 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v474 : Index := Scalar.indexCast v83
  let c64_134 : Index := 64#32
  ![v474.toNat, 64]
def k0_off363 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v480 : Index := Scalar.indexCast v83
  let c80_135 : Index := 80#32
  ![v480.toNat, 80]
def k0_off364 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v486 : Index := Scalar.indexCast v83
  let c96_136 : Index := 96#32
  ![v486.toNat, 96]
def k0_off365 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_85 : BitVec 32 := 0#32
  let v83 : BitVec 32 := Scalar.addi v79 c0_i32_85
  let v492 : Index := Scalar.indexCast v83
  let c112_137 : Index := 112#32
  ![v492.toNat, 112]
def k0_off366 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v504 : Index := Scalar.indexCast v85
  let c0_138 : Index := 0#32
  ![v504.toNat, 0]
def k0_off367 (v552 : BitVec 32) : Fin 2 → Nat :=
  let v559 : Index := Scalar.indexCast v552
  let c0_152 : Index := 0#32
  ![v559.toNat, 0]

def k0_off368 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v565 : Index := Scalar.indexCast v548
  let c16_153 : Index := 16#32
  ![v565.toNat, 16]
def k0_off369 (v552 : BitVec 32) : Fin 2 → Nat :=
  let v567 : Index := Scalar.indexCast v552
  let c16_154 : Index := 16#32
  ![v567.toNat, 16]
def k0_off370 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v573 : Index := Scalar.indexCast v548
  let c32_155 : Index := 32#32
  ![v573.toNat, 32]
def k0_off371 (v552 : BitVec 32) : Fin 2 → Nat :=
  let v575 : Index := Scalar.indexCast v552
  let c32_156 : Index := 32#32
  ![v575.toNat, 32]
def k0_off372 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v581 : Index := Scalar.indexCast v548
  let c48_157 : Index := 48#32
  ![v581.toNat, 48]
def k0_off373 (v552 : BitVec 32) : Fin 2 → Nat :=
  let v583 : Index := Scalar.indexCast v552
  let c48_158 : Index := 48#32
  ![v583.toNat, 48]
def k0_off374 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v589 : Index := Scalar.indexCast v548
  let c64_159 : Index := 64#32
  ![v589.toNat, 64]
def k0_off375 (v552 : BitVec 32) : Fin 2 → Nat :=
  let v591 : Index := Scalar.indexCast v552
  let c64_160 : Index := 64#32
  ![v591.toNat, 64]
def k0_off376 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v597 : Index := Scalar.indexCast v548
  let c80_161 : Index := 80#32
  ![v597.toNat, 80]
def k0_off377 (v552 : BitVec 32) : Fin 2 → Nat :=
  let v599 : Index := Scalar.indexCast v552
  let c80_162 : Index := 80#32
  ![v599.toNat, 80]
def k0_off378 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v605 : Index := Scalar.indexCast v548
  let c96_163 : Index := 96#32
  ![v605.toNat, 96]
def k0_off379 (v552 : BitVec 32) : Fin 2 → Nat :=
  let v607 : Index := Scalar.indexCast v552
  let c96_164 : Index := 96#32
  ![v607.toNat, 96]
def k0_off380 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v613 : Index := Scalar.indexCast v548
  let c112_165 : Index := 112#32
  ![v613.toNat, 112]
def k0_off381 (v552 : BitVec 32) : Fin 2 → Nat :=
  let v615 : Index := Scalar.indexCast v552
  let c112_166 : Index := 112#32
  ![v615.toNat, 112]

def k0_chk19 (v552 : BitVec 32) : Prop :=
  (∀ a, (k0_off367 v552) a + S1x16.size a ≤ S512x128.size a) ∧
  (∀ a, (k0_off369 v552) a + S1x16.size a ≤ S512x128.size a) ∧
  (∀ a, (k0_off371 v552) a + S1x16.size a ≤ S512x128.size a) ∧
  (∀ a, (k0_off373 v552) a + S1x16.size a ≤ S512x128.size a) ∧
  (∀ a, (k0_off375 v552) a + S1x16.size a ≤ S512x128.size a) ∧
  (∀ a, (k0_off377 v552) a + S1x16.size a ≤ S512x128.size a) ∧
  (∀ a, (k0_off379 v552) a + S1x16.size a ≤ S512x128.size a) ∧
  (∀ a, (k0_off381 v552) a + S1x16.size a ≤ S512x128.size a)
theorem k0_off367_inb : ∀ (v552 : BitVec 32) (k0_hw19 : k0_chk19 v552), ∀ a, (k0_off367 v552) a + S1x16.size a ≤ S512x128.size a := fun v552 k0_hw19 => k0_hw19.1
theorem k0_off369_inb : ∀ (v552 : BitVec 32) (k0_hw19 : k0_chk19 v552), ∀ a, (k0_off369 v552) a + S1x16.size a ≤ S512x128.size a := fun v552 k0_hw19 => k0_hw19.2.1
theorem k0_off371_inb : ∀ (v552 : BitVec 32) (k0_hw19 : k0_chk19 v552), ∀ a, (k0_off371 v552) a + S1x16.size a ≤ S512x128.size a := fun v552 k0_hw19 => k0_hw19.2.2.1
theorem k0_off373_inb : ∀ (v552 : BitVec 32) (k0_hw19 : k0_chk19 v552), ∀ a, (k0_off373 v552) a + S1x16.size a ≤ S512x128.size a := fun v552 k0_hw19 => k0_hw19.2.2.2.1
theorem k0_off375_inb : ∀ (v552 : BitVec 32) (k0_hw19 : k0_chk19 v552), ∀ a, (k0_off375 v552) a + S1x16.size a ≤ S512x128.size a := fun v552 k0_hw19 => k0_hw19.2.2.2.2.1
theorem k0_off377_inb : ∀ (v552 : BitVec 32) (k0_hw19 : k0_chk19 v552), ∀ a, (k0_off377 v552) a + S1x16.size a ≤ S512x128.size a := fun v552 k0_hw19 => k0_hw19.2.2.2.2.2.1
theorem k0_off379_inb : ∀ (v552 : BitVec 32) (k0_hw19 : k0_chk19 v552), ∀ a, (k0_off379 v552) a + S1x16.size a ≤ S512x128.size a := fun v552 k0_hw19 => k0_hw19.2.2.2.2.2.2.1
theorem k0_off381_inb : ∀ (v552 : BitVec 32) (k0_hw19 : k0_chk19 v552), ∀ a, (k0_off381 v552) a + S1x16.size a ≤ S512x128.size a := fun v552 k0_hw19 => k0_hw19.2.2.2.2.2.2.2

def k0_off382 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v719 : Index := Scalar.indexCast v550
  let c0_169 : Index := 0#32
  ![v719.toNat, 0]
def k0_off383 (v554 : BitVec 32) : Fin 2 → Nat :=
  let v721 : Index := Scalar.indexCast v554
  let c0_170 : Index := 0#32
  ![v721.toNat, 0]

def k0_off384 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v727 : Index := Scalar.indexCast v550
  let c16_171 : Index := 16#32
  ![v727.toNat, 16]
def k0_off385 (v554 : BitVec 32) : Fin 2 → Nat :=
  let v729 : Index := Scalar.indexCast v554
  let c16_172 : Index := 16#32
  ![v729.toNat, 16]
def k0_off386 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v735 : Index := Scalar.indexCast v550
  let c32_173 : Index := 32#32
  ![v735.toNat, 32]
def k0_off387 (v554 : BitVec 32) : Fin 2 → Nat :=
  let v737 : Index := Scalar.indexCast v554
  let c32_174 : Index := 32#32
  ![v737.toNat, 32]
def k0_off388 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v743 : Index := Scalar.indexCast v550
  let c48_175 : Index := 48#32
  ![v743.toNat, 48]
def k0_off389 (v554 : BitVec 32) : Fin 2 → Nat :=
  let v745 : Index := Scalar.indexCast v554
  let c48_176 : Index := 48#32
  ![v745.toNat, 48]
def k0_off390 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v751 : Index := Scalar.indexCast v550
  let c64_177 : Index := 64#32
  ![v751.toNat, 64]
def k0_off391 (v554 : BitVec 32) : Fin 2 → Nat :=
  let v753 : Index := Scalar.indexCast v554
  let c64_178 : Index := 64#32
  ![v753.toNat, 64]
def k0_off392 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v759 : Index := Scalar.indexCast v550
  let c80_179 : Index := 80#32
  ![v759.toNat, 80]
def k0_off393 (v554 : BitVec 32) : Fin 2 → Nat :=
  let v761 : Index := Scalar.indexCast v554
  let c80_180 : Index := 80#32
  ![v761.toNat, 80]
def k0_off394 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v767 : Index := Scalar.indexCast v550
  let c96_181 : Index := 96#32
  ![v767.toNat, 96]
def k0_off395 (v554 : BitVec 32) : Fin 2 → Nat :=
  let v769 : Index := Scalar.indexCast v554
  let c96_182 : Index := 96#32
  ![v769.toNat, 96]
def k0_off396 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v775 : Index := Scalar.indexCast v550
  let c112_183 : Index := 112#32
  ![v775.toNat, 112]
def k0_off397 (v554 : BitVec 32) : Fin 2 → Nat :=
  let v777 : Index := Scalar.indexCast v554
  let c112_184 : Index := 112#32
  ![v777.toNat, 112]

def k0_chk20 (v554 : BitVec 32) : Prop :=
  (∀ a, (k0_off383 v554) a + S1x16.size a ≤ S512x128.size a) ∧
  (∀ a, (k0_off385 v554) a + S1x16.size a ≤ S512x128.size a) ∧
  (∀ a, (k0_off387 v554) a + S1x16.size a ≤ S512x128.size a) ∧
  (∀ a, (k0_off389 v554) a + S1x16.size a ≤ S512x128.size a) ∧
  (∀ a, (k0_off391 v554) a + S1x16.size a ≤ S512x128.size a) ∧
  (∀ a, (k0_off393 v554) a + S1x16.size a ≤ S512x128.size a) ∧
  (∀ a, (k0_off395 v554) a + S1x16.size a ≤ S512x128.size a) ∧
  (∀ a, (k0_off397 v554) a + S1x16.size a ≤ S512x128.size a)
theorem k0_off383_inb : ∀ (v554 : BitVec 32) (k0_hw20 : k0_chk20 v554), ∀ a, (k0_off383 v554) a + S1x16.size a ≤ S512x128.size a := fun v554 k0_hw20 => k0_hw20.1
theorem k0_off385_inb : ∀ (v554 : BitVec 32) (k0_hw20 : k0_chk20 v554), ∀ a, (k0_off385 v554) a + S1x16.size a ≤ S512x128.size a := fun v554 k0_hw20 => k0_hw20.2.1
theorem k0_off387_inb : ∀ (v554 : BitVec 32) (k0_hw20 : k0_chk20 v554), ∀ a, (k0_off387 v554) a + S1x16.size a ≤ S512x128.size a := fun v554 k0_hw20 => k0_hw20.2.2.1
theorem k0_off389_inb : ∀ (v554 : BitVec 32) (k0_hw20 : k0_chk20 v554), ∀ a, (k0_off389 v554) a + S1x16.size a ≤ S512x128.size a := fun v554 k0_hw20 => k0_hw20.2.2.2.1
theorem k0_off391_inb : ∀ (v554 : BitVec 32) (k0_hw20 : k0_chk20 v554), ∀ a, (k0_off391 v554) a + S1x16.size a ≤ S512x128.size a := fun v554 k0_hw20 => k0_hw20.2.2.2.2.1
theorem k0_off393_inb : ∀ (v554 : BitVec 32) (k0_hw20 : k0_chk20 v554), ∀ a, (k0_off393 v554) a + S1x16.size a ≤ S512x128.size a := fun v554 k0_hw20 => k0_hw20.2.2.2.2.2.1
theorem k0_off395_inb : ∀ (v554 : BitVec 32) (k0_hw20 : k0_chk20 v554), ∀ a, (k0_off395 v554) a + S1x16.size a ≤ S512x128.size a := fun v554 k0_hw20 => k0_hw20.2.2.2.2.2.2.1
theorem k0_off397_inb : ∀ (v554 : BitVec 32) (k0_hw20 : k0_chk20 v554), ∀ a, (k0_off397 v554) a + S1x16.size a ≤ S512x128.size a := fun v554 k0_hw20 => k0_hw20.2.2.2.2.2.2.2

def k0_off398 (k0_t2 : Fin k0_t2_loop.trips) (c2_i32_146 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v548 : BitVec 32 := Scalar.addi v79 c2_i32_146
  let v915 : Index := Scalar.indexCast v548
  let c0_192 : Index := 0#32
  ![v915.toNat, 0]
def k0_off399 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v921 : Index := Scalar.indexCast v548
  let c16_193 : Index := 16#32
  ![v921.toNat, 16]
def k0_off400 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v927 : Index := Scalar.indexCast v548
  let c32_194 : Index := 32#32
  ![v927.toNat, 32]
def k0_off401 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v933 : Index := Scalar.indexCast v548
  let c48_195 : Index := 48#32
  ![v933.toNat, 48]
def k0_off402 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v939 : Index := Scalar.indexCast v548
  let c64_196 : Index := 64#32
  ![v939.toNat, 64]
def k0_off403 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v945 : Index := Scalar.indexCast v548
  let c80_197 : Index := 80#32
  ![v945.toNat, 80]
def k0_off404 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v951 : Index := Scalar.indexCast v548
  let c96_198 : Index := 96#32
  ![v951.toNat, 96]
def k0_off405 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_146 : BitVec 32 := 2#32
  let v548 : BitVec 32 := Scalar.addi v79 c2_i32_146
  let v957 : Index := Scalar.indexCast v548
  let c112_199 : Index := 112#32
  ![v957.toNat, 112]
def k0_off406 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v969 : Index := Scalar.indexCast v550
  let c0_200 : Index := 0#32
  ![v969.toNat, 0]
def k0_off407 (v1017 : BitVec 32) : Fin 2 → Nat :=
  let v1024 : Index := Scalar.indexCast v1017
  let c0_214 : Index := 0#32
  ![v1024.toNat, 0]

def k0_off408 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1030 : Index := Scalar.indexCast v1013
  let c16_215 : Index := 16#32
  ![v1030.toNat, 16]
def k0_off409 (v1017 : BitVec 32) : Fin 2 → Nat :=
  let v1032 : Index := Scalar.indexCast v1017
  let c16_216 : Index := 16#32
  ![v1032.toNat, 16]
def k0_off410 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1038 : Index := Scalar.indexCast v1013
  let c32_217 : Index := 32#32
  ![v1038.toNat, 32]
def k0_off411 (v1017 : BitVec 32) : Fin 2 → Nat :=
  let v1040 : Index := Scalar.indexCast v1017
  let c32_218 : Index := 32#32
  ![v1040.toNat, 32]
def k0_off412 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1046 : Index := Scalar.indexCast v1013
  let c48_219 : Index := 48#32
  ![v1046.toNat, 48]
def k0_off413 (v1017 : BitVec 32) : Fin 2 → Nat :=
  let v1048 : Index := Scalar.indexCast v1017
  let c48_220 : Index := 48#32
  ![v1048.toNat, 48]
def k0_off414 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1054 : Index := Scalar.indexCast v1013
  let c64_221 : Index := 64#32
  ![v1054.toNat, 64]
def k0_off415 (v1017 : BitVec 32) : Fin 2 → Nat :=
  let v1056 : Index := Scalar.indexCast v1017
  let c64_222 : Index := 64#32
  ![v1056.toNat, 64]
def k0_off416 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1062 : Index := Scalar.indexCast v1013
  let c80_223 : Index := 80#32
  ![v1062.toNat, 80]
def k0_off417 (v1017 : BitVec 32) : Fin 2 → Nat :=
  let v1064 : Index := Scalar.indexCast v1017
  let c80_224 : Index := 80#32
  ![v1064.toNat, 80]
def k0_off418 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1070 : Index := Scalar.indexCast v1013
  let c96_225 : Index := 96#32
  ![v1070.toNat, 96]
def k0_off419 (v1017 : BitVec 32) : Fin 2 → Nat :=
  let v1072 : Index := Scalar.indexCast v1017
  let c96_226 : Index := 96#32
  ![v1072.toNat, 96]
def k0_off420 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1078 : Index := Scalar.indexCast v1013
  let c112_227 : Index := 112#32
  ![v1078.toNat, 112]
def k0_off421 (v1017 : BitVec 32) : Fin 2 → Nat :=
  let v1080 : Index := Scalar.indexCast v1017
  let c112_228 : Index := 112#32
  ![v1080.toNat, 112]

def k0_chk21 (v1017 : BitVec 32) : Prop :=
  (∀ a, (k0_off407 v1017) a + S1x16.size a ≤ S512x128.size a) ∧
  (∀ a, (k0_off409 v1017) a + S1x16.size a ≤ S512x128.size a) ∧
  (∀ a, (k0_off411 v1017) a + S1x16.size a ≤ S512x128.size a) ∧
  (∀ a, (k0_off413 v1017) a + S1x16.size a ≤ S512x128.size a) ∧
  (∀ a, (k0_off415 v1017) a + S1x16.size a ≤ S512x128.size a) ∧
  (∀ a, (k0_off417 v1017) a + S1x16.size a ≤ S512x128.size a) ∧
  (∀ a, (k0_off419 v1017) a + S1x16.size a ≤ S512x128.size a) ∧
  (∀ a, (k0_off421 v1017) a + S1x16.size a ≤ S512x128.size a)
theorem k0_off407_inb : ∀ (v1017 : BitVec 32) (k0_hw21 : k0_chk21 v1017), ∀ a, (k0_off407 v1017) a + S1x16.size a ≤ S512x128.size a := fun v1017 k0_hw21 => k0_hw21.1
theorem k0_off409_inb : ∀ (v1017 : BitVec 32) (k0_hw21 : k0_chk21 v1017), ∀ a, (k0_off409 v1017) a + S1x16.size a ≤ S512x128.size a := fun v1017 k0_hw21 => k0_hw21.2.1
theorem k0_off411_inb : ∀ (v1017 : BitVec 32) (k0_hw21 : k0_chk21 v1017), ∀ a, (k0_off411 v1017) a + S1x16.size a ≤ S512x128.size a := fun v1017 k0_hw21 => k0_hw21.2.2.1
theorem k0_off413_inb : ∀ (v1017 : BitVec 32) (k0_hw21 : k0_chk21 v1017), ∀ a, (k0_off413 v1017) a + S1x16.size a ≤ S512x128.size a := fun v1017 k0_hw21 => k0_hw21.2.2.2.1
theorem k0_off415_inb : ∀ (v1017 : BitVec 32) (k0_hw21 : k0_chk21 v1017), ∀ a, (k0_off415 v1017) a + S1x16.size a ≤ S512x128.size a := fun v1017 k0_hw21 => k0_hw21.2.2.2.2.1
theorem k0_off417_inb : ∀ (v1017 : BitVec 32) (k0_hw21 : k0_chk21 v1017), ∀ a, (k0_off417 v1017) a + S1x16.size a ≤ S512x128.size a := fun v1017 k0_hw21 => k0_hw21.2.2.2.2.2.1
theorem k0_off419_inb : ∀ (v1017 : BitVec 32) (k0_hw21 : k0_chk21 v1017), ∀ a, (k0_off419 v1017) a + S1x16.size a ≤ S512x128.size a := fun v1017 k0_hw21 => k0_hw21.2.2.2.2.2.2.1
theorem k0_off421_inb : ∀ (v1017 : BitVec 32) (k0_hw21 : k0_chk21 v1017), ∀ a, (k0_off421 v1017) a + S1x16.size a ≤ S512x128.size a := fun v1017 k0_hw21 => k0_hw21.2.2.2.2.2.2.2

def k0_off422 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1184 : Index := Scalar.indexCast v1015
  let c0_231 : Index := 0#32
  ![v1184.toNat, 0]
def k0_off423 (v1019 : BitVec 32) : Fin 2 → Nat :=
  let v1186 : Index := Scalar.indexCast v1019
  let c0_232 : Index := 0#32
  ![v1186.toNat, 0]

def k0_off424 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1192 : Index := Scalar.indexCast v1015
  let c16_233 : Index := 16#32
  ![v1192.toNat, 16]
def k0_off425 (v1019 : BitVec 32) : Fin 2 → Nat :=
  let v1194 : Index := Scalar.indexCast v1019
  let c16_234 : Index := 16#32
  ![v1194.toNat, 16]
def k0_off426 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1200 : Index := Scalar.indexCast v1015
  let c32_235 : Index := 32#32
  ![v1200.toNat, 32]
def k0_off427 (v1019 : BitVec 32) : Fin 2 → Nat :=
  let v1202 : Index := Scalar.indexCast v1019
  let c32_236 : Index := 32#32
  ![v1202.toNat, 32]
def k0_off428 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1208 : Index := Scalar.indexCast v1015
  let c48_237 : Index := 48#32
  ![v1208.toNat, 48]
def k0_off429 (v1019 : BitVec 32) : Fin 2 → Nat :=
  let v1210 : Index := Scalar.indexCast v1019
  let c48_238 : Index := 48#32
  ![v1210.toNat, 48]
def k0_off430 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1216 : Index := Scalar.indexCast v1015
  let c64_239 : Index := 64#32
  ![v1216.toNat, 64]
def k0_off431 (v1019 : BitVec 32) : Fin 2 → Nat :=
  let v1218 : Index := Scalar.indexCast v1019
  let c64_240 : Index := 64#32
  ![v1218.toNat, 64]
def k0_off432 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1224 : Index := Scalar.indexCast v1015
  let c80_241 : Index := 80#32
  ![v1224.toNat, 80]
def k0_off433 (v1019 : BitVec 32) : Fin 2 → Nat :=
  let v1226 : Index := Scalar.indexCast v1019
  let c80_242 : Index := 80#32
  ![v1226.toNat, 80]
def k0_off434 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1232 : Index := Scalar.indexCast v1015
  let c96_243 : Index := 96#32
  ![v1232.toNat, 96]
def k0_off435 (v1019 : BitVec 32) : Fin 2 → Nat :=
  let v1234 : Index := Scalar.indexCast v1019
  let c96_244 : Index := 96#32
  ![v1234.toNat, 96]
def k0_off436 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1240 : Index := Scalar.indexCast v1015
  let c112_245 : Index := 112#32
  ![v1240.toNat, 112]
def k0_off437 (v1019 : BitVec 32) : Fin 2 → Nat :=
  let v1242 : Index := Scalar.indexCast v1019
  let c112_246 : Index := 112#32
  ![v1242.toNat, 112]

def k0_chk22 (v1019 : BitVec 32) : Prop :=
  (∀ a, (k0_off423 v1019) a + S1x16.size a ≤ S512x128.size a) ∧
  (∀ a, (k0_off425 v1019) a + S1x16.size a ≤ S512x128.size a) ∧
  (∀ a, (k0_off427 v1019) a + S1x16.size a ≤ S512x128.size a) ∧
  (∀ a, (k0_off429 v1019) a + S1x16.size a ≤ S512x128.size a) ∧
  (∀ a, (k0_off431 v1019) a + S1x16.size a ≤ S512x128.size a) ∧
  (∀ a, (k0_off433 v1019) a + S1x16.size a ≤ S512x128.size a) ∧
  (∀ a, (k0_off435 v1019) a + S1x16.size a ≤ S512x128.size a) ∧
  (∀ a, (k0_off437 v1019) a + S1x16.size a ≤ S512x128.size a)
theorem k0_off423_inb : ∀ (v1019 : BitVec 32) (k0_hw22 : k0_chk22 v1019), ∀ a, (k0_off423 v1019) a + S1x16.size a ≤ S512x128.size a := fun v1019 k0_hw22 => k0_hw22.1
theorem k0_off425_inb : ∀ (v1019 : BitVec 32) (k0_hw22 : k0_chk22 v1019), ∀ a, (k0_off425 v1019) a + S1x16.size a ≤ S512x128.size a := fun v1019 k0_hw22 => k0_hw22.2.1
theorem k0_off427_inb : ∀ (v1019 : BitVec 32) (k0_hw22 : k0_chk22 v1019), ∀ a, (k0_off427 v1019) a + S1x16.size a ≤ S512x128.size a := fun v1019 k0_hw22 => k0_hw22.2.2.1
theorem k0_off429_inb : ∀ (v1019 : BitVec 32) (k0_hw22 : k0_chk22 v1019), ∀ a, (k0_off429 v1019) a + S1x16.size a ≤ S512x128.size a := fun v1019 k0_hw22 => k0_hw22.2.2.2.1
theorem k0_off431_inb : ∀ (v1019 : BitVec 32) (k0_hw22 : k0_chk22 v1019), ∀ a, (k0_off431 v1019) a + S1x16.size a ≤ S512x128.size a := fun v1019 k0_hw22 => k0_hw22.2.2.2.2.1
theorem k0_off433_inb : ∀ (v1019 : BitVec 32) (k0_hw22 : k0_chk22 v1019), ∀ a, (k0_off433 v1019) a + S1x16.size a ≤ S512x128.size a := fun v1019 k0_hw22 => k0_hw22.2.2.2.2.2.1
theorem k0_off435_inb : ∀ (v1019 : BitVec 32) (k0_hw22 : k0_chk22 v1019), ∀ a, (k0_off435 v1019) a + S1x16.size a ≤ S512x128.size a := fun v1019 k0_hw22 => k0_hw22.2.2.2.2.2.2.1
theorem k0_off437_inb : ∀ (v1019 : BitVec 32) (k0_hw22 : k0_chk22 v1019), ∀ a, (k0_off437 v1019) a + S1x16.size a ≤ S512x128.size a := fun v1019 k0_hw22 => k0_hw22.2.2.2.2.2.2.2

def k0_off438 (k0_t2 : Fin k0_t2_loop.trips) (c4_i32_208 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v1013 : BitVec 32 := Scalar.addi v79 c4_i32_208
  let v1380 : Index := Scalar.indexCast v1013
  let c0_254 : Index := 0#32
  ![v1380.toNat, 0]
def k0_off439 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1386 : Index := Scalar.indexCast v1013
  let c16_255 : Index := 16#32
  ![v1386.toNat, 16]
def k0_off440 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1392 : Index := Scalar.indexCast v1013
  let c32_256 : Index := 32#32
  ![v1392.toNat, 32]
def k0_off441 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1398 : Index := Scalar.indexCast v1013
  let c48_257 : Index := 48#32
  ![v1398.toNat, 48]
def k0_off442 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1404 : Index := Scalar.indexCast v1013
  let c64_258 : Index := 64#32
  ![v1404.toNat, 64]
def k0_off443 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1410 : Index := Scalar.indexCast v1013
  let c80_259 : Index := 80#32
  ![v1410.toNat, 80]
def k0_off444 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1416 : Index := Scalar.indexCast v1013
  let c96_260 : Index := 96#32
  ![v1416.toNat, 96]
def k0_off445 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_208 : BitVec 32 := 4#32
  let v1013 : BitVec 32 := Scalar.addi v79 c4_i32_208
  let v1422 : Index := Scalar.indexCast v1013
  let c112_261 : Index := 112#32
  ![v1422.toNat, 112]
def k0_off446 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1434 : Index := Scalar.indexCast v1015
  let c0_262 : Index := 0#32
  ![v1434.toNat, 0]
def k0_off447 (v1482 : BitVec 32) : Fin 2 → Nat :=
  let v1489 : Index := Scalar.indexCast v1482
  let c0_275 : Index := 0#32
  ![v1489.toNat, 0]

def k0_off448 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1495 : Index := Scalar.indexCast v1478
  let c16_276 : Index := 16#32
  ![v1495.toNat, 16]
def k0_off449 (v1482 : BitVec 32) : Fin 2 → Nat :=
  let v1497 : Index := Scalar.indexCast v1482
  let c16_277 : Index := 16#32
  ![v1497.toNat, 16]
def k0_off450 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1503 : Index := Scalar.indexCast v1478
  let c32_278 : Index := 32#32
  ![v1503.toNat, 32]
def k0_off451 (v1482 : BitVec 32) : Fin 2 → Nat :=
  let v1505 : Index := Scalar.indexCast v1482
  let c32_279 : Index := 32#32
  ![v1505.toNat, 32]
def k0_off452 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1511 : Index := Scalar.indexCast v1478
  let c48_280 : Index := 48#32
  ![v1511.toNat, 48]
def k0_off453 (v1482 : BitVec 32) : Fin 2 → Nat :=
  let v1513 : Index := Scalar.indexCast v1482
  let c48_281 : Index := 48#32
  ![v1513.toNat, 48]
def k0_off454 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1519 : Index := Scalar.indexCast v1478
  let c64_282 : Index := 64#32
  ![v1519.toNat, 64]
def k0_off455 (v1482 : BitVec 32) : Fin 2 → Nat :=
  let v1521 : Index := Scalar.indexCast v1482
  let c64_283 : Index := 64#32
  ![v1521.toNat, 64]
def k0_off456 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1527 : Index := Scalar.indexCast v1478
  let c80_284 : Index := 80#32
  ![v1527.toNat, 80]
def k0_off457 (v1482 : BitVec 32) : Fin 2 → Nat :=
  let v1529 : Index := Scalar.indexCast v1482
  let c80_285 : Index := 80#32
  ![v1529.toNat, 80]
def k0_off458 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1535 : Index := Scalar.indexCast v1478
  let c96_286 : Index := 96#32
  ![v1535.toNat, 96]
def k0_off459 (v1482 : BitVec 32) : Fin 2 → Nat :=
  let v1537 : Index := Scalar.indexCast v1482
  let c96_287 : Index := 96#32
  ![v1537.toNat, 96]
def k0_off460 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1543 : Index := Scalar.indexCast v1478
  let c112_288 : Index := 112#32
  ![v1543.toNat, 112]
def k0_off461 (v1482 : BitVec 32) : Fin 2 → Nat :=
  let v1545 : Index := Scalar.indexCast v1482
  let c112_289 : Index := 112#32
  ![v1545.toNat, 112]

def k0_chk23 (v1482 : BitVec 32) : Prop :=
  (∀ a, (k0_off447 v1482) a + S1x16.size a ≤ S512x128.size a) ∧
  (∀ a, (k0_off449 v1482) a + S1x16.size a ≤ S512x128.size a) ∧
  (∀ a, (k0_off451 v1482) a + S1x16.size a ≤ S512x128.size a) ∧
  (∀ a, (k0_off453 v1482) a + S1x16.size a ≤ S512x128.size a) ∧
  (∀ a, (k0_off455 v1482) a + S1x16.size a ≤ S512x128.size a) ∧
  (∀ a, (k0_off457 v1482) a + S1x16.size a ≤ S512x128.size a) ∧
  (∀ a, (k0_off459 v1482) a + S1x16.size a ≤ S512x128.size a) ∧
  (∀ a, (k0_off461 v1482) a + S1x16.size a ≤ S512x128.size a)
theorem k0_off447_inb : ∀ (v1482 : BitVec 32) (k0_hw23 : k0_chk23 v1482), ∀ a, (k0_off447 v1482) a + S1x16.size a ≤ S512x128.size a := fun v1482 k0_hw23 => k0_hw23.1
theorem k0_off449_inb : ∀ (v1482 : BitVec 32) (k0_hw23 : k0_chk23 v1482), ∀ a, (k0_off449 v1482) a + S1x16.size a ≤ S512x128.size a := fun v1482 k0_hw23 => k0_hw23.2.1
theorem k0_off451_inb : ∀ (v1482 : BitVec 32) (k0_hw23 : k0_chk23 v1482), ∀ a, (k0_off451 v1482) a + S1x16.size a ≤ S512x128.size a := fun v1482 k0_hw23 => k0_hw23.2.2.1
theorem k0_off453_inb : ∀ (v1482 : BitVec 32) (k0_hw23 : k0_chk23 v1482), ∀ a, (k0_off453 v1482) a + S1x16.size a ≤ S512x128.size a := fun v1482 k0_hw23 => k0_hw23.2.2.2.1
theorem k0_off455_inb : ∀ (v1482 : BitVec 32) (k0_hw23 : k0_chk23 v1482), ∀ a, (k0_off455 v1482) a + S1x16.size a ≤ S512x128.size a := fun v1482 k0_hw23 => k0_hw23.2.2.2.2.1
theorem k0_off457_inb : ∀ (v1482 : BitVec 32) (k0_hw23 : k0_chk23 v1482), ∀ a, (k0_off457 v1482) a + S1x16.size a ≤ S512x128.size a := fun v1482 k0_hw23 => k0_hw23.2.2.2.2.2.1
theorem k0_off459_inb : ∀ (v1482 : BitVec 32) (k0_hw23 : k0_chk23 v1482), ∀ a, (k0_off459 v1482) a + S1x16.size a ≤ S512x128.size a := fun v1482 k0_hw23 => k0_hw23.2.2.2.2.2.2.1
theorem k0_off461_inb : ∀ (v1482 : BitVec 32) (k0_hw23 : k0_chk23 v1482), ∀ a, (k0_off461 v1482) a + S1x16.size a ≤ S512x128.size a := fun v1482 k0_hw23 => k0_hw23.2.2.2.2.2.2.2

def k0_off462 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1649 : Index := Scalar.indexCast v1480
  let c0_292 : Index := 0#32
  ![v1649.toNat, 0]
def k0_off463 (v1484 : BitVec 32) : Fin 2 → Nat :=
  let v1651 : Index := Scalar.indexCast v1484
  let c0_293 : Index := 0#32
  ![v1651.toNat, 0]

def k0_off464 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1657 : Index := Scalar.indexCast v1480
  let c16_294 : Index := 16#32
  ![v1657.toNat, 16]
def k0_off465 (v1484 : BitVec 32) : Fin 2 → Nat :=
  let v1659 : Index := Scalar.indexCast v1484
  let c16_295 : Index := 16#32
  ![v1659.toNat, 16]
def k0_off466 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1665 : Index := Scalar.indexCast v1480
  let c32_296 : Index := 32#32
  ![v1665.toNat, 32]
def k0_off467 (v1484 : BitVec 32) : Fin 2 → Nat :=
  let v1667 : Index := Scalar.indexCast v1484
  let c32_297 : Index := 32#32
  ![v1667.toNat, 32]
def k0_off468 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1673 : Index := Scalar.indexCast v1480
  let c48_298 : Index := 48#32
  ![v1673.toNat, 48]
def k0_off469 (v1484 : BitVec 32) : Fin 2 → Nat :=
  let v1675 : Index := Scalar.indexCast v1484
  let c48_299 : Index := 48#32
  ![v1675.toNat, 48]
def k0_off470 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1681 : Index := Scalar.indexCast v1480
  let c64_300 : Index := 64#32
  ![v1681.toNat, 64]
def k0_off471 (v1484 : BitVec 32) : Fin 2 → Nat :=
  let v1683 : Index := Scalar.indexCast v1484
  let c64_301 : Index := 64#32
  ![v1683.toNat, 64]
def k0_off472 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1689 : Index := Scalar.indexCast v1480
  let c80_302 : Index := 80#32
  ![v1689.toNat, 80]
def k0_off473 (v1484 : BitVec 32) : Fin 2 → Nat :=
  let v1691 : Index := Scalar.indexCast v1484
  let c80_303 : Index := 80#32
  ![v1691.toNat, 80]
def k0_off474 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1697 : Index := Scalar.indexCast v1480
  let c96_304 : Index := 96#32
  ![v1697.toNat, 96]
def k0_off475 (v1484 : BitVec 32) : Fin 2 → Nat :=
  let v1699 : Index := Scalar.indexCast v1484
  let c96_305 : Index := 96#32
  ![v1699.toNat, 96]
def k0_off476 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1705 : Index := Scalar.indexCast v1480
  let c112_306 : Index := 112#32
  ![v1705.toNat, 112]
def k0_off477 (v1484 : BitVec 32) : Fin 2 → Nat :=
  let v1707 : Index := Scalar.indexCast v1484
  let c112_307 : Index := 112#32
  ![v1707.toNat, 112]

def k0_chk24 (v1484 : BitVec 32) : Prop :=
  (∀ a, (k0_off463 v1484) a + S1x16.size a ≤ S512x128.size a) ∧
  (∀ a, (k0_off465 v1484) a + S1x16.size a ≤ S512x128.size a) ∧
  (∀ a, (k0_off467 v1484) a + S1x16.size a ≤ S512x128.size a) ∧
  (∀ a, (k0_off469 v1484) a + S1x16.size a ≤ S512x128.size a) ∧
  (∀ a, (k0_off471 v1484) a + S1x16.size a ≤ S512x128.size a) ∧
  (∀ a, (k0_off473 v1484) a + S1x16.size a ≤ S512x128.size a) ∧
  (∀ a, (k0_off475 v1484) a + S1x16.size a ≤ S512x128.size a) ∧
  (∀ a, (k0_off477 v1484) a + S1x16.size a ≤ S512x128.size a)
theorem k0_off463_inb : ∀ (v1484 : BitVec 32) (k0_hw24 : k0_chk24 v1484), ∀ a, (k0_off463 v1484) a + S1x16.size a ≤ S512x128.size a := fun v1484 k0_hw24 => k0_hw24.1
theorem k0_off465_inb : ∀ (v1484 : BitVec 32) (k0_hw24 : k0_chk24 v1484), ∀ a, (k0_off465 v1484) a + S1x16.size a ≤ S512x128.size a := fun v1484 k0_hw24 => k0_hw24.2.1
theorem k0_off467_inb : ∀ (v1484 : BitVec 32) (k0_hw24 : k0_chk24 v1484), ∀ a, (k0_off467 v1484) a + S1x16.size a ≤ S512x128.size a := fun v1484 k0_hw24 => k0_hw24.2.2.1
theorem k0_off469_inb : ∀ (v1484 : BitVec 32) (k0_hw24 : k0_chk24 v1484), ∀ a, (k0_off469 v1484) a + S1x16.size a ≤ S512x128.size a := fun v1484 k0_hw24 => k0_hw24.2.2.2.1
theorem k0_off471_inb : ∀ (v1484 : BitVec 32) (k0_hw24 : k0_chk24 v1484), ∀ a, (k0_off471 v1484) a + S1x16.size a ≤ S512x128.size a := fun v1484 k0_hw24 => k0_hw24.2.2.2.2.1
theorem k0_off473_inb : ∀ (v1484 : BitVec 32) (k0_hw24 : k0_chk24 v1484), ∀ a, (k0_off473 v1484) a + S1x16.size a ≤ S512x128.size a := fun v1484 k0_hw24 => k0_hw24.2.2.2.2.2.1
theorem k0_off475_inb : ∀ (v1484 : BitVec 32) (k0_hw24 : k0_chk24 v1484), ∀ a, (k0_off475 v1484) a + S1x16.size a ≤ S512x128.size a := fun v1484 k0_hw24 => k0_hw24.2.2.2.2.2.2.1
theorem k0_off477_inb : ∀ (v1484 : BitVec 32) (k0_hw24 : k0_chk24 v1484), ∀ a, (k0_off477 v1484) a + S1x16.size a ≤ S512x128.size a := fun v1484 k0_hw24 => k0_hw24.2.2.2.2.2.2.2

def k0_off478 (k0_t2 : Fin k0_t2_loop.trips) (c6_i32 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v1478 : BitVec 32 := Scalar.addi v79 c6_i32
  let v1845 : Index := Scalar.indexCast v1478
  let c0_315 : Index := 0#32
  ![v1845.toNat, 0]
def k0_off479 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1851 : Index := Scalar.indexCast v1478
  let c16_316 : Index := 16#32
  ![v1851.toNat, 16]
def k0_off480 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1857 : Index := Scalar.indexCast v1478
  let c32_317 : Index := 32#32
  ![v1857.toNat, 32]
def k0_off481 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1863 : Index := Scalar.indexCast v1478
  let c48_318 : Index := 48#32
  ![v1863.toNat, 48]
def k0_off482 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1869 : Index := Scalar.indexCast v1478
  let c64_319 : Index := 64#32
  ![v1869.toNat, 64]
def k0_off483 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1875 : Index := Scalar.indexCast v1478
  let c80_320 : Index := 80#32
  ![v1875.toNat, 80]
def k0_off484 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1881 : Index := Scalar.indexCast v1478
  let c96_321 : Index := 96#32
  ![v1881.toNat, 96]
def k0_off485 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32 : BitVec 32 := 6#32
  let v1478 : BitVec 32 := Scalar.addi v79 c6_i32
  let v1887 : Index := Scalar.indexCast v1478
  let c112_322 : Index := 112#32
  ![v1887.toNat, 112]
def k0_off486 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1899 : Index := Scalar.indexCast v1480
  let c0_323 : Index := 0#32
  ![v1899.toNat, 0]
def k0_off487 (v1947 : BitVec 32) : Fin 2 → Nat :=
  let v1954 : Index := Scalar.indexCast v1947
  let c0_337 : Index := 0#32
  ![v1954.toNat, 0]

def k0_off488 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v1960 : Index := Scalar.indexCast v1943
  let c16_338 : Index := 16#32
  ![v1960.toNat, 16]
def k0_off489 (v1947 : BitVec 32) : Fin 2 → Nat :=
  let v1962 : Index := Scalar.indexCast v1947
  let c16_339 : Index := 16#32
  ![v1962.toNat, 16]
def k0_off490 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v1968 : Index := Scalar.indexCast v1943
  let c32_340 : Index := 32#32
  ![v1968.toNat, 32]
def k0_off491 (v1947 : BitVec 32) : Fin 2 → Nat :=
  let v1970 : Index := Scalar.indexCast v1947
  let c32_341 : Index := 32#32
  ![v1970.toNat, 32]
def k0_off492 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v1976 : Index := Scalar.indexCast v1943
  let c48_342 : Index := 48#32
  ![v1976.toNat, 48]
def k0_off493 (v1947 : BitVec 32) : Fin 2 → Nat :=
  let v1978 : Index := Scalar.indexCast v1947
  let c48_343 : Index := 48#32
  ![v1978.toNat, 48]
def k0_off494 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v1984 : Index := Scalar.indexCast v1943
  let c64_344 : Index := 64#32
  ![v1984.toNat, 64]
def k0_off495 (v1947 : BitVec 32) : Fin 2 → Nat :=
  let v1986 : Index := Scalar.indexCast v1947
  let c64_345 : Index := 64#32
  ![v1986.toNat, 64]
def k0_off496 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v1992 : Index := Scalar.indexCast v1943
  let c80_346 : Index := 80#32
  ![v1992.toNat, 80]
def k0_off497 (v1947 : BitVec 32) : Fin 2 → Nat :=
  let v1994 : Index := Scalar.indexCast v1947
  let c80_347 : Index := 80#32
  ![v1994.toNat, 80]
def k0_off498 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2000 : Index := Scalar.indexCast v1943
  let c96_348 : Index := 96#32
  ![v2000.toNat, 96]
def k0_off499 (v1947 : BitVec 32) : Fin 2 → Nat :=
  let v2002 : Index := Scalar.indexCast v1947
  let c96_349 : Index := 96#32
  ![v2002.toNat, 96]
def k0_off500 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2008 : Index := Scalar.indexCast v1943
  let c112_350 : Index := 112#32
  ![v2008.toNat, 112]
def k0_off501 (v1947 : BitVec 32) : Fin 2 → Nat :=
  let v2010 : Index := Scalar.indexCast v1947
  let c112_351 : Index := 112#32
  ![v2010.toNat, 112]

def k0_chk25 (v1947 : BitVec 32) : Prop :=
  (∀ a, (k0_off487 v1947) a + S1x16.size a ≤ S512x128.size a) ∧
  (∀ a, (k0_off489 v1947) a + S1x16.size a ≤ S512x128.size a) ∧
  (∀ a, (k0_off491 v1947) a + S1x16.size a ≤ S512x128.size a) ∧
  (∀ a, (k0_off493 v1947) a + S1x16.size a ≤ S512x128.size a) ∧
  (∀ a, (k0_off495 v1947) a + S1x16.size a ≤ S512x128.size a) ∧
  (∀ a, (k0_off497 v1947) a + S1x16.size a ≤ S512x128.size a) ∧
  (∀ a, (k0_off499 v1947) a + S1x16.size a ≤ S512x128.size a) ∧
  (∀ a, (k0_off501 v1947) a + S1x16.size a ≤ S512x128.size a)
theorem k0_off487_inb : ∀ (v1947 : BitVec 32) (k0_hw25 : k0_chk25 v1947), ∀ a, (k0_off487 v1947) a + S1x16.size a ≤ S512x128.size a := fun v1947 k0_hw25 => k0_hw25.1
theorem k0_off489_inb : ∀ (v1947 : BitVec 32) (k0_hw25 : k0_chk25 v1947), ∀ a, (k0_off489 v1947) a + S1x16.size a ≤ S512x128.size a := fun v1947 k0_hw25 => k0_hw25.2.1
theorem k0_off491_inb : ∀ (v1947 : BitVec 32) (k0_hw25 : k0_chk25 v1947), ∀ a, (k0_off491 v1947) a + S1x16.size a ≤ S512x128.size a := fun v1947 k0_hw25 => k0_hw25.2.2.1
theorem k0_off493_inb : ∀ (v1947 : BitVec 32) (k0_hw25 : k0_chk25 v1947), ∀ a, (k0_off493 v1947) a + S1x16.size a ≤ S512x128.size a := fun v1947 k0_hw25 => k0_hw25.2.2.2.1
theorem k0_off495_inb : ∀ (v1947 : BitVec 32) (k0_hw25 : k0_chk25 v1947), ∀ a, (k0_off495 v1947) a + S1x16.size a ≤ S512x128.size a := fun v1947 k0_hw25 => k0_hw25.2.2.2.2.1
theorem k0_off497_inb : ∀ (v1947 : BitVec 32) (k0_hw25 : k0_chk25 v1947), ∀ a, (k0_off497 v1947) a + S1x16.size a ≤ S512x128.size a := fun v1947 k0_hw25 => k0_hw25.2.2.2.2.2.1
theorem k0_off499_inb : ∀ (v1947 : BitVec 32) (k0_hw25 : k0_chk25 v1947), ∀ a, (k0_off499 v1947) a + S1x16.size a ≤ S512x128.size a := fun v1947 k0_hw25 => k0_hw25.2.2.2.2.2.2.1
theorem k0_off501_inb : ∀ (v1947 : BitVec 32) (k0_hw25 : k0_chk25 v1947), ∀ a, (k0_off501 v1947) a + S1x16.size a ≤ S512x128.size a := fun v1947 k0_hw25 => k0_hw25.2.2.2.2.2.2.2

def k0_off502 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2114 : Index := Scalar.indexCast v1945
  let c0_354 : Index := 0#32
  ![v2114.toNat, 0]
def k0_off503 (v1949 : BitVec 32) : Fin 2 → Nat :=
  let v2116 : Index := Scalar.indexCast v1949
  let c0_355 : Index := 0#32
  ![v2116.toNat, 0]

def k0_off504 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2122 : Index := Scalar.indexCast v1945
  let c16_356 : Index := 16#32
  ![v2122.toNat, 16]
def k0_off505 (v1949 : BitVec 32) : Fin 2 → Nat :=
  let v2124 : Index := Scalar.indexCast v1949
  let c16_357 : Index := 16#32
  ![v2124.toNat, 16]
def k0_off506 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2130 : Index := Scalar.indexCast v1945
  let c32_358 : Index := 32#32
  ![v2130.toNat, 32]
def k0_off507 (v1949 : BitVec 32) : Fin 2 → Nat :=
  let v2132 : Index := Scalar.indexCast v1949
  let c32_359 : Index := 32#32
  ![v2132.toNat, 32]
def k0_off508 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2138 : Index := Scalar.indexCast v1945
  let c48_360 : Index := 48#32
  ![v2138.toNat, 48]
def k0_off509 (v1949 : BitVec 32) : Fin 2 → Nat :=
  let v2140 : Index := Scalar.indexCast v1949
  let c48_361 : Index := 48#32
  ![v2140.toNat, 48]
def k0_off510 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2146 : Index := Scalar.indexCast v1945
  let c64_362 : Index := 64#32
  ![v2146.toNat, 64]
def k0_off511 (v1949 : BitVec 32) : Fin 2 → Nat :=
  let v2148 : Index := Scalar.indexCast v1949
  let c64_363 : Index := 64#32
  ![v2148.toNat, 64]
def k0_off512 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2154 : Index := Scalar.indexCast v1945
  let c80_364 : Index := 80#32
  ![v2154.toNat, 80]
def k0_off513 (v1949 : BitVec 32) : Fin 2 → Nat :=
  let v2156 : Index := Scalar.indexCast v1949
  let c80_365 : Index := 80#32
  ![v2156.toNat, 80]
def k0_off514 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2162 : Index := Scalar.indexCast v1945
  let c96_366 : Index := 96#32
  ![v2162.toNat, 96]
def k0_off515 (v1949 : BitVec 32) : Fin 2 → Nat :=
  let v2164 : Index := Scalar.indexCast v1949
  let c96_367 : Index := 96#32
  ![v2164.toNat, 96]
def k0_off516 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2170 : Index := Scalar.indexCast v1945
  let c112_368 : Index := 112#32
  ![v2170.toNat, 112]
def k0_off517 (v1949 : BitVec 32) : Fin 2 → Nat :=
  let v2172 : Index := Scalar.indexCast v1949
  let c112_369 : Index := 112#32
  ![v2172.toNat, 112]

def k0_chk26 (v1949 : BitVec 32) : Prop :=
  (∀ a, (k0_off503 v1949) a + S1x16.size a ≤ S512x128.size a) ∧
  (∀ a, (k0_off505 v1949) a + S1x16.size a ≤ S512x128.size a) ∧
  (∀ a, (k0_off507 v1949) a + S1x16.size a ≤ S512x128.size a) ∧
  (∀ a, (k0_off509 v1949) a + S1x16.size a ≤ S512x128.size a) ∧
  (∀ a, (k0_off511 v1949) a + S1x16.size a ≤ S512x128.size a) ∧
  (∀ a, (k0_off513 v1949) a + S1x16.size a ≤ S512x128.size a) ∧
  (∀ a, (k0_off515 v1949) a + S1x16.size a ≤ S512x128.size a) ∧
  (∀ a, (k0_off517 v1949) a + S1x16.size a ≤ S512x128.size a)
theorem k0_off503_inb : ∀ (v1949 : BitVec 32) (k0_hw26 : k0_chk26 v1949), ∀ a, (k0_off503 v1949) a + S1x16.size a ≤ S512x128.size a := fun v1949 k0_hw26 => k0_hw26.1
theorem k0_off505_inb : ∀ (v1949 : BitVec 32) (k0_hw26 : k0_chk26 v1949), ∀ a, (k0_off505 v1949) a + S1x16.size a ≤ S512x128.size a := fun v1949 k0_hw26 => k0_hw26.2.1
theorem k0_off507_inb : ∀ (v1949 : BitVec 32) (k0_hw26 : k0_chk26 v1949), ∀ a, (k0_off507 v1949) a + S1x16.size a ≤ S512x128.size a := fun v1949 k0_hw26 => k0_hw26.2.2.1
theorem k0_off509_inb : ∀ (v1949 : BitVec 32) (k0_hw26 : k0_chk26 v1949), ∀ a, (k0_off509 v1949) a + S1x16.size a ≤ S512x128.size a := fun v1949 k0_hw26 => k0_hw26.2.2.2.1
theorem k0_off511_inb : ∀ (v1949 : BitVec 32) (k0_hw26 : k0_chk26 v1949), ∀ a, (k0_off511 v1949) a + S1x16.size a ≤ S512x128.size a := fun v1949 k0_hw26 => k0_hw26.2.2.2.2.1
theorem k0_off513_inb : ∀ (v1949 : BitVec 32) (k0_hw26 : k0_chk26 v1949), ∀ a, (k0_off513 v1949) a + S1x16.size a ≤ S512x128.size a := fun v1949 k0_hw26 => k0_hw26.2.2.2.2.2.1
theorem k0_off515_inb : ∀ (v1949 : BitVec 32) (k0_hw26 : k0_chk26 v1949), ∀ a, (k0_off515 v1949) a + S1x16.size a ≤ S512x128.size a := fun v1949 k0_hw26 => k0_hw26.2.2.2.2.2.2.1
theorem k0_off517_inb : ∀ (v1949 : BitVec 32) (k0_hw26 : k0_chk26 v1949), ∀ a, (k0_off517 v1949) a + S1x16.size a ≤ S512x128.size a := fun v1949 k0_hw26 => k0_hw26.2.2.2.2.2.2.2

def k0_off518 (k0_t2 : Fin k0_t2_loop.trips) (c8_i32_331 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v1943 : BitVec 32 := Scalar.addi v79 c8_i32_331
  let v2310 : Index := Scalar.indexCast v1943
  let c0_377 : Index := 0#32
  ![v2310.toNat, 0]
def k0_off519 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2316 : Index := Scalar.indexCast v1943
  let c16_378 : Index := 16#32
  ![v2316.toNat, 16]
def k0_off520 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2322 : Index := Scalar.indexCast v1943
  let c32_379 : Index := 32#32
  ![v2322.toNat, 32]
def k0_off521 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2328 : Index := Scalar.indexCast v1943
  let c48_380 : Index := 48#32
  ![v2328.toNat, 48]
def k0_off522 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2334 : Index := Scalar.indexCast v1943
  let c64_381 : Index := 64#32
  ![v2334.toNat, 64]
def k0_off523 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2340 : Index := Scalar.indexCast v1943
  let c80_382 : Index := 80#32
  ![v2340.toNat, 80]
def k0_off524 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2346 : Index := Scalar.indexCast v1943
  let c96_383 : Index := 96#32
  ![v2346.toNat, 96]
def k0_off525 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_331 : BitVec 32 := 8#32
  let v1943 : BitVec 32 := Scalar.addi v79 c8_i32_331
  let v2352 : Index := Scalar.indexCast v1943
  let c112_384 : Index := 112#32
  ![v2352.toNat, 112]
def k0_off526 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2364 : Index := Scalar.indexCast v1945
  let c0_385 : Index := 0#32
  ![v2364.toNat, 0]
def k0_off527 (v2412 : BitVec 32) : Fin 2 → Nat :=
  let v2419 : Index := Scalar.indexCast v2412
  let c0_398 : Index := 0#32
  ![v2419.toNat, 0]

def k0_off528 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2425 : Index := Scalar.indexCast v2408
  let c16_399 : Index := 16#32
  ![v2425.toNat, 16]
def k0_off529 (v2412 : BitVec 32) : Fin 2 → Nat :=
  let v2427 : Index := Scalar.indexCast v2412
  let c16_400 : Index := 16#32
  ![v2427.toNat, 16]
def k0_off530 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2433 : Index := Scalar.indexCast v2408
  let c32_401 : Index := 32#32
  ![v2433.toNat, 32]
def k0_off531 (v2412 : BitVec 32) : Fin 2 → Nat :=
  let v2435 : Index := Scalar.indexCast v2412
  let c32_402 : Index := 32#32
  ![v2435.toNat, 32]
def k0_off532 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2441 : Index := Scalar.indexCast v2408
  let c48_403 : Index := 48#32
  ![v2441.toNat, 48]
def k0_off533 (v2412 : BitVec 32) : Fin 2 → Nat :=
  let v2443 : Index := Scalar.indexCast v2412
  let c48_404 : Index := 48#32
  ![v2443.toNat, 48]
def k0_off534 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2449 : Index := Scalar.indexCast v2408
  let c64_405 : Index := 64#32
  ![v2449.toNat, 64]
def k0_off535 (v2412 : BitVec 32) : Fin 2 → Nat :=
  let v2451 : Index := Scalar.indexCast v2412
  let c64_406 : Index := 64#32
  ![v2451.toNat, 64]
def k0_off536 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2457 : Index := Scalar.indexCast v2408
  let c80_407 : Index := 80#32
  ![v2457.toNat, 80]
def k0_off537 (v2412 : BitVec 32) : Fin 2 → Nat :=
  let v2459 : Index := Scalar.indexCast v2412
  let c80_408 : Index := 80#32
  ![v2459.toNat, 80]
def k0_off538 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2465 : Index := Scalar.indexCast v2408
  let c96_409 : Index := 96#32
  ![v2465.toNat, 96]
def k0_off539 (v2412 : BitVec 32) : Fin 2 → Nat :=
  let v2467 : Index := Scalar.indexCast v2412
  let c96_410 : Index := 96#32
  ![v2467.toNat, 96]
def k0_off540 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2473 : Index := Scalar.indexCast v2408
  let c112_411 : Index := 112#32
  ![v2473.toNat, 112]
def k0_off541 (v2412 : BitVec 32) : Fin 2 → Nat :=
  let v2475 : Index := Scalar.indexCast v2412
  let c112_412 : Index := 112#32
  ![v2475.toNat, 112]

def k0_chk27 (v2412 : BitVec 32) : Prop :=
  (∀ a, (k0_off527 v2412) a + S1x16.size a ≤ S512x128.size a) ∧
  (∀ a, (k0_off529 v2412) a + S1x16.size a ≤ S512x128.size a) ∧
  (∀ a, (k0_off531 v2412) a + S1x16.size a ≤ S512x128.size a) ∧
  (∀ a, (k0_off533 v2412) a + S1x16.size a ≤ S512x128.size a) ∧
  (∀ a, (k0_off535 v2412) a + S1x16.size a ≤ S512x128.size a) ∧
  (∀ a, (k0_off537 v2412) a + S1x16.size a ≤ S512x128.size a) ∧
  (∀ a, (k0_off539 v2412) a + S1x16.size a ≤ S512x128.size a) ∧
  (∀ a, (k0_off541 v2412) a + S1x16.size a ≤ S512x128.size a)
theorem k0_off527_inb : ∀ (v2412 : BitVec 32) (k0_hw27 : k0_chk27 v2412), ∀ a, (k0_off527 v2412) a + S1x16.size a ≤ S512x128.size a := fun v2412 k0_hw27 => k0_hw27.1
theorem k0_off529_inb : ∀ (v2412 : BitVec 32) (k0_hw27 : k0_chk27 v2412), ∀ a, (k0_off529 v2412) a + S1x16.size a ≤ S512x128.size a := fun v2412 k0_hw27 => k0_hw27.2.1
theorem k0_off531_inb : ∀ (v2412 : BitVec 32) (k0_hw27 : k0_chk27 v2412), ∀ a, (k0_off531 v2412) a + S1x16.size a ≤ S512x128.size a := fun v2412 k0_hw27 => k0_hw27.2.2.1
theorem k0_off533_inb : ∀ (v2412 : BitVec 32) (k0_hw27 : k0_chk27 v2412), ∀ a, (k0_off533 v2412) a + S1x16.size a ≤ S512x128.size a := fun v2412 k0_hw27 => k0_hw27.2.2.2.1
theorem k0_off535_inb : ∀ (v2412 : BitVec 32) (k0_hw27 : k0_chk27 v2412), ∀ a, (k0_off535 v2412) a + S1x16.size a ≤ S512x128.size a := fun v2412 k0_hw27 => k0_hw27.2.2.2.2.1
theorem k0_off537_inb : ∀ (v2412 : BitVec 32) (k0_hw27 : k0_chk27 v2412), ∀ a, (k0_off537 v2412) a + S1x16.size a ≤ S512x128.size a := fun v2412 k0_hw27 => k0_hw27.2.2.2.2.2.1
theorem k0_off539_inb : ∀ (v2412 : BitVec 32) (k0_hw27 : k0_chk27 v2412), ∀ a, (k0_off539 v2412) a + S1x16.size a ≤ S512x128.size a := fun v2412 k0_hw27 => k0_hw27.2.2.2.2.2.2.1
theorem k0_off541_inb : ∀ (v2412 : BitVec 32) (k0_hw27 : k0_chk27 v2412), ∀ a, (k0_off541 v2412) a + S1x16.size a ≤ S512x128.size a := fun v2412 k0_hw27 => k0_hw27.2.2.2.2.2.2.2

def k0_off542 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2579 : Index := Scalar.indexCast v2410
  let c0_415 : Index := 0#32
  ![v2579.toNat, 0]
def k0_off543 (v2414 : BitVec 32) : Fin 2 → Nat :=
  let v2581 : Index := Scalar.indexCast v2414
  let c0_416 : Index := 0#32
  ![v2581.toNat, 0]

def k0_off544 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2587 : Index := Scalar.indexCast v2410
  let c16_417 : Index := 16#32
  ![v2587.toNat, 16]
def k0_off545 (v2414 : BitVec 32) : Fin 2 → Nat :=
  let v2589 : Index := Scalar.indexCast v2414
  let c16_418 : Index := 16#32
  ![v2589.toNat, 16]
def k0_off546 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2595 : Index := Scalar.indexCast v2410
  let c32_419 : Index := 32#32
  ![v2595.toNat, 32]
def k0_off547 (v2414 : BitVec 32) : Fin 2 → Nat :=
  let v2597 : Index := Scalar.indexCast v2414
  let c32_420 : Index := 32#32
  ![v2597.toNat, 32]
def k0_off548 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2603 : Index := Scalar.indexCast v2410
  let c48_421 : Index := 48#32
  ![v2603.toNat, 48]
def k0_off549 (v2414 : BitVec 32) : Fin 2 → Nat :=
  let v2605 : Index := Scalar.indexCast v2414
  let c48_422 : Index := 48#32
  ![v2605.toNat, 48]
def k0_off550 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2611 : Index := Scalar.indexCast v2410
  let c64_423 : Index := 64#32
  ![v2611.toNat, 64]
def k0_off551 (v2414 : BitVec 32) : Fin 2 → Nat :=
  let v2613 : Index := Scalar.indexCast v2414
  let c64_424 : Index := 64#32
  ![v2613.toNat, 64]
def k0_off552 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2619 : Index := Scalar.indexCast v2410
  let c80_425 : Index := 80#32
  ![v2619.toNat, 80]
def k0_off553 (v2414 : BitVec 32) : Fin 2 → Nat :=
  let v2621 : Index := Scalar.indexCast v2414
  let c80_426 : Index := 80#32
  ![v2621.toNat, 80]
def k0_off554 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2627 : Index := Scalar.indexCast v2410
  let c96_427 : Index := 96#32
  ![v2627.toNat, 96]
def k0_off555 (v2414 : BitVec 32) : Fin 2 → Nat :=
  let v2629 : Index := Scalar.indexCast v2414
  let c96_428 : Index := 96#32
  ![v2629.toNat, 96]
def k0_off556 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2635 : Index := Scalar.indexCast v2410
  let c112_429 : Index := 112#32
  ![v2635.toNat, 112]
def k0_off557 (v2414 : BitVec 32) : Fin 2 → Nat :=
  let v2637 : Index := Scalar.indexCast v2414
  let c112_430 : Index := 112#32
  ![v2637.toNat, 112]

def k0_chk28 (v2414 : BitVec 32) : Prop :=
  (∀ a, (k0_off543 v2414) a + S1x16.size a ≤ S512x128.size a) ∧
  (∀ a, (k0_off545 v2414) a + S1x16.size a ≤ S512x128.size a) ∧
  (∀ a, (k0_off547 v2414) a + S1x16.size a ≤ S512x128.size a) ∧
  (∀ a, (k0_off549 v2414) a + S1x16.size a ≤ S512x128.size a) ∧
  (∀ a, (k0_off551 v2414) a + S1x16.size a ≤ S512x128.size a) ∧
  (∀ a, (k0_off553 v2414) a + S1x16.size a ≤ S512x128.size a) ∧
  (∀ a, (k0_off555 v2414) a + S1x16.size a ≤ S512x128.size a) ∧
  (∀ a, (k0_off557 v2414) a + S1x16.size a ≤ S512x128.size a)
theorem k0_off543_inb : ∀ (v2414 : BitVec 32) (k0_hw28 : k0_chk28 v2414), ∀ a, (k0_off543 v2414) a + S1x16.size a ≤ S512x128.size a := fun v2414 k0_hw28 => k0_hw28.1
theorem k0_off545_inb : ∀ (v2414 : BitVec 32) (k0_hw28 : k0_chk28 v2414), ∀ a, (k0_off545 v2414) a + S1x16.size a ≤ S512x128.size a := fun v2414 k0_hw28 => k0_hw28.2.1
theorem k0_off547_inb : ∀ (v2414 : BitVec 32) (k0_hw28 : k0_chk28 v2414), ∀ a, (k0_off547 v2414) a + S1x16.size a ≤ S512x128.size a := fun v2414 k0_hw28 => k0_hw28.2.2.1
theorem k0_off549_inb : ∀ (v2414 : BitVec 32) (k0_hw28 : k0_chk28 v2414), ∀ a, (k0_off549 v2414) a + S1x16.size a ≤ S512x128.size a := fun v2414 k0_hw28 => k0_hw28.2.2.2.1
theorem k0_off551_inb : ∀ (v2414 : BitVec 32) (k0_hw28 : k0_chk28 v2414), ∀ a, (k0_off551 v2414) a + S1x16.size a ≤ S512x128.size a := fun v2414 k0_hw28 => k0_hw28.2.2.2.2.1
theorem k0_off553_inb : ∀ (v2414 : BitVec 32) (k0_hw28 : k0_chk28 v2414), ∀ a, (k0_off553 v2414) a + S1x16.size a ≤ S512x128.size a := fun v2414 k0_hw28 => k0_hw28.2.2.2.2.2.1
theorem k0_off555_inb : ∀ (v2414 : BitVec 32) (k0_hw28 : k0_chk28 v2414), ∀ a, (k0_off555 v2414) a + S1x16.size a ≤ S512x128.size a := fun v2414 k0_hw28 => k0_hw28.2.2.2.2.2.2.1
theorem k0_off557_inb : ∀ (v2414 : BitVec 32) (k0_hw28 : k0_chk28 v2414), ∀ a, (k0_off557 v2414) a + S1x16.size a ≤ S512x128.size a := fun v2414 k0_hw28 => k0_hw28.2.2.2.2.2.2.2

def k0_off558 (k0_t2 : Fin k0_t2_loop.trips) (c10_i32 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v2408 : BitVec 32 := Scalar.addi v79 c10_i32
  let v2775 : Index := Scalar.indexCast v2408
  let c0_438 : Index := 0#32
  ![v2775.toNat, 0]
def k0_off559 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2781 : Index := Scalar.indexCast v2408
  let c16_439 : Index := 16#32
  ![v2781.toNat, 16]
def k0_off560 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2787 : Index := Scalar.indexCast v2408
  let c32_440 : Index := 32#32
  ![v2787.toNat, 32]
def k0_off561 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2793 : Index := Scalar.indexCast v2408
  let c48_441 : Index := 48#32
  ![v2793.toNat, 48]
def k0_off562 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2799 : Index := Scalar.indexCast v2408
  let c64_442 : Index := 64#32
  ![v2799.toNat, 64]
def k0_off563 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2805 : Index := Scalar.indexCast v2408
  let c80_443 : Index := 80#32
  ![v2805.toNat, 80]
def k0_off564 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2811 : Index := Scalar.indexCast v2408
  let c96_444 : Index := 96#32
  ![v2811.toNat, 96]
def k0_off565 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32 : BitVec 32 := 10#32
  let v2408 : BitVec 32 := Scalar.addi v79 c10_i32
  let v2817 : Index := Scalar.indexCast v2408
  let c112_445 : Index := 112#32
  ![v2817.toNat, 112]
def k0_off566 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2829 : Index := Scalar.indexCast v2410
  let c0_446 : Index := 0#32
  ![v2829.toNat, 0]
def k0_off567 (v2877 : BitVec 32) : Fin 2 → Nat :=
  let v2884 : Index := Scalar.indexCast v2877
  let c0_459 : Index := 0#32
  ![v2884.toNat, 0]

def k0_off568 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2890 : Index := Scalar.indexCast v2873
  let c16_460 : Index := 16#32
  ![v2890.toNat, 16]
def k0_off569 (v2877 : BitVec 32) : Fin 2 → Nat :=
  let v2892 : Index := Scalar.indexCast v2877
  let c16_461 : Index := 16#32
  ![v2892.toNat, 16]
def k0_off570 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2898 : Index := Scalar.indexCast v2873
  let c32_462 : Index := 32#32
  ![v2898.toNat, 32]
def k0_off571 (v2877 : BitVec 32) : Fin 2 → Nat :=
  let v2900 : Index := Scalar.indexCast v2877
  let c32_463 : Index := 32#32
  ![v2900.toNat, 32]
def k0_off572 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2906 : Index := Scalar.indexCast v2873
  let c48_464 : Index := 48#32
  ![v2906.toNat, 48]
def k0_off573 (v2877 : BitVec 32) : Fin 2 → Nat :=
  let v2908 : Index := Scalar.indexCast v2877
  let c48_465 : Index := 48#32
  ![v2908.toNat, 48]
def k0_off574 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2914 : Index := Scalar.indexCast v2873
  let c64_466 : Index := 64#32
  ![v2914.toNat, 64]
def k0_off575 (v2877 : BitVec 32) : Fin 2 → Nat :=
  let v2916 : Index := Scalar.indexCast v2877
  let c64_467 : Index := 64#32
  ![v2916.toNat, 64]
def k0_off576 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2922 : Index := Scalar.indexCast v2873
  let c80_468 : Index := 80#32
  ![v2922.toNat, 80]
def k0_off577 (v2877 : BitVec 32) : Fin 2 → Nat :=
  let v2924 : Index := Scalar.indexCast v2877
  let c80_469 : Index := 80#32
  ![v2924.toNat, 80]
def k0_off578 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2930 : Index := Scalar.indexCast v2873
  let c96_470 : Index := 96#32
  ![v2930.toNat, 96]
def k0_off579 (v2877 : BitVec 32) : Fin 2 → Nat :=
  let v2932 : Index := Scalar.indexCast v2877
  let c96_471 : Index := 96#32
  ![v2932.toNat, 96]
def k0_off580 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v2938 : Index := Scalar.indexCast v2873
  let c112_472 : Index := 112#32
  ![v2938.toNat, 112]
def k0_off581 (v2877 : BitVec 32) : Fin 2 → Nat :=
  let v2940 : Index := Scalar.indexCast v2877
  let c112_473 : Index := 112#32
  ![v2940.toNat, 112]

def k0_chk29 (v2877 : BitVec 32) : Prop :=
  (∀ a, (k0_off567 v2877) a + S1x16.size a ≤ S512x128.size a) ∧
  (∀ a, (k0_off569 v2877) a + S1x16.size a ≤ S512x128.size a) ∧
  (∀ a, (k0_off571 v2877) a + S1x16.size a ≤ S512x128.size a) ∧
  (∀ a, (k0_off573 v2877) a + S1x16.size a ≤ S512x128.size a) ∧
  (∀ a, (k0_off575 v2877) a + S1x16.size a ≤ S512x128.size a) ∧
  (∀ a, (k0_off577 v2877) a + S1x16.size a ≤ S512x128.size a) ∧
  (∀ a, (k0_off579 v2877) a + S1x16.size a ≤ S512x128.size a) ∧
  (∀ a, (k0_off581 v2877) a + S1x16.size a ≤ S512x128.size a)
theorem k0_off567_inb : ∀ (v2877 : BitVec 32) (k0_hw29 : k0_chk29 v2877), ∀ a, (k0_off567 v2877) a + S1x16.size a ≤ S512x128.size a := fun v2877 k0_hw29 => k0_hw29.1
theorem k0_off569_inb : ∀ (v2877 : BitVec 32) (k0_hw29 : k0_chk29 v2877), ∀ a, (k0_off569 v2877) a + S1x16.size a ≤ S512x128.size a := fun v2877 k0_hw29 => k0_hw29.2.1
theorem k0_off571_inb : ∀ (v2877 : BitVec 32) (k0_hw29 : k0_chk29 v2877), ∀ a, (k0_off571 v2877) a + S1x16.size a ≤ S512x128.size a := fun v2877 k0_hw29 => k0_hw29.2.2.1
theorem k0_off573_inb : ∀ (v2877 : BitVec 32) (k0_hw29 : k0_chk29 v2877), ∀ a, (k0_off573 v2877) a + S1x16.size a ≤ S512x128.size a := fun v2877 k0_hw29 => k0_hw29.2.2.2.1
theorem k0_off575_inb : ∀ (v2877 : BitVec 32) (k0_hw29 : k0_chk29 v2877), ∀ a, (k0_off575 v2877) a + S1x16.size a ≤ S512x128.size a := fun v2877 k0_hw29 => k0_hw29.2.2.2.2.1
theorem k0_off577_inb : ∀ (v2877 : BitVec 32) (k0_hw29 : k0_chk29 v2877), ∀ a, (k0_off577 v2877) a + S1x16.size a ≤ S512x128.size a := fun v2877 k0_hw29 => k0_hw29.2.2.2.2.2.1
theorem k0_off579_inb : ∀ (v2877 : BitVec 32) (k0_hw29 : k0_chk29 v2877), ∀ a, (k0_off579 v2877) a + S1x16.size a ≤ S512x128.size a := fun v2877 k0_hw29 => k0_hw29.2.2.2.2.2.2.1
theorem k0_off581_inb : ∀ (v2877 : BitVec 32) (k0_hw29 : k0_chk29 v2877), ∀ a, (k0_off581 v2877) a + S1x16.size a ≤ S512x128.size a := fun v2877 k0_hw29 => k0_hw29.2.2.2.2.2.2.2

def k0_off582 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3044 : Index := Scalar.indexCast v2875
  let c0_476 : Index := 0#32
  ![v3044.toNat, 0]
def k0_off583 (v2879 : BitVec 32) : Fin 2 → Nat :=
  let v3046 : Index := Scalar.indexCast v2879
  let c0_477 : Index := 0#32
  ![v3046.toNat, 0]

def k0_off584 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3052 : Index := Scalar.indexCast v2875
  let c16_478 : Index := 16#32
  ![v3052.toNat, 16]
def k0_off585 (v2879 : BitVec 32) : Fin 2 → Nat :=
  let v3054 : Index := Scalar.indexCast v2879
  let c16_479 : Index := 16#32
  ![v3054.toNat, 16]
def k0_off586 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3060 : Index := Scalar.indexCast v2875
  let c32_480 : Index := 32#32
  ![v3060.toNat, 32]
def k0_off587 (v2879 : BitVec 32) : Fin 2 → Nat :=
  let v3062 : Index := Scalar.indexCast v2879
  let c32_481 : Index := 32#32
  ![v3062.toNat, 32]
def k0_off588 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3068 : Index := Scalar.indexCast v2875
  let c48_482 : Index := 48#32
  ![v3068.toNat, 48]
def k0_off589 (v2879 : BitVec 32) : Fin 2 → Nat :=
  let v3070 : Index := Scalar.indexCast v2879
  let c48_483 : Index := 48#32
  ![v3070.toNat, 48]
def k0_off590 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3076 : Index := Scalar.indexCast v2875
  let c64_484 : Index := 64#32
  ![v3076.toNat, 64]
def k0_off591 (v2879 : BitVec 32) : Fin 2 → Nat :=
  let v3078 : Index := Scalar.indexCast v2879
  let c64_485 : Index := 64#32
  ![v3078.toNat, 64]
def k0_off592 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3084 : Index := Scalar.indexCast v2875
  let c80_486 : Index := 80#32
  ![v3084.toNat, 80]
def k0_off593 (v2879 : BitVec 32) : Fin 2 → Nat :=
  let v3086 : Index := Scalar.indexCast v2879
  let c80_487 : Index := 80#32
  ![v3086.toNat, 80]
def k0_off594 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3092 : Index := Scalar.indexCast v2875
  let c96_488 : Index := 96#32
  ![v3092.toNat, 96]
def k0_off595 (v2879 : BitVec 32) : Fin 2 → Nat :=
  let v3094 : Index := Scalar.indexCast v2879
  let c96_489 : Index := 96#32
  ![v3094.toNat, 96]
def k0_off596 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3100 : Index := Scalar.indexCast v2875
  let c112_490 : Index := 112#32
  ![v3100.toNat, 112]
def k0_off597 (v2879 : BitVec 32) : Fin 2 → Nat :=
  let v3102 : Index := Scalar.indexCast v2879
  let c112_491 : Index := 112#32
  ![v3102.toNat, 112]

def k0_chk30 (v2879 : BitVec 32) : Prop :=
  (∀ a, (k0_off583 v2879) a + S1x16.size a ≤ S512x128.size a) ∧
  (∀ a, (k0_off585 v2879) a + S1x16.size a ≤ S512x128.size a) ∧
  (∀ a, (k0_off587 v2879) a + S1x16.size a ≤ S512x128.size a) ∧
  (∀ a, (k0_off589 v2879) a + S1x16.size a ≤ S512x128.size a) ∧
  (∀ a, (k0_off591 v2879) a + S1x16.size a ≤ S512x128.size a) ∧
  (∀ a, (k0_off593 v2879) a + S1x16.size a ≤ S512x128.size a) ∧
  (∀ a, (k0_off595 v2879) a + S1x16.size a ≤ S512x128.size a) ∧
  (∀ a, (k0_off597 v2879) a + S1x16.size a ≤ S512x128.size a)
theorem k0_off583_inb : ∀ (v2879 : BitVec 32) (k0_hw30 : k0_chk30 v2879), ∀ a, (k0_off583 v2879) a + S1x16.size a ≤ S512x128.size a := fun v2879 k0_hw30 => k0_hw30.1
theorem k0_off585_inb : ∀ (v2879 : BitVec 32) (k0_hw30 : k0_chk30 v2879), ∀ a, (k0_off585 v2879) a + S1x16.size a ≤ S512x128.size a := fun v2879 k0_hw30 => k0_hw30.2.1
theorem k0_off587_inb : ∀ (v2879 : BitVec 32) (k0_hw30 : k0_chk30 v2879), ∀ a, (k0_off587 v2879) a + S1x16.size a ≤ S512x128.size a := fun v2879 k0_hw30 => k0_hw30.2.2.1
theorem k0_off589_inb : ∀ (v2879 : BitVec 32) (k0_hw30 : k0_chk30 v2879), ∀ a, (k0_off589 v2879) a + S1x16.size a ≤ S512x128.size a := fun v2879 k0_hw30 => k0_hw30.2.2.2.1
theorem k0_off591_inb : ∀ (v2879 : BitVec 32) (k0_hw30 : k0_chk30 v2879), ∀ a, (k0_off591 v2879) a + S1x16.size a ≤ S512x128.size a := fun v2879 k0_hw30 => k0_hw30.2.2.2.2.1
theorem k0_off593_inb : ∀ (v2879 : BitVec 32) (k0_hw30 : k0_chk30 v2879), ∀ a, (k0_off593 v2879) a + S1x16.size a ≤ S512x128.size a := fun v2879 k0_hw30 => k0_hw30.2.2.2.2.2.1
theorem k0_off595_inb : ∀ (v2879 : BitVec 32) (k0_hw30 : k0_chk30 v2879), ∀ a, (k0_off595 v2879) a + S1x16.size a ≤ S512x128.size a := fun v2879 k0_hw30 => k0_hw30.2.2.2.2.2.2.1
theorem k0_off597_inb : ∀ (v2879 : BitVec 32) (k0_hw30 : k0_chk30 v2879), ∀ a, (k0_off597 v2879) a + S1x16.size a ≤ S512x128.size a := fun v2879 k0_hw30 => k0_hw30.2.2.2.2.2.2.2

def k0_off598 (k0_t2 : Fin k0_t2_loop.trips) (c12_i32 : BitVec 32) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let v2873 : BitVec 32 := Scalar.addi v79 c12_i32
  let v3240 : Index := Scalar.indexCast v2873
  let c0_499 : Index := 0#32
  ![v3240.toNat, 0]
def k0_off599 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3246 : Index := Scalar.indexCast v2873
  let c16_500 : Index := 16#32
  ![v3246.toNat, 16]
def k0_off600 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3252 : Index := Scalar.indexCast v2873
  let c32_501 : Index := 32#32
  ![v3252.toNat, 32]
def k0_off601 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3258 : Index := Scalar.indexCast v2873
  let c48_502 : Index := 48#32
  ![v3258.toNat, 48]
def k0_off602 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3264 : Index := Scalar.indexCast v2873
  let c64_503 : Index := 64#32
  ![v3264.toNat, 64]
def k0_off603 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3270 : Index := Scalar.indexCast v2873
  let c80_504 : Index := 80#32
  ![v3270.toNat, 80]
def k0_off604 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3276 : Index := Scalar.indexCast v2873
  let c96_505 : Index := 96#32
  ![v3276.toNat, 96]
def k0_off605 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32 : BitVec 32 := 12#32
  let v2873 : BitVec 32 := Scalar.addi v79 c12_i32
  let v3282 : Index := Scalar.indexCast v2873
  let c112_506 : Index := 112#32
  ![v3282.toNat, 112]
def k0_off606 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3294 : Index := Scalar.indexCast v2875
  let c0_507 : Index := 0#32
  ![v3294.toNat, 0]
def k0_off607 (v3342 : BitVec 32) : Fin 2 → Nat :=
  let v3349 : Index := Scalar.indexCast v3342
  let c0_520 : Index := 0#32
  ![v3349.toNat, 0]

def k0_off608 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3355 : Index := Scalar.indexCast v3338
  let c16_521 : Index := 16#32
  ![v3355.toNat, 16]
def k0_off609 (v3342 : BitVec 32) : Fin 2 → Nat :=
  let v3357 : Index := Scalar.indexCast v3342
  let c16_522 : Index := 16#32
  ![v3357.toNat, 16]
def k0_off610 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3363 : Index := Scalar.indexCast v3338
  let c32_523 : Index := 32#32
  ![v3363.toNat, 32]
def k0_off611 (v3342 : BitVec 32) : Fin 2 → Nat :=
  let v3365 : Index := Scalar.indexCast v3342
  let c32_524 : Index := 32#32
  ![v3365.toNat, 32]
def k0_off612 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3371 : Index := Scalar.indexCast v3338
  let c48_525 : Index := 48#32
  ![v3371.toNat, 48]
def k0_off613 (v3342 : BitVec 32) : Fin 2 → Nat :=
  let v3373 : Index := Scalar.indexCast v3342
  let c48_526 : Index := 48#32
  ![v3373.toNat, 48]
def k0_off614 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3379 : Index := Scalar.indexCast v3338
  let c64_527 : Index := 64#32
  ![v3379.toNat, 64]
def k0_off615 (v3342 : BitVec 32) : Fin 2 → Nat :=
  let v3381 : Index := Scalar.indexCast v3342
  let c64_528 : Index := 64#32
  ![v3381.toNat, 64]
def k0_off616 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3387 : Index := Scalar.indexCast v3338
  let c80_529 : Index := 80#32
  ![v3387.toNat, 80]
def k0_off617 (v3342 : BitVec 32) : Fin 2 → Nat :=
  let v3389 : Index := Scalar.indexCast v3342
  let c80_530 : Index := 80#32
  ![v3389.toNat, 80]
def k0_off618 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3395 : Index := Scalar.indexCast v3338
  let c96_531 : Index := 96#32
  ![v3395.toNat, 96]
def k0_off619 (v3342 : BitVec 32) : Fin 2 → Nat :=
  let v3397 : Index := Scalar.indexCast v3342
  let c96_532 : Index := 96#32
  ![v3397.toNat, 96]
def k0_off620 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3403 : Index := Scalar.indexCast v3338
  let c112_533 : Index := 112#32
  ![v3403.toNat, 112]
def k0_off621 (v3342 : BitVec 32) : Fin 2 → Nat :=
  let v3405 : Index := Scalar.indexCast v3342
  let c112_534 : Index := 112#32
  ![v3405.toNat, 112]

def k0_chk31 (v3342 : BitVec 32) : Prop :=
  (∀ a, (k0_off607 v3342) a + S1x16.size a ≤ S512x128.size a) ∧
  (∀ a, (k0_off609 v3342) a + S1x16.size a ≤ S512x128.size a) ∧
  (∀ a, (k0_off611 v3342) a + S1x16.size a ≤ S512x128.size a) ∧
  (∀ a, (k0_off613 v3342) a + S1x16.size a ≤ S512x128.size a) ∧
  (∀ a, (k0_off615 v3342) a + S1x16.size a ≤ S512x128.size a) ∧
  (∀ a, (k0_off617 v3342) a + S1x16.size a ≤ S512x128.size a) ∧
  (∀ a, (k0_off619 v3342) a + S1x16.size a ≤ S512x128.size a) ∧
  (∀ a, (k0_off621 v3342) a + S1x16.size a ≤ S512x128.size a)
theorem k0_off607_inb : ∀ (v3342 : BitVec 32) (k0_hw31 : k0_chk31 v3342), ∀ a, (k0_off607 v3342) a + S1x16.size a ≤ S512x128.size a := fun v3342 k0_hw31 => k0_hw31.1
theorem k0_off609_inb : ∀ (v3342 : BitVec 32) (k0_hw31 : k0_chk31 v3342), ∀ a, (k0_off609 v3342) a + S1x16.size a ≤ S512x128.size a := fun v3342 k0_hw31 => k0_hw31.2.1
theorem k0_off611_inb : ∀ (v3342 : BitVec 32) (k0_hw31 : k0_chk31 v3342), ∀ a, (k0_off611 v3342) a + S1x16.size a ≤ S512x128.size a := fun v3342 k0_hw31 => k0_hw31.2.2.1
theorem k0_off613_inb : ∀ (v3342 : BitVec 32) (k0_hw31 : k0_chk31 v3342), ∀ a, (k0_off613 v3342) a + S1x16.size a ≤ S512x128.size a := fun v3342 k0_hw31 => k0_hw31.2.2.2.1
theorem k0_off615_inb : ∀ (v3342 : BitVec 32) (k0_hw31 : k0_chk31 v3342), ∀ a, (k0_off615 v3342) a + S1x16.size a ≤ S512x128.size a := fun v3342 k0_hw31 => k0_hw31.2.2.2.2.1
theorem k0_off617_inb : ∀ (v3342 : BitVec 32) (k0_hw31 : k0_chk31 v3342), ∀ a, (k0_off617 v3342) a + S1x16.size a ≤ S512x128.size a := fun v3342 k0_hw31 => k0_hw31.2.2.2.2.2.1
theorem k0_off619_inb : ∀ (v3342 : BitVec 32) (k0_hw31 : k0_chk31 v3342), ∀ a, (k0_off619 v3342) a + S1x16.size a ≤ S512x128.size a := fun v3342 k0_hw31 => k0_hw31.2.2.2.2.2.2.1
theorem k0_off621_inb : ∀ (v3342 : BitVec 32) (k0_hw31 : k0_chk31 v3342), ∀ a, (k0_off621 v3342) a + S1x16.size a ≤ S512x128.size a := fun v3342 k0_hw31 => k0_hw31.2.2.2.2.2.2.2

def k0_off622 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3509 : Index := Scalar.indexCast v3340
  let c0_537 : Index := 0#32
  ![v3509.toNat, 0]
def k0_off623 (v3344 : BitVec 32) : Fin 2 → Nat :=
  let v3511 : Index := Scalar.indexCast v3344
  let c0_538 : Index := 0#32
  ![v3511.toNat, 0]

def k0_off624 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3517 : Index := Scalar.indexCast v3340
  let c16_539 : Index := 16#32
  ![v3517.toNat, 16]
def k0_off625 (v3344 : BitVec 32) : Fin 2 → Nat :=
  let v3519 : Index := Scalar.indexCast v3344
  let c16_540 : Index := 16#32
  ![v3519.toNat, 16]
def k0_off626 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3525 : Index := Scalar.indexCast v3340
  let c32_541 : Index := 32#32
  ![v3525.toNat, 32]
def k0_off627 (v3344 : BitVec 32) : Fin 2 → Nat :=
  let v3527 : Index := Scalar.indexCast v3344
  let c32_542 : Index := 32#32
  ![v3527.toNat, 32]
def k0_off628 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3533 : Index := Scalar.indexCast v3340
  let c48_543 : Index := 48#32
  ![v3533.toNat, 48]
def k0_off629 (v3344 : BitVec 32) : Fin 2 → Nat :=
  let v3535 : Index := Scalar.indexCast v3344
  let c48_544 : Index := 48#32
  ![v3535.toNat, 48]
def k0_off630 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3541 : Index := Scalar.indexCast v3340
  let c64_545 : Index := 64#32
  ![v3541.toNat, 64]
def k0_off631 (v3344 : BitVec 32) : Fin 2 → Nat :=
  let v3543 : Index := Scalar.indexCast v3344
  let c64_546 : Index := 64#32
  ![v3543.toNat, 64]
def k0_off632 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3549 : Index := Scalar.indexCast v3340
  let c80_547 : Index := 80#32
  ![v3549.toNat, 80]
def k0_off633 (v3344 : BitVec 32) : Fin 2 → Nat :=
  let v3551 : Index := Scalar.indexCast v3344
  let c80_548 : Index := 80#32
  ![v3551.toNat, 80]
def k0_off634 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3557 : Index := Scalar.indexCast v3340
  let c96_549 : Index := 96#32
  ![v3557.toNat, 96]
def k0_off635 (v3344 : BitVec 32) : Fin 2 → Nat :=
  let v3559 : Index := Scalar.indexCast v3344
  let c96_550 : Index := 96#32
  ![v3559.toNat, 96]
def k0_off636 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3565 : Index := Scalar.indexCast v3340
  let c112_551 : Index := 112#32
  ![v3565.toNat, 112]
def k0_off637 (v3344 : BitVec 32) : Fin 2 → Nat :=
  let v3567 : Index := Scalar.indexCast v3344
  let c112_552 : Index := 112#32
  ![v3567.toNat, 112]

def k0_chk32 (v3344 : BitVec 32) : Prop :=
  (∀ a, (k0_off623 v3344) a + S1x16.size a ≤ S512x128.size a) ∧
  (∀ a, (k0_off625 v3344) a + S1x16.size a ≤ S512x128.size a) ∧
  (∀ a, (k0_off627 v3344) a + S1x16.size a ≤ S512x128.size a) ∧
  (∀ a, (k0_off629 v3344) a + S1x16.size a ≤ S512x128.size a) ∧
  (∀ a, (k0_off631 v3344) a + S1x16.size a ≤ S512x128.size a) ∧
  (∀ a, (k0_off633 v3344) a + S1x16.size a ≤ S512x128.size a) ∧
  (∀ a, (k0_off635 v3344) a + S1x16.size a ≤ S512x128.size a) ∧
  (∀ a, (k0_off637 v3344) a + S1x16.size a ≤ S512x128.size a)
theorem k0_off623_inb : ∀ (v3344 : BitVec 32) (k0_hw32 : k0_chk32 v3344), ∀ a, (k0_off623 v3344) a + S1x16.size a ≤ S512x128.size a := fun v3344 k0_hw32 => k0_hw32.1
theorem k0_off625_inb : ∀ (v3344 : BitVec 32) (k0_hw32 : k0_chk32 v3344), ∀ a, (k0_off625 v3344) a + S1x16.size a ≤ S512x128.size a := fun v3344 k0_hw32 => k0_hw32.2.1
theorem k0_off627_inb : ∀ (v3344 : BitVec 32) (k0_hw32 : k0_chk32 v3344), ∀ a, (k0_off627 v3344) a + S1x16.size a ≤ S512x128.size a := fun v3344 k0_hw32 => k0_hw32.2.2.1
theorem k0_off629_inb : ∀ (v3344 : BitVec 32) (k0_hw32 : k0_chk32 v3344), ∀ a, (k0_off629 v3344) a + S1x16.size a ≤ S512x128.size a := fun v3344 k0_hw32 => k0_hw32.2.2.2.1
theorem k0_off631_inb : ∀ (v3344 : BitVec 32) (k0_hw32 : k0_chk32 v3344), ∀ a, (k0_off631 v3344) a + S1x16.size a ≤ S512x128.size a := fun v3344 k0_hw32 => k0_hw32.2.2.2.2.1
theorem k0_off633_inb : ∀ (v3344 : BitVec 32) (k0_hw32 : k0_chk32 v3344), ∀ a, (k0_off633 v3344) a + S1x16.size a ≤ S512x128.size a := fun v3344 k0_hw32 => k0_hw32.2.2.2.2.2.1
theorem k0_off635_inb : ∀ (v3344 : BitVec 32) (k0_hw32 : k0_chk32 v3344), ∀ a, (k0_off635 v3344) a + S1x16.size a ≤ S512x128.size a := fun v3344 k0_hw32 => k0_hw32.2.2.2.2.2.2.1
theorem k0_off637_inb : ∀ (v3344 : BitVec 32) (k0_hw32 : k0_chk32 v3344), ∀ a, (k0_off637 v3344) a + S1x16.size a ≤ S512x128.size a := fun v3344 k0_hw32 => k0_hw32.2.2.2.2.2.2.2

def k0_off638 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3705 : Index := Scalar.indexCast v3338
  let c0_560 : Index := 0#32
  ![v3705.toNat, 0]
def k0_off639 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3711 : Index := Scalar.indexCast v3338
  let c16_561 : Index := 16#32
  ![v3711.toNat, 16]
def k0_off640 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3717 : Index := Scalar.indexCast v3338
  let c32_562 : Index := 32#32
  ![v3717.toNat, 32]
def k0_off641 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3723 : Index := Scalar.indexCast v3338
  let c48_563 : Index := 48#32
  ![v3723.toNat, 48]
def k0_off642 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3729 : Index := Scalar.indexCast v3338
  let c64_564 : Index := 64#32
  ![v3729.toNat, 64]
def k0_off643 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3735 : Index := Scalar.indexCast v3338
  let c80_565 : Index := 80#32
  ![v3735.toNat, 80]
def k0_off644 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3741 : Index := Scalar.indexCast v3338
  let c96_566 : Index := 96#32
  ![v3741.toNat, 96]
def k0_off645 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32 : BitVec 32 := 14#32
  let v3338 : BitVec 32 := Scalar.addi v79 c14_i32
  let v3747 : Index := Scalar.indexCast v3338
  let c112_567 : Index := 112#32
  ![v3747.toNat, 112]
def k0_off646 (k0_t2 : Fin k0_t2_loop.trips) : Fin 2 → Nat :=
  let c0_i32_45 : BitVec 32 := 0#32
  let c1_i32_47 : BitVec 32 := 1#32
  let arg28 : BitVec 32 := Scf.iv c0_i32_45 c1_i32_47 k0_t2
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3759 : Index := Scalar.indexCast v3340
  let c0_568 : Index := 0#32
  ![v3759.toNat, 0]
@[reducible] def k0_t3_loop : Scf.Loop 32 :=
  let c0_i32_53 : BitVec 32 := 0#32
  let c24_i32 : BitVec 32 := 24#32
  let v58 : BitVec 32 := Scalar.addi c0_i32_53 c24_i32
  let c1_i32_54 : BitVec 32 := 1#32
  ⟨c0_i32_53, v58, c1_i32_54⟩
def k0_off647 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_90 : BitVec 32 := 0#32
  ![v2.toNat, 0]
def k0_off648 (k0_t3 : Fin k0_t3_loop.trips) (c0_i32_86 : BitVec 32) : Fin 1 → Nat :=
  let c4_i32_84 : BitVec 32 := 4#32
  let c0_i32_53 : BitVec 32 := 0#32
  let c1_i32_54 : BitVec 32 := 1#32
  let arg28 : BitVec 32 := Scf.iv c0_i32_53 c1_i32_54 k0_t3
  let v79 : BitVec 32 := Scalar.muli c4_i32_84 arg28
  let c2_i32_85 : BitVec 32 := 2#32
  let v80 : BitVec 32 := Scalar.addi v79 c2_i32_85
  let v81 : BitVec 32 := Scalar.addi v80 c0_i32_86
  let c2_i32_92 : BitVec 32 := 2#32
  let v86 : BitVec 32 := Scalar.addi v81 c2_i32_92
  let c64_i32_93 : BitVec 32 := 64#32
  let v87 : BitVec 32 := Scalar.muli v86 c64_i32_93
  ![v87.toNat]
@[reducible] def k0_t4_loop : Scf.Loop 32 :=
  let c0_i32_98 : BitVec 32 := 0#32
  let c4_i32_99 : BitVec 32 := 4#32
  let v91 : BitVec 32 := Scalar.addi c0_i32_98 c4_i32_99
  let c1_i32_100 : BitVec 32 := 1#32
  ⟨c0_i32_98, v91, c1_i32_100⟩
def k0_off649 (k0_t3 : Fin k0_t3_loop.trips) (k0_t4 : Fin k0_t4_loop.trips) : Fin 1 → Nat :=
  let c4_i32_84 : BitVec 32 := 4#32
  let c0_i32_53 : BitVec 32 := 0#32
  let c1_i32_54 : BitVec 32 := 1#32
  let arg28 : BitVec 32 := Scf.iv c0_i32_53 c1_i32_54 k0_t3
  let v79 : BitVec 32 := Scalar.muli c4_i32_84 arg28
  let c2_i32_85 : BitVec 32 := 2#32
  let v80 : BitVec 32 := Scalar.addi v79 c2_i32_85
  let c0_i32_86 : BitVec 32 := 0#32
  let v81 : BitVec 32 := Scalar.addi v80 c0_i32_86
  let c64_i32_96 : BitVec 32 := 64#32
  let v90 : BitVec 32 := Scalar.muli v81 c64_i32_96
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v148 : BitVec 32 := Scalar.addi v90 v147
  let v149 : Index := Scalar.indexCast v148
  ![v149.toNat]
def k0_off650 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v160 : Index := Scalar.indexCast v151
  let c0_171 : Index := 0#32
  ![v160.toNat, 0]
def k0_off651 (v155 : BitVec 32) : Fin 2 → Nat :=
  let v162 : Index := Scalar.indexCast v155
  let c0_172 : Index := 0#32
  ![v162.toNat, 0]

def k0_off652 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v168 : Index := Scalar.indexCast v151
  let c16_173 : Index := 16#32
  ![v168.toNat, 16]
def k0_off653 (v155 : BitVec 32) : Fin 2 → Nat :=
  let v170 : Index := Scalar.indexCast v155
  let c16_174 : Index := 16#32
  ![v170.toNat, 16]
def k0_off654 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v176 : Index := Scalar.indexCast v151
  let c32_175 : Index := 32#32
  ![v176.toNat, 32]
def k0_off655 (v155 : BitVec 32) : Fin 2 → Nat :=
  let v178 : Index := Scalar.indexCast v155
  let c32_176 : Index := 32#32
  ![v178.toNat, 32]
def k0_off656 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v184 : Index := Scalar.indexCast v151
  let c48_177 : Index := 48#32
  ![v184.toNat, 48]
def k0_off657 (v155 : BitVec 32) : Fin 2 → Nat :=
  let v186 : Index := Scalar.indexCast v155
  let c48_178 : Index := 48#32
  ![v186.toNat, 48]
def k0_off658 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v192 : Index := Scalar.indexCast v151
  let c64_179 : Index := 64#32
  ![v192.toNat, 64]
def k0_off659 (v155 : BitVec 32) : Fin 2 → Nat :=
  let v194 : Index := Scalar.indexCast v155
  let c64_180 : Index := 64#32
  ![v194.toNat, 64]
def k0_off660 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v200 : Index := Scalar.indexCast v151
  let c80_181 : Index := 80#32
  ![v200.toNat, 80]
def k0_off661 (v155 : BitVec 32) : Fin 2 → Nat :=
  let v202 : Index := Scalar.indexCast v155
  let c80_182 : Index := 80#32
  ![v202.toNat, 80]
def k0_off662 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v208 : Index := Scalar.indexCast v151
  let c96_183 : Index := 96#32
  ![v208.toNat, 96]
def k0_off663 (v155 : BitVec 32) : Fin 2 → Nat :=
  let v210 : Index := Scalar.indexCast v155
  let c96_184 : Index := 96#32
  ![v210.toNat, 96]
def k0_off664 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v216 : Index := Scalar.indexCast v151
  let c112_185 : Index := 112#32
  ![v216.toNat, 112]
def k0_off665 (v155 : BitVec 32) : Fin 2 → Nat :=
  let v218 : Index := Scalar.indexCast v155
  let c112_186 : Index := 112#32
  ![v218.toNat, 112]

def k0_chk33 (v155 : BitVec 32) : Prop :=
  (∀ a, (k0_off651 v155) a + S1x16.size a ≤ S512x128.size a) ∧
  (∀ a, (k0_off653 v155) a + S1x16.size a ≤ S512x128.size a) ∧
  (∀ a, (k0_off655 v155) a + S1x16.size a ≤ S512x128.size a) ∧
  (∀ a, (k0_off657 v155) a + S1x16.size a ≤ S512x128.size a) ∧
  (∀ a, (k0_off659 v155) a + S1x16.size a ≤ S512x128.size a) ∧
  (∀ a, (k0_off661 v155) a + S1x16.size a ≤ S512x128.size a) ∧
  (∀ a, (k0_off663 v155) a + S1x16.size a ≤ S512x128.size a) ∧
  (∀ a, (k0_off665 v155) a + S1x16.size a ≤ S512x128.size a)
theorem k0_off651_inb : ∀ (v155 : BitVec 32) (k0_hw33 : k0_chk33 v155), ∀ a, (k0_off651 v155) a + S1x16.size a ≤ S512x128.size a := fun v155 k0_hw33 => k0_hw33.1
theorem k0_off653_inb : ∀ (v155 : BitVec 32) (k0_hw33 : k0_chk33 v155), ∀ a, (k0_off653 v155) a + S1x16.size a ≤ S512x128.size a := fun v155 k0_hw33 => k0_hw33.2.1
theorem k0_off655_inb : ∀ (v155 : BitVec 32) (k0_hw33 : k0_chk33 v155), ∀ a, (k0_off655 v155) a + S1x16.size a ≤ S512x128.size a := fun v155 k0_hw33 => k0_hw33.2.2.1
theorem k0_off657_inb : ∀ (v155 : BitVec 32) (k0_hw33 : k0_chk33 v155), ∀ a, (k0_off657 v155) a + S1x16.size a ≤ S512x128.size a := fun v155 k0_hw33 => k0_hw33.2.2.2.1
theorem k0_off659_inb : ∀ (v155 : BitVec 32) (k0_hw33 : k0_chk33 v155), ∀ a, (k0_off659 v155) a + S1x16.size a ≤ S512x128.size a := fun v155 k0_hw33 => k0_hw33.2.2.2.2.1
theorem k0_off661_inb : ∀ (v155 : BitVec 32) (k0_hw33 : k0_chk33 v155), ∀ a, (k0_off661 v155) a + S1x16.size a ≤ S512x128.size a := fun v155 k0_hw33 => k0_hw33.2.2.2.2.2.1
theorem k0_off663_inb : ∀ (v155 : BitVec 32) (k0_hw33 : k0_chk33 v155), ∀ a, (k0_off663 v155) a + S1x16.size a ≤ S512x128.size a := fun v155 k0_hw33 => k0_hw33.2.2.2.2.2.2.1
theorem k0_off665_inb : ∀ (v155 : BitVec 32) (k0_hw33 : k0_chk33 v155), ∀ a, (k0_off665 v155) a + S1x16.size a ≤ S512x128.size a := fun v155 k0_hw33 => k0_hw33.2.2.2.2.2.2.2

def k0_off666 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v322 : Index := Scalar.indexCast v153
  let c0_189 : Index := 0#32
  ![v322.toNat, 0]
def k0_off667 (v157 : BitVec 32) : Fin 2 → Nat :=
  let v324 : Index := Scalar.indexCast v157
  let c0_190 : Index := 0#32
  ![v324.toNat, 0]

def k0_off668 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v330 : Index := Scalar.indexCast v153
  let c16_191 : Index := 16#32
  ![v330.toNat, 16]
def k0_off669 (v157 : BitVec 32) : Fin 2 → Nat :=
  let v332 : Index := Scalar.indexCast v157
  let c16_192 : Index := 16#32
  ![v332.toNat, 16]
def k0_off670 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v338 : Index := Scalar.indexCast v153
  let c32_193 : Index := 32#32
  ![v338.toNat, 32]
def k0_off671 (v157 : BitVec 32) : Fin 2 → Nat :=
  let v340 : Index := Scalar.indexCast v157
  let c32_194 : Index := 32#32
  ![v340.toNat, 32]
def k0_off672 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v346 : Index := Scalar.indexCast v153
  let c48_195 : Index := 48#32
  ![v346.toNat, 48]
def k0_off673 (v157 : BitVec 32) : Fin 2 → Nat :=
  let v348 : Index := Scalar.indexCast v157
  let c48_196 : Index := 48#32
  ![v348.toNat, 48]
def k0_off674 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v354 : Index := Scalar.indexCast v153
  let c64_197 : Index := 64#32
  ![v354.toNat, 64]
def k0_off675 (v157 : BitVec 32) : Fin 2 → Nat :=
  let v356 : Index := Scalar.indexCast v157
  let c64_198 : Index := 64#32
  ![v356.toNat, 64]
def k0_off676 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v362 : Index := Scalar.indexCast v153
  let c80_199 : Index := 80#32
  ![v362.toNat, 80]
def k0_off677 (v157 : BitVec 32) : Fin 2 → Nat :=
  let v364 : Index := Scalar.indexCast v157
  let c80_200 : Index := 80#32
  ![v364.toNat, 80]
def k0_off678 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v370 : Index := Scalar.indexCast v153
  let c96_201 : Index := 96#32
  ![v370.toNat, 96]
def k0_off679 (v157 : BitVec 32) : Fin 2 → Nat :=
  let v372 : Index := Scalar.indexCast v157
  let c96_202 : Index := 96#32
  ![v372.toNat, 96]
def k0_off680 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v378 : Index := Scalar.indexCast v153
  let c112_203 : Index := 112#32
  ![v378.toNat, 112]
def k0_off681 (v157 : BitVec 32) : Fin 2 → Nat :=
  let v380 : Index := Scalar.indexCast v157
  let c112_204 : Index := 112#32
  ![v380.toNat, 112]

def k0_chk34 (v157 : BitVec 32) : Prop :=
  (∀ a, (k0_off667 v157) a + S1x16.size a ≤ S512x128.size a) ∧
  (∀ a, (k0_off669 v157) a + S1x16.size a ≤ S512x128.size a) ∧
  (∀ a, (k0_off671 v157) a + S1x16.size a ≤ S512x128.size a) ∧
  (∀ a, (k0_off673 v157) a + S1x16.size a ≤ S512x128.size a) ∧
  (∀ a, (k0_off675 v157) a + S1x16.size a ≤ S512x128.size a) ∧
  (∀ a, (k0_off677 v157) a + S1x16.size a ≤ S512x128.size a) ∧
  (∀ a, (k0_off679 v157) a + S1x16.size a ≤ S512x128.size a) ∧
  (∀ a, (k0_off681 v157) a + S1x16.size a ≤ S512x128.size a)
theorem k0_off667_inb : ∀ (v157 : BitVec 32) (k0_hw34 : k0_chk34 v157), ∀ a, (k0_off667 v157) a + S1x16.size a ≤ S512x128.size a := fun v157 k0_hw34 => k0_hw34.1
theorem k0_off669_inb : ∀ (v157 : BitVec 32) (k0_hw34 : k0_chk34 v157), ∀ a, (k0_off669 v157) a + S1x16.size a ≤ S512x128.size a := fun v157 k0_hw34 => k0_hw34.2.1
theorem k0_off671_inb : ∀ (v157 : BitVec 32) (k0_hw34 : k0_chk34 v157), ∀ a, (k0_off671 v157) a + S1x16.size a ≤ S512x128.size a := fun v157 k0_hw34 => k0_hw34.2.2.1
theorem k0_off673_inb : ∀ (v157 : BitVec 32) (k0_hw34 : k0_chk34 v157), ∀ a, (k0_off673 v157) a + S1x16.size a ≤ S512x128.size a := fun v157 k0_hw34 => k0_hw34.2.2.2.1
theorem k0_off675_inb : ∀ (v157 : BitVec 32) (k0_hw34 : k0_chk34 v157), ∀ a, (k0_off675 v157) a + S1x16.size a ≤ S512x128.size a := fun v157 k0_hw34 => k0_hw34.2.2.2.2.1
theorem k0_off677_inb : ∀ (v157 : BitVec 32) (k0_hw34 : k0_chk34 v157), ∀ a, (k0_off677 v157) a + S1x16.size a ≤ S512x128.size a := fun v157 k0_hw34 => k0_hw34.2.2.2.2.2.1
theorem k0_off679_inb : ∀ (v157 : BitVec 32) (k0_hw34 : k0_chk34 v157), ∀ a, (k0_off679 v157) a + S1x16.size a ≤ S512x128.size a := fun v157 k0_hw34 => k0_hw34.2.2.2.2.2.2.1
theorem k0_off681_inb : ∀ (v157 : BitVec 32) (k0_hw34 : k0_chk34 v157), ∀ a, (k0_off681 v157) a + S1x16.size a ≤ S512x128.size a := fun v157 k0_hw34 => k0_hw34.2.2.2.2.2.2.2

def k0_off682 (k0_t4 : Fin k0_t4_loop.trips) (c0_i32_167 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v151 : BitVec 32 := Scalar.addi v147 c0_i32_167
  let v518 : Index := Scalar.indexCast v151
  let c0_212 : Index := 0#32
  ![v518.toNat, 0]
def k0_off683 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v524 : Index := Scalar.indexCast v151
  let c16_213 : Index := 16#32
  ![v524.toNat, 16]
def k0_off684 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v530 : Index := Scalar.indexCast v151
  let c32_214 : Index := 32#32
  ![v530.toNat, 32]
def k0_off685 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v536 : Index := Scalar.indexCast v151
  let c48_215 : Index := 48#32
  ![v536.toNat, 48]
def k0_off686 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v542 : Index := Scalar.indexCast v151
  let c64_216 : Index := 64#32
  ![v542.toNat, 64]
def k0_off687 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v548 : Index := Scalar.indexCast v151
  let c80_217 : Index := 80#32
  ![v548.toNat, 80]
def k0_off688 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v554 : Index := Scalar.indexCast v151
  let c96_218 : Index := 96#32
  ![v554.toNat, 96]
def k0_off689 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_167 : BitVec 32 := 0#32
  let v151 : BitVec 32 := Scalar.addi v147 c0_i32_167
  let v560 : Index := Scalar.indexCast v151
  let c112_219 : Index := 112#32
  ![v560.toNat, 112]
def k0_off690 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v572 : Index := Scalar.indexCast v153
  let c0_220 : Index := 0#32
  ![v572.toNat, 0]
def k0_off691 (v620 : BitVec 32) : Fin 2 → Nat :=
  let v627 : Index := Scalar.indexCast v620
  let c0_234 : Index := 0#32
  ![v627.toNat, 0]

def k0_off692 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v633 : Index := Scalar.indexCast v616
  let c16_235 : Index := 16#32
  ![v633.toNat, 16]
def k0_off693 (v620 : BitVec 32) : Fin 2 → Nat :=
  let v635 : Index := Scalar.indexCast v620
  let c16_236 : Index := 16#32
  ![v635.toNat, 16]
def k0_off694 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v641 : Index := Scalar.indexCast v616
  let c32_237 : Index := 32#32
  ![v641.toNat, 32]
def k0_off695 (v620 : BitVec 32) : Fin 2 → Nat :=
  let v643 : Index := Scalar.indexCast v620
  let c32_238 : Index := 32#32
  ![v643.toNat, 32]
def k0_off696 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v649 : Index := Scalar.indexCast v616
  let c48_239 : Index := 48#32
  ![v649.toNat, 48]
def k0_off697 (v620 : BitVec 32) : Fin 2 → Nat :=
  let v651 : Index := Scalar.indexCast v620
  let c48_240 : Index := 48#32
  ![v651.toNat, 48]
def k0_off698 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v657 : Index := Scalar.indexCast v616
  let c64_241 : Index := 64#32
  ![v657.toNat, 64]
def k0_off699 (v620 : BitVec 32) : Fin 2 → Nat :=
  let v659 : Index := Scalar.indexCast v620
  let c64_242 : Index := 64#32
  ![v659.toNat, 64]
def k0_off700 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v665 : Index := Scalar.indexCast v616
  let c80_243 : Index := 80#32
  ![v665.toNat, 80]
def k0_off701 (v620 : BitVec 32) : Fin 2 → Nat :=
  let v667 : Index := Scalar.indexCast v620
  let c80_244 : Index := 80#32
  ![v667.toNat, 80]
def k0_off702 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v673 : Index := Scalar.indexCast v616
  let c96_245 : Index := 96#32
  ![v673.toNat, 96]
def k0_off703 (v620 : BitVec 32) : Fin 2 → Nat :=
  let v675 : Index := Scalar.indexCast v620
  let c96_246 : Index := 96#32
  ![v675.toNat, 96]
def k0_off704 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v681 : Index := Scalar.indexCast v616
  let c112_247 : Index := 112#32
  ![v681.toNat, 112]
def k0_off705 (v620 : BitVec 32) : Fin 2 → Nat :=
  let v683 : Index := Scalar.indexCast v620
  let c112_248 : Index := 112#32
  ![v683.toNat, 112]

def k0_chk35 (v620 : BitVec 32) : Prop :=
  (∀ a, (k0_off691 v620) a + S1x16.size a ≤ S512x128.size a) ∧
  (∀ a, (k0_off693 v620) a + S1x16.size a ≤ S512x128.size a) ∧
  (∀ a, (k0_off695 v620) a + S1x16.size a ≤ S512x128.size a) ∧
  (∀ a, (k0_off697 v620) a + S1x16.size a ≤ S512x128.size a) ∧
  (∀ a, (k0_off699 v620) a + S1x16.size a ≤ S512x128.size a) ∧
  (∀ a, (k0_off701 v620) a + S1x16.size a ≤ S512x128.size a) ∧
  (∀ a, (k0_off703 v620) a + S1x16.size a ≤ S512x128.size a) ∧
  (∀ a, (k0_off705 v620) a + S1x16.size a ≤ S512x128.size a)
theorem k0_off691_inb : ∀ (v620 : BitVec 32) (k0_hw35 : k0_chk35 v620), ∀ a, (k0_off691 v620) a + S1x16.size a ≤ S512x128.size a := fun v620 k0_hw35 => k0_hw35.1
theorem k0_off693_inb : ∀ (v620 : BitVec 32) (k0_hw35 : k0_chk35 v620), ∀ a, (k0_off693 v620) a + S1x16.size a ≤ S512x128.size a := fun v620 k0_hw35 => k0_hw35.2.1
theorem k0_off695_inb : ∀ (v620 : BitVec 32) (k0_hw35 : k0_chk35 v620), ∀ a, (k0_off695 v620) a + S1x16.size a ≤ S512x128.size a := fun v620 k0_hw35 => k0_hw35.2.2.1
theorem k0_off697_inb : ∀ (v620 : BitVec 32) (k0_hw35 : k0_chk35 v620), ∀ a, (k0_off697 v620) a + S1x16.size a ≤ S512x128.size a := fun v620 k0_hw35 => k0_hw35.2.2.2.1
theorem k0_off699_inb : ∀ (v620 : BitVec 32) (k0_hw35 : k0_chk35 v620), ∀ a, (k0_off699 v620) a + S1x16.size a ≤ S512x128.size a := fun v620 k0_hw35 => k0_hw35.2.2.2.2.1
theorem k0_off701_inb : ∀ (v620 : BitVec 32) (k0_hw35 : k0_chk35 v620), ∀ a, (k0_off701 v620) a + S1x16.size a ≤ S512x128.size a := fun v620 k0_hw35 => k0_hw35.2.2.2.2.2.1
theorem k0_off703_inb : ∀ (v620 : BitVec 32) (k0_hw35 : k0_chk35 v620), ∀ a, (k0_off703 v620) a + S1x16.size a ≤ S512x128.size a := fun v620 k0_hw35 => k0_hw35.2.2.2.2.2.2.1
theorem k0_off705_inb : ∀ (v620 : BitVec 32) (k0_hw35 : k0_chk35 v620), ∀ a, (k0_off705 v620) a + S1x16.size a ≤ S512x128.size a := fun v620 k0_hw35 => k0_hw35.2.2.2.2.2.2.2

def k0_off706 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v787 : Index := Scalar.indexCast v618
  let c0_251 : Index := 0#32
  ![v787.toNat, 0]
def k0_off707 (v622 : BitVec 32) : Fin 2 → Nat :=
  let v789 : Index := Scalar.indexCast v622
  let c0_252 : Index := 0#32
  ![v789.toNat, 0]

def k0_off708 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v795 : Index := Scalar.indexCast v618
  let c16_253 : Index := 16#32
  ![v795.toNat, 16]
def k0_off709 (v622 : BitVec 32) : Fin 2 → Nat :=
  let v797 : Index := Scalar.indexCast v622
  let c16_254 : Index := 16#32
  ![v797.toNat, 16]
def k0_off710 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v803 : Index := Scalar.indexCast v618
  let c32_255 : Index := 32#32
  ![v803.toNat, 32]
def k0_off711 (v622 : BitVec 32) : Fin 2 → Nat :=
  let v805 : Index := Scalar.indexCast v622
  let c32_256 : Index := 32#32
  ![v805.toNat, 32]
def k0_off712 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v811 : Index := Scalar.indexCast v618
  let c48_257 : Index := 48#32
  ![v811.toNat, 48]
def k0_off713 (v622 : BitVec 32) : Fin 2 → Nat :=
  let v813 : Index := Scalar.indexCast v622
  let c48_258 : Index := 48#32
  ![v813.toNat, 48]
def k0_off714 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v819 : Index := Scalar.indexCast v618
  let c64_259 : Index := 64#32
  ![v819.toNat, 64]
def k0_off715 (v622 : BitVec 32) : Fin 2 → Nat :=
  let v821 : Index := Scalar.indexCast v622
  let c64_260 : Index := 64#32
  ![v821.toNat, 64]
def k0_off716 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v827 : Index := Scalar.indexCast v618
  let c80_261 : Index := 80#32
  ![v827.toNat, 80]
def k0_off717 (v622 : BitVec 32) : Fin 2 → Nat :=
  let v829 : Index := Scalar.indexCast v622
  let c80_262 : Index := 80#32
  ![v829.toNat, 80]
def k0_off718 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v835 : Index := Scalar.indexCast v618
  let c96_263 : Index := 96#32
  ![v835.toNat, 96]
def k0_off719 (v622 : BitVec 32) : Fin 2 → Nat :=
  let v837 : Index := Scalar.indexCast v622
  let c96_264 : Index := 96#32
  ![v837.toNat, 96]
def k0_off720 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v843 : Index := Scalar.indexCast v618
  let c112_265 : Index := 112#32
  ![v843.toNat, 112]
def k0_off721 (v622 : BitVec 32) : Fin 2 → Nat :=
  let v845 : Index := Scalar.indexCast v622
  let c112_266 : Index := 112#32
  ![v845.toNat, 112]

def k0_chk36 (v622 : BitVec 32) : Prop :=
  (∀ a, (k0_off707 v622) a + S1x16.size a ≤ S512x128.size a) ∧
  (∀ a, (k0_off709 v622) a + S1x16.size a ≤ S512x128.size a) ∧
  (∀ a, (k0_off711 v622) a + S1x16.size a ≤ S512x128.size a) ∧
  (∀ a, (k0_off713 v622) a + S1x16.size a ≤ S512x128.size a) ∧
  (∀ a, (k0_off715 v622) a + S1x16.size a ≤ S512x128.size a) ∧
  (∀ a, (k0_off717 v622) a + S1x16.size a ≤ S512x128.size a) ∧
  (∀ a, (k0_off719 v622) a + S1x16.size a ≤ S512x128.size a) ∧
  (∀ a, (k0_off721 v622) a + S1x16.size a ≤ S512x128.size a)
theorem k0_off707_inb : ∀ (v622 : BitVec 32) (k0_hw36 : k0_chk36 v622), ∀ a, (k0_off707 v622) a + S1x16.size a ≤ S512x128.size a := fun v622 k0_hw36 => k0_hw36.1
theorem k0_off709_inb : ∀ (v622 : BitVec 32) (k0_hw36 : k0_chk36 v622), ∀ a, (k0_off709 v622) a + S1x16.size a ≤ S512x128.size a := fun v622 k0_hw36 => k0_hw36.2.1
theorem k0_off711_inb : ∀ (v622 : BitVec 32) (k0_hw36 : k0_chk36 v622), ∀ a, (k0_off711 v622) a + S1x16.size a ≤ S512x128.size a := fun v622 k0_hw36 => k0_hw36.2.2.1
theorem k0_off713_inb : ∀ (v622 : BitVec 32) (k0_hw36 : k0_chk36 v622), ∀ a, (k0_off713 v622) a + S1x16.size a ≤ S512x128.size a := fun v622 k0_hw36 => k0_hw36.2.2.2.1
theorem k0_off715_inb : ∀ (v622 : BitVec 32) (k0_hw36 : k0_chk36 v622), ∀ a, (k0_off715 v622) a + S1x16.size a ≤ S512x128.size a := fun v622 k0_hw36 => k0_hw36.2.2.2.2.1
theorem k0_off717_inb : ∀ (v622 : BitVec 32) (k0_hw36 : k0_chk36 v622), ∀ a, (k0_off717 v622) a + S1x16.size a ≤ S512x128.size a := fun v622 k0_hw36 => k0_hw36.2.2.2.2.2.1
theorem k0_off719_inb : ∀ (v622 : BitVec 32) (k0_hw36 : k0_chk36 v622), ∀ a, (k0_off719 v622) a + S1x16.size a ≤ S512x128.size a := fun v622 k0_hw36 => k0_hw36.2.2.2.2.2.2.1
theorem k0_off721_inb : ∀ (v622 : BitVec 32) (k0_hw36 : k0_chk36 v622), ∀ a, (k0_off721 v622) a + S1x16.size a ≤ S512x128.size a := fun v622 k0_hw36 => k0_hw36.2.2.2.2.2.2.2

def k0_off722 (k0_t4 : Fin k0_t4_loop.trips) (c2_i32_228 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v616 : BitVec 32 := Scalar.addi v147 c2_i32_228
  let v983 : Index := Scalar.indexCast v616
  let c0_274 : Index := 0#32
  ![v983.toNat, 0]
def k0_off723 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v989 : Index := Scalar.indexCast v616
  let c16_275 : Index := 16#32
  ![v989.toNat, 16]
def k0_off724 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v995 : Index := Scalar.indexCast v616
  let c32_276 : Index := 32#32
  ![v995.toNat, 32]
def k0_off725 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v1001 : Index := Scalar.indexCast v616
  let c48_277 : Index := 48#32
  ![v1001.toNat, 48]
def k0_off726 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v1007 : Index := Scalar.indexCast v616
  let c64_278 : Index := 64#32
  ![v1007.toNat, 64]
def k0_off727 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v1013 : Index := Scalar.indexCast v616
  let c80_279 : Index := 80#32
  ![v1013.toNat, 80]
def k0_off728 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v1019 : Index := Scalar.indexCast v616
  let c96_280 : Index := 96#32
  ![v1019.toNat, 96]
def k0_off729 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_228 : BitVec 32 := 2#32
  let v616 : BitVec 32 := Scalar.addi v147 c2_i32_228
  let v1025 : Index := Scalar.indexCast v616
  let c112_281 : Index := 112#32
  ![v1025.toNat, 112]
def k0_off730 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v1037 : Index := Scalar.indexCast v618
  let c0_282 : Index := 0#32
  ![v1037.toNat, 0]
def k0_off731 (v1085 : BitVec 32) : Fin 2 → Nat :=
  let v1092 : Index := Scalar.indexCast v1085
  let c0_296 : Index := 0#32
  ![v1092.toNat, 0]

def k0_off732 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1098 : Index := Scalar.indexCast v1081
  let c16_297 : Index := 16#32
  ![v1098.toNat, 16]
def k0_off733 (v1085 : BitVec 32) : Fin 2 → Nat :=
  let v1100 : Index := Scalar.indexCast v1085
  let c16_298 : Index := 16#32
  ![v1100.toNat, 16]
def k0_off734 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1106 : Index := Scalar.indexCast v1081
  let c32_299 : Index := 32#32
  ![v1106.toNat, 32]
def k0_off735 (v1085 : BitVec 32) : Fin 2 → Nat :=
  let v1108 : Index := Scalar.indexCast v1085
  let c32_300 : Index := 32#32
  ![v1108.toNat, 32]
def k0_off736 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1114 : Index := Scalar.indexCast v1081
  let c48_301 : Index := 48#32
  ![v1114.toNat, 48]
def k0_off737 (v1085 : BitVec 32) : Fin 2 → Nat :=
  let v1116 : Index := Scalar.indexCast v1085
  let c48_302 : Index := 48#32
  ![v1116.toNat, 48]
def k0_off738 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1122 : Index := Scalar.indexCast v1081
  let c64_303 : Index := 64#32
  ![v1122.toNat, 64]
def k0_off739 (v1085 : BitVec 32) : Fin 2 → Nat :=
  let v1124 : Index := Scalar.indexCast v1085
  let c64_304 : Index := 64#32
  ![v1124.toNat, 64]
def k0_off740 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1130 : Index := Scalar.indexCast v1081
  let c80_305 : Index := 80#32
  ![v1130.toNat, 80]
def k0_off741 (v1085 : BitVec 32) : Fin 2 → Nat :=
  let v1132 : Index := Scalar.indexCast v1085
  let c80_306 : Index := 80#32
  ![v1132.toNat, 80]
def k0_off742 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1138 : Index := Scalar.indexCast v1081
  let c96_307 : Index := 96#32
  ![v1138.toNat, 96]
def k0_off743 (v1085 : BitVec 32) : Fin 2 → Nat :=
  let v1140 : Index := Scalar.indexCast v1085
  let c96_308 : Index := 96#32
  ![v1140.toNat, 96]
def k0_off744 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1146 : Index := Scalar.indexCast v1081
  let c112_309 : Index := 112#32
  ![v1146.toNat, 112]
def k0_off745 (v1085 : BitVec 32) : Fin 2 → Nat :=
  let v1148 : Index := Scalar.indexCast v1085
  let c112_310 : Index := 112#32
  ![v1148.toNat, 112]

def k0_chk37 (v1085 : BitVec 32) : Prop :=
  (∀ a, (k0_off731 v1085) a + S1x16.size a ≤ S512x128.size a) ∧
  (∀ a, (k0_off733 v1085) a + S1x16.size a ≤ S512x128.size a) ∧
  (∀ a, (k0_off735 v1085) a + S1x16.size a ≤ S512x128.size a) ∧
  (∀ a, (k0_off737 v1085) a + S1x16.size a ≤ S512x128.size a) ∧
  (∀ a, (k0_off739 v1085) a + S1x16.size a ≤ S512x128.size a) ∧
  (∀ a, (k0_off741 v1085) a + S1x16.size a ≤ S512x128.size a) ∧
  (∀ a, (k0_off743 v1085) a + S1x16.size a ≤ S512x128.size a) ∧
  (∀ a, (k0_off745 v1085) a + S1x16.size a ≤ S512x128.size a)
theorem k0_off731_inb : ∀ (v1085 : BitVec 32) (k0_hw37 : k0_chk37 v1085), ∀ a, (k0_off731 v1085) a + S1x16.size a ≤ S512x128.size a := fun v1085 k0_hw37 => k0_hw37.1
theorem k0_off733_inb : ∀ (v1085 : BitVec 32) (k0_hw37 : k0_chk37 v1085), ∀ a, (k0_off733 v1085) a + S1x16.size a ≤ S512x128.size a := fun v1085 k0_hw37 => k0_hw37.2.1
theorem k0_off735_inb : ∀ (v1085 : BitVec 32) (k0_hw37 : k0_chk37 v1085), ∀ a, (k0_off735 v1085) a + S1x16.size a ≤ S512x128.size a := fun v1085 k0_hw37 => k0_hw37.2.2.1
theorem k0_off737_inb : ∀ (v1085 : BitVec 32) (k0_hw37 : k0_chk37 v1085), ∀ a, (k0_off737 v1085) a + S1x16.size a ≤ S512x128.size a := fun v1085 k0_hw37 => k0_hw37.2.2.2.1
theorem k0_off739_inb : ∀ (v1085 : BitVec 32) (k0_hw37 : k0_chk37 v1085), ∀ a, (k0_off739 v1085) a + S1x16.size a ≤ S512x128.size a := fun v1085 k0_hw37 => k0_hw37.2.2.2.2.1
theorem k0_off741_inb : ∀ (v1085 : BitVec 32) (k0_hw37 : k0_chk37 v1085), ∀ a, (k0_off741 v1085) a + S1x16.size a ≤ S512x128.size a := fun v1085 k0_hw37 => k0_hw37.2.2.2.2.2.1
theorem k0_off743_inb : ∀ (v1085 : BitVec 32) (k0_hw37 : k0_chk37 v1085), ∀ a, (k0_off743 v1085) a + S1x16.size a ≤ S512x128.size a := fun v1085 k0_hw37 => k0_hw37.2.2.2.2.2.2.1
theorem k0_off745_inb : ∀ (v1085 : BitVec 32) (k0_hw37 : k0_chk37 v1085), ∀ a, (k0_off745 v1085) a + S1x16.size a ≤ S512x128.size a := fun v1085 k0_hw37 => k0_hw37.2.2.2.2.2.2.2

def k0_off746 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1252 : Index := Scalar.indexCast v1083
  let c0_313 : Index := 0#32
  ![v1252.toNat, 0]
def k0_off747 (v1087 : BitVec 32) : Fin 2 → Nat :=
  let v1254 : Index := Scalar.indexCast v1087
  let c0_314 : Index := 0#32
  ![v1254.toNat, 0]

def k0_off748 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1260 : Index := Scalar.indexCast v1083
  let c16_315 : Index := 16#32
  ![v1260.toNat, 16]
def k0_off749 (v1087 : BitVec 32) : Fin 2 → Nat :=
  let v1262 : Index := Scalar.indexCast v1087
  let c16_316 : Index := 16#32
  ![v1262.toNat, 16]
def k0_off750 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1268 : Index := Scalar.indexCast v1083
  let c32_317 : Index := 32#32
  ![v1268.toNat, 32]
def k0_off751 (v1087 : BitVec 32) : Fin 2 → Nat :=
  let v1270 : Index := Scalar.indexCast v1087
  let c32_318 : Index := 32#32
  ![v1270.toNat, 32]
def k0_off752 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1276 : Index := Scalar.indexCast v1083
  let c48_319 : Index := 48#32
  ![v1276.toNat, 48]
def k0_off753 (v1087 : BitVec 32) : Fin 2 → Nat :=
  let v1278 : Index := Scalar.indexCast v1087
  let c48_320 : Index := 48#32
  ![v1278.toNat, 48]
def k0_off754 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1284 : Index := Scalar.indexCast v1083
  let c64_321 : Index := 64#32
  ![v1284.toNat, 64]
def k0_off755 (v1087 : BitVec 32) : Fin 2 → Nat :=
  let v1286 : Index := Scalar.indexCast v1087
  let c64_322 : Index := 64#32
  ![v1286.toNat, 64]
def k0_off756 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1292 : Index := Scalar.indexCast v1083
  let c80_323 : Index := 80#32
  ![v1292.toNat, 80]
def k0_off757 (v1087 : BitVec 32) : Fin 2 → Nat :=
  let v1294 : Index := Scalar.indexCast v1087
  let c80_324 : Index := 80#32
  ![v1294.toNat, 80]
def k0_off758 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1300 : Index := Scalar.indexCast v1083
  let c96_325 : Index := 96#32
  ![v1300.toNat, 96]
def k0_off759 (v1087 : BitVec 32) : Fin 2 → Nat :=
  let v1302 : Index := Scalar.indexCast v1087
  let c96_326 : Index := 96#32
  ![v1302.toNat, 96]
def k0_off760 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1308 : Index := Scalar.indexCast v1083
  let c112_327 : Index := 112#32
  ![v1308.toNat, 112]
def k0_off761 (v1087 : BitVec 32) : Fin 2 → Nat :=
  let v1310 : Index := Scalar.indexCast v1087
  let c112_328 : Index := 112#32
  ![v1310.toNat, 112]

def k0_chk38 (v1087 : BitVec 32) : Prop :=
  (∀ a, (k0_off747 v1087) a + S1x16.size a ≤ S512x128.size a) ∧
  (∀ a, (k0_off749 v1087) a + S1x16.size a ≤ S512x128.size a) ∧
  (∀ a, (k0_off751 v1087) a + S1x16.size a ≤ S512x128.size a) ∧
  (∀ a, (k0_off753 v1087) a + S1x16.size a ≤ S512x128.size a) ∧
  (∀ a, (k0_off755 v1087) a + S1x16.size a ≤ S512x128.size a) ∧
  (∀ a, (k0_off757 v1087) a + S1x16.size a ≤ S512x128.size a) ∧
  (∀ a, (k0_off759 v1087) a + S1x16.size a ≤ S512x128.size a) ∧
  (∀ a, (k0_off761 v1087) a + S1x16.size a ≤ S512x128.size a)
theorem k0_off747_inb : ∀ (v1087 : BitVec 32) (k0_hw38 : k0_chk38 v1087), ∀ a, (k0_off747 v1087) a + S1x16.size a ≤ S512x128.size a := fun v1087 k0_hw38 => k0_hw38.1
theorem k0_off749_inb : ∀ (v1087 : BitVec 32) (k0_hw38 : k0_chk38 v1087), ∀ a, (k0_off749 v1087) a + S1x16.size a ≤ S512x128.size a := fun v1087 k0_hw38 => k0_hw38.2.1
theorem k0_off751_inb : ∀ (v1087 : BitVec 32) (k0_hw38 : k0_chk38 v1087), ∀ a, (k0_off751 v1087) a + S1x16.size a ≤ S512x128.size a := fun v1087 k0_hw38 => k0_hw38.2.2.1
theorem k0_off753_inb : ∀ (v1087 : BitVec 32) (k0_hw38 : k0_chk38 v1087), ∀ a, (k0_off753 v1087) a + S1x16.size a ≤ S512x128.size a := fun v1087 k0_hw38 => k0_hw38.2.2.2.1
theorem k0_off755_inb : ∀ (v1087 : BitVec 32) (k0_hw38 : k0_chk38 v1087), ∀ a, (k0_off755 v1087) a + S1x16.size a ≤ S512x128.size a := fun v1087 k0_hw38 => k0_hw38.2.2.2.2.1
theorem k0_off757_inb : ∀ (v1087 : BitVec 32) (k0_hw38 : k0_chk38 v1087), ∀ a, (k0_off757 v1087) a + S1x16.size a ≤ S512x128.size a := fun v1087 k0_hw38 => k0_hw38.2.2.2.2.2.1
theorem k0_off759_inb : ∀ (v1087 : BitVec 32) (k0_hw38 : k0_chk38 v1087), ∀ a, (k0_off759 v1087) a + S1x16.size a ≤ S512x128.size a := fun v1087 k0_hw38 => k0_hw38.2.2.2.2.2.2.1
theorem k0_off761_inb : ∀ (v1087 : BitVec 32) (k0_hw38 : k0_chk38 v1087), ∀ a, (k0_off761 v1087) a + S1x16.size a ≤ S512x128.size a := fun v1087 k0_hw38 => k0_hw38.2.2.2.2.2.2.2

def k0_off762 (k0_t4 : Fin k0_t4_loop.trips) (c4_i32_290 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v1081 : BitVec 32 := Scalar.addi v147 c4_i32_290
  let v1448 : Index := Scalar.indexCast v1081
  let c0_336 : Index := 0#32
  ![v1448.toNat, 0]
def k0_off763 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1454 : Index := Scalar.indexCast v1081
  let c16_337 : Index := 16#32
  ![v1454.toNat, 16]
def k0_off764 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1460 : Index := Scalar.indexCast v1081
  let c32_338 : Index := 32#32
  ![v1460.toNat, 32]
def k0_off765 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1466 : Index := Scalar.indexCast v1081
  let c48_339 : Index := 48#32
  ![v1466.toNat, 48]
def k0_off766 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1472 : Index := Scalar.indexCast v1081
  let c64_340 : Index := 64#32
  ![v1472.toNat, 64]
def k0_off767 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1478 : Index := Scalar.indexCast v1081
  let c80_341 : Index := 80#32
  ![v1478.toNat, 80]
def k0_off768 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1484 : Index := Scalar.indexCast v1081
  let c96_342 : Index := 96#32
  ![v1484.toNat, 96]
def k0_off769 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_290 : BitVec 32 := 4#32
  let v1081 : BitVec 32 := Scalar.addi v147 c4_i32_290
  let v1490 : Index := Scalar.indexCast v1081
  let c112_343 : Index := 112#32
  ![v1490.toNat, 112]
def k0_off770 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1502 : Index := Scalar.indexCast v1083
  let c0_344 : Index := 0#32
  ![v1502.toNat, 0]
def k0_off771 (v1550 : BitVec 32) : Fin 2 → Nat :=
  let v1557 : Index := Scalar.indexCast v1550
  let c0_357 : Index := 0#32
  ![v1557.toNat, 0]

def k0_off772 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1563 : Index := Scalar.indexCast v1546
  let c16_358 : Index := 16#32
  ![v1563.toNat, 16]
def k0_off773 (v1550 : BitVec 32) : Fin 2 → Nat :=
  let v1565 : Index := Scalar.indexCast v1550
  let c16_359 : Index := 16#32
  ![v1565.toNat, 16]
def k0_off774 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1571 : Index := Scalar.indexCast v1546
  let c32_360 : Index := 32#32
  ![v1571.toNat, 32]
def k0_off775 (v1550 : BitVec 32) : Fin 2 → Nat :=
  let v1573 : Index := Scalar.indexCast v1550
  let c32_361 : Index := 32#32
  ![v1573.toNat, 32]
def k0_off776 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1579 : Index := Scalar.indexCast v1546
  let c48_362 : Index := 48#32
  ![v1579.toNat, 48]
def k0_off777 (v1550 : BitVec 32) : Fin 2 → Nat :=
  let v1581 : Index := Scalar.indexCast v1550
  let c48_363 : Index := 48#32
  ![v1581.toNat, 48]
def k0_off778 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1587 : Index := Scalar.indexCast v1546
  let c64_364 : Index := 64#32
  ![v1587.toNat, 64]
def k0_off779 (v1550 : BitVec 32) : Fin 2 → Nat :=
  let v1589 : Index := Scalar.indexCast v1550
  let c64_365 : Index := 64#32
  ![v1589.toNat, 64]
def k0_off780 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1595 : Index := Scalar.indexCast v1546
  let c80_366 : Index := 80#32
  ![v1595.toNat, 80]
def k0_off781 (v1550 : BitVec 32) : Fin 2 → Nat :=
  let v1597 : Index := Scalar.indexCast v1550
  let c80_367 : Index := 80#32
  ![v1597.toNat, 80]
def k0_off782 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1603 : Index := Scalar.indexCast v1546
  let c96_368 : Index := 96#32
  ![v1603.toNat, 96]
def k0_off783 (v1550 : BitVec 32) : Fin 2 → Nat :=
  let v1605 : Index := Scalar.indexCast v1550
  let c96_369 : Index := 96#32
  ![v1605.toNat, 96]
def k0_off784 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1611 : Index := Scalar.indexCast v1546
  let c112_370 : Index := 112#32
  ![v1611.toNat, 112]
def k0_off785 (v1550 : BitVec 32) : Fin 2 → Nat :=
  let v1613 : Index := Scalar.indexCast v1550
  let c112_371 : Index := 112#32
  ![v1613.toNat, 112]

def k0_chk39 (v1550 : BitVec 32) : Prop :=
  (∀ a, (k0_off771 v1550) a + S1x16.size a ≤ S512x128.size a) ∧
  (∀ a, (k0_off773 v1550) a + S1x16.size a ≤ S512x128.size a) ∧
  (∀ a, (k0_off775 v1550) a + S1x16.size a ≤ S512x128.size a) ∧
  (∀ a, (k0_off777 v1550) a + S1x16.size a ≤ S512x128.size a) ∧
  (∀ a, (k0_off779 v1550) a + S1x16.size a ≤ S512x128.size a) ∧
  (∀ a, (k0_off781 v1550) a + S1x16.size a ≤ S512x128.size a) ∧
  (∀ a, (k0_off783 v1550) a + S1x16.size a ≤ S512x128.size a) ∧
  (∀ a, (k0_off785 v1550) a + S1x16.size a ≤ S512x128.size a)
theorem k0_off771_inb : ∀ (v1550 : BitVec 32) (k0_hw39 : k0_chk39 v1550), ∀ a, (k0_off771 v1550) a + S1x16.size a ≤ S512x128.size a := fun v1550 k0_hw39 => k0_hw39.1
theorem k0_off773_inb : ∀ (v1550 : BitVec 32) (k0_hw39 : k0_chk39 v1550), ∀ a, (k0_off773 v1550) a + S1x16.size a ≤ S512x128.size a := fun v1550 k0_hw39 => k0_hw39.2.1
theorem k0_off775_inb : ∀ (v1550 : BitVec 32) (k0_hw39 : k0_chk39 v1550), ∀ a, (k0_off775 v1550) a + S1x16.size a ≤ S512x128.size a := fun v1550 k0_hw39 => k0_hw39.2.2.1
theorem k0_off777_inb : ∀ (v1550 : BitVec 32) (k0_hw39 : k0_chk39 v1550), ∀ a, (k0_off777 v1550) a + S1x16.size a ≤ S512x128.size a := fun v1550 k0_hw39 => k0_hw39.2.2.2.1
theorem k0_off779_inb : ∀ (v1550 : BitVec 32) (k0_hw39 : k0_chk39 v1550), ∀ a, (k0_off779 v1550) a + S1x16.size a ≤ S512x128.size a := fun v1550 k0_hw39 => k0_hw39.2.2.2.2.1
theorem k0_off781_inb : ∀ (v1550 : BitVec 32) (k0_hw39 : k0_chk39 v1550), ∀ a, (k0_off781 v1550) a + S1x16.size a ≤ S512x128.size a := fun v1550 k0_hw39 => k0_hw39.2.2.2.2.2.1
theorem k0_off783_inb : ∀ (v1550 : BitVec 32) (k0_hw39 : k0_chk39 v1550), ∀ a, (k0_off783 v1550) a + S1x16.size a ≤ S512x128.size a := fun v1550 k0_hw39 => k0_hw39.2.2.2.2.2.2.1
theorem k0_off785_inb : ∀ (v1550 : BitVec 32) (k0_hw39 : k0_chk39 v1550), ∀ a, (k0_off785 v1550) a + S1x16.size a ≤ S512x128.size a := fun v1550 k0_hw39 => k0_hw39.2.2.2.2.2.2.2

def k0_off786 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1717 : Index := Scalar.indexCast v1548
  let c0_374 : Index := 0#32
  ![v1717.toNat, 0]
def k0_off787 (v1552 : BitVec 32) : Fin 2 → Nat :=
  let v1719 : Index := Scalar.indexCast v1552
  let c0_375 : Index := 0#32
  ![v1719.toNat, 0]

def k0_off788 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1725 : Index := Scalar.indexCast v1548
  let c16_376 : Index := 16#32
  ![v1725.toNat, 16]
def k0_off789 (v1552 : BitVec 32) : Fin 2 → Nat :=
  let v1727 : Index := Scalar.indexCast v1552
  let c16_377 : Index := 16#32
  ![v1727.toNat, 16]
def k0_off790 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1733 : Index := Scalar.indexCast v1548
  let c32_378 : Index := 32#32
  ![v1733.toNat, 32]
def k0_off791 (v1552 : BitVec 32) : Fin 2 → Nat :=
  let v1735 : Index := Scalar.indexCast v1552
  let c32_379 : Index := 32#32
  ![v1735.toNat, 32]
def k0_off792 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1741 : Index := Scalar.indexCast v1548
  let c48_380 : Index := 48#32
  ![v1741.toNat, 48]
def k0_off793 (v1552 : BitVec 32) : Fin 2 → Nat :=
  let v1743 : Index := Scalar.indexCast v1552
  let c48_381 : Index := 48#32
  ![v1743.toNat, 48]
def k0_off794 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1749 : Index := Scalar.indexCast v1548
  let c64_382 : Index := 64#32
  ![v1749.toNat, 64]
def k0_off795 (v1552 : BitVec 32) : Fin 2 → Nat :=
  let v1751 : Index := Scalar.indexCast v1552
  let c64_383 : Index := 64#32
  ![v1751.toNat, 64]
def k0_off796 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1757 : Index := Scalar.indexCast v1548
  let c80_384 : Index := 80#32
  ![v1757.toNat, 80]
def k0_off797 (v1552 : BitVec 32) : Fin 2 → Nat :=
  let v1759 : Index := Scalar.indexCast v1552
  let c80_385 : Index := 80#32
  ![v1759.toNat, 80]
def k0_off798 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1765 : Index := Scalar.indexCast v1548
  let c96_386 : Index := 96#32
  ![v1765.toNat, 96]
def k0_off799 (v1552 : BitVec 32) : Fin 2 → Nat :=
  let v1767 : Index := Scalar.indexCast v1552
  let c96_387 : Index := 96#32
  ![v1767.toNat, 96]
def k0_off800 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1773 : Index := Scalar.indexCast v1548
  let c112_388 : Index := 112#32
  ![v1773.toNat, 112]
def k0_off801 (v1552 : BitVec 32) : Fin 2 → Nat :=
  let v1775 : Index := Scalar.indexCast v1552
  let c112_389 : Index := 112#32
  ![v1775.toNat, 112]

def k0_chk40 (v1552 : BitVec 32) : Prop :=
  (∀ a, (k0_off787 v1552) a + S1x16.size a ≤ S512x128.size a) ∧
  (∀ a, (k0_off789 v1552) a + S1x16.size a ≤ S512x128.size a) ∧
  (∀ a, (k0_off791 v1552) a + S1x16.size a ≤ S512x128.size a) ∧
  (∀ a, (k0_off793 v1552) a + S1x16.size a ≤ S512x128.size a) ∧
  (∀ a, (k0_off795 v1552) a + S1x16.size a ≤ S512x128.size a) ∧
  (∀ a, (k0_off797 v1552) a + S1x16.size a ≤ S512x128.size a) ∧
  (∀ a, (k0_off799 v1552) a + S1x16.size a ≤ S512x128.size a) ∧
  (∀ a, (k0_off801 v1552) a + S1x16.size a ≤ S512x128.size a)
theorem k0_off787_inb : ∀ (v1552 : BitVec 32) (k0_hw40 : k0_chk40 v1552), ∀ a, (k0_off787 v1552) a + S1x16.size a ≤ S512x128.size a := fun v1552 k0_hw40 => k0_hw40.1
theorem k0_off789_inb : ∀ (v1552 : BitVec 32) (k0_hw40 : k0_chk40 v1552), ∀ a, (k0_off789 v1552) a + S1x16.size a ≤ S512x128.size a := fun v1552 k0_hw40 => k0_hw40.2.1
theorem k0_off791_inb : ∀ (v1552 : BitVec 32) (k0_hw40 : k0_chk40 v1552), ∀ a, (k0_off791 v1552) a + S1x16.size a ≤ S512x128.size a := fun v1552 k0_hw40 => k0_hw40.2.2.1
theorem k0_off793_inb : ∀ (v1552 : BitVec 32) (k0_hw40 : k0_chk40 v1552), ∀ a, (k0_off793 v1552) a + S1x16.size a ≤ S512x128.size a := fun v1552 k0_hw40 => k0_hw40.2.2.2.1
theorem k0_off795_inb : ∀ (v1552 : BitVec 32) (k0_hw40 : k0_chk40 v1552), ∀ a, (k0_off795 v1552) a + S1x16.size a ≤ S512x128.size a := fun v1552 k0_hw40 => k0_hw40.2.2.2.2.1
theorem k0_off797_inb : ∀ (v1552 : BitVec 32) (k0_hw40 : k0_chk40 v1552), ∀ a, (k0_off797 v1552) a + S1x16.size a ≤ S512x128.size a := fun v1552 k0_hw40 => k0_hw40.2.2.2.2.2.1
theorem k0_off799_inb : ∀ (v1552 : BitVec 32) (k0_hw40 : k0_chk40 v1552), ∀ a, (k0_off799 v1552) a + S1x16.size a ≤ S512x128.size a := fun v1552 k0_hw40 => k0_hw40.2.2.2.2.2.2.1
theorem k0_off801_inb : ∀ (v1552 : BitVec 32) (k0_hw40 : k0_chk40 v1552), ∀ a, (k0_off801 v1552) a + S1x16.size a ≤ S512x128.size a := fun v1552 k0_hw40 => k0_hw40.2.2.2.2.2.2.2

def k0_off802 (k0_t4 : Fin k0_t4_loop.trips) (c6_i32 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v1546 : BitVec 32 := Scalar.addi v147 c6_i32
  let v1913 : Index := Scalar.indexCast v1546
  let c0_397 : Index := 0#32
  ![v1913.toNat, 0]
def k0_off803 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1919 : Index := Scalar.indexCast v1546
  let c16_398 : Index := 16#32
  ![v1919.toNat, 16]
def k0_off804 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1925 : Index := Scalar.indexCast v1546
  let c32_399 : Index := 32#32
  ![v1925.toNat, 32]
def k0_off805 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1931 : Index := Scalar.indexCast v1546
  let c48_400 : Index := 48#32
  ![v1931.toNat, 48]
def k0_off806 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1937 : Index := Scalar.indexCast v1546
  let c64_401 : Index := 64#32
  ![v1937.toNat, 64]
def k0_off807 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1943 : Index := Scalar.indexCast v1546
  let c80_402 : Index := 80#32
  ![v1943.toNat, 80]
def k0_off808 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1949 : Index := Scalar.indexCast v1546
  let c96_403 : Index := 96#32
  ![v1949.toNat, 96]
def k0_off809 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32 : BitVec 32 := 6#32
  let v1546 : BitVec 32 := Scalar.addi v147 c6_i32
  let v1955 : Index := Scalar.indexCast v1546
  let c112_404 : Index := 112#32
  ![v1955.toNat, 112]
def k0_off810 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1967 : Index := Scalar.indexCast v1548
  let c0_405 : Index := 0#32
  ![v1967.toNat, 0]
def k0_off811 (v2015 : BitVec 32) : Fin 2 → Nat :=
  let v2022 : Index := Scalar.indexCast v2015
  let c0_419 : Index := 0#32
  ![v2022.toNat, 0]

def k0_off812 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2028 : Index := Scalar.indexCast v2011
  let c16_420 : Index := 16#32
  ![v2028.toNat, 16]
def k0_off813 (v2015 : BitVec 32) : Fin 2 → Nat :=
  let v2030 : Index := Scalar.indexCast v2015
  let c16_421 : Index := 16#32
  ![v2030.toNat, 16]
def k0_off814 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2036 : Index := Scalar.indexCast v2011
  let c32_422 : Index := 32#32
  ![v2036.toNat, 32]
def k0_off815 (v2015 : BitVec 32) : Fin 2 → Nat :=
  let v2038 : Index := Scalar.indexCast v2015
  let c32_423 : Index := 32#32
  ![v2038.toNat, 32]
def k0_off816 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2044 : Index := Scalar.indexCast v2011
  let c48_424 : Index := 48#32
  ![v2044.toNat, 48]
def k0_off817 (v2015 : BitVec 32) : Fin 2 → Nat :=
  let v2046 : Index := Scalar.indexCast v2015
  let c48_425 : Index := 48#32
  ![v2046.toNat, 48]
def k0_off818 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2052 : Index := Scalar.indexCast v2011
  let c64_426 : Index := 64#32
  ![v2052.toNat, 64]
def k0_off819 (v2015 : BitVec 32) : Fin 2 → Nat :=
  let v2054 : Index := Scalar.indexCast v2015
  let c64_427 : Index := 64#32
  ![v2054.toNat, 64]
def k0_off820 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2060 : Index := Scalar.indexCast v2011
  let c80_428 : Index := 80#32
  ![v2060.toNat, 80]
def k0_off821 (v2015 : BitVec 32) : Fin 2 → Nat :=
  let v2062 : Index := Scalar.indexCast v2015
  let c80_429 : Index := 80#32
  ![v2062.toNat, 80]
def k0_off822 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2068 : Index := Scalar.indexCast v2011
  let c96_430 : Index := 96#32
  ![v2068.toNat, 96]
def k0_off823 (v2015 : BitVec 32) : Fin 2 → Nat :=
  let v2070 : Index := Scalar.indexCast v2015
  let c96_431 : Index := 96#32
  ![v2070.toNat, 96]
def k0_off824 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2076 : Index := Scalar.indexCast v2011
  let c112_432 : Index := 112#32
  ![v2076.toNat, 112]
def k0_off825 (v2015 : BitVec 32) : Fin 2 → Nat :=
  let v2078 : Index := Scalar.indexCast v2015
  let c112_433 : Index := 112#32
  ![v2078.toNat, 112]

def k0_chk41 (v2015 : BitVec 32) : Prop :=
  (∀ a, (k0_off811 v2015) a + S1x16.size a ≤ S512x128.size a) ∧
  (∀ a, (k0_off813 v2015) a + S1x16.size a ≤ S512x128.size a) ∧
  (∀ a, (k0_off815 v2015) a + S1x16.size a ≤ S512x128.size a) ∧
  (∀ a, (k0_off817 v2015) a + S1x16.size a ≤ S512x128.size a) ∧
  (∀ a, (k0_off819 v2015) a + S1x16.size a ≤ S512x128.size a) ∧
  (∀ a, (k0_off821 v2015) a + S1x16.size a ≤ S512x128.size a) ∧
  (∀ a, (k0_off823 v2015) a + S1x16.size a ≤ S512x128.size a) ∧
  (∀ a, (k0_off825 v2015) a + S1x16.size a ≤ S512x128.size a)
theorem k0_off811_inb : ∀ (v2015 : BitVec 32) (k0_hw41 : k0_chk41 v2015), ∀ a, (k0_off811 v2015) a + S1x16.size a ≤ S512x128.size a := fun v2015 k0_hw41 => k0_hw41.1
theorem k0_off813_inb : ∀ (v2015 : BitVec 32) (k0_hw41 : k0_chk41 v2015), ∀ a, (k0_off813 v2015) a + S1x16.size a ≤ S512x128.size a := fun v2015 k0_hw41 => k0_hw41.2.1
theorem k0_off815_inb : ∀ (v2015 : BitVec 32) (k0_hw41 : k0_chk41 v2015), ∀ a, (k0_off815 v2015) a + S1x16.size a ≤ S512x128.size a := fun v2015 k0_hw41 => k0_hw41.2.2.1
theorem k0_off817_inb : ∀ (v2015 : BitVec 32) (k0_hw41 : k0_chk41 v2015), ∀ a, (k0_off817 v2015) a + S1x16.size a ≤ S512x128.size a := fun v2015 k0_hw41 => k0_hw41.2.2.2.1
theorem k0_off819_inb : ∀ (v2015 : BitVec 32) (k0_hw41 : k0_chk41 v2015), ∀ a, (k0_off819 v2015) a + S1x16.size a ≤ S512x128.size a := fun v2015 k0_hw41 => k0_hw41.2.2.2.2.1
theorem k0_off821_inb : ∀ (v2015 : BitVec 32) (k0_hw41 : k0_chk41 v2015), ∀ a, (k0_off821 v2015) a + S1x16.size a ≤ S512x128.size a := fun v2015 k0_hw41 => k0_hw41.2.2.2.2.2.1
theorem k0_off823_inb : ∀ (v2015 : BitVec 32) (k0_hw41 : k0_chk41 v2015), ∀ a, (k0_off823 v2015) a + S1x16.size a ≤ S512x128.size a := fun v2015 k0_hw41 => k0_hw41.2.2.2.2.2.2.1
theorem k0_off825_inb : ∀ (v2015 : BitVec 32) (k0_hw41 : k0_chk41 v2015), ∀ a, (k0_off825 v2015) a + S1x16.size a ≤ S512x128.size a := fun v2015 k0_hw41 => k0_hw41.2.2.2.2.2.2.2

def k0_off826 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2182 : Index := Scalar.indexCast v2013
  let c0_436 : Index := 0#32
  ![v2182.toNat, 0]
def k0_off827 (v2017 : BitVec 32) : Fin 2 → Nat :=
  let v2184 : Index := Scalar.indexCast v2017
  let c0_437 : Index := 0#32
  ![v2184.toNat, 0]

def k0_off828 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2190 : Index := Scalar.indexCast v2013
  let c16_438 : Index := 16#32
  ![v2190.toNat, 16]
def k0_off829 (v2017 : BitVec 32) : Fin 2 → Nat :=
  let v2192 : Index := Scalar.indexCast v2017
  let c16_439 : Index := 16#32
  ![v2192.toNat, 16]
def k0_off830 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2198 : Index := Scalar.indexCast v2013
  let c32_440 : Index := 32#32
  ![v2198.toNat, 32]
def k0_off831 (v2017 : BitVec 32) : Fin 2 → Nat :=
  let v2200 : Index := Scalar.indexCast v2017
  let c32_441 : Index := 32#32
  ![v2200.toNat, 32]
def k0_off832 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2206 : Index := Scalar.indexCast v2013
  let c48_442 : Index := 48#32
  ![v2206.toNat, 48]
def k0_off833 (v2017 : BitVec 32) : Fin 2 → Nat :=
  let v2208 : Index := Scalar.indexCast v2017
  let c48_443 : Index := 48#32
  ![v2208.toNat, 48]
def k0_off834 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2214 : Index := Scalar.indexCast v2013
  let c64_444 : Index := 64#32
  ![v2214.toNat, 64]
def k0_off835 (v2017 : BitVec 32) : Fin 2 → Nat :=
  let v2216 : Index := Scalar.indexCast v2017
  let c64_445 : Index := 64#32
  ![v2216.toNat, 64]
def k0_off836 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2222 : Index := Scalar.indexCast v2013
  let c80_446 : Index := 80#32
  ![v2222.toNat, 80]
def k0_off837 (v2017 : BitVec 32) : Fin 2 → Nat :=
  let v2224 : Index := Scalar.indexCast v2017
  let c80_447 : Index := 80#32
  ![v2224.toNat, 80]
def k0_off838 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2230 : Index := Scalar.indexCast v2013
  let c96_448 : Index := 96#32
  ![v2230.toNat, 96]
def k0_off839 (v2017 : BitVec 32) : Fin 2 → Nat :=
  let v2232 : Index := Scalar.indexCast v2017
  let c96_449 : Index := 96#32
  ![v2232.toNat, 96]
def k0_off840 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2238 : Index := Scalar.indexCast v2013
  let c112_450 : Index := 112#32
  ![v2238.toNat, 112]
def k0_off841 (v2017 : BitVec 32) : Fin 2 → Nat :=
  let v2240 : Index := Scalar.indexCast v2017
  let c112_451 : Index := 112#32
  ![v2240.toNat, 112]

def k0_chk42 (v2017 : BitVec 32) : Prop :=
  (∀ a, (k0_off827 v2017) a + S1x16.size a ≤ S512x128.size a) ∧
  (∀ a, (k0_off829 v2017) a + S1x16.size a ≤ S512x128.size a) ∧
  (∀ a, (k0_off831 v2017) a + S1x16.size a ≤ S512x128.size a) ∧
  (∀ a, (k0_off833 v2017) a + S1x16.size a ≤ S512x128.size a) ∧
  (∀ a, (k0_off835 v2017) a + S1x16.size a ≤ S512x128.size a) ∧
  (∀ a, (k0_off837 v2017) a + S1x16.size a ≤ S512x128.size a) ∧
  (∀ a, (k0_off839 v2017) a + S1x16.size a ≤ S512x128.size a) ∧
  (∀ a, (k0_off841 v2017) a + S1x16.size a ≤ S512x128.size a)
theorem k0_off827_inb : ∀ (v2017 : BitVec 32) (k0_hw42 : k0_chk42 v2017), ∀ a, (k0_off827 v2017) a + S1x16.size a ≤ S512x128.size a := fun v2017 k0_hw42 => k0_hw42.1
theorem k0_off829_inb : ∀ (v2017 : BitVec 32) (k0_hw42 : k0_chk42 v2017), ∀ a, (k0_off829 v2017) a + S1x16.size a ≤ S512x128.size a := fun v2017 k0_hw42 => k0_hw42.2.1
theorem k0_off831_inb : ∀ (v2017 : BitVec 32) (k0_hw42 : k0_chk42 v2017), ∀ a, (k0_off831 v2017) a + S1x16.size a ≤ S512x128.size a := fun v2017 k0_hw42 => k0_hw42.2.2.1
theorem k0_off833_inb : ∀ (v2017 : BitVec 32) (k0_hw42 : k0_chk42 v2017), ∀ a, (k0_off833 v2017) a + S1x16.size a ≤ S512x128.size a := fun v2017 k0_hw42 => k0_hw42.2.2.2.1
theorem k0_off835_inb : ∀ (v2017 : BitVec 32) (k0_hw42 : k0_chk42 v2017), ∀ a, (k0_off835 v2017) a + S1x16.size a ≤ S512x128.size a := fun v2017 k0_hw42 => k0_hw42.2.2.2.2.1
theorem k0_off837_inb : ∀ (v2017 : BitVec 32) (k0_hw42 : k0_chk42 v2017), ∀ a, (k0_off837 v2017) a + S1x16.size a ≤ S512x128.size a := fun v2017 k0_hw42 => k0_hw42.2.2.2.2.2.1
theorem k0_off839_inb : ∀ (v2017 : BitVec 32) (k0_hw42 : k0_chk42 v2017), ∀ a, (k0_off839 v2017) a + S1x16.size a ≤ S512x128.size a := fun v2017 k0_hw42 => k0_hw42.2.2.2.2.2.2.1
theorem k0_off841_inb : ∀ (v2017 : BitVec 32) (k0_hw42 : k0_chk42 v2017), ∀ a, (k0_off841 v2017) a + S1x16.size a ≤ S512x128.size a := fun v2017 k0_hw42 => k0_hw42.2.2.2.2.2.2.2

def k0_off842 (k0_t4 : Fin k0_t4_loop.trips) (c8_i32_413 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v2011 : BitVec 32 := Scalar.addi v147 c8_i32_413
  let v2378 : Index := Scalar.indexCast v2011
  let c0_459 : Index := 0#32
  ![v2378.toNat, 0]
def k0_off843 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2384 : Index := Scalar.indexCast v2011
  let c16_460 : Index := 16#32
  ![v2384.toNat, 16]
def k0_off844 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2390 : Index := Scalar.indexCast v2011
  let c32_461 : Index := 32#32
  ![v2390.toNat, 32]
def k0_off845 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2396 : Index := Scalar.indexCast v2011
  let c48_462 : Index := 48#32
  ![v2396.toNat, 48]
def k0_off846 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2402 : Index := Scalar.indexCast v2011
  let c64_463 : Index := 64#32
  ![v2402.toNat, 64]
def k0_off847 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2408 : Index := Scalar.indexCast v2011
  let c80_464 : Index := 80#32
  ![v2408.toNat, 80]
def k0_off848 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2414 : Index := Scalar.indexCast v2011
  let c96_465 : Index := 96#32
  ![v2414.toNat, 96]
def k0_off849 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_413 : BitVec 32 := 8#32
  let v2011 : BitVec 32 := Scalar.addi v147 c8_i32_413
  let v2420 : Index := Scalar.indexCast v2011
  let c112_466 : Index := 112#32
  ![v2420.toNat, 112]
def k0_off850 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2432 : Index := Scalar.indexCast v2013
  let c0_467 : Index := 0#32
  ![v2432.toNat, 0]
def k0_off851 (v2480 : BitVec 32) : Fin 2 → Nat :=
  let v2487 : Index := Scalar.indexCast v2480
  let c0_480 : Index := 0#32
  ![v2487.toNat, 0]

def k0_off852 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2493 : Index := Scalar.indexCast v2476
  let c16_481 : Index := 16#32
  ![v2493.toNat, 16]
def k0_off853 (v2480 : BitVec 32) : Fin 2 → Nat :=
  let v2495 : Index := Scalar.indexCast v2480
  let c16_482 : Index := 16#32
  ![v2495.toNat, 16]
def k0_off854 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2501 : Index := Scalar.indexCast v2476
  let c32_483 : Index := 32#32
  ![v2501.toNat, 32]
def k0_off855 (v2480 : BitVec 32) : Fin 2 → Nat :=
  let v2503 : Index := Scalar.indexCast v2480
  let c32_484 : Index := 32#32
  ![v2503.toNat, 32]
def k0_off856 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2509 : Index := Scalar.indexCast v2476
  let c48_485 : Index := 48#32
  ![v2509.toNat, 48]
def k0_off857 (v2480 : BitVec 32) : Fin 2 → Nat :=
  let v2511 : Index := Scalar.indexCast v2480
  let c48_486 : Index := 48#32
  ![v2511.toNat, 48]
def k0_off858 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2517 : Index := Scalar.indexCast v2476
  let c64_487 : Index := 64#32
  ![v2517.toNat, 64]
def k0_off859 (v2480 : BitVec 32) : Fin 2 → Nat :=
  let v2519 : Index := Scalar.indexCast v2480
  let c64_488 : Index := 64#32
  ![v2519.toNat, 64]
def k0_off860 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2525 : Index := Scalar.indexCast v2476
  let c80_489 : Index := 80#32
  ![v2525.toNat, 80]
def k0_off861 (v2480 : BitVec 32) : Fin 2 → Nat :=
  let v2527 : Index := Scalar.indexCast v2480
  let c80_490 : Index := 80#32
  ![v2527.toNat, 80]
def k0_off862 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2533 : Index := Scalar.indexCast v2476
  let c96_491 : Index := 96#32
  ![v2533.toNat, 96]
def k0_off863 (v2480 : BitVec 32) : Fin 2 → Nat :=
  let v2535 : Index := Scalar.indexCast v2480
  let c96_492 : Index := 96#32
  ![v2535.toNat, 96]
def k0_off864 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2541 : Index := Scalar.indexCast v2476
  let c112_493 : Index := 112#32
  ![v2541.toNat, 112]
def k0_off865 (v2480 : BitVec 32) : Fin 2 → Nat :=
  let v2543 : Index := Scalar.indexCast v2480
  let c112_494 : Index := 112#32
  ![v2543.toNat, 112]

def k0_chk43 (v2480 : BitVec 32) : Prop :=
  (∀ a, (k0_off851 v2480) a + S1x16.size a ≤ S512x128.size a) ∧
  (∀ a, (k0_off853 v2480) a + S1x16.size a ≤ S512x128.size a) ∧
  (∀ a, (k0_off855 v2480) a + S1x16.size a ≤ S512x128.size a) ∧
  (∀ a, (k0_off857 v2480) a + S1x16.size a ≤ S512x128.size a) ∧
  (∀ a, (k0_off859 v2480) a + S1x16.size a ≤ S512x128.size a) ∧
  (∀ a, (k0_off861 v2480) a + S1x16.size a ≤ S512x128.size a) ∧
  (∀ a, (k0_off863 v2480) a + S1x16.size a ≤ S512x128.size a) ∧
  (∀ a, (k0_off865 v2480) a + S1x16.size a ≤ S512x128.size a)
theorem k0_off851_inb : ∀ (v2480 : BitVec 32) (k0_hw43 : k0_chk43 v2480), ∀ a, (k0_off851 v2480) a + S1x16.size a ≤ S512x128.size a := fun v2480 k0_hw43 => k0_hw43.1
theorem k0_off853_inb : ∀ (v2480 : BitVec 32) (k0_hw43 : k0_chk43 v2480), ∀ a, (k0_off853 v2480) a + S1x16.size a ≤ S512x128.size a := fun v2480 k0_hw43 => k0_hw43.2.1
theorem k0_off855_inb : ∀ (v2480 : BitVec 32) (k0_hw43 : k0_chk43 v2480), ∀ a, (k0_off855 v2480) a + S1x16.size a ≤ S512x128.size a := fun v2480 k0_hw43 => k0_hw43.2.2.1
theorem k0_off857_inb : ∀ (v2480 : BitVec 32) (k0_hw43 : k0_chk43 v2480), ∀ a, (k0_off857 v2480) a + S1x16.size a ≤ S512x128.size a := fun v2480 k0_hw43 => k0_hw43.2.2.2.1
theorem k0_off859_inb : ∀ (v2480 : BitVec 32) (k0_hw43 : k0_chk43 v2480), ∀ a, (k0_off859 v2480) a + S1x16.size a ≤ S512x128.size a := fun v2480 k0_hw43 => k0_hw43.2.2.2.2.1
theorem k0_off861_inb : ∀ (v2480 : BitVec 32) (k0_hw43 : k0_chk43 v2480), ∀ a, (k0_off861 v2480) a + S1x16.size a ≤ S512x128.size a := fun v2480 k0_hw43 => k0_hw43.2.2.2.2.2.1
theorem k0_off863_inb : ∀ (v2480 : BitVec 32) (k0_hw43 : k0_chk43 v2480), ∀ a, (k0_off863 v2480) a + S1x16.size a ≤ S512x128.size a := fun v2480 k0_hw43 => k0_hw43.2.2.2.2.2.2.1
theorem k0_off865_inb : ∀ (v2480 : BitVec 32) (k0_hw43 : k0_chk43 v2480), ∀ a, (k0_off865 v2480) a + S1x16.size a ≤ S512x128.size a := fun v2480 k0_hw43 => k0_hw43.2.2.2.2.2.2.2

def k0_off866 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2647 : Index := Scalar.indexCast v2478
  let c0_497 : Index := 0#32
  ![v2647.toNat, 0]
def k0_off867 (v2482 : BitVec 32) : Fin 2 → Nat :=
  let v2649 : Index := Scalar.indexCast v2482
  let c0_498 : Index := 0#32
  ![v2649.toNat, 0]

def k0_off868 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2655 : Index := Scalar.indexCast v2478
  let c16_499 : Index := 16#32
  ![v2655.toNat, 16]
def k0_off869 (v2482 : BitVec 32) : Fin 2 → Nat :=
  let v2657 : Index := Scalar.indexCast v2482
  let c16_500 : Index := 16#32
  ![v2657.toNat, 16]
def k0_off870 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2663 : Index := Scalar.indexCast v2478
  let c32_501 : Index := 32#32
  ![v2663.toNat, 32]
def k0_off871 (v2482 : BitVec 32) : Fin 2 → Nat :=
  let v2665 : Index := Scalar.indexCast v2482
  let c32_502 : Index := 32#32
  ![v2665.toNat, 32]
def k0_off872 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2671 : Index := Scalar.indexCast v2478
  let c48_503 : Index := 48#32
  ![v2671.toNat, 48]
def k0_off873 (v2482 : BitVec 32) : Fin 2 → Nat :=
  let v2673 : Index := Scalar.indexCast v2482
  let c48_504 : Index := 48#32
  ![v2673.toNat, 48]
def k0_off874 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2679 : Index := Scalar.indexCast v2478
  let c64_505 : Index := 64#32
  ![v2679.toNat, 64]
def k0_off875 (v2482 : BitVec 32) : Fin 2 → Nat :=
  let v2681 : Index := Scalar.indexCast v2482
  let c64_506 : Index := 64#32
  ![v2681.toNat, 64]
def k0_off876 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2687 : Index := Scalar.indexCast v2478
  let c80_507 : Index := 80#32
  ![v2687.toNat, 80]
def k0_off877 (v2482 : BitVec 32) : Fin 2 → Nat :=
  let v2689 : Index := Scalar.indexCast v2482
  let c80_508 : Index := 80#32
  ![v2689.toNat, 80]
def k0_off878 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2695 : Index := Scalar.indexCast v2478
  let c96_509 : Index := 96#32
  ![v2695.toNat, 96]
def k0_off879 (v2482 : BitVec 32) : Fin 2 → Nat :=
  let v2697 : Index := Scalar.indexCast v2482
  let c96_510 : Index := 96#32
  ![v2697.toNat, 96]
def k0_off880 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2703 : Index := Scalar.indexCast v2478
  let c112_511 : Index := 112#32
  ![v2703.toNat, 112]
def k0_off881 (v2482 : BitVec 32) : Fin 2 → Nat :=
  let v2705 : Index := Scalar.indexCast v2482
  let c112_512 : Index := 112#32
  ![v2705.toNat, 112]

def k0_chk44 (v2482 : BitVec 32) : Prop :=
  (∀ a, (k0_off867 v2482) a + S1x16.size a ≤ S512x128.size a) ∧
  (∀ a, (k0_off869 v2482) a + S1x16.size a ≤ S512x128.size a) ∧
  (∀ a, (k0_off871 v2482) a + S1x16.size a ≤ S512x128.size a) ∧
  (∀ a, (k0_off873 v2482) a + S1x16.size a ≤ S512x128.size a) ∧
  (∀ a, (k0_off875 v2482) a + S1x16.size a ≤ S512x128.size a) ∧
  (∀ a, (k0_off877 v2482) a + S1x16.size a ≤ S512x128.size a) ∧
  (∀ a, (k0_off879 v2482) a + S1x16.size a ≤ S512x128.size a) ∧
  (∀ a, (k0_off881 v2482) a + S1x16.size a ≤ S512x128.size a)
theorem k0_off867_inb : ∀ (v2482 : BitVec 32) (k0_hw44 : k0_chk44 v2482), ∀ a, (k0_off867 v2482) a + S1x16.size a ≤ S512x128.size a := fun v2482 k0_hw44 => k0_hw44.1
theorem k0_off869_inb : ∀ (v2482 : BitVec 32) (k0_hw44 : k0_chk44 v2482), ∀ a, (k0_off869 v2482) a + S1x16.size a ≤ S512x128.size a := fun v2482 k0_hw44 => k0_hw44.2.1
theorem k0_off871_inb : ∀ (v2482 : BitVec 32) (k0_hw44 : k0_chk44 v2482), ∀ a, (k0_off871 v2482) a + S1x16.size a ≤ S512x128.size a := fun v2482 k0_hw44 => k0_hw44.2.2.1
theorem k0_off873_inb : ∀ (v2482 : BitVec 32) (k0_hw44 : k0_chk44 v2482), ∀ a, (k0_off873 v2482) a + S1x16.size a ≤ S512x128.size a := fun v2482 k0_hw44 => k0_hw44.2.2.2.1
theorem k0_off875_inb : ∀ (v2482 : BitVec 32) (k0_hw44 : k0_chk44 v2482), ∀ a, (k0_off875 v2482) a + S1x16.size a ≤ S512x128.size a := fun v2482 k0_hw44 => k0_hw44.2.2.2.2.1
theorem k0_off877_inb : ∀ (v2482 : BitVec 32) (k0_hw44 : k0_chk44 v2482), ∀ a, (k0_off877 v2482) a + S1x16.size a ≤ S512x128.size a := fun v2482 k0_hw44 => k0_hw44.2.2.2.2.2.1
theorem k0_off879_inb : ∀ (v2482 : BitVec 32) (k0_hw44 : k0_chk44 v2482), ∀ a, (k0_off879 v2482) a + S1x16.size a ≤ S512x128.size a := fun v2482 k0_hw44 => k0_hw44.2.2.2.2.2.2.1
theorem k0_off881_inb : ∀ (v2482 : BitVec 32) (k0_hw44 : k0_chk44 v2482), ∀ a, (k0_off881 v2482) a + S1x16.size a ≤ S512x128.size a := fun v2482 k0_hw44 => k0_hw44.2.2.2.2.2.2.2

def k0_off882 (k0_t4 : Fin k0_t4_loop.trips) (c10_i32 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v2476 : BitVec 32 := Scalar.addi v147 c10_i32
  let v2843 : Index := Scalar.indexCast v2476
  let c0_520 : Index := 0#32
  ![v2843.toNat, 0]
def k0_off883 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2849 : Index := Scalar.indexCast v2476
  let c16_521 : Index := 16#32
  ![v2849.toNat, 16]
def k0_off884 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2855 : Index := Scalar.indexCast v2476
  let c32_522 : Index := 32#32
  ![v2855.toNat, 32]
def k0_off885 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2861 : Index := Scalar.indexCast v2476
  let c48_523 : Index := 48#32
  ![v2861.toNat, 48]
def k0_off886 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2867 : Index := Scalar.indexCast v2476
  let c64_524 : Index := 64#32
  ![v2867.toNat, 64]
def k0_off887 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2873 : Index := Scalar.indexCast v2476
  let c80_525 : Index := 80#32
  ![v2873.toNat, 80]
def k0_off888 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2879 : Index := Scalar.indexCast v2476
  let c96_526 : Index := 96#32
  ![v2879.toNat, 96]
def k0_off889 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32 : BitVec 32 := 10#32
  let v2476 : BitVec 32 := Scalar.addi v147 c10_i32
  let v2885 : Index := Scalar.indexCast v2476
  let c112_527 : Index := 112#32
  ![v2885.toNat, 112]
def k0_off890 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2897 : Index := Scalar.indexCast v2478
  let c0_528 : Index := 0#32
  ![v2897.toNat, 0]
def k0_off891 (v2945 : BitVec 32) : Fin 2 → Nat :=
  let v2952 : Index := Scalar.indexCast v2945
  let c0_541 : Index := 0#32
  ![v2952.toNat, 0]

def k0_off892 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2958 : Index := Scalar.indexCast v2941
  let c16_542 : Index := 16#32
  ![v2958.toNat, 16]
def k0_off893 (v2945 : BitVec 32) : Fin 2 → Nat :=
  let v2960 : Index := Scalar.indexCast v2945
  let c16_543 : Index := 16#32
  ![v2960.toNat, 16]
def k0_off894 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2966 : Index := Scalar.indexCast v2941
  let c32_544 : Index := 32#32
  ![v2966.toNat, 32]
def k0_off895 (v2945 : BitVec 32) : Fin 2 → Nat :=
  let v2968 : Index := Scalar.indexCast v2945
  let c32_545 : Index := 32#32
  ![v2968.toNat, 32]
def k0_off896 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2974 : Index := Scalar.indexCast v2941
  let c48_546 : Index := 48#32
  ![v2974.toNat, 48]
def k0_off897 (v2945 : BitVec 32) : Fin 2 → Nat :=
  let v2976 : Index := Scalar.indexCast v2945
  let c48_547 : Index := 48#32
  ![v2976.toNat, 48]
def k0_off898 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2982 : Index := Scalar.indexCast v2941
  let c64_548 : Index := 64#32
  ![v2982.toNat, 64]
def k0_off899 (v2945 : BitVec 32) : Fin 2 → Nat :=
  let v2984 : Index := Scalar.indexCast v2945
  let c64_549 : Index := 64#32
  ![v2984.toNat, 64]
def k0_off900 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2990 : Index := Scalar.indexCast v2941
  let c80_550 : Index := 80#32
  ![v2990.toNat, 80]
def k0_off901 (v2945 : BitVec 32) : Fin 2 → Nat :=
  let v2992 : Index := Scalar.indexCast v2945
  let c80_551 : Index := 80#32
  ![v2992.toNat, 80]
def k0_off902 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v2998 : Index := Scalar.indexCast v2941
  let c96_552 : Index := 96#32
  ![v2998.toNat, 96]
def k0_off903 (v2945 : BitVec 32) : Fin 2 → Nat :=
  let v3000 : Index := Scalar.indexCast v2945
  let c96_553 : Index := 96#32
  ![v3000.toNat, 96]
def k0_off904 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3006 : Index := Scalar.indexCast v2941
  let c112_554 : Index := 112#32
  ![v3006.toNat, 112]
def k0_off905 (v2945 : BitVec 32) : Fin 2 → Nat :=
  let v3008 : Index := Scalar.indexCast v2945
  let c112_555 : Index := 112#32
  ![v3008.toNat, 112]

def k0_chk45 (v2945 : BitVec 32) : Prop :=
  (∀ a, (k0_off891 v2945) a + S1x16.size a ≤ S512x128.size a) ∧
  (∀ a, (k0_off893 v2945) a + S1x16.size a ≤ S512x128.size a) ∧
  (∀ a, (k0_off895 v2945) a + S1x16.size a ≤ S512x128.size a) ∧
  (∀ a, (k0_off897 v2945) a + S1x16.size a ≤ S512x128.size a) ∧
  (∀ a, (k0_off899 v2945) a + S1x16.size a ≤ S512x128.size a) ∧
  (∀ a, (k0_off901 v2945) a + S1x16.size a ≤ S512x128.size a) ∧
  (∀ a, (k0_off903 v2945) a + S1x16.size a ≤ S512x128.size a) ∧
  (∀ a, (k0_off905 v2945) a + S1x16.size a ≤ S512x128.size a)
theorem k0_off891_inb : ∀ (v2945 : BitVec 32) (k0_hw45 : k0_chk45 v2945), ∀ a, (k0_off891 v2945) a + S1x16.size a ≤ S512x128.size a := fun v2945 k0_hw45 => k0_hw45.1
theorem k0_off893_inb : ∀ (v2945 : BitVec 32) (k0_hw45 : k0_chk45 v2945), ∀ a, (k0_off893 v2945) a + S1x16.size a ≤ S512x128.size a := fun v2945 k0_hw45 => k0_hw45.2.1
theorem k0_off895_inb : ∀ (v2945 : BitVec 32) (k0_hw45 : k0_chk45 v2945), ∀ a, (k0_off895 v2945) a + S1x16.size a ≤ S512x128.size a := fun v2945 k0_hw45 => k0_hw45.2.2.1
theorem k0_off897_inb : ∀ (v2945 : BitVec 32) (k0_hw45 : k0_chk45 v2945), ∀ a, (k0_off897 v2945) a + S1x16.size a ≤ S512x128.size a := fun v2945 k0_hw45 => k0_hw45.2.2.2.1
theorem k0_off899_inb : ∀ (v2945 : BitVec 32) (k0_hw45 : k0_chk45 v2945), ∀ a, (k0_off899 v2945) a + S1x16.size a ≤ S512x128.size a := fun v2945 k0_hw45 => k0_hw45.2.2.2.2.1
theorem k0_off901_inb : ∀ (v2945 : BitVec 32) (k0_hw45 : k0_chk45 v2945), ∀ a, (k0_off901 v2945) a + S1x16.size a ≤ S512x128.size a := fun v2945 k0_hw45 => k0_hw45.2.2.2.2.2.1
theorem k0_off903_inb : ∀ (v2945 : BitVec 32) (k0_hw45 : k0_chk45 v2945), ∀ a, (k0_off903 v2945) a + S1x16.size a ≤ S512x128.size a := fun v2945 k0_hw45 => k0_hw45.2.2.2.2.2.2.1
theorem k0_off905_inb : ∀ (v2945 : BitVec 32) (k0_hw45 : k0_chk45 v2945), ∀ a, (k0_off905 v2945) a + S1x16.size a ≤ S512x128.size a := fun v2945 k0_hw45 => k0_hw45.2.2.2.2.2.2.2

def k0_off906 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3112 : Index := Scalar.indexCast v2943
  let c0_558 : Index := 0#32
  ![v3112.toNat, 0]
def k0_off907 (v2947 : BitVec 32) : Fin 2 → Nat :=
  let v3114 : Index := Scalar.indexCast v2947
  let c0_559 : Index := 0#32
  ![v3114.toNat, 0]

def k0_off908 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3120 : Index := Scalar.indexCast v2943
  let c16_560 : Index := 16#32
  ![v3120.toNat, 16]
def k0_off909 (v2947 : BitVec 32) : Fin 2 → Nat :=
  let v3122 : Index := Scalar.indexCast v2947
  let c16_561 : Index := 16#32
  ![v3122.toNat, 16]
def k0_off910 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3128 : Index := Scalar.indexCast v2943
  let c32_562 : Index := 32#32
  ![v3128.toNat, 32]
def k0_off911 (v2947 : BitVec 32) : Fin 2 → Nat :=
  let v3130 : Index := Scalar.indexCast v2947
  let c32_563 : Index := 32#32
  ![v3130.toNat, 32]
def k0_off912 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3136 : Index := Scalar.indexCast v2943
  let c48_564 : Index := 48#32
  ![v3136.toNat, 48]
def k0_off913 (v2947 : BitVec 32) : Fin 2 → Nat :=
  let v3138 : Index := Scalar.indexCast v2947
  let c48_565 : Index := 48#32
  ![v3138.toNat, 48]
def k0_off914 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3144 : Index := Scalar.indexCast v2943
  let c64_566 : Index := 64#32
  ![v3144.toNat, 64]
def k0_off915 (v2947 : BitVec 32) : Fin 2 → Nat :=
  let v3146 : Index := Scalar.indexCast v2947
  let c64_567 : Index := 64#32
  ![v3146.toNat, 64]
def k0_off916 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3152 : Index := Scalar.indexCast v2943
  let c80_568 : Index := 80#32
  ![v3152.toNat, 80]
def k0_off917 (v2947 : BitVec 32) : Fin 2 → Nat :=
  let v3154 : Index := Scalar.indexCast v2947
  let c80_569 : Index := 80#32
  ![v3154.toNat, 80]
def k0_off918 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3160 : Index := Scalar.indexCast v2943
  let c96_570 : Index := 96#32
  ![v3160.toNat, 96]
def k0_off919 (v2947 : BitVec 32) : Fin 2 → Nat :=
  let v3162 : Index := Scalar.indexCast v2947
  let c96_571 : Index := 96#32
  ![v3162.toNat, 96]
def k0_off920 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3168 : Index := Scalar.indexCast v2943
  let c112_572 : Index := 112#32
  ![v3168.toNat, 112]
def k0_off921 (v2947 : BitVec 32) : Fin 2 → Nat :=
  let v3170 : Index := Scalar.indexCast v2947
  let c112_573 : Index := 112#32
  ![v3170.toNat, 112]

def k0_chk46 (v2947 : BitVec 32) : Prop :=
  (∀ a, (k0_off907 v2947) a + S1x16.size a ≤ S512x128.size a) ∧
  (∀ a, (k0_off909 v2947) a + S1x16.size a ≤ S512x128.size a) ∧
  (∀ a, (k0_off911 v2947) a + S1x16.size a ≤ S512x128.size a) ∧
  (∀ a, (k0_off913 v2947) a + S1x16.size a ≤ S512x128.size a) ∧
  (∀ a, (k0_off915 v2947) a + S1x16.size a ≤ S512x128.size a) ∧
  (∀ a, (k0_off917 v2947) a + S1x16.size a ≤ S512x128.size a) ∧
  (∀ a, (k0_off919 v2947) a + S1x16.size a ≤ S512x128.size a) ∧
  (∀ a, (k0_off921 v2947) a + S1x16.size a ≤ S512x128.size a)
theorem k0_off907_inb : ∀ (v2947 : BitVec 32) (k0_hw46 : k0_chk46 v2947), ∀ a, (k0_off907 v2947) a + S1x16.size a ≤ S512x128.size a := fun v2947 k0_hw46 => k0_hw46.1
theorem k0_off909_inb : ∀ (v2947 : BitVec 32) (k0_hw46 : k0_chk46 v2947), ∀ a, (k0_off909 v2947) a + S1x16.size a ≤ S512x128.size a := fun v2947 k0_hw46 => k0_hw46.2.1
theorem k0_off911_inb : ∀ (v2947 : BitVec 32) (k0_hw46 : k0_chk46 v2947), ∀ a, (k0_off911 v2947) a + S1x16.size a ≤ S512x128.size a := fun v2947 k0_hw46 => k0_hw46.2.2.1
theorem k0_off913_inb : ∀ (v2947 : BitVec 32) (k0_hw46 : k0_chk46 v2947), ∀ a, (k0_off913 v2947) a + S1x16.size a ≤ S512x128.size a := fun v2947 k0_hw46 => k0_hw46.2.2.2.1
theorem k0_off915_inb : ∀ (v2947 : BitVec 32) (k0_hw46 : k0_chk46 v2947), ∀ a, (k0_off915 v2947) a + S1x16.size a ≤ S512x128.size a := fun v2947 k0_hw46 => k0_hw46.2.2.2.2.1
theorem k0_off917_inb : ∀ (v2947 : BitVec 32) (k0_hw46 : k0_chk46 v2947), ∀ a, (k0_off917 v2947) a + S1x16.size a ≤ S512x128.size a := fun v2947 k0_hw46 => k0_hw46.2.2.2.2.2.1
theorem k0_off919_inb : ∀ (v2947 : BitVec 32) (k0_hw46 : k0_chk46 v2947), ∀ a, (k0_off919 v2947) a + S1x16.size a ≤ S512x128.size a := fun v2947 k0_hw46 => k0_hw46.2.2.2.2.2.2.1
theorem k0_off921_inb : ∀ (v2947 : BitVec 32) (k0_hw46 : k0_chk46 v2947), ∀ a, (k0_off921 v2947) a + S1x16.size a ≤ S512x128.size a := fun v2947 k0_hw46 => k0_hw46.2.2.2.2.2.2.2

def k0_off922 (k0_t4 : Fin k0_t4_loop.trips) (c12_i32 : BitVec 32) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let v2941 : BitVec 32 := Scalar.addi v147 c12_i32
  let v3308 : Index := Scalar.indexCast v2941
  let c0_581 : Index := 0#32
  ![v3308.toNat, 0]
def k0_off923 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3314 : Index := Scalar.indexCast v2941
  let c16_582 : Index := 16#32
  ![v3314.toNat, 16]
def k0_off924 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3320 : Index := Scalar.indexCast v2941
  let c32_583 : Index := 32#32
  ![v3320.toNat, 32]
def k0_off925 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3326 : Index := Scalar.indexCast v2941
  let c48_584 : Index := 48#32
  ![v3326.toNat, 48]
def k0_off926 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3332 : Index := Scalar.indexCast v2941
  let c64_585 : Index := 64#32
  ![v3332.toNat, 64]
def k0_off927 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3338 : Index := Scalar.indexCast v2941
  let c80_586 : Index := 80#32
  ![v3338.toNat, 80]
def k0_off928 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3344 : Index := Scalar.indexCast v2941
  let c96_587 : Index := 96#32
  ![v3344.toNat, 96]
def k0_off929 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32 : BitVec 32 := 12#32
  let v2941 : BitVec 32 := Scalar.addi v147 c12_i32
  let v3350 : Index := Scalar.indexCast v2941
  let c112_588 : Index := 112#32
  ![v3350.toNat, 112]
def k0_off930 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3362 : Index := Scalar.indexCast v2943
  let c0_589 : Index := 0#32
  ![v3362.toNat, 0]
def k0_off931 (v3410 : BitVec 32) : Fin 2 → Nat :=
  let v3417 : Index := Scalar.indexCast v3410
  let c0_602 : Index := 0#32
  ![v3417.toNat, 0]

def k0_off932 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3423 : Index := Scalar.indexCast v3406
  let c16_603 : Index := 16#32
  ![v3423.toNat, 16]
def k0_off933 (v3410 : BitVec 32) : Fin 2 → Nat :=
  let v3425 : Index := Scalar.indexCast v3410
  let c16_604 : Index := 16#32
  ![v3425.toNat, 16]
def k0_off934 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3431 : Index := Scalar.indexCast v3406
  let c32_605 : Index := 32#32
  ![v3431.toNat, 32]
def k0_off935 (v3410 : BitVec 32) : Fin 2 → Nat :=
  let v3433 : Index := Scalar.indexCast v3410
  let c32_606 : Index := 32#32
  ![v3433.toNat, 32]
def k0_off936 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3439 : Index := Scalar.indexCast v3406
  let c48_607 : Index := 48#32
  ![v3439.toNat, 48]
def k0_off937 (v3410 : BitVec 32) : Fin 2 → Nat :=
  let v3441 : Index := Scalar.indexCast v3410
  let c48_608 : Index := 48#32
  ![v3441.toNat, 48]
def k0_off938 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3447 : Index := Scalar.indexCast v3406
  let c64_609 : Index := 64#32
  ![v3447.toNat, 64]
def k0_off939 (v3410 : BitVec 32) : Fin 2 → Nat :=
  let v3449 : Index := Scalar.indexCast v3410
  let c64_610 : Index := 64#32
  ![v3449.toNat, 64]
def k0_off940 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3455 : Index := Scalar.indexCast v3406
  let c80_611 : Index := 80#32
  ![v3455.toNat, 80]
def k0_off941 (v3410 : BitVec 32) : Fin 2 → Nat :=
  let v3457 : Index := Scalar.indexCast v3410
  let c80_612 : Index := 80#32
  ![v3457.toNat, 80]
def k0_off942 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3463 : Index := Scalar.indexCast v3406
  let c96_613 : Index := 96#32
  ![v3463.toNat, 96]
def k0_off943 (v3410 : BitVec 32) : Fin 2 → Nat :=
  let v3465 : Index := Scalar.indexCast v3410
  let c96_614 : Index := 96#32
  ![v3465.toNat, 96]
def k0_off944 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3471 : Index := Scalar.indexCast v3406
  let c112_615 : Index := 112#32
  ![v3471.toNat, 112]
def k0_off945 (v3410 : BitVec 32) : Fin 2 → Nat :=
  let v3473 : Index := Scalar.indexCast v3410
  let c112_616 : Index := 112#32
  ![v3473.toNat, 112]

def k0_chk47 (v3410 : BitVec 32) : Prop :=
  (∀ a, (k0_off931 v3410) a + S1x16.size a ≤ S512x128.size a) ∧
  (∀ a, (k0_off933 v3410) a + S1x16.size a ≤ S512x128.size a) ∧
  (∀ a, (k0_off935 v3410) a + S1x16.size a ≤ S512x128.size a) ∧
  (∀ a, (k0_off937 v3410) a + S1x16.size a ≤ S512x128.size a) ∧
  (∀ a, (k0_off939 v3410) a + S1x16.size a ≤ S512x128.size a) ∧
  (∀ a, (k0_off941 v3410) a + S1x16.size a ≤ S512x128.size a) ∧
  (∀ a, (k0_off943 v3410) a + S1x16.size a ≤ S512x128.size a) ∧
  (∀ a, (k0_off945 v3410) a + S1x16.size a ≤ S512x128.size a)
theorem k0_off931_inb : ∀ (v3410 : BitVec 32) (k0_hw47 : k0_chk47 v3410), ∀ a, (k0_off931 v3410) a + S1x16.size a ≤ S512x128.size a := fun v3410 k0_hw47 => k0_hw47.1
theorem k0_off933_inb : ∀ (v3410 : BitVec 32) (k0_hw47 : k0_chk47 v3410), ∀ a, (k0_off933 v3410) a + S1x16.size a ≤ S512x128.size a := fun v3410 k0_hw47 => k0_hw47.2.1
theorem k0_off935_inb : ∀ (v3410 : BitVec 32) (k0_hw47 : k0_chk47 v3410), ∀ a, (k0_off935 v3410) a + S1x16.size a ≤ S512x128.size a := fun v3410 k0_hw47 => k0_hw47.2.2.1
theorem k0_off937_inb : ∀ (v3410 : BitVec 32) (k0_hw47 : k0_chk47 v3410), ∀ a, (k0_off937 v3410) a + S1x16.size a ≤ S512x128.size a := fun v3410 k0_hw47 => k0_hw47.2.2.2.1
theorem k0_off939_inb : ∀ (v3410 : BitVec 32) (k0_hw47 : k0_chk47 v3410), ∀ a, (k0_off939 v3410) a + S1x16.size a ≤ S512x128.size a := fun v3410 k0_hw47 => k0_hw47.2.2.2.2.1
theorem k0_off941_inb : ∀ (v3410 : BitVec 32) (k0_hw47 : k0_chk47 v3410), ∀ a, (k0_off941 v3410) a + S1x16.size a ≤ S512x128.size a := fun v3410 k0_hw47 => k0_hw47.2.2.2.2.2.1
theorem k0_off943_inb : ∀ (v3410 : BitVec 32) (k0_hw47 : k0_chk47 v3410), ∀ a, (k0_off943 v3410) a + S1x16.size a ≤ S512x128.size a := fun v3410 k0_hw47 => k0_hw47.2.2.2.2.2.2.1
theorem k0_off945_inb : ∀ (v3410 : BitVec 32) (k0_hw47 : k0_chk47 v3410), ∀ a, (k0_off945 v3410) a + S1x16.size a ≤ S512x128.size a := fun v3410 k0_hw47 => k0_hw47.2.2.2.2.2.2.2

def k0_off946 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3577 : Index := Scalar.indexCast v3408
  let c0_619 : Index := 0#32
  ![v3577.toNat, 0]
def k0_off947 (v3412 : BitVec 32) : Fin 2 → Nat :=
  let v3579 : Index := Scalar.indexCast v3412
  let c0_620 : Index := 0#32
  ![v3579.toNat, 0]

def k0_off948 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3585 : Index := Scalar.indexCast v3408
  let c16_621 : Index := 16#32
  ![v3585.toNat, 16]
def k0_off949 (v3412 : BitVec 32) : Fin 2 → Nat :=
  let v3587 : Index := Scalar.indexCast v3412
  let c16_622 : Index := 16#32
  ![v3587.toNat, 16]
def k0_off950 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3593 : Index := Scalar.indexCast v3408
  let c32_623 : Index := 32#32
  ![v3593.toNat, 32]
def k0_off951 (v3412 : BitVec 32) : Fin 2 → Nat :=
  let v3595 : Index := Scalar.indexCast v3412
  let c32_624 : Index := 32#32
  ![v3595.toNat, 32]
def k0_off952 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3601 : Index := Scalar.indexCast v3408
  let c48_625 : Index := 48#32
  ![v3601.toNat, 48]
def k0_off953 (v3412 : BitVec 32) : Fin 2 → Nat :=
  let v3603 : Index := Scalar.indexCast v3412
  let c48_626 : Index := 48#32
  ![v3603.toNat, 48]
def k0_off954 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3609 : Index := Scalar.indexCast v3408
  let c64_627 : Index := 64#32
  ![v3609.toNat, 64]
def k0_off955 (v3412 : BitVec 32) : Fin 2 → Nat :=
  let v3611 : Index := Scalar.indexCast v3412
  let c64_628 : Index := 64#32
  ![v3611.toNat, 64]
def k0_off956 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3617 : Index := Scalar.indexCast v3408
  let c80_629 : Index := 80#32
  ![v3617.toNat, 80]
def k0_off957 (v3412 : BitVec 32) : Fin 2 → Nat :=
  let v3619 : Index := Scalar.indexCast v3412
  let c80_630 : Index := 80#32
  ![v3619.toNat, 80]
def k0_off958 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3625 : Index := Scalar.indexCast v3408
  let c96_631 : Index := 96#32
  ![v3625.toNat, 96]
def k0_off959 (v3412 : BitVec 32) : Fin 2 → Nat :=
  let v3627 : Index := Scalar.indexCast v3412
  let c96_632 : Index := 96#32
  ![v3627.toNat, 96]
def k0_off960 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3633 : Index := Scalar.indexCast v3408
  let c112_633 : Index := 112#32
  ![v3633.toNat, 112]
def k0_off961 (v3412 : BitVec 32) : Fin 2 → Nat :=
  let v3635 : Index := Scalar.indexCast v3412
  let c112_634 : Index := 112#32
  ![v3635.toNat, 112]

def k0_chk48 (v3412 : BitVec 32) : Prop :=
  (∀ a, (k0_off947 v3412) a + S1x16.size a ≤ S512x128.size a) ∧
  (∀ a, (k0_off949 v3412) a + S1x16.size a ≤ S512x128.size a) ∧
  (∀ a, (k0_off951 v3412) a + S1x16.size a ≤ S512x128.size a) ∧
  (∀ a, (k0_off953 v3412) a + S1x16.size a ≤ S512x128.size a) ∧
  (∀ a, (k0_off955 v3412) a + S1x16.size a ≤ S512x128.size a) ∧
  (∀ a, (k0_off957 v3412) a + S1x16.size a ≤ S512x128.size a) ∧
  (∀ a, (k0_off959 v3412) a + S1x16.size a ≤ S512x128.size a) ∧
  (∀ a, (k0_off961 v3412) a + S1x16.size a ≤ S512x128.size a)
theorem k0_off947_inb : ∀ (v3412 : BitVec 32) (k0_hw48 : k0_chk48 v3412), ∀ a, (k0_off947 v3412) a + S1x16.size a ≤ S512x128.size a := fun v3412 k0_hw48 => k0_hw48.1
theorem k0_off949_inb : ∀ (v3412 : BitVec 32) (k0_hw48 : k0_chk48 v3412), ∀ a, (k0_off949 v3412) a + S1x16.size a ≤ S512x128.size a := fun v3412 k0_hw48 => k0_hw48.2.1
theorem k0_off951_inb : ∀ (v3412 : BitVec 32) (k0_hw48 : k0_chk48 v3412), ∀ a, (k0_off951 v3412) a + S1x16.size a ≤ S512x128.size a := fun v3412 k0_hw48 => k0_hw48.2.2.1
theorem k0_off953_inb : ∀ (v3412 : BitVec 32) (k0_hw48 : k0_chk48 v3412), ∀ a, (k0_off953 v3412) a + S1x16.size a ≤ S512x128.size a := fun v3412 k0_hw48 => k0_hw48.2.2.2.1
theorem k0_off955_inb : ∀ (v3412 : BitVec 32) (k0_hw48 : k0_chk48 v3412), ∀ a, (k0_off955 v3412) a + S1x16.size a ≤ S512x128.size a := fun v3412 k0_hw48 => k0_hw48.2.2.2.2.1
theorem k0_off957_inb : ∀ (v3412 : BitVec 32) (k0_hw48 : k0_chk48 v3412), ∀ a, (k0_off957 v3412) a + S1x16.size a ≤ S512x128.size a := fun v3412 k0_hw48 => k0_hw48.2.2.2.2.2.1
theorem k0_off959_inb : ∀ (v3412 : BitVec 32) (k0_hw48 : k0_chk48 v3412), ∀ a, (k0_off959 v3412) a + S1x16.size a ≤ S512x128.size a := fun v3412 k0_hw48 => k0_hw48.2.2.2.2.2.2.1
theorem k0_off961_inb : ∀ (v3412 : BitVec 32) (k0_hw48 : k0_chk48 v3412), ∀ a, (k0_off961 v3412) a + S1x16.size a ≤ S512x128.size a := fun v3412 k0_hw48 => k0_hw48.2.2.2.2.2.2.2

def k0_off962 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3773 : Index := Scalar.indexCast v3406
  let c0_642 : Index := 0#32
  ![v3773.toNat, 0]
def k0_off963 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3779 : Index := Scalar.indexCast v3406
  let c16_643 : Index := 16#32
  ![v3779.toNat, 16]
def k0_off964 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3785 : Index := Scalar.indexCast v3406
  let c32_644 : Index := 32#32
  ![v3785.toNat, 32]
def k0_off965 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3791 : Index := Scalar.indexCast v3406
  let c48_645 : Index := 48#32
  ![v3791.toNat, 48]
def k0_off966 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3797 : Index := Scalar.indexCast v3406
  let c64_646 : Index := 64#32
  ![v3797.toNat, 64]
def k0_off967 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3803 : Index := Scalar.indexCast v3406
  let c80_647 : Index := 80#32
  ![v3803.toNat, 80]
def k0_off968 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3809 : Index := Scalar.indexCast v3406
  let c96_648 : Index := 96#32
  ![v3809.toNat, 96]
def k0_off969 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32 : BitVec 32 := 14#32
  let v3406 : BitVec 32 := Scalar.addi v147 c14_i32
  let v3815 : Index := Scalar.indexCast v3406
  let c112_649 : Index := 112#32
  ![v3815.toNat, 112]
def k0_off970 (k0_t4 : Fin k0_t4_loop.trips) : Fin 2 → Nat :=
  let c0_i32_98 : BitVec 32 := 0#32
  let c1_i32_100 : BitVec 32 := 1#32
  let arg29 : BitVec 32 := Scf.iv c0_i32_98 c1_i32_100 k0_t4
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3827 : Index := Scalar.indexCast v3408
  let c0_650 : Index := 0#32
  ![v3827.toNat, 0]
def k0_off971 (i : grid0.Coords) (k0_t3 : Fin k0_t3_loop.trips) (c0_i32_86 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c4_i32_84 : BitVec 32 := 4#32
  let c0_i32_53 : BitVec 32 := 0#32
  let c1_i32_54 : BitVec 32 := 1#32
  let arg28 : BitVec 32 := Scf.iv c0_i32_53 c1_i32_54 k0_t3
  let v79 : BitVec 32 := Scalar.muli c4_i32_84 arg28
  let c2_i32_85 : BitVec 32 := 2#32
  let v80 : BitVec 32 := Scalar.addi v79 c2_i32_85
  let v81 : BitVec 32 := Scalar.addi v80 c0_i32_86
  let c64_i32_102 : BitVec 32 := 64#32
  let v92 : BitVec 32 := Scalar.muli v81 c64_i32_102
  let v93 : BitVec 32 := Scalar.addi v2 v92
  let c0_i32_103 : BitVec 32 := 0#32
  ![v93.toNat, 0]
@[reducible] def k0_t5_loop : Scf.Loop 32 :=
  let c0_i32_119 : BitVec 32 := 0#32
  let c4_i32_120 : BitVec 32 := 4#32
  let v108 : BitVec 32 := Scalar.addi c0_i32_119 c4_i32_120
  let c1_i32_121 : BitVec 32 := 1#32
  ⟨c0_i32_119, v108, c1_i32_121⟩
def k0_off972 (k0_t3 : Fin k0_t3_loop.trips) (k0_t5 : Fin k0_t5_loop.trips) : Fin 1 → Nat :=
  let c4_i32_105 : BitVec 32 := 4#32
  let c0_i32_53 : BitVec 32 := 0#32
  let c1_i32_54 : BitVec 32 := 1#32
  let arg28 : BitVec 32 := Scf.iv c0_i32_53 c1_i32_54 k0_t3
  let v96 : BitVec 32 := Scalar.muli c4_i32_105 arg28
  let c2_i32_106 : BitVec 32 := 2#32
  let v97 : BitVec 32 := Scalar.addi v96 c2_i32_106
  let c1_i32_107 : BitVec 32 := 1#32
  let v98 : BitVec 32 := Scalar.addi v97 c1_i32_107
  let c64_i32_117 : BitVec 32 := 64#32
  let v107 : BitVec 32 := Scalar.muli v98 c64_i32_117
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v148 : BitVec 32 := Scalar.addi v107 v147
  let v149 : Index := Scalar.indexCast v148
  ![v149.toNat]
def k0_off973 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v160 : Index := Scalar.indexCast v151
  let c0_171 : Index := 0#32
  ![v160.toNat, 0]
def k0_off974 (v155 : BitVec 32) : Fin 2 → Nat :=
  let v162 : Index := Scalar.indexCast v155
  let c0_172 : Index := 0#32
  ![v162.toNat, 0]

def k0_off975 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v168 : Index := Scalar.indexCast v151
  let c16_173 : Index := 16#32
  ![v168.toNat, 16]
def k0_off976 (v155 : BitVec 32) : Fin 2 → Nat :=
  let v170 : Index := Scalar.indexCast v155
  let c16_174 : Index := 16#32
  ![v170.toNat, 16]
def k0_off977 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v176 : Index := Scalar.indexCast v151
  let c32_175 : Index := 32#32
  ![v176.toNat, 32]
def k0_off978 (v155 : BitVec 32) : Fin 2 → Nat :=
  let v178 : Index := Scalar.indexCast v155
  let c32_176 : Index := 32#32
  ![v178.toNat, 32]
def k0_off979 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v184 : Index := Scalar.indexCast v151
  let c48_177 : Index := 48#32
  ![v184.toNat, 48]
def k0_off980 (v155 : BitVec 32) : Fin 2 → Nat :=
  let v186 : Index := Scalar.indexCast v155
  let c48_178 : Index := 48#32
  ![v186.toNat, 48]
def k0_off981 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v192 : Index := Scalar.indexCast v151
  let c64_179 : Index := 64#32
  ![v192.toNat, 64]
def k0_off982 (v155 : BitVec 32) : Fin 2 → Nat :=
  let v194 : Index := Scalar.indexCast v155
  let c64_180 : Index := 64#32
  ![v194.toNat, 64]
def k0_off983 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v200 : Index := Scalar.indexCast v151
  let c80_181 : Index := 80#32
  ![v200.toNat, 80]
def k0_off984 (v155 : BitVec 32) : Fin 2 → Nat :=
  let v202 : Index := Scalar.indexCast v155
  let c80_182 : Index := 80#32
  ![v202.toNat, 80]
def k0_off985 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v208 : Index := Scalar.indexCast v151
  let c96_183 : Index := 96#32
  ![v208.toNat, 96]
def k0_off986 (v155 : BitVec 32) : Fin 2 → Nat :=
  let v210 : Index := Scalar.indexCast v155
  let c96_184 : Index := 96#32
  ![v210.toNat, 96]
def k0_off987 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v216 : Index := Scalar.indexCast v151
  let c112_185 : Index := 112#32
  ![v216.toNat, 112]
def k0_off988 (v155 : BitVec 32) : Fin 2 → Nat :=
  let v218 : Index := Scalar.indexCast v155
  let c112_186 : Index := 112#32
  ![v218.toNat, 112]

def k0_chk49 (v155 : BitVec 32) : Prop :=
  (∀ a, (k0_off974 v155) a + S1x16.size a ≤ S512x128.size a) ∧
  (∀ a, (k0_off976 v155) a + S1x16.size a ≤ S512x128.size a) ∧
  (∀ a, (k0_off978 v155) a + S1x16.size a ≤ S512x128.size a) ∧
  (∀ a, (k0_off980 v155) a + S1x16.size a ≤ S512x128.size a) ∧
  (∀ a, (k0_off982 v155) a + S1x16.size a ≤ S512x128.size a) ∧
  (∀ a, (k0_off984 v155) a + S1x16.size a ≤ S512x128.size a) ∧
  (∀ a, (k0_off986 v155) a + S1x16.size a ≤ S512x128.size a) ∧
  (∀ a, (k0_off988 v155) a + S1x16.size a ≤ S512x128.size a)
theorem k0_off974_inb : ∀ (v155 : BitVec 32) (k0_hw49 : k0_chk49 v155), ∀ a, (k0_off974 v155) a + S1x16.size a ≤ S512x128.size a := fun v155 k0_hw49 => k0_hw49.1
theorem k0_off976_inb : ∀ (v155 : BitVec 32) (k0_hw49 : k0_chk49 v155), ∀ a, (k0_off976 v155) a + S1x16.size a ≤ S512x128.size a := fun v155 k0_hw49 => k0_hw49.2.1
theorem k0_off978_inb : ∀ (v155 : BitVec 32) (k0_hw49 : k0_chk49 v155), ∀ a, (k0_off978 v155) a + S1x16.size a ≤ S512x128.size a := fun v155 k0_hw49 => k0_hw49.2.2.1
theorem k0_off980_inb : ∀ (v155 : BitVec 32) (k0_hw49 : k0_chk49 v155), ∀ a, (k0_off980 v155) a + S1x16.size a ≤ S512x128.size a := fun v155 k0_hw49 => k0_hw49.2.2.2.1
theorem k0_off982_inb : ∀ (v155 : BitVec 32) (k0_hw49 : k0_chk49 v155), ∀ a, (k0_off982 v155) a + S1x16.size a ≤ S512x128.size a := fun v155 k0_hw49 => k0_hw49.2.2.2.2.1
theorem k0_off984_inb : ∀ (v155 : BitVec 32) (k0_hw49 : k0_chk49 v155), ∀ a, (k0_off984 v155) a + S1x16.size a ≤ S512x128.size a := fun v155 k0_hw49 => k0_hw49.2.2.2.2.2.1
theorem k0_off986_inb : ∀ (v155 : BitVec 32) (k0_hw49 : k0_chk49 v155), ∀ a, (k0_off986 v155) a + S1x16.size a ≤ S512x128.size a := fun v155 k0_hw49 => k0_hw49.2.2.2.2.2.2.1
theorem k0_off988_inb : ∀ (v155 : BitVec 32) (k0_hw49 : k0_chk49 v155), ∀ a, (k0_off988 v155) a + S1x16.size a ≤ S512x128.size a := fun v155 k0_hw49 => k0_hw49.2.2.2.2.2.2.2

def k0_off989 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v322 : Index := Scalar.indexCast v153
  let c0_189 : Index := 0#32
  ![v322.toNat, 0]
def k0_off990 (v157 : BitVec 32) : Fin 2 → Nat :=
  let v324 : Index := Scalar.indexCast v157
  let c0_190 : Index := 0#32
  ![v324.toNat, 0]

def k0_off991 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v330 : Index := Scalar.indexCast v153
  let c16_191 : Index := 16#32
  ![v330.toNat, 16]
def k0_off992 (v157 : BitVec 32) : Fin 2 → Nat :=
  let v332 : Index := Scalar.indexCast v157
  let c16_192 : Index := 16#32
  ![v332.toNat, 16]
def k0_off993 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v338 : Index := Scalar.indexCast v153
  let c32_193 : Index := 32#32
  ![v338.toNat, 32]
def k0_off994 (v157 : BitVec 32) : Fin 2 → Nat :=
  let v340 : Index := Scalar.indexCast v157
  let c32_194 : Index := 32#32
  ![v340.toNat, 32]
def k0_off995 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v346 : Index := Scalar.indexCast v153
  let c48_195 : Index := 48#32
  ![v346.toNat, 48]
def k0_off996 (v157 : BitVec 32) : Fin 2 → Nat :=
  let v348 : Index := Scalar.indexCast v157
  let c48_196 : Index := 48#32
  ![v348.toNat, 48]
def k0_off997 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v354 : Index := Scalar.indexCast v153
  let c64_197 : Index := 64#32
  ![v354.toNat, 64]
def k0_off998 (v157 : BitVec 32) : Fin 2 → Nat :=
  let v356 : Index := Scalar.indexCast v157
  let c64_198 : Index := 64#32
  ![v356.toNat, 64]
def k0_off999 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v362 : Index := Scalar.indexCast v153
  let c80_199 : Index := 80#32
  ![v362.toNat, 80]
def k0_off1000 (v157 : BitVec 32) : Fin 2 → Nat :=
  let v364 : Index := Scalar.indexCast v157
  let c80_200 : Index := 80#32
  ![v364.toNat, 80]
def k0_off1001 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v370 : Index := Scalar.indexCast v153
  let c96_201 : Index := 96#32
  ![v370.toNat, 96]
def k0_off1002 (v157 : BitVec 32) : Fin 2 → Nat :=
  let v372 : Index := Scalar.indexCast v157
  let c96_202 : Index := 96#32
  ![v372.toNat, 96]
def k0_off1003 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v378 : Index := Scalar.indexCast v153
  let c112_203 : Index := 112#32
  ![v378.toNat, 112]
def k0_off1004 (v157 : BitVec 32) : Fin 2 → Nat :=
  let v380 : Index := Scalar.indexCast v157
  let c112_204 : Index := 112#32
  ![v380.toNat, 112]

def k0_chk50 (v157 : BitVec 32) : Prop :=
  (∀ a, (k0_off990 v157) a + S1x16.size a ≤ S512x128.size a) ∧
  (∀ a, (k0_off992 v157) a + S1x16.size a ≤ S512x128.size a) ∧
  (∀ a, (k0_off994 v157) a + S1x16.size a ≤ S512x128.size a) ∧
  (∀ a, (k0_off996 v157) a + S1x16.size a ≤ S512x128.size a) ∧
  (∀ a, (k0_off998 v157) a + S1x16.size a ≤ S512x128.size a) ∧
  (∀ a, (k0_off1000 v157) a + S1x16.size a ≤ S512x128.size a) ∧
  (∀ a, (k0_off1002 v157) a + S1x16.size a ≤ S512x128.size a) ∧
  (∀ a, (k0_off1004 v157) a + S1x16.size a ≤ S512x128.size a)
theorem k0_off990_inb : ∀ (v157 : BitVec 32) (k0_hw50 : k0_chk50 v157), ∀ a, (k0_off990 v157) a + S1x16.size a ≤ S512x128.size a := fun v157 k0_hw50 => k0_hw50.1
theorem k0_off992_inb : ∀ (v157 : BitVec 32) (k0_hw50 : k0_chk50 v157), ∀ a, (k0_off992 v157) a + S1x16.size a ≤ S512x128.size a := fun v157 k0_hw50 => k0_hw50.2.1
theorem k0_off994_inb : ∀ (v157 : BitVec 32) (k0_hw50 : k0_chk50 v157), ∀ a, (k0_off994 v157) a + S1x16.size a ≤ S512x128.size a := fun v157 k0_hw50 => k0_hw50.2.2.1
theorem k0_off996_inb : ∀ (v157 : BitVec 32) (k0_hw50 : k0_chk50 v157), ∀ a, (k0_off996 v157) a + S1x16.size a ≤ S512x128.size a := fun v157 k0_hw50 => k0_hw50.2.2.2.1
theorem k0_off998_inb : ∀ (v157 : BitVec 32) (k0_hw50 : k0_chk50 v157), ∀ a, (k0_off998 v157) a + S1x16.size a ≤ S512x128.size a := fun v157 k0_hw50 => k0_hw50.2.2.2.2.1
theorem k0_off1000_inb : ∀ (v157 : BitVec 32) (k0_hw50 : k0_chk50 v157), ∀ a, (k0_off1000 v157) a + S1x16.size a ≤ S512x128.size a := fun v157 k0_hw50 => k0_hw50.2.2.2.2.2.1
theorem k0_off1002_inb : ∀ (v157 : BitVec 32) (k0_hw50 : k0_chk50 v157), ∀ a, (k0_off1002 v157) a + S1x16.size a ≤ S512x128.size a := fun v157 k0_hw50 => k0_hw50.2.2.2.2.2.2.1
theorem k0_off1004_inb : ∀ (v157 : BitVec 32) (k0_hw50 : k0_chk50 v157), ∀ a, (k0_off1004 v157) a + S1x16.size a ≤ S512x128.size a := fun v157 k0_hw50 => k0_hw50.2.2.2.2.2.2.2

def k0_off1005 (k0_t5 : Fin k0_t5_loop.trips) (c0_i32_167 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v151 : BitVec 32 := Scalar.addi v147 c0_i32_167
  let v518 : Index := Scalar.indexCast v151
  let c0_212 : Index := 0#32
  ![v518.toNat, 0]
def k0_off1006 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v524 : Index := Scalar.indexCast v151
  let c16_213 : Index := 16#32
  ![v524.toNat, 16]
def k0_off1007 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v530 : Index := Scalar.indexCast v151
  let c32_214 : Index := 32#32
  ![v530.toNat, 32]
def k0_off1008 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v536 : Index := Scalar.indexCast v151
  let c48_215 : Index := 48#32
  ![v536.toNat, 48]
def k0_off1009 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v542 : Index := Scalar.indexCast v151
  let c64_216 : Index := 64#32
  ![v542.toNat, 64]
def k0_off1010 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v548 : Index := Scalar.indexCast v151
  let c80_217 : Index := 80#32
  ![v548.toNat, 80]
def k0_off1011 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v554 : Index := Scalar.indexCast v151
  let c96_218 : Index := 96#32
  ![v554.toNat, 96]
def k0_off1012 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_167 : BitVec 32 := 0#32
  let v151 : BitVec 32 := Scalar.addi v147 c0_i32_167
  let v560 : Index := Scalar.indexCast v151
  let c112_219 : Index := 112#32
  ![v560.toNat, 112]
def k0_off1013 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v572 : Index := Scalar.indexCast v153
  let c0_220 : Index := 0#32
  ![v572.toNat, 0]
def k0_off1014 (v620 : BitVec 32) : Fin 2 → Nat :=
  let v627 : Index := Scalar.indexCast v620
  let c0_234 : Index := 0#32
  ![v627.toNat, 0]

def k0_off1015 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v633 : Index := Scalar.indexCast v616
  let c16_235 : Index := 16#32
  ![v633.toNat, 16]
def k0_off1016 (v620 : BitVec 32) : Fin 2 → Nat :=
  let v635 : Index := Scalar.indexCast v620
  let c16_236 : Index := 16#32
  ![v635.toNat, 16]
def k0_off1017 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v641 : Index := Scalar.indexCast v616
  let c32_237 : Index := 32#32
  ![v641.toNat, 32]
def k0_off1018 (v620 : BitVec 32) : Fin 2 → Nat :=
  let v643 : Index := Scalar.indexCast v620
  let c32_238 : Index := 32#32
  ![v643.toNat, 32]
def k0_off1019 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v649 : Index := Scalar.indexCast v616
  let c48_239 : Index := 48#32
  ![v649.toNat, 48]
def k0_off1020 (v620 : BitVec 32) : Fin 2 → Nat :=
  let v651 : Index := Scalar.indexCast v620
  let c48_240 : Index := 48#32
  ![v651.toNat, 48]
def k0_off1021 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v657 : Index := Scalar.indexCast v616
  let c64_241 : Index := 64#32
  ![v657.toNat, 64]
def k0_off1022 (v620 : BitVec 32) : Fin 2 → Nat :=
  let v659 : Index := Scalar.indexCast v620
  let c64_242 : Index := 64#32
  ![v659.toNat, 64]
def k0_off1023 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v665 : Index := Scalar.indexCast v616
  let c80_243 : Index := 80#32
  ![v665.toNat, 80]
def k0_off1024 (v620 : BitVec 32) : Fin 2 → Nat :=
  let v667 : Index := Scalar.indexCast v620
  let c80_244 : Index := 80#32
  ![v667.toNat, 80]
def k0_off1025 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v673 : Index := Scalar.indexCast v616
  let c96_245 : Index := 96#32
  ![v673.toNat, 96]
def k0_off1026 (v620 : BitVec 32) : Fin 2 → Nat :=
  let v675 : Index := Scalar.indexCast v620
  let c96_246 : Index := 96#32
  ![v675.toNat, 96]
def k0_off1027 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v681 : Index := Scalar.indexCast v616
  let c112_247 : Index := 112#32
  ![v681.toNat, 112]
def k0_off1028 (v620 : BitVec 32) : Fin 2 → Nat :=
  let v683 : Index := Scalar.indexCast v620
  let c112_248 : Index := 112#32
  ![v683.toNat, 112]

def k0_chk51 (v620 : BitVec 32) : Prop :=
  (∀ a, (k0_off1014 v620) a + S1x16.size a ≤ S512x128.size a) ∧
  (∀ a, (k0_off1016 v620) a + S1x16.size a ≤ S512x128.size a) ∧
  (∀ a, (k0_off1018 v620) a + S1x16.size a ≤ S512x128.size a) ∧
  (∀ a, (k0_off1020 v620) a + S1x16.size a ≤ S512x128.size a) ∧
  (∀ a, (k0_off1022 v620) a + S1x16.size a ≤ S512x128.size a) ∧
  (∀ a, (k0_off1024 v620) a + S1x16.size a ≤ S512x128.size a) ∧
  (∀ a, (k0_off1026 v620) a + S1x16.size a ≤ S512x128.size a) ∧
  (∀ a, (k0_off1028 v620) a + S1x16.size a ≤ S512x128.size a)
theorem k0_off1014_inb : ∀ (v620 : BitVec 32) (k0_hw51 : k0_chk51 v620), ∀ a, (k0_off1014 v620) a + S1x16.size a ≤ S512x128.size a := fun v620 k0_hw51 => k0_hw51.1
theorem k0_off1016_inb : ∀ (v620 : BitVec 32) (k0_hw51 : k0_chk51 v620), ∀ a, (k0_off1016 v620) a + S1x16.size a ≤ S512x128.size a := fun v620 k0_hw51 => k0_hw51.2.1
theorem k0_off1018_inb : ∀ (v620 : BitVec 32) (k0_hw51 : k0_chk51 v620), ∀ a, (k0_off1018 v620) a + S1x16.size a ≤ S512x128.size a := fun v620 k0_hw51 => k0_hw51.2.2.1
theorem k0_off1020_inb : ∀ (v620 : BitVec 32) (k0_hw51 : k0_chk51 v620), ∀ a, (k0_off1020 v620) a + S1x16.size a ≤ S512x128.size a := fun v620 k0_hw51 => k0_hw51.2.2.2.1
theorem k0_off1022_inb : ∀ (v620 : BitVec 32) (k0_hw51 : k0_chk51 v620), ∀ a, (k0_off1022 v620) a + S1x16.size a ≤ S512x128.size a := fun v620 k0_hw51 => k0_hw51.2.2.2.2.1
theorem k0_off1024_inb : ∀ (v620 : BitVec 32) (k0_hw51 : k0_chk51 v620), ∀ a, (k0_off1024 v620) a + S1x16.size a ≤ S512x128.size a := fun v620 k0_hw51 => k0_hw51.2.2.2.2.2.1
theorem k0_off1026_inb : ∀ (v620 : BitVec 32) (k0_hw51 : k0_chk51 v620), ∀ a, (k0_off1026 v620) a + S1x16.size a ≤ S512x128.size a := fun v620 k0_hw51 => k0_hw51.2.2.2.2.2.2.1
theorem k0_off1028_inb : ∀ (v620 : BitVec 32) (k0_hw51 : k0_chk51 v620), ∀ a, (k0_off1028 v620) a + S1x16.size a ≤ S512x128.size a := fun v620 k0_hw51 => k0_hw51.2.2.2.2.2.2.2

def k0_off1029 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v787 : Index := Scalar.indexCast v618
  let c0_251 : Index := 0#32
  ![v787.toNat, 0]
def k0_off1030 (v622 : BitVec 32) : Fin 2 → Nat :=
  let v789 : Index := Scalar.indexCast v622
  let c0_252 : Index := 0#32
  ![v789.toNat, 0]

def k0_off1031 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v795 : Index := Scalar.indexCast v618
  let c16_253 : Index := 16#32
  ![v795.toNat, 16]
def k0_off1032 (v622 : BitVec 32) : Fin 2 → Nat :=
  let v797 : Index := Scalar.indexCast v622
  let c16_254 : Index := 16#32
  ![v797.toNat, 16]
def k0_off1033 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v803 : Index := Scalar.indexCast v618
  let c32_255 : Index := 32#32
  ![v803.toNat, 32]
def k0_off1034 (v622 : BitVec 32) : Fin 2 → Nat :=
  let v805 : Index := Scalar.indexCast v622
  let c32_256 : Index := 32#32
  ![v805.toNat, 32]
def k0_off1035 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v811 : Index := Scalar.indexCast v618
  let c48_257 : Index := 48#32
  ![v811.toNat, 48]
def k0_off1036 (v622 : BitVec 32) : Fin 2 → Nat :=
  let v813 : Index := Scalar.indexCast v622
  let c48_258 : Index := 48#32
  ![v813.toNat, 48]
def k0_off1037 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v819 : Index := Scalar.indexCast v618
  let c64_259 : Index := 64#32
  ![v819.toNat, 64]
def k0_off1038 (v622 : BitVec 32) : Fin 2 → Nat :=
  let v821 : Index := Scalar.indexCast v622
  let c64_260 : Index := 64#32
  ![v821.toNat, 64]
def k0_off1039 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v827 : Index := Scalar.indexCast v618
  let c80_261 : Index := 80#32
  ![v827.toNat, 80]
def k0_off1040 (v622 : BitVec 32) : Fin 2 → Nat :=
  let v829 : Index := Scalar.indexCast v622
  let c80_262 : Index := 80#32
  ![v829.toNat, 80]
def k0_off1041 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v835 : Index := Scalar.indexCast v618
  let c96_263 : Index := 96#32
  ![v835.toNat, 96]
def k0_off1042 (v622 : BitVec 32) : Fin 2 → Nat :=
  let v837 : Index := Scalar.indexCast v622
  let c96_264 : Index := 96#32
  ![v837.toNat, 96]
def k0_off1043 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v843 : Index := Scalar.indexCast v618
  let c112_265 : Index := 112#32
  ![v843.toNat, 112]
def k0_off1044 (v622 : BitVec 32) : Fin 2 → Nat :=
  let v845 : Index := Scalar.indexCast v622
  let c112_266 : Index := 112#32
  ![v845.toNat, 112]

def k0_chk52 (v622 : BitVec 32) : Prop :=
  (∀ a, (k0_off1030 v622) a + S1x16.size a ≤ S512x128.size a) ∧
  (∀ a, (k0_off1032 v622) a + S1x16.size a ≤ S512x128.size a) ∧
  (∀ a, (k0_off1034 v622) a + S1x16.size a ≤ S512x128.size a) ∧
  (∀ a, (k0_off1036 v622) a + S1x16.size a ≤ S512x128.size a) ∧
  (∀ a, (k0_off1038 v622) a + S1x16.size a ≤ S512x128.size a) ∧
  (∀ a, (k0_off1040 v622) a + S1x16.size a ≤ S512x128.size a) ∧
  (∀ a, (k0_off1042 v622) a + S1x16.size a ≤ S512x128.size a) ∧
  (∀ a, (k0_off1044 v622) a + S1x16.size a ≤ S512x128.size a)
theorem k0_off1030_inb : ∀ (v622 : BitVec 32) (k0_hw52 : k0_chk52 v622), ∀ a, (k0_off1030 v622) a + S1x16.size a ≤ S512x128.size a := fun v622 k0_hw52 => k0_hw52.1
theorem k0_off1032_inb : ∀ (v622 : BitVec 32) (k0_hw52 : k0_chk52 v622), ∀ a, (k0_off1032 v622) a + S1x16.size a ≤ S512x128.size a := fun v622 k0_hw52 => k0_hw52.2.1
theorem k0_off1034_inb : ∀ (v622 : BitVec 32) (k0_hw52 : k0_chk52 v622), ∀ a, (k0_off1034 v622) a + S1x16.size a ≤ S512x128.size a := fun v622 k0_hw52 => k0_hw52.2.2.1
theorem k0_off1036_inb : ∀ (v622 : BitVec 32) (k0_hw52 : k0_chk52 v622), ∀ a, (k0_off1036 v622) a + S1x16.size a ≤ S512x128.size a := fun v622 k0_hw52 => k0_hw52.2.2.2.1
theorem k0_off1038_inb : ∀ (v622 : BitVec 32) (k0_hw52 : k0_chk52 v622), ∀ a, (k0_off1038 v622) a + S1x16.size a ≤ S512x128.size a := fun v622 k0_hw52 => k0_hw52.2.2.2.2.1
theorem k0_off1040_inb : ∀ (v622 : BitVec 32) (k0_hw52 : k0_chk52 v622), ∀ a, (k0_off1040 v622) a + S1x16.size a ≤ S512x128.size a := fun v622 k0_hw52 => k0_hw52.2.2.2.2.2.1
theorem k0_off1042_inb : ∀ (v622 : BitVec 32) (k0_hw52 : k0_chk52 v622), ∀ a, (k0_off1042 v622) a + S1x16.size a ≤ S512x128.size a := fun v622 k0_hw52 => k0_hw52.2.2.2.2.2.2.1
theorem k0_off1044_inb : ∀ (v622 : BitVec 32) (k0_hw52 : k0_chk52 v622), ∀ a, (k0_off1044 v622) a + S1x16.size a ≤ S512x128.size a := fun v622 k0_hw52 => k0_hw52.2.2.2.2.2.2.2

def k0_off1045 (k0_t5 : Fin k0_t5_loop.trips) (c2_i32_228 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v616 : BitVec 32 := Scalar.addi v147 c2_i32_228
  let v983 : Index := Scalar.indexCast v616
  let c0_274 : Index := 0#32
  ![v983.toNat, 0]
def k0_off1046 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v989 : Index := Scalar.indexCast v616
  let c16_275 : Index := 16#32
  ![v989.toNat, 16]
def k0_off1047 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v995 : Index := Scalar.indexCast v616
  let c32_276 : Index := 32#32
  ![v995.toNat, 32]
def k0_off1048 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v1001 : Index := Scalar.indexCast v616
  let c48_277 : Index := 48#32
  ![v1001.toNat, 48]
def k0_off1049 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v1007 : Index := Scalar.indexCast v616
  let c64_278 : Index := 64#32
  ![v1007.toNat, 64]
def k0_off1050 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v1013 : Index := Scalar.indexCast v616
  let c80_279 : Index := 80#32
  ![v1013.toNat, 80]
def k0_off1051 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v1019 : Index := Scalar.indexCast v616
  let c96_280 : Index := 96#32
  ![v1019.toNat, 96]
def k0_off1052 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_228 : BitVec 32 := 2#32
  let v616 : BitVec 32 := Scalar.addi v147 c2_i32_228
  let v1025 : Index := Scalar.indexCast v616
  let c112_281 : Index := 112#32
  ![v1025.toNat, 112]
def k0_off1053 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v1037 : Index := Scalar.indexCast v618
  let c0_282 : Index := 0#32
  ![v1037.toNat, 0]
def k0_off1054 (v1085 : BitVec 32) : Fin 2 → Nat :=
  let v1092 : Index := Scalar.indexCast v1085
  let c0_296 : Index := 0#32
  ![v1092.toNat, 0]

def k0_off1055 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1098 : Index := Scalar.indexCast v1081
  let c16_297 : Index := 16#32
  ![v1098.toNat, 16]
def k0_off1056 (v1085 : BitVec 32) : Fin 2 → Nat :=
  let v1100 : Index := Scalar.indexCast v1085
  let c16_298 : Index := 16#32
  ![v1100.toNat, 16]
def k0_off1057 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1106 : Index := Scalar.indexCast v1081
  let c32_299 : Index := 32#32
  ![v1106.toNat, 32]
def k0_off1058 (v1085 : BitVec 32) : Fin 2 → Nat :=
  let v1108 : Index := Scalar.indexCast v1085
  let c32_300 : Index := 32#32
  ![v1108.toNat, 32]
def k0_off1059 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1114 : Index := Scalar.indexCast v1081
  let c48_301 : Index := 48#32
  ![v1114.toNat, 48]
def k0_off1060 (v1085 : BitVec 32) : Fin 2 → Nat :=
  let v1116 : Index := Scalar.indexCast v1085
  let c48_302 : Index := 48#32
  ![v1116.toNat, 48]
def k0_off1061 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1122 : Index := Scalar.indexCast v1081
  let c64_303 : Index := 64#32
  ![v1122.toNat, 64]
def k0_off1062 (v1085 : BitVec 32) : Fin 2 → Nat :=
  let v1124 : Index := Scalar.indexCast v1085
  let c64_304 : Index := 64#32
  ![v1124.toNat, 64]
def k0_off1063 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1130 : Index := Scalar.indexCast v1081
  let c80_305 : Index := 80#32
  ![v1130.toNat, 80]
def k0_off1064 (v1085 : BitVec 32) : Fin 2 → Nat :=
  let v1132 : Index := Scalar.indexCast v1085
  let c80_306 : Index := 80#32
  ![v1132.toNat, 80]
def k0_off1065 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1138 : Index := Scalar.indexCast v1081
  let c96_307 : Index := 96#32
  ![v1138.toNat, 96]
def k0_off1066 (v1085 : BitVec 32) : Fin 2 → Nat :=
  let v1140 : Index := Scalar.indexCast v1085
  let c96_308 : Index := 96#32
  ![v1140.toNat, 96]
def k0_off1067 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1146 : Index := Scalar.indexCast v1081
  let c112_309 : Index := 112#32
  ![v1146.toNat, 112]
def k0_off1068 (v1085 : BitVec 32) : Fin 2 → Nat :=
  let v1148 : Index := Scalar.indexCast v1085
  let c112_310 : Index := 112#32
  ![v1148.toNat, 112]

def k0_chk53 (v1085 : BitVec 32) : Prop :=
  (∀ a, (k0_off1054 v1085) a + S1x16.size a ≤ S512x128.size a) ∧
  (∀ a, (k0_off1056 v1085) a + S1x16.size a ≤ S512x128.size a) ∧
  (∀ a, (k0_off1058 v1085) a + S1x16.size a ≤ S512x128.size a) ∧
  (∀ a, (k0_off1060 v1085) a + S1x16.size a ≤ S512x128.size a) ∧
  (∀ a, (k0_off1062 v1085) a + S1x16.size a ≤ S512x128.size a) ∧
  (∀ a, (k0_off1064 v1085) a + S1x16.size a ≤ S512x128.size a) ∧
  (∀ a, (k0_off1066 v1085) a + S1x16.size a ≤ S512x128.size a) ∧
  (∀ a, (k0_off1068 v1085) a + S1x16.size a ≤ S512x128.size a)
theorem k0_off1054_inb : ∀ (v1085 : BitVec 32) (k0_hw53 : k0_chk53 v1085), ∀ a, (k0_off1054 v1085) a + S1x16.size a ≤ S512x128.size a := fun v1085 k0_hw53 => k0_hw53.1
theorem k0_off1056_inb : ∀ (v1085 : BitVec 32) (k0_hw53 : k0_chk53 v1085), ∀ a, (k0_off1056 v1085) a + S1x16.size a ≤ S512x128.size a := fun v1085 k0_hw53 => k0_hw53.2.1
theorem k0_off1058_inb : ∀ (v1085 : BitVec 32) (k0_hw53 : k0_chk53 v1085), ∀ a, (k0_off1058 v1085) a + S1x16.size a ≤ S512x128.size a := fun v1085 k0_hw53 => k0_hw53.2.2.1
theorem k0_off1060_inb : ∀ (v1085 : BitVec 32) (k0_hw53 : k0_chk53 v1085), ∀ a, (k0_off1060 v1085) a + S1x16.size a ≤ S512x128.size a := fun v1085 k0_hw53 => k0_hw53.2.2.2.1
theorem k0_off1062_inb : ∀ (v1085 : BitVec 32) (k0_hw53 : k0_chk53 v1085), ∀ a, (k0_off1062 v1085) a + S1x16.size a ≤ S512x128.size a := fun v1085 k0_hw53 => k0_hw53.2.2.2.2.1
theorem k0_off1064_inb : ∀ (v1085 : BitVec 32) (k0_hw53 : k0_chk53 v1085), ∀ a, (k0_off1064 v1085) a + S1x16.size a ≤ S512x128.size a := fun v1085 k0_hw53 => k0_hw53.2.2.2.2.2.1
theorem k0_off1066_inb : ∀ (v1085 : BitVec 32) (k0_hw53 : k0_chk53 v1085), ∀ a, (k0_off1066 v1085) a + S1x16.size a ≤ S512x128.size a := fun v1085 k0_hw53 => k0_hw53.2.2.2.2.2.2.1
theorem k0_off1068_inb : ∀ (v1085 : BitVec 32) (k0_hw53 : k0_chk53 v1085), ∀ a, (k0_off1068 v1085) a + S1x16.size a ≤ S512x128.size a := fun v1085 k0_hw53 => k0_hw53.2.2.2.2.2.2.2

def k0_off1069 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1252 : Index := Scalar.indexCast v1083
  let c0_313 : Index := 0#32
  ![v1252.toNat, 0]
def k0_off1070 (v1087 : BitVec 32) : Fin 2 → Nat :=
  let v1254 : Index := Scalar.indexCast v1087
  let c0_314 : Index := 0#32
  ![v1254.toNat, 0]

def k0_off1071 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1260 : Index := Scalar.indexCast v1083
  let c16_315 : Index := 16#32
  ![v1260.toNat, 16]
def k0_off1072 (v1087 : BitVec 32) : Fin 2 → Nat :=
  let v1262 : Index := Scalar.indexCast v1087
  let c16_316 : Index := 16#32
  ![v1262.toNat, 16]
def k0_off1073 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1268 : Index := Scalar.indexCast v1083
  let c32_317 : Index := 32#32
  ![v1268.toNat, 32]
def k0_off1074 (v1087 : BitVec 32) : Fin 2 → Nat :=
  let v1270 : Index := Scalar.indexCast v1087
  let c32_318 : Index := 32#32
  ![v1270.toNat, 32]
def k0_off1075 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1276 : Index := Scalar.indexCast v1083
  let c48_319 : Index := 48#32
  ![v1276.toNat, 48]
def k0_off1076 (v1087 : BitVec 32) : Fin 2 → Nat :=
  let v1278 : Index := Scalar.indexCast v1087
  let c48_320 : Index := 48#32
  ![v1278.toNat, 48]
def k0_off1077 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1284 : Index := Scalar.indexCast v1083
  let c64_321 : Index := 64#32
  ![v1284.toNat, 64]
def k0_off1078 (v1087 : BitVec 32) : Fin 2 → Nat :=
  let v1286 : Index := Scalar.indexCast v1087
  let c64_322 : Index := 64#32
  ![v1286.toNat, 64]
def k0_off1079 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1292 : Index := Scalar.indexCast v1083
  let c80_323 : Index := 80#32
  ![v1292.toNat, 80]
def k0_off1080 (v1087 : BitVec 32) : Fin 2 → Nat :=
  let v1294 : Index := Scalar.indexCast v1087
  let c80_324 : Index := 80#32
  ![v1294.toNat, 80]
def k0_off1081 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1300 : Index := Scalar.indexCast v1083
  let c96_325 : Index := 96#32
  ![v1300.toNat, 96]
def k0_off1082 (v1087 : BitVec 32) : Fin 2 → Nat :=
  let v1302 : Index := Scalar.indexCast v1087
  let c96_326 : Index := 96#32
  ![v1302.toNat, 96]
def k0_off1083 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1308 : Index := Scalar.indexCast v1083
  let c112_327 : Index := 112#32
  ![v1308.toNat, 112]
def k0_off1084 (v1087 : BitVec 32) : Fin 2 → Nat :=
  let v1310 : Index := Scalar.indexCast v1087
  let c112_328 : Index := 112#32
  ![v1310.toNat, 112]

def k0_chk54 (v1087 : BitVec 32) : Prop :=
  (∀ a, (k0_off1070 v1087) a + S1x16.size a ≤ S512x128.size a) ∧
  (∀ a, (k0_off1072 v1087) a + S1x16.size a ≤ S512x128.size a) ∧
  (∀ a, (k0_off1074 v1087) a + S1x16.size a ≤ S512x128.size a) ∧
  (∀ a, (k0_off1076 v1087) a + S1x16.size a ≤ S512x128.size a) ∧
  (∀ a, (k0_off1078 v1087) a + S1x16.size a ≤ S512x128.size a) ∧
  (∀ a, (k0_off1080 v1087) a + S1x16.size a ≤ S512x128.size a) ∧
  (∀ a, (k0_off1082 v1087) a + S1x16.size a ≤ S512x128.size a) ∧
  (∀ a, (k0_off1084 v1087) a + S1x16.size a ≤ S512x128.size a)
theorem k0_off1070_inb : ∀ (v1087 : BitVec 32) (k0_hw54 : k0_chk54 v1087), ∀ a, (k0_off1070 v1087) a + S1x16.size a ≤ S512x128.size a := fun v1087 k0_hw54 => k0_hw54.1
theorem k0_off1072_inb : ∀ (v1087 : BitVec 32) (k0_hw54 : k0_chk54 v1087), ∀ a, (k0_off1072 v1087) a + S1x16.size a ≤ S512x128.size a := fun v1087 k0_hw54 => k0_hw54.2.1
theorem k0_off1074_inb : ∀ (v1087 : BitVec 32) (k0_hw54 : k0_chk54 v1087), ∀ a, (k0_off1074 v1087) a + S1x16.size a ≤ S512x128.size a := fun v1087 k0_hw54 => k0_hw54.2.2.1
theorem k0_off1076_inb : ∀ (v1087 : BitVec 32) (k0_hw54 : k0_chk54 v1087), ∀ a, (k0_off1076 v1087) a + S1x16.size a ≤ S512x128.size a := fun v1087 k0_hw54 => k0_hw54.2.2.2.1
theorem k0_off1078_inb : ∀ (v1087 : BitVec 32) (k0_hw54 : k0_chk54 v1087), ∀ a, (k0_off1078 v1087) a + S1x16.size a ≤ S512x128.size a := fun v1087 k0_hw54 => k0_hw54.2.2.2.2.1
theorem k0_off1080_inb : ∀ (v1087 : BitVec 32) (k0_hw54 : k0_chk54 v1087), ∀ a, (k0_off1080 v1087) a + S1x16.size a ≤ S512x128.size a := fun v1087 k0_hw54 => k0_hw54.2.2.2.2.2.1
theorem k0_off1082_inb : ∀ (v1087 : BitVec 32) (k0_hw54 : k0_chk54 v1087), ∀ a, (k0_off1082 v1087) a + S1x16.size a ≤ S512x128.size a := fun v1087 k0_hw54 => k0_hw54.2.2.2.2.2.2.1
theorem k0_off1084_inb : ∀ (v1087 : BitVec 32) (k0_hw54 : k0_chk54 v1087), ∀ a, (k0_off1084 v1087) a + S1x16.size a ≤ S512x128.size a := fun v1087 k0_hw54 => k0_hw54.2.2.2.2.2.2.2

def k0_off1085 (k0_t5 : Fin k0_t5_loop.trips) (c4_i32_290 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v1081 : BitVec 32 := Scalar.addi v147 c4_i32_290
  let v1448 : Index := Scalar.indexCast v1081
  let c0_336 : Index := 0#32
  ![v1448.toNat, 0]
def k0_off1086 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1454 : Index := Scalar.indexCast v1081
  let c16_337 : Index := 16#32
  ![v1454.toNat, 16]
def k0_off1087 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1460 : Index := Scalar.indexCast v1081
  let c32_338 : Index := 32#32
  ![v1460.toNat, 32]
def k0_off1088 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1466 : Index := Scalar.indexCast v1081
  let c48_339 : Index := 48#32
  ![v1466.toNat, 48]
def k0_off1089 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1472 : Index := Scalar.indexCast v1081
  let c64_340 : Index := 64#32
  ![v1472.toNat, 64]
def k0_off1090 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1478 : Index := Scalar.indexCast v1081
  let c80_341 : Index := 80#32
  ![v1478.toNat, 80]
def k0_off1091 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1484 : Index := Scalar.indexCast v1081
  let c96_342 : Index := 96#32
  ![v1484.toNat, 96]
def k0_off1092 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_290 : BitVec 32 := 4#32
  let v1081 : BitVec 32 := Scalar.addi v147 c4_i32_290
  let v1490 : Index := Scalar.indexCast v1081
  let c112_343 : Index := 112#32
  ![v1490.toNat, 112]
def k0_off1093 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1502 : Index := Scalar.indexCast v1083
  let c0_344 : Index := 0#32
  ![v1502.toNat, 0]
def k0_off1094 (v1550 : BitVec 32) : Fin 2 → Nat :=
  let v1557 : Index := Scalar.indexCast v1550
  let c0_357 : Index := 0#32
  ![v1557.toNat, 0]

def k0_off1095 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1563 : Index := Scalar.indexCast v1546
  let c16_358 : Index := 16#32
  ![v1563.toNat, 16]
def k0_off1096 (v1550 : BitVec 32) : Fin 2 → Nat :=
  let v1565 : Index := Scalar.indexCast v1550
  let c16_359 : Index := 16#32
  ![v1565.toNat, 16]
def k0_off1097 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1571 : Index := Scalar.indexCast v1546
  let c32_360 : Index := 32#32
  ![v1571.toNat, 32]
def k0_off1098 (v1550 : BitVec 32) : Fin 2 → Nat :=
  let v1573 : Index := Scalar.indexCast v1550
  let c32_361 : Index := 32#32
  ![v1573.toNat, 32]
def k0_off1099 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1579 : Index := Scalar.indexCast v1546
  let c48_362 : Index := 48#32
  ![v1579.toNat, 48]
def k0_off1100 (v1550 : BitVec 32) : Fin 2 → Nat :=
  let v1581 : Index := Scalar.indexCast v1550
  let c48_363 : Index := 48#32
  ![v1581.toNat, 48]
def k0_off1101 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1587 : Index := Scalar.indexCast v1546
  let c64_364 : Index := 64#32
  ![v1587.toNat, 64]
def k0_off1102 (v1550 : BitVec 32) : Fin 2 → Nat :=
  let v1589 : Index := Scalar.indexCast v1550
  let c64_365 : Index := 64#32
  ![v1589.toNat, 64]
def k0_off1103 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1595 : Index := Scalar.indexCast v1546
  let c80_366 : Index := 80#32
  ![v1595.toNat, 80]
def k0_off1104 (v1550 : BitVec 32) : Fin 2 → Nat :=
  let v1597 : Index := Scalar.indexCast v1550
  let c80_367 : Index := 80#32
  ![v1597.toNat, 80]
def k0_off1105 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1603 : Index := Scalar.indexCast v1546
  let c96_368 : Index := 96#32
  ![v1603.toNat, 96]
def k0_off1106 (v1550 : BitVec 32) : Fin 2 → Nat :=
  let v1605 : Index := Scalar.indexCast v1550
  let c96_369 : Index := 96#32
  ![v1605.toNat, 96]
def k0_off1107 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1611 : Index := Scalar.indexCast v1546
  let c112_370 : Index := 112#32
  ![v1611.toNat, 112]
def k0_off1108 (v1550 : BitVec 32) : Fin 2 → Nat :=
  let v1613 : Index := Scalar.indexCast v1550
  let c112_371 : Index := 112#32
  ![v1613.toNat, 112]

def k0_chk55 (v1550 : BitVec 32) : Prop :=
  (∀ a, (k0_off1094 v1550) a + S1x16.size a ≤ S512x128.size a) ∧
  (∀ a, (k0_off1096 v1550) a + S1x16.size a ≤ S512x128.size a) ∧
  (∀ a, (k0_off1098 v1550) a + S1x16.size a ≤ S512x128.size a) ∧
  (∀ a, (k0_off1100 v1550) a + S1x16.size a ≤ S512x128.size a) ∧
  (∀ a, (k0_off1102 v1550) a + S1x16.size a ≤ S512x128.size a) ∧
  (∀ a, (k0_off1104 v1550) a + S1x16.size a ≤ S512x128.size a) ∧
  (∀ a, (k0_off1106 v1550) a + S1x16.size a ≤ S512x128.size a) ∧
  (∀ a, (k0_off1108 v1550) a + S1x16.size a ≤ S512x128.size a)
theorem k0_off1094_inb : ∀ (v1550 : BitVec 32) (k0_hw55 : k0_chk55 v1550), ∀ a, (k0_off1094 v1550) a + S1x16.size a ≤ S512x128.size a := fun v1550 k0_hw55 => k0_hw55.1
theorem k0_off1096_inb : ∀ (v1550 : BitVec 32) (k0_hw55 : k0_chk55 v1550), ∀ a, (k0_off1096 v1550) a + S1x16.size a ≤ S512x128.size a := fun v1550 k0_hw55 => k0_hw55.2.1
theorem k0_off1098_inb : ∀ (v1550 : BitVec 32) (k0_hw55 : k0_chk55 v1550), ∀ a, (k0_off1098 v1550) a + S1x16.size a ≤ S512x128.size a := fun v1550 k0_hw55 => k0_hw55.2.2.1
theorem k0_off1100_inb : ∀ (v1550 : BitVec 32) (k0_hw55 : k0_chk55 v1550), ∀ a, (k0_off1100 v1550) a + S1x16.size a ≤ S512x128.size a := fun v1550 k0_hw55 => k0_hw55.2.2.2.1
theorem k0_off1102_inb : ∀ (v1550 : BitVec 32) (k0_hw55 : k0_chk55 v1550), ∀ a, (k0_off1102 v1550) a + S1x16.size a ≤ S512x128.size a := fun v1550 k0_hw55 => k0_hw55.2.2.2.2.1
theorem k0_off1104_inb : ∀ (v1550 : BitVec 32) (k0_hw55 : k0_chk55 v1550), ∀ a, (k0_off1104 v1550) a + S1x16.size a ≤ S512x128.size a := fun v1550 k0_hw55 => k0_hw55.2.2.2.2.2.1
theorem k0_off1106_inb : ∀ (v1550 : BitVec 32) (k0_hw55 : k0_chk55 v1550), ∀ a, (k0_off1106 v1550) a + S1x16.size a ≤ S512x128.size a := fun v1550 k0_hw55 => k0_hw55.2.2.2.2.2.2.1
theorem k0_off1108_inb : ∀ (v1550 : BitVec 32) (k0_hw55 : k0_chk55 v1550), ∀ a, (k0_off1108 v1550) a + S1x16.size a ≤ S512x128.size a := fun v1550 k0_hw55 => k0_hw55.2.2.2.2.2.2.2

def k0_off1109 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1717 : Index := Scalar.indexCast v1548
  let c0_374 : Index := 0#32
  ![v1717.toNat, 0]
def k0_off1110 (v1552 : BitVec 32) : Fin 2 → Nat :=
  let v1719 : Index := Scalar.indexCast v1552
  let c0_375 : Index := 0#32
  ![v1719.toNat, 0]

def k0_off1111 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1725 : Index := Scalar.indexCast v1548
  let c16_376 : Index := 16#32
  ![v1725.toNat, 16]
def k0_off1112 (v1552 : BitVec 32) : Fin 2 → Nat :=
  let v1727 : Index := Scalar.indexCast v1552
  let c16_377 : Index := 16#32
  ![v1727.toNat, 16]
def k0_off1113 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1733 : Index := Scalar.indexCast v1548
  let c32_378 : Index := 32#32
  ![v1733.toNat, 32]
def k0_off1114 (v1552 : BitVec 32) : Fin 2 → Nat :=
  let v1735 : Index := Scalar.indexCast v1552
  let c32_379 : Index := 32#32
  ![v1735.toNat, 32]
def k0_off1115 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1741 : Index := Scalar.indexCast v1548
  let c48_380 : Index := 48#32
  ![v1741.toNat, 48]
def k0_off1116 (v1552 : BitVec 32) : Fin 2 → Nat :=
  let v1743 : Index := Scalar.indexCast v1552
  let c48_381 : Index := 48#32
  ![v1743.toNat, 48]
def k0_off1117 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1749 : Index := Scalar.indexCast v1548
  let c64_382 : Index := 64#32
  ![v1749.toNat, 64]
def k0_off1118 (v1552 : BitVec 32) : Fin 2 → Nat :=
  let v1751 : Index := Scalar.indexCast v1552
  let c64_383 : Index := 64#32
  ![v1751.toNat, 64]
def k0_off1119 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1757 : Index := Scalar.indexCast v1548
  let c80_384 : Index := 80#32
  ![v1757.toNat, 80]
def k0_off1120 (v1552 : BitVec 32) : Fin 2 → Nat :=
  let v1759 : Index := Scalar.indexCast v1552
  let c80_385 : Index := 80#32
  ![v1759.toNat, 80]
def k0_off1121 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1765 : Index := Scalar.indexCast v1548
  let c96_386 : Index := 96#32
  ![v1765.toNat, 96]
def k0_off1122 (v1552 : BitVec 32) : Fin 2 → Nat :=
  let v1767 : Index := Scalar.indexCast v1552
  let c96_387 : Index := 96#32
  ![v1767.toNat, 96]
def k0_off1123 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1773 : Index := Scalar.indexCast v1548
  let c112_388 : Index := 112#32
  ![v1773.toNat, 112]
def k0_off1124 (v1552 : BitVec 32) : Fin 2 → Nat :=
  let v1775 : Index := Scalar.indexCast v1552
  let c112_389 : Index := 112#32
  ![v1775.toNat, 112]

def k0_chk56 (v1552 : BitVec 32) : Prop :=
  (∀ a, (k0_off1110 v1552) a + S1x16.size a ≤ S512x128.size a) ∧
  (∀ a, (k0_off1112 v1552) a + S1x16.size a ≤ S512x128.size a) ∧
  (∀ a, (k0_off1114 v1552) a + S1x16.size a ≤ S512x128.size a) ∧
  (∀ a, (k0_off1116 v1552) a + S1x16.size a ≤ S512x128.size a) ∧
  (∀ a, (k0_off1118 v1552) a + S1x16.size a ≤ S512x128.size a) ∧
  (∀ a, (k0_off1120 v1552) a + S1x16.size a ≤ S512x128.size a) ∧
  (∀ a, (k0_off1122 v1552) a + S1x16.size a ≤ S512x128.size a) ∧
  (∀ a, (k0_off1124 v1552) a + S1x16.size a ≤ S512x128.size a)
theorem k0_off1110_inb : ∀ (v1552 : BitVec 32) (k0_hw56 : k0_chk56 v1552), ∀ a, (k0_off1110 v1552) a + S1x16.size a ≤ S512x128.size a := fun v1552 k0_hw56 => k0_hw56.1
theorem k0_off1112_inb : ∀ (v1552 : BitVec 32) (k0_hw56 : k0_chk56 v1552), ∀ a, (k0_off1112 v1552) a + S1x16.size a ≤ S512x128.size a := fun v1552 k0_hw56 => k0_hw56.2.1
theorem k0_off1114_inb : ∀ (v1552 : BitVec 32) (k0_hw56 : k0_chk56 v1552), ∀ a, (k0_off1114 v1552) a + S1x16.size a ≤ S512x128.size a := fun v1552 k0_hw56 => k0_hw56.2.2.1
theorem k0_off1116_inb : ∀ (v1552 : BitVec 32) (k0_hw56 : k0_chk56 v1552), ∀ a, (k0_off1116 v1552) a + S1x16.size a ≤ S512x128.size a := fun v1552 k0_hw56 => k0_hw56.2.2.2.1
theorem k0_off1118_inb : ∀ (v1552 : BitVec 32) (k0_hw56 : k0_chk56 v1552), ∀ a, (k0_off1118 v1552) a + S1x16.size a ≤ S512x128.size a := fun v1552 k0_hw56 => k0_hw56.2.2.2.2.1
theorem k0_off1120_inb : ∀ (v1552 : BitVec 32) (k0_hw56 : k0_chk56 v1552), ∀ a, (k0_off1120 v1552) a + S1x16.size a ≤ S512x128.size a := fun v1552 k0_hw56 => k0_hw56.2.2.2.2.2.1
theorem k0_off1122_inb : ∀ (v1552 : BitVec 32) (k0_hw56 : k0_chk56 v1552), ∀ a, (k0_off1122 v1552) a + S1x16.size a ≤ S512x128.size a := fun v1552 k0_hw56 => k0_hw56.2.2.2.2.2.2.1
theorem k0_off1124_inb : ∀ (v1552 : BitVec 32) (k0_hw56 : k0_chk56 v1552), ∀ a, (k0_off1124 v1552) a + S1x16.size a ≤ S512x128.size a := fun v1552 k0_hw56 => k0_hw56.2.2.2.2.2.2.2

def k0_off1125 (k0_t5 : Fin k0_t5_loop.trips) (c6_i32 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v1546 : BitVec 32 := Scalar.addi v147 c6_i32
  let v1913 : Index := Scalar.indexCast v1546
  let c0_397 : Index := 0#32
  ![v1913.toNat, 0]
def k0_off1126 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1919 : Index := Scalar.indexCast v1546
  let c16_398 : Index := 16#32
  ![v1919.toNat, 16]
def k0_off1127 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1925 : Index := Scalar.indexCast v1546
  let c32_399 : Index := 32#32
  ![v1925.toNat, 32]
def k0_off1128 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1931 : Index := Scalar.indexCast v1546
  let c48_400 : Index := 48#32
  ![v1931.toNat, 48]
def k0_off1129 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1937 : Index := Scalar.indexCast v1546
  let c64_401 : Index := 64#32
  ![v1937.toNat, 64]
def k0_off1130 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1943 : Index := Scalar.indexCast v1546
  let c80_402 : Index := 80#32
  ![v1943.toNat, 80]
def k0_off1131 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1949 : Index := Scalar.indexCast v1546
  let c96_403 : Index := 96#32
  ![v1949.toNat, 96]
def k0_off1132 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32 : BitVec 32 := 6#32
  let v1546 : BitVec 32 := Scalar.addi v147 c6_i32
  let v1955 : Index := Scalar.indexCast v1546
  let c112_404 : Index := 112#32
  ![v1955.toNat, 112]
def k0_off1133 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1967 : Index := Scalar.indexCast v1548
  let c0_405 : Index := 0#32
  ![v1967.toNat, 0]
def k0_off1134 (v2015 : BitVec 32) : Fin 2 → Nat :=
  let v2022 : Index := Scalar.indexCast v2015
  let c0_419 : Index := 0#32
  ![v2022.toNat, 0]

def k0_off1135 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2028 : Index := Scalar.indexCast v2011
  let c16_420 : Index := 16#32
  ![v2028.toNat, 16]
def k0_off1136 (v2015 : BitVec 32) : Fin 2 → Nat :=
  let v2030 : Index := Scalar.indexCast v2015
  let c16_421 : Index := 16#32
  ![v2030.toNat, 16]
def k0_off1137 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2036 : Index := Scalar.indexCast v2011
  let c32_422 : Index := 32#32
  ![v2036.toNat, 32]
def k0_off1138 (v2015 : BitVec 32) : Fin 2 → Nat :=
  let v2038 : Index := Scalar.indexCast v2015
  let c32_423 : Index := 32#32
  ![v2038.toNat, 32]
def k0_off1139 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2044 : Index := Scalar.indexCast v2011
  let c48_424 : Index := 48#32
  ![v2044.toNat, 48]
def k0_off1140 (v2015 : BitVec 32) : Fin 2 → Nat :=
  let v2046 : Index := Scalar.indexCast v2015
  let c48_425 : Index := 48#32
  ![v2046.toNat, 48]
def k0_off1141 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2052 : Index := Scalar.indexCast v2011
  let c64_426 : Index := 64#32
  ![v2052.toNat, 64]
def k0_off1142 (v2015 : BitVec 32) : Fin 2 → Nat :=
  let v2054 : Index := Scalar.indexCast v2015
  let c64_427 : Index := 64#32
  ![v2054.toNat, 64]
def k0_off1143 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2060 : Index := Scalar.indexCast v2011
  let c80_428 : Index := 80#32
  ![v2060.toNat, 80]
def k0_off1144 (v2015 : BitVec 32) : Fin 2 → Nat :=
  let v2062 : Index := Scalar.indexCast v2015
  let c80_429 : Index := 80#32
  ![v2062.toNat, 80]
def k0_off1145 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2068 : Index := Scalar.indexCast v2011
  let c96_430 : Index := 96#32
  ![v2068.toNat, 96]
def k0_off1146 (v2015 : BitVec 32) : Fin 2 → Nat :=
  let v2070 : Index := Scalar.indexCast v2015
  let c96_431 : Index := 96#32
  ![v2070.toNat, 96]
def k0_off1147 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2076 : Index := Scalar.indexCast v2011
  let c112_432 : Index := 112#32
  ![v2076.toNat, 112]
def k0_off1148 (v2015 : BitVec 32) : Fin 2 → Nat :=
  let v2078 : Index := Scalar.indexCast v2015
  let c112_433 : Index := 112#32
  ![v2078.toNat, 112]

def k0_chk57 (v2015 : BitVec 32) : Prop :=
  (∀ a, (k0_off1134 v2015) a + S1x16.size a ≤ S512x128.size a) ∧
  (∀ a, (k0_off1136 v2015) a + S1x16.size a ≤ S512x128.size a) ∧
  (∀ a, (k0_off1138 v2015) a + S1x16.size a ≤ S512x128.size a) ∧
  (∀ a, (k0_off1140 v2015) a + S1x16.size a ≤ S512x128.size a) ∧
  (∀ a, (k0_off1142 v2015) a + S1x16.size a ≤ S512x128.size a) ∧
  (∀ a, (k0_off1144 v2015) a + S1x16.size a ≤ S512x128.size a) ∧
  (∀ a, (k0_off1146 v2015) a + S1x16.size a ≤ S512x128.size a) ∧
  (∀ a, (k0_off1148 v2015) a + S1x16.size a ≤ S512x128.size a)
theorem k0_off1134_inb : ∀ (v2015 : BitVec 32) (k0_hw57 : k0_chk57 v2015), ∀ a, (k0_off1134 v2015) a + S1x16.size a ≤ S512x128.size a := fun v2015 k0_hw57 => k0_hw57.1
theorem k0_off1136_inb : ∀ (v2015 : BitVec 32) (k0_hw57 : k0_chk57 v2015), ∀ a, (k0_off1136 v2015) a + S1x16.size a ≤ S512x128.size a := fun v2015 k0_hw57 => k0_hw57.2.1
theorem k0_off1138_inb : ∀ (v2015 : BitVec 32) (k0_hw57 : k0_chk57 v2015), ∀ a, (k0_off1138 v2015) a + S1x16.size a ≤ S512x128.size a := fun v2015 k0_hw57 => k0_hw57.2.2.1
theorem k0_off1140_inb : ∀ (v2015 : BitVec 32) (k0_hw57 : k0_chk57 v2015), ∀ a, (k0_off1140 v2015) a + S1x16.size a ≤ S512x128.size a := fun v2015 k0_hw57 => k0_hw57.2.2.2.1
theorem k0_off1142_inb : ∀ (v2015 : BitVec 32) (k0_hw57 : k0_chk57 v2015), ∀ a, (k0_off1142 v2015) a + S1x16.size a ≤ S512x128.size a := fun v2015 k0_hw57 => k0_hw57.2.2.2.2.1
theorem k0_off1144_inb : ∀ (v2015 : BitVec 32) (k0_hw57 : k0_chk57 v2015), ∀ a, (k0_off1144 v2015) a + S1x16.size a ≤ S512x128.size a := fun v2015 k0_hw57 => k0_hw57.2.2.2.2.2.1
theorem k0_off1146_inb : ∀ (v2015 : BitVec 32) (k0_hw57 : k0_chk57 v2015), ∀ a, (k0_off1146 v2015) a + S1x16.size a ≤ S512x128.size a := fun v2015 k0_hw57 => k0_hw57.2.2.2.2.2.2.1
theorem k0_off1148_inb : ∀ (v2015 : BitVec 32) (k0_hw57 : k0_chk57 v2015), ∀ a, (k0_off1148 v2015) a + S1x16.size a ≤ S512x128.size a := fun v2015 k0_hw57 => k0_hw57.2.2.2.2.2.2.2

def k0_off1149 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2182 : Index := Scalar.indexCast v2013
  let c0_436 : Index := 0#32
  ![v2182.toNat, 0]
def k0_off1150 (v2017 : BitVec 32) : Fin 2 → Nat :=
  let v2184 : Index := Scalar.indexCast v2017
  let c0_437 : Index := 0#32
  ![v2184.toNat, 0]

def k0_off1151 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2190 : Index := Scalar.indexCast v2013
  let c16_438 : Index := 16#32
  ![v2190.toNat, 16]
def k0_off1152 (v2017 : BitVec 32) : Fin 2 → Nat :=
  let v2192 : Index := Scalar.indexCast v2017
  let c16_439 : Index := 16#32
  ![v2192.toNat, 16]
def k0_off1153 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2198 : Index := Scalar.indexCast v2013
  let c32_440 : Index := 32#32
  ![v2198.toNat, 32]
def k0_off1154 (v2017 : BitVec 32) : Fin 2 → Nat :=
  let v2200 : Index := Scalar.indexCast v2017
  let c32_441 : Index := 32#32
  ![v2200.toNat, 32]
def k0_off1155 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2206 : Index := Scalar.indexCast v2013
  let c48_442 : Index := 48#32
  ![v2206.toNat, 48]
def k0_off1156 (v2017 : BitVec 32) : Fin 2 → Nat :=
  let v2208 : Index := Scalar.indexCast v2017
  let c48_443 : Index := 48#32
  ![v2208.toNat, 48]
def k0_off1157 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2214 : Index := Scalar.indexCast v2013
  let c64_444 : Index := 64#32
  ![v2214.toNat, 64]
def k0_off1158 (v2017 : BitVec 32) : Fin 2 → Nat :=
  let v2216 : Index := Scalar.indexCast v2017
  let c64_445 : Index := 64#32
  ![v2216.toNat, 64]
def k0_off1159 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2222 : Index := Scalar.indexCast v2013
  let c80_446 : Index := 80#32
  ![v2222.toNat, 80]
def k0_off1160 (v2017 : BitVec 32) : Fin 2 → Nat :=
  let v2224 : Index := Scalar.indexCast v2017
  let c80_447 : Index := 80#32
  ![v2224.toNat, 80]
def k0_off1161 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2230 : Index := Scalar.indexCast v2013
  let c96_448 : Index := 96#32
  ![v2230.toNat, 96]
def k0_off1162 (v2017 : BitVec 32) : Fin 2 → Nat :=
  let v2232 : Index := Scalar.indexCast v2017
  let c96_449 : Index := 96#32
  ![v2232.toNat, 96]
def k0_off1163 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2238 : Index := Scalar.indexCast v2013
  let c112_450 : Index := 112#32
  ![v2238.toNat, 112]
def k0_off1164 (v2017 : BitVec 32) : Fin 2 → Nat :=
  let v2240 : Index := Scalar.indexCast v2017
  let c112_451 : Index := 112#32
  ![v2240.toNat, 112]

def k0_chk58 (v2017 : BitVec 32) : Prop :=
  (∀ a, (k0_off1150 v2017) a + S1x16.size a ≤ S512x128.size a) ∧
  (∀ a, (k0_off1152 v2017) a + S1x16.size a ≤ S512x128.size a) ∧
  (∀ a, (k0_off1154 v2017) a + S1x16.size a ≤ S512x128.size a) ∧
  (∀ a, (k0_off1156 v2017) a + S1x16.size a ≤ S512x128.size a) ∧
  (∀ a, (k0_off1158 v2017) a + S1x16.size a ≤ S512x128.size a) ∧
  (∀ a, (k0_off1160 v2017) a + S1x16.size a ≤ S512x128.size a) ∧
  (∀ a, (k0_off1162 v2017) a + S1x16.size a ≤ S512x128.size a) ∧
  (∀ a, (k0_off1164 v2017) a + S1x16.size a ≤ S512x128.size a)
theorem k0_off1150_inb : ∀ (v2017 : BitVec 32) (k0_hw58 : k0_chk58 v2017), ∀ a, (k0_off1150 v2017) a + S1x16.size a ≤ S512x128.size a := fun v2017 k0_hw58 => k0_hw58.1
theorem k0_off1152_inb : ∀ (v2017 : BitVec 32) (k0_hw58 : k0_chk58 v2017), ∀ a, (k0_off1152 v2017) a + S1x16.size a ≤ S512x128.size a := fun v2017 k0_hw58 => k0_hw58.2.1
theorem k0_off1154_inb : ∀ (v2017 : BitVec 32) (k0_hw58 : k0_chk58 v2017), ∀ a, (k0_off1154 v2017) a + S1x16.size a ≤ S512x128.size a := fun v2017 k0_hw58 => k0_hw58.2.2.1
theorem k0_off1156_inb : ∀ (v2017 : BitVec 32) (k0_hw58 : k0_chk58 v2017), ∀ a, (k0_off1156 v2017) a + S1x16.size a ≤ S512x128.size a := fun v2017 k0_hw58 => k0_hw58.2.2.2.1
theorem k0_off1158_inb : ∀ (v2017 : BitVec 32) (k0_hw58 : k0_chk58 v2017), ∀ a, (k0_off1158 v2017) a + S1x16.size a ≤ S512x128.size a := fun v2017 k0_hw58 => k0_hw58.2.2.2.2.1
theorem k0_off1160_inb : ∀ (v2017 : BitVec 32) (k0_hw58 : k0_chk58 v2017), ∀ a, (k0_off1160 v2017) a + S1x16.size a ≤ S512x128.size a := fun v2017 k0_hw58 => k0_hw58.2.2.2.2.2.1
theorem k0_off1162_inb : ∀ (v2017 : BitVec 32) (k0_hw58 : k0_chk58 v2017), ∀ a, (k0_off1162 v2017) a + S1x16.size a ≤ S512x128.size a := fun v2017 k0_hw58 => k0_hw58.2.2.2.2.2.2.1
theorem k0_off1164_inb : ∀ (v2017 : BitVec 32) (k0_hw58 : k0_chk58 v2017), ∀ a, (k0_off1164 v2017) a + S1x16.size a ≤ S512x128.size a := fun v2017 k0_hw58 => k0_hw58.2.2.2.2.2.2.2

def k0_off1165 (k0_t5 : Fin k0_t5_loop.trips) (c8_i32_413 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v2011 : BitVec 32 := Scalar.addi v147 c8_i32_413
  let v2378 : Index := Scalar.indexCast v2011
  let c0_459 : Index := 0#32
  ![v2378.toNat, 0]
def k0_off1166 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2384 : Index := Scalar.indexCast v2011
  let c16_460 : Index := 16#32
  ![v2384.toNat, 16]
def k0_off1167 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2390 : Index := Scalar.indexCast v2011
  let c32_461 : Index := 32#32
  ![v2390.toNat, 32]
def k0_off1168 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2396 : Index := Scalar.indexCast v2011
  let c48_462 : Index := 48#32
  ![v2396.toNat, 48]
def k0_off1169 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2402 : Index := Scalar.indexCast v2011
  let c64_463 : Index := 64#32
  ![v2402.toNat, 64]
def k0_off1170 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2408 : Index := Scalar.indexCast v2011
  let c80_464 : Index := 80#32
  ![v2408.toNat, 80]
def k0_off1171 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2414 : Index := Scalar.indexCast v2011
  let c96_465 : Index := 96#32
  ![v2414.toNat, 96]
def k0_off1172 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_413 : BitVec 32 := 8#32
  let v2011 : BitVec 32 := Scalar.addi v147 c8_i32_413
  let v2420 : Index := Scalar.indexCast v2011
  let c112_466 : Index := 112#32
  ![v2420.toNat, 112]
def k0_off1173 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2432 : Index := Scalar.indexCast v2013
  let c0_467 : Index := 0#32
  ![v2432.toNat, 0]
def k0_off1174 (v2480 : BitVec 32) : Fin 2 → Nat :=
  let v2487 : Index := Scalar.indexCast v2480
  let c0_480 : Index := 0#32
  ![v2487.toNat, 0]

def k0_off1175 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2493 : Index := Scalar.indexCast v2476
  let c16_481 : Index := 16#32
  ![v2493.toNat, 16]
def k0_off1176 (v2480 : BitVec 32) : Fin 2 → Nat :=
  let v2495 : Index := Scalar.indexCast v2480
  let c16_482 : Index := 16#32
  ![v2495.toNat, 16]
def k0_off1177 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2501 : Index := Scalar.indexCast v2476
  let c32_483 : Index := 32#32
  ![v2501.toNat, 32]
def k0_off1178 (v2480 : BitVec 32) : Fin 2 → Nat :=
  let v2503 : Index := Scalar.indexCast v2480
  let c32_484 : Index := 32#32
  ![v2503.toNat, 32]
def k0_off1179 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2509 : Index := Scalar.indexCast v2476
  let c48_485 : Index := 48#32
  ![v2509.toNat, 48]
def k0_off1180 (v2480 : BitVec 32) : Fin 2 → Nat :=
  let v2511 : Index := Scalar.indexCast v2480
  let c48_486 : Index := 48#32
  ![v2511.toNat, 48]
def k0_off1181 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2517 : Index := Scalar.indexCast v2476
  let c64_487 : Index := 64#32
  ![v2517.toNat, 64]
def k0_off1182 (v2480 : BitVec 32) : Fin 2 → Nat :=
  let v2519 : Index := Scalar.indexCast v2480
  let c64_488 : Index := 64#32
  ![v2519.toNat, 64]
def k0_off1183 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2525 : Index := Scalar.indexCast v2476
  let c80_489 : Index := 80#32
  ![v2525.toNat, 80]
def k0_off1184 (v2480 : BitVec 32) : Fin 2 → Nat :=
  let v2527 : Index := Scalar.indexCast v2480
  let c80_490 : Index := 80#32
  ![v2527.toNat, 80]
def k0_off1185 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2533 : Index := Scalar.indexCast v2476
  let c96_491 : Index := 96#32
  ![v2533.toNat, 96]
def k0_off1186 (v2480 : BitVec 32) : Fin 2 → Nat :=
  let v2535 : Index := Scalar.indexCast v2480
  let c96_492 : Index := 96#32
  ![v2535.toNat, 96]
def k0_off1187 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2541 : Index := Scalar.indexCast v2476
  let c112_493 : Index := 112#32
  ![v2541.toNat, 112]
def k0_off1188 (v2480 : BitVec 32) : Fin 2 → Nat :=
  let v2543 : Index := Scalar.indexCast v2480
  let c112_494 : Index := 112#32
  ![v2543.toNat, 112]

def k0_chk59 (v2480 : BitVec 32) : Prop :=
  (∀ a, (k0_off1174 v2480) a + S1x16.size a ≤ S512x128.size a) ∧
  (∀ a, (k0_off1176 v2480) a + S1x16.size a ≤ S512x128.size a) ∧
  (∀ a, (k0_off1178 v2480) a + S1x16.size a ≤ S512x128.size a) ∧
  (∀ a, (k0_off1180 v2480) a + S1x16.size a ≤ S512x128.size a) ∧
  (∀ a, (k0_off1182 v2480) a + S1x16.size a ≤ S512x128.size a) ∧
  (∀ a, (k0_off1184 v2480) a + S1x16.size a ≤ S512x128.size a) ∧
  (∀ a, (k0_off1186 v2480) a + S1x16.size a ≤ S512x128.size a) ∧
  (∀ a, (k0_off1188 v2480) a + S1x16.size a ≤ S512x128.size a)
theorem k0_off1174_inb : ∀ (v2480 : BitVec 32) (k0_hw59 : k0_chk59 v2480), ∀ a, (k0_off1174 v2480) a + S1x16.size a ≤ S512x128.size a := fun v2480 k0_hw59 => k0_hw59.1
theorem k0_off1176_inb : ∀ (v2480 : BitVec 32) (k0_hw59 : k0_chk59 v2480), ∀ a, (k0_off1176 v2480) a + S1x16.size a ≤ S512x128.size a := fun v2480 k0_hw59 => k0_hw59.2.1
theorem k0_off1178_inb : ∀ (v2480 : BitVec 32) (k0_hw59 : k0_chk59 v2480), ∀ a, (k0_off1178 v2480) a + S1x16.size a ≤ S512x128.size a := fun v2480 k0_hw59 => k0_hw59.2.2.1
theorem k0_off1180_inb : ∀ (v2480 : BitVec 32) (k0_hw59 : k0_chk59 v2480), ∀ a, (k0_off1180 v2480) a + S1x16.size a ≤ S512x128.size a := fun v2480 k0_hw59 => k0_hw59.2.2.2.1
theorem k0_off1182_inb : ∀ (v2480 : BitVec 32) (k0_hw59 : k0_chk59 v2480), ∀ a, (k0_off1182 v2480) a + S1x16.size a ≤ S512x128.size a := fun v2480 k0_hw59 => k0_hw59.2.2.2.2.1
theorem k0_off1184_inb : ∀ (v2480 : BitVec 32) (k0_hw59 : k0_chk59 v2480), ∀ a, (k0_off1184 v2480) a + S1x16.size a ≤ S512x128.size a := fun v2480 k0_hw59 => k0_hw59.2.2.2.2.2.1
theorem k0_off1186_inb : ∀ (v2480 : BitVec 32) (k0_hw59 : k0_chk59 v2480), ∀ a, (k0_off1186 v2480) a + S1x16.size a ≤ S512x128.size a := fun v2480 k0_hw59 => k0_hw59.2.2.2.2.2.2.1
theorem k0_off1188_inb : ∀ (v2480 : BitVec 32) (k0_hw59 : k0_chk59 v2480), ∀ a, (k0_off1188 v2480) a + S1x16.size a ≤ S512x128.size a := fun v2480 k0_hw59 => k0_hw59.2.2.2.2.2.2.2

def k0_off1189 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2647 : Index := Scalar.indexCast v2478
  let c0_497 : Index := 0#32
  ![v2647.toNat, 0]
def k0_off1190 (v2482 : BitVec 32) : Fin 2 → Nat :=
  let v2649 : Index := Scalar.indexCast v2482
  let c0_498 : Index := 0#32
  ![v2649.toNat, 0]

def k0_off1191 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2655 : Index := Scalar.indexCast v2478
  let c16_499 : Index := 16#32
  ![v2655.toNat, 16]
def k0_off1192 (v2482 : BitVec 32) : Fin 2 → Nat :=
  let v2657 : Index := Scalar.indexCast v2482
  let c16_500 : Index := 16#32
  ![v2657.toNat, 16]
def k0_off1193 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2663 : Index := Scalar.indexCast v2478
  let c32_501 : Index := 32#32
  ![v2663.toNat, 32]
def k0_off1194 (v2482 : BitVec 32) : Fin 2 → Nat :=
  let v2665 : Index := Scalar.indexCast v2482
  let c32_502 : Index := 32#32
  ![v2665.toNat, 32]
def k0_off1195 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2671 : Index := Scalar.indexCast v2478
  let c48_503 : Index := 48#32
  ![v2671.toNat, 48]
def k0_off1196 (v2482 : BitVec 32) : Fin 2 → Nat :=
  let v2673 : Index := Scalar.indexCast v2482
  let c48_504 : Index := 48#32
  ![v2673.toNat, 48]
def k0_off1197 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2679 : Index := Scalar.indexCast v2478
  let c64_505 : Index := 64#32
  ![v2679.toNat, 64]
def k0_off1198 (v2482 : BitVec 32) : Fin 2 → Nat :=
  let v2681 : Index := Scalar.indexCast v2482
  let c64_506 : Index := 64#32
  ![v2681.toNat, 64]
def k0_off1199 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2687 : Index := Scalar.indexCast v2478
  let c80_507 : Index := 80#32
  ![v2687.toNat, 80]
def k0_off1200 (v2482 : BitVec 32) : Fin 2 → Nat :=
  let v2689 : Index := Scalar.indexCast v2482
  let c80_508 : Index := 80#32
  ![v2689.toNat, 80]
def k0_off1201 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2695 : Index := Scalar.indexCast v2478
  let c96_509 : Index := 96#32
  ![v2695.toNat, 96]
def k0_off1202 (v2482 : BitVec 32) : Fin 2 → Nat :=
  let v2697 : Index := Scalar.indexCast v2482
  let c96_510 : Index := 96#32
  ![v2697.toNat, 96]
def k0_off1203 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2703 : Index := Scalar.indexCast v2478
  let c112_511 : Index := 112#32
  ![v2703.toNat, 112]
def k0_off1204 (v2482 : BitVec 32) : Fin 2 → Nat :=
  let v2705 : Index := Scalar.indexCast v2482
  let c112_512 : Index := 112#32
  ![v2705.toNat, 112]

def k0_chk60 (v2482 : BitVec 32) : Prop :=
  (∀ a, (k0_off1190 v2482) a + S1x16.size a ≤ S512x128.size a) ∧
  (∀ a, (k0_off1192 v2482) a + S1x16.size a ≤ S512x128.size a) ∧
  (∀ a, (k0_off1194 v2482) a + S1x16.size a ≤ S512x128.size a) ∧
  (∀ a, (k0_off1196 v2482) a + S1x16.size a ≤ S512x128.size a) ∧
  (∀ a, (k0_off1198 v2482) a + S1x16.size a ≤ S512x128.size a) ∧
  (∀ a, (k0_off1200 v2482) a + S1x16.size a ≤ S512x128.size a) ∧
  (∀ a, (k0_off1202 v2482) a + S1x16.size a ≤ S512x128.size a) ∧
  (∀ a, (k0_off1204 v2482) a + S1x16.size a ≤ S512x128.size a)
theorem k0_off1190_inb : ∀ (v2482 : BitVec 32) (k0_hw60 : k0_chk60 v2482), ∀ a, (k0_off1190 v2482) a + S1x16.size a ≤ S512x128.size a := fun v2482 k0_hw60 => k0_hw60.1
theorem k0_off1192_inb : ∀ (v2482 : BitVec 32) (k0_hw60 : k0_chk60 v2482), ∀ a, (k0_off1192 v2482) a + S1x16.size a ≤ S512x128.size a := fun v2482 k0_hw60 => k0_hw60.2.1
theorem k0_off1194_inb : ∀ (v2482 : BitVec 32) (k0_hw60 : k0_chk60 v2482), ∀ a, (k0_off1194 v2482) a + S1x16.size a ≤ S512x128.size a := fun v2482 k0_hw60 => k0_hw60.2.2.1
theorem k0_off1196_inb : ∀ (v2482 : BitVec 32) (k0_hw60 : k0_chk60 v2482), ∀ a, (k0_off1196 v2482) a + S1x16.size a ≤ S512x128.size a := fun v2482 k0_hw60 => k0_hw60.2.2.2.1
theorem k0_off1198_inb : ∀ (v2482 : BitVec 32) (k0_hw60 : k0_chk60 v2482), ∀ a, (k0_off1198 v2482) a + S1x16.size a ≤ S512x128.size a := fun v2482 k0_hw60 => k0_hw60.2.2.2.2.1
theorem k0_off1200_inb : ∀ (v2482 : BitVec 32) (k0_hw60 : k0_chk60 v2482), ∀ a, (k0_off1200 v2482) a + S1x16.size a ≤ S512x128.size a := fun v2482 k0_hw60 => k0_hw60.2.2.2.2.2.1
theorem k0_off1202_inb : ∀ (v2482 : BitVec 32) (k0_hw60 : k0_chk60 v2482), ∀ a, (k0_off1202 v2482) a + S1x16.size a ≤ S512x128.size a := fun v2482 k0_hw60 => k0_hw60.2.2.2.2.2.2.1
theorem k0_off1204_inb : ∀ (v2482 : BitVec 32) (k0_hw60 : k0_chk60 v2482), ∀ a, (k0_off1204 v2482) a + S1x16.size a ≤ S512x128.size a := fun v2482 k0_hw60 => k0_hw60.2.2.2.2.2.2.2

def k0_off1205 (k0_t5 : Fin k0_t5_loop.trips) (c10_i32 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v2476 : BitVec 32 := Scalar.addi v147 c10_i32
  let v2843 : Index := Scalar.indexCast v2476
  let c0_520 : Index := 0#32
  ![v2843.toNat, 0]
def k0_off1206 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2849 : Index := Scalar.indexCast v2476
  let c16_521 : Index := 16#32
  ![v2849.toNat, 16]
def k0_off1207 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2855 : Index := Scalar.indexCast v2476
  let c32_522 : Index := 32#32
  ![v2855.toNat, 32]
def k0_off1208 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2861 : Index := Scalar.indexCast v2476
  let c48_523 : Index := 48#32
  ![v2861.toNat, 48]
def k0_off1209 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2867 : Index := Scalar.indexCast v2476
  let c64_524 : Index := 64#32
  ![v2867.toNat, 64]
def k0_off1210 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2873 : Index := Scalar.indexCast v2476
  let c80_525 : Index := 80#32
  ![v2873.toNat, 80]
def k0_off1211 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2879 : Index := Scalar.indexCast v2476
  let c96_526 : Index := 96#32
  ![v2879.toNat, 96]
def k0_off1212 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32 : BitVec 32 := 10#32
  let v2476 : BitVec 32 := Scalar.addi v147 c10_i32
  let v2885 : Index := Scalar.indexCast v2476
  let c112_527 : Index := 112#32
  ![v2885.toNat, 112]
def k0_off1213 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2897 : Index := Scalar.indexCast v2478
  let c0_528 : Index := 0#32
  ![v2897.toNat, 0]
def k0_off1214 (v2945 : BitVec 32) : Fin 2 → Nat :=
  let v2952 : Index := Scalar.indexCast v2945
  let c0_541 : Index := 0#32
  ![v2952.toNat, 0]

def k0_off1215 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2958 : Index := Scalar.indexCast v2941
  let c16_542 : Index := 16#32
  ![v2958.toNat, 16]
def k0_off1216 (v2945 : BitVec 32) : Fin 2 → Nat :=
  let v2960 : Index := Scalar.indexCast v2945
  let c16_543 : Index := 16#32
  ![v2960.toNat, 16]
def k0_off1217 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2966 : Index := Scalar.indexCast v2941
  let c32_544 : Index := 32#32
  ![v2966.toNat, 32]
def k0_off1218 (v2945 : BitVec 32) : Fin 2 → Nat :=
  let v2968 : Index := Scalar.indexCast v2945
  let c32_545 : Index := 32#32
  ![v2968.toNat, 32]
def k0_off1219 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2974 : Index := Scalar.indexCast v2941
  let c48_546 : Index := 48#32
  ![v2974.toNat, 48]
def k0_off1220 (v2945 : BitVec 32) : Fin 2 → Nat :=
  let v2976 : Index := Scalar.indexCast v2945
  let c48_547 : Index := 48#32
  ![v2976.toNat, 48]
def k0_off1221 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2982 : Index := Scalar.indexCast v2941
  let c64_548 : Index := 64#32
  ![v2982.toNat, 64]
def k0_off1222 (v2945 : BitVec 32) : Fin 2 → Nat :=
  let v2984 : Index := Scalar.indexCast v2945
  let c64_549 : Index := 64#32
  ![v2984.toNat, 64]
def k0_off1223 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2990 : Index := Scalar.indexCast v2941
  let c80_550 : Index := 80#32
  ![v2990.toNat, 80]
def k0_off1224 (v2945 : BitVec 32) : Fin 2 → Nat :=
  let v2992 : Index := Scalar.indexCast v2945
  let c80_551 : Index := 80#32
  ![v2992.toNat, 80]
def k0_off1225 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v2998 : Index := Scalar.indexCast v2941
  let c96_552 : Index := 96#32
  ![v2998.toNat, 96]
def k0_off1226 (v2945 : BitVec 32) : Fin 2 → Nat :=
  let v3000 : Index := Scalar.indexCast v2945
  let c96_553 : Index := 96#32
  ![v3000.toNat, 96]
def k0_off1227 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3006 : Index := Scalar.indexCast v2941
  let c112_554 : Index := 112#32
  ![v3006.toNat, 112]
def k0_off1228 (v2945 : BitVec 32) : Fin 2 → Nat :=
  let v3008 : Index := Scalar.indexCast v2945
  let c112_555 : Index := 112#32
  ![v3008.toNat, 112]

def k0_chk61 (v2945 : BitVec 32) : Prop :=
  (∀ a, (k0_off1214 v2945) a + S1x16.size a ≤ S512x128.size a) ∧
  (∀ a, (k0_off1216 v2945) a + S1x16.size a ≤ S512x128.size a) ∧
  (∀ a, (k0_off1218 v2945) a + S1x16.size a ≤ S512x128.size a) ∧
  (∀ a, (k0_off1220 v2945) a + S1x16.size a ≤ S512x128.size a) ∧
  (∀ a, (k0_off1222 v2945) a + S1x16.size a ≤ S512x128.size a) ∧
  (∀ a, (k0_off1224 v2945) a + S1x16.size a ≤ S512x128.size a) ∧
  (∀ a, (k0_off1226 v2945) a + S1x16.size a ≤ S512x128.size a) ∧
  (∀ a, (k0_off1228 v2945) a + S1x16.size a ≤ S512x128.size a)
theorem k0_off1214_inb : ∀ (v2945 : BitVec 32) (k0_hw61 : k0_chk61 v2945), ∀ a, (k0_off1214 v2945) a + S1x16.size a ≤ S512x128.size a := fun v2945 k0_hw61 => k0_hw61.1
theorem k0_off1216_inb : ∀ (v2945 : BitVec 32) (k0_hw61 : k0_chk61 v2945), ∀ a, (k0_off1216 v2945) a + S1x16.size a ≤ S512x128.size a := fun v2945 k0_hw61 => k0_hw61.2.1
theorem k0_off1218_inb : ∀ (v2945 : BitVec 32) (k0_hw61 : k0_chk61 v2945), ∀ a, (k0_off1218 v2945) a + S1x16.size a ≤ S512x128.size a := fun v2945 k0_hw61 => k0_hw61.2.2.1
theorem k0_off1220_inb : ∀ (v2945 : BitVec 32) (k0_hw61 : k0_chk61 v2945), ∀ a, (k0_off1220 v2945) a + S1x16.size a ≤ S512x128.size a := fun v2945 k0_hw61 => k0_hw61.2.2.2.1
theorem k0_off1222_inb : ∀ (v2945 : BitVec 32) (k0_hw61 : k0_chk61 v2945), ∀ a, (k0_off1222 v2945) a + S1x16.size a ≤ S512x128.size a := fun v2945 k0_hw61 => k0_hw61.2.2.2.2.1
theorem k0_off1224_inb : ∀ (v2945 : BitVec 32) (k0_hw61 : k0_chk61 v2945), ∀ a, (k0_off1224 v2945) a + S1x16.size a ≤ S512x128.size a := fun v2945 k0_hw61 => k0_hw61.2.2.2.2.2.1
theorem k0_off1226_inb : ∀ (v2945 : BitVec 32) (k0_hw61 : k0_chk61 v2945), ∀ a, (k0_off1226 v2945) a + S1x16.size a ≤ S512x128.size a := fun v2945 k0_hw61 => k0_hw61.2.2.2.2.2.2.1
theorem k0_off1228_inb : ∀ (v2945 : BitVec 32) (k0_hw61 : k0_chk61 v2945), ∀ a, (k0_off1228 v2945) a + S1x16.size a ≤ S512x128.size a := fun v2945 k0_hw61 => k0_hw61.2.2.2.2.2.2.2

def k0_off1229 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3112 : Index := Scalar.indexCast v2943
  let c0_558 : Index := 0#32
  ![v3112.toNat, 0]
def k0_off1230 (v2947 : BitVec 32) : Fin 2 → Nat :=
  let v3114 : Index := Scalar.indexCast v2947
  let c0_559 : Index := 0#32
  ![v3114.toNat, 0]

def k0_off1231 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3120 : Index := Scalar.indexCast v2943
  let c16_560 : Index := 16#32
  ![v3120.toNat, 16]
def k0_off1232 (v2947 : BitVec 32) : Fin 2 → Nat :=
  let v3122 : Index := Scalar.indexCast v2947
  let c16_561 : Index := 16#32
  ![v3122.toNat, 16]
def k0_off1233 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3128 : Index := Scalar.indexCast v2943
  let c32_562 : Index := 32#32
  ![v3128.toNat, 32]
def k0_off1234 (v2947 : BitVec 32) : Fin 2 → Nat :=
  let v3130 : Index := Scalar.indexCast v2947
  let c32_563 : Index := 32#32
  ![v3130.toNat, 32]
def k0_off1235 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3136 : Index := Scalar.indexCast v2943
  let c48_564 : Index := 48#32
  ![v3136.toNat, 48]
def k0_off1236 (v2947 : BitVec 32) : Fin 2 → Nat :=
  let v3138 : Index := Scalar.indexCast v2947
  let c48_565 : Index := 48#32
  ![v3138.toNat, 48]
def k0_off1237 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3144 : Index := Scalar.indexCast v2943
  let c64_566 : Index := 64#32
  ![v3144.toNat, 64]
def k0_off1238 (v2947 : BitVec 32) : Fin 2 → Nat :=
  let v3146 : Index := Scalar.indexCast v2947
  let c64_567 : Index := 64#32
  ![v3146.toNat, 64]
def k0_off1239 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3152 : Index := Scalar.indexCast v2943
  let c80_568 : Index := 80#32
  ![v3152.toNat, 80]
def k0_off1240 (v2947 : BitVec 32) : Fin 2 → Nat :=
  let v3154 : Index := Scalar.indexCast v2947
  let c80_569 : Index := 80#32
  ![v3154.toNat, 80]
def k0_off1241 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3160 : Index := Scalar.indexCast v2943
  let c96_570 : Index := 96#32
  ![v3160.toNat, 96]
def k0_off1242 (v2947 : BitVec 32) : Fin 2 → Nat :=
  let v3162 : Index := Scalar.indexCast v2947
  let c96_571 : Index := 96#32
  ![v3162.toNat, 96]
def k0_off1243 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3168 : Index := Scalar.indexCast v2943
  let c112_572 : Index := 112#32
  ![v3168.toNat, 112]
def k0_off1244 (v2947 : BitVec 32) : Fin 2 → Nat :=
  let v3170 : Index := Scalar.indexCast v2947
  let c112_573 : Index := 112#32
  ![v3170.toNat, 112]

def k0_chk62 (v2947 : BitVec 32) : Prop :=
  (∀ a, (k0_off1230 v2947) a + S1x16.size a ≤ S512x128.size a) ∧
  (∀ a, (k0_off1232 v2947) a + S1x16.size a ≤ S512x128.size a) ∧
  (∀ a, (k0_off1234 v2947) a + S1x16.size a ≤ S512x128.size a) ∧
  (∀ a, (k0_off1236 v2947) a + S1x16.size a ≤ S512x128.size a) ∧
  (∀ a, (k0_off1238 v2947) a + S1x16.size a ≤ S512x128.size a) ∧
  (∀ a, (k0_off1240 v2947) a + S1x16.size a ≤ S512x128.size a) ∧
  (∀ a, (k0_off1242 v2947) a + S1x16.size a ≤ S512x128.size a) ∧
  (∀ a, (k0_off1244 v2947) a + S1x16.size a ≤ S512x128.size a)
theorem k0_off1230_inb : ∀ (v2947 : BitVec 32) (k0_hw62 : k0_chk62 v2947), ∀ a, (k0_off1230 v2947) a + S1x16.size a ≤ S512x128.size a := fun v2947 k0_hw62 => k0_hw62.1
theorem k0_off1232_inb : ∀ (v2947 : BitVec 32) (k0_hw62 : k0_chk62 v2947), ∀ a, (k0_off1232 v2947) a + S1x16.size a ≤ S512x128.size a := fun v2947 k0_hw62 => k0_hw62.2.1
theorem k0_off1234_inb : ∀ (v2947 : BitVec 32) (k0_hw62 : k0_chk62 v2947), ∀ a, (k0_off1234 v2947) a + S1x16.size a ≤ S512x128.size a := fun v2947 k0_hw62 => k0_hw62.2.2.1
theorem k0_off1236_inb : ∀ (v2947 : BitVec 32) (k0_hw62 : k0_chk62 v2947), ∀ a, (k0_off1236 v2947) a + S1x16.size a ≤ S512x128.size a := fun v2947 k0_hw62 => k0_hw62.2.2.2.1
theorem k0_off1238_inb : ∀ (v2947 : BitVec 32) (k0_hw62 : k0_chk62 v2947), ∀ a, (k0_off1238 v2947) a + S1x16.size a ≤ S512x128.size a := fun v2947 k0_hw62 => k0_hw62.2.2.2.2.1
theorem k0_off1240_inb : ∀ (v2947 : BitVec 32) (k0_hw62 : k0_chk62 v2947), ∀ a, (k0_off1240 v2947) a + S1x16.size a ≤ S512x128.size a := fun v2947 k0_hw62 => k0_hw62.2.2.2.2.2.1
theorem k0_off1242_inb : ∀ (v2947 : BitVec 32) (k0_hw62 : k0_chk62 v2947), ∀ a, (k0_off1242 v2947) a + S1x16.size a ≤ S512x128.size a := fun v2947 k0_hw62 => k0_hw62.2.2.2.2.2.2.1
theorem k0_off1244_inb : ∀ (v2947 : BitVec 32) (k0_hw62 : k0_chk62 v2947), ∀ a, (k0_off1244 v2947) a + S1x16.size a ≤ S512x128.size a := fun v2947 k0_hw62 => k0_hw62.2.2.2.2.2.2.2

def k0_off1245 (k0_t5 : Fin k0_t5_loop.trips) (c12_i32 : BitVec 32) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let v2941 : BitVec 32 := Scalar.addi v147 c12_i32
  let v3308 : Index := Scalar.indexCast v2941
  let c0_581 : Index := 0#32
  ![v3308.toNat, 0]
def k0_off1246 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3314 : Index := Scalar.indexCast v2941
  let c16_582 : Index := 16#32
  ![v3314.toNat, 16]
def k0_off1247 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3320 : Index := Scalar.indexCast v2941
  let c32_583 : Index := 32#32
  ![v3320.toNat, 32]
def k0_off1248 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3326 : Index := Scalar.indexCast v2941
  let c48_584 : Index := 48#32
  ![v3326.toNat, 48]
def k0_off1249 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3332 : Index := Scalar.indexCast v2941
  let c64_585 : Index := 64#32
  ![v3332.toNat, 64]
def k0_off1250 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3338 : Index := Scalar.indexCast v2941
  let c80_586 : Index := 80#32
  ![v3338.toNat, 80]
def k0_off1251 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3344 : Index := Scalar.indexCast v2941
  let c96_587 : Index := 96#32
  ![v3344.toNat, 96]
def k0_off1252 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32 : BitVec 32 := 12#32
  let v2941 : BitVec 32 := Scalar.addi v147 c12_i32
  let v3350 : Index := Scalar.indexCast v2941
  let c112_588 : Index := 112#32
  ![v3350.toNat, 112]
def k0_off1253 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3362 : Index := Scalar.indexCast v2943
  let c0_589 : Index := 0#32
  ![v3362.toNat, 0]
def k0_off1254 (v3410 : BitVec 32) : Fin 2 → Nat :=
  let v3417 : Index := Scalar.indexCast v3410
  let c0_602 : Index := 0#32
  ![v3417.toNat, 0]

def k0_off1255 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3423 : Index := Scalar.indexCast v3406
  let c16_603 : Index := 16#32
  ![v3423.toNat, 16]
def k0_off1256 (v3410 : BitVec 32) : Fin 2 → Nat :=
  let v3425 : Index := Scalar.indexCast v3410
  let c16_604 : Index := 16#32
  ![v3425.toNat, 16]
def k0_off1257 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3431 : Index := Scalar.indexCast v3406
  let c32_605 : Index := 32#32
  ![v3431.toNat, 32]
def k0_off1258 (v3410 : BitVec 32) : Fin 2 → Nat :=
  let v3433 : Index := Scalar.indexCast v3410
  let c32_606 : Index := 32#32
  ![v3433.toNat, 32]
def k0_off1259 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3439 : Index := Scalar.indexCast v3406
  let c48_607 : Index := 48#32
  ![v3439.toNat, 48]
def k0_off1260 (v3410 : BitVec 32) : Fin 2 → Nat :=
  let v3441 : Index := Scalar.indexCast v3410
  let c48_608 : Index := 48#32
  ![v3441.toNat, 48]
def k0_off1261 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3447 : Index := Scalar.indexCast v3406
  let c64_609 : Index := 64#32
  ![v3447.toNat, 64]
def k0_off1262 (v3410 : BitVec 32) : Fin 2 → Nat :=
  let v3449 : Index := Scalar.indexCast v3410
  let c64_610 : Index := 64#32
  ![v3449.toNat, 64]
def k0_off1263 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3455 : Index := Scalar.indexCast v3406
  let c80_611 : Index := 80#32
  ![v3455.toNat, 80]
def k0_off1264 (v3410 : BitVec 32) : Fin 2 → Nat :=
  let v3457 : Index := Scalar.indexCast v3410
  let c80_612 : Index := 80#32
  ![v3457.toNat, 80]
def k0_off1265 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3463 : Index := Scalar.indexCast v3406
  let c96_613 : Index := 96#32
  ![v3463.toNat, 96]
def k0_off1266 (v3410 : BitVec 32) : Fin 2 → Nat :=
  let v3465 : Index := Scalar.indexCast v3410
  let c96_614 : Index := 96#32
  ![v3465.toNat, 96]
def k0_off1267 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3471 : Index := Scalar.indexCast v3406
  let c112_615 : Index := 112#32
  ![v3471.toNat, 112]
def k0_off1268 (v3410 : BitVec 32) : Fin 2 → Nat :=
  let v3473 : Index := Scalar.indexCast v3410
  let c112_616 : Index := 112#32
  ![v3473.toNat, 112]

def k0_chk63 (v3410 : BitVec 32) : Prop :=
  (∀ a, (k0_off1254 v3410) a + S1x16.size a ≤ S512x128.size a) ∧
  (∀ a, (k0_off1256 v3410) a + S1x16.size a ≤ S512x128.size a) ∧
  (∀ a, (k0_off1258 v3410) a + S1x16.size a ≤ S512x128.size a) ∧
  (∀ a, (k0_off1260 v3410) a + S1x16.size a ≤ S512x128.size a) ∧
  (∀ a, (k0_off1262 v3410) a + S1x16.size a ≤ S512x128.size a) ∧
  (∀ a, (k0_off1264 v3410) a + S1x16.size a ≤ S512x128.size a) ∧
  (∀ a, (k0_off1266 v3410) a + S1x16.size a ≤ S512x128.size a) ∧
  (∀ a, (k0_off1268 v3410) a + S1x16.size a ≤ S512x128.size a)
theorem k0_off1254_inb : ∀ (v3410 : BitVec 32) (k0_hw63 : k0_chk63 v3410), ∀ a, (k0_off1254 v3410) a + S1x16.size a ≤ S512x128.size a := fun v3410 k0_hw63 => k0_hw63.1
theorem k0_off1256_inb : ∀ (v3410 : BitVec 32) (k0_hw63 : k0_chk63 v3410), ∀ a, (k0_off1256 v3410) a + S1x16.size a ≤ S512x128.size a := fun v3410 k0_hw63 => k0_hw63.2.1
theorem k0_off1258_inb : ∀ (v3410 : BitVec 32) (k0_hw63 : k0_chk63 v3410), ∀ a, (k0_off1258 v3410) a + S1x16.size a ≤ S512x128.size a := fun v3410 k0_hw63 => k0_hw63.2.2.1
theorem k0_off1260_inb : ∀ (v3410 : BitVec 32) (k0_hw63 : k0_chk63 v3410), ∀ a, (k0_off1260 v3410) a + S1x16.size a ≤ S512x128.size a := fun v3410 k0_hw63 => k0_hw63.2.2.2.1
theorem k0_off1262_inb : ∀ (v3410 : BitVec 32) (k0_hw63 : k0_chk63 v3410), ∀ a, (k0_off1262 v3410) a + S1x16.size a ≤ S512x128.size a := fun v3410 k0_hw63 => k0_hw63.2.2.2.2.1
theorem k0_off1264_inb : ∀ (v3410 : BitVec 32) (k0_hw63 : k0_chk63 v3410), ∀ a, (k0_off1264 v3410) a + S1x16.size a ≤ S512x128.size a := fun v3410 k0_hw63 => k0_hw63.2.2.2.2.2.1
theorem k0_off1266_inb : ∀ (v3410 : BitVec 32) (k0_hw63 : k0_chk63 v3410), ∀ a, (k0_off1266 v3410) a + S1x16.size a ≤ S512x128.size a := fun v3410 k0_hw63 => k0_hw63.2.2.2.2.2.2.1
theorem k0_off1268_inb : ∀ (v3410 : BitVec 32) (k0_hw63 : k0_chk63 v3410), ∀ a, (k0_off1268 v3410) a + S1x16.size a ≤ S512x128.size a := fun v3410 k0_hw63 => k0_hw63.2.2.2.2.2.2.2

def k0_off1269 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3577 : Index := Scalar.indexCast v3408
  let c0_619 : Index := 0#32
  ![v3577.toNat, 0]
def k0_off1270 (v3412 : BitVec 32) : Fin 2 → Nat :=
  let v3579 : Index := Scalar.indexCast v3412
  let c0_620 : Index := 0#32
  ![v3579.toNat, 0]

def k0_off1271 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3585 : Index := Scalar.indexCast v3408
  let c16_621 : Index := 16#32
  ![v3585.toNat, 16]
def k0_off1272 (v3412 : BitVec 32) : Fin 2 → Nat :=
  let v3587 : Index := Scalar.indexCast v3412
  let c16_622 : Index := 16#32
  ![v3587.toNat, 16]
def k0_off1273 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3593 : Index := Scalar.indexCast v3408
  let c32_623 : Index := 32#32
  ![v3593.toNat, 32]
def k0_off1274 (v3412 : BitVec 32) : Fin 2 → Nat :=
  let v3595 : Index := Scalar.indexCast v3412
  let c32_624 : Index := 32#32
  ![v3595.toNat, 32]
def k0_off1275 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3601 : Index := Scalar.indexCast v3408
  let c48_625 : Index := 48#32
  ![v3601.toNat, 48]
def k0_off1276 (v3412 : BitVec 32) : Fin 2 → Nat :=
  let v3603 : Index := Scalar.indexCast v3412
  let c48_626 : Index := 48#32
  ![v3603.toNat, 48]
def k0_off1277 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3609 : Index := Scalar.indexCast v3408
  let c64_627 : Index := 64#32
  ![v3609.toNat, 64]
def k0_off1278 (v3412 : BitVec 32) : Fin 2 → Nat :=
  let v3611 : Index := Scalar.indexCast v3412
  let c64_628 : Index := 64#32
  ![v3611.toNat, 64]
def k0_off1279 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3617 : Index := Scalar.indexCast v3408
  let c80_629 : Index := 80#32
  ![v3617.toNat, 80]
def k0_off1280 (v3412 : BitVec 32) : Fin 2 → Nat :=
  let v3619 : Index := Scalar.indexCast v3412
  let c80_630 : Index := 80#32
  ![v3619.toNat, 80]
def k0_off1281 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3625 : Index := Scalar.indexCast v3408
  let c96_631 : Index := 96#32
  ![v3625.toNat, 96]
def k0_off1282 (v3412 : BitVec 32) : Fin 2 → Nat :=
  let v3627 : Index := Scalar.indexCast v3412
  let c96_632 : Index := 96#32
  ![v3627.toNat, 96]
def k0_off1283 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3633 : Index := Scalar.indexCast v3408
  let c112_633 : Index := 112#32
  ![v3633.toNat, 112]
def k0_off1284 (v3412 : BitVec 32) : Fin 2 → Nat :=
  let v3635 : Index := Scalar.indexCast v3412
  let c112_634 : Index := 112#32
  ![v3635.toNat, 112]

def k0_chk64 (v3412 : BitVec 32) : Prop :=
  (∀ a, (k0_off1270 v3412) a + S1x16.size a ≤ S512x128.size a) ∧
  (∀ a, (k0_off1272 v3412) a + S1x16.size a ≤ S512x128.size a) ∧
  (∀ a, (k0_off1274 v3412) a + S1x16.size a ≤ S512x128.size a) ∧
  (∀ a, (k0_off1276 v3412) a + S1x16.size a ≤ S512x128.size a) ∧
  (∀ a, (k0_off1278 v3412) a + S1x16.size a ≤ S512x128.size a) ∧
  (∀ a, (k0_off1280 v3412) a + S1x16.size a ≤ S512x128.size a) ∧
  (∀ a, (k0_off1282 v3412) a + S1x16.size a ≤ S512x128.size a) ∧
  (∀ a, (k0_off1284 v3412) a + S1x16.size a ≤ S512x128.size a)
theorem k0_off1270_inb : ∀ (v3412 : BitVec 32) (k0_hw64 : k0_chk64 v3412), ∀ a, (k0_off1270 v3412) a + S1x16.size a ≤ S512x128.size a := fun v3412 k0_hw64 => k0_hw64.1
theorem k0_off1272_inb : ∀ (v3412 : BitVec 32) (k0_hw64 : k0_chk64 v3412), ∀ a, (k0_off1272 v3412) a + S1x16.size a ≤ S512x128.size a := fun v3412 k0_hw64 => k0_hw64.2.1
theorem k0_off1274_inb : ∀ (v3412 : BitVec 32) (k0_hw64 : k0_chk64 v3412), ∀ a, (k0_off1274 v3412) a + S1x16.size a ≤ S512x128.size a := fun v3412 k0_hw64 => k0_hw64.2.2.1
theorem k0_off1276_inb : ∀ (v3412 : BitVec 32) (k0_hw64 : k0_chk64 v3412), ∀ a, (k0_off1276 v3412) a + S1x16.size a ≤ S512x128.size a := fun v3412 k0_hw64 => k0_hw64.2.2.2.1
theorem k0_off1278_inb : ∀ (v3412 : BitVec 32) (k0_hw64 : k0_chk64 v3412), ∀ a, (k0_off1278 v3412) a + S1x16.size a ≤ S512x128.size a := fun v3412 k0_hw64 => k0_hw64.2.2.2.2.1
theorem k0_off1280_inb : ∀ (v3412 : BitVec 32) (k0_hw64 : k0_chk64 v3412), ∀ a, (k0_off1280 v3412) a + S1x16.size a ≤ S512x128.size a := fun v3412 k0_hw64 => k0_hw64.2.2.2.2.2.1
theorem k0_off1282_inb : ∀ (v3412 : BitVec 32) (k0_hw64 : k0_chk64 v3412), ∀ a, (k0_off1282 v3412) a + S1x16.size a ≤ S512x128.size a := fun v3412 k0_hw64 => k0_hw64.2.2.2.2.2.2.1
theorem k0_off1284_inb : ∀ (v3412 : BitVec 32) (k0_hw64 : k0_chk64 v3412), ∀ a, (k0_off1284 v3412) a + S1x16.size a ≤ S512x128.size a := fun v3412 k0_hw64 => k0_hw64.2.2.2.2.2.2.2

def k0_off1285 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3773 : Index := Scalar.indexCast v3406
  let c0_642 : Index := 0#32
  ![v3773.toNat, 0]
def k0_off1286 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3779 : Index := Scalar.indexCast v3406
  let c16_643 : Index := 16#32
  ![v3779.toNat, 16]
def k0_off1287 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3785 : Index := Scalar.indexCast v3406
  let c32_644 : Index := 32#32
  ![v3785.toNat, 32]
def k0_off1288 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3791 : Index := Scalar.indexCast v3406
  let c48_645 : Index := 48#32
  ![v3791.toNat, 48]
def k0_off1289 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3797 : Index := Scalar.indexCast v3406
  let c64_646 : Index := 64#32
  ![v3797.toNat, 64]
def k0_off1290 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3803 : Index := Scalar.indexCast v3406
  let c80_647 : Index := 80#32
  ![v3803.toNat, 80]
def k0_off1291 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3809 : Index := Scalar.indexCast v3406
  let c96_648 : Index := 96#32
  ![v3809.toNat, 96]
def k0_off1292 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32 : BitVec 32 := 14#32
  let v3406 : BitVec 32 := Scalar.addi v147 c14_i32
  let v3815 : Index := Scalar.indexCast v3406
  let c112_649 : Index := 112#32
  ![v3815.toNat, 112]
def k0_off1293 (k0_t5 : Fin k0_t5_loop.trips) : Fin 2 → Nat :=
  let c0_i32_119 : BitVec 32 := 0#32
  let c1_i32_121 : BitVec 32 := 1#32
  let arg29 : BitVec 32 := Scf.iv c0_i32_119 c1_i32_121 k0_t5
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3827 : Index := Scalar.indexCast v3408
  let c0_650 : Index := 0#32
  ![v3827.toNat, 0]
@[reducible] def k0_t6_loop : Scf.Loop 32 :=
  let c0_i32_140 : BitVec 32 := 0#32
  let c4_i32_141 : BitVec 32 := 4#32
  let v125 : BitVec 32 := Scalar.addi c0_i32_140 c4_i32_141
  let c1_i32_142 : BitVec 32 := 1#32
  ⟨c0_i32_140, v125, c1_i32_142⟩
def k0_off1294 (k0_t3 : Fin k0_t3_loop.trips) (k0_t6 : Fin k0_t6_loop.trips) : Fin 1 → Nat :=
  let c4_i32_126 : BitVec 32 := 4#32
  let c0_i32_53 : BitVec 32 := 0#32
  let c1_i32_54 : BitVec 32 := 1#32
  let arg28 : BitVec 32 := Scf.iv c0_i32_53 c1_i32_54 k0_t3
  let v113 : BitVec 32 := Scalar.muli c4_i32_126 arg28
  let c2_i32_127 : BitVec 32 := 2#32
  let v114 : BitVec 32 := Scalar.addi v113 c2_i32_127
  let c2_i32_128 : BitVec 32 := 2#32
  let v115 : BitVec 32 := Scalar.addi v114 c2_i32_128
  let c64_i32_138 : BitVec 32 := 64#32
  let v124 : BitVec 32 := Scalar.muli v115 c64_i32_138
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v148 : BitVec 32 := Scalar.addi v124 v147
  let v149 : Index := Scalar.indexCast v148
  ![v149.toNat]
def k0_off1295 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v160 : Index := Scalar.indexCast v151
  let c0_171 : Index := 0#32
  ![v160.toNat, 0]
def k0_off1296 (v155 : BitVec 32) : Fin 2 → Nat :=
  let v162 : Index := Scalar.indexCast v155
  let c0_172 : Index := 0#32
  ![v162.toNat, 0]

def k0_off1297 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v168 : Index := Scalar.indexCast v151
  let c16_173 : Index := 16#32
  ![v168.toNat, 16]
def k0_off1298 (v155 : BitVec 32) : Fin 2 → Nat :=
  let v170 : Index := Scalar.indexCast v155
  let c16_174 : Index := 16#32
  ![v170.toNat, 16]
def k0_off1299 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v176 : Index := Scalar.indexCast v151
  let c32_175 : Index := 32#32
  ![v176.toNat, 32]
def k0_off1300 (v155 : BitVec 32) : Fin 2 → Nat :=
  let v178 : Index := Scalar.indexCast v155
  let c32_176 : Index := 32#32
  ![v178.toNat, 32]
def k0_off1301 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v184 : Index := Scalar.indexCast v151
  let c48_177 : Index := 48#32
  ![v184.toNat, 48]
def k0_off1302 (v155 : BitVec 32) : Fin 2 → Nat :=
  let v186 : Index := Scalar.indexCast v155
  let c48_178 : Index := 48#32
  ![v186.toNat, 48]
def k0_off1303 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v192 : Index := Scalar.indexCast v151
  let c64_179 : Index := 64#32
  ![v192.toNat, 64]
def k0_off1304 (v155 : BitVec 32) : Fin 2 → Nat :=
  let v194 : Index := Scalar.indexCast v155
  let c64_180 : Index := 64#32
  ![v194.toNat, 64]
def k0_off1305 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v200 : Index := Scalar.indexCast v151
  let c80_181 : Index := 80#32
  ![v200.toNat, 80]
def k0_off1306 (v155 : BitVec 32) : Fin 2 → Nat :=
  let v202 : Index := Scalar.indexCast v155
  let c80_182 : Index := 80#32
  ![v202.toNat, 80]
def k0_off1307 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v208 : Index := Scalar.indexCast v151
  let c96_183 : Index := 96#32
  ![v208.toNat, 96]
def k0_off1308 (v155 : BitVec 32) : Fin 2 → Nat :=
  let v210 : Index := Scalar.indexCast v155
  let c96_184 : Index := 96#32
  ![v210.toNat, 96]
def k0_off1309 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v216 : Index := Scalar.indexCast v151
  let c112_185 : Index := 112#32
  ![v216.toNat, 112]
def k0_off1310 (v155 : BitVec 32) : Fin 2 → Nat :=
  let v218 : Index := Scalar.indexCast v155
  let c112_186 : Index := 112#32
  ![v218.toNat, 112]

def k0_chk65 (v155 : BitVec 32) : Prop :=
  (∀ a, (k0_off1296 v155) a + S1x16.size a ≤ S512x128.size a) ∧
  (∀ a, (k0_off1298 v155) a + S1x16.size a ≤ S512x128.size a) ∧
  (∀ a, (k0_off1300 v155) a + S1x16.size a ≤ S512x128.size a) ∧
  (∀ a, (k0_off1302 v155) a + S1x16.size a ≤ S512x128.size a) ∧
  (∀ a, (k0_off1304 v155) a + S1x16.size a ≤ S512x128.size a) ∧
  (∀ a, (k0_off1306 v155) a + S1x16.size a ≤ S512x128.size a) ∧
  (∀ a, (k0_off1308 v155) a + S1x16.size a ≤ S512x128.size a) ∧
  (∀ a, (k0_off1310 v155) a + S1x16.size a ≤ S512x128.size a)
theorem k0_off1296_inb : ∀ (v155 : BitVec 32) (k0_hw65 : k0_chk65 v155), ∀ a, (k0_off1296 v155) a + S1x16.size a ≤ S512x128.size a := fun v155 k0_hw65 => k0_hw65.1
theorem k0_off1298_inb : ∀ (v155 : BitVec 32) (k0_hw65 : k0_chk65 v155), ∀ a, (k0_off1298 v155) a + S1x16.size a ≤ S512x128.size a := fun v155 k0_hw65 => k0_hw65.2.1
theorem k0_off1300_inb : ∀ (v155 : BitVec 32) (k0_hw65 : k0_chk65 v155), ∀ a, (k0_off1300 v155) a + S1x16.size a ≤ S512x128.size a := fun v155 k0_hw65 => k0_hw65.2.2.1
theorem k0_off1302_inb : ∀ (v155 : BitVec 32) (k0_hw65 : k0_chk65 v155), ∀ a, (k0_off1302 v155) a + S1x16.size a ≤ S512x128.size a := fun v155 k0_hw65 => k0_hw65.2.2.2.1
theorem k0_off1304_inb : ∀ (v155 : BitVec 32) (k0_hw65 : k0_chk65 v155), ∀ a, (k0_off1304 v155) a + S1x16.size a ≤ S512x128.size a := fun v155 k0_hw65 => k0_hw65.2.2.2.2.1
theorem k0_off1306_inb : ∀ (v155 : BitVec 32) (k0_hw65 : k0_chk65 v155), ∀ a, (k0_off1306 v155) a + S1x16.size a ≤ S512x128.size a := fun v155 k0_hw65 => k0_hw65.2.2.2.2.2.1
theorem k0_off1308_inb : ∀ (v155 : BitVec 32) (k0_hw65 : k0_chk65 v155), ∀ a, (k0_off1308 v155) a + S1x16.size a ≤ S512x128.size a := fun v155 k0_hw65 => k0_hw65.2.2.2.2.2.2.1
theorem k0_off1310_inb : ∀ (v155 : BitVec 32) (k0_hw65 : k0_chk65 v155), ∀ a, (k0_off1310 v155) a + S1x16.size a ≤ S512x128.size a := fun v155 k0_hw65 => k0_hw65.2.2.2.2.2.2.2

def k0_off1311 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v322 : Index := Scalar.indexCast v153
  let c0_189 : Index := 0#32
  ![v322.toNat, 0]
def k0_off1312 (v157 : BitVec 32) : Fin 2 → Nat :=
  let v324 : Index := Scalar.indexCast v157
  let c0_190 : Index := 0#32
  ![v324.toNat, 0]

def k0_off1313 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v330 : Index := Scalar.indexCast v153
  let c16_191 : Index := 16#32
  ![v330.toNat, 16]
def k0_off1314 (v157 : BitVec 32) : Fin 2 → Nat :=
  let v332 : Index := Scalar.indexCast v157
  let c16_192 : Index := 16#32
  ![v332.toNat, 16]
def k0_off1315 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v338 : Index := Scalar.indexCast v153
  let c32_193 : Index := 32#32
  ![v338.toNat, 32]
def k0_off1316 (v157 : BitVec 32) : Fin 2 → Nat :=
  let v340 : Index := Scalar.indexCast v157
  let c32_194 : Index := 32#32
  ![v340.toNat, 32]
def k0_off1317 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v346 : Index := Scalar.indexCast v153
  let c48_195 : Index := 48#32
  ![v346.toNat, 48]
def k0_off1318 (v157 : BitVec 32) : Fin 2 → Nat :=
  let v348 : Index := Scalar.indexCast v157
  let c48_196 : Index := 48#32
  ![v348.toNat, 48]
def k0_off1319 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v354 : Index := Scalar.indexCast v153
  let c64_197 : Index := 64#32
  ![v354.toNat, 64]
def k0_off1320 (v157 : BitVec 32) : Fin 2 → Nat :=
  let v356 : Index := Scalar.indexCast v157
  let c64_198 : Index := 64#32
  ![v356.toNat, 64]
def k0_off1321 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v362 : Index := Scalar.indexCast v153
  let c80_199 : Index := 80#32
  ![v362.toNat, 80]
def k0_off1322 (v157 : BitVec 32) : Fin 2 → Nat :=
  let v364 : Index := Scalar.indexCast v157
  let c80_200 : Index := 80#32
  ![v364.toNat, 80]
def k0_off1323 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v370 : Index := Scalar.indexCast v153
  let c96_201 : Index := 96#32
  ![v370.toNat, 96]
def k0_off1324 (v157 : BitVec 32) : Fin 2 → Nat :=
  let v372 : Index := Scalar.indexCast v157
  let c96_202 : Index := 96#32
  ![v372.toNat, 96]
def k0_off1325 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v378 : Index := Scalar.indexCast v153
  let c112_203 : Index := 112#32
  ![v378.toNat, 112]
def k0_off1326 (v157 : BitVec 32) : Fin 2 → Nat :=
  let v380 : Index := Scalar.indexCast v157
  let c112_204 : Index := 112#32
  ![v380.toNat, 112]

def k0_chk66 (v157 : BitVec 32) : Prop :=
  (∀ a, (k0_off1312 v157) a + S1x16.size a ≤ S512x128.size a) ∧
  (∀ a, (k0_off1314 v157) a + S1x16.size a ≤ S512x128.size a) ∧
  (∀ a, (k0_off1316 v157) a + S1x16.size a ≤ S512x128.size a) ∧
  (∀ a, (k0_off1318 v157) a + S1x16.size a ≤ S512x128.size a) ∧
  (∀ a, (k0_off1320 v157) a + S1x16.size a ≤ S512x128.size a) ∧
  (∀ a, (k0_off1322 v157) a + S1x16.size a ≤ S512x128.size a) ∧
  (∀ a, (k0_off1324 v157) a + S1x16.size a ≤ S512x128.size a) ∧
  (∀ a, (k0_off1326 v157) a + S1x16.size a ≤ S512x128.size a)
theorem k0_off1312_inb : ∀ (v157 : BitVec 32) (k0_hw66 : k0_chk66 v157), ∀ a, (k0_off1312 v157) a + S1x16.size a ≤ S512x128.size a := fun v157 k0_hw66 => k0_hw66.1
theorem k0_off1314_inb : ∀ (v157 : BitVec 32) (k0_hw66 : k0_chk66 v157), ∀ a, (k0_off1314 v157) a + S1x16.size a ≤ S512x128.size a := fun v157 k0_hw66 => k0_hw66.2.1
theorem k0_off1316_inb : ∀ (v157 : BitVec 32) (k0_hw66 : k0_chk66 v157), ∀ a, (k0_off1316 v157) a + S1x16.size a ≤ S512x128.size a := fun v157 k0_hw66 => k0_hw66.2.2.1
theorem k0_off1318_inb : ∀ (v157 : BitVec 32) (k0_hw66 : k0_chk66 v157), ∀ a, (k0_off1318 v157) a + S1x16.size a ≤ S512x128.size a := fun v157 k0_hw66 => k0_hw66.2.2.2.1
theorem k0_off1320_inb : ∀ (v157 : BitVec 32) (k0_hw66 : k0_chk66 v157), ∀ a, (k0_off1320 v157) a + S1x16.size a ≤ S512x128.size a := fun v157 k0_hw66 => k0_hw66.2.2.2.2.1
theorem k0_off1322_inb : ∀ (v157 : BitVec 32) (k0_hw66 : k0_chk66 v157), ∀ a, (k0_off1322 v157) a + S1x16.size a ≤ S512x128.size a := fun v157 k0_hw66 => k0_hw66.2.2.2.2.2.1
theorem k0_off1324_inb : ∀ (v157 : BitVec 32) (k0_hw66 : k0_chk66 v157), ∀ a, (k0_off1324 v157) a + S1x16.size a ≤ S512x128.size a := fun v157 k0_hw66 => k0_hw66.2.2.2.2.2.2.1
theorem k0_off1326_inb : ∀ (v157 : BitVec 32) (k0_hw66 : k0_chk66 v157), ∀ a, (k0_off1326 v157) a + S1x16.size a ≤ S512x128.size a := fun v157 k0_hw66 => k0_hw66.2.2.2.2.2.2.2

def k0_off1327 (k0_t6 : Fin k0_t6_loop.trips) (c0_i32_167 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v151 : BitVec 32 := Scalar.addi v147 c0_i32_167
  let v518 : Index := Scalar.indexCast v151
  let c0_212 : Index := 0#32
  ![v518.toNat, 0]
def k0_off1328 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v524 : Index := Scalar.indexCast v151
  let c16_213 : Index := 16#32
  ![v524.toNat, 16]
def k0_off1329 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v530 : Index := Scalar.indexCast v151
  let c32_214 : Index := 32#32
  ![v530.toNat, 32]
def k0_off1330 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v536 : Index := Scalar.indexCast v151
  let c48_215 : Index := 48#32
  ![v536.toNat, 48]
def k0_off1331 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v542 : Index := Scalar.indexCast v151
  let c64_216 : Index := 64#32
  ![v542.toNat, 64]
def k0_off1332 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v548 : Index := Scalar.indexCast v151
  let c80_217 : Index := 80#32
  ![v548.toNat, 80]
def k0_off1333 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v554 : Index := Scalar.indexCast v151
  let c96_218 : Index := 96#32
  ![v554.toNat, 96]
def k0_off1334 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_167 : BitVec 32 := 0#32
  let v151 : BitVec 32 := Scalar.addi v147 c0_i32_167
  let v560 : Index := Scalar.indexCast v151
  let c112_219 : Index := 112#32
  ![v560.toNat, 112]
def k0_off1335 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v572 : Index := Scalar.indexCast v153
  let c0_220 : Index := 0#32
  ![v572.toNat, 0]
def k0_off1336 (v620 : BitVec 32) : Fin 2 → Nat :=
  let v627 : Index := Scalar.indexCast v620
  let c0_234 : Index := 0#32
  ![v627.toNat, 0]

def k0_off1337 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v633 : Index := Scalar.indexCast v616
  let c16_235 : Index := 16#32
  ![v633.toNat, 16]
def k0_off1338 (v620 : BitVec 32) : Fin 2 → Nat :=
  let v635 : Index := Scalar.indexCast v620
  let c16_236 : Index := 16#32
  ![v635.toNat, 16]
def k0_off1339 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v641 : Index := Scalar.indexCast v616
  let c32_237 : Index := 32#32
  ![v641.toNat, 32]
def k0_off1340 (v620 : BitVec 32) : Fin 2 → Nat :=
  let v643 : Index := Scalar.indexCast v620
  let c32_238 : Index := 32#32
  ![v643.toNat, 32]
def k0_off1341 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v649 : Index := Scalar.indexCast v616
  let c48_239 : Index := 48#32
  ![v649.toNat, 48]
def k0_off1342 (v620 : BitVec 32) : Fin 2 → Nat :=
  let v651 : Index := Scalar.indexCast v620
  let c48_240 : Index := 48#32
  ![v651.toNat, 48]
def k0_off1343 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v657 : Index := Scalar.indexCast v616
  let c64_241 : Index := 64#32
  ![v657.toNat, 64]
def k0_off1344 (v620 : BitVec 32) : Fin 2 → Nat :=
  let v659 : Index := Scalar.indexCast v620
  let c64_242 : Index := 64#32
  ![v659.toNat, 64]
def k0_off1345 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v665 : Index := Scalar.indexCast v616
  let c80_243 : Index := 80#32
  ![v665.toNat, 80]
def k0_off1346 (v620 : BitVec 32) : Fin 2 → Nat :=
  let v667 : Index := Scalar.indexCast v620
  let c80_244 : Index := 80#32
  ![v667.toNat, 80]
def k0_off1347 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v673 : Index := Scalar.indexCast v616
  let c96_245 : Index := 96#32
  ![v673.toNat, 96]
def k0_off1348 (v620 : BitVec 32) : Fin 2 → Nat :=
  let v675 : Index := Scalar.indexCast v620
  let c96_246 : Index := 96#32
  ![v675.toNat, 96]
def k0_off1349 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v681 : Index := Scalar.indexCast v616
  let c112_247 : Index := 112#32
  ![v681.toNat, 112]
def k0_off1350 (v620 : BitVec 32) : Fin 2 → Nat :=
  let v683 : Index := Scalar.indexCast v620
  let c112_248 : Index := 112#32
  ![v683.toNat, 112]

def k0_chk67 (v620 : BitVec 32) : Prop :=
  (∀ a, (k0_off1336 v620) a + S1x16.size a ≤ S512x128.size a) ∧
  (∀ a, (k0_off1338 v620) a + S1x16.size a ≤ S512x128.size a) ∧
  (∀ a, (k0_off1340 v620) a + S1x16.size a ≤ S512x128.size a) ∧
  (∀ a, (k0_off1342 v620) a + S1x16.size a ≤ S512x128.size a) ∧
  (∀ a, (k0_off1344 v620) a + S1x16.size a ≤ S512x128.size a) ∧
  (∀ a, (k0_off1346 v620) a + S1x16.size a ≤ S512x128.size a) ∧
  (∀ a, (k0_off1348 v620) a + S1x16.size a ≤ S512x128.size a) ∧
  (∀ a, (k0_off1350 v620) a + S1x16.size a ≤ S512x128.size a)
theorem k0_off1336_inb : ∀ (v620 : BitVec 32) (k0_hw67 : k0_chk67 v620), ∀ a, (k0_off1336 v620) a + S1x16.size a ≤ S512x128.size a := fun v620 k0_hw67 => k0_hw67.1
theorem k0_off1338_inb : ∀ (v620 : BitVec 32) (k0_hw67 : k0_chk67 v620), ∀ a, (k0_off1338 v620) a + S1x16.size a ≤ S512x128.size a := fun v620 k0_hw67 => k0_hw67.2.1
theorem k0_off1340_inb : ∀ (v620 : BitVec 32) (k0_hw67 : k0_chk67 v620), ∀ a, (k0_off1340 v620) a + S1x16.size a ≤ S512x128.size a := fun v620 k0_hw67 => k0_hw67.2.2.1
theorem k0_off1342_inb : ∀ (v620 : BitVec 32) (k0_hw67 : k0_chk67 v620), ∀ a, (k0_off1342 v620) a + S1x16.size a ≤ S512x128.size a := fun v620 k0_hw67 => k0_hw67.2.2.2.1
theorem k0_off1344_inb : ∀ (v620 : BitVec 32) (k0_hw67 : k0_chk67 v620), ∀ a, (k0_off1344 v620) a + S1x16.size a ≤ S512x128.size a := fun v620 k0_hw67 => k0_hw67.2.2.2.2.1
theorem k0_off1346_inb : ∀ (v620 : BitVec 32) (k0_hw67 : k0_chk67 v620), ∀ a, (k0_off1346 v620) a + S1x16.size a ≤ S512x128.size a := fun v620 k0_hw67 => k0_hw67.2.2.2.2.2.1
theorem k0_off1348_inb : ∀ (v620 : BitVec 32) (k0_hw67 : k0_chk67 v620), ∀ a, (k0_off1348 v620) a + S1x16.size a ≤ S512x128.size a := fun v620 k0_hw67 => k0_hw67.2.2.2.2.2.2.1
theorem k0_off1350_inb : ∀ (v620 : BitVec 32) (k0_hw67 : k0_chk67 v620), ∀ a, (k0_off1350 v620) a + S1x16.size a ≤ S512x128.size a := fun v620 k0_hw67 => k0_hw67.2.2.2.2.2.2.2

def k0_off1351 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v787 : Index := Scalar.indexCast v618
  let c0_251 : Index := 0#32
  ![v787.toNat, 0]
def k0_off1352 (v622 : BitVec 32) : Fin 2 → Nat :=
  let v789 : Index := Scalar.indexCast v622
  let c0_252 : Index := 0#32
  ![v789.toNat, 0]

def k0_off1353 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v795 : Index := Scalar.indexCast v618
  let c16_253 : Index := 16#32
  ![v795.toNat, 16]
def k0_off1354 (v622 : BitVec 32) : Fin 2 → Nat :=
  let v797 : Index := Scalar.indexCast v622
  let c16_254 : Index := 16#32
  ![v797.toNat, 16]
def k0_off1355 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v803 : Index := Scalar.indexCast v618
  let c32_255 : Index := 32#32
  ![v803.toNat, 32]
def k0_off1356 (v622 : BitVec 32) : Fin 2 → Nat :=
  let v805 : Index := Scalar.indexCast v622
  let c32_256 : Index := 32#32
  ![v805.toNat, 32]
def k0_off1357 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v811 : Index := Scalar.indexCast v618
  let c48_257 : Index := 48#32
  ![v811.toNat, 48]
def k0_off1358 (v622 : BitVec 32) : Fin 2 → Nat :=
  let v813 : Index := Scalar.indexCast v622
  let c48_258 : Index := 48#32
  ![v813.toNat, 48]
def k0_off1359 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v819 : Index := Scalar.indexCast v618
  let c64_259 : Index := 64#32
  ![v819.toNat, 64]
def k0_off1360 (v622 : BitVec 32) : Fin 2 → Nat :=
  let v821 : Index := Scalar.indexCast v622
  let c64_260 : Index := 64#32
  ![v821.toNat, 64]
def k0_off1361 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v827 : Index := Scalar.indexCast v618
  let c80_261 : Index := 80#32
  ![v827.toNat, 80]
def k0_off1362 (v622 : BitVec 32) : Fin 2 → Nat :=
  let v829 : Index := Scalar.indexCast v622
  let c80_262 : Index := 80#32
  ![v829.toNat, 80]
def k0_off1363 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v835 : Index := Scalar.indexCast v618
  let c96_263 : Index := 96#32
  ![v835.toNat, 96]
def k0_off1364 (v622 : BitVec 32) : Fin 2 → Nat :=
  let v837 : Index := Scalar.indexCast v622
  let c96_264 : Index := 96#32
  ![v837.toNat, 96]
def k0_off1365 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v843 : Index := Scalar.indexCast v618
  let c112_265 : Index := 112#32
  ![v843.toNat, 112]
def k0_off1366 (v622 : BitVec 32) : Fin 2 → Nat :=
  let v845 : Index := Scalar.indexCast v622
  let c112_266 : Index := 112#32
  ![v845.toNat, 112]

def k0_chk68 (v622 : BitVec 32) : Prop :=
  (∀ a, (k0_off1352 v622) a + S1x16.size a ≤ S512x128.size a) ∧
  (∀ a, (k0_off1354 v622) a + S1x16.size a ≤ S512x128.size a) ∧
  (∀ a, (k0_off1356 v622) a + S1x16.size a ≤ S512x128.size a) ∧
  (∀ a, (k0_off1358 v622) a + S1x16.size a ≤ S512x128.size a) ∧
  (∀ a, (k0_off1360 v622) a + S1x16.size a ≤ S512x128.size a) ∧
  (∀ a, (k0_off1362 v622) a + S1x16.size a ≤ S512x128.size a) ∧
  (∀ a, (k0_off1364 v622) a + S1x16.size a ≤ S512x128.size a) ∧
  (∀ a, (k0_off1366 v622) a + S1x16.size a ≤ S512x128.size a)
theorem k0_off1352_inb : ∀ (v622 : BitVec 32) (k0_hw68 : k0_chk68 v622), ∀ a, (k0_off1352 v622) a + S1x16.size a ≤ S512x128.size a := fun v622 k0_hw68 => k0_hw68.1
theorem k0_off1354_inb : ∀ (v622 : BitVec 32) (k0_hw68 : k0_chk68 v622), ∀ a, (k0_off1354 v622) a + S1x16.size a ≤ S512x128.size a := fun v622 k0_hw68 => k0_hw68.2.1
theorem k0_off1356_inb : ∀ (v622 : BitVec 32) (k0_hw68 : k0_chk68 v622), ∀ a, (k0_off1356 v622) a + S1x16.size a ≤ S512x128.size a := fun v622 k0_hw68 => k0_hw68.2.2.1
theorem k0_off1358_inb : ∀ (v622 : BitVec 32) (k0_hw68 : k0_chk68 v622), ∀ a, (k0_off1358 v622) a + S1x16.size a ≤ S512x128.size a := fun v622 k0_hw68 => k0_hw68.2.2.2.1
theorem k0_off1360_inb : ∀ (v622 : BitVec 32) (k0_hw68 : k0_chk68 v622), ∀ a, (k0_off1360 v622) a + S1x16.size a ≤ S512x128.size a := fun v622 k0_hw68 => k0_hw68.2.2.2.2.1
theorem k0_off1362_inb : ∀ (v622 : BitVec 32) (k0_hw68 : k0_chk68 v622), ∀ a, (k0_off1362 v622) a + S1x16.size a ≤ S512x128.size a := fun v622 k0_hw68 => k0_hw68.2.2.2.2.2.1
theorem k0_off1364_inb : ∀ (v622 : BitVec 32) (k0_hw68 : k0_chk68 v622), ∀ a, (k0_off1364 v622) a + S1x16.size a ≤ S512x128.size a := fun v622 k0_hw68 => k0_hw68.2.2.2.2.2.2.1
theorem k0_off1366_inb : ∀ (v622 : BitVec 32) (k0_hw68 : k0_chk68 v622), ∀ a, (k0_off1366 v622) a + S1x16.size a ≤ S512x128.size a := fun v622 k0_hw68 => k0_hw68.2.2.2.2.2.2.2

def k0_off1367 (k0_t6 : Fin k0_t6_loop.trips) (c2_i32_228 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v616 : BitVec 32 := Scalar.addi v147 c2_i32_228
  let v983 : Index := Scalar.indexCast v616
  let c0_274 : Index := 0#32
  ![v983.toNat, 0]
def k0_off1368 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v989 : Index := Scalar.indexCast v616
  let c16_275 : Index := 16#32
  ![v989.toNat, 16]
def k0_off1369 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v995 : Index := Scalar.indexCast v616
  let c32_276 : Index := 32#32
  ![v995.toNat, 32]
def k0_off1370 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v1001 : Index := Scalar.indexCast v616
  let c48_277 : Index := 48#32
  ![v1001.toNat, 48]
def k0_off1371 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v1007 : Index := Scalar.indexCast v616
  let c64_278 : Index := 64#32
  ![v1007.toNat, 64]
def k0_off1372 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v1013 : Index := Scalar.indexCast v616
  let c80_279 : Index := 80#32
  ![v1013.toNat, 80]
def k0_off1373 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v1019 : Index := Scalar.indexCast v616
  let c96_280 : Index := 96#32
  ![v1019.toNat, 96]
def k0_off1374 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_228 : BitVec 32 := 2#32
  let v616 : BitVec 32 := Scalar.addi v147 c2_i32_228
  let v1025 : Index := Scalar.indexCast v616
  let c112_281 : Index := 112#32
  ![v1025.toNat, 112]
def k0_off1375 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v1037 : Index := Scalar.indexCast v618
  let c0_282 : Index := 0#32
  ![v1037.toNat, 0]
def k0_off1376 (v1085 : BitVec 32) : Fin 2 → Nat :=
  let v1092 : Index := Scalar.indexCast v1085
  let c0_296 : Index := 0#32
  ![v1092.toNat, 0]

def k0_off1377 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1098 : Index := Scalar.indexCast v1081
  let c16_297 : Index := 16#32
  ![v1098.toNat, 16]
def k0_off1378 (v1085 : BitVec 32) : Fin 2 → Nat :=
  let v1100 : Index := Scalar.indexCast v1085
  let c16_298 : Index := 16#32
  ![v1100.toNat, 16]
def k0_off1379 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1106 : Index := Scalar.indexCast v1081
  let c32_299 : Index := 32#32
  ![v1106.toNat, 32]
def k0_off1380 (v1085 : BitVec 32) : Fin 2 → Nat :=
  let v1108 : Index := Scalar.indexCast v1085
  let c32_300 : Index := 32#32
  ![v1108.toNat, 32]
def k0_off1381 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1114 : Index := Scalar.indexCast v1081
  let c48_301 : Index := 48#32
  ![v1114.toNat, 48]
def k0_off1382 (v1085 : BitVec 32) : Fin 2 → Nat :=
  let v1116 : Index := Scalar.indexCast v1085
  let c48_302 : Index := 48#32
  ![v1116.toNat, 48]
def k0_off1383 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1122 : Index := Scalar.indexCast v1081
  let c64_303 : Index := 64#32
  ![v1122.toNat, 64]
def k0_off1384 (v1085 : BitVec 32) : Fin 2 → Nat :=
  let v1124 : Index := Scalar.indexCast v1085
  let c64_304 : Index := 64#32
  ![v1124.toNat, 64]
def k0_off1385 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1130 : Index := Scalar.indexCast v1081
  let c80_305 : Index := 80#32
  ![v1130.toNat, 80]
def k0_off1386 (v1085 : BitVec 32) : Fin 2 → Nat :=
  let v1132 : Index := Scalar.indexCast v1085
  let c80_306 : Index := 80#32
  ![v1132.toNat, 80]
def k0_off1387 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1138 : Index := Scalar.indexCast v1081
  let c96_307 : Index := 96#32
  ![v1138.toNat, 96]
def k0_off1388 (v1085 : BitVec 32) : Fin 2 → Nat :=
  let v1140 : Index := Scalar.indexCast v1085
  let c96_308 : Index := 96#32
  ![v1140.toNat, 96]
def k0_off1389 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1146 : Index := Scalar.indexCast v1081
  let c112_309 : Index := 112#32
  ![v1146.toNat, 112]
def k0_off1390 (v1085 : BitVec 32) : Fin 2 → Nat :=
  let v1148 : Index := Scalar.indexCast v1085
  let c112_310 : Index := 112#32
  ![v1148.toNat, 112]

def k0_chk69 (v1085 : BitVec 32) : Prop :=
  (∀ a, (k0_off1376 v1085) a + S1x16.size a ≤ S512x128.size a) ∧
  (∀ a, (k0_off1378 v1085) a + S1x16.size a ≤ S512x128.size a) ∧
  (∀ a, (k0_off1380 v1085) a + S1x16.size a ≤ S512x128.size a) ∧
  (∀ a, (k0_off1382 v1085) a + S1x16.size a ≤ S512x128.size a) ∧
  (∀ a, (k0_off1384 v1085) a + S1x16.size a ≤ S512x128.size a) ∧
  (∀ a, (k0_off1386 v1085) a + S1x16.size a ≤ S512x128.size a) ∧
  (∀ a, (k0_off1388 v1085) a + S1x16.size a ≤ S512x128.size a) ∧
  (∀ a, (k0_off1390 v1085) a + S1x16.size a ≤ S512x128.size a)
theorem k0_off1376_inb : ∀ (v1085 : BitVec 32) (k0_hw69 : k0_chk69 v1085), ∀ a, (k0_off1376 v1085) a + S1x16.size a ≤ S512x128.size a := fun v1085 k0_hw69 => k0_hw69.1
theorem k0_off1378_inb : ∀ (v1085 : BitVec 32) (k0_hw69 : k0_chk69 v1085), ∀ a, (k0_off1378 v1085) a + S1x16.size a ≤ S512x128.size a := fun v1085 k0_hw69 => k0_hw69.2.1
theorem k0_off1380_inb : ∀ (v1085 : BitVec 32) (k0_hw69 : k0_chk69 v1085), ∀ a, (k0_off1380 v1085) a + S1x16.size a ≤ S512x128.size a := fun v1085 k0_hw69 => k0_hw69.2.2.1
theorem k0_off1382_inb : ∀ (v1085 : BitVec 32) (k0_hw69 : k0_chk69 v1085), ∀ a, (k0_off1382 v1085) a + S1x16.size a ≤ S512x128.size a := fun v1085 k0_hw69 => k0_hw69.2.2.2.1
theorem k0_off1384_inb : ∀ (v1085 : BitVec 32) (k0_hw69 : k0_chk69 v1085), ∀ a, (k0_off1384 v1085) a + S1x16.size a ≤ S512x128.size a := fun v1085 k0_hw69 => k0_hw69.2.2.2.2.1
theorem k0_off1386_inb : ∀ (v1085 : BitVec 32) (k0_hw69 : k0_chk69 v1085), ∀ a, (k0_off1386 v1085) a + S1x16.size a ≤ S512x128.size a := fun v1085 k0_hw69 => k0_hw69.2.2.2.2.2.1
theorem k0_off1388_inb : ∀ (v1085 : BitVec 32) (k0_hw69 : k0_chk69 v1085), ∀ a, (k0_off1388 v1085) a + S1x16.size a ≤ S512x128.size a := fun v1085 k0_hw69 => k0_hw69.2.2.2.2.2.2.1
theorem k0_off1390_inb : ∀ (v1085 : BitVec 32) (k0_hw69 : k0_chk69 v1085), ∀ a, (k0_off1390 v1085) a + S1x16.size a ≤ S512x128.size a := fun v1085 k0_hw69 => k0_hw69.2.2.2.2.2.2.2

def k0_off1391 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1252 : Index := Scalar.indexCast v1083
  let c0_313 : Index := 0#32
  ![v1252.toNat, 0]
def k0_off1392 (v1087 : BitVec 32) : Fin 2 → Nat :=
  let v1254 : Index := Scalar.indexCast v1087
  let c0_314 : Index := 0#32
  ![v1254.toNat, 0]

def k0_off1393 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1260 : Index := Scalar.indexCast v1083
  let c16_315 : Index := 16#32
  ![v1260.toNat, 16]
def k0_off1394 (v1087 : BitVec 32) : Fin 2 → Nat :=
  let v1262 : Index := Scalar.indexCast v1087
  let c16_316 : Index := 16#32
  ![v1262.toNat, 16]
def k0_off1395 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1268 : Index := Scalar.indexCast v1083
  let c32_317 : Index := 32#32
  ![v1268.toNat, 32]
def k0_off1396 (v1087 : BitVec 32) : Fin 2 → Nat :=
  let v1270 : Index := Scalar.indexCast v1087
  let c32_318 : Index := 32#32
  ![v1270.toNat, 32]
def k0_off1397 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1276 : Index := Scalar.indexCast v1083
  let c48_319 : Index := 48#32
  ![v1276.toNat, 48]
def k0_off1398 (v1087 : BitVec 32) : Fin 2 → Nat :=
  let v1278 : Index := Scalar.indexCast v1087
  let c48_320 : Index := 48#32
  ![v1278.toNat, 48]
def k0_off1399 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1284 : Index := Scalar.indexCast v1083
  let c64_321 : Index := 64#32
  ![v1284.toNat, 64]
def k0_off1400 (v1087 : BitVec 32) : Fin 2 → Nat :=
  let v1286 : Index := Scalar.indexCast v1087
  let c64_322 : Index := 64#32
  ![v1286.toNat, 64]
def k0_off1401 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1292 : Index := Scalar.indexCast v1083
  let c80_323 : Index := 80#32
  ![v1292.toNat, 80]
def k0_off1402 (v1087 : BitVec 32) : Fin 2 → Nat :=
  let v1294 : Index := Scalar.indexCast v1087
  let c80_324 : Index := 80#32
  ![v1294.toNat, 80]
def k0_off1403 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1300 : Index := Scalar.indexCast v1083
  let c96_325 : Index := 96#32
  ![v1300.toNat, 96]
def k0_off1404 (v1087 : BitVec 32) : Fin 2 → Nat :=
  let v1302 : Index := Scalar.indexCast v1087
  let c96_326 : Index := 96#32
  ![v1302.toNat, 96]
def k0_off1405 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1308 : Index := Scalar.indexCast v1083
  let c112_327 : Index := 112#32
  ![v1308.toNat, 112]
def k0_off1406 (v1087 : BitVec 32) : Fin 2 → Nat :=
  let v1310 : Index := Scalar.indexCast v1087
  let c112_328 : Index := 112#32
  ![v1310.toNat, 112]

def k0_chk70 (v1087 : BitVec 32) : Prop :=
  (∀ a, (k0_off1392 v1087) a + S1x16.size a ≤ S512x128.size a) ∧
  (∀ a, (k0_off1394 v1087) a + S1x16.size a ≤ S512x128.size a) ∧
  (∀ a, (k0_off1396 v1087) a + S1x16.size a ≤ S512x128.size a) ∧
  (∀ a, (k0_off1398 v1087) a + S1x16.size a ≤ S512x128.size a) ∧
  (∀ a, (k0_off1400 v1087) a + S1x16.size a ≤ S512x128.size a) ∧
  (∀ a, (k0_off1402 v1087) a + S1x16.size a ≤ S512x128.size a) ∧
  (∀ a, (k0_off1404 v1087) a + S1x16.size a ≤ S512x128.size a) ∧
  (∀ a, (k0_off1406 v1087) a + S1x16.size a ≤ S512x128.size a)
theorem k0_off1392_inb : ∀ (v1087 : BitVec 32) (k0_hw70 : k0_chk70 v1087), ∀ a, (k0_off1392 v1087) a + S1x16.size a ≤ S512x128.size a := fun v1087 k0_hw70 => k0_hw70.1
theorem k0_off1394_inb : ∀ (v1087 : BitVec 32) (k0_hw70 : k0_chk70 v1087), ∀ a, (k0_off1394 v1087) a + S1x16.size a ≤ S512x128.size a := fun v1087 k0_hw70 => k0_hw70.2.1
theorem k0_off1396_inb : ∀ (v1087 : BitVec 32) (k0_hw70 : k0_chk70 v1087), ∀ a, (k0_off1396 v1087) a + S1x16.size a ≤ S512x128.size a := fun v1087 k0_hw70 => k0_hw70.2.2.1
theorem k0_off1398_inb : ∀ (v1087 : BitVec 32) (k0_hw70 : k0_chk70 v1087), ∀ a, (k0_off1398 v1087) a + S1x16.size a ≤ S512x128.size a := fun v1087 k0_hw70 => k0_hw70.2.2.2.1
theorem k0_off1400_inb : ∀ (v1087 : BitVec 32) (k0_hw70 : k0_chk70 v1087), ∀ a, (k0_off1400 v1087) a + S1x16.size a ≤ S512x128.size a := fun v1087 k0_hw70 => k0_hw70.2.2.2.2.1
theorem k0_off1402_inb : ∀ (v1087 : BitVec 32) (k0_hw70 : k0_chk70 v1087), ∀ a, (k0_off1402 v1087) a + S1x16.size a ≤ S512x128.size a := fun v1087 k0_hw70 => k0_hw70.2.2.2.2.2.1
theorem k0_off1404_inb : ∀ (v1087 : BitVec 32) (k0_hw70 : k0_chk70 v1087), ∀ a, (k0_off1404 v1087) a + S1x16.size a ≤ S512x128.size a := fun v1087 k0_hw70 => k0_hw70.2.2.2.2.2.2.1
theorem k0_off1406_inb : ∀ (v1087 : BitVec 32) (k0_hw70 : k0_chk70 v1087), ∀ a, (k0_off1406 v1087) a + S1x16.size a ≤ S512x128.size a := fun v1087 k0_hw70 => k0_hw70.2.2.2.2.2.2.2

def k0_off1407 (k0_t6 : Fin k0_t6_loop.trips) (c4_i32_290 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v1081 : BitVec 32 := Scalar.addi v147 c4_i32_290
  let v1448 : Index := Scalar.indexCast v1081
  let c0_336 : Index := 0#32
  ![v1448.toNat, 0]
def k0_off1408 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1454 : Index := Scalar.indexCast v1081
  let c16_337 : Index := 16#32
  ![v1454.toNat, 16]
def k0_off1409 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1460 : Index := Scalar.indexCast v1081
  let c32_338 : Index := 32#32
  ![v1460.toNat, 32]
def k0_off1410 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1466 : Index := Scalar.indexCast v1081
  let c48_339 : Index := 48#32
  ![v1466.toNat, 48]
def k0_off1411 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1472 : Index := Scalar.indexCast v1081
  let c64_340 : Index := 64#32
  ![v1472.toNat, 64]
def k0_off1412 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1478 : Index := Scalar.indexCast v1081
  let c80_341 : Index := 80#32
  ![v1478.toNat, 80]
def k0_off1413 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1484 : Index := Scalar.indexCast v1081
  let c96_342 : Index := 96#32
  ![v1484.toNat, 96]
def k0_off1414 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_290 : BitVec 32 := 4#32
  let v1081 : BitVec 32 := Scalar.addi v147 c4_i32_290
  let v1490 : Index := Scalar.indexCast v1081
  let c112_343 : Index := 112#32
  ![v1490.toNat, 112]
def k0_off1415 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1502 : Index := Scalar.indexCast v1083
  let c0_344 : Index := 0#32
  ![v1502.toNat, 0]
def k0_off1416 (v1550 : BitVec 32) : Fin 2 → Nat :=
  let v1557 : Index := Scalar.indexCast v1550
  let c0_357 : Index := 0#32
  ![v1557.toNat, 0]

def k0_off1417 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1563 : Index := Scalar.indexCast v1546
  let c16_358 : Index := 16#32
  ![v1563.toNat, 16]
def k0_off1418 (v1550 : BitVec 32) : Fin 2 → Nat :=
  let v1565 : Index := Scalar.indexCast v1550
  let c16_359 : Index := 16#32
  ![v1565.toNat, 16]
def k0_off1419 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1571 : Index := Scalar.indexCast v1546
  let c32_360 : Index := 32#32
  ![v1571.toNat, 32]
def k0_off1420 (v1550 : BitVec 32) : Fin 2 → Nat :=
  let v1573 : Index := Scalar.indexCast v1550
  let c32_361 : Index := 32#32
  ![v1573.toNat, 32]
def k0_off1421 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1579 : Index := Scalar.indexCast v1546
  let c48_362 : Index := 48#32
  ![v1579.toNat, 48]
def k0_off1422 (v1550 : BitVec 32) : Fin 2 → Nat :=
  let v1581 : Index := Scalar.indexCast v1550
  let c48_363 : Index := 48#32
  ![v1581.toNat, 48]
def k0_off1423 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1587 : Index := Scalar.indexCast v1546
  let c64_364 : Index := 64#32
  ![v1587.toNat, 64]
def k0_off1424 (v1550 : BitVec 32) : Fin 2 → Nat :=
  let v1589 : Index := Scalar.indexCast v1550
  let c64_365 : Index := 64#32
  ![v1589.toNat, 64]
def k0_off1425 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1595 : Index := Scalar.indexCast v1546
  let c80_366 : Index := 80#32
  ![v1595.toNat, 80]
def k0_off1426 (v1550 : BitVec 32) : Fin 2 → Nat :=
  let v1597 : Index := Scalar.indexCast v1550
  let c80_367 : Index := 80#32
  ![v1597.toNat, 80]
def k0_off1427 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1603 : Index := Scalar.indexCast v1546
  let c96_368 : Index := 96#32
  ![v1603.toNat, 96]
def k0_off1428 (v1550 : BitVec 32) : Fin 2 → Nat :=
  let v1605 : Index := Scalar.indexCast v1550
  let c96_369 : Index := 96#32
  ![v1605.toNat, 96]
def k0_off1429 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1611 : Index := Scalar.indexCast v1546
  let c112_370 : Index := 112#32
  ![v1611.toNat, 112]
def k0_off1430 (v1550 : BitVec 32) : Fin 2 → Nat :=
  let v1613 : Index := Scalar.indexCast v1550
  let c112_371 : Index := 112#32
  ![v1613.toNat, 112]

def k0_chk71 (v1550 : BitVec 32) : Prop :=
  (∀ a, (k0_off1416 v1550) a + S1x16.size a ≤ S512x128.size a) ∧
  (∀ a, (k0_off1418 v1550) a + S1x16.size a ≤ S512x128.size a) ∧
  (∀ a, (k0_off1420 v1550) a + S1x16.size a ≤ S512x128.size a) ∧
  (∀ a, (k0_off1422 v1550) a + S1x16.size a ≤ S512x128.size a) ∧
  (∀ a, (k0_off1424 v1550) a + S1x16.size a ≤ S512x128.size a) ∧
  (∀ a, (k0_off1426 v1550) a + S1x16.size a ≤ S512x128.size a) ∧
  (∀ a, (k0_off1428 v1550) a + S1x16.size a ≤ S512x128.size a) ∧
  (∀ a, (k0_off1430 v1550) a + S1x16.size a ≤ S512x128.size a)
theorem k0_off1416_inb : ∀ (v1550 : BitVec 32) (k0_hw71 : k0_chk71 v1550), ∀ a, (k0_off1416 v1550) a + S1x16.size a ≤ S512x128.size a := fun v1550 k0_hw71 => k0_hw71.1
theorem k0_off1418_inb : ∀ (v1550 : BitVec 32) (k0_hw71 : k0_chk71 v1550), ∀ a, (k0_off1418 v1550) a + S1x16.size a ≤ S512x128.size a := fun v1550 k0_hw71 => k0_hw71.2.1
theorem k0_off1420_inb : ∀ (v1550 : BitVec 32) (k0_hw71 : k0_chk71 v1550), ∀ a, (k0_off1420 v1550) a + S1x16.size a ≤ S512x128.size a := fun v1550 k0_hw71 => k0_hw71.2.2.1
theorem k0_off1422_inb : ∀ (v1550 : BitVec 32) (k0_hw71 : k0_chk71 v1550), ∀ a, (k0_off1422 v1550) a + S1x16.size a ≤ S512x128.size a := fun v1550 k0_hw71 => k0_hw71.2.2.2.1
theorem k0_off1424_inb : ∀ (v1550 : BitVec 32) (k0_hw71 : k0_chk71 v1550), ∀ a, (k0_off1424 v1550) a + S1x16.size a ≤ S512x128.size a := fun v1550 k0_hw71 => k0_hw71.2.2.2.2.1
theorem k0_off1426_inb : ∀ (v1550 : BitVec 32) (k0_hw71 : k0_chk71 v1550), ∀ a, (k0_off1426 v1550) a + S1x16.size a ≤ S512x128.size a := fun v1550 k0_hw71 => k0_hw71.2.2.2.2.2.1
theorem k0_off1428_inb : ∀ (v1550 : BitVec 32) (k0_hw71 : k0_chk71 v1550), ∀ a, (k0_off1428 v1550) a + S1x16.size a ≤ S512x128.size a := fun v1550 k0_hw71 => k0_hw71.2.2.2.2.2.2.1
theorem k0_off1430_inb : ∀ (v1550 : BitVec 32) (k0_hw71 : k0_chk71 v1550), ∀ a, (k0_off1430 v1550) a + S1x16.size a ≤ S512x128.size a := fun v1550 k0_hw71 => k0_hw71.2.2.2.2.2.2.2

def k0_off1431 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1717 : Index := Scalar.indexCast v1548
  let c0_374 : Index := 0#32
  ![v1717.toNat, 0]
def k0_off1432 (v1552 : BitVec 32) : Fin 2 → Nat :=
  let v1719 : Index := Scalar.indexCast v1552
  let c0_375 : Index := 0#32
  ![v1719.toNat, 0]

def k0_off1433 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1725 : Index := Scalar.indexCast v1548
  let c16_376 : Index := 16#32
  ![v1725.toNat, 16]
def k0_off1434 (v1552 : BitVec 32) : Fin 2 → Nat :=
  let v1727 : Index := Scalar.indexCast v1552
  let c16_377 : Index := 16#32
  ![v1727.toNat, 16]
def k0_off1435 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1733 : Index := Scalar.indexCast v1548
  let c32_378 : Index := 32#32
  ![v1733.toNat, 32]
def k0_off1436 (v1552 : BitVec 32) : Fin 2 → Nat :=
  let v1735 : Index := Scalar.indexCast v1552
  let c32_379 : Index := 32#32
  ![v1735.toNat, 32]
def k0_off1437 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1741 : Index := Scalar.indexCast v1548
  let c48_380 : Index := 48#32
  ![v1741.toNat, 48]
def k0_off1438 (v1552 : BitVec 32) : Fin 2 → Nat :=
  let v1743 : Index := Scalar.indexCast v1552
  let c48_381 : Index := 48#32
  ![v1743.toNat, 48]
def k0_off1439 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1749 : Index := Scalar.indexCast v1548
  let c64_382 : Index := 64#32
  ![v1749.toNat, 64]
def k0_off1440 (v1552 : BitVec 32) : Fin 2 → Nat :=
  let v1751 : Index := Scalar.indexCast v1552
  let c64_383 : Index := 64#32
  ![v1751.toNat, 64]
def k0_off1441 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1757 : Index := Scalar.indexCast v1548
  let c80_384 : Index := 80#32
  ![v1757.toNat, 80]
def k0_off1442 (v1552 : BitVec 32) : Fin 2 → Nat :=
  let v1759 : Index := Scalar.indexCast v1552
  let c80_385 : Index := 80#32
  ![v1759.toNat, 80]
def k0_off1443 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1765 : Index := Scalar.indexCast v1548
  let c96_386 : Index := 96#32
  ![v1765.toNat, 96]
def k0_off1444 (v1552 : BitVec 32) : Fin 2 → Nat :=
  let v1767 : Index := Scalar.indexCast v1552
  let c96_387 : Index := 96#32
  ![v1767.toNat, 96]
def k0_off1445 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1773 : Index := Scalar.indexCast v1548
  let c112_388 : Index := 112#32
  ![v1773.toNat, 112]
def k0_off1446 (v1552 : BitVec 32) : Fin 2 → Nat :=
  let v1775 : Index := Scalar.indexCast v1552
  let c112_389 : Index := 112#32
  ![v1775.toNat, 112]

def k0_chk72 (v1552 : BitVec 32) : Prop :=
  (∀ a, (k0_off1432 v1552) a + S1x16.size a ≤ S512x128.size a) ∧
  (∀ a, (k0_off1434 v1552) a + S1x16.size a ≤ S512x128.size a) ∧
  (∀ a, (k0_off1436 v1552) a + S1x16.size a ≤ S512x128.size a) ∧
  (∀ a, (k0_off1438 v1552) a + S1x16.size a ≤ S512x128.size a) ∧
  (∀ a, (k0_off1440 v1552) a + S1x16.size a ≤ S512x128.size a) ∧
  (∀ a, (k0_off1442 v1552) a + S1x16.size a ≤ S512x128.size a) ∧
  (∀ a, (k0_off1444 v1552) a + S1x16.size a ≤ S512x128.size a) ∧
  (∀ a, (k0_off1446 v1552) a + S1x16.size a ≤ S512x128.size a)
theorem k0_off1432_inb : ∀ (v1552 : BitVec 32) (k0_hw72 : k0_chk72 v1552), ∀ a, (k0_off1432 v1552) a + S1x16.size a ≤ S512x128.size a := fun v1552 k0_hw72 => k0_hw72.1
theorem k0_off1434_inb : ∀ (v1552 : BitVec 32) (k0_hw72 : k0_chk72 v1552), ∀ a, (k0_off1434 v1552) a + S1x16.size a ≤ S512x128.size a := fun v1552 k0_hw72 => k0_hw72.2.1
theorem k0_off1436_inb : ∀ (v1552 : BitVec 32) (k0_hw72 : k0_chk72 v1552), ∀ a, (k0_off1436 v1552) a + S1x16.size a ≤ S512x128.size a := fun v1552 k0_hw72 => k0_hw72.2.2.1
theorem k0_off1438_inb : ∀ (v1552 : BitVec 32) (k0_hw72 : k0_chk72 v1552), ∀ a, (k0_off1438 v1552) a + S1x16.size a ≤ S512x128.size a := fun v1552 k0_hw72 => k0_hw72.2.2.2.1
theorem k0_off1440_inb : ∀ (v1552 : BitVec 32) (k0_hw72 : k0_chk72 v1552), ∀ a, (k0_off1440 v1552) a + S1x16.size a ≤ S512x128.size a := fun v1552 k0_hw72 => k0_hw72.2.2.2.2.1
theorem k0_off1442_inb : ∀ (v1552 : BitVec 32) (k0_hw72 : k0_chk72 v1552), ∀ a, (k0_off1442 v1552) a + S1x16.size a ≤ S512x128.size a := fun v1552 k0_hw72 => k0_hw72.2.2.2.2.2.1
theorem k0_off1444_inb : ∀ (v1552 : BitVec 32) (k0_hw72 : k0_chk72 v1552), ∀ a, (k0_off1444 v1552) a + S1x16.size a ≤ S512x128.size a := fun v1552 k0_hw72 => k0_hw72.2.2.2.2.2.2.1
theorem k0_off1446_inb : ∀ (v1552 : BitVec 32) (k0_hw72 : k0_chk72 v1552), ∀ a, (k0_off1446 v1552) a + S1x16.size a ≤ S512x128.size a := fun v1552 k0_hw72 => k0_hw72.2.2.2.2.2.2.2

def k0_off1447 (k0_t6 : Fin k0_t6_loop.trips) (c6_i32 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v1546 : BitVec 32 := Scalar.addi v147 c6_i32
  let v1913 : Index := Scalar.indexCast v1546
  let c0_397 : Index := 0#32
  ![v1913.toNat, 0]
def k0_off1448 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1919 : Index := Scalar.indexCast v1546
  let c16_398 : Index := 16#32
  ![v1919.toNat, 16]
def k0_off1449 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1925 : Index := Scalar.indexCast v1546
  let c32_399 : Index := 32#32
  ![v1925.toNat, 32]
def k0_off1450 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1931 : Index := Scalar.indexCast v1546
  let c48_400 : Index := 48#32
  ![v1931.toNat, 48]
def k0_off1451 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1937 : Index := Scalar.indexCast v1546
  let c64_401 : Index := 64#32
  ![v1937.toNat, 64]
def k0_off1452 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1943 : Index := Scalar.indexCast v1546
  let c80_402 : Index := 80#32
  ![v1943.toNat, 80]
def k0_off1453 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1949 : Index := Scalar.indexCast v1546
  let c96_403 : Index := 96#32
  ![v1949.toNat, 96]
def k0_off1454 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32 : BitVec 32 := 6#32
  let v1546 : BitVec 32 := Scalar.addi v147 c6_i32
  let v1955 : Index := Scalar.indexCast v1546
  let c112_404 : Index := 112#32
  ![v1955.toNat, 112]
def k0_off1455 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1967 : Index := Scalar.indexCast v1548
  let c0_405 : Index := 0#32
  ![v1967.toNat, 0]
def k0_off1456 (v2015 : BitVec 32) : Fin 2 → Nat :=
  let v2022 : Index := Scalar.indexCast v2015
  let c0_419 : Index := 0#32
  ![v2022.toNat, 0]

def k0_off1457 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2028 : Index := Scalar.indexCast v2011
  let c16_420 : Index := 16#32
  ![v2028.toNat, 16]
def k0_off1458 (v2015 : BitVec 32) : Fin 2 → Nat :=
  let v2030 : Index := Scalar.indexCast v2015
  let c16_421 : Index := 16#32
  ![v2030.toNat, 16]
def k0_off1459 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2036 : Index := Scalar.indexCast v2011
  let c32_422 : Index := 32#32
  ![v2036.toNat, 32]
def k0_off1460 (v2015 : BitVec 32) : Fin 2 → Nat :=
  let v2038 : Index := Scalar.indexCast v2015
  let c32_423 : Index := 32#32
  ![v2038.toNat, 32]
def k0_off1461 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2044 : Index := Scalar.indexCast v2011
  let c48_424 : Index := 48#32
  ![v2044.toNat, 48]
def k0_off1462 (v2015 : BitVec 32) : Fin 2 → Nat :=
  let v2046 : Index := Scalar.indexCast v2015
  let c48_425 : Index := 48#32
  ![v2046.toNat, 48]
def k0_off1463 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2052 : Index := Scalar.indexCast v2011
  let c64_426 : Index := 64#32
  ![v2052.toNat, 64]
def k0_off1464 (v2015 : BitVec 32) : Fin 2 → Nat :=
  let v2054 : Index := Scalar.indexCast v2015
  let c64_427 : Index := 64#32
  ![v2054.toNat, 64]
def k0_off1465 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2060 : Index := Scalar.indexCast v2011
  let c80_428 : Index := 80#32
  ![v2060.toNat, 80]
def k0_off1466 (v2015 : BitVec 32) : Fin 2 → Nat :=
  let v2062 : Index := Scalar.indexCast v2015
  let c80_429 : Index := 80#32
  ![v2062.toNat, 80]
def k0_off1467 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2068 : Index := Scalar.indexCast v2011
  let c96_430 : Index := 96#32
  ![v2068.toNat, 96]
def k0_off1468 (v2015 : BitVec 32) : Fin 2 → Nat :=
  let v2070 : Index := Scalar.indexCast v2015
  let c96_431 : Index := 96#32
  ![v2070.toNat, 96]
def k0_off1469 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2076 : Index := Scalar.indexCast v2011
  let c112_432 : Index := 112#32
  ![v2076.toNat, 112]
def k0_off1470 (v2015 : BitVec 32) : Fin 2 → Nat :=
  let v2078 : Index := Scalar.indexCast v2015
  let c112_433 : Index := 112#32
  ![v2078.toNat, 112]

def k0_chk73 (v2015 : BitVec 32) : Prop :=
  (∀ a, (k0_off1456 v2015) a + S1x16.size a ≤ S512x128.size a) ∧
  (∀ a, (k0_off1458 v2015) a + S1x16.size a ≤ S512x128.size a) ∧
  (∀ a, (k0_off1460 v2015) a + S1x16.size a ≤ S512x128.size a) ∧
  (∀ a, (k0_off1462 v2015) a + S1x16.size a ≤ S512x128.size a) ∧
  (∀ a, (k0_off1464 v2015) a + S1x16.size a ≤ S512x128.size a) ∧
  (∀ a, (k0_off1466 v2015) a + S1x16.size a ≤ S512x128.size a) ∧
  (∀ a, (k0_off1468 v2015) a + S1x16.size a ≤ S512x128.size a) ∧
  (∀ a, (k0_off1470 v2015) a + S1x16.size a ≤ S512x128.size a)
theorem k0_off1456_inb : ∀ (v2015 : BitVec 32) (k0_hw73 : k0_chk73 v2015), ∀ a, (k0_off1456 v2015) a + S1x16.size a ≤ S512x128.size a := fun v2015 k0_hw73 => k0_hw73.1
theorem k0_off1458_inb : ∀ (v2015 : BitVec 32) (k0_hw73 : k0_chk73 v2015), ∀ a, (k0_off1458 v2015) a + S1x16.size a ≤ S512x128.size a := fun v2015 k0_hw73 => k0_hw73.2.1
theorem k0_off1460_inb : ∀ (v2015 : BitVec 32) (k0_hw73 : k0_chk73 v2015), ∀ a, (k0_off1460 v2015) a + S1x16.size a ≤ S512x128.size a := fun v2015 k0_hw73 => k0_hw73.2.2.1
theorem k0_off1462_inb : ∀ (v2015 : BitVec 32) (k0_hw73 : k0_chk73 v2015), ∀ a, (k0_off1462 v2015) a + S1x16.size a ≤ S512x128.size a := fun v2015 k0_hw73 => k0_hw73.2.2.2.1
theorem k0_off1464_inb : ∀ (v2015 : BitVec 32) (k0_hw73 : k0_chk73 v2015), ∀ a, (k0_off1464 v2015) a + S1x16.size a ≤ S512x128.size a := fun v2015 k0_hw73 => k0_hw73.2.2.2.2.1
theorem k0_off1466_inb : ∀ (v2015 : BitVec 32) (k0_hw73 : k0_chk73 v2015), ∀ a, (k0_off1466 v2015) a + S1x16.size a ≤ S512x128.size a := fun v2015 k0_hw73 => k0_hw73.2.2.2.2.2.1
theorem k0_off1468_inb : ∀ (v2015 : BitVec 32) (k0_hw73 : k0_chk73 v2015), ∀ a, (k0_off1468 v2015) a + S1x16.size a ≤ S512x128.size a := fun v2015 k0_hw73 => k0_hw73.2.2.2.2.2.2.1
theorem k0_off1470_inb : ∀ (v2015 : BitVec 32) (k0_hw73 : k0_chk73 v2015), ∀ a, (k0_off1470 v2015) a + S1x16.size a ≤ S512x128.size a := fun v2015 k0_hw73 => k0_hw73.2.2.2.2.2.2.2

def k0_off1471 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2182 : Index := Scalar.indexCast v2013
  let c0_436 : Index := 0#32
  ![v2182.toNat, 0]
def k0_off1472 (v2017 : BitVec 32) : Fin 2 → Nat :=
  let v2184 : Index := Scalar.indexCast v2017
  let c0_437 : Index := 0#32
  ![v2184.toNat, 0]

def k0_off1473 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2190 : Index := Scalar.indexCast v2013
  let c16_438 : Index := 16#32
  ![v2190.toNat, 16]
def k0_off1474 (v2017 : BitVec 32) : Fin 2 → Nat :=
  let v2192 : Index := Scalar.indexCast v2017
  let c16_439 : Index := 16#32
  ![v2192.toNat, 16]
def k0_off1475 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2198 : Index := Scalar.indexCast v2013
  let c32_440 : Index := 32#32
  ![v2198.toNat, 32]
def k0_off1476 (v2017 : BitVec 32) : Fin 2 → Nat :=
  let v2200 : Index := Scalar.indexCast v2017
  let c32_441 : Index := 32#32
  ![v2200.toNat, 32]
def k0_off1477 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2206 : Index := Scalar.indexCast v2013
  let c48_442 : Index := 48#32
  ![v2206.toNat, 48]
def k0_off1478 (v2017 : BitVec 32) : Fin 2 → Nat :=
  let v2208 : Index := Scalar.indexCast v2017
  let c48_443 : Index := 48#32
  ![v2208.toNat, 48]
def k0_off1479 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2214 : Index := Scalar.indexCast v2013
  let c64_444 : Index := 64#32
  ![v2214.toNat, 64]
def k0_off1480 (v2017 : BitVec 32) : Fin 2 → Nat :=
  let v2216 : Index := Scalar.indexCast v2017
  let c64_445 : Index := 64#32
  ![v2216.toNat, 64]
def k0_off1481 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2222 : Index := Scalar.indexCast v2013
  let c80_446 : Index := 80#32
  ![v2222.toNat, 80]
def k0_off1482 (v2017 : BitVec 32) : Fin 2 → Nat :=
  let v2224 : Index := Scalar.indexCast v2017
  let c80_447 : Index := 80#32
  ![v2224.toNat, 80]
def k0_off1483 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2230 : Index := Scalar.indexCast v2013
  let c96_448 : Index := 96#32
  ![v2230.toNat, 96]
def k0_off1484 (v2017 : BitVec 32) : Fin 2 → Nat :=
  let v2232 : Index := Scalar.indexCast v2017
  let c96_449 : Index := 96#32
  ![v2232.toNat, 96]
def k0_off1485 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2238 : Index := Scalar.indexCast v2013
  let c112_450 : Index := 112#32
  ![v2238.toNat, 112]
def k0_off1486 (v2017 : BitVec 32) : Fin 2 → Nat :=
  let v2240 : Index := Scalar.indexCast v2017
  let c112_451 : Index := 112#32
  ![v2240.toNat, 112]

def k0_chk74 (v2017 : BitVec 32) : Prop :=
  (∀ a, (k0_off1472 v2017) a + S1x16.size a ≤ S512x128.size a) ∧
  (∀ a, (k0_off1474 v2017) a + S1x16.size a ≤ S512x128.size a) ∧
  (∀ a, (k0_off1476 v2017) a + S1x16.size a ≤ S512x128.size a) ∧
  (∀ a, (k0_off1478 v2017) a + S1x16.size a ≤ S512x128.size a) ∧
  (∀ a, (k0_off1480 v2017) a + S1x16.size a ≤ S512x128.size a) ∧
  (∀ a, (k0_off1482 v2017) a + S1x16.size a ≤ S512x128.size a) ∧
  (∀ a, (k0_off1484 v2017) a + S1x16.size a ≤ S512x128.size a) ∧
  (∀ a, (k0_off1486 v2017) a + S1x16.size a ≤ S512x128.size a)
theorem k0_off1472_inb : ∀ (v2017 : BitVec 32) (k0_hw74 : k0_chk74 v2017), ∀ a, (k0_off1472 v2017) a + S1x16.size a ≤ S512x128.size a := fun v2017 k0_hw74 => k0_hw74.1
theorem k0_off1474_inb : ∀ (v2017 : BitVec 32) (k0_hw74 : k0_chk74 v2017), ∀ a, (k0_off1474 v2017) a + S1x16.size a ≤ S512x128.size a := fun v2017 k0_hw74 => k0_hw74.2.1
theorem k0_off1476_inb : ∀ (v2017 : BitVec 32) (k0_hw74 : k0_chk74 v2017), ∀ a, (k0_off1476 v2017) a + S1x16.size a ≤ S512x128.size a := fun v2017 k0_hw74 => k0_hw74.2.2.1
theorem k0_off1478_inb : ∀ (v2017 : BitVec 32) (k0_hw74 : k0_chk74 v2017), ∀ a, (k0_off1478 v2017) a + S1x16.size a ≤ S512x128.size a := fun v2017 k0_hw74 => k0_hw74.2.2.2.1
theorem k0_off1480_inb : ∀ (v2017 : BitVec 32) (k0_hw74 : k0_chk74 v2017), ∀ a, (k0_off1480 v2017) a + S1x16.size a ≤ S512x128.size a := fun v2017 k0_hw74 => k0_hw74.2.2.2.2.1
theorem k0_off1482_inb : ∀ (v2017 : BitVec 32) (k0_hw74 : k0_chk74 v2017), ∀ a, (k0_off1482 v2017) a + S1x16.size a ≤ S512x128.size a := fun v2017 k0_hw74 => k0_hw74.2.2.2.2.2.1
theorem k0_off1484_inb : ∀ (v2017 : BitVec 32) (k0_hw74 : k0_chk74 v2017), ∀ a, (k0_off1484 v2017) a + S1x16.size a ≤ S512x128.size a := fun v2017 k0_hw74 => k0_hw74.2.2.2.2.2.2.1
theorem k0_off1486_inb : ∀ (v2017 : BitVec 32) (k0_hw74 : k0_chk74 v2017), ∀ a, (k0_off1486 v2017) a + S1x16.size a ≤ S512x128.size a := fun v2017 k0_hw74 => k0_hw74.2.2.2.2.2.2.2

def k0_off1487 (k0_t6 : Fin k0_t6_loop.trips) (c8_i32_413 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v2011 : BitVec 32 := Scalar.addi v147 c8_i32_413
  let v2378 : Index := Scalar.indexCast v2011
  let c0_459 : Index := 0#32
  ![v2378.toNat, 0]
def k0_off1488 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2384 : Index := Scalar.indexCast v2011
  let c16_460 : Index := 16#32
  ![v2384.toNat, 16]
def k0_off1489 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2390 : Index := Scalar.indexCast v2011
  let c32_461 : Index := 32#32
  ![v2390.toNat, 32]
def k0_off1490 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2396 : Index := Scalar.indexCast v2011
  let c48_462 : Index := 48#32
  ![v2396.toNat, 48]
def k0_off1491 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2402 : Index := Scalar.indexCast v2011
  let c64_463 : Index := 64#32
  ![v2402.toNat, 64]
def k0_off1492 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2408 : Index := Scalar.indexCast v2011
  let c80_464 : Index := 80#32
  ![v2408.toNat, 80]
def k0_off1493 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2414 : Index := Scalar.indexCast v2011
  let c96_465 : Index := 96#32
  ![v2414.toNat, 96]
def k0_off1494 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_413 : BitVec 32 := 8#32
  let v2011 : BitVec 32 := Scalar.addi v147 c8_i32_413
  let v2420 : Index := Scalar.indexCast v2011
  let c112_466 : Index := 112#32
  ![v2420.toNat, 112]
def k0_off1495 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2432 : Index := Scalar.indexCast v2013
  let c0_467 : Index := 0#32
  ![v2432.toNat, 0]
def k0_off1496 (v2480 : BitVec 32) : Fin 2 → Nat :=
  let v2487 : Index := Scalar.indexCast v2480
  let c0_480 : Index := 0#32
  ![v2487.toNat, 0]

def k0_off1497 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2493 : Index := Scalar.indexCast v2476
  let c16_481 : Index := 16#32
  ![v2493.toNat, 16]
def k0_off1498 (v2480 : BitVec 32) : Fin 2 → Nat :=
  let v2495 : Index := Scalar.indexCast v2480
  let c16_482 : Index := 16#32
  ![v2495.toNat, 16]
def k0_off1499 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2501 : Index := Scalar.indexCast v2476
  let c32_483 : Index := 32#32
  ![v2501.toNat, 32]
def k0_off1500 (v2480 : BitVec 32) : Fin 2 → Nat :=
  let v2503 : Index := Scalar.indexCast v2480
  let c32_484 : Index := 32#32
  ![v2503.toNat, 32]
def k0_off1501 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2509 : Index := Scalar.indexCast v2476
  let c48_485 : Index := 48#32
  ![v2509.toNat, 48]
def k0_off1502 (v2480 : BitVec 32) : Fin 2 → Nat :=
  let v2511 : Index := Scalar.indexCast v2480
  let c48_486 : Index := 48#32
  ![v2511.toNat, 48]
def k0_off1503 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2517 : Index := Scalar.indexCast v2476
  let c64_487 : Index := 64#32
  ![v2517.toNat, 64]
def k0_off1504 (v2480 : BitVec 32) : Fin 2 → Nat :=
  let v2519 : Index := Scalar.indexCast v2480
  let c64_488 : Index := 64#32
  ![v2519.toNat, 64]
def k0_off1505 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2525 : Index := Scalar.indexCast v2476
  let c80_489 : Index := 80#32
  ![v2525.toNat, 80]
def k0_off1506 (v2480 : BitVec 32) : Fin 2 → Nat :=
  let v2527 : Index := Scalar.indexCast v2480
  let c80_490 : Index := 80#32
  ![v2527.toNat, 80]
def k0_off1507 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2533 : Index := Scalar.indexCast v2476
  let c96_491 : Index := 96#32
  ![v2533.toNat, 96]
def k0_off1508 (v2480 : BitVec 32) : Fin 2 → Nat :=
  let v2535 : Index := Scalar.indexCast v2480
  let c96_492 : Index := 96#32
  ![v2535.toNat, 96]
def k0_off1509 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2541 : Index := Scalar.indexCast v2476
  let c112_493 : Index := 112#32
  ![v2541.toNat, 112]
def k0_off1510 (v2480 : BitVec 32) : Fin 2 → Nat :=
  let v2543 : Index := Scalar.indexCast v2480
  let c112_494 : Index := 112#32
  ![v2543.toNat, 112]

def k0_chk75 (v2480 : BitVec 32) : Prop :=
  (∀ a, (k0_off1496 v2480) a + S1x16.size a ≤ S512x128.size a) ∧
  (∀ a, (k0_off1498 v2480) a + S1x16.size a ≤ S512x128.size a) ∧
  (∀ a, (k0_off1500 v2480) a + S1x16.size a ≤ S512x128.size a) ∧
  (∀ a, (k0_off1502 v2480) a + S1x16.size a ≤ S512x128.size a) ∧
  (∀ a, (k0_off1504 v2480) a + S1x16.size a ≤ S512x128.size a) ∧
  (∀ a, (k0_off1506 v2480) a + S1x16.size a ≤ S512x128.size a) ∧
  (∀ a, (k0_off1508 v2480) a + S1x16.size a ≤ S512x128.size a) ∧
  (∀ a, (k0_off1510 v2480) a + S1x16.size a ≤ S512x128.size a)
theorem k0_off1496_inb : ∀ (v2480 : BitVec 32) (k0_hw75 : k0_chk75 v2480), ∀ a, (k0_off1496 v2480) a + S1x16.size a ≤ S512x128.size a := fun v2480 k0_hw75 => k0_hw75.1
theorem k0_off1498_inb : ∀ (v2480 : BitVec 32) (k0_hw75 : k0_chk75 v2480), ∀ a, (k0_off1498 v2480) a + S1x16.size a ≤ S512x128.size a := fun v2480 k0_hw75 => k0_hw75.2.1
theorem k0_off1500_inb : ∀ (v2480 : BitVec 32) (k0_hw75 : k0_chk75 v2480), ∀ a, (k0_off1500 v2480) a + S1x16.size a ≤ S512x128.size a := fun v2480 k0_hw75 => k0_hw75.2.2.1
theorem k0_off1502_inb : ∀ (v2480 : BitVec 32) (k0_hw75 : k0_chk75 v2480), ∀ a, (k0_off1502 v2480) a + S1x16.size a ≤ S512x128.size a := fun v2480 k0_hw75 => k0_hw75.2.2.2.1
theorem k0_off1504_inb : ∀ (v2480 : BitVec 32) (k0_hw75 : k0_chk75 v2480), ∀ a, (k0_off1504 v2480) a + S1x16.size a ≤ S512x128.size a := fun v2480 k0_hw75 => k0_hw75.2.2.2.2.1
theorem k0_off1506_inb : ∀ (v2480 : BitVec 32) (k0_hw75 : k0_chk75 v2480), ∀ a, (k0_off1506 v2480) a + S1x16.size a ≤ S512x128.size a := fun v2480 k0_hw75 => k0_hw75.2.2.2.2.2.1
theorem k0_off1508_inb : ∀ (v2480 : BitVec 32) (k0_hw75 : k0_chk75 v2480), ∀ a, (k0_off1508 v2480) a + S1x16.size a ≤ S512x128.size a := fun v2480 k0_hw75 => k0_hw75.2.2.2.2.2.2.1
theorem k0_off1510_inb : ∀ (v2480 : BitVec 32) (k0_hw75 : k0_chk75 v2480), ∀ a, (k0_off1510 v2480) a + S1x16.size a ≤ S512x128.size a := fun v2480 k0_hw75 => k0_hw75.2.2.2.2.2.2.2

def k0_off1511 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2647 : Index := Scalar.indexCast v2478
  let c0_497 : Index := 0#32
  ![v2647.toNat, 0]
def k0_off1512 (v2482 : BitVec 32) : Fin 2 → Nat :=
  let v2649 : Index := Scalar.indexCast v2482
  let c0_498 : Index := 0#32
  ![v2649.toNat, 0]

def k0_off1513 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2655 : Index := Scalar.indexCast v2478
  let c16_499 : Index := 16#32
  ![v2655.toNat, 16]
def k0_off1514 (v2482 : BitVec 32) : Fin 2 → Nat :=
  let v2657 : Index := Scalar.indexCast v2482
  let c16_500 : Index := 16#32
  ![v2657.toNat, 16]
def k0_off1515 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2663 : Index := Scalar.indexCast v2478
  let c32_501 : Index := 32#32
  ![v2663.toNat, 32]
def k0_off1516 (v2482 : BitVec 32) : Fin 2 → Nat :=
  let v2665 : Index := Scalar.indexCast v2482
  let c32_502 : Index := 32#32
  ![v2665.toNat, 32]
def k0_off1517 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2671 : Index := Scalar.indexCast v2478
  let c48_503 : Index := 48#32
  ![v2671.toNat, 48]
def k0_off1518 (v2482 : BitVec 32) : Fin 2 → Nat :=
  let v2673 : Index := Scalar.indexCast v2482
  let c48_504 : Index := 48#32
  ![v2673.toNat, 48]
def k0_off1519 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2679 : Index := Scalar.indexCast v2478
  let c64_505 : Index := 64#32
  ![v2679.toNat, 64]
def k0_off1520 (v2482 : BitVec 32) : Fin 2 → Nat :=
  let v2681 : Index := Scalar.indexCast v2482
  let c64_506 : Index := 64#32
  ![v2681.toNat, 64]
def k0_off1521 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2687 : Index := Scalar.indexCast v2478
  let c80_507 : Index := 80#32
  ![v2687.toNat, 80]
def k0_off1522 (v2482 : BitVec 32) : Fin 2 → Nat :=
  let v2689 : Index := Scalar.indexCast v2482
  let c80_508 : Index := 80#32
  ![v2689.toNat, 80]
def k0_off1523 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2695 : Index := Scalar.indexCast v2478
  let c96_509 : Index := 96#32
  ![v2695.toNat, 96]
def k0_off1524 (v2482 : BitVec 32) : Fin 2 → Nat :=
  let v2697 : Index := Scalar.indexCast v2482
  let c96_510 : Index := 96#32
  ![v2697.toNat, 96]
def k0_off1525 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2703 : Index := Scalar.indexCast v2478
  let c112_511 : Index := 112#32
  ![v2703.toNat, 112]
def k0_off1526 (v2482 : BitVec 32) : Fin 2 → Nat :=
  let v2705 : Index := Scalar.indexCast v2482
  let c112_512 : Index := 112#32
  ![v2705.toNat, 112]

def k0_chk76 (v2482 : BitVec 32) : Prop :=
  (∀ a, (k0_off1512 v2482) a + S1x16.size a ≤ S512x128.size a) ∧
  (∀ a, (k0_off1514 v2482) a + S1x16.size a ≤ S512x128.size a) ∧
  (∀ a, (k0_off1516 v2482) a + S1x16.size a ≤ S512x128.size a) ∧
  (∀ a, (k0_off1518 v2482) a + S1x16.size a ≤ S512x128.size a) ∧
  (∀ a, (k0_off1520 v2482) a + S1x16.size a ≤ S512x128.size a) ∧
  (∀ a, (k0_off1522 v2482) a + S1x16.size a ≤ S512x128.size a) ∧
  (∀ a, (k0_off1524 v2482) a + S1x16.size a ≤ S512x128.size a) ∧
  (∀ a, (k0_off1526 v2482) a + S1x16.size a ≤ S512x128.size a)
theorem k0_off1512_inb : ∀ (v2482 : BitVec 32) (k0_hw76 : k0_chk76 v2482), ∀ a, (k0_off1512 v2482) a + S1x16.size a ≤ S512x128.size a := fun v2482 k0_hw76 => k0_hw76.1
theorem k0_off1514_inb : ∀ (v2482 : BitVec 32) (k0_hw76 : k0_chk76 v2482), ∀ a, (k0_off1514 v2482) a + S1x16.size a ≤ S512x128.size a := fun v2482 k0_hw76 => k0_hw76.2.1
theorem k0_off1516_inb : ∀ (v2482 : BitVec 32) (k0_hw76 : k0_chk76 v2482), ∀ a, (k0_off1516 v2482) a + S1x16.size a ≤ S512x128.size a := fun v2482 k0_hw76 => k0_hw76.2.2.1
theorem k0_off1518_inb : ∀ (v2482 : BitVec 32) (k0_hw76 : k0_chk76 v2482), ∀ a, (k0_off1518 v2482) a + S1x16.size a ≤ S512x128.size a := fun v2482 k0_hw76 => k0_hw76.2.2.2.1
theorem k0_off1520_inb : ∀ (v2482 : BitVec 32) (k0_hw76 : k0_chk76 v2482), ∀ a, (k0_off1520 v2482) a + S1x16.size a ≤ S512x128.size a := fun v2482 k0_hw76 => k0_hw76.2.2.2.2.1
theorem k0_off1522_inb : ∀ (v2482 : BitVec 32) (k0_hw76 : k0_chk76 v2482), ∀ a, (k0_off1522 v2482) a + S1x16.size a ≤ S512x128.size a := fun v2482 k0_hw76 => k0_hw76.2.2.2.2.2.1
theorem k0_off1524_inb : ∀ (v2482 : BitVec 32) (k0_hw76 : k0_chk76 v2482), ∀ a, (k0_off1524 v2482) a + S1x16.size a ≤ S512x128.size a := fun v2482 k0_hw76 => k0_hw76.2.2.2.2.2.2.1
theorem k0_off1526_inb : ∀ (v2482 : BitVec 32) (k0_hw76 : k0_chk76 v2482), ∀ a, (k0_off1526 v2482) a + S1x16.size a ≤ S512x128.size a := fun v2482 k0_hw76 => k0_hw76.2.2.2.2.2.2.2

def k0_off1527 (k0_t6 : Fin k0_t6_loop.trips) (c10_i32 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v2476 : BitVec 32 := Scalar.addi v147 c10_i32
  let v2843 : Index := Scalar.indexCast v2476
  let c0_520 : Index := 0#32
  ![v2843.toNat, 0]
def k0_off1528 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2849 : Index := Scalar.indexCast v2476
  let c16_521 : Index := 16#32
  ![v2849.toNat, 16]
def k0_off1529 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2855 : Index := Scalar.indexCast v2476
  let c32_522 : Index := 32#32
  ![v2855.toNat, 32]
def k0_off1530 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2861 : Index := Scalar.indexCast v2476
  let c48_523 : Index := 48#32
  ![v2861.toNat, 48]
def k0_off1531 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2867 : Index := Scalar.indexCast v2476
  let c64_524 : Index := 64#32
  ![v2867.toNat, 64]
def k0_off1532 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2873 : Index := Scalar.indexCast v2476
  let c80_525 : Index := 80#32
  ![v2873.toNat, 80]
def k0_off1533 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2879 : Index := Scalar.indexCast v2476
  let c96_526 : Index := 96#32
  ![v2879.toNat, 96]
def k0_off1534 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32 : BitVec 32 := 10#32
  let v2476 : BitVec 32 := Scalar.addi v147 c10_i32
  let v2885 : Index := Scalar.indexCast v2476
  let c112_527 : Index := 112#32
  ![v2885.toNat, 112]
def k0_off1535 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2897 : Index := Scalar.indexCast v2478
  let c0_528 : Index := 0#32
  ![v2897.toNat, 0]
def k0_off1536 (v2945 : BitVec 32) : Fin 2 → Nat :=
  let v2952 : Index := Scalar.indexCast v2945
  let c0_541 : Index := 0#32
  ![v2952.toNat, 0]

def k0_off1537 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2958 : Index := Scalar.indexCast v2941
  let c16_542 : Index := 16#32
  ![v2958.toNat, 16]
def k0_off1538 (v2945 : BitVec 32) : Fin 2 → Nat :=
  let v2960 : Index := Scalar.indexCast v2945
  let c16_543 : Index := 16#32
  ![v2960.toNat, 16]
def k0_off1539 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2966 : Index := Scalar.indexCast v2941
  let c32_544 : Index := 32#32
  ![v2966.toNat, 32]
def k0_off1540 (v2945 : BitVec 32) : Fin 2 → Nat :=
  let v2968 : Index := Scalar.indexCast v2945
  let c32_545 : Index := 32#32
  ![v2968.toNat, 32]
def k0_off1541 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2974 : Index := Scalar.indexCast v2941
  let c48_546 : Index := 48#32
  ![v2974.toNat, 48]
def k0_off1542 (v2945 : BitVec 32) : Fin 2 → Nat :=
  let v2976 : Index := Scalar.indexCast v2945
  let c48_547 : Index := 48#32
  ![v2976.toNat, 48]
def k0_off1543 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2982 : Index := Scalar.indexCast v2941
  let c64_548 : Index := 64#32
  ![v2982.toNat, 64]
def k0_off1544 (v2945 : BitVec 32) : Fin 2 → Nat :=
  let v2984 : Index := Scalar.indexCast v2945
  let c64_549 : Index := 64#32
  ![v2984.toNat, 64]
def k0_off1545 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2990 : Index := Scalar.indexCast v2941
  let c80_550 : Index := 80#32
  ![v2990.toNat, 80]
def k0_off1546 (v2945 : BitVec 32) : Fin 2 → Nat :=
  let v2992 : Index := Scalar.indexCast v2945
  let c80_551 : Index := 80#32
  ![v2992.toNat, 80]
def k0_off1547 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v2998 : Index := Scalar.indexCast v2941
  let c96_552 : Index := 96#32
  ![v2998.toNat, 96]
def k0_off1548 (v2945 : BitVec 32) : Fin 2 → Nat :=
  let v3000 : Index := Scalar.indexCast v2945
  let c96_553 : Index := 96#32
  ![v3000.toNat, 96]
def k0_off1549 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3006 : Index := Scalar.indexCast v2941
  let c112_554 : Index := 112#32
  ![v3006.toNat, 112]
def k0_off1550 (v2945 : BitVec 32) : Fin 2 → Nat :=
  let v3008 : Index := Scalar.indexCast v2945
  let c112_555 : Index := 112#32
  ![v3008.toNat, 112]

def k0_chk77 (v2945 : BitVec 32) : Prop :=
  (∀ a, (k0_off1536 v2945) a + S1x16.size a ≤ S512x128.size a) ∧
  (∀ a, (k0_off1538 v2945) a + S1x16.size a ≤ S512x128.size a) ∧
  (∀ a, (k0_off1540 v2945) a + S1x16.size a ≤ S512x128.size a) ∧
  (∀ a, (k0_off1542 v2945) a + S1x16.size a ≤ S512x128.size a) ∧
  (∀ a, (k0_off1544 v2945) a + S1x16.size a ≤ S512x128.size a) ∧
  (∀ a, (k0_off1546 v2945) a + S1x16.size a ≤ S512x128.size a) ∧
  (∀ a, (k0_off1548 v2945) a + S1x16.size a ≤ S512x128.size a) ∧
  (∀ a, (k0_off1550 v2945) a + S1x16.size a ≤ S512x128.size a)
theorem k0_off1536_inb : ∀ (v2945 : BitVec 32) (k0_hw77 : k0_chk77 v2945), ∀ a, (k0_off1536 v2945) a + S1x16.size a ≤ S512x128.size a := fun v2945 k0_hw77 => k0_hw77.1
theorem k0_off1538_inb : ∀ (v2945 : BitVec 32) (k0_hw77 : k0_chk77 v2945), ∀ a, (k0_off1538 v2945) a + S1x16.size a ≤ S512x128.size a := fun v2945 k0_hw77 => k0_hw77.2.1
theorem k0_off1540_inb : ∀ (v2945 : BitVec 32) (k0_hw77 : k0_chk77 v2945), ∀ a, (k0_off1540 v2945) a + S1x16.size a ≤ S512x128.size a := fun v2945 k0_hw77 => k0_hw77.2.2.1
theorem k0_off1542_inb : ∀ (v2945 : BitVec 32) (k0_hw77 : k0_chk77 v2945), ∀ a, (k0_off1542 v2945) a + S1x16.size a ≤ S512x128.size a := fun v2945 k0_hw77 => k0_hw77.2.2.2.1
theorem k0_off1544_inb : ∀ (v2945 : BitVec 32) (k0_hw77 : k0_chk77 v2945), ∀ a, (k0_off1544 v2945) a + S1x16.size a ≤ S512x128.size a := fun v2945 k0_hw77 => k0_hw77.2.2.2.2.1
theorem k0_off1546_inb : ∀ (v2945 : BitVec 32) (k0_hw77 : k0_chk77 v2945), ∀ a, (k0_off1546 v2945) a + S1x16.size a ≤ S512x128.size a := fun v2945 k0_hw77 => k0_hw77.2.2.2.2.2.1
theorem k0_off1548_inb : ∀ (v2945 : BitVec 32) (k0_hw77 : k0_chk77 v2945), ∀ a, (k0_off1548 v2945) a + S1x16.size a ≤ S512x128.size a := fun v2945 k0_hw77 => k0_hw77.2.2.2.2.2.2.1
theorem k0_off1550_inb : ∀ (v2945 : BitVec 32) (k0_hw77 : k0_chk77 v2945), ∀ a, (k0_off1550 v2945) a + S1x16.size a ≤ S512x128.size a := fun v2945 k0_hw77 => k0_hw77.2.2.2.2.2.2.2

def k0_off1551 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3112 : Index := Scalar.indexCast v2943
  let c0_558 : Index := 0#32
  ![v3112.toNat, 0]
def k0_off1552 (v2947 : BitVec 32) : Fin 2 → Nat :=
  let v3114 : Index := Scalar.indexCast v2947
  let c0_559 : Index := 0#32
  ![v3114.toNat, 0]

def k0_off1553 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3120 : Index := Scalar.indexCast v2943
  let c16_560 : Index := 16#32
  ![v3120.toNat, 16]
def k0_off1554 (v2947 : BitVec 32) : Fin 2 → Nat :=
  let v3122 : Index := Scalar.indexCast v2947
  let c16_561 : Index := 16#32
  ![v3122.toNat, 16]
def k0_off1555 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3128 : Index := Scalar.indexCast v2943
  let c32_562 : Index := 32#32
  ![v3128.toNat, 32]
def k0_off1556 (v2947 : BitVec 32) : Fin 2 → Nat :=
  let v3130 : Index := Scalar.indexCast v2947
  let c32_563 : Index := 32#32
  ![v3130.toNat, 32]
def k0_off1557 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3136 : Index := Scalar.indexCast v2943
  let c48_564 : Index := 48#32
  ![v3136.toNat, 48]
def k0_off1558 (v2947 : BitVec 32) : Fin 2 → Nat :=
  let v3138 : Index := Scalar.indexCast v2947
  let c48_565 : Index := 48#32
  ![v3138.toNat, 48]
def k0_off1559 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3144 : Index := Scalar.indexCast v2943
  let c64_566 : Index := 64#32
  ![v3144.toNat, 64]
def k0_off1560 (v2947 : BitVec 32) : Fin 2 → Nat :=
  let v3146 : Index := Scalar.indexCast v2947
  let c64_567 : Index := 64#32
  ![v3146.toNat, 64]
def k0_off1561 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3152 : Index := Scalar.indexCast v2943
  let c80_568 : Index := 80#32
  ![v3152.toNat, 80]
def k0_off1562 (v2947 : BitVec 32) : Fin 2 → Nat :=
  let v3154 : Index := Scalar.indexCast v2947
  let c80_569 : Index := 80#32
  ![v3154.toNat, 80]
def k0_off1563 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3160 : Index := Scalar.indexCast v2943
  let c96_570 : Index := 96#32
  ![v3160.toNat, 96]
def k0_off1564 (v2947 : BitVec 32) : Fin 2 → Nat :=
  let v3162 : Index := Scalar.indexCast v2947
  let c96_571 : Index := 96#32
  ![v3162.toNat, 96]
def k0_off1565 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3168 : Index := Scalar.indexCast v2943
  let c112_572 : Index := 112#32
  ![v3168.toNat, 112]
def k0_off1566 (v2947 : BitVec 32) : Fin 2 → Nat :=
  let v3170 : Index := Scalar.indexCast v2947
  let c112_573 : Index := 112#32
  ![v3170.toNat, 112]

def k0_chk78 (v2947 : BitVec 32) : Prop :=
  (∀ a, (k0_off1552 v2947) a + S1x16.size a ≤ S512x128.size a) ∧
  (∀ a, (k0_off1554 v2947) a + S1x16.size a ≤ S512x128.size a) ∧
  (∀ a, (k0_off1556 v2947) a + S1x16.size a ≤ S512x128.size a) ∧
  (∀ a, (k0_off1558 v2947) a + S1x16.size a ≤ S512x128.size a) ∧
  (∀ a, (k0_off1560 v2947) a + S1x16.size a ≤ S512x128.size a) ∧
  (∀ a, (k0_off1562 v2947) a + S1x16.size a ≤ S512x128.size a) ∧
  (∀ a, (k0_off1564 v2947) a + S1x16.size a ≤ S512x128.size a) ∧
  (∀ a, (k0_off1566 v2947) a + S1x16.size a ≤ S512x128.size a)
theorem k0_off1552_inb : ∀ (v2947 : BitVec 32) (k0_hw78 : k0_chk78 v2947), ∀ a, (k0_off1552 v2947) a + S1x16.size a ≤ S512x128.size a := fun v2947 k0_hw78 => k0_hw78.1
theorem k0_off1554_inb : ∀ (v2947 : BitVec 32) (k0_hw78 : k0_chk78 v2947), ∀ a, (k0_off1554 v2947) a + S1x16.size a ≤ S512x128.size a := fun v2947 k0_hw78 => k0_hw78.2.1
theorem k0_off1556_inb : ∀ (v2947 : BitVec 32) (k0_hw78 : k0_chk78 v2947), ∀ a, (k0_off1556 v2947) a + S1x16.size a ≤ S512x128.size a := fun v2947 k0_hw78 => k0_hw78.2.2.1
theorem k0_off1558_inb : ∀ (v2947 : BitVec 32) (k0_hw78 : k0_chk78 v2947), ∀ a, (k0_off1558 v2947) a + S1x16.size a ≤ S512x128.size a := fun v2947 k0_hw78 => k0_hw78.2.2.2.1
theorem k0_off1560_inb : ∀ (v2947 : BitVec 32) (k0_hw78 : k0_chk78 v2947), ∀ a, (k0_off1560 v2947) a + S1x16.size a ≤ S512x128.size a := fun v2947 k0_hw78 => k0_hw78.2.2.2.2.1
theorem k0_off1562_inb : ∀ (v2947 : BitVec 32) (k0_hw78 : k0_chk78 v2947), ∀ a, (k0_off1562 v2947) a + S1x16.size a ≤ S512x128.size a := fun v2947 k0_hw78 => k0_hw78.2.2.2.2.2.1
theorem k0_off1564_inb : ∀ (v2947 : BitVec 32) (k0_hw78 : k0_chk78 v2947), ∀ a, (k0_off1564 v2947) a + S1x16.size a ≤ S512x128.size a := fun v2947 k0_hw78 => k0_hw78.2.2.2.2.2.2.1
theorem k0_off1566_inb : ∀ (v2947 : BitVec 32) (k0_hw78 : k0_chk78 v2947), ∀ a, (k0_off1566 v2947) a + S1x16.size a ≤ S512x128.size a := fun v2947 k0_hw78 => k0_hw78.2.2.2.2.2.2.2

def k0_off1567 (k0_t6 : Fin k0_t6_loop.trips) (c12_i32 : BitVec 32) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let v2941 : BitVec 32 := Scalar.addi v147 c12_i32
  let v3308 : Index := Scalar.indexCast v2941
  let c0_581 : Index := 0#32
  ![v3308.toNat, 0]
def k0_off1568 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3314 : Index := Scalar.indexCast v2941
  let c16_582 : Index := 16#32
  ![v3314.toNat, 16]
def k0_off1569 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3320 : Index := Scalar.indexCast v2941
  let c32_583 : Index := 32#32
  ![v3320.toNat, 32]
def k0_off1570 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3326 : Index := Scalar.indexCast v2941
  let c48_584 : Index := 48#32
  ![v3326.toNat, 48]
def k0_off1571 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3332 : Index := Scalar.indexCast v2941
  let c64_585 : Index := 64#32
  ![v3332.toNat, 64]
def k0_off1572 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3338 : Index := Scalar.indexCast v2941
  let c80_586 : Index := 80#32
  ![v3338.toNat, 80]
def k0_off1573 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3344 : Index := Scalar.indexCast v2941
  let c96_587 : Index := 96#32
  ![v3344.toNat, 96]
def k0_off1574 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32 : BitVec 32 := 12#32
  let v2941 : BitVec 32 := Scalar.addi v147 c12_i32
  let v3350 : Index := Scalar.indexCast v2941
  let c112_588 : Index := 112#32
  ![v3350.toNat, 112]
def k0_off1575 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3362 : Index := Scalar.indexCast v2943
  let c0_589 : Index := 0#32
  ![v3362.toNat, 0]
def k0_off1576 (v3410 : BitVec 32) : Fin 2 → Nat :=
  let v3417 : Index := Scalar.indexCast v3410
  let c0_602 : Index := 0#32
  ![v3417.toNat, 0]

def k0_off1577 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3423 : Index := Scalar.indexCast v3406
  let c16_603 : Index := 16#32
  ![v3423.toNat, 16]
def k0_off1578 (v3410 : BitVec 32) : Fin 2 → Nat :=
  let v3425 : Index := Scalar.indexCast v3410
  let c16_604 : Index := 16#32
  ![v3425.toNat, 16]
def k0_off1579 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3431 : Index := Scalar.indexCast v3406
  let c32_605 : Index := 32#32
  ![v3431.toNat, 32]
def k0_off1580 (v3410 : BitVec 32) : Fin 2 → Nat :=
  let v3433 : Index := Scalar.indexCast v3410
  let c32_606 : Index := 32#32
  ![v3433.toNat, 32]
def k0_off1581 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3439 : Index := Scalar.indexCast v3406
  let c48_607 : Index := 48#32
  ![v3439.toNat, 48]
def k0_off1582 (v3410 : BitVec 32) : Fin 2 → Nat :=
  let v3441 : Index := Scalar.indexCast v3410
  let c48_608 : Index := 48#32
  ![v3441.toNat, 48]
def k0_off1583 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3447 : Index := Scalar.indexCast v3406
  let c64_609 : Index := 64#32
  ![v3447.toNat, 64]
def k0_off1584 (v3410 : BitVec 32) : Fin 2 → Nat :=
  let v3449 : Index := Scalar.indexCast v3410
  let c64_610 : Index := 64#32
  ![v3449.toNat, 64]
def k0_off1585 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3455 : Index := Scalar.indexCast v3406
  let c80_611 : Index := 80#32
  ![v3455.toNat, 80]
def k0_off1586 (v3410 : BitVec 32) : Fin 2 → Nat :=
  let v3457 : Index := Scalar.indexCast v3410
  let c80_612 : Index := 80#32
  ![v3457.toNat, 80]
def k0_off1587 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3463 : Index := Scalar.indexCast v3406
  let c96_613 : Index := 96#32
  ![v3463.toNat, 96]
def k0_off1588 (v3410 : BitVec 32) : Fin 2 → Nat :=
  let v3465 : Index := Scalar.indexCast v3410
  let c96_614 : Index := 96#32
  ![v3465.toNat, 96]
def k0_off1589 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3471 : Index := Scalar.indexCast v3406
  let c112_615 : Index := 112#32
  ![v3471.toNat, 112]
def k0_off1590 (v3410 : BitVec 32) : Fin 2 → Nat :=
  let v3473 : Index := Scalar.indexCast v3410
  let c112_616 : Index := 112#32
  ![v3473.toNat, 112]

def k0_chk79 (v3410 : BitVec 32) : Prop :=
  (∀ a, (k0_off1576 v3410) a + S1x16.size a ≤ S512x128.size a) ∧
  (∀ a, (k0_off1578 v3410) a + S1x16.size a ≤ S512x128.size a) ∧
  (∀ a, (k0_off1580 v3410) a + S1x16.size a ≤ S512x128.size a) ∧
  (∀ a, (k0_off1582 v3410) a + S1x16.size a ≤ S512x128.size a) ∧
  (∀ a, (k0_off1584 v3410) a + S1x16.size a ≤ S512x128.size a) ∧
  (∀ a, (k0_off1586 v3410) a + S1x16.size a ≤ S512x128.size a) ∧
  (∀ a, (k0_off1588 v3410) a + S1x16.size a ≤ S512x128.size a) ∧
  (∀ a, (k0_off1590 v3410) a + S1x16.size a ≤ S512x128.size a)
theorem k0_off1576_inb : ∀ (v3410 : BitVec 32) (k0_hw79 : k0_chk79 v3410), ∀ a, (k0_off1576 v3410) a + S1x16.size a ≤ S512x128.size a := fun v3410 k0_hw79 => k0_hw79.1
theorem k0_off1578_inb : ∀ (v3410 : BitVec 32) (k0_hw79 : k0_chk79 v3410), ∀ a, (k0_off1578 v3410) a + S1x16.size a ≤ S512x128.size a := fun v3410 k0_hw79 => k0_hw79.2.1
theorem k0_off1580_inb : ∀ (v3410 : BitVec 32) (k0_hw79 : k0_chk79 v3410), ∀ a, (k0_off1580 v3410) a + S1x16.size a ≤ S512x128.size a := fun v3410 k0_hw79 => k0_hw79.2.2.1
theorem k0_off1582_inb : ∀ (v3410 : BitVec 32) (k0_hw79 : k0_chk79 v3410), ∀ a, (k0_off1582 v3410) a + S1x16.size a ≤ S512x128.size a := fun v3410 k0_hw79 => k0_hw79.2.2.2.1
theorem k0_off1584_inb : ∀ (v3410 : BitVec 32) (k0_hw79 : k0_chk79 v3410), ∀ a, (k0_off1584 v3410) a + S1x16.size a ≤ S512x128.size a := fun v3410 k0_hw79 => k0_hw79.2.2.2.2.1
theorem k0_off1586_inb : ∀ (v3410 : BitVec 32) (k0_hw79 : k0_chk79 v3410), ∀ a, (k0_off1586 v3410) a + S1x16.size a ≤ S512x128.size a := fun v3410 k0_hw79 => k0_hw79.2.2.2.2.2.1
theorem k0_off1588_inb : ∀ (v3410 : BitVec 32) (k0_hw79 : k0_chk79 v3410), ∀ a, (k0_off1588 v3410) a + S1x16.size a ≤ S512x128.size a := fun v3410 k0_hw79 => k0_hw79.2.2.2.2.2.2.1
theorem k0_off1590_inb : ∀ (v3410 : BitVec 32) (k0_hw79 : k0_chk79 v3410), ∀ a, (k0_off1590 v3410) a + S1x16.size a ≤ S512x128.size a := fun v3410 k0_hw79 => k0_hw79.2.2.2.2.2.2.2

def k0_off1591 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3577 : Index := Scalar.indexCast v3408
  let c0_619 : Index := 0#32
  ![v3577.toNat, 0]
def k0_off1592 (v3412 : BitVec 32) : Fin 2 → Nat :=
  let v3579 : Index := Scalar.indexCast v3412
  let c0_620 : Index := 0#32
  ![v3579.toNat, 0]

def k0_off1593 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3585 : Index := Scalar.indexCast v3408
  let c16_621 : Index := 16#32
  ![v3585.toNat, 16]
def k0_off1594 (v3412 : BitVec 32) : Fin 2 → Nat :=
  let v3587 : Index := Scalar.indexCast v3412
  let c16_622 : Index := 16#32
  ![v3587.toNat, 16]
def k0_off1595 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3593 : Index := Scalar.indexCast v3408
  let c32_623 : Index := 32#32
  ![v3593.toNat, 32]
def k0_off1596 (v3412 : BitVec 32) : Fin 2 → Nat :=
  let v3595 : Index := Scalar.indexCast v3412
  let c32_624 : Index := 32#32
  ![v3595.toNat, 32]
def k0_off1597 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3601 : Index := Scalar.indexCast v3408
  let c48_625 : Index := 48#32
  ![v3601.toNat, 48]
def k0_off1598 (v3412 : BitVec 32) : Fin 2 → Nat :=
  let v3603 : Index := Scalar.indexCast v3412
  let c48_626 : Index := 48#32
  ![v3603.toNat, 48]
def k0_off1599 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3609 : Index := Scalar.indexCast v3408
  let c64_627 : Index := 64#32
  ![v3609.toNat, 64]
def k0_off1600 (v3412 : BitVec 32) : Fin 2 → Nat :=
  let v3611 : Index := Scalar.indexCast v3412
  let c64_628 : Index := 64#32
  ![v3611.toNat, 64]
def k0_off1601 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3617 : Index := Scalar.indexCast v3408
  let c80_629 : Index := 80#32
  ![v3617.toNat, 80]
def k0_off1602 (v3412 : BitVec 32) : Fin 2 → Nat :=
  let v3619 : Index := Scalar.indexCast v3412
  let c80_630 : Index := 80#32
  ![v3619.toNat, 80]
def k0_off1603 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3625 : Index := Scalar.indexCast v3408
  let c96_631 : Index := 96#32
  ![v3625.toNat, 96]
def k0_off1604 (v3412 : BitVec 32) : Fin 2 → Nat :=
  let v3627 : Index := Scalar.indexCast v3412
  let c96_632 : Index := 96#32
  ![v3627.toNat, 96]
def k0_off1605 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3633 : Index := Scalar.indexCast v3408
  let c112_633 : Index := 112#32
  ![v3633.toNat, 112]
def k0_off1606 (v3412 : BitVec 32) : Fin 2 → Nat :=
  let v3635 : Index := Scalar.indexCast v3412
  let c112_634 : Index := 112#32
  ![v3635.toNat, 112]

def k0_chk80 (v3412 : BitVec 32) : Prop :=
  (∀ a, (k0_off1592 v3412) a + S1x16.size a ≤ S512x128.size a) ∧
  (∀ a, (k0_off1594 v3412) a + S1x16.size a ≤ S512x128.size a) ∧
  (∀ a, (k0_off1596 v3412) a + S1x16.size a ≤ S512x128.size a) ∧
  (∀ a, (k0_off1598 v3412) a + S1x16.size a ≤ S512x128.size a) ∧
  (∀ a, (k0_off1600 v3412) a + S1x16.size a ≤ S512x128.size a) ∧
  (∀ a, (k0_off1602 v3412) a + S1x16.size a ≤ S512x128.size a) ∧
  (∀ a, (k0_off1604 v3412) a + S1x16.size a ≤ S512x128.size a) ∧
  (∀ a, (k0_off1606 v3412) a + S1x16.size a ≤ S512x128.size a)
theorem k0_off1592_inb : ∀ (v3412 : BitVec 32) (k0_hw80 : k0_chk80 v3412), ∀ a, (k0_off1592 v3412) a + S1x16.size a ≤ S512x128.size a := fun v3412 k0_hw80 => k0_hw80.1
theorem k0_off1594_inb : ∀ (v3412 : BitVec 32) (k0_hw80 : k0_chk80 v3412), ∀ a, (k0_off1594 v3412) a + S1x16.size a ≤ S512x128.size a := fun v3412 k0_hw80 => k0_hw80.2.1
theorem k0_off1596_inb : ∀ (v3412 : BitVec 32) (k0_hw80 : k0_chk80 v3412), ∀ a, (k0_off1596 v3412) a + S1x16.size a ≤ S512x128.size a := fun v3412 k0_hw80 => k0_hw80.2.2.1
theorem k0_off1598_inb : ∀ (v3412 : BitVec 32) (k0_hw80 : k0_chk80 v3412), ∀ a, (k0_off1598 v3412) a + S1x16.size a ≤ S512x128.size a := fun v3412 k0_hw80 => k0_hw80.2.2.2.1
theorem k0_off1600_inb : ∀ (v3412 : BitVec 32) (k0_hw80 : k0_chk80 v3412), ∀ a, (k0_off1600 v3412) a + S1x16.size a ≤ S512x128.size a := fun v3412 k0_hw80 => k0_hw80.2.2.2.2.1
theorem k0_off1602_inb : ∀ (v3412 : BitVec 32) (k0_hw80 : k0_chk80 v3412), ∀ a, (k0_off1602 v3412) a + S1x16.size a ≤ S512x128.size a := fun v3412 k0_hw80 => k0_hw80.2.2.2.2.2.1
theorem k0_off1604_inb : ∀ (v3412 : BitVec 32) (k0_hw80 : k0_chk80 v3412), ∀ a, (k0_off1604 v3412) a + S1x16.size a ≤ S512x128.size a := fun v3412 k0_hw80 => k0_hw80.2.2.2.2.2.2.1
theorem k0_off1606_inb : ∀ (v3412 : BitVec 32) (k0_hw80 : k0_chk80 v3412), ∀ a, (k0_off1606 v3412) a + S1x16.size a ≤ S512x128.size a := fun v3412 k0_hw80 => k0_hw80.2.2.2.2.2.2.2

def k0_off1607 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3773 : Index := Scalar.indexCast v3406
  let c0_642 : Index := 0#32
  ![v3773.toNat, 0]
def k0_off1608 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3779 : Index := Scalar.indexCast v3406
  let c16_643 : Index := 16#32
  ![v3779.toNat, 16]
def k0_off1609 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3785 : Index := Scalar.indexCast v3406
  let c32_644 : Index := 32#32
  ![v3785.toNat, 32]
def k0_off1610 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3791 : Index := Scalar.indexCast v3406
  let c48_645 : Index := 48#32
  ![v3791.toNat, 48]
def k0_off1611 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3797 : Index := Scalar.indexCast v3406
  let c64_646 : Index := 64#32
  ![v3797.toNat, 64]
def k0_off1612 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3803 : Index := Scalar.indexCast v3406
  let c80_647 : Index := 80#32
  ![v3803.toNat, 80]
def k0_off1613 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3809 : Index := Scalar.indexCast v3406
  let c96_648 : Index := 96#32
  ![v3809.toNat, 96]
def k0_off1614 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32 : BitVec 32 := 14#32
  let v3406 : BitVec 32 := Scalar.addi v147 c14_i32
  let v3815 : Index := Scalar.indexCast v3406
  let c112_649 : Index := 112#32
  ![v3815.toNat, 112]
def k0_off1615 (k0_t6 : Fin k0_t6_loop.trips) : Fin 2 → Nat :=
  let c0_i32_140 : BitVec 32 := 0#32
  let c1_i32_142 : BitVec 32 := 1#32
  let arg29 : BitVec 32 := Scf.iv c0_i32_140 c1_i32_142 k0_t6
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3827 : Index := Scalar.indexCast v3408
  let c0_650 : Index := 0#32
  ![v3827.toNat, 0]
@[reducible] def k0_t7_loop : Scf.Loop 32 :=
  let c0_i32_160 : BitVec 32 := 0#32
  let c4_i32_161 : BitVec 32 := 4#32
  let v142 : BitVec 32 := Scalar.addi c0_i32_160 c4_i32_161
  let c1_i32_162 : BitVec 32 := 1#32
  ⟨c0_i32_160, v142, c1_i32_162⟩
def k0_off1616 (k0_t3 : Fin k0_t3_loop.trips) (k0_t7 : Fin k0_t7_loop.trips) : Fin 1 → Nat :=
  let c4_i32_147 : BitVec 32 := 4#32
  let c0_i32_53 : BitVec 32 := 0#32
  let c1_i32_54 : BitVec 32 := 1#32
  let arg28 : BitVec 32 := Scf.iv c0_i32_53 c1_i32_54 k0_t3
  let v130 : BitVec 32 := Scalar.muli c4_i32_147 arg28
  let c2_i32_148 : BitVec 32 := 2#32
  let v131 : BitVec 32 := Scalar.addi v130 c2_i32_148
  let c3_i32 : BitVec 32 := 3#32
  let v132 : BitVec 32 := Scalar.addi v131 c3_i32
  let c64_i32_158 : BitVec 32 := 64#32
  let v141 : BitVec 32 := Scalar.muli v132 c64_i32_158
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v148 : BitVec 32 := Scalar.addi v141 v147
  let v149 : Index := Scalar.indexCast v148
  ![v149.toNat]
def k0_off1617 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v160 : Index := Scalar.indexCast v151
  let c0_171 : Index := 0#32
  ![v160.toNat, 0]
def k0_off1618 (v155 : BitVec 32) : Fin 2 → Nat :=
  let v162 : Index := Scalar.indexCast v155
  let c0_172 : Index := 0#32
  ![v162.toNat, 0]

def k0_off1619 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v168 : Index := Scalar.indexCast v151
  let c16_173 : Index := 16#32
  ![v168.toNat, 16]
def k0_off1620 (v155 : BitVec 32) : Fin 2 → Nat :=
  let v170 : Index := Scalar.indexCast v155
  let c16_174 : Index := 16#32
  ![v170.toNat, 16]
def k0_off1621 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v176 : Index := Scalar.indexCast v151
  let c32_175 : Index := 32#32
  ![v176.toNat, 32]
def k0_off1622 (v155 : BitVec 32) : Fin 2 → Nat :=
  let v178 : Index := Scalar.indexCast v155
  let c32_176 : Index := 32#32
  ![v178.toNat, 32]
def k0_off1623 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v184 : Index := Scalar.indexCast v151
  let c48_177 : Index := 48#32
  ![v184.toNat, 48]
def k0_off1624 (v155 : BitVec 32) : Fin 2 → Nat :=
  let v186 : Index := Scalar.indexCast v155
  let c48_178 : Index := 48#32
  ![v186.toNat, 48]
def k0_off1625 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v192 : Index := Scalar.indexCast v151
  let c64_179 : Index := 64#32
  ![v192.toNat, 64]
def k0_off1626 (v155 : BitVec 32) : Fin 2 → Nat :=
  let v194 : Index := Scalar.indexCast v155
  let c64_180 : Index := 64#32
  ![v194.toNat, 64]
def k0_off1627 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v200 : Index := Scalar.indexCast v151
  let c80_181 : Index := 80#32
  ![v200.toNat, 80]
def k0_off1628 (v155 : BitVec 32) : Fin 2 → Nat :=
  let v202 : Index := Scalar.indexCast v155
  let c80_182 : Index := 80#32
  ![v202.toNat, 80]
def k0_off1629 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v208 : Index := Scalar.indexCast v151
  let c96_183 : Index := 96#32
  ![v208.toNat, 96]
def k0_off1630 (v155 : BitVec 32) : Fin 2 → Nat :=
  let v210 : Index := Scalar.indexCast v155
  let c96_184 : Index := 96#32
  ![v210.toNat, 96]
def k0_off1631 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v216 : Index := Scalar.indexCast v151
  let c112_185 : Index := 112#32
  ![v216.toNat, 112]
def k0_off1632 (v155 : BitVec 32) : Fin 2 → Nat :=
  let v218 : Index := Scalar.indexCast v155
  let c112_186 : Index := 112#32
  ![v218.toNat, 112]

def k0_chk81 (v155 : BitVec 32) : Prop :=
  (∀ a, (k0_off1618 v155) a + S1x16.size a ≤ S512x128.size a) ∧
  (∀ a, (k0_off1620 v155) a + S1x16.size a ≤ S512x128.size a) ∧
  (∀ a, (k0_off1622 v155) a + S1x16.size a ≤ S512x128.size a) ∧
  (∀ a, (k0_off1624 v155) a + S1x16.size a ≤ S512x128.size a) ∧
  (∀ a, (k0_off1626 v155) a + S1x16.size a ≤ S512x128.size a) ∧
  (∀ a, (k0_off1628 v155) a + S1x16.size a ≤ S512x128.size a) ∧
  (∀ a, (k0_off1630 v155) a + S1x16.size a ≤ S512x128.size a) ∧
  (∀ a, (k0_off1632 v155) a + S1x16.size a ≤ S512x128.size a)
theorem k0_off1618_inb : ∀ (v155 : BitVec 32) (k0_hw81 : k0_chk81 v155), ∀ a, (k0_off1618 v155) a + S1x16.size a ≤ S512x128.size a := fun v155 k0_hw81 => k0_hw81.1
theorem k0_off1620_inb : ∀ (v155 : BitVec 32) (k0_hw81 : k0_chk81 v155), ∀ a, (k0_off1620 v155) a + S1x16.size a ≤ S512x128.size a := fun v155 k0_hw81 => k0_hw81.2.1
theorem k0_off1622_inb : ∀ (v155 : BitVec 32) (k0_hw81 : k0_chk81 v155), ∀ a, (k0_off1622 v155) a + S1x16.size a ≤ S512x128.size a := fun v155 k0_hw81 => k0_hw81.2.2.1
theorem k0_off1624_inb : ∀ (v155 : BitVec 32) (k0_hw81 : k0_chk81 v155), ∀ a, (k0_off1624 v155) a + S1x16.size a ≤ S512x128.size a := fun v155 k0_hw81 => k0_hw81.2.2.2.1
theorem k0_off1626_inb : ∀ (v155 : BitVec 32) (k0_hw81 : k0_chk81 v155), ∀ a, (k0_off1626 v155) a + S1x16.size a ≤ S512x128.size a := fun v155 k0_hw81 => k0_hw81.2.2.2.2.1
theorem k0_off1628_inb : ∀ (v155 : BitVec 32) (k0_hw81 : k0_chk81 v155), ∀ a, (k0_off1628 v155) a + S1x16.size a ≤ S512x128.size a := fun v155 k0_hw81 => k0_hw81.2.2.2.2.2.1
theorem k0_off1630_inb : ∀ (v155 : BitVec 32) (k0_hw81 : k0_chk81 v155), ∀ a, (k0_off1630 v155) a + S1x16.size a ≤ S512x128.size a := fun v155 k0_hw81 => k0_hw81.2.2.2.2.2.2.1
theorem k0_off1632_inb : ∀ (v155 : BitVec 32) (k0_hw81 : k0_chk81 v155), ∀ a, (k0_off1632 v155) a + S1x16.size a ≤ S512x128.size a := fun v155 k0_hw81 => k0_hw81.2.2.2.2.2.2.2

def k0_off1633 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v322 : Index := Scalar.indexCast v153
  let c0_189 : Index := 0#32
  ![v322.toNat, 0]
def k0_off1634 (v157 : BitVec 32) : Fin 2 → Nat :=
  let v324 : Index := Scalar.indexCast v157
  let c0_190 : Index := 0#32
  ![v324.toNat, 0]

def k0_off1635 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v330 : Index := Scalar.indexCast v153
  let c16_191 : Index := 16#32
  ![v330.toNat, 16]
def k0_off1636 (v157 : BitVec 32) : Fin 2 → Nat :=
  let v332 : Index := Scalar.indexCast v157
  let c16_192 : Index := 16#32
  ![v332.toNat, 16]
def k0_off1637 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v338 : Index := Scalar.indexCast v153
  let c32_193 : Index := 32#32
  ![v338.toNat, 32]
def k0_off1638 (v157 : BitVec 32) : Fin 2 → Nat :=
  let v340 : Index := Scalar.indexCast v157
  let c32_194 : Index := 32#32
  ![v340.toNat, 32]
def k0_off1639 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v346 : Index := Scalar.indexCast v153
  let c48_195 : Index := 48#32
  ![v346.toNat, 48]
def k0_off1640 (v157 : BitVec 32) : Fin 2 → Nat :=
  let v348 : Index := Scalar.indexCast v157
  let c48_196 : Index := 48#32
  ![v348.toNat, 48]
def k0_off1641 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v354 : Index := Scalar.indexCast v153
  let c64_197 : Index := 64#32
  ![v354.toNat, 64]
def k0_off1642 (v157 : BitVec 32) : Fin 2 → Nat :=
  let v356 : Index := Scalar.indexCast v157
  let c64_198 : Index := 64#32
  ![v356.toNat, 64]
def k0_off1643 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v362 : Index := Scalar.indexCast v153
  let c80_199 : Index := 80#32
  ![v362.toNat, 80]
def k0_off1644 (v157 : BitVec 32) : Fin 2 → Nat :=
  let v364 : Index := Scalar.indexCast v157
  let c80_200 : Index := 80#32
  ![v364.toNat, 80]
def k0_off1645 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v370 : Index := Scalar.indexCast v153
  let c96_201 : Index := 96#32
  ![v370.toNat, 96]
def k0_off1646 (v157 : BitVec 32) : Fin 2 → Nat :=
  let v372 : Index := Scalar.indexCast v157
  let c96_202 : Index := 96#32
  ![v372.toNat, 96]
def k0_off1647 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v378 : Index := Scalar.indexCast v153
  let c112_203 : Index := 112#32
  ![v378.toNat, 112]
def k0_off1648 (v157 : BitVec 32) : Fin 2 → Nat :=
  let v380 : Index := Scalar.indexCast v157
  let c112_204 : Index := 112#32
  ![v380.toNat, 112]

def k0_chk82 (v157 : BitVec 32) : Prop :=
  (∀ a, (k0_off1634 v157) a + S1x16.size a ≤ S512x128.size a) ∧
  (∀ a, (k0_off1636 v157) a + S1x16.size a ≤ S512x128.size a) ∧
  (∀ a, (k0_off1638 v157) a + S1x16.size a ≤ S512x128.size a) ∧
  (∀ a, (k0_off1640 v157) a + S1x16.size a ≤ S512x128.size a) ∧
  (∀ a, (k0_off1642 v157) a + S1x16.size a ≤ S512x128.size a) ∧
  (∀ a, (k0_off1644 v157) a + S1x16.size a ≤ S512x128.size a) ∧
  (∀ a, (k0_off1646 v157) a + S1x16.size a ≤ S512x128.size a) ∧
  (∀ a, (k0_off1648 v157) a + S1x16.size a ≤ S512x128.size a)
theorem k0_off1634_inb : ∀ (v157 : BitVec 32) (k0_hw82 : k0_chk82 v157), ∀ a, (k0_off1634 v157) a + S1x16.size a ≤ S512x128.size a := fun v157 k0_hw82 => k0_hw82.1
theorem k0_off1636_inb : ∀ (v157 : BitVec 32) (k0_hw82 : k0_chk82 v157), ∀ a, (k0_off1636 v157) a + S1x16.size a ≤ S512x128.size a := fun v157 k0_hw82 => k0_hw82.2.1
theorem k0_off1638_inb : ∀ (v157 : BitVec 32) (k0_hw82 : k0_chk82 v157), ∀ a, (k0_off1638 v157) a + S1x16.size a ≤ S512x128.size a := fun v157 k0_hw82 => k0_hw82.2.2.1
theorem k0_off1640_inb : ∀ (v157 : BitVec 32) (k0_hw82 : k0_chk82 v157), ∀ a, (k0_off1640 v157) a + S1x16.size a ≤ S512x128.size a := fun v157 k0_hw82 => k0_hw82.2.2.2.1
theorem k0_off1642_inb : ∀ (v157 : BitVec 32) (k0_hw82 : k0_chk82 v157), ∀ a, (k0_off1642 v157) a + S1x16.size a ≤ S512x128.size a := fun v157 k0_hw82 => k0_hw82.2.2.2.2.1
theorem k0_off1644_inb : ∀ (v157 : BitVec 32) (k0_hw82 : k0_chk82 v157), ∀ a, (k0_off1644 v157) a + S1x16.size a ≤ S512x128.size a := fun v157 k0_hw82 => k0_hw82.2.2.2.2.2.1
theorem k0_off1646_inb : ∀ (v157 : BitVec 32) (k0_hw82 : k0_chk82 v157), ∀ a, (k0_off1646 v157) a + S1x16.size a ≤ S512x128.size a := fun v157 k0_hw82 => k0_hw82.2.2.2.2.2.2.1
theorem k0_off1648_inb : ∀ (v157 : BitVec 32) (k0_hw82 : k0_chk82 v157), ∀ a, (k0_off1648 v157) a + S1x16.size a ≤ S512x128.size a := fun v157 k0_hw82 => k0_hw82.2.2.2.2.2.2.2

def k0_off1649 (k0_t7 : Fin k0_t7_loop.trips) (c0_i32_167 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v151 : BitVec 32 := Scalar.addi v147 c0_i32_167
  let v518 : Index := Scalar.indexCast v151
  let c0_212 : Index := 0#32
  ![v518.toNat, 0]
def k0_off1650 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v524 : Index := Scalar.indexCast v151
  let c16_213 : Index := 16#32
  ![v524.toNat, 16]
def k0_off1651 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v530 : Index := Scalar.indexCast v151
  let c32_214 : Index := 32#32
  ![v530.toNat, 32]
def k0_off1652 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v536 : Index := Scalar.indexCast v151
  let c48_215 : Index := 48#32
  ![v536.toNat, 48]
def k0_off1653 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v542 : Index := Scalar.indexCast v151
  let c64_216 : Index := 64#32
  ![v542.toNat, 64]
def k0_off1654 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v548 : Index := Scalar.indexCast v151
  let c80_217 : Index := 80#32
  ![v548.toNat, 80]
def k0_off1655 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v554 : Index := Scalar.indexCast v151
  let c96_218 : Index := 96#32
  ![v554.toNat, 96]
def k0_off1656 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_167 : BitVec 32 := 0#32
  let v151 : BitVec 32 := Scalar.addi v147 c0_i32_167
  let v560 : Index := Scalar.indexCast v151
  let c112_219 : Index := 112#32
  ![v560.toNat, 112]
def k0_off1657 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c0_i32_168 : BitVec 32 := 0#32
  let v152 : BitVec 32 := Scalar.addi v147 c0_i32_168
  let c1_i32_169 : BitVec 32 := 1#32
  let v153 : BitVec 32 := Scalar.addi v152 c1_i32_169
  let v572 : Index := Scalar.indexCast v153
  let c0_220 : Index := 0#32
  ![v572.toNat, 0]
def k0_off1658 (v620 : BitVec 32) : Fin 2 → Nat :=
  let v627 : Index := Scalar.indexCast v620
  let c0_234 : Index := 0#32
  ![v627.toNat, 0]

def k0_off1659 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v633 : Index := Scalar.indexCast v616
  let c16_235 : Index := 16#32
  ![v633.toNat, 16]
def k0_off1660 (v620 : BitVec 32) : Fin 2 → Nat :=
  let v635 : Index := Scalar.indexCast v620
  let c16_236 : Index := 16#32
  ![v635.toNat, 16]
def k0_off1661 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v641 : Index := Scalar.indexCast v616
  let c32_237 : Index := 32#32
  ![v641.toNat, 32]
def k0_off1662 (v620 : BitVec 32) : Fin 2 → Nat :=
  let v643 : Index := Scalar.indexCast v620
  let c32_238 : Index := 32#32
  ![v643.toNat, 32]
def k0_off1663 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v649 : Index := Scalar.indexCast v616
  let c48_239 : Index := 48#32
  ![v649.toNat, 48]
def k0_off1664 (v620 : BitVec 32) : Fin 2 → Nat :=
  let v651 : Index := Scalar.indexCast v620
  let c48_240 : Index := 48#32
  ![v651.toNat, 48]
def k0_off1665 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v657 : Index := Scalar.indexCast v616
  let c64_241 : Index := 64#32
  ![v657.toNat, 64]
def k0_off1666 (v620 : BitVec 32) : Fin 2 → Nat :=
  let v659 : Index := Scalar.indexCast v620
  let c64_242 : Index := 64#32
  ![v659.toNat, 64]
def k0_off1667 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v665 : Index := Scalar.indexCast v616
  let c80_243 : Index := 80#32
  ![v665.toNat, 80]
def k0_off1668 (v620 : BitVec 32) : Fin 2 → Nat :=
  let v667 : Index := Scalar.indexCast v620
  let c80_244 : Index := 80#32
  ![v667.toNat, 80]
def k0_off1669 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v673 : Index := Scalar.indexCast v616
  let c96_245 : Index := 96#32
  ![v673.toNat, 96]
def k0_off1670 (v620 : BitVec 32) : Fin 2 → Nat :=
  let v675 : Index := Scalar.indexCast v620
  let c96_246 : Index := 96#32
  ![v675.toNat, 96]
def k0_off1671 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v681 : Index := Scalar.indexCast v616
  let c112_247 : Index := 112#32
  ![v681.toNat, 112]
def k0_off1672 (v620 : BitVec 32) : Fin 2 → Nat :=
  let v683 : Index := Scalar.indexCast v620
  let c112_248 : Index := 112#32
  ![v683.toNat, 112]

def k0_chk83 (v620 : BitVec 32) : Prop :=
  (∀ a, (k0_off1658 v620) a + S1x16.size a ≤ S512x128.size a) ∧
  (∀ a, (k0_off1660 v620) a + S1x16.size a ≤ S512x128.size a) ∧
  (∀ a, (k0_off1662 v620) a + S1x16.size a ≤ S512x128.size a) ∧
  (∀ a, (k0_off1664 v620) a + S1x16.size a ≤ S512x128.size a) ∧
  (∀ a, (k0_off1666 v620) a + S1x16.size a ≤ S512x128.size a) ∧
  (∀ a, (k0_off1668 v620) a + S1x16.size a ≤ S512x128.size a) ∧
  (∀ a, (k0_off1670 v620) a + S1x16.size a ≤ S512x128.size a) ∧
  (∀ a, (k0_off1672 v620) a + S1x16.size a ≤ S512x128.size a)
theorem k0_off1658_inb : ∀ (v620 : BitVec 32) (k0_hw83 : k0_chk83 v620), ∀ a, (k0_off1658 v620) a + S1x16.size a ≤ S512x128.size a := fun v620 k0_hw83 => k0_hw83.1
theorem k0_off1660_inb : ∀ (v620 : BitVec 32) (k0_hw83 : k0_chk83 v620), ∀ a, (k0_off1660 v620) a + S1x16.size a ≤ S512x128.size a := fun v620 k0_hw83 => k0_hw83.2.1
theorem k0_off1662_inb : ∀ (v620 : BitVec 32) (k0_hw83 : k0_chk83 v620), ∀ a, (k0_off1662 v620) a + S1x16.size a ≤ S512x128.size a := fun v620 k0_hw83 => k0_hw83.2.2.1
theorem k0_off1664_inb : ∀ (v620 : BitVec 32) (k0_hw83 : k0_chk83 v620), ∀ a, (k0_off1664 v620) a + S1x16.size a ≤ S512x128.size a := fun v620 k0_hw83 => k0_hw83.2.2.2.1
theorem k0_off1666_inb : ∀ (v620 : BitVec 32) (k0_hw83 : k0_chk83 v620), ∀ a, (k0_off1666 v620) a + S1x16.size a ≤ S512x128.size a := fun v620 k0_hw83 => k0_hw83.2.2.2.2.1
theorem k0_off1668_inb : ∀ (v620 : BitVec 32) (k0_hw83 : k0_chk83 v620), ∀ a, (k0_off1668 v620) a + S1x16.size a ≤ S512x128.size a := fun v620 k0_hw83 => k0_hw83.2.2.2.2.2.1
theorem k0_off1670_inb : ∀ (v620 : BitVec 32) (k0_hw83 : k0_chk83 v620), ∀ a, (k0_off1670 v620) a + S1x16.size a ≤ S512x128.size a := fun v620 k0_hw83 => k0_hw83.2.2.2.2.2.2.1
theorem k0_off1672_inb : ∀ (v620 : BitVec 32) (k0_hw83 : k0_chk83 v620), ∀ a, (k0_off1672 v620) a + S1x16.size a ≤ S512x128.size a := fun v620 k0_hw83 => k0_hw83.2.2.2.2.2.2.2

def k0_off1673 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v787 : Index := Scalar.indexCast v618
  let c0_251 : Index := 0#32
  ![v787.toNat, 0]
def k0_off1674 (v622 : BitVec 32) : Fin 2 → Nat :=
  let v789 : Index := Scalar.indexCast v622
  let c0_252 : Index := 0#32
  ![v789.toNat, 0]

def k0_off1675 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v795 : Index := Scalar.indexCast v618
  let c16_253 : Index := 16#32
  ![v795.toNat, 16]
def k0_off1676 (v622 : BitVec 32) : Fin 2 → Nat :=
  let v797 : Index := Scalar.indexCast v622
  let c16_254 : Index := 16#32
  ![v797.toNat, 16]
def k0_off1677 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v803 : Index := Scalar.indexCast v618
  let c32_255 : Index := 32#32
  ![v803.toNat, 32]
def k0_off1678 (v622 : BitVec 32) : Fin 2 → Nat :=
  let v805 : Index := Scalar.indexCast v622
  let c32_256 : Index := 32#32
  ![v805.toNat, 32]
def k0_off1679 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v811 : Index := Scalar.indexCast v618
  let c48_257 : Index := 48#32
  ![v811.toNat, 48]
def k0_off1680 (v622 : BitVec 32) : Fin 2 → Nat :=
  let v813 : Index := Scalar.indexCast v622
  let c48_258 : Index := 48#32
  ![v813.toNat, 48]
def k0_off1681 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v819 : Index := Scalar.indexCast v618
  let c64_259 : Index := 64#32
  ![v819.toNat, 64]
def k0_off1682 (v622 : BitVec 32) : Fin 2 → Nat :=
  let v821 : Index := Scalar.indexCast v622
  let c64_260 : Index := 64#32
  ![v821.toNat, 64]
def k0_off1683 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v827 : Index := Scalar.indexCast v618
  let c80_261 : Index := 80#32
  ![v827.toNat, 80]
def k0_off1684 (v622 : BitVec 32) : Fin 2 → Nat :=
  let v829 : Index := Scalar.indexCast v622
  let c80_262 : Index := 80#32
  ![v829.toNat, 80]
def k0_off1685 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v835 : Index := Scalar.indexCast v618
  let c96_263 : Index := 96#32
  ![v835.toNat, 96]
def k0_off1686 (v622 : BitVec 32) : Fin 2 → Nat :=
  let v837 : Index := Scalar.indexCast v622
  let c96_264 : Index := 96#32
  ![v837.toNat, 96]
def k0_off1687 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v843 : Index := Scalar.indexCast v618
  let c112_265 : Index := 112#32
  ![v843.toNat, 112]
def k0_off1688 (v622 : BitVec 32) : Fin 2 → Nat :=
  let v845 : Index := Scalar.indexCast v622
  let c112_266 : Index := 112#32
  ![v845.toNat, 112]

def k0_chk84 (v622 : BitVec 32) : Prop :=
  (∀ a, (k0_off1674 v622) a + S1x16.size a ≤ S512x128.size a) ∧
  (∀ a, (k0_off1676 v622) a + S1x16.size a ≤ S512x128.size a) ∧
  (∀ a, (k0_off1678 v622) a + S1x16.size a ≤ S512x128.size a) ∧
  (∀ a, (k0_off1680 v622) a + S1x16.size a ≤ S512x128.size a) ∧
  (∀ a, (k0_off1682 v622) a + S1x16.size a ≤ S512x128.size a) ∧
  (∀ a, (k0_off1684 v622) a + S1x16.size a ≤ S512x128.size a) ∧
  (∀ a, (k0_off1686 v622) a + S1x16.size a ≤ S512x128.size a) ∧
  (∀ a, (k0_off1688 v622) a + S1x16.size a ≤ S512x128.size a)
theorem k0_off1674_inb : ∀ (v622 : BitVec 32) (k0_hw84 : k0_chk84 v622), ∀ a, (k0_off1674 v622) a + S1x16.size a ≤ S512x128.size a := fun v622 k0_hw84 => k0_hw84.1
theorem k0_off1676_inb : ∀ (v622 : BitVec 32) (k0_hw84 : k0_chk84 v622), ∀ a, (k0_off1676 v622) a + S1x16.size a ≤ S512x128.size a := fun v622 k0_hw84 => k0_hw84.2.1
theorem k0_off1678_inb : ∀ (v622 : BitVec 32) (k0_hw84 : k0_chk84 v622), ∀ a, (k0_off1678 v622) a + S1x16.size a ≤ S512x128.size a := fun v622 k0_hw84 => k0_hw84.2.2.1
theorem k0_off1680_inb : ∀ (v622 : BitVec 32) (k0_hw84 : k0_chk84 v622), ∀ a, (k0_off1680 v622) a + S1x16.size a ≤ S512x128.size a := fun v622 k0_hw84 => k0_hw84.2.2.2.1
theorem k0_off1682_inb : ∀ (v622 : BitVec 32) (k0_hw84 : k0_chk84 v622), ∀ a, (k0_off1682 v622) a + S1x16.size a ≤ S512x128.size a := fun v622 k0_hw84 => k0_hw84.2.2.2.2.1
theorem k0_off1684_inb : ∀ (v622 : BitVec 32) (k0_hw84 : k0_chk84 v622), ∀ a, (k0_off1684 v622) a + S1x16.size a ≤ S512x128.size a := fun v622 k0_hw84 => k0_hw84.2.2.2.2.2.1
theorem k0_off1686_inb : ∀ (v622 : BitVec 32) (k0_hw84 : k0_chk84 v622), ∀ a, (k0_off1686 v622) a + S1x16.size a ≤ S512x128.size a := fun v622 k0_hw84 => k0_hw84.2.2.2.2.2.2.1
theorem k0_off1688_inb : ∀ (v622 : BitVec 32) (k0_hw84 : k0_chk84 v622), ∀ a, (k0_off1688 v622) a + S1x16.size a ≤ S512x128.size a := fun v622 k0_hw84 => k0_hw84.2.2.2.2.2.2.2

def k0_off1689 (k0_t7 : Fin k0_t7_loop.trips) (c2_i32_228 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v616 : BitVec 32 := Scalar.addi v147 c2_i32_228
  let v983 : Index := Scalar.indexCast v616
  let c0_274 : Index := 0#32
  ![v983.toNat, 0]
def k0_off1690 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v989 : Index := Scalar.indexCast v616
  let c16_275 : Index := 16#32
  ![v989.toNat, 16]
def k0_off1691 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v995 : Index := Scalar.indexCast v616
  let c32_276 : Index := 32#32
  ![v995.toNat, 32]
def k0_off1692 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v1001 : Index := Scalar.indexCast v616
  let c48_277 : Index := 48#32
  ![v1001.toNat, 48]
def k0_off1693 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v1007 : Index := Scalar.indexCast v616
  let c64_278 : Index := 64#32
  ![v1007.toNat, 64]
def k0_off1694 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v1013 : Index := Scalar.indexCast v616
  let c80_279 : Index := 80#32
  ![v1013.toNat, 80]
def k0_off1695 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v1019 : Index := Scalar.indexCast v616
  let c96_280 : Index := 96#32
  ![v1019.toNat, 96]
def k0_off1696 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_228 : BitVec 32 := 2#32
  let v616 : BitVec 32 := Scalar.addi v147 c2_i32_228
  let v1025 : Index := Scalar.indexCast v616
  let c112_281 : Index := 112#32
  ![v1025.toNat, 112]
def k0_off1697 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c2_i32_229 : BitVec 32 := 2#32
  let v617 : BitVec 32 := Scalar.addi v147 c2_i32_229
  let c1_i32_230 : BitVec 32 := 1#32
  let v618 : BitVec 32 := Scalar.addi v617 c1_i32_230
  let v1037 : Index := Scalar.indexCast v618
  let c0_282 : Index := 0#32
  ![v1037.toNat, 0]
def k0_off1698 (v1085 : BitVec 32) : Fin 2 → Nat :=
  let v1092 : Index := Scalar.indexCast v1085
  let c0_296 : Index := 0#32
  ![v1092.toNat, 0]

def k0_off1699 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1098 : Index := Scalar.indexCast v1081
  let c16_297 : Index := 16#32
  ![v1098.toNat, 16]
def k0_off1700 (v1085 : BitVec 32) : Fin 2 → Nat :=
  let v1100 : Index := Scalar.indexCast v1085
  let c16_298 : Index := 16#32
  ![v1100.toNat, 16]
def k0_off1701 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1106 : Index := Scalar.indexCast v1081
  let c32_299 : Index := 32#32
  ![v1106.toNat, 32]
def k0_off1702 (v1085 : BitVec 32) : Fin 2 → Nat :=
  let v1108 : Index := Scalar.indexCast v1085
  let c32_300 : Index := 32#32
  ![v1108.toNat, 32]
def k0_off1703 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1114 : Index := Scalar.indexCast v1081
  let c48_301 : Index := 48#32
  ![v1114.toNat, 48]
def k0_off1704 (v1085 : BitVec 32) : Fin 2 → Nat :=
  let v1116 : Index := Scalar.indexCast v1085
  let c48_302 : Index := 48#32
  ![v1116.toNat, 48]
def k0_off1705 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1122 : Index := Scalar.indexCast v1081
  let c64_303 : Index := 64#32
  ![v1122.toNat, 64]
def k0_off1706 (v1085 : BitVec 32) : Fin 2 → Nat :=
  let v1124 : Index := Scalar.indexCast v1085
  let c64_304 : Index := 64#32
  ![v1124.toNat, 64]
def k0_off1707 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1130 : Index := Scalar.indexCast v1081
  let c80_305 : Index := 80#32
  ![v1130.toNat, 80]
def k0_off1708 (v1085 : BitVec 32) : Fin 2 → Nat :=
  let v1132 : Index := Scalar.indexCast v1085
  let c80_306 : Index := 80#32
  ![v1132.toNat, 80]
def k0_off1709 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1138 : Index := Scalar.indexCast v1081
  let c96_307 : Index := 96#32
  ![v1138.toNat, 96]
def k0_off1710 (v1085 : BitVec 32) : Fin 2 → Nat :=
  let v1140 : Index := Scalar.indexCast v1085
  let c96_308 : Index := 96#32
  ![v1140.toNat, 96]
def k0_off1711 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1146 : Index := Scalar.indexCast v1081
  let c112_309 : Index := 112#32
  ![v1146.toNat, 112]
def k0_off1712 (v1085 : BitVec 32) : Fin 2 → Nat :=
  let v1148 : Index := Scalar.indexCast v1085
  let c112_310 : Index := 112#32
  ![v1148.toNat, 112]

def k0_chk85 (v1085 : BitVec 32) : Prop :=
  (∀ a, (k0_off1698 v1085) a + S1x16.size a ≤ S512x128.size a) ∧
  (∀ a, (k0_off1700 v1085) a + S1x16.size a ≤ S512x128.size a) ∧
  (∀ a, (k0_off1702 v1085) a + S1x16.size a ≤ S512x128.size a) ∧
  (∀ a, (k0_off1704 v1085) a + S1x16.size a ≤ S512x128.size a) ∧
  (∀ a, (k0_off1706 v1085) a + S1x16.size a ≤ S512x128.size a) ∧
  (∀ a, (k0_off1708 v1085) a + S1x16.size a ≤ S512x128.size a) ∧
  (∀ a, (k0_off1710 v1085) a + S1x16.size a ≤ S512x128.size a) ∧
  (∀ a, (k0_off1712 v1085) a + S1x16.size a ≤ S512x128.size a)
theorem k0_off1698_inb : ∀ (v1085 : BitVec 32) (k0_hw85 : k0_chk85 v1085), ∀ a, (k0_off1698 v1085) a + S1x16.size a ≤ S512x128.size a := fun v1085 k0_hw85 => k0_hw85.1
theorem k0_off1700_inb : ∀ (v1085 : BitVec 32) (k0_hw85 : k0_chk85 v1085), ∀ a, (k0_off1700 v1085) a + S1x16.size a ≤ S512x128.size a := fun v1085 k0_hw85 => k0_hw85.2.1
theorem k0_off1702_inb : ∀ (v1085 : BitVec 32) (k0_hw85 : k0_chk85 v1085), ∀ a, (k0_off1702 v1085) a + S1x16.size a ≤ S512x128.size a := fun v1085 k0_hw85 => k0_hw85.2.2.1
theorem k0_off1704_inb : ∀ (v1085 : BitVec 32) (k0_hw85 : k0_chk85 v1085), ∀ a, (k0_off1704 v1085) a + S1x16.size a ≤ S512x128.size a := fun v1085 k0_hw85 => k0_hw85.2.2.2.1
theorem k0_off1706_inb : ∀ (v1085 : BitVec 32) (k0_hw85 : k0_chk85 v1085), ∀ a, (k0_off1706 v1085) a + S1x16.size a ≤ S512x128.size a := fun v1085 k0_hw85 => k0_hw85.2.2.2.2.1
theorem k0_off1708_inb : ∀ (v1085 : BitVec 32) (k0_hw85 : k0_chk85 v1085), ∀ a, (k0_off1708 v1085) a + S1x16.size a ≤ S512x128.size a := fun v1085 k0_hw85 => k0_hw85.2.2.2.2.2.1
theorem k0_off1710_inb : ∀ (v1085 : BitVec 32) (k0_hw85 : k0_chk85 v1085), ∀ a, (k0_off1710 v1085) a + S1x16.size a ≤ S512x128.size a := fun v1085 k0_hw85 => k0_hw85.2.2.2.2.2.2.1
theorem k0_off1712_inb : ∀ (v1085 : BitVec 32) (k0_hw85 : k0_chk85 v1085), ∀ a, (k0_off1712 v1085) a + S1x16.size a ≤ S512x128.size a := fun v1085 k0_hw85 => k0_hw85.2.2.2.2.2.2.2

def k0_off1713 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1252 : Index := Scalar.indexCast v1083
  let c0_313 : Index := 0#32
  ![v1252.toNat, 0]
def k0_off1714 (v1087 : BitVec 32) : Fin 2 → Nat :=
  let v1254 : Index := Scalar.indexCast v1087
  let c0_314 : Index := 0#32
  ![v1254.toNat, 0]

def k0_off1715 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1260 : Index := Scalar.indexCast v1083
  let c16_315 : Index := 16#32
  ![v1260.toNat, 16]
def k0_off1716 (v1087 : BitVec 32) : Fin 2 → Nat :=
  let v1262 : Index := Scalar.indexCast v1087
  let c16_316 : Index := 16#32
  ![v1262.toNat, 16]
def k0_off1717 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1268 : Index := Scalar.indexCast v1083
  let c32_317 : Index := 32#32
  ![v1268.toNat, 32]
def k0_off1718 (v1087 : BitVec 32) : Fin 2 → Nat :=
  let v1270 : Index := Scalar.indexCast v1087
  let c32_318 : Index := 32#32
  ![v1270.toNat, 32]
def k0_off1719 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1276 : Index := Scalar.indexCast v1083
  let c48_319 : Index := 48#32
  ![v1276.toNat, 48]
def k0_off1720 (v1087 : BitVec 32) : Fin 2 → Nat :=
  let v1278 : Index := Scalar.indexCast v1087
  let c48_320 : Index := 48#32
  ![v1278.toNat, 48]
def k0_off1721 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1284 : Index := Scalar.indexCast v1083
  let c64_321 : Index := 64#32
  ![v1284.toNat, 64]
def k0_off1722 (v1087 : BitVec 32) : Fin 2 → Nat :=
  let v1286 : Index := Scalar.indexCast v1087
  let c64_322 : Index := 64#32
  ![v1286.toNat, 64]
def k0_off1723 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1292 : Index := Scalar.indexCast v1083
  let c80_323 : Index := 80#32
  ![v1292.toNat, 80]
def k0_off1724 (v1087 : BitVec 32) : Fin 2 → Nat :=
  let v1294 : Index := Scalar.indexCast v1087
  let c80_324 : Index := 80#32
  ![v1294.toNat, 80]
def k0_off1725 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1300 : Index := Scalar.indexCast v1083
  let c96_325 : Index := 96#32
  ![v1300.toNat, 96]
def k0_off1726 (v1087 : BitVec 32) : Fin 2 → Nat :=
  let v1302 : Index := Scalar.indexCast v1087
  let c96_326 : Index := 96#32
  ![v1302.toNat, 96]
def k0_off1727 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1308 : Index := Scalar.indexCast v1083
  let c112_327 : Index := 112#32
  ![v1308.toNat, 112]
def k0_off1728 (v1087 : BitVec 32) : Fin 2 → Nat :=
  let v1310 : Index := Scalar.indexCast v1087
  let c112_328 : Index := 112#32
  ![v1310.toNat, 112]

def k0_chk86 (v1087 : BitVec 32) : Prop :=
  (∀ a, (k0_off1714 v1087) a + S1x16.size a ≤ S512x128.size a) ∧
  (∀ a, (k0_off1716 v1087) a + S1x16.size a ≤ S512x128.size a) ∧
  (∀ a, (k0_off1718 v1087) a + S1x16.size a ≤ S512x128.size a) ∧
  (∀ a, (k0_off1720 v1087) a + S1x16.size a ≤ S512x128.size a) ∧
  (∀ a, (k0_off1722 v1087) a + S1x16.size a ≤ S512x128.size a) ∧
  (∀ a, (k0_off1724 v1087) a + S1x16.size a ≤ S512x128.size a) ∧
  (∀ a, (k0_off1726 v1087) a + S1x16.size a ≤ S512x128.size a) ∧
  (∀ a, (k0_off1728 v1087) a + S1x16.size a ≤ S512x128.size a)
theorem k0_off1714_inb : ∀ (v1087 : BitVec 32) (k0_hw86 : k0_chk86 v1087), ∀ a, (k0_off1714 v1087) a + S1x16.size a ≤ S512x128.size a := fun v1087 k0_hw86 => k0_hw86.1
theorem k0_off1716_inb : ∀ (v1087 : BitVec 32) (k0_hw86 : k0_chk86 v1087), ∀ a, (k0_off1716 v1087) a + S1x16.size a ≤ S512x128.size a := fun v1087 k0_hw86 => k0_hw86.2.1
theorem k0_off1718_inb : ∀ (v1087 : BitVec 32) (k0_hw86 : k0_chk86 v1087), ∀ a, (k0_off1718 v1087) a + S1x16.size a ≤ S512x128.size a := fun v1087 k0_hw86 => k0_hw86.2.2.1
theorem k0_off1720_inb : ∀ (v1087 : BitVec 32) (k0_hw86 : k0_chk86 v1087), ∀ a, (k0_off1720 v1087) a + S1x16.size a ≤ S512x128.size a := fun v1087 k0_hw86 => k0_hw86.2.2.2.1
theorem k0_off1722_inb : ∀ (v1087 : BitVec 32) (k0_hw86 : k0_chk86 v1087), ∀ a, (k0_off1722 v1087) a + S1x16.size a ≤ S512x128.size a := fun v1087 k0_hw86 => k0_hw86.2.2.2.2.1
theorem k0_off1724_inb : ∀ (v1087 : BitVec 32) (k0_hw86 : k0_chk86 v1087), ∀ a, (k0_off1724 v1087) a + S1x16.size a ≤ S512x128.size a := fun v1087 k0_hw86 => k0_hw86.2.2.2.2.2.1
theorem k0_off1726_inb : ∀ (v1087 : BitVec 32) (k0_hw86 : k0_chk86 v1087), ∀ a, (k0_off1726 v1087) a + S1x16.size a ≤ S512x128.size a := fun v1087 k0_hw86 => k0_hw86.2.2.2.2.2.2.1
theorem k0_off1728_inb : ∀ (v1087 : BitVec 32) (k0_hw86 : k0_chk86 v1087), ∀ a, (k0_off1728 v1087) a + S1x16.size a ≤ S512x128.size a := fun v1087 k0_hw86 => k0_hw86.2.2.2.2.2.2.2

def k0_off1729 (k0_t7 : Fin k0_t7_loop.trips) (c4_i32_290 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v1081 : BitVec 32 := Scalar.addi v147 c4_i32_290
  let v1448 : Index := Scalar.indexCast v1081
  let c0_336 : Index := 0#32
  ![v1448.toNat, 0]
def k0_off1730 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1454 : Index := Scalar.indexCast v1081
  let c16_337 : Index := 16#32
  ![v1454.toNat, 16]
def k0_off1731 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1460 : Index := Scalar.indexCast v1081
  let c32_338 : Index := 32#32
  ![v1460.toNat, 32]
def k0_off1732 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1466 : Index := Scalar.indexCast v1081
  let c48_339 : Index := 48#32
  ![v1466.toNat, 48]
def k0_off1733 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1472 : Index := Scalar.indexCast v1081
  let c64_340 : Index := 64#32
  ![v1472.toNat, 64]
def k0_off1734 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1478 : Index := Scalar.indexCast v1081
  let c80_341 : Index := 80#32
  ![v1478.toNat, 80]
def k0_off1735 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1484 : Index := Scalar.indexCast v1081
  let c96_342 : Index := 96#32
  ![v1484.toNat, 96]
def k0_off1736 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_290 : BitVec 32 := 4#32
  let v1081 : BitVec 32 := Scalar.addi v147 c4_i32_290
  let v1490 : Index := Scalar.indexCast v1081
  let c112_343 : Index := 112#32
  ![v1490.toNat, 112]
def k0_off1737 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c4_i32_291 : BitVec 32 := 4#32
  let v1082 : BitVec 32 := Scalar.addi v147 c4_i32_291
  let c1_i32_292 : BitVec 32 := 1#32
  let v1083 : BitVec 32 := Scalar.addi v1082 c1_i32_292
  let v1502 : Index := Scalar.indexCast v1083
  let c0_344 : Index := 0#32
  ![v1502.toNat, 0]
def k0_off1738 (v1550 : BitVec 32) : Fin 2 → Nat :=
  let v1557 : Index := Scalar.indexCast v1550
  let c0_357 : Index := 0#32
  ![v1557.toNat, 0]

def k0_off1739 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1563 : Index := Scalar.indexCast v1546
  let c16_358 : Index := 16#32
  ![v1563.toNat, 16]
def k0_off1740 (v1550 : BitVec 32) : Fin 2 → Nat :=
  let v1565 : Index := Scalar.indexCast v1550
  let c16_359 : Index := 16#32
  ![v1565.toNat, 16]
def k0_off1741 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1571 : Index := Scalar.indexCast v1546
  let c32_360 : Index := 32#32
  ![v1571.toNat, 32]
def k0_off1742 (v1550 : BitVec 32) : Fin 2 → Nat :=
  let v1573 : Index := Scalar.indexCast v1550
  let c32_361 : Index := 32#32
  ![v1573.toNat, 32]
def k0_off1743 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1579 : Index := Scalar.indexCast v1546
  let c48_362 : Index := 48#32
  ![v1579.toNat, 48]
def k0_off1744 (v1550 : BitVec 32) : Fin 2 → Nat :=
  let v1581 : Index := Scalar.indexCast v1550
  let c48_363 : Index := 48#32
  ![v1581.toNat, 48]
def k0_off1745 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1587 : Index := Scalar.indexCast v1546
  let c64_364 : Index := 64#32
  ![v1587.toNat, 64]
def k0_off1746 (v1550 : BitVec 32) : Fin 2 → Nat :=
  let v1589 : Index := Scalar.indexCast v1550
  let c64_365 : Index := 64#32
  ![v1589.toNat, 64]
def k0_off1747 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1595 : Index := Scalar.indexCast v1546
  let c80_366 : Index := 80#32
  ![v1595.toNat, 80]
def k0_off1748 (v1550 : BitVec 32) : Fin 2 → Nat :=
  let v1597 : Index := Scalar.indexCast v1550
  let c80_367 : Index := 80#32
  ![v1597.toNat, 80]
def k0_off1749 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1603 : Index := Scalar.indexCast v1546
  let c96_368 : Index := 96#32
  ![v1603.toNat, 96]
def k0_off1750 (v1550 : BitVec 32) : Fin 2 → Nat :=
  let v1605 : Index := Scalar.indexCast v1550
  let c96_369 : Index := 96#32
  ![v1605.toNat, 96]
def k0_off1751 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1611 : Index := Scalar.indexCast v1546
  let c112_370 : Index := 112#32
  ![v1611.toNat, 112]
def k0_off1752 (v1550 : BitVec 32) : Fin 2 → Nat :=
  let v1613 : Index := Scalar.indexCast v1550
  let c112_371 : Index := 112#32
  ![v1613.toNat, 112]

def k0_chk87 (v1550 : BitVec 32) : Prop :=
  (∀ a, (k0_off1738 v1550) a + S1x16.size a ≤ S512x128.size a) ∧
  (∀ a, (k0_off1740 v1550) a + S1x16.size a ≤ S512x128.size a) ∧
  (∀ a, (k0_off1742 v1550) a + S1x16.size a ≤ S512x128.size a) ∧
  (∀ a, (k0_off1744 v1550) a + S1x16.size a ≤ S512x128.size a) ∧
  (∀ a, (k0_off1746 v1550) a + S1x16.size a ≤ S512x128.size a) ∧
  (∀ a, (k0_off1748 v1550) a + S1x16.size a ≤ S512x128.size a) ∧
  (∀ a, (k0_off1750 v1550) a + S1x16.size a ≤ S512x128.size a) ∧
  (∀ a, (k0_off1752 v1550) a + S1x16.size a ≤ S512x128.size a)
theorem k0_off1738_inb : ∀ (v1550 : BitVec 32) (k0_hw87 : k0_chk87 v1550), ∀ a, (k0_off1738 v1550) a + S1x16.size a ≤ S512x128.size a := fun v1550 k0_hw87 => k0_hw87.1
theorem k0_off1740_inb : ∀ (v1550 : BitVec 32) (k0_hw87 : k0_chk87 v1550), ∀ a, (k0_off1740 v1550) a + S1x16.size a ≤ S512x128.size a := fun v1550 k0_hw87 => k0_hw87.2.1
theorem k0_off1742_inb : ∀ (v1550 : BitVec 32) (k0_hw87 : k0_chk87 v1550), ∀ a, (k0_off1742 v1550) a + S1x16.size a ≤ S512x128.size a := fun v1550 k0_hw87 => k0_hw87.2.2.1
theorem k0_off1744_inb : ∀ (v1550 : BitVec 32) (k0_hw87 : k0_chk87 v1550), ∀ a, (k0_off1744 v1550) a + S1x16.size a ≤ S512x128.size a := fun v1550 k0_hw87 => k0_hw87.2.2.2.1
theorem k0_off1746_inb : ∀ (v1550 : BitVec 32) (k0_hw87 : k0_chk87 v1550), ∀ a, (k0_off1746 v1550) a + S1x16.size a ≤ S512x128.size a := fun v1550 k0_hw87 => k0_hw87.2.2.2.2.1
theorem k0_off1748_inb : ∀ (v1550 : BitVec 32) (k0_hw87 : k0_chk87 v1550), ∀ a, (k0_off1748 v1550) a + S1x16.size a ≤ S512x128.size a := fun v1550 k0_hw87 => k0_hw87.2.2.2.2.2.1
theorem k0_off1750_inb : ∀ (v1550 : BitVec 32) (k0_hw87 : k0_chk87 v1550), ∀ a, (k0_off1750 v1550) a + S1x16.size a ≤ S512x128.size a := fun v1550 k0_hw87 => k0_hw87.2.2.2.2.2.2.1
theorem k0_off1752_inb : ∀ (v1550 : BitVec 32) (k0_hw87 : k0_chk87 v1550), ∀ a, (k0_off1752 v1550) a + S1x16.size a ≤ S512x128.size a := fun v1550 k0_hw87 => k0_hw87.2.2.2.2.2.2.2

def k0_off1753 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1717 : Index := Scalar.indexCast v1548
  let c0_374 : Index := 0#32
  ![v1717.toNat, 0]
def k0_off1754 (v1552 : BitVec 32) : Fin 2 → Nat :=
  let v1719 : Index := Scalar.indexCast v1552
  let c0_375 : Index := 0#32
  ![v1719.toNat, 0]

def k0_off1755 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1725 : Index := Scalar.indexCast v1548
  let c16_376 : Index := 16#32
  ![v1725.toNat, 16]
def k0_off1756 (v1552 : BitVec 32) : Fin 2 → Nat :=
  let v1727 : Index := Scalar.indexCast v1552
  let c16_377 : Index := 16#32
  ![v1727.toNat, 16]
def k0_off1757 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1733 : Index := Scalar.indexCast v1548
  let c32_378 : Index := 32#32
  ![v1733.toNat, 32]
def k0_off1758 (v1552 : BitVec 32) : Fin 2 → Nat :=
  let v1735 : Index := Scalar.indexCast v1552
  let c32_379 : Index := 32#32
  ![v1735.toNat, 32]
def k0_off1759 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1741 : Index := Scalar.indexCast v1548
  let c48_380 : Index := 48#32
  ![v1741.toNat, 48]
def k0_off1760 (v1552 : BitVec 32) : Fin 2 → Nat :=
  let v1743 : Index := Scalar.indexCast v1552
  let c48_381 : Index := 48#32
  ![v1743.toNat, 48]
def k0_off1761 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1749 : Index := Scalar.indexCast v1548
  let c64_382 : Index := 64#32
  ![v1749.toNat, 64]
def k0_off1762 (v1552 : BitVec 32) : Fin 2 → Nat :=
  let v1751 : Index := Scalar.indexCast v1552
  let c64_383 : Index := 64#32
  ![v1751.toNat, 64]
def k0_off1763 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1757 : Index := Scalar.indexCast v1548
  let c80_384 : Index := 80#32
  ![v1757.toNat, 80]
def k0_off1764 (v1552 : BitVec 32) : Fin 2 → Nat :=
  let v1759 : Index := Scalar.indexCast v1552
  let c80_385 : Index := 80#32
  ![v1759.toNat, 80]
def k0_off1765 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1765 : Index := Scalar.indexCast v1548
  let c96_386 : Index := 96#32
  ![v1765.toNat, 96]
def k0_off1766 (v1552 : BitVec 32) : Fin 2 → Nat :=
  let v1767 : Index := Scalar.indexCast v1552
  let c96_387 : Index := 96#32
  ![v1767.toNat, 96]
def k0_off1767 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1773 : Index := Scalar.indexCast v1548
  let c112_388 : Index := 112#32
  ![v1773.toNat, 112]
def k0_off1768 (v1552 : BitVec 32) : Fin 2 → Nat :=
  let v1775 : Index := Scalar.indexCast v1552
  let c112_389 : Index := 112#32
  ![v1775.toNat, 112]

def k0_chk88 (v1552 : BitVec 32) : Prop :=
  (∀ a, (k0_off1754 v1552) a + S1x16.size a ≤ S512x128.size a) ∧
  (∀ a, (k0_off1756 v1552) a + S1x16.size a ≤ S512x128.size a) ∧
  (∀ a, (k0_off1758 v1552) a + S1x16.size a ≤ S512x128.size a) ∧
  (∀ a, (k0_off1760 v1552) a + S1x16.size a ≤ S512x128.size a) ∧
  (∀ a, (k0_off1762 v1552) a + S1x16.size a ≤ S512x128.size a) ∧
  (∀ a, (k0_off1764 v1552) a + S1x16.size a ≤ S512x128.size a) ∧
  (∀ a, (k0_off1766 v1552) a + S1x16.size a ≤ S512x128.size a) ∧
  (∀ a, (k0_off1768 v1552) a + S1x16.size a ≤ S512x128.size a)
theorem k0_off1754_inb : ∀ (v1552 : BitVec 32) (k0_hw88 : k0_chk88 v1552), ∀ a, (k0_off1754 v1552) a + S1x16.size a ≤ S512x128.size a := fun v1552 k0_hw88 => k0_hw88.1
theorem k0_off1756_inb : ∀ (v1552 : BitVec 32) (k0_hw88 : k0_chk88 v1552), ∀ a, (k0_off1756 v1552) a + S1x16.size a ≤ S512x128.size a := fun v1552 k0_hw88 => k0_hw88.2.1
theorem k0_off1758_inb : ∀ (v1552 : BitVec 32) (k0_hw88 : k0_chk88 v1552), ∀ a, (k0_off1758 v1552) a + S1x16.size a ≤ S512x128.size a := fun v1552 k0_hw88 => k0_hw88.2.2.1
theorem k0_off1760_inb : ∀ (v1552 : BitVec 32) (k0_hw88 : k0_chk88 v1552), ∀ a, (k0_off1760 v1552) a + S1x16.size a ≤ S512x128.size a := fun v1552 k0_hw88 => k0_hw88.2.2.2.1
theorem k0_off1762_inb : ∀ (v1552 : BitVec 32) (k0_hw88 : k0_chk88 v1552), ∀ a, (k0_off1762 v1552) a + S1x16.size a ≤ S512x128.size a := fun v1552 k0_hw88 => k0_hw88.2.2.2.2.1
theorem k0_off1764_inb : ∀ (v1552 : BitVec 32) (k0_hw88 : k0_chk88 v1552), ∀ a, (k0_off1764 v1552) a + S1x16.size a ≤ S512x128.size a := fun v1552 k0_hw88 => k0_hw88.2.2.2.2.2.1
theorem k0_off1766_inb : ∀ (v1552 : BitVec 32) (k0_hw88 : k0_chk88 v1552), ∀ a, (k0_off1766 v1552) a + S1x16.size a ≤ S512x128.size a := fun v1552 k0_hw88 => k0_hw88.2.2.2.2.2.2.1
theorem k0_off1768_inb : ∀ (v1552 : BitVec 32) (k0_hw88 : k0_chk88 v1552), ∀ a, (k0_off1768 v1552) a + S1x16.size a ≤ S512x128.size a := fun v1552 k0_hw88 => k0_hw88.2.2.2.2.2.2.2

def k0_off1769 (k0_t7 : Fin k0_t7_loop.trips) (c6_i32 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v1546 : BitVec 32 := Scalar.addi v147 c6_i32
  let v1913 : Index := Scalar.indexCast v1546
  let c0_397 : Index := 0#32
  ![v1913.toNat, 0]
def k0_off1770 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1919 : Index := Scalar.indexCast v1546
  let c16_398 : Index := 16#32
  ![v1919.toNat, 16]
def k0_off1771 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1925 : Index := Scalar.indexCast v1546
  let c32_399 : Index := 32#32
  ![v1925.toNat, 32]
def k0_off1772 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1931 : Index := Scalar.indexCast v1546
  let c48_400 : Index := 48#32
  ![v1931.toNat, 48]
def k0_off1773 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1937 : Index := Scalar.indexCast v1546
  let c64_401 : Index := 64#32
  ![v1937.toNat, 64]
def k0_off1774 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1943 : Index := Scalar.indexCast v1546
  let c80_402 : Index := 80#32
  ![v1943.toNat, 80]
def k0_off1775 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1949 : Index := Scalar.indexCast v1546
  let c96_403 : Index := 96#32
  ![v1949.toNat, 96]
def k0_off1776 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32 : BitVec 32 := 6#32
  let v1546 : BitVec 32 := Scalar.addi v147 c6_i32
  let v1955 : Index := Scalar.indexCast v1546
  let c112_404 : Index := 112#32
  ![v1955.toNat, 112]
def k0_off1777 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c6_i32_352 : BitVec 32 := 6#32
  let v1547 : BitVec 32 := Scalar.addi v147 c6_i32_352
  let c1_i32_353 : BitVec 32 := 1#32
  let v1548 : BitVec 32 := Scalar.addi v1547 c1_i32_353
  let v1967 : Index := Scalar.indexCast v1548
  let c0_405 : Index := 0#32
  ![v1967.toNat, 0]
def k0_off1778 (v2015 : BitVec 32) : Fin 2 → Nat :=
  let v2022 : Index := Scalar.indexCast v2015
  let c0_419 : Index := 0#32
  ![v2022.toNat, 0]

def k0_off1779 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2028 : Index := Scalar.indexCast v2011
  let c16_420 : Index := 16#32
  ![v2028.toNat, 16]
def k0_off1780 (v2015 : BitVec 32) : Fin 2 → Nat :=
  let v2030 : Index := Scalar.indexCast v2015
  let c16_421 : Index := 16#32
  ![v2030.toNat, 16]
def k0_off1781 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2036 : Index := Scalar.indexCast v2011
  let c32_422 : Index := 32#32
  ![v2036.toNat, 32]
def k0_off1782 (v2015 : BitVec 32) : Fin 2 → Nat :=
  let v2038 : Index := Scalar.indexCast v2015
  let c32_423 : Index := 32#32
  ![v2038.toNat, 32]
def k0_off1783 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2044 : Index := Scalar.indexCast v2011
  let c48_424 : Index := 48#32
  ![v2044.toNat, 48]
def k0_off1784 (v2015 : BitVec 32) : Fin 2 → Nat :=
  let v2046 : Index := Scalar.indexCast v2015
  let c48_425 : Index := 48#32
  ![v2046.toNat, 48]
def k0_off1785 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2052 : Index := Scalar.indexCast v2011
  let c64_426 : Index := 64#32
  ![v2052.toNat, 64]
def k0_off1786 (v2015 : BitVec 32) : Fin 2 → Nat :=
  let v2054 : Index := Scalar.indexCast v2015
  let c64_427 : Index := 64#32
  ![v2054.toNat, 64]
def k0_off1787 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2060 : Index := Scalar.indexCast v2011
  let c80_428 : Index := 80#32
  ![v2060.toNat, 80]
def k0_off1788 (v2015 : BitVec 32) : Fin 2 → Nat :=
  let v2062 : Index := Scalar.indexCast v2015
  let c80_429 : Index := 80#32
  ![v2062.toNat, 80]
def k0_off1789 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2068 : Index := Scalar.indexCast v2011
  let c96_430 : Index := 96#32
  ![v2068.toNat, 96]
def k0_off1790 (v2015 : BitVec 32) : Fin 2 → Nat :=
  let v2070 : Index := Scalar.indexCast v2015
  let c96_431 : Index := 96#32
  ![v2070.toNat, 96]
def k0_off1791 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2076 : Index := Scalar.indexCast v2011
  let c112_432 : Index := 112#32
  ![v2076.toNat, 112]
def k0_off1792 (v2015 : BitVec 32) : Fin 2 → Nat :=
  let v2078 : Index := Scalar.indexCast v2015
  let c112_433 : Index := 112#32
  ![v2078.toNat, 112]

def k0_chk89 (v2015 : BitVec 32) : Prop :=
  (∀ a, (k0_off1778 v2015) a + S1x16.size a ≤ S512x128.size a) ∧
  (∀ a, (k0_off1780 v2015) a + S1x16.size a ≤ S512x128.size a) ∧
  (∀ a, (k0_off1782 v2015) a + S1x16.size a ≤ S512x128.size a) ∧
  (∀ a, (k0_off1784 v2015) a + S1x16.size a ≤ S512x128.size a) ∧
  (∀ a, (k0_off1786 v2015) a + S1x16.size a ≤ S512x128.size a) ∧
  (∀ a, (k0_off1788 v2015) a + S1x16.size a ≤ S512x128.size a) ∧
  (∀ a, (k0_off1790 v2015) a + S1x16.size a ≤ S512x128.size a) ∧
  (∀ a, (k0_off1792 v2015) a + S1x16.size a ≤ S512x128.size a)
theorem k0_off1778_inb : ∀ (v2015 : BitVec 32) (k0_hw89 : k0_chk89 v2015), ∀ a, (k0_off1778 v2015) a + S1x16.size a ≤ S512x128.size a := fun v2015 k0_hw89 => k0_hw89.1
theorem k0_off1780_inb : ∀ (v2015 : BitVec 32) (k0_hw89 : k0_chk89 v2015), ∀ a, (k0_off1780 v2015) a + S1x16.size a ≤ S512x128.size a := fun v2015 k0_hw89 => k0_hw89.2.1
theorem k0_off1782_inb : ∀ (v2015 : BitVec 32) (k0_hw89 : k0_chk89 v2015), ∀ a, (k0_off1782 v2015) a + S1x16.size a ≤ S512x128.size a := fun v2015 k0_hw89 => k0_hw89.2.2.1
theorem k0_off1784_inb : ∀ (v2015 : BitVec 32) (k0_hw89 : k0_chk89 v2015), ∀ a, (k0_off1784 v2015) a + S1x16.size a ≤ S512x128.size a := fun v2015 k0_hw89 => k0_hw89.2.2.2.1
theorem k0_off1786_inb : ∀ (v2015 : BitVec 32) (k0_hw89 : k0_chk89 v2015), ∀ a, (k0_off1786 v2015) a + S1x16.size a ≤ S512x128.size a := fun v2015 k0_hw89 => k0_hw89.2.2.2.2.1
theorem k0_off1788_inb : ∀ (v2015 : BitVec 32) (k0_hw89 : k0_chk89 v2015), ∀ a, (k0_off1788 v2015) a + S1x16.size a ≤ S512x128.size a := fun v2015 k0_hw89 => k0_hw89.2.2.2.2.2.1
theorem k0_off1790_inb : ∀ (v2015 : BitVec 32) (k0_hw89 : k0_chk89 v2015), ∀ a, (k0_off1790 v2015) a + S1x16.size a ≤ S512x128.size a := fun v2015 k0_hw89 => k0_hw89.2.2.2.2.2.2.1
theorem k0_off1792_inb : ∀ (v2015 : BitVec 32) (k0_hw89 : k0_chk89 v2015), ∀ a, (k0_off1792 v2015) a + S1x16.size a ≤ S512x128.size a := fun v2015 k0_hw89 => k0_hw89.2.2.2.2.2.2.2

def k0_off1793 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2182 : Index := Scalar.indexCast v2013
  let c0_436 : Index := 0#32
  ![v2182.toNat, 0]
def k0_off1794 (v2017 : BitVec 32) : Fin 2 → Nat :=
  let v2184 : Index := Scalar.indexCast v2017
  let c0_437 : Index := 0#32
  ![v2184.toNat, 0]

def k0_off1795 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2190 : Index := Scalar.indexCast v2013
  let c16_438 : Index := 16#32
  ![v2190.toNat, 16]
def k0_off1796 (v2017 : BitVec 32) : Fin 2 → Nat :=
  let v2192 : Index := Scalar.indexCast v2017
  let c16_439 : Index := 16#32
  ![v2192.toNat, 16]
def k0_off1797 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2198 : Index := Scalar.indexCast v2013
  let c32_440 : Index := 32#32
  ![v2198.toNat, 32]
def k0_off1798 (v2017 : BitVec 32) : Fin 2 → Nat :=
  let v2200 : Index := Scalar.indexCast v2017
  let c32_441 : Index := 32#32
  ![v2200.toNat, 32]
def k0_off1799 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2206 : Index := Scalar.indexCast v2013
  let c48_442 : Index := 48#32
  ![v2206.toNat, 48]
def k0_off1800 (v2017 : BitVec 32) : Fin 2 → Nat :=
  let v2208 : Index := Scalar.indexCast v2017
  let c48_443 : Index := 48#32
  ![v2208.toNat, 48]
def k0_off1801 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2214 : Index := Scalar.indexCast v2013
  let c64_444 : Index := 64#32
  ![v2214.toNat, 64]
def k0_off1802 (v2017 : BitVec 32) : Fin 2 → Nat :=
  let v2216 : Index := Scalar.indexCast v2017
  let c64_445 : Index := 64#32
  ![v2216.toNat, 64]
def k0_off1803 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2222 : Index := Scalar.indexCast v2013
  let c80_446 : Index := 80#32
  ![v2222.toNat, 80]
def k0_off1804 (v2017 : BitVec 32) : Fin 2 → Nat :=
  let v2224 : Index := Scalar.indexCast v2017
  let c80_447 : Index := 80#32
  ![v2224.toNat, 80]
def k0_off1805 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2230 : Index := Scalar.indexCast v2013
  let c96_448 : Index := 96#32
  ![v2230.toNat, 96]
def k0_off1806 (v2017 : BitVec 32) : Fin 2 → Nat :=
  let v2232 : Index := Scalar.indexCast v2017
  let c96_449 : Index := 96#32
  ![v2232.toNat, 96]
def k0_off1807 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2238 : Index := Scalar.indexCast v2013
  let c112_450 : Index := 112#32
  ![v2238.toNat, 112]
def k0_off1808 (v2017 : BitVec 32) : Fin 2 → Nat :=
  let v2240 : Index := Scalar.indexCast v2017
  let c112_451 : Index := 112#32
  ![v2240.toNat, 112]

def k0_chk90 (v2017 : BitVec 32) : Prop :=
  (∀ a, (k0_off1794 v2017) a + S1x16.size a ≤ S512x128.size a) ∧
  (∀ a, (k0_off1796 v2017) a + S1x16.size a ≤ S512x128.size a) ∧
  (∀ a, (k0_off1798 v2017) a + S1x16.size a ≤ S512x128.size a) ∧
  (∀ a, (k0_off1800 v2017) a + S1x16.size a ≤ S512x128.size a) ∧
  (∀ a, (k0_off1802 v2017) a + S1x16.size a ≤ S512x128.size a) ∧
  (∀ a, (k0_off1804 v2017) a + S1x16.size a ≤ S512x128.size a) ∧
  (∀ a, (k0_off1806 v2017) a + S1x16.size a ≤ S512x128.size a) ∧
  (∀ a, (k0_off1808 v2017) a + S1x16.size a ≤ S512x128.size a)
theorem k0_off1794_inb : ∀ (v2017 : BitVec 32) (k0_hw90 : k0_chk90 v2017), ∀ a, (k0_off1794 v2017) a + S1x16.size a ≤ S512x128.size a := fun v2017 k0_hw90 => k0_hw90.1
theorem k0_off1796_inb : ∀ (v2017 : BitVec 32) (k0_hw90 : k0_chk90 v2017), ∀ a, (k0_off1796 v2017) a + S1x16.size a ≤ S512x128.size a := fun v2017 k0_hw90 => k0_hw90.2.1
theorem k0_off1798_inb : ∀ (v2017 : BitVec 32) (k0_hw90 : k0_chk90 v2017), ∀ a, (k0_off1798 v2017) a + S1x16.size a ≤ S512x128.size a := fun v2017 k0_hw90 => k0_hw90.2.2.1
theorem k0_off1800_inb : ∀ (v2017 : BitVec 32) (k0_hw90 : k0_chk90 v2017), ∀ a, (k0_off1800 v2017) a + S1x16.size a ≤ S512x128.size a := fun v2017 k0_hw90 => k0_hw90.2.2.2.1
theorem k0_off1802_inb : ∀ (v2017 : BitVec 32) (k0_hw90 : k0_chk90 v2017), ∀ a, (k0_off1802 v2017) a + S1x16.size a ≤ S512x128.size a := fun v2017 k0_hw90 => k0_hw90.2.2.2.2.1
theorem k0_off1804_inb : ∀ (v2017 : BitVec 32) (k0_hw90 : k0_chk90 v2017), ∀ a, (k0_off1804 v2017) a + S1x16.size a ≤ S512x128.size a := fun v2017 k0_hw90 => k0_hw90.2.2.2.2.2.1
theorem k0_off1806_inb : ∀ (v2017 : BitVec 32) (k0_hw90 : k0_chk90 v2017), ∀ a, (k0_off1806 v2017) a + S1x16.size a ≤ S512x128.size a := fun v2017 k0_hw90 => k0_hw90.2.2.2.2.2.2.1
theorem k0_off1808_inb : ∀ (v2017 : BitVec 32) (k0_hw90 : k0_chk90 v2017), ∀ a, (k0_off1808 v2017) a + S1x16.size a ≤ S512x128.size a := fun v2017 k0_hw90 => k0_hw90.2.2.2.2.2.2.2

def k0_off1809 (k0_t7 : Fin k0_t7_loop.trips) (c8_i32_413 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v2011 : BitVec 32 := Scalar.addi v147 c8_i32_413
  let v2378 : Index := Scalar.indexCast v2011
  let c0_459 : Index := 0#32
  ![v2378.toNat, 0]
def k0_off1810 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2384 : Index := Scalar.indexCast v2011
  let c16_460 : Index := 16#32
  ![v2384.toNat, 16]
def k0_off1811 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2390 : Index := Scalar.indexCast v2011
  let c32_461 : Index := 32#32
  ![v2390.toNat, 32]
def k0_off1812 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2396 : Index := Scalar.indexCast v2011
  let c48_462 : Index := 48#32
  ![v2396.toNat, 48]
def k0_off1813 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2402 : Index := Scalar.indexCast v2011
  let c64_463 : Index := 64#32
  ![v2402.toNat, 64]
def k0_off1814 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2408 : Index := Scalar.indexCast v2011
  let c80_464 : Index := 80#32
  ![v2408.toNat, 80]
def k0_off1815 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2414 : Index := Scalar.indexCast v2011
  let c96_465 : Index := 96#32
  ![v2414.toNat, 96]
def k0_off1816 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_413 : BitVec 32 := 8#32
  let v2011 : BitVec 32 := Scalar.addi v147 c8_i32_413
  let v2420 : Index := Scalar.indexCast v2011
  let c112_466 : Index := 112#32
  ![v2420.toNat, 112]
def k0_off1817 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c8_i32_414 : BitVec 32 := 8#32
  let v2012 : BitVec 32 := Scalar.addi v147 c8_i32_414
  let c1_i32_415 : BitVec 32 := 1#32
  let v2013 : BitVec 32 := Scalar.addi v2012 c1_i32_415
  let v2432 : Index := Scalar.indexCast v2013
  let c0_467 : Index := 0#32
  ![v2432.toNat, 0]
def k0_off1818 (v2480 : BitVec 32) : Fin 2 → Nat :=
  let v2487 : Index := Scalar.indexCast v2480
  let c0_480 : Index := 0#32
  ![v2487.toNat, 0]

def k0_off1819 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2493 : Index := Scalar.indexCast v2476
  let c16_481 : Index := 16#32
  ![v2493.toNat, 16]
def k0_off1820 (v2480 : BitVec 32) : Fin 2 → Nat :=
  let v2495 : Index := Scalar.indexCast v2480
  let c16_482 : Index := 16#32
  ![v2495.toNat, 16]
def k0_off1821 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2501 : Index := Scalar.indexCast v2476
  let c32_483 : Index := 32#32
  ![v2501.toNat, 32]
def k0_off1822 (v2480 : BitVec 32) : Fin 2 → Nat :=
  let v2503 : Index := Scalar.indexCast v2480
  let c32_484 : Index := 32#32
  ![v2503.toNat, 32]
def k0_off1823 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2509 : Index := Scalar.indexCast v2476
  let c48_485 : Index := 48#32
  ![v2509.toNat, 48]
def k0_off1824 (v2480 : BitVec 32) : Fin 2 → Nat :=
  let v2511 : Index := Scalar.indexCast v2480
  let c48_486 : Index := 48#32
  ![v2511.toNat, 48]
def k0_off1825 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2517 : Index := Scalar.indexCast v2476
  let c64_487 : Index := 64#32
  ![v2517.toNat, 64]
def k0_off1826 (v2480 : BitVec 32) : Fin 2 → Nat :=
  let v2519 : Index := Scalar.indexCast v2480
  let c64_488 : Index := 64#32
  ![v2519.toNat, 64]
def k0_off1827 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2525 : Index := Scalar.indexCast v2476
  let c80_489 : Index := 80#32
  ![v2525.toNat, 80]
def k0_off1828 (v2480 : BitVec 32) : Fin 2 → Nat :=
  let v2527 : Index := Scalar.indexCast v2480
  let c80_490 : Index := 80#32
  ![v2527.toNat, 80]
def k0_off1829 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2533 : Index := Scalar.indexCast v2476
  let c96_491 : Index := 96#32
  ![v2533.toNat, 96]
def k0_off1830 (v2480 : BitVec 32) : Fin 2 → Nat :=
  let v2535 : Index := Scalar.indexCast v2480
  let c96_492 : Index := 96#32
  ![v2535.toNat, 96]
def k0_off1831 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2541 : Index := Scalar.indexCast v2476
  let c112_493 : Index := 112#32
  ![v2541.toNat, 112]
def k0_off1832 (v2480 : BitVec 32) : Fin 2 → Nat :=
  let v2543 : Index := Scalar.indexCast v2480
  let c112_494 : Index := 112#32
  ![v2543.toNat, 112]

def k0_chk91 (v2480 : BitVec 32) : Prop :=
  (∀ a, (k0_off1818 v2480) a + S1x16.size a ≤ S512x128.size a) ∧
  (∀ a, (k0_off1820 v2480) a + S1x16.size a ≤ S512x128.size a) ∧
  (∀ a, (k0_off1822 v2480) a + S1x16.size a ≤ S512x128.size a) ∧
  (∀ a, (k0_off1824 v2480) a + S1x16.size a ≤ S512x128.size a) ∧
  (∀ a, (k0_off1826 v2480) a + S1x16.size a ≤ S512x128.size a) ∧
  (∀ a, (k0_off1828 v2480) a + S1x16.size a ≤ S512x128.size a) ∧
  (∀ a, (k0_off1830 v2480) a + S1x16.size a ≤ S512x128.size a) ∧
  (∀ a, (k0_off1832 v2480) a + S1x16.size a ≤ S512x128.size a)
theorem k0_off1818_inb : ∀ (v2480 : BitVec 32) (k0_hw91 : k0_chk91 v2480), ∀ a, (k0_off1818 v2480) a + S1x16.size a ≤ S512x128.size a := fun v2480 k0_hw91 => k0_hw91.1
theorem k0_off1820_inb : ∀ (v2480 : BitVec 32) (k0_hw91 : k0_chk91 v2480), ∀ a, (k0_off1820 v2480) a + S1x16.size a ≤ S512x128.size a := fun v2480 k0_hw91 => k0_hw91.2.1
theorem k0_off1822_inb : ∀ (v2480 : BitVec 32) (k0_hw91 : k0_chk91 v2480), ∀ a, (k0_off1822 v2480) a + S1x16.size a ≤ S512x128.size a := fun v2480 k0_hw91 => k0_hw91.2.2.1
theorem k0_off1824_inb : ∀ (v2480 : BitVec 32) (k0_hw91 : k0_chk91 v2480), ∀ a, (k0_off1824 v2480) a + S1x16.size a ≤ S512x128.size a := fun v2480 k0_hw91 => k0_hw91.2.2.2.1
theorem k0_off1826_inb : ∀ (v2480 : BitVec 32) (k0_hw91 : k0_chk91 v2480), ∀ a, (k0_off1826 v2480) a + S1x16.size a ≤ S512x128.size a := fun v2480 k0_hw91 => k0_hw91.2.2.2.2.1
theorem k0_off1828_inb : ∀ (v2480 : BitVec 32) (k0_hw91 : k0_chk91 v2480), ∀ a, (k0_off1828 v2480) a + S1x16.size a ≤ S512x128.size a := fun v2480 k0_hw91 => k0_hw91.2.2.2.2.2.1
theorem k0_off1830_inb : ∀ (v2480 : BitVec 32) (k0_hw91 : k0_chk91 v2480), ∀ a, (k0_off1830 v2480) a + S1x16.size a ≤ S512x128.size a := fun v2480 k0_hw91 => k0_hw91.2.2.2.2.2.2.1
theorem k0_off1832_inb : ∀ (v2480 : BitVec 32) (k0_hw91 : k0_chk91 v2480), ∀ a, (k0_off1832 v2480) a + S1x16.size a ≤ S512x128.size a := fun v2480 k0_hw91 => k0_hw91.2.2.2.2.2.2.2

def k0_off1833 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2647 : Index := Scalar.indexCast v2478
  let c0_497 : Index := 0#32
  ![v2647.toNat, 0]
def k0_off1834 (v2482 : BitVec 32) : Fin 2 → Nat :=
  let v2649 : Index := Scalar.indexCast v2482
  let c0_498 : Index := 0#32
  ![v2649.toNat, 0]

def k0_off1835 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2655 : Index := Scalar.indexCast v2478
  let c16_499 : Index := 16#32
  ![v2655.toNat, 16]
def k0_off1836 (v2482 : BitVec 32) : Fin 2 → Nat :=
  let v2657 : Index := Scalar.indexCast v2482
  let c16_500 : Index := 16#32
  ![v2657.toNat, 16]
def k0_off1837 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2663 : Index := Scalar.indexCast v2478
  let c32_501 : Index := 32#32
  ![v2663.toNat, 32]
def k0_off1838 (v2482 : BitVec 32) : Fin 2 → Nat :=
  let v2665 : Index := Scalar.indexCast v2482
  let c32_502 : Index := 32#32
  ![v2665.toNat, 32]
def k0_off1839 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2671 : Index := Scalar.indexCast v2478
  let c48_503 : Index := 48#32
  ![v2671.toNat, 48]
def k0_off1840 (v2482 : BitVec 32) : Fin 2 → Nat :=
  let v2673 : Index := Scalar.indexCast v2482
  let c48_504 : Index := 48#32
  ![v2673.toNat, 48]
def k0_off1841 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2679 : Index := Scalar.indexCast v2478
  let c64_505 : Index := 64#32
  ![v2679.toNat, 64]
def k0_off1842 (v2482 : BitVec 32) : Fin 2 → Nat :=
  let v2681 : Index := Scalar.indexCast v2482
  let c64_506 : Index := 64#32
  ![v2681.toNat, 64]
def k0_off1843 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2687 : Index := Scalar.indexCast v2478
  let c80_507 : Index := 80#32
  ![v2687.toNat, 80]
def k0_off1844 (v2482 : BitVec 32) : Fin 2 → Nat :=
  let v2689 : Index := Scalar.indexCast v2482
  let c80_508 : Index := 80#32
  ![v2689.toNat, 80]
def k0_off1845 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2695 : Index := Scalar.indexCast v2478
  let c96_509 : Index := 96#32
  ![v2695.toNat, 96]
def k0_off1846 (v2482 : BitVec 32) : Fin 2 → Nat :=
  let v2697 : Index := Scalar.indexCast v2482
  let c96_510 : Index := 96#32
  ![v2697.toNat, 96]
def k0_off1847 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2703 : Index := Scalar.indexCast v2478
  let c112_511 : Index := 112#32
  ![v2703.toNat, 112]
def k0_off1848 (v2482 : BitVec 32) : Fin 2 → Nat :=
  let v2705 : Index := Scalar.indexCast v2482
  let c112_512 : Index := 112#32
  ![v2705.toNat, 112]

def k0_chk92 (v2482 : BitVec 32) : Prop :=
  (∀ a, (k0_off1834 v2482) a + S1x16.size a ≤ S512x128.size a) ∧
  (∀ a, (k0_off1836 v2482) a + S1x16.size a ≤ S512x128.size a) ∧
  (∀ a, (k0_off1838 v2482) a + S1x16.size a ≤ S512x128.size a) ∧
  (∀ a, (k0_off1840 v2482) a + S1x16.size a ≤ S512x128.size a) ∧
  (∀ a, (k0_off1842 v2482) a + S1x16.size a ≤ S512x128.size a) ∧
  (∀ a, (k0_off1844 v2482) a + S1x16.size a ≤ S512x128.size a) ∧
  (∀ a, (k0_off1846 v2482) a + S1x16.size a ≤ S512x128.size a) ∧
  (∀ a, (k0_off1848 v2482) a + S1x16.size a ≤ S512x128.size a)
theorem k0_off1834_inb : ∀ (v2482 : BitVec 32) (k0_hw92 : k0_chk92 v2482), ∀ a, (k0_off1834 v2482) a + S1x16.size a ≤ S512x128.size a := fun v2482 k0_hw92 => k0_hw92.1
theorem k0_off1836_inb : ∀ (v2482 : BitVec 32) (k0_hw92 : k0_chk92 v2482), ∀ a, (k0_off1836 v2482) a + S1x16.size a ≤ S512x128.size a := fun v2482 k0_hw92 => k0_hw92.2.1
theorem k0_off1838_inb : ∀ (v2482 : BitVec 32) (k0_hw92 : k0_chk92 v2482), ∀ a, (k0_off1838 v2482) a + S1x16.size a ≤ S512x128.size a := fun v2482 k0_hw92 => k0_hw92.2.2.1
theorem k0_off1840_inb : ∀ (v2482 : BitVec 32) (k0_hw92 : k0_chk92 v2482), ∀ a, (k0_off1840 v2482) a + S1x16.size a ≤ S512x128.size a := fun v2482 k0_hw92 => k0_hw92.2.2.2.1
theorem k0_off1842_inb : ∀ (v2482 : BitVec 32) (k0_hw92 : k0_chk92 v2482), ∀ a, (k0_off1842 v2482) a + S1x16.size a ≤ S512x128.size a := fun v2482 k0_hw92 => k0_hw92.2.2.2.2.1
theorem k0_off1844_inb : ∀ (v2482 : BitVec 32) (k0_hw92 : k0_chk92 v2482), ∀ a, (k0_off1844 v2482) a + S1x16.size a ≤ S512x128.size a := fun v2482 k0_hw92 => k0_hw92.2.2.2.2.2.1
theorem k0_off1846_inb : ∀ (v2482 : BitVec 32) (k0_hw92 : k0_chk92 v2482), ∀ a, (k0_off1846 v2482) a + S1x16.size a ≤ S512x128.size a := fun v2482 k0_hw92 => k0_hw92.2.2.2.2.2.2.1
theorem k0_off1848_inb : ∀ (v2482 : BitVec 32) (k0_hw92 : k0_chk92 v2482), ∀ a, (k0_off1848 v2482) a + S1x16.size a ≤ S512x128.size a := fun v2482 k0_hw92 => k0_hw92.2.2.2.2.2.2.2

def k0_off1849 (k0_t7 : Fin k0_t7_loop.trips) (c10_i32 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v2476 : BitVec 32 := Scalar.addi v147 c10_i32
  let v2843 : Index := Scalar.indexCast v2476
  let c0_520 : Index := 0#32
  ![v2843.toNat, 0]
def k0_off1850 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2849 : Index := Scalar.indexCast v2476
  let c16_521 : Index := 16#32
  ![v2849.toNat, 16]
def k0_off1851 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2855 : Index := Scalar.indexCast v2476
  let c32_522 : Index := 32#32
  ![v2855.toNat, 32]
def k0_off1852 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2861 : Index := Scalar.indexCast v2476
  let c48_523 : Index := 48#32
  ![v2861.toNat, 48]
def k0_off1853 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2867 : Index := Scalar.indexCast v2476
  let c64_524 : Index := 64#32
  ![v2867.toNat, 64]
def k0_off1854 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2873 : Index := Scalar.indexCast v2476
  let c80_525 : Index := 80#32
  ![v2873.toNat, 80]
def k0_off1855 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2879 : Index := Scalar.indexCast v2476
  let c96_526 : Index := 96#32
  ![v2879.toNat, 96]
def k0_off1856 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32 : BitVec 32 := 10#32
  let v2476 : BitVec 32 := Scalar.addi v147 c10_i32
  let v2885 : Index := Scalar.indexCast v2476
  let c112_527 : Index := 112#32
  ![v2885.toNat, 112]
def k0_off1857 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c10_i32_475 : BitVec 32 := 10#32
  let v2477 : BitVec 32 := Scalar.addi v147 c10_i32_475
  let c1_i32_476 : BitVec 32 := 1#32
  let v2478 : BitVec 32 := Scalar.addi v2477 c1_i32_476
  let v2897 : Index := Scalar.indexCast v2478
  let c0_528 : Index := 0#32
  ![v2897.toNat, 0]
def k0_off1858 (v2945 : BitVec 32) : Fin 2 → Nat :=
  let v2952 : Index := Scalar.indexCast v2945
  let c0_541 : Index := 0#32
  ![v2952.toNat, 0]

def k0_off1859 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2958 : Index := Scalar.indexCast v2941
  let c16_542 : Index := 16#32
  ![v2958.toNat, 16]
def k0_off1860 (v2945 : BitVec 32) : Fin 2 → Nat :=
  let v2960 : Index := Scalar.indexCast v2945
  let c16_543 : Index := 16#32
  ![v2960.toNat, 16]
def k0_off1861 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2966 : Index := Scalar.indexCast v2941
  let c32_544 : Index := 32#32
  ![v2966.toNat, 32]
def k0_off1862 (v2945 : BitVec 32) : Fin 2 → Nat :=
  let v2968 : Index := Scalar.indexCast v2945
  let c32_545 : Index := 32#32
  ![v2968.toNat, 32]
def k0_off1863 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2974 : Index := Scalar.indexCast v2941
  let c48_546 : Index := 48#32
  ![v2974.toNat, 48]
def k0_off1864 (v2945 : BitVec 32) : Fin 2 → Nat :=
  let v2976 : Index := Scalar.indexCast v2945
  let c48_547 : Index := 48#32
  ![v2976.toNat, 48]
def k0_off1865 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2982 : Index := Scalar.indexCast v2941
  let c64_548 : Index := 64#32
  ![v2982.toNat, 64]
def k0_off1866 (v2945 : BitVec 32) : Fin 2 → Nat :=
  let v2984 : Index := Scalar.indexCast v2945
  let c64_549 : Index := 64#32
  ![v2984.toNat, 64]
def k0_off1867 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2990 : Index := Scalar.indexCast v2941
  let c80_550 : Index := 80#32
  ![v2990.toNat, 80]
def k0_off1868 (v2945 : BitVec 32) : Fin 2 → Nat :=
  let v2992 : Index := Scalar.indexCast v2945
  let c80_551 : Index := 80#32
  ![v2992.toNat, 80]
def k0_off1869 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v2998 : Index := Scalar.indexCast v2941
  let c96_552 : Index := 96#32
  ![v2998.toNat, 96]
def k0_off1870 (v2945 : BitVec 32) : Fin 2 → Nat :=
  let v3000 : Index := Scalar.indexCast v2945
  let c96_553 : Index := 96#32
  ![v3000.toNat, 96]
def k0_off1871 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3006 : Index := Scalar.indexCast v2941
  let c112_554 : Index := 112#32
  ![v3006.toNat, 112]
def k0_off1872 (v2945 : BitVec 32) : Fin 2 → Nat :=
  let v3008 : Index := Scalar.indexCast v2945
  let c112_555 : Index := 112#32
  ![v3008.toNat, 112]

def k0_chk93 (v2945 : BitVec 32) : Prop :=
  (∀ a, (k0_off1858 v2945) a + S1x16.size a ≤ S512x128.size a) ∧
  (∀ a, (k0_off1860 v2945) a + S1x16.size a ≤ S512x128.size a) ∧
  (∀ a, (k0_off1862 v2945) a + S1x16.size a ≤ S512x128.size a) ∧
  (∀ a, (k0_off1864 v2945) a + S1x16.size a ≤ S512x128.size a) ∧
  (∀ a, (k0_off1866 v2945) a + S1x16.size a ≤ S512x128.size a) ∧
  (∀ a, (k0_off1868 v2945) a + S1x16.size a ≤ S512x128.size a) ∧
  (∀ a, (k0_off1870 v2945) a + S1x16.size a ≤ S512x128.size a) ∧
  (∀ a, (k0_off1872 v2945) a + S1x16.size a ≤ S512x128.size a)
theorem k0_off1858_inb : ∀ (v2945 : BitVec 32) (k0_hw93 : k0_chk93 v2945), ∀ a, (k0_off1858 v2945) a + S1x16.size a ≤ S512x128.size a := fun v2945 k0_hw93 => k0_hw93.1
theorem k0_off1860_inb : ∀ (v2945 : BitVec 32) (k0_hw93 : k0_chk93 v2945), ∀ a, (k0_off1860 v2945) a + S1x16.size a ≤ S512x128.size a := fun v2945 k0_hw93 => k0_hw93.2.1
theorem k0_off1862_inb : ∀ (v2945 : BitVec 32) (k0_hw93 : k0_chk93 v2945), ∀ a, (k0_off1862 v2945) a + S1x16.size a ≤ S512x128.size a := fun v2945 k0_hw93 => k0_hw93.2.2.1
theorem k0_off1864_inb : ∀ (v2945 : BitVec 32) (k0_hw93 : k0_chk93 v2945), ∀ a, (k0_off1864 v2945) a + S1x16.size a ≤ S512x128.size a := fun v2945 k0_hw93 => k0_hw93.2.2.2.1
theorem k0_off1866_inb : ∀ (v2945 : BitVec 32) (k0_hw93 : k0_chk93 v2945), ∀ a, (k0_off1866 v2945) a + S1x16.size a ≤ S512x128.size a := fun v2945 k0_hw93 => k0_hw93.2.2.2.2.1
theorem k0_off1868_inb : ∀ (v2945 : BitVec 32) (k0_hw93 : k0_chk93 v2945), ∀ a, (k0_off1868 v2945) a + S1x16.size a ≤ S512x128.size a := fun v2945 k0_hw93 => k0_hw93.2.2.2.2.2.1
theorem k0_off1870_inb : ∀ (v2945 : BitVec 32) (k0_hw93 : k0_chk93 v2945), ∀ a, (k0_off1870 v2945) a + S1x16.size a ≤ S512x128.size a := fun v2945 k0_hw93 => k0_hw93.2.2.2.2.2.2.1
theorem k0_off1872_inb : ∀ (v2945 : BitVec 32) (k0_hw93 : k0_chk93 v2945), ∀ a, (k0_off1872 v2945) a + S1x16.size a ≤ S512x128.size a := fun v2945 k0_hw93 => k0_hw93.2.2.2.2.2.2.2

def k0_off1873 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3112 : Index := Scalar.indexCast v2943
  let c0_558 : Index := 0#32
  ![v3112.toNat, 0]
def k0_off1874 (v2947 : BitVec 32) : Fin 2 → Nat :=
  let v3114 : Index := Scalar.indexCast v2947
  let c0_559 : Index := 0#32
  ![v3114.toNat, 0]

def k0_off1875 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3120 : Index := Scalar.indexCast v2943
  let c16_560 : Index := 16#32
  ![v3120.toNat, 16]
def k0_off1876 (v2947 : BitVec 32) : Fin 2 → Nat :=
  let v3122 : Index := Scalar.indexCast v2947
  let c16_561 : Index := 16#32
  ![v3122.toNat, 16]
def k0_off1877 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3128 : Index := Scalar.indexCast v2943
  let c32_562 : Index := 32#32
  ![v3128.toNat, 32]
def k0_off1878 (v2947 : BitVec 32) : Fin 2 → Nat :=
  let v3130 : Index := Scalar.indexCast v2947
  let c32_563 : Index := 32#32
  ![v3130.toNat, 32]
def k0_off1879 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3136 : Index := Scalar.indexCast v2943
  let c48_564 : Index := 48#32
  ![v3136.toNat, 48]
def k0_off1880 (v2947 : BitVec 32) : Fin 2 → Nat :=
  let v3138 : Index := Scalar.indexCast v2947
  let c48_565 : Index := 48#32
  ![v3138.toNat, 48]
def k0_off1881 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3144 : Index := Scalar.indexCast v2943
  let c64_566 : Index := 64#32
  ![v3144.toNat, 64]
def k0_off1882 (v2947 : BitVec 32) : Fin 2 → Nat :=
  let v3146 : Index := Scalar.indexCast v2947
  let c64_567 : Index := 64#32
  ![v3146.toNat, 64]
def k0_off1883 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3152 : Index := Scalar.indexCast v2943
  let c80_568 : Index := 80#32
  ![v3152.toNat, 80]
def k0_off1884 (v2947 : BitVec 32) : Fin 2 → Nat :=
  let v3154 : Index := Scalar.indexCast v2947
  let c80_569 : Index := 80#32
  ![v3154.toNat, 80]
def k0_off1885 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3160 : Index := Scalar.indexCast v2943
  let c96_570 : Index := 96#32
  ![v3160.toNat, 96]
def k0_off1886 (v2947 : BitVec 32) : Fin 2 → Nat :=
  let v3162 : Index := Scalar.indexCast v2947
  let c96_571 : Index := 96#32
  ![v3162.toNat, 96]
def k0_off1887 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3168 : Index := Scalar.indexCast v2943
  let c112_572 : Index := 112#32
  ![v3168.toNat, 112]
def k0_off1888 (v2947 : BitVec 32) : Fin 2 → Nat :=
  let v3170 : Index := Scalar.indexCast v2947
  let c112_573 : Index := 112#32
  ![v3170.toNat, 112]

def k0_chk94 (v2947 : BitVec 32) : Prop :=
  (∀ a, (k0_off1874 v2947) a + S1x16.size a ≤ S512x128.size a) ∧
  (∀ a, (k0_off1876 v2947) a + S1x16.size a ≤ S512x128.size a) ∧
  (∀ a, (k0_off1878 v2947) a + S1x16.size a ≤ S512x128.size a) ∧
  (∀ a, (k0_off1880 v2947) a + S1x16.size a ≤ S512x128.size a) ∧
  (∀ a, (k0_off1882 v2947) a + S1x16.size a ≤ S512x128.size a) ∧
  (∀ a, (k0_off1884 v2947) a + S1x16.size a ≤ S512x128.size a) ∧
  (∀ a, (k0_off1886 v2947) a + S1x16.size a ≤ S512x128.size a) ∧
  (∀ a, (k0_off1888 v2947) a + S1x16.size a ≤ S512x128.size a)
theorem k0_off1874_inb : ∀ (v2947 : BitVec 32) (k0_hw94 : k0_chk94 v2947), ∀ a, (k0_off1874 v2947) a + S1x16.size a ≤ S512x128.size a := fun v2947 k0_hw94 => k0_hw94.1
theorem k0_off1876_inb : ∀ (v2947 : BitVec 32) (k0_hw94 : k0_chk94 v2947), ∀ a, (k0_off1876 v2947) a + S1x16.size a ≤ S512x128.size a := fun v2947 k0_hw94 => k0_hw94.2.1
theorem k0_off1878_inb : ∀ (v2947 : BitVec 32) (k0_hw94 : k0_chk94 v2947), ∀ a, (k0_off1878 v2947) a + S1x16.size a ≤ S512x128.size a := fun v2947 k0_hw94 => k0_hw94.2.2.1
theorem k0_off1880_inb : ∀ (v2947 : BitVec 32) (k0_hw94 : k0_chk94 v2947), ∀ a, (k0_off1880 v2947) a + S1x16.size a ≤ S512x128.size a := fun v2947 k0_hw94 => k0_hw94.2.2.2.1
theorem k0_off1882_inb : ∀ (v2947 : BitVec 32) (k0_hw94 : k0_chk94 v2947), ∀ a, (k0_off1882 v2947) a + S1x16.size a ≤ S512x128.size a := fun v2947 k0_hw94 => k0_hw94.2.2.2.2.1
theorem k0_off1884_inb : ∀ (v2947 : BitVec 32) (k0_hw94 : k0_chk94 v2947), ∀ a, (k0_off1884 v2947) a + S1x16.size a ≤ S512x128.size a := fun v2947 k0_hw94 => k0_hw94.2.2.2.2.2.1
theorem k0_off1886_inb : ∀ (v2947 : BitVec 32) (k0_hw94 : k0_chk94 v2947), ∀ a, (k0_off1886 v2947) a + S1x16.size a ≤ S512x128.size a := fun v2947 k0_hw94 => k0_hw94.2.2.2.2.2.2.1
theorem k0_off1888_inb : ∀ (v2947 : BitVec 32) (k0_hw94 : k0_chk94 v2947), ∀ a, (k0_off1888 v2947) a + S1x16.size a ≤ S512x128.size a := fun v2947 k0_hw94 => k0_hw94.2.2.2.2.2.2.2

def k0_off1889 (k0_t7 : Fin k0_t7_loop.trips) (c12_i32 : BitVec 32) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let v2941 : BitVec 32 := Scalar.addi v147 c12_i32
  let v3308 : Index := Scalar.indexCast v2941
  let c0_581 : Index := 0#32
  ![v3308.toNat, 0]
def k0_off1890 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3314 : Index := Scalar.indexCast v2941
  let c16_582 : Index := 16#32
  ![v3314.toNat, 16]
def k0_off1891 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3320 : Index := Scalar.indexCast v2941
  let c32_583 : Index := 32#32
  ![v3320.toNat, 32]
def k0_off1892 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3326 : Index := Scalar.indexCast v2941
  let c48_584 : Index := 48#32
  ![v3326.toNat, 48]
def k0_off1893 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3332 : Index := Scalar.indexCast v2941
  let c64_585 : Index := 64#32
  ![v3332.toNat, 64]
def k0_off1894 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3338 : Index := Scalar.indexCast v2941
  let c80_586 : Index := 80#32
  ![v3338.toNat, 80]
def k0_off1895 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3344 : Index := Scalar.indexCast v2941
  let c96_587 : Index := 96#32
  ![v3344.toNat, 96]
def k0_off1896 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32 : BitVec 32 := 12#32
  let v2941 : BitVec 32 := Scalar.addi v147 c12_i32
  let v3350 : Index := Scalar.indexCast v2941
  let c112_588 : Index := 112#32
  ![v3350.toNat, 112]
def k0_off1897 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c12_i32_536 : BitVec 32 := 12#32
  let v2942 : BitVec 32 := Scalar.addi v147 c12_i32_536
  let c1_i32_537 : BitVec 32 := 1#32
  let v2943 : BitVec 32 := Scalar.addi v2942 c1_i32_537
  let v3362 : Index := Scalar.indexCast v2943
  let c0_589 : Index := 0#32
  ![v3362.toNat, 0]
def k0_off1898 (v3410 : BitVec 32) : Fin 2 → Nat :=
  let v3417 : Index := Scalar.indexCast v3410
  let c0_602 : Index := 0#32
  ![v3417.toNat, 0]

def k0_off1899 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3423 : Index := Scalar.indexCast v3406
  let c16_603 : Index := 16#32
  ![v3423.toNat, 16]
def k0_off1900 (v3410 : BitVec 32) : Fin 2 → Nat :=
  let v3425 : Index := Scalar.indexCast v3410
  let c16_604 : Index := 16#32
  ![v3425.toNat, 16]
def k0_off1901 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3431 : Index := Scalar.indexCast v3406
  let c32_605 : Index := 32#32
  ![v3431.toNat, 32]
def k0_off1902 (v3410 : BitVec 32) : Fin 2 → Nat :=
  let v3433 : Index := Scalar.indexCast v3410
  let c32_606 : Index := 32#32
  ![v3433.toNat, 32]
def k0_off1903 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3439 : Index := Scalar.indexCast v3406
  let c48_607 : Index := 48#32
  ![v3439.toNat, 48]
def k0_off1904 (v3410 : BitVec 32) : Fin 2 → Nat :=
  let v3441 : Index := Scalar.indexCast v3410
  let c48_608 : Index := 48#32
  ![v3441.toNat, 48]
def k0_off1905 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3447 : Index := Scalar.indexCast v3406
  let c64_609 : Index := 64#32
  ![v3447.toNat, 64]
def k0_off1906 (v3410 : BitVec 32) : Fin 2 → Nat :=
  let v3449 : Index := Scalar.indexCast v3410
  let c64_610 : Index := 64#32
  ![v3449.toNat, 64]
def k0_off1907 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3455 : Index := Scalar.indexCast v3406
  let c80_611 : Index := 80#32
  ![v3455.toNat, 80]
def k0_off1908 (v3410 : BitVec 32) : Fin 2 → Nat :=
  let v3457 : Index := Scalar.indexCast v3410
  let c80_612 : Index := 80#32
  ![v3457.toNat, 80]
def k0_off1909 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3463 : Index := Scalar.indexCast v3406
  let c96_613 : Index := 96#32
  ![v3463.toNat, 96]
def k0_off1910 (v3410 : BitVec 32) : Fin 2 → Nat :=
  let v3465 : Index := Scalar.indexCast v3410
  let c96_614 : Index := 96#32
  ![v3465.toNat, 96]
def k0_off1911 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3471 : Index := Scalar.indexCast v3406
  let c112_615 : Index := 112#32
  ![v3471.toNat, 112]
def k0_off1912 (v3410 : BitVec 32) : Fin 2 → Nat :=
  let v3473 : Index := Scalar.indexCast v3410
  let c112_616 : Index := 112#32
  ![v3473.toNat, 112]

def k0_chk95 (v3410 : BitVec 32) : Prop :=
  (∀ a, (k0_off1898 v3410) a + S1x16.size a ≤ S512x128.size a) ∧
  (∀ a, (k0_off1900 v3410) a + S1x16.size a ≤ S512x128.size a) ∧
  (∀ a, (k0_off1902 v3410) a + S1x16.size a ≤ S512x128.size a) ∧
  (∀ a, (k0_off1904 v3410) a + S1x16.size a ≤ S512x128.size a) ∧
  (∀ a, (k0_off1906 v3410) a + S1x16.size a ≤ S512x128.size a) ∧
  (∀ a, (k0_off1908 v3410) a + S1x16.size a ≤ S512x128.size a) ∧
  (∀ a, (k0_off1910 v3410) a + S1x16.size a ≤ S512x128.size a) ∧
  (∀ a, (k0_off1912 v3410) a + S1x16.size a ≤ S512x128.size a)
theorem k0_off1898_inb : ∀ (v3410 : BitVec 32) (k0_hw95 : k0_chk95 v3410), ∀ a, (k0_off1898 v3410) a + S1x16.size a ≤ S512x128.size a := fun v3410 k0_hw95 => k0_hw95.1
theorem k0_off1900_inb : ∀ (v3410 : BitVec 32) (k0_hw95 : k0_chk95 v3410), ∀ a, (k0_off1900 v3410) a + S1x16.size a ≤ S512x128.size a := fun v3410 k0_hw95 => k0_hw95.2.1
theorem k0_off1902_inb : ∀ (v3410 : BitVec 32) (k0_hw95 : k0_chk95 v3410), ∀ a, (k0_off1902 v3410) a + S1x16.size a ≤ S512x128.size a := fun v3410 k0_hw95 => k0_hw95.2.2.1
theorem k0_off1904_inb : ∀ (v3410 : BitVec 32) (k0_hw95 : k0_chk95 v3410), ∀ a, (k0_off1904 v3410) a + S1x16.size a ≤ S512x128.size a := fun v3410 k0_hw95 => k0_hw95.2.2.2.1
theorem k0_off1906_inb : ∀ (v3410 : BitVec 32) (k0_hw95 : k0_chk95 v3410), ∀ a, (k0_off1906 v3410) a + S1x16.size a ≤ S512x128.size a := fun v3410 k0_hw95 => k0_hw95.2.2.2.2.1
theorem k0_off1908_inb : ∀ (v3410 : BitVec 32) (k0_hw95 : k0_chk95 v3410), ∀ a, (k0_off1908 v3410) a + S1x16.size a ≤ S512x128.size a := fun v3410 k0_hw95 => k0_hw95.2.2.2.2.2.1
theorem k0_off1910_inb : ∀ (v3410 : BitVec 32) (k0_hw95 : k0_chk95 v3410), ∀ a, (k0_off1910 v3410) a + S1x16.size a ≤ S512x128.size a := fun v3410 k0_hw95 => k0_hw95.2.2.2.2.2.2.1
theorem k0_off1912_inb : ∀ (v3410 : BitVec 32) (k0_hw95 : k0_chk95 v3410), ∀ a, (k0_off1912 v3410) a + S1x16.size a ≤ S512x128.size a := fun v3410 k0_hw95 => k0_hw95.2.2.2.2.2.2.2

def k0_off1913 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3577 : Index := Scalar.indexCast v3408
  let c0_619 : Index := 0#32
  ![v3577.toNat, 0]
def k0_off1914 (v3412 : BitVec 32) : Fin 2 → Nat :=
  let v3579 : Index := Scalar.indexCast v3412
  let c0_620 : Index := 0#32
  ![v3579.toNat, 0]

def k0_off1915 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3585 : Index := Scalar.indexCast v3408
  let c16_621 : Index := 16#32
  ![v3585.toNat, 16]
def k0_off1916 (v3412 : BitVec 32) : Fin 2 → Nat :=
  let v3587 : Index := Scalar.indexCast v3412
  let c16_622 : Index := 16#32
  ![v3587.toNat, 16]
def k0_off1917 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3593 : Index := Scalar.indexCast v3408
  let c32_623 : Index := 32#32
  ![v3593.toNat, 32]
def k0_off1918 (v3412 : BitVec 32) : Fin 2 → Nat :=
  let v3595 : Index := Scalar.indexCast v3412
  let c32_624 : Index := 32#32
  ![v3595.toNat, 32]
def k0_off1919 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3601 : Index := Scalar.indexCast v3408
  let c48_625 : Index := 48#32
  ![v3601.toNat, 48]
def k0_off1920 (v3412 : BitVec 32) : Fin 2 → Nat :=
  let v3603 : Index := Scalar.indexCast v3412
  let c48_626 : Index := 48#32
  ![v3603.toNat, 48]
def k0_off1921 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3609 : Index := Scalar.indexCast v3408
  let c64_627 : Index := 64#32
  ![v3609.toNat, 64]
def k0_off1922 (v3412 : BitVec 32) : Fin 2 → Nat :=
  let v3611 : Index := Scalar.indexCast v3412
  let c64_628 : Index := 64#32
  ![v3611.toNat, 64]
def k0_off1923 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3617 : Index := Scalar.indexCast v3408
  let c80_629 : Index := 80#32
  ![v3617.toNat, 80]
def k0_off1924 (v3412 : BitVec 32) : Fin 2 → Nat :=
  let v3619 : Index := Scalar.indexCast v3412
  let c80_630 : Index := 80#32
  ![v3619.toNat, 80]
def k0_off1925 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3625 : Index := Scalar.indexCast v3408
  let c96_631 : Index := 96#32
  ![v3625.toNat, 96]
def k0_off1926 (v3412 : BitVec 32) : Fin 2 → Nat :=
  let v3627 : Index := Scalar.indexCast v3412
  let c96_632 : Index := 96#32
  ![v3627.toNat, 96]
def k0_off1927 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3633 : Index := Scalar.indexCast v3408
  let c112_633 : Index := 112#32
  ![v3633.toNat, 112]
def k0_off1928 (v3412 : BitVec 32) : Fin 2 → Nat :=
  let v3635 : Index := Scalar.indexCast v3412
  let c112_634 : Index := 112#32
  ![v3635.toNat, 112]

def k0_chk96 (v3412 : BitVec 32) : Prop :=
  (∀ a, (k0_off1914 v3412) a + S1x16.size a ≤ S512x128.size a) ∧
  (∀ a, (k0_off1916 v3412) a + S1x16.size a ≤ S512x128.size a) ∧
  (∀ a, (k0_off1918 v3412) a + S1x16.size a ≤ S512x128.size a) ∧
  (∀ a, (k0_off1920 v3412) a + S1x16.size a ≤ S512x128.size a) ∧
  (∀ a, (k0_off1922 v3412) a + S1x16.size a ≤ S512x128.size a) ∧
  (∀ a, (k0_off1924 v3412) a + S1x16.size a ≤ S512x128.size a) ∧
  (∀ a, (k0_off1926 v3412) a + S1x16.size a ≤ S512x128.size a) ∧
  (∀ a, (k0_off1928 v3412) a + S1x16.size a ≤ S512x128.size a)
theorem k0_off1914_inb : ∀ (v3412 : BitVec 32) (k0_hw96 : k0_chk96 v3412), ∀ a, (k0_off1914 v3412) a + S1x16.size a ≤ S512x128.size a := fun v3412 k0_hw96 => k0_hw96.1
theorem k0_off1916_inb : ∀ (v3412 : BitVec 32) (k0_hw96 : k0_chk96 v3412), ∀ a, (k0_off1916 v3412) a + S1x16.size a ≤ S512x128.size a := fun v3412 k0_hw96 => k0_hw96.2.1
theorem k0_off1918_inb : ∀ (v3412 : BitVec 32) (k0_hw96 : k0_chk96 v3412), ∀ a, (k0_off1918 v3412) a + S1x16.size a ≤ S512x128.size a := fun v3412 k0_hw96 => k0_hw96.2.2.1
theorem k0_off1920_inb : ∀ (v3412 : BitVec 32) (k0_hw96 : k0_chk96 v3412), ∀ a, (k0_off1920 v3412) a + S1x16.size a ≤ S512x128.size a := fun v3412 k0_hw96 => k0_hw96.2.2.2.1
theorem k0_off1922_inb : ∀ (v3412 : BitVec 32) (k0_hw96 : k0_chk96 v3412), ∀ a, (k0_off1922 v3412) a + S1x16.size a ≤ S512x128.size a := fun v3412 k0_hw96 => k0_hw96.2.2.2.2.1
theorem k0_off1924_inb : ∀ (v3412 : BitVec 32) (k0_hw96 : k0_chk96 v3412), ∀ a, (k0_off1924 v3412) a + S1x16.size a ≤ S512x128.size a := fun v3412 k0_hw96 => k0_hw96.2.2.2.2.2.1
theorem k0_off1926_inb : ∀ (v3412 : BitVec 32) (k0_hw96 : k0_chk96 v3412), ∀ a, (k0_off1926 v3412) a + S1x16.size a ≤ S512x128.size a := fun v3412 k0_hw96 => k0_hw96.2.2.2.2.2.2.1
theorem k0_off1928_inb : ∀ (v3412 : BitVec 32) (k0_hw96 : k0_chk96 v3412), ∀ a, (k0_off1928 v3412) a + S1x16.size a ≤ S512x128.size a := fun v3412 k0_hw96 => k0_hw96.2.2.2.2.2.2.2

def k0_off1929 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3773 : Index := Scalar.indexCast v3406
  let c0_642 : Index := 0#32
  ![v3773.toNat, 0]
def k0_off1930 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3779 : Index := Scalar.indexCast v3406
  let c16_643 : Index := 16#32
  ![v3779.toNat, 16]
def k0_off1931 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3785 : Index := Scalar.indexCast v3406
  let c32_644 : Index := 32#32
  ![v3785.toNat, 32]
def k0_off1932 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3791 : Index := Scalar.indexCast v3406
  let c48_645 : Index := 48#32
  ![v3791.toNat, 48]
def k0_off1933 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3797 : Index := Scalar.indexCast v3406
  let c64_646 : Index := 64#32
  ![v3797.toNat, 64]
def k0_off1934 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3803 : Index := Scalar.indexCast v3406
  let c80_647 : Index := 80#32
  ![v3803.toNat, 80]
def k0_off1935 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3809 : Index := Scalar.indexCast v3406
  let c96_648 : Index := 96#32
  ![v3809.toNat, 96]
def k0_off1936 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32 : BitVec 32 := 14#32
  let v3406 : BitVec 32 := Scalar.addi v147 c14_i32
  let v3815 : Index := Scalar.indexCast v3406
  let c112_649 : Index := 112#32
  ![v3815.toNat, 112]
def k0_off1937 (k0_t7 : Fin k0_t7_loop.trips) : Fin 2 → Nat :=
  let c0_i32_160 : BitVec 32 := 0#32
  let c1_i32_162 : BitVec 32 := 1#32
  let arg29 : BitVec 32 := Scf.iv c0_i32_160 c1_i32_162 k0_t7
  let c16_i32 : BitVec 32 := 16#32
  let v147 : BitVec 32 := Scalar.muli arg29 c16_i32
  let c14_i32_597 : BitVec 32 := 14#32
  let v3407 : BitVec 32 := Scalar.addi v147 c14_i32_597
  let c1_i32_598 : BitVec 32 := 1#32
  let v3408 : BitVec 32 := Scalar.addi v3407 c1_i32_598
  let v3827 : Index := Scalar.indexCast v3408
  let c0_650 : Index := 0#32
  ![v3827.toNat, 0]
@[reducible] def k0_t8_loop : Scf.Loop 32 :=
  let c0_i32_60 : BitVec 32 := 0#32
  let c4_i32_61 : BitVec 32 := 4#32
  let v61 : BitVec 32 := Scalar.addi c0_i32_60 c4_i32_61
  let c1_i32_62 : BitVec 32 := 1#32
  ⟨c0_i32_60, v61, c1_i32_62⟩
def k0_off1938 (k0_t8 : Fin k0_t8_loop.trips) : Fin 1 → Nat :=
  let c6272_i32_84 : BitVec 32 := 6272#32
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v80 : BitVec 32 := Scalar.addi c6272_i32_84 v79
  let v81 : Index := Scalar.indexCast v80
  ![v81.toNat]
def k0_off1939 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v92 : Index := Scalar.indexCast v83
  let c0_89 : Index := 0#32
  ![v92.toNat, 0]
def k0_off1940 (v87 : BitVec 32) : Fin 2 → Nat :=
  let v94 : Index := Scalar.indexCast v87
  let c0_90 : Index := 0#32
  ![v94.toNat, 0]

def k0_off1941 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v100 : Index := Scalar.indexCast v83
  let c16_91 : Index := 16#32
  ![v100.toNat, 16]
def k0_off1942 (v87 : BitVec 32) : Fin 2 → Nat :=
  let v102 : Index := Scalar.indexCast v87
  let c16_92 : Index := 16#32
  ![v102.toNat, 16]
def k0_off1943 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v108 : Index := Scalar.indexCast v83
  let c32_93 : Index := 32#32
  ![v108.toNat, 32]
def k0_off1944 (v87 : BitVec 32) : Fin 2 → Nat :=
  let v110 : Index := Scalar.indexCast v87
  let c32_94 : Index := 32#32
  ![v110.toNat, 32]
def k0_off1945 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v116 : Index := Scalar.indexCast v83
  let c48_95 : Index := 48#32
  ![v116.toNat, 48]
def k0_off1946 (v87 : BitVec 32) : Fin 2 → Nat :=
  let v118 : Index := Scalar.indexCast v87
  let c48_96 : Index := 48#32
  ![v118.toNat, 48]
def k0_off1947 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v124 : Index := Scalar.indexCast v83
  let c64_97 : Index := 64#32
  ![v124.toNat, 64]
def k0_off1948 (v87 : BitVec 32) : Fin 2 → Nat :=
  let v126 : Index := Scalar.indexCast v87
  let c64_98 : Index := 64#32
  ![v126.toNat, 64]
def k0_off1949 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v132 : Index := Scalar.indexCast v83
  let c80_99 : Index := 80#32
  ![v132.toNat, 80]
def k0_off1950 (v87 : BitVec 32) : Fin 2 → Nat :=
  let v134 : Index := Scalar.indexCast v87
  let c80_100 : Index := 80#32
  ![v134.toNat, 80]
def k0_off1951 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v140 : Index := Scalar.indexCast v83
  let c96_101 : Index := 96#32
  ![v140.toNat, 96]
def k0_off1952 (v87 : BitVec 32) : Fin 2 → Nat :=
  let v142 : Index := Scalar.indexCast v87
  let c96_102 : Index := 96#32
  ![v142.toNat, 96]
def k0_off1953 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v148 : Index := Scalar.indexCast v83
  let c112_103 : Index := 112#32
  ![v148.toNat, 112]
def k0_off1954 (v87 : BitVec 32) : Fin 2 → Nat :=
  let v150 : Index := Scalar.indexCast v87
  let c112_104 : Index := 112#32
  ![v150.toNat, 112]

def k0_chk97 (v87 : BitVec 32) : Prop :=
  (∀ a, (k0_off1940 v87) a + S1x16.size a ≤ S512x128.size a) ∧
  (∀ a, (k0_off1942 v87) a + S1x16.size a ≤ S512x128.size a) ∧
  (∀ a, (k0_off1944 v87) a + S1x16.size a ≤ S512x128.size a) ∧
  (∀ a, (k0_off1946 v87) a + S1x16.size a ≤ S512x128.size a) ∧
  (∀ a, (k0_off1948 v87) a + S1x16.size a ≤ S512x128.size a) ∧
  (∀ a, (k0_off1950 v87) a + S1x16.size a ≤ S512x128.size a) ∧
  (∀ a, (k0_off1952 v87) a + S1x16.size a ≤ S512x128.size a) ∧
  (∀ a, (k0_off1954 v87) a + S1x16.size a ≤ S512x128.size a)
theorem k0_off1940_inb : ∀ (v87 : BitVec 32) (k0_hw97 : k0_chk97 v87), ∀ a, (k0_off1940 v87) a + S1x16.size a ≤ S512x128.size a := fun v87 k0_hw97 => k0_hw97.1
theorem k0_off1942_inb : ∀ (v87 : BitVec 32) (k0_hw97 : k0_chk97 v87), ∀ a, (k0_off1942 v87) a + S1x16.size a ≤ S512x128.size a := fun v87 k0_hw97 => k0_hw97.2.1
theorem k0_off1944_inb : ∀ (v87 : BitVec 32) (k0_hw97 : k0_chk97 v87), ∀ a, (k0_off1944 v87) a + S1x16.size a ≤ S512x128.size a := fun v87 k0_hw97 => k0_hw97.2.2.1
theorem k0_off1946_inb : ∀ (v87 : BitVec 32) (k0_hw97 : k0_chk97 v87), ∀ a, (k0_off1946 v87) a + S1x16.size a ≤ S512x128.size a := fun v87 k0_hw97 => k0_hw97.2.2.2.1
theorem k0_off1948_inb : ∀ (v87 : BitVec 32) (k0_hw97 : k0_chk97 v87), ∀ a, (k0_off1948 v87) a + S1x16.size a ≤ S512x128.size a := fun v87 k0_hw97 => k0_hw97.2.2.2.2.1
theorem k0_off1950_inb : ∀ (v87 : BitVec 32) (k0_hw97 : k0_chk97 v87), ∀ a, (k0_off1950 v87) a + S1x16.size a ≤ S512x128.size a := fun v87 k0_hw97 => k0_hw97.2.2.2.2.2.1
theorem k0_off1952_inb : ∀ (v87 : BitVec 32) (k0_hw97 : k0_chk97 v87), ∀ a, (k0_off1952 v87) a + S1x16.size a ≤ S512x128.size a := fun v87 k0_hw97 => k0_hw97.2.2.2.2.2.2.1
theorem k0_off1954_inb : ∀ (v87 : BitVec 32) (k0_hw97 : k0_chk97 v87), ∀ a, (k0_off1954 v87) a + S1x16.size a ≤ S512x128.size a := fun v87 k0_hw97 => k0_hw97.2.2.2.2.2.2.2

def k0_off1955 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v254 : Index := Scalar.indexCast v85
  let c0_107 : Index := 0#32
  ![v254.toNat, 0]
def k0_off1956 (v89 : BitVec 32) : Fin 2 → Nat :=
  let v256 : Index := Scalar.indexCast v89
  let c0_108 : Index := 0#32
  ![v256.toNat, 0]

def k0_off1957 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v262 : Index := Scalar.indexCast v85
  let c16_109 : Index := 16#32
  ![v262.toNat, 16]
def k0_off1958 (v89 : BitVec 32) : Fin 2 → Nat :=
  let v264 : Index := Scalar.indexCast v89
  let c16_110 : Index := 16#32
  ![v264.toNat, 16]
def k0_off1959 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v270 : Index := Scalar.indexCast v85
  let c32_111 : Index := 32#32
  ![v270.toNat, 32]
def k0_off1960 (v89 : BitVec 32) : Fin 2 → Nat :=
  let v272 : Index := Scalar.indexCast v89
  let c32_112 : Index := 32#32
  ![v272.toNat, 32]
def k0_off1961 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v278 : Index := Scalar.indexCast v85
  let c48_113 : Index := 48#32
  ![v278.toNat, 48]
def k0_off1962 (v89 : BitVec 32) : Fin 2 → Nat :=
  let v280 : Index := Scalar.indexCast v89
  let c48_114 : Index := 48#32
  ![v280.toNat, 48]
def k0_off1963 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v286 : Index := Scalar.indexCast v85
  let c64_115 : Index := 64#32
  ![v286.toNat, 64]
def k0_off1964 (v89 : BitVec 32) : Fin 2 → Nat :=
  let v288 : Index := Scalar.indexCast v89
  let c64_116 : Index := 64#32
  ![v288.toNat, 64]
def k0_off1965 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v294 : Index := Scalar.indexCast v85
  let c80_117 : Index := 80#32
  ![v294.toNat, 80]
def k0_off1966 (v89 : BitVec 32) : Fin 2 → Nat :=
  let v296 : Index := Scalar.indexCast v89
  let c80_118 : Index := 80#32
  ![v296.toNat, 80]
def k0_off1967 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v302 : Index := Scalar.indexCast v85
  let c96_119 : Index := 96#32
  ![v302.toNat, 96]
def k0_off1968 (v89 : BitVec 32) : Fin 2 → Nat :=
  let v304 : Index := Scalar.indexCast v89
  let c96_120 : Index := 96#32
  ![v304.toNat, 96]
def k0_off1969 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v310 : Index := Scalar.indexCast v85
  let c112_121 : Index := 112#32
  ![v310.toNat, 112]
def k0_off1970 (v89 : BitVec 32) : Fin 2 → Nat :=
  let v312 : Index := Scalar.indexCast v89
  let c112_122 : Index := 112#32
  ![v312.toNat, 112]

def k0_chk98 (v89 : BitVec 32) : Prop :=
  (∀ a, (k0_off1956 v89) a + S1x16.size a ≤ S512x128.size a) ∧
  (∀ a, (k0_off1958 v89) a + S1x16.size a ≤ S512x128.size a) ∧
  (∀ a, (k0_off1960 v89) a + S1x16.size a ≤ S512x128.size a) ∧
  (∀ a, (k0_off1962 v89) a + S1x16.size a ≤ S512x128.size a) ∧
  (∀ a, (k0_off1964 v89) a + S1x16.size a ≤ S512x128.size a) ∧
  (∀ a, (k0_off1966 v89) a + S1x16.size a ≤ S512x128.size a) ∧
  (∀ a, (k0_off1968 v89) a + S1x16.size a ≤ S512x128.size a) ∧
  (∀ a, (k0_off1970 v89) a + S1x16.size a ≤ S512x128.size a)
theorem k0_off1956_inb : ∀ (v89 : BitVec 32) (k0_hw98 : k0_chk98 v89), ∀ a, (k0_off1956 v89) a + S1x16.size a ≤ S512x128.size a := fun v89 k0_hw98 => k0_hw98.1
theorem k0_off1958_inb : ∀ (v89 : BitVec 32) (k0_hw98 : k0_chk98 v89), ∀ a, (k0_off1958 v89) a + S1x16.size a ≤ S512x128.size a := fun v89 k0_hw98 => k0_hw98.2.1
theorem k0_off1960_inb : ∀ (v89 : BitVec 32) (k0_hw98 : k0_chk98 v89), ∀ a, (k0_off1960 v89) a + S1x16.size a ≤ S512x128.size a := fun v89 k0_hw98 => k0_hw98.2.2.1
theorem k0_off1962_inb : ∀ (v89 : BitVec 32) (k0_hw98 : k0_chk98 v89), ∀ a, (k0_off1962 v89) a + S1x16.size a ≤ S512x128.size a := fun v89 k0_hw98 => k0_hw98.2.2.2.1
theorem k0_off1964_inb : ∀ (v89 : BitVec 32) (k0_hw98 : k0_chk98 v89), ∀ a, (k0_off1964 v89) a + S1x16.size a ≤ S512x128.size a := fun v89 k0_hw98 => k0_hw98.2.2.2.2.1
theorem k0_off1966_inb : ∀ (v89 : BitVec 32) (k0_hw98 : k0_chk98 v89), ∀ a, (k0_off1966 v89) a + S1x16.size a ≤ S512x128.size a := fun v89 k0_hw98 => k0_hw98.2.2.2.2.2.1
theorem k0_off1968_inb : ∀ (v89 : BitVec 32) (k0_hw98 : k0_chk98 v89), ∀ a, (k0_off1968 v89) a + S1x16.size a ≤ S512x128.size a := fun v89 k0_hw98 => k0_hw98.2.2.2.2.2.2.1
theorem k0_off1970_inb : ∀ (v89 : BitVec 32) (k0_hw98 : k0_chk98 v89), ∀ a, (k0_off1970 v89) a + S1x16.size a ≤ S512x128.size a := fun v89 k0_hw98 => k0_hw98.2.2.2.2.2.2.2

def k0_off1971 (k0_t8 : Fin k0_t8_loop.trips) (c0_i32_85 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v83 : BitVec 32 := Scalar.addi v79 c0_i32_85
  let v450 : Index := Scalar.indexCast v83
  let c0_130 : Index := 0#32
  ![v450.toNat, 0]
def k0_off1972 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v456 : Index := Scalar.indexCast v83
  let c16_131 : Index := 16#32
  ![v456.toNat, 16]
def k0_off1973 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v462 : Index := Scalar.indexCast v83
  let c32_132 : Index := 32#32
  ![v462.toNat, 32]
def k0_off1974 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v468 : Index := Scalar.indexCast v83
  let c48_133 : Index := 48#32
  ![v468.toNat, 48]
def k0_off1975 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v474 : Index := Scalar.indexCast v83
  let c64_134 : Index := 64#32
  ![v474.toNat, 64]
def k0_off1976 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v480 : Index := Scalar.indexCast v83
  let c80_135 : Index := 80#32
  ![v480.toNat, 80]
def k0_off1977 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v486 : Index := Scalar.indexCast v83
  let c96_136 : Index := 96#32
  ![v486.toNat, 96]
def k0_off1978 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_85 : BitVec 32 := 0#32
  let v83 : BitVec 32 := Scalar.addi v79 c0_i32_85
  let v492 : Index := Scalar.indexCast v83
  let c112_137 : Index := 112#32
  ![v492.toNat, 112]
def k0_off1979 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v504 : Index := Scalar.indexCast v85
  let c0_138 : Index := 0#32
  ![v504.toNat, 0]
def k0_off1980 (v552 : BitVec 32) : Fin 2 → Nat :=
  let v559 : Index := Scalar.indexCast v552
  let c0_152 : Index := 0#32
  ![v559.toNat, 0]

def k0_off1981 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v565 : Index := Scalar.indexCast v548
  let c16_153 : Index := 16#32
  ![v565.toNat, 16]
def k0_off1982 (v552 : BitVec 32) : Fin 2 → Nat :=
  let v567 : Index := Scalar.indexCast v552
  let c16_154 : Index := 16#32
  ![v567.toNat, 16]
def k0_off1983 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v573 : Index := Scalar.indexCast v548
  let c32_155 : Index := 32#32
  ![v573.toNat, 32]
def k0_off1984 (v552 : BitVec 32) : Fin 2 → Nat :=
  let v575 : Index := Scalar.indexCast v552
  let c32_156 : Index := 32#32
  ![v575.toNat, 32]
def k0_off1985 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v581 : Index := Scalar.indexCast v548
  let c48_157 : Index := 48#32
  ![v581.toNat, 48]
def k0_off1986 (v552 : BitVec 32) : Fin 2 → Nat :=
  let v583 : Index := Scalar.indexCast v552
  let c48_158 : Index := 48#32
  ![v583.toNat, 48]
def k0_off1987 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v589 : Index := Scalar.indexCast v548
  let c64_159 : Index := 64#32
  ![v589.toNat, 64]
def k0_off1988 (v552 : BitVec 32) : Fin 2 → Nat :=
  let v591 : Index := Scalar.indexCast v552
  let c64_160 : Index := 64#32
  ![v591.toNat, 64]
def k0_off1989 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v597 : Index := Scalar.indexCast v548
  let c80_161 : Index := 80#32
  ![v597.toNat, 80]
def k0_off1990 (v552 : BitVec 32) : Fin 2 → Nat :=
  let v599 : Index := Scalar.indexCast v552
  let c80_162 : Index := 80#32
  ![v599.toNat, 80]
def k0_off1991 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v605 : Index := Scalar.indexCast v548
  let c96_163 : Index := 96#32
  ![v605.toNat, 96]
def k0_off1992 (v552 : BitVec 32) : Fin 2 → Nat :=
  let v607 : Index := Scalar.indexCast v552
  let c96_164 : Index := 96#32
  ![v607.toNat, 96]
def k0_off1993 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v613 : Index := Scalar.indexCast v548
  let c112_165 : Index := 112#32
  ![v613.toNat, 112]
def k0_off1994 (v552 : BitVec 32) : Fin 2 → Nat :=
  let v615 : Index := Scalar.indexCast v552
  let c112_166 : Index := 112#32
  ![v615.toNat, 112]

def k0_chk99 (v552 : BitVec 32) : Prop :=
  (∀ a, (k0_off1980 v552) a + S1x16.size a ≤ S512x128.size a) ∧
  (∀ a, (k0_off1982 v552) a + S1x16.size a ≤ S512x128.size a) ∧
  (∀ a, (k0_off1984 v552) a + S1x16.size a ≤ S512x128.size a) ∧
  (∀ a, (k0_off1986 v552) a + S1x16.size a ≤ S512x128.size a) ∧
  (∀ a, (k0_off1988 v552) a + S1x16.size a ≤ S512x128.size a) ∧
  (∀ a, (k0_off1990 v552) a + S1x16.size a ≤ S512x128.size a) ∧
  (∀ a, (k0_off1992 v552) a + S1x16.size a ≤ S512x128.size a) ∧
  (∀ a, (k0_off1994 v552) a + S1x16.size a ≤ S512x128.size a)
theorem k0_off1980_inb : ∀ (v552 : BitVec 32) (k0_hw99 : k0_chk99 v552), ∀ a, (k0_off1980 v552) a + S1x16.size a ≤ S512x128.size a := fun v552 k0_hw99 => k0_hw99.1
theorem k0_off1982_inb : ∀ (v552 : BitVec 32) (k0_hw99 : k0_chk99 v552), ∀ a, (k0_off1982 v552) a + S1x16.size a ≤ S512x128.size a := fun v552 k0_hw99 => k0_hw99.2.1
theorem k0_off1984_inb : ∀ (v552 : BitVec 32) (k0_hw99 : k0_chk99 v552), ∀ a, (k0_off1984 v552) a + S1x16.size a ≤ S512x128.size a := fun v552 k0_hw99 => k0_hw99.2.2.1
theorem k0_off1986_inb : ∀ (v552 : BitVec 32) (k0_hw99 : k0_chk99 v552), ∀ a, (k0_off1986 v552) a + S1x16.size a ≤ S512x128.size a := fun v552 k0_hw99 => k0_hw99.2.2.2.1
theorem k0_off1988_inb : ∀ (v552 : BitVec 32) (k0_hw99 : k0_chk99 v552), ∀ a, (k0_off1988 v552) a + S1x16.size a ≤ S512x128.size a := fun v552 k0_hw99 => k0_hw99.2.2.2.2.1
theorem k0_off1990_inb : ∀ (v552 : BitVec 32) (k0_hw99 : k0_chk99 v552), ∀ a, (k0_off1990 v552) a + S1x16.size a ≤ S512x128.size a := fun v552 k0_hw99 => k0_hw99.2.2.2.2.2.1
theorem k0_off1992_inb : ∀ (v552 : BitVec 32) (k0_hw99 : k0_chk99 v552), ∀ a, (k0_off1992 v552) a + S1x16.size a ≤ S512x128.size a := fun v552 k0_hw99 => k0_hw99.2.2.2.2.2.2.1
theorem k0_off1994_inb : ∀ (v552 : BitVec 32) (k0_hw99 : k0_chk99 v552), ∀ a, (k0_off1994 v552) a + S1x16.size a ≤ S512x128.size a := fun v552 k0_hw99 => k0_hw99.2.2.2.2.2.2.2

def k0_off1995 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v719 : Index := Scalar.indexCast v550
  let c0_169 : Index := 0#32
  ![v719.toNat, 0]
def k0_off1996 (v554 : BitVec 32) : Fin 2 → Nat :=
  let v721 : Index := Scalar.indexCast v554
  let c0_170 : Index := 0#32
  ![v721.toNat, 0]

def k0_off1997 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v727 : Index := Scalar.indexCast v550
  let c16_171 : Index := 16#32
  ![v727.toNat, 16]
def k0_off1998 (v554 : BitVec 32) : Fin 2 → Nat :=
  let v729 : Index := Scalar.indexCast v554
  let c16_172 : Index := 16#32
  ![v729.toNat, 16]
def k0_off1999 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v735 : Index := Scalar.indexCast v550
  let c32_173 : Index := 32#32
  ![v735.toNat, 32]
def k0_off2000 (v554 : BitVec 32) : Fin 2 → Nat :=
  let v737 : Index := Scalar.indexCast v554
  let c32_174 : Index := 32#32
  ![v737.toNat, 32]
def k0_off2001 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v743 : Index := Scalar.indexCast v550
  let c48_175 : Index := 48#32
  ![v743.toNat, 48]
def k0_off2002 (v554 : BitVec 32) : Fin 2 → Nat :=
  let v745 : Index := Scalar.indexCast v554
  let c48_176 : Index := 48#32
  ![v745.toNat, 48]
def k0_off2003 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v751 : Index := Scalar.indexCast v550
  let c64_177 : Index := 64#32
  ![v751.toNat, 64]
def k0_off2004 (v554 : BitVec 32) : Fin 2 → Nat :=
  let v753 : Index := Scalar.indexCast v554
  let c64_178 : Index := 64#32
  ![v753.toNat, 64]
def k0_off2005 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v759 : Index := Scalar.indexCast v550
  let c80_179 : Index := 80#32
  ![v759.toNat, 80]
def k0_off2006 (v554 : BitVec 32) : Fin 2 → Nat :=
  let v761 : Index := Scalar.indexCast v554
  let c80_180 : Index := 80#32
  ![v761.toNat, 80]
def k0_off2007 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v767 : Index := Scalar.indexCast v550
  let c96_181 : Index := 96#32
  ![v767.toNat, 96]
def k0_off2008 (v554 : BitVec 32) : Fin 2 → Nat :=
  let v769 : Index := Scalar.indexCast v554
  let c96_182 : Index := 96#32
  ![v769.toNat, 96]
def k0_off2009 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v775 : Index := Scalar.indexCast v550
  let c112_183 : Index := 112#32
  ![v775.toNat, 112]
def k0_off2010 (v554 : BitVec 32) : Fin 2 → Nat :=
  let v777 : Index := Scalar.indexCast v554
  let c112_184 : Index := 112#32
  ![v777.toNat, 112]

def k0_chk100 (v554 : BitVec 32) : Prop :=
  (∀ a, (k0_off1996 v554) a + S1x16.size a ≤ S512x128.size a) ∧
  (∀ a, (k0_off1998 v554) a + S1x16.size a ≤ S512x128.size a) ∧
  (∀ a, (k0_off2000 v554) a + S1x16.size a ≤ S512x128.size a) ∧
  (∀ a, (k0_off2002 v554) a + S1x16.size a ≤ S512x128.size a) ∧
  (∀ a, (k0_off2004 v554) a + S1x16.size a ≤ S512x128.size a) ∧
  (∀ a, (k0_off2006 v554) a + S1x16.size a ≤ S512x128.size a) ∧
  (∀ a, (k0_off2008 v554) a + S1x16.size a ≤ S512x128.size a) ∧
  (∀ a, (k0_off2010 v554) a + S1x16.size a ≤ S512x128.size a)
theorem k0_off1996_inb : ∀ (v554 : BitVec 32) (k0_hw100 : k0_chk100 v554), ∀ a, (k0_off1996 v554) a + S1x16.size a ≤ S512x128.size a := fun v554 k0_hw100 => k0_hw100.1
theorem k0_off1998_inb : ∀ (v554 : BitVec 32) (k0_hw100 : k0_chk100 v554), ∀ a, (k0_off1998 v554) a + S1x16.size a ≤ S512x128.size a := fun v554 k0_hw100 => k0_hw100.2.1
theorem k0_off2000_inb : ∀ (v554 : BitVec 32) (k0_hw100 : k0_chk100 v554), ∀ a, (k0_off2000 v554) a + S1x16.size a ≤ S512x128.size a := fun v554 k0_hw100 => k0_hw100.2.2.1
theorem k0_off2002_inb : ∀ (v554 : BitVec 32) (k0_hw100 : k0_chk100 v554), ∀ a, (k0_off2002 v554) a + S1x16.size a ≤ S512x128.size a := fun v554 k0_hw100 => k0_hw100.2.2.2.1
theorem k0_off2004_inb : ∀ (v554 : BitVec 32) (k0_hw100 : k0_chk100 v554), ∀ a, (k0_off2004 v554) a + S1x16.size a ≤ S512x128.size a := fun v554 k0_hw100 => k0_hw100.2.2.2.2.1
theorem k0_off2006_inb : ∀ (v554 : BitVec 32) (k0_hw100 : k0_chk100 v554), ∀ a, (k0_off2006 v554) a + S1x16.size a ≤ S512x128.size a := fun v554 k0_hw100 => k0_hw100.2.2.2.2.2.1
theorem k0_off2008_inb : ∀ (v554 : BitVec 32) (k0_hw100 : k0_chk100 v554), ∀ a, (k0_off2008 v554) a + S1x16.size a ≤ S512x128.size a := fun v554 k0_hw100 => k0_hw100.2.2.2.2.2.2.1
theorem k0_off2010_inb : ∀ (v554 : BitVec 32) (k0_hw100 : k0_chk100 v554), ∀ a, (k0_off2010 v554) a + S1x16.size a ≤ S512x128.size a := fun v554 k0_hw100 => k0_hw100.2.2.2.2.2.2.2

def k0_off2011 (k0_t8 : Fin k0_t8_loop.trips) (c2_i32_146 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v548 : BitVec 32 := Scalar.addi v79 c2_i32_146
  let v915 : Index := Scalar.indexCast v548
  let c0_192 : Index := 0#32
  ![v915.toNat, 0]
def k0_off2012 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v921 : Index := Scalar.indexCast v548
  let c16_193 : Index := 16#32
  ![v921.toNat, 16]
def k0_off2013 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v927 : Index := Scalar.indexCast v548
  let c32_194 : Index := 32#32
  ![v927.toNat, 32]
def k0_off2014 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v933 : Index := Scalar.indexCast v548
  let c48_195 : Index := 48#32
  ![v933.toNat, 48]
def k0_off2015 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v939 : Index := Scalar.indexCast v548
  let c64_196 : Index := 64#32
  ![v939.toNat, 64]
def k0_off2016 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v945 : Index := Scalar.indexCast v548
  let c80_197 : Index := 80#32
  ![v945.toNat, 80]
def k0_off2017 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v951 : Index := Scalar.indexCast v548
  let c96_198 : Index := 96#32
  ![v951.toNat, 96]
def k0_off2018 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_146 : BitVec 32 := 2#32
  let v548 : BitVec 32 := Scalar.addi v79 c2_i32_146
  let v957 : Index := Scalar.indexCast v548
  let c112_199 : Index := 112#32
  ![v957.toNat, 112]
def k0_off2019 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v969 : Index := Scalar.indexCast v550
  let c0_200 : Index := 0#32
  ![v969.toNat, 0]
def k0_off2020 (v1017 : BitVec 32) : Fin 2 → Nat :=
  let v1024 : Index := Scalar.indexCast v1017
  let c0_214 : Index := 0#32
  ![v1024.toNat, 0]

def k0_off2021 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1030 : Index := Scalar.indexCast v1013
  let c16_215 : Index := 16#32
  ![v1030.toNat, 16]
def k0_off2022 (v1017 : BitVec 32) : Fin 2 → Nat :=
  let v1032 : Index := Scalar.indexCast v1017
  let c16_216 : Index := 16#32
  ![v1032.toNat, 16]
def k0_off2023 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1038 : Index := Scalar.indexCast v1013
  let c32_217 : Index := 32#32
  ![v1038.toNat, 32]
def k0_off2024 (v1017 : BitVec 32) : Fin 2 → Nat :=
  let v1040 : Index := Scalar.indexCast v1017
  let c32_218 : Index := 32#32
  ![v1040.toNat, 32]
def k0_off2025 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1046 : Index := Scalar.indexCast v1013
  let c48_219 : Index := 48#32
  ![v1046.toNat, 48]
def k0_off2026 (v1017 : BitVec 32) : Fin 2 → Nat :=
  let v1048 : Index := Scalar.indexCast v1017
  let c48_220 : Index := 48#32
  ![v1048.toNat, 48]
def k0_off2027 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1054 : Index := Scalar.indexCast v1013
  let c64_221 : Index := 64#32
  ![v1054.toNat, 64]
def k0_off2028 (v1017 : BitVec 32) : Fin 2 → Nat :=
  let v1056 : Index := Scalar.indexCast v1017
  let c64_222 : Index := 64#32
  ![v1056.toNat, 64]
def k0_off2029 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1062 : Index := Scalar.indexCast v1013
  let c80_223 : Index := 80#32
  ![v1062.toNat, 80]
def k0_off2030 (v1017 : BitVec 32) : Fin 2 → Nat :=
  let v1064 : Index := Scalar.indexCast v1017
  let c80_224 : Index := 80#32
  ![v1064.toNat, 80]
def k0_off2031 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1070 : Index := Scalar.indexCast v1013
  let c96_225 : Index := 96#32
  ![v1070.toNat, 96]
def k0_off2032 (v1017 : BitVec 32) : Fin 2 → Nat :=
  let v1072 : Index := Scalar.indexCast v1017
  let c96_226 : Index := 96#32
  ![v1072.toNat, 96]
def k0_off2033 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1078 : Index := Scalar.indexCast v1013
  let c112_227 : Index := 112#32
  ![v1078.toNat, 112]
def k0_off2034 (v1017 : BitVec 32) : Fin 2 → Nat :=
  let v1080 : Index := Scalar.indexCast v1017
  let c112_228 : Index := 112#32
  ![v1080.toNat, 112]

def k0_chk101 (v1017 : BitVec 32) : Prop :=
  (∀ a, (k0_off2020 v1017) a + S1x16.size a ≤ S512x128.size a) ∧
  (∀ a, (k0_off2022 v1017) a + S1x16.size a ≤ S512x128.size a) ∧
  (∀ a, (k0_off2024 v1017) a + S1x16.size a ≤ S512x128.size a) ∧
  (∀ a, (k0_off2026 v1017) a + S1x16.size a ≤ S512x128.size a) ∧
  (∀ a, (k0_off2028 v1017) a + S1x16.size a ≤ S512x128.size a) ∧
  (∀ a, (k0_off2030 v1017) a + S1x16.size a ≤ S512x128.size a) ∧
  (∀ a, (k0_off2032 v1017) a + S1x16.size a ≤ S512x128.size a) ∧
  (∀ a, (k0_off2034 v1017) a + S1x16.size a ≤ S512x128.size a)
theorem k0_off2020_inb : ∀ (v1017 : BitVec 32) (k0_hw101 : k0_chk101 v1017), ∀ a, (k0_off2020 v1017) a + S1x16.size a ≤ S512x128.size a := fun v1017 k0_hw101 => k0_hw101.1
theorem k0_off2022_inb : ∀ (v1017 : BitVec 32) (k0_hw101 : k0_chk101 v1017), ∀ a, (k0_off2022 v1017) a + S1x16.size a ≤ S512x128.size a := fun v1017 k0_hw101 => k0_hw101.2.1
theorem k0_off2024_inb : ∀ (v1017 : BitVec 32) (k0_hw101 : k0_chk101 v1017), ∀ a, (k0_off2024 v1017) a + S1x16.size a ≤ S512x128.size a := fun v1017 k0_hw101 => k0_hw101.2.2.1
theorem k0_off2026_inb : ∀ (v1017 : BitVec 32) (k0_hw101 : k0_chk101 v1017), ∀ a, (k0_off2026 v1017) a + S1x16.size a ≤ S512x128.size a := fun v1017 k0_hw101 => k0_hw101.2.2.2.1
theorem k0_off2028_inb : ∀ (v1017 : BitVec 32) (k0_hw101 : k0_chk101 v1017), ∀ a, (k0_off2028 v1017) a + S1x16.size a ≤ S512x128.size a := fun v1017 k0_hw101 => k0_hw101.2.2.2.2.1
theorem k0_off2030_inb : ∀ (v1017 : BitVec 32) (k0_hw101 : k0_chk101 v1017), ∀ a, (k0_off2030 v1017) a + S1x16.size a ≤ S512x128.size a := fun v1017 k0_hw101 => k0_hw101.2.2.2.2.2.1
theorem k0_off2032_inb : ∀ (v1017 : BitVec 32) (k0_hw101 : k0_chk101 v1017), ∀ a, (k0_off2032 v1017) a + S1x16.size a ≤ S512x128.size a := fun v1017 k0_hw101 => k0_hw101.2.2.2.2.2.2.1
theorem k0_off2034_inb : ∀ (v1017 : BitVec 32) (k0_hw101 : k0_chk101 v1017), ∀ a, (k0_off2034 v1017) a + S1x16.size a ≤ S512x128.size a := fun v1017 k0_hw101 => k0_hw101.2.2.2.2.2.2.2

def k0_off2035 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1184 : Index := Scalar.indexCast v1015
  let c0_231 : Index := 0#32
  ![v1184.toNat, 0]
def k0_off2036 (v1019 : BitVec 32) : Fin 2 → Nat :=
  let v1186 : Index := Scalar.indexCast v1019
  let c0_232 : Index := 0#32
  ![v1186.toNat, 0]

def k0_off2037 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1192 : Index := Scalar.indexCast v1015
  let c16_233 : Index := 16#32
  ![v1192.toNat, 16]
def k0_off2038 (v1019 : BitVec 32) : Fin 2 → Nat :=
  let v1194 : Index := Scalar.indexCast v1019
  let c16_234 : Index := 16#32
  ![v1194.toNat, 16]
def k0_off2039 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1200 : Index := Scalar.indexCast v1015
  let c32_235 : Index := 32#32
  ![v1200.toNat, 32]
def k0_off2040 (v1019 : BitVec 32) : Fin 2 → Nat :=
  let v1202 : Index := Scalar.indexCast v1019
  let c32_236 : Index := 32#32
  ![v1202.toNat, 32]
def k0_off2041 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1208 : Index := Scalar.indexCast v1015
  let c48_237 : Index := 48#32
  ![v1208.toNat, 48]
def k0_off2042 (v1019 : BitVec 32) : Fin 2 → Nat :=
  let v1210 : Index := Scalar.indexCast v1019
  let c48_238 : Index := 48#32
  ![v1210.toNat, 48]
def k0_off2043 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1216 : Index := Scalar.indexCast v1015
  let c64_239 : Index := 64#32
  ![v1216.toNat, 64]
def k0_off2044 (v1019 : BitVec 32) : Fin 2 → Nat :=
  let v1218 : Index := Scalar.indexCast v1019
  let c64_240 : Index := 64#32
  ![v1218.toNat, 64]
def k0_off2045 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1224 : Index := Scalar.indexCast v1015
  let c80_241 : Index := 80#32
  ![v1224.toNat, 80]
def k0_off2046 (v1019 : BitVec 32) : Fin 2 → Nat :=
  let v1226 : Index := Scalar.indexCast v1019
  let c80_242 : Index := 80#32
  ![v1226.toNat, 80]
def k0_off2047 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1232 : Index := Scalar.indexCast v1015
  let c96_243 : Index := 96#32
  ![v1232.toNat, 96]
def k0_off2048 (v1019 : BitVec 32) : Fin 2 → Nat :=
  let v1234 : Index := Scalar.indexCast v1019
  let c96_244 : Index := 96#32
  ![v1234.toNat, 96]
def k0_off2049 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1240 : Index := Scalar.indexCast v1015
  let c112_245 : Index := 112#32
  ![v1240.toNat, 112]
def k0_off2050 (v1019 : BitVec 32) : Fin 2 → Nat :=
  let v1242 : Index := Scalar.indexCast v1019
  let c112_246 : Index := 112#32
  ![v1242.toNat, 112]

def k0_chk102 (v1019 : BitVec 32) : Prop :=
  (∀ a, (k0_off2036 v1019) a + S1x16.size a ≤ S512x128.size a) ∧
  (∀ a, (k0_off2038 v1019) a + S1x16.size a ≤ S512x128.size a) ∧
  (∀ a, (k0_off2040 v1019) a + S1x16.size a ≤ S512x128.size a) ∧
  (∀ a, (k0_off2042 v1019) a + S1x16.size a ≤ S512x128.size a) ∧
  (∀ a, (k0_off2044 v1019) a + S1x16.size a ≤ S512x128.size a) ∧
  (∀ a, (k0_off2046 v1019) a + S1x16.size a ≤ S512x128.size a) ∧
  (∀ a, (k0_off2048 v1019) a + S1x16.size a ≤ S512x128.size a) ∧
  (∀ a, (k0_off2050 v1019) a + S1x16.size a ≤ S512x128.size a)
theorem k0_off2036_inb : ∀ (v1019 : BitVec 32) (k0_hw102 : k0_chk102 v1019), ∀ a, (k0_off2036 v1019) a + S1x16.size a ≤ S512x128.size a := fun v1019 k0_hw102 => k0_hw102.1
theorem k0_off2038_inb : ∀ (v1019 : BitVec 32) (k0_hw102 : k0_chk102 v1019), ∀ a, (k0_off2038 v1019) a + S1x16.size a ≤ S512x128.size a := fun v1019 k0_hw102 => k0_hw102.2.1
theorem k0_off2040_inb : ∀ (v1019 : BitVec 32) (k0_hw102 : k0_chk102 v1019), ∀ a, (k0_off2040 v1019) a + S1x16.size a ≤ S512x128.size a := fun v1019 k0_hw102 => k0_hw102.2.2.1
theorem k0_off2042_inb : ∀ (v1019 : BitVec 32) (k0_hw102 : k0_chk102 v1019), ∀ a, (k0_off2042 v1019) a + S1x16.size a ≤ S512x128.size a := fun v1019 k0_hw102 => k0_hw102.2.2.2.1
theorem k0_off2044_inb : ∀ (v1019 : BitVec 32) (k0_hw102 : k0_chk102 v1019), ∀ a, (k0_off2044 v1019) a + S1x16.size a ≤ S512x128.size a := fun v1019 k0_hw102 => k0_hw102.2.2.2.2.1
theorem k0_off2046_inb : ∀ (v1019 : BitVec 32) (k0_hw102 : k0_chk102 v1019), ∀ a, (k0_off2046 v1019) a + S1x16.size a ≤ S512x128.size a := fun v1019 k0_hw102 => k0_hw102.2.2.2.2.2.1
theorem k0_off2048_inb : ∀ (v1019 : BitVec 32) (k0_hw102 : k0_chk102 v1019), ∀ a, (k0_off2048 v1019) a + S1x16.size a ≤ S512x128.size a := fun v1019 k0_hw102 => k0_hw102.2.2.2.2.2.2.1
theorem k0_off2050_inb : ∀ (v1019 : BitVec 32) (k0_hw102 : k0_chk102 v1019), ∀ a, (k0_off2050 v1019) a + S1x16.size a ≤ S512x128.size a := fun v1019 k0_hw102 => k0_hw102.2.2.2.2.2.2.2

def k0_off2051 (k0_t8 : Fin k0_t8_loop.trips) (c4_i32_208 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v1013 : BitVec 32 := Scalar.addi v79 c4_i32_208
  let v1380 : Index := Scalar.indexCast v1013
  let c0_254 : Index := 0#32
  ![v1380.toNat, 0]
def k0_off2052 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1386 : Index := Scalar.indexCast v1013
  let c16_255 : Index := 16#32
  ![v1386.toNat, 16]
def k0_off2053 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1392 : Index := Scalar.indexCast v1013
  let c32_256 : Index := 32#32
  ![v1392.toNat, 32]
def k0_off2054 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1398 : Index := Scalar.indexCast v1013
  let c48_257 : Index := 48#32
  ![v1398.toNat, 48]
def k0_off2055 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1404 : Index := Scalar.indexCast v1013
  let c64_258 : Index := 64#32
  ![v1404.toNat, 64]
def k0_off2056 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1410 : Index := Scalar.indexCast v1013
  let c80_259 : Index := 80#32
  ![v1410.toNat, 80]
def k0_off2057 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1416 : Index := Scalar.indexCast v1013
  let c96_260 : Index := 96#32
  ![v1416.toNat, 96]
def k0_off2058 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_208 : BitVec 32 := 4#32
  let v1013 : BitVec 32 := Scalar.addi v79 c4_i32_208
  let v1422 : Index := Scalar.indexCast v1013
  let c112_261 : Index := 112#32
  ![v1422.toNat, 112]
def k0_off2059 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1434 : Index := Scalar.indexCast v1015
  let c0_262 : Index := 0#32
  ![v1434.toNat, 0]
def k0_off2060 (v1482 : BitVec 32) : Fin 2 → Nat :=
  let v1489 : Index := Scalar.indexCast v1482
  let c0_275 : Index := 0#32
  ![v1489.toNat, 0]

def k0_off2061 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1495 : Index := Scalar.indexCast v1478
  let c16_276 : Index := 16#32
  ![v1495.toNat, 16]
def k0_off2062 (v1482 : BitVec 32) : Fin 2 → Nat :=
  let v1497 : Index := Scalar.indexCast v1482
  let c16_277 : Index := 16#32
  ![v1497.toNat, 16]
def k0_off2063 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1503 : Index := Scalar.indexCast v1478
  let c32_278 : Index := 32#32
  ![v1503.toNat, 32]
def k0_off2064 (v1482 : BitVec 32) : Fin 2 → Nat :=
  let v1505 : Index := Scalar.indexCast v1482
  let c32_279 : Index := 32#32
  ![v1505.toNat, 32]
def k0_off2065 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1511 : Index := Scalar.indexCast v1478
  let c48_280 : Index := 48#32
  ![v1511.toNat, 48]
def k0_off2066 (v1482 : BitVec 32) : Fin 2 → Nat :=
  let v1513 : Index := Scalar.indexCast v1482
  let c48_281 : Index := 48#32
  ![v1513.toNat, 48]
def k0_off2067 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1519 : Index := Scalar.indexCast v1478
  let c64_282 : Index := 64#32
  ![v1519.toNat, 64]
def k0_off2068 (v1482 : BitVec 32) : Fin 2 → Nat :=
  let v1521 : Index := Scalar.indexCast v1482
  let c64_283 : Index := 64#32
  ![v1521.toNat, 64]
def k0_off2069 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1527 : Index := Scalar.indexCast v1478
  let c80_284 : Index := 80#32
  ![v1527.toNat, 80]
def k0_off2070 (v1482 : BitVec 32) : Fin 2 → Nat :=
  let v1529 : Index := Scalar.indexCast v1482
  let c80_285 : Index := 80#32
  ![v1529.toNat, 80]
def k0_off2071 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1535 : Index := Scalar.indexCast v1478
  let c96_286 : Index := 96#32
  ![v1535.toNat, 96]
def k0_off2072 (v1482 : BitVec 32) : Fin 2 → Nat :=
  let v1537 : Index := Scalar.indexCast v1482
  let c96_287 : Index := 96#32
  ![v1537.toNat, 96]
def k0_off2073 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1543 : Index := Scalar.indexCast v1478
  let c112_288 : Index := 112#32
  ![v1543.toNat, 112]
def k0_off2074 (v1482 : BitVec 32) : Fin 2 → Nat :=
  let v1545 : Index := Scalar.indexCast v1482
  let c112_289 : Index := 112#32
  ![v1545.toNat, 112]

def k0_chk103 (v1482 : BitVec 32) : Prop :=
  (∀ a, (k0_off2060 v1482) a + S1x16.size a ≤ S512x128.size a) ∧
  (∀ a, (k0_off2062 v1482) a + S1x16.size a ≤ S512x128.size a) ∧
  (∀ a, (k0_off2064 v1482) a + S1x16.size a ≤ S512x128.size a) ∧
  (∀ a, (k0_off2066 v1482) a + S1x16.size a ≤ S512x128.size a) ∧
  (∀ a, (k0_off2068 v1482) a + S1x16.size a ≤ S512x128.size a) ∧
  (∀ a, (k0_off2070 v1482) a + S1x16.size a ≤ S512x128.size a) ∧
  (∀ a, (k0_off2072 v1482) a + S1x16.size a ≤ S512x128.size a) ∧
  (∀ a, (k0_off2074 v1482) a + S1x16.size a ≤ S512x128.size a)
theorem k0_off2060_inb : ∀ (v1482 : BitVec 32) (k0_hw103 : k0_chk103 v1482), ∀ a, (k0_off2060 v1482) a + S1x16.size a ≤ S512x128.size a := fun v1482 k0_hw103 => k0_hw103.1
theorem k0_off2062_inb : ∀ (v1482 : BitVec 32) (k0_hw103 : k0_chk103 v1482), ∀ a, (k0_off2062 v1482) a + S1x16.size a ≤ S512x128.size a := fun v1482 k0_hw103 => k0_hw103.2.1
theorem k0_off2064_inb : ∀ (v1482 : BitVec 32) (k0_hw103 : k0_chk103 v1482), ∀ a, (k0_off2064 v1482) a + S1x16.size a ≤ S512x128.size a := fun v1482 k0_hw103 => k0_hw103.2.2.1
theorem k0_off2066_inb : ∀ (v1482 : BitVec 32) (k0_hw103 : k0_chk103 v1482), ∀ a, (k0_off2066 v1482) a + S1x16.size a ≤ S512x128.size a := fun v1482 k0_hw103 => k0_hw103.2.2.2.1
theorem k0_off2068_inb : ∀ (v1482 : BitVec 32) (k0_hw103 : k0_chk103 v1482), ∀ a, (k0_off2068 v1482) a + S1x16.size a ≤ S512x128.size a := fun v1482 k0_hw103 => k0_hw103.2.2.2.2.1
theorem k0_off2070_inb : ∀ (v1482 : BitVec 32) (k0_hw103 : k0_chk103 v1482), ∀ a, (k0_off2070 v1482) a + S1x16.size a ≤ S512x128.size a := fun v1482 k0_hw103 => k0_hw103.2.2.2.2.2.1
theorem k0_off2072_inb : ∀ (v1482 : BitVec 32) (k0_hw103 : k0_chk103 v1482), ∀ a, (k0_off2072 v1482) a + S1x16.size a ≤ S512x128.size a := fun v1482 k0_hw103 => k0_hw103.2.2.2.2.2.2.1
theorem k0_off2074_inb : ∀ (v1482 : BitVec 32) (k0_hw103 : k0_chk103 v1482), ∀ a, (k0_off2074 v1482) a + S1x16.size a ≤ S512x128.size a := fun v1482 k0_hw103 => k0_hw103.2.2.2.2.2.2.2

def k0_off2075 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1649 : Index := Scalar.indexCast v1480
  let c0_292 : Index := 0#32
  ![v1649.toNat, 0]
def k0_off2076 (v1484 : BitVec 32) : Fin 2 → Nat :=
  let v1651 : Index := Scalar.indexCast v1484
  let c0_293 : Index := 0#32
  ![v1651.toNat, 0]

def k0_off2077 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1657 : Index := Scalar.indexCast v1480
  let c16_294 : Index := 16#32
  ![v1657.toNat, 16]
def k0_off2078 (v1484 : BitVec 32) : Fin 2 → Nat :=
  let v1659 : Index := Scalar.indexCast v1484
  let c16_295 : Index := 16#32
  ![v1659.toNat, 16]
def k0_off2079 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1665 : Index := Scalar.indexCast v1480
  let c32_296 : Index := 32#32
  ![v1665.toNat, 32]
def k0_off2080 (v1484 : BitVec 32) : Fin 2 → Nat :=
  let v1667 : Index := Scalar.indexCast v1484
  let c32_297 : Index := 32#32
  ![v1667.toNat, 32]
def k0_off2081 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1673 : Index := Scalar.indexCast v1480
  let c48_298 : Index := 48#32
  ![v1673.toNat, 48]
def k0_off2082 (v1484 : BitVec 32) : Fin 2 → Nat :=
  let v1675 : Index := Scalar.indexCast v1484
  let c48_299 : Index := 48#32
  ![v1675.toNat, 48]
def k0_off2083 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1681 : Index := Scalar.indexCast v1480
  let c64_300 : Index := 64#32
  ![v1681.toNat, 64]
def k0_off2084 (v1484 : BitVec 32) : Fin 2 → Nat :=
  let v1683 : Index := Scalar.indexCast v1484
  let c64_301 : Index := 64#32
  ![v1683.toNat, 64]
def k0_off2085 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1689 : Index := Scalar.indexCast v1480
  let c80_302 : Index := 80#32
  ![v1689.toNat, 80]
def k0_off2086 (v1484 : BitVec 32) : Fin 2 → Nat :=
  let v1691 : Index := Scalar.indexCast v1484
  let c80_303 : Index := 80#32
  ![v1691.toNat, 80]
def k0_off2087 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1697 : Index := Scalar.indexCast v1480
  let c96_304 : Index := 96#32
  ![v1697.toNat, 96]
def k0_off2088 (v1484 : BitVec 32) : Fin 2 → Nat :=
  let v1699 : Index := Scalar.indexCast v1484
  let c96_305 : Index := 96#32
  ![v1699.toNat, 96]
def k0_off2089 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1705 : Index := Scalar.indexCast v1480
  let c112_306 : Index := 112#32
  ![v1705.toNat, 112]
def k0_off2090 (v1484 : BitVec 32) : Fin 2 → Nat :=
  let v1707 : Index := Scalar.indexCast v1484
  let c112_307 : Index := 112#32
  ![v1707.toNat, 112]

def k0_chk104 (v1484 : BitVec 32) : Prop :=
  (∀ a, (k0_off2076 v1484) a + S1x16.size a ≤ S512x128.size a) ∧
  (∀ a, (k0_off2078 v1484) a + S1x16.size a ≤ S512x128.size a) ∧
  (∀ a, (k0_off2080 v1484) a + S1x16.size a ≤ S512x128.size a) ∧
  (∀ a, (k0_off2082 v1484) a + S1x16.size a ≤ S512x128.size a) ∧
  (∀ a, (k0_off2084 v1484) a + S1x16.size a ≤ S512x128.size a) ∧
  (∀ a, (k0_off2086 v1484) a + S1x16.size a ≤ S512x128.size a) ∧
  (∀ a, (k0_off2088 v1484) a + S1x16.size a ≤ S512x128.size a) ∧
  (∀ a, (k0_off2090 v1484) a + S1x16.size a ≤ S512x128.size a)
theorem k0_off2076_inb : ∀ (v1484 : BitVec 32) (k0_hw104 : k0_chk104 v1484), ∀ a, (k0_off2076 v1484) a + S1x16.size a ≤ S512x128.size a := fun v1484 k0_hw104 => k0_hw104.1
theorem k0_off2078_inb : ∀ (v1484 : BitVec 32) (k0_hw104 : k0_chk104 v1484), ∀ a, (k0_off2078 v1484) a + S1x16.size a ≤ S512x128.size a := fun v1484 k0_hw104 => k0_hw104.2.1
theorem k0_off2080_inb : ∀ (v1484 : BitVec 32) (k0_hw104 : k0_chk104 v1484), ∀ a, (k0_off2080 v1484) a + S1x16.size a ≤ S512x128.size a := fun v1484 k0_hw104 => k0_hw104.2.2.1
theorem k0_off2082_inb : ∀ (v1484 : BitVec 32) (k0_hw104 : k0_chk104 v1484), ∀ a, (k0_off2082 v1484) a + S1x16.size a ≤ S512x128.size a := fun v1484 k0_hw104 => k0_hw104.2.2.2.1
theorem k0_off2084_inb : ∀ (v1484 : BitVec 32) (k0_hw104 : k0_chk104 v1484), ∀ a, (k0_off2084 v1484) a + S1x16.size a ≤ S512x128.size a := fun v1484 k0_hw104 => k0_hw104.2.2.2.2.1
theorem k0_off2086_inb : ∀ (v1484 : BitVec 32) (k0_hw104 : k0_chk104 v1484), ∀ a, (k0_off2086 v1484) a + S1x16.size a ≤ S512x128.size a := fun v1484 k0_hw104 => k0_hw104.2.2.2.2.2.1
theorem k0_off2088_inb : ∀ (v1484 : BitVec 32) (k0_hw104 : k0_chk104 v1484), ∀ a, (k0_off2088 v1484) a + S1x16.size a ≤ S512x128.size a := fun v1484 k0_hw104 => k0_hw104.2.2.2.2.2.2.1
theorem k0_off2090_inb : ∀ (v1484 : BitVec 32) (k0_hw104 : k0_chk104 v1484), ∀ a, (k0_off2090 v1484) a + S1x16.size a ≤ S512x128.size a := fun v1484 k0_hw104 => k0_hw104.2.2.2.2.2.2.2

def k0_off2091 (k0_t8 : Fin k0_t8_loop.trips) (c6_i32 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v1478 : BitVec 32 := Scalar.addi v79 c6_i32
  let v1845 : Index := Scalar.indexCast v1478
  let c0_315 : Index := 0#32
  ![v1845.toNat, 0]
def k0_off2092 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1851 : Index := Scalar.indexCast v1478
  let c16_316 : Index := 16#32
  ![v1851.toNat, 16]
def k0_off2093 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1857 : Index := Scalar.indexCast v1478
  let c32_317 : Index := 32#32
  ![v1857.toNat, 32]
def k0_off2094 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1863 : Index := Scalar.indexCast v1478
  let c48_318 : Index := 48#32
  ![v1863.toNat, 48]
def k0_off2095 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1869 : Index := Scalar.indexCast v1478
  let c64_319 : Index := 64#32
  ![v1869.toNat, 64]
def k0_off2096 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1875 : Index := Scalar.indexCast v1478
  let c80_320 : Index := 80#32
  ![v1875.toNat, 80]
def k0_off2097 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1881 : Index := Scalar.indexCast v1478
  let c96_321 : Index := 96#32
  ![v1881.toNat, 96]
def k0_off2098 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32 : BitVec 32 := 6#32
  let v1478 : BitVec 32 := Scalar.addi v79 c6_i32
  let v1887 : Index := Scalar.indexCast v1478
  let c112_322 : Index := 112#32
  ![v1887.toNat, 112]
def k0_off2099 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1899 : Index := Scalar.indexCast v1480
  let c0_323 : Index := 0#32
  ![v1899.toNat, 0]
def k0_off2100 (v1947 : BitVec 32) : Fin 2 → Nat :=
  let v1954 : Index := Scalar.indexCast v1947
  let c0_337 : Index := 0#32
  ![v1954.toNat, 0]

def k0_off2101 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v1960 : Index := Scalar.indexCast v1943
  let c16_338 : Index := 16#32
  ![v1960.toNat, 16]
def k0_off2102 (v1947 : BitVec 32) : Fin 2 → Nat :=
  let v1962 : Index := Scalar.indexCast v1947
  let c16_339 : Index := 16#32
  ![v1962.toNat, 16]
def k0_off2103 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v1968 : Index := Scalar.indexCast v1943
  let c32_340 : Index := 32#32
  ![v1968.toNat, 32]
def k0_off2104 (v1947 : BitVec 32) : Fin 2 → Nat :=
  let v1970 : Index := Scalar.indexCast v1947
  let c32_341 : Index := 32#32
  ![v1970.toNat, 32]
def k0_off2105 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v1976 : Index := Scalar.indexCast v1943
  let c48_342 : Index := 48#32
  ![v1976.toNat, 48]
def k0_off2106 (v1947 : BitVec 32) : Fin 2 → Nat :=
  let v1978 : Index := Scalar.indexCast v1947
  let c48_343 : Index := 48#32
  ![v1978.toNat, 48]
def k0_off2107 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v1984 : Index := Scalar.indexCast v1943
  let c64_344 : Index := 64#32
  ![v1984.toNat, 64]
def k0_off2108 (v1947 : BitVec 32) : Fin 2 → Nat :=
  let v1986 : Index := Scalar.indexCast v1947
  let c64_345 : Index := 64#32
  ![v1986.toNat, 64]
def k0_off2109 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v1992 : Index := Scalar.indexCast v1943
  let c80_346 : Index := 80#32
  ![v1992.toNat, 80]
def k0_off2110 (v1947 : BitVec 32) : Fin 2 → Nat :=
  let v1994 : Index := Scalar.indexCast v1947
  let c80_347 : Index := 80#32
  ![v1994.toNat, 80]
def k0_off2111 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2000 : Index := Scalar.indexCast v1943
  let c96_348 : Index := 96#32
  ![v2000.toNat, 96]
def k0_off2112 (v1947 : BitVec 32) : Fin 2 → Nat :=
  let v2002 : Index := Scalar.indexCast v1947
  let c96_349 : Index := 96#32
  ![v2002.toNat, 96]
def k0_off2113 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2008 : Index := Scalar.indexCast v1943
  let c112_350 : Index := 112#32
  ![v2008.toNat, 112]
def k0_off2114 (v1947 : BitVec 32) : Fin 2 → Nat :=
  let v2010 : Index := Scalar.indexCast v1947
  let c112_351 : Index := 112#32
  ![v2010.toNat, 112]

def k0_chk105 (v1947 : BitVec 32) : Prop :=
  (∀ a, (k0_off2100 v1947) a + S1x16.size a ≤ S512x128.size a) ∧
  (∀ a, (k0_off2102 v1947) a + S1x16.size a ≤ S512x128.size a) ∧
  (∀ a, (k0_off2104 v1947) a + S1x16.size a ≤ S512x128.size a) ∧
  (∀ a, (k0_off2106 v1947) a + S1x16.size a ≤ S512x128.size a) ∧
  (∀ a, (k0_off2108 v1947) a + S1x16.size a ≤ S512x128.size a) ∧
  (∀ a, (k0_off2110 v1947) a + S1x16.size a ≤ S512x128.size a) ∧
  (∀ a, (k0_off2112 v1947) a + S1x16.size a ≤ S512x128.size a) ∧
  (∀ a, (k0_off2114 v1947) a + S1x16.size a ≤ S512x128.size a)
theorem k0_off2100_inb : ∀ (v1947 : BitVec 32) (k0_hw105 : k0_chk105 v1947), ∀ a, (k0_off2100 v1947) a + S1x16.size a ≤ S512x128.size a := fun v1947 k0_hw105 => k0_hw105.1
theorem k0_off2102_inb : ∀ (v1947 : BitVec 32) (k0_hw105 : k0_chk105 v1947), ∀ a, (k0_off2102 v1947) a + S1x16.size a ≤ S512x128.size a := fun v1947 k0_hw105 => k0_hw105.2.1
theorem k0_off2104_inb : ∀ (v1947 : BitVec 32) (k0_hw105 : k0_chk105 v1947), ∀ a, (k0_off2104 v1947) a + S1x16.size a ≤ S512x128.size a := fun v1947 k0_hw105 => k0_hw105.2.2.1
theorem k0_off2106_inb : ∀ (v1947 : BitVec 32) (k0_hw105 : k0_chk105 v1947), ∀ a, (k0_off2106 v1947) a + S1x16.size a ≤ S512x128.size a := fun v1947 k0_hw105 => k0_hw105.2.2.2.1
theorem k0_off2108_inb : ∀ (v1947 : BitVec 32) (k0_hw105 : k0_chk105 v1947), ∀ a, (k0_off2108 v1947) a + S1x16.size a ≤ S512x128.size a := fun v1947 k0_hw105 => k0_hw105.2.2.2.2.1
theorem k0_off2110_inb : ∀ (v1947 : BitVec 32) (k0_hw105 : k0_chk105 v1947), ∀ a, (k0_off2110 v1947) a + S1x16.size a ≤ S512x128.size a := fun v1947 k0_hw105 => k0_hw105.2.2.2.2.2.1
theorem k0_off2112_inb : ∀ (v1947 : BitVec 32) (k0_hw105 : k0_chk105 v1947), ∀ a, (k0_off2112 v1947) a + S1x16.size a ≤ S512x128.size a := fun v1947 k0_hw105 => k0_hw105.2.2.2.2.2.2.1
theorem k0_off2114_inb : ∀ (v1947 : BitVec 32) (k0_hw105 : k0_chk105 v1947), ∀ a, (k0_off2114 v1947) a + S1x16.size a ≤ S512x128.size a := fun v1947 k0_hw105 => k0_hw105.2.2.2.2.2.2.2

def k0_off2115 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2114 : Index := Scalar.indexCast v1945
  let c0_354 : Index := 0#32
  ![v2114.toNat, 0]
def k0_off2116 (v1949 : BitVec 32) : Fin 2 → Nat :=
  let v2116 : Index := Scalar.indexCast v1949
  let c0_355 : Index := 0#32
  ![v2116.toNat, 0]

def k0_off2117 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2122 : Index := Scalar.indexCast v1945
  let c16_356 : Index := 16#32
  ![v2122.toNat, 16]
def k0_off2118 (v1949 : BitVec 32) : Fin 2 → Nat :=
  let v2124 : Index := Scalar.indexCast v1949
  let c16_357 : Index := 16#32
  ![v2124.toNat, 16]
def k0_off2119 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2130 : Index := Scalar.indexCast v1945
  let c32_358 : Index := 32#32
  ![v2130.toNat, 32]
def k0_off2120 (v1949 : BitVec 32) : Fin 2 → Nat :=
  let v2132 : Index := Scalar.indexCast v1949
  let c32_359 : Index := 32#32
  ![v2132.toNat, 32]
def k0_off2121 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2138 : Index := Scalar.indexCast v1945
  let c48_360 : Index := 48#32
  ![v2138.toNat, 48]
def k0_off2122 (v1949 : BitVec 32) : Fin 2 → Nat :=
  let v2140 : Index := Scalar.indexCast v1949
  let c48_361 : Index := 48#32
  ![v2140.toNat, 48]
def k0_off2123 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2146 : Index := Scalar.indexCast v1945
  let c64_362 : Index := 64#32
  ![v2146.toNat, 64]
def k0_off2124 (v1949 : BitVec 32) : Fin 2 → Nat :=
  let v2148 : Index := Scalar.indexCast v1949
  let c64_363 : Index := 64#32
  ![v2148.toNat, 64]
def k0_off2125 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2154 : Index := Scalar.indexCast v1945
  let c80_364 : Index := 80#32
  ![v2154.toNat, 80]
def k0_off2126 (v1949 : BitVec 32) : Fin 2 → Nat :=
  let v2156 : Index := Scalar.indexCast v1949
  let c80_365 : Index := 80#32
  ![v2156.toNat, 80]
def k0_off2127 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2162 : Index := Scalar.indexCast v1945
  let c96_366 : Index := 96#32
  ![v2162.toNat, 96]
def k0_off2128 (v1949 : BitVec 32) : Fin 2 → Nat :=
  let v2164 : Index := Scalar.indexCast v1949
  let c96_367 : Index := 96#32
  ![v2164.toNat, 96]
def k0_off2129 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2170 : Index := Scalar.indexCast v1945
  let c112_368 : Index := 112#32
  ![v2170.toNat, 112]
def k0_off2130 (v1949 : BitVec 32) : Fin 2 → Nat :=
  let v2172 : Index := Scalar.indexCast v1949
  let c112_369 : Index := 112#32
  ![v2172.toNat, 112]

def k0_chk106 (v1949 : BitVec 32) : Prop :=
  (∀ a, (k0_off2116 v1949) a + S1x16.size a ≤ S512x128.size a) ∧
  (∀ a, (k0_off2118 v1949) a + S1x16.size a ≤ S512x128.size a) ∧
  (∀ a, (k0_off2120 v1949) a + S1x16.size a ≤ S512x128.size a) ∧
  (∀ a, (k0_off2122 v1949) a + S1x16.size a ≤ S512x128.size a) ∧
  (∀ a, (k0_off2124 v1949) a + S1x16.size a ≤ S512x128.size a) ∧
  (∀ a, (k0_off2126 v1949) a + S1x16.size a ≤ S512x128.size a) ∧
  (∀ a, (k0_off2128 v1949) a + S1x16.size a ≤ S512x128.size a) ∧
  (∀ a, (k0_off2130 v1949) a + S1x16.size a ≤ S512x128.size a)
theorem k0_off2116_inb : ∀ (v1949 : BitVec 32) (k0_hw106 : k0_chk106 v1949), ∀ a, (k0_off2116 v1949) a + S1x16.size a ≤ S512x128.size a := fun v1949 k0_hw106 => k0_hw106.1
theorem k0_off2118_inb : ∀ (v1949 : BitVec 32) (k0_hw106 : k0_chk106 v1949), ∀ a, (k0_off2118 v1949) a + S1x16.size a ≤ S512x128.size a := fun v1949 k0_hw106 => k0_hw106.2.1
theorem k0_off2120_inb : ∀ (v1949 : BitVec 32) (k0_hw106 : k0_chk106 v1949), ∀ a, (k0_off2120 v1949) a + S1x16.size a ≤ S512x128.size a := fun v1949 k0_hw106 => k0_hw106.2.2.1
theorem k0_off2122_inb : ∀ (v1949 : BitVec 32) (k0_hw106 : k0_chk106 v1949), ∀ a, (k0_off2122 v1949) a + S1x16.size a ≤ S512x128.size a := fun v1949 k0_hw106 => k0_hw106.2.2.2.1
theorem k0_off2124_inb : ∀ (v1949 : BitVec 32) (k0_hw106 : k0_chk106 v1949), ∀ a, (k0_off2124 v1949) a + S1x16.size a ≤ S512x128.size a := fun v1949 k0_hw106 => k0_hw106.2.2.2.2.1
theorem k0_off2126_inb : ∀ (v1949 : BitVec 32) (k0_hw106 : k0_chk106 v1949), ∀ a, (k0_off2126 v1949) a + S1x16.size a ≤ S512x128.size a := fun v1949 k0_hw106 => k0_hw106.2.2.2.2.2.1
theorem k0_off2128_inb : ∀ (v1949 : BitVec 32) (k0_hw106 : k0_chk106 v1949), ∀ a, (k0_off2128 v1949) a + S1x16.size a ≤ S512x128.size a := fun v1949 k0_hw106 => k0_hw106.2.2.2.2.2.2.1
theorem k0_off2130_inb : ∀ (v1949 : BitVec 32) (k0_hw106 : k0_chk106 v1949), ∀ a, (k0_off2130 v1949) a + S1x16.size a ≤ S512x128.size a := fun v1949 k0_hw106 => k0_hw106.2.2.2.2.2.2.2

def k0_off2131 (k0_t8 : Fin k0_t8_loop.trips) (c8_i32_331 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v1943 : BitVec 32 := Scalar.addi v79 c8_i32_331
  let v2310 : Index := Scalar.indexCast v1943
  let c0_377 : Index := 0#32
  ![v2310.toNat, 0]
def k0_off2132 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2316 : Index := Scalar.indexCast v1943
  let c16_378 : Index := 16#32
  ![v2316.toNat, 16]
def k0_off2133 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2322 : Index := Scalar.indexCast v1943
  let c32_379 : Index := 32#32
  ![v2322.toNat, 32]
def k0_off2134 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2328 : Index := Scalar.indexCast v1943
  let c48_380 : Index := 48#32
  ![v2328.toNat, 48]
def k0_off2135 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2334 : Index := Scalar.indexCast v1943
  let c64_381 : Index := 64#32
  ![v2334.toNat, 64]
def k0_off2136 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2340 : Index := Scalar.indexCast v1943
  let c80_382 : Index := 80#32
  ![v2340.toNat, 80]
def k0_off2137 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2346 : Index := Scalar.indexCast v1943
  let c96_383 : Index := 96#32
  ![v2346.toNat, 96]
def k0_off2138 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_331 : BitVec 32 := 8#32
  let v1943 : BitVec 32 := Scalar.addi v79 c8_i32_331
  let v2352 : Index := Scalar.indexCast v1943
  let c112_384 : Index := 112#32
  ![v2352.toNat, 112]
def k0_off2139 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2364 : Index := Scalar.indexCast v1945
  let c0_385 : Index := 0#32
  ![v2364.toNat, 0]
def k0_off2140 (v2412 : BitVec 32) : Fin 2 → Nat :=
  let v2419 : Index := Scalar.indexCast v2412
  let c0_398 : Index := 0#32
  ![v2419.toNat, 0]

def k0_off2141 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2425 : Index := Scalar.indexCast v2408
  let c16_399 : Index := 16#32
  ![v2425.toNat, 16]
def k0_off2142 (v2412 : BitVec 32) : Fin 2 → Nat :=
  let v2427 : Index := Scalar.indexCast v2412
  let c16_400 : Index := 16#32
  ![v2427.toNat, 16]
def k0_off2143 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2433 : Index := Scalar.indexCast v2408
  let c32_401 : Index := 32#32
  ![v2433.toNat, 32]
def k0_off2144 (v2412 : BitVec 32) : Fin 2 → Nat :=
  let v2435 : Index := Scalar.indexCast v2412
  let c32_402 : Index := 32#32
  ![v2435.toNat, 32]
def k0_off2145 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2441 : Index := Scalar.indexCast v2408
  let c48_403 : Index := 48#32
  ![v2441.toNat, 48]
def k0_off2146 (v2412 : BitVec 32) : Fin 2 → Nat :=
  let v2443 : Index := Scalar.indexCast v2412
  let c48_404 : Index := 48#32
  ![v2443.toNat, 48]
def k0_off2147 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2449 : Index := Scalar.indexCast v2408
  let c64_405 : Index := 64#32
  ![v2449.toNat, 64]
def k0_off2148 (v2412 : BitVec 32) : Fin 2 → Nat :=
  let v2451 : Index := Scalar.indexCast v2412
  let c64_406 : Index := 64#32
  ![v2451.toNat, 64]
def k0_off2149 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2457 : Index := Scalar.indexCast v2408
  let c80_407 : Index := 80#32
  ![v2457.toNat, 80]
def k0_off2150 (v2412 : BitVec 32) : Fin 2 → Nat :=
  let v2459 : Index := Scalar.indexCast v2412
  let c80_408 : Index := 80#32
  ![v2459.toNat, 80]
def k0_off2151 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2465 : Index := Scalar.indexCast v2408
  let c96_409 : Index := 96#32
  ![v2465.toNat, 96]
def k0_off2152 (v2412 : BitVec 32) : Fin 2 → Nat :=
  let v2467 : Index := Scalar.indexCast v2412
  let c96_410 : Index := 96#32
  ![v2467.toNat, 96]
def k0_off2153 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2473 : Index := Scalar.indexCast v2408
  let c112_411 : Index := 112#32
  ![v2473.toNat, 112]
def k0_off2154 (v2412 : BitVec 32) : Fin 2 → Nat :=
  let v2475 : Index := Scalar.indexCast v2412
  let c112_412 : Index := 112#32
  ![v2475.toNat, 112]

def k0_chk107 (v2412 : BitVec 32) : Prop :=
  (∀ a, (k0_off2140 v2412) a + S1x16.size a ≤ S512x128.size a) ∧
  (∀ a, (k0_off2142 v2412) a + S1x16.size a ≤ S512x128.size a) ∧
  (∀ a, (k0_off2144 v2412) a + S1x16.size a ≤ S512x128.size a) ∧
  (∀ a, (k0_off2146 v2412) a + S1x16.size a ≤ S512x128.size a) ∧
  (∀ a, (k0_off2148 v2412) a + S1x16.size a ≤ S512x128.size a) ∧
  (∀ a, (k0_off2150 v2412) a + S1x16.size a ≤ S512x128.size a) ∧
  (∀ a, (k0_off2152 v2412) a + S1x16.size a ≤ S512x128.size a) ∧
  (∀ a, (k0_off2154 v2412) a + S1x16.size a ≤ S512x128.size a)
theorem k0_off2140_inb : ∀ (v2412 : BitVec 32) (k0_hw107 : k0_chk107 v2412), ∀ a, (k0_off2140 v2412) a + S1x16.size a ≤ S512x128.size a := fun v2412 k0_hw107 => k0_hw107.1
theorem k0_off2142_inb : ∀ (v2412 : BitVec 32) (k0_hw107 : k0_chk107 v2412), ∀ a, (k0_off2142 v2412) a + S1x16.size a ≤ S512x128.size a := fun v2412 k0_hw107 => k0_hw107.2.1
theorem k0_off2144_inb : ∀ (v2412 : BitVec 32) (k0_hw107 : k0_chk107 v2412), ∀ a, (k0_off2144 v2412) a + S1x16.size a ≤ S512x128.size a := fun v2412 k0_hw107 => k0_hw107.2.2.1
theorem k0_off2146_inb : ∀ (v2412 : BitVec 32) (k0_hw107 : k0_chk107 v2412), ∀ a, (k0_off2146 v2412) a + S1x16.size a ≤ S512x128.size a := fun v2412 k0_hw107 => k0_hw107.2.2.2.1
theorem k0_off2148_inb : ∀ (v2412 : BitVec 32) (k0_hw107 : k0_chk107 v2412), ∀ a, (k0_off2148 v2412) a + S1x16.size a ≤ S512x128.size a := fun v2412 k0_hw107 => k0_hw107.2.2.2.2.1
theorem k0_off2150_inb : ∀ (v2412 : BitVec 32) (k0_hw107 : k0_chk107 v2412), ∀ a, (k0_off2150 v2412) a + S1x16.size a ≤ S512x128.size a := fun v2412 k0_hw107 => k0_hw107.2.2.2.2.2.1
theorem k0_off2152_inb : ∀ (v2412 : BitVec 32) (k0_hw107 : k0_chk107 v2412), ∀ a, (k0_off2152 v2412) a + S1x16.size a ≤ S512x128.size a := fun v2412 k0_hw107 => k0_hw107.2.2.2.2.2.2.1
theorem k0_off2154_inb : ∀ (v2412 : BitVec 32) (k0_hw107 : k0_chk107 v2412), ∀ a, (k0_off2154 v2412) a + S1x16.size a ≤ S512x128.size a := fun v2412 k0_hw107 => k0_hw107.2.2.2.2.2.2.2

def k0_off2155 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2579 : Index := Scalar.indexCast v2410
  let c0_415 : Index := 0#32
  ![v2579.toNat, 0]
def k0_off2156 (v2414 : BitVec 32) : Fin 2 → Nat :=
  let v2581 : Index := Scalar.indexCast v2414
  let c0_416 : Index := 0#32
  ![v2581.toNat, 0]

def k0_off2157 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2587 : Index := Scalar.indexCast v2410
  let c16_417 : Index := 16#32
  ![v2587.toNat, 16]
def k0_off2158 (v2414 : BitVec 32) : Fin 2 → Nat :=
  let v2589 : Index := Scalar.indexCast v2414
  let c16_418 : Index := 16#32
  ![v2589.toNat, 16]
def k0_off2159 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2595 : Index := Scalar.indexCast v2410
  let c32_419 : Index := 32#32
  ![v2595.toNat, 32]
def k0_off2160 (v2414 : BitVec 32) : Fin 2 → Nat :=
  let v2597 : Index := Scalar.indexCast v2414
  let c32_420 : Index := 32#32
  ![v2597.toNat, 32]
def k0_off2161 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2603 : Index := Scalar.indexCast v2410
  let c48_421 : Index := 48#32
  ![v2603.toNat, 48]
def k0_off2162 (v2414 : BitVec 32) : Fin 2 → Nat :=
  let v2605 : Index := Scalar.indexCast v2414
  let c48_422 : Index := 48#32
  ![v2605.toNat, 48]
def k0_off2163 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2611 : Index := Scalar.indexCast v2410
  let c64_423 : Index := 64#32
  ![v2611.toNat, 64]
def k0_off2164 (v2414 : BitVec 32) : Fin 2 → Nat :=
  let v2613 : Index := Scalar.indexCast v2414
  let c64_424 : Index := 64#32
  ![v2613.toNat, 64]
def k0_off2165 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2619 : Index := Scalar.indexCast v2410
  let c80_425 : Index := 80#32
  ![v2619.toNat, 80]
def k0_off2166 (v2414 : BitVec 32) : Fin 2 → Nat :=
  let v2621 : Index := Scalar.indexCast v2414
  let c80_426 : Index := 80#32
  ![v2621.toNat, 80]
def k0_off2167 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2627 : Index := Scalar.indexCast v2410
  let c96_427 : Index := 96#32
  ![v2627.toNat, 96]
def k0_off2168 (v2414 : BitVec 32) : Fin 2 → Nat :=
  let v2629 : Index := Scalar.indexCast v2414
  let c96_428 : Index := 96#32
  ![v2629.toNat, 96]
def k0_off2169 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2635 : Index := Scalar.indexCast v2410
  let c112_429 : Index := 112#32
  ![v2635.toNat, 112]
def k0_off2170 (v2414 : BitVec 32) : Fin 2 → Nat :=
  let v2637 : Index := Scalar.indexCast v2414
  let c112_430 : Index := 112#32
  ![v2637.toNat, 112]

def k0_chk108 (v2414 : BitVec 32) : Prop :=
  (∀ a, (k0_off2156 v2414) a + S1x16.size a ≤ S512x128.size a) ∧
  (∀ a, (k0_off2158 v2414) a + S1x16.size a ≤ S512x128.size a) ∧
  (∀ a, (k0_off2160 v2414) a + S1x16.size a ≤ S512x128.size a) ∧
  (∀ a, (k0_off2162 v2414) a + S1x16.size a ≤ S512x128.size a) ∧
  (∀ a, (k0_off2164 v2414) a + S1x16.size a ≤ S512x128.size a) ∧
  (∀ a, (k0_off2166 v2414) a + S1x16.size a ≤ S512x128.size a) ∧
  (∀ a, (k0_off2168 v2414) a + S1x16.size a ≤ S512x128.size a) ∧
  (∀ a, (k0_off2170 v2414) a + S1x16.size a ≤ S512x128.size a)
theorem k0_off2156_inb : ∀ (v2414 : BitVec 32) (k0_hw108 : k0_chk108 v2414), ∀ a, (k0_off2156 v2414) a + S1x16.size a ≤ S512x128.size a := fun v2414 k0_hw108 => k0_hw108.1
theorem k0_off2158_inb : ∀ (v2414 : BitVec 32) (k0_hw108 : k0_chk108 v2414), ∀ a, (k0_off2158 v2414) a + S1x16.size a ≤ S512x128.size a := fun v2414 k0_hw108 => k0_hw108.2.1
theorem k0_off2160_inb : ∀ (v2414 : BitVec 32) (k0_hw108 : k0_chk108 v2414), ∀ a, (k0_off2160 v2414) a + S1x16.size a ≤ S512x128.size a := fun v2414 k0_hw108 => k0_hw108.2.2.1
theorem k0_off2162_inb : ∀ (v2414 : BitVec 32) (k0_hw108 : k0_chk108 v2414), ∀ a, (k0_off2162 v2414) a + S1x16.size a ≤ S512x128.size a := fun v2414 k0_hw108 => k0_hw108.2.2.2.1
theorem k0_off2164_inb : ∀ (v2414 : BitVec 32) (k0_hw108 : k0_chk108 v2414), ∀ a, (k0_off2164 v2414) a + S1x16.size a ≤ S512x128.size a := fun v2414 k0_hw108 => k0_hw108.2.2.2.2.1
theorem k0_off2166_inb : ∀ (v2414 : BitVec 32) (k0_hw108 : k0_chk108 v2414), ∀ a, (k0_off2166 v2414) a + S1x16.size a ≤ S512x128.size a := fun v2414 k0_hw108 => k0_hw108.2.2.2.2.2.1
theorem k0_off2168_inb : ∀ (v2414 : BitVec 32) (k0_hw108 : k0_chk108 v2414), ∀ a, (k0_off2168 v2414) a + S1x16.size a ≤ S512x128.size a := fun v2414 k0_hw108 => k0_hw108.2.2.2.2.2.2.1
theorem k0_off2170_inb : ∀ (v2414 : BitVec 32) (k0_hw108 : k0_chk108 v2414), ∀ a, (k0_off2170 v2414) a + S1x16.size a ≤ S512x128.size a := fun v2414 k0_hw108 => k0_hw108.2.2.2.2.2.2.2

def k0_off2171 (k0_t8 : Fin k0_t8_loop.trips) (c10_i32 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v2408 : BitVec 32 := Scalar.addi v79 c10_i32
  let v2775 : Index := Scalar.indexCast v2408
  let c0_438 : Index := 0#32
  ![v2775.toNat, 0]
def k0_off2172 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2781 : Index := Scalar.indexCast v2408
  let c16_439 : Index := 16#32
  ![v2781.toNat, 16]
def k0_off2173 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2787 : Index := Scalar.indexCast v2408
  let c32_440 : Index := 32#32
  ![v2787.toNat, 32]
def k0_off2174 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2793 : Index := Scalar.indexCast v2408
  let c48_441 : Index := 48#32
  ![v2793.toNat, 48]
def k0_off2175 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2799 : Index := Scalar.indexCast v2408
  let c64_442 : Index := 64#32
  ![v2799.toNat, 64]
def k0_off2176 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2805 : Index := Scalar.indexCast v2408
  let c80_443 : Index := 80#32
  ![v2805.toNat, 80]
def k0_off2177 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2811 : Index := Scalar.indexCast v2408
  let c96_444 : Index := 96#32
  ![v2811.toNat, 96]
def k0_off2178 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32 : BitVec 32 := 10#32
  let v2408 : BitVec 32 := Scalar.addi v79 c10_i32
  let v2817 : Index := Scalar.indexCast v2408
  let c112_445 : Index := 112#32
  ![v2817.toNat, 112]
def k0_off2179 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2829 : Index := Scalar.indexCast v2410
  let c0_446 : Index := 0#32
  ![v2829.toNat, 0]
def k0_off2180 (v2877 : BitVec 32) : Fin 2 → Nat :=
  let v2884 : Index := Scalar.indexCast v2877
  let c0_459 : Index := 0#32
  ![v2884.toNat, 0]

def k0_off2181 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2890 : Index := Scalar.indexCast v2873
  let c16_460 : Index := 16#32
  ![v2890.toNat, 16]
def k0_off2182 (v2877 : BitVec 32) : Fin 2 → Nat :=
  let v2892 : Index := Scalar.indexCast v2877
  let c16_461 : Index := 16#32
  ![v2892.toNat, 16]
def k0_off2183 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2898 : Index := Scalar.indexCast v2873
  let c32_462 : Index := 32#32
  ![v2898.toNat, 32]
def k0_off2184 (v2877 : BitVec 32) : Fin 2 → Nat :=
  let v2900 : Index := Scalar.indexCast v2877
  let c32_463 : Index := 32#32
  ![v2900.toNat, 32]
def k0_off2185 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2906 : Index := Scalar.indexCast v2873
  let c48_464 : Index := 48#32
  ![v2906.toNat, 48]
def k0_off2186 (v2877 : BitVec 32) : Fin 2 → Nat :=
  let v2908 : Index := Scalar.indexCast v2877
  let c48_465 : Index := 48#32
  ![v2908.toNat, 48]
def k0_off2187 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2914 : Index := Scalar.indexCast v2873
  let c64_466 : Index := 64#32
  ![v2914.toNat, 64]
def k0_off2188 (v2877 : BitVec 32) : Fin 2 → Nat :=
  let v2916 : Index := Scalar.indexCast v2877
  let c64_467 : Index := 64#32
  ![v2916.toNat, 64]
def k0_off2189 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2922 : Index := Scalar.indexCast v2873
  let c80_468 : Index := 80#32
  ![v2922.toNat, 80]
def k0_off2190 (v2877 : BitVec 32) : Fin 2 → Nat :=
  let v2924 : Index := Scalar.indexCast v2877
  let c80_469 : Index := 80#32
  ![v2924.toNat, 80]
def k0_off2191 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2930 : Index := Scalar.indexCast v2873
  let c96_470 : Index := 96#32
  ![v2930.toNat, 96]
def k0_off2192 (v2877 : BitVec 32) : Fin 2 → Nat :=
  let v2932 : Index := Scalar.indexCast v2877
  let c96_471 : Index := 96#32
  ![v2932.toNat, 96]
def k0_off2193 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v2938 : Index := Scalar.indexCast v2873
  let c112_472 : Index := 112#32
  ![v2938.toNat, 112]
def k0_off2194 (v2877 : BitVec 32) : Fin 2 → Nat :=
  let v2940 : Index := Scalar.indexCast v2877
  let c112_473 : Index := 112#32
  ![v2940.toNat, 112]

def k0_chk109 (v2877 : BitVec 32) : Prop :=
  (∀ a, (k0_off2180 v2877) a + S1x16.size a ≤ S512x128.size a) ∧
  (∀ a, (k0_off2182 v2877) a + S1x16.size a ≤ S512x128.size a) ∧
  (∀ a, (k0_off2184 v2877) a + S1x16.size a ≤ S512x128.size a) ∧
  (∀ a, (k0_off2186 v2877) a + S1x16.size a ≤ S512x128.size a) ∧
  (∀ a, (k0_off2188 v2877) a + S1x16.size a ≤ S512x128.size a) ∧
  (∀ a, (k0_off2190 v2877) a + S1x16.size a ≤ S512x128.size a) ∧
  (∀ a, (k0_off2192 v2877) a + S1x16.size a ≤ S512x128.size a) ∧
  (∀ a, (k0_off2194 v2877) a + S1x16.size a ≤ S512x128.size a)
theorem k0_off2180_inb : ∀ (v2877 : BitVec 32) (k0_hw109 : k0_chk109 v2877), ∀ a, (k0_off2180 v2877) a + S1x16.size a ≤ S512x128.size a := fun v2877 k0_hw109 => k0_hw109.1
theorem k0_off2182_inb : ∀ (v2877 : BitVec 32) (k0_hw109 : k0_chk109 v2877), ∀ a, (k0_off2182 v2877) a + S1x16.size a ≤ S512x128.size a := fun v2877 k0_hw109 => k0_hw109.2.1
theorem k0_off2184_inb : ∀ (v2877 : BitVec 32) (k0_hw109 : k0_chk109 v2877), ∀ a, (k0_off2184 v2877) a + S1x16.size a ≤ S512x128.size a := fun v2877 k0_hw109 => k0_hw109.2.2.1
theorem k0_off2186_inb : ∀ (v2877 : BitVec 32) (k0_hw109 : k0_chk109 v2877), ∀ a, (k0_off2186 v2877) a + S1x16.size a ≤ S512x128.size a := fun v2877 k0_hw109 => k0_hw109.2.2.2.1
theorem k0_off2188_inb : ∀ (v2877 : BitVec 32) (k0_hw109 : k0_chk109 v2877), ∀ a, (k0_off2188 v2877) a + S1x16.size a ≤ S512x128.size a := fun v2877 k0_hw109 => k0_hw109.2.2.2.2.1
theorem k0_off2190_inb : ∀ (v2877 : BitVec 32) (k0_hw109 : k0_chk109 v2877), ∀ a, (k0_off2190 v2877) a + S1x16.size a ≤ S512x128.size a := fun v2877 k0_hw109 => k0_hw109.2.2.2.2.2.1
theorem k0_off2192_inb : ∀ (v2877 : BitVec 32) (k0_hw109 : k0_chk109 v2877), ∀ a, (k0_off2192 v2877) a + S1x16.size a ≤ S512x128.size a := fun v2877 k0_hw109 => k0_hw109.2.2.2.2.2.2.1
theorem k0_off2194_inb : ∀ (v2877 : BitVec 32) (k0_hw109 : k0_chk109 v2877), ∀ a, (k0_off2194 v2877) a + S1x16.size a ≤ S512x128.size a := fun v2877 k0_hw109 => k0_hw109.2.2.2.2.2.2.2

def k0_off2195 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3044 : Index := Scalar.indexCast v2875
  let c0_476 : Index := 0#32
  ![v3044.toNat, 0]
def k0_off2196 (v2879 : BitVec 32) : Fin 2 → Nat :=
  let v3046 : Index := Scalar.indexCast v2879
  let c0_477 : Index := 0#32
  ![v3046.toNat, 0]

def k0_off2197 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3052 : Index := Scalar.indexCast v2875
  let c16_478 : Index := 16#32
  ![v3052.toNat, 16]
def k0_off2198 (v2879 : BitVec 32) : Fin 2 → Nat :=
  let v3054 : Index := Scalar.indexCast v2879
  let c16_479 : Index := 16#32
  ![v3054.toNat, 16]
def k0_off2199 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3060 : Index := Scalar.indexCast v2875
  let c32_480 : Index := 32#32
  ![v3060.toNat, 32]
def k0_off2200 (v2879 : BitVec 32) : Fin 2 → Nat :=
  let v3062 : Index := Scalar.indexCast v2879
  let c32_481 : Index := 32#32
  ![v3062.toNat, 32]
def k0_off2201 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3068 : Index := Scalar.indexCast v2875
  let c48_482 : Index := 48#32
  ![v3068.toNat, 48]
def k0_off2202 (v2879 : BitVec 32) : Fin 2 → Nat :=
  let v3070 : Index := Scalar.indexCast v2879
  let c48_483 : Index := 48#32
  ![v3070.toNat, 48]
def k0_off2203 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3076 : Index := Scalar.indexCast v2875
  let c64_484 : Index := 64#32
  ![v3076.toNat, 64]
def k0_off2204 (v2879 : BitVec 32) : Fin 2 → Nat :=
  let v3078 : Index := Scalar.indexCast v2879
  let c64_485 : Index := 64#32
  ![v3078.toNat, 64]
def k0_off2205 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3084 : Index := Scalar.indexCast v2875
  let c80_486 : Index := 80#32
  ![v3084.toNat, 80]
def k0_off2206 (v2879 : BitVec 32) : Fin 2 → Nat :=
  let v3086 : Index := Scalar.indexCast v2879
  let c80_487 : Index := 80#32
  ![v3086.toNat, 80]
def k0_off2207 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3092 : Index := Scalar.indexCast v2875
  let c96_488 : Index := 96#32
  ![v3092.toNat, 96]
def k0_off2208 (v2879 : BitVec 32) : Fin 2 → Nat :=
  let v3094 : Index := Scalar.indexCast v2879
  let c96_489 : Index := 96#32
  ![v3094.toNat, 96]
def k0_off2209 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3100 : Index := Scalar.indexCast v2875
  let c112_490 : Index := 112#32
  ![v3100.toNat, 112]
def k0_off2210 (v2879 : BitVec 32) : Fin 2 → Nat :=
  let v3102 : Index := Scalar.indexCast v2879
  let c112_491 : Index := 112#32
  ![v3102.toNat, 112]

def k0_chk110 (v2879 : BitVec 32) : Prop :=
  (∀ a, (k0_off2196 v2879) a + S1x16.size a ≤ S512x128.size a) ∧
  (∀ a, (k0_off2198 v2879) a + S1x16.size a ≤ S512x128.size a) ∧
  (∀ a, (k0_off2200 v2879) a + S1x16.size a ≤ S512x128.size a) ∧
  (∀ a, (k0_off2202 v2879) a + S1x16.size a ≤ S512x128.size a) ∧
  (∀ a, (k0_off2204 v2879) a + S1x16.size a ≤ S512x128.size a) ∧
  (∀ a, (k0_off2206 v2879) a + S1x16.size a ≤ S512x128.size a) ∧
  (∀ a, (k0_off2208 v2879) a + S1x16.size a ≤ S512x128.size a) ∧
  (∀ a, (k0_off2210 v2879) a + S1x16.size a ≤ S512x128.size a)
theorem k0_off2196_inb : ∀ (v2879 : BitVec 32) (k0_hw110 : k0_chk110 v2879), ∀ a, (k0_off2196 v2879) a + S1x16.size a ≤ S512x128.size a := fun v2879 k0_hw110 => k0_hw110.1
theorem k0_off2198_inb : ∀ (v2879 : BitVec 32) (k0_hw110 : k0_chk110 v2879), ∀ a, (k0_off2198 v2879) a + S1x16.size a ≤ S512x128.size a := fun v2879 k0_hw110 => k0_hw110.2.1
theorem k0_off2200_inb : ∀ (v2879 : BitVec 32) (k0_hw110 : k0_chk110 v2879), ∀ a, (k0_off2200 v2879) a + S1x16.size a ≤ S512x128.size a := fun v2879 k0_hw110 => k0_hw110.2.2.1
theorem k0_off2202_inb : ∀ (v2879 : BitVec 32) (k0_hw110 : k0_chk110 v2879), ∀ a, (k0_off2202 v2879) a + S1x16.size a ≤ S512x128.size a := fun v2879 k0_hw110 => k0_hw110.2.2.2.1
theorem k0_off2204_inb : ∀ (v2879 : BitVec 32) (k0_hw110 : k0_chk110 v2879), ∀ a, (k0_off2204 v2879) a + S1x16.size a ≤ S512x128.size a := fun v2879 k0_hw110 => k0_hw110.2.2.2.2.1
theorem k0_off2206_inb : ∀ (v2879 : BitVec 32) (k0_hw110 : k0_chk110 v2879), ∀ a, (k0_off2206 v2879) a + S1x16.size a ≤ S512x128.size a := fun v2879 k0_hw110 => k0_hw110.2.2.2.2.2.1
theorem k0_off2208_inb : ∀ (v2879 : BitVec 32) (k0_hw110 : k0_chk110 v2879), ∀ a, (k0_off2208 v2879) a + S1x16.size a ≤ S512x128.size a := fun v2879 k0_hw110 => k0_hw110.2.2.2.2.2.2.1
theorem k0_off2210_inb : ∀ (v2879 : BitVec 32) (k0_hw110 : k0_chk110 v2879), ∀ a, (k0_off2210 v2879) a + S1x16.size a ≤ S512x128.size a := fun v2879 k0_hw110 => k0_hw110.2.2.2.2.2.2.2

def k0_off2211 (k0_t8 : Fin k0_t8_loop.trips) (c12_i32 : BitVec 32) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let v2873 : BitVec 32 := Scalar.addi v79 c12_i32
  let v3240 : Index := Scalar.indexCast v2873
  let c0_499 : Index := 0#32
  ![v3240.toNat, 0]
def k0_off2212 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3246 : Index := Scalar.indexCast v2873
  let c16_500 : Index := 16#32
  ![v3246.toNat, 16]
def k0_off2213 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3252 : Index := Scalar.indexCast v2873
  let c32_501 : Index := 32#32
  ![v3252.toNat, 32]
def k0_off2214 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3258 : Index := Scalar.indexCast v2873
  let c48_502 : Index := 48#32
  ![v3258.toNat, 48]
def k0_off2215 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3264 : Index := Scalar.indexCast v2873
  let c64_503 : Index := 64#32
  ![v3264.toNat, 64]
def k0_off2216 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3270 : Index := Scalar.indexCast v2873
  let c80_504 : Index := 80#32
  ![v3270.toNat, 80]
def k0_off2217 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3276 : Index := Scalar.indexCast v2873
  let c96_505 : Index := 96#32
  ![v3276.toNat, 96]
def k0_off2218 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32 : BitVec 32 := 12#32
  let v2873 : BitVec 32 := Scalar.addi v79 c12_i32
  let v3282 : Index := Scalar.indexCast v2873
  let c112_506 : Index := 112#32
  ![v3282.toNat, 112]
def k0_off2219 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3294 : Index := Scalar.indexCast v2875
  let c0_507 : Index := 0#32
  ![v3294.toNat, 0]
def k0_off2220 (v3342 : BitVec 32) : Fin 2 → Nat :=
  let v3349 : Index := Scalar.indexCast v3342
  let c0_520 : Index := 0#32
  ![v3349.toNat, 0]

def k0_off2221 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3355 : Index := Scalar.indexCast v3338
  let c16_521 : Index := 16#32
  ![v3355.toNat, 16]
def k0_off2222 (v3342 : BitVec 32) : Fin 2 → Nat :=
  let v3357 : Index := Scalar.indexCast v3342
  let c16_522 : Index := 16#32
  ![v3357.toNat, 16]
def k0_off2223 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3363 : Index := Scalar.indexCast v3338
  let c32_523 : Index := 32#32
  ![v3363.toNat, 32]
def k0_off2224 (v3342 : BitVec 32) : Fin 2 → Nat :=
  let v3365 : Index := Scalar.indexCast v3342
  let c32_524 : Index := 32#32
  ![v3365.toNat, 32]
def k0_off2225 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3371 : Index := Scalar.indexCast v3338
  let c48_525 : Index := 48#32
  ![v3371.toNat, 48]
def k0_off2226 (v3342 : BitVec 32) : Fin 2 → Nat :=
  let v3373 : Index := Scalar.indexCast v3342
  let c48_526 : Index := 48#32
  ![v3373.toNat, 48]
def k0_off2227 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3379 : Index := Scalar.indexCast v3338
  let c64_527 : Index := 64#32
  ![v3379.toNat, 64]
def k0_off2228 (v3342 : BitVec 32) : Fin 2 → Nat :=
  let v3381 : Index := Scalar.indexCast v3342
  let c64_528 : Index := 64#32
  ![v3381.toNat, 64]
def k0_off2229 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3387 : Index := Scalar.indexCast v3338
  let c80_529 : Index := 80#32
  ![v3387.toNat, 80]
def k0_off2230 (v3342 : BitVec 32) : Fin 2 → Nat :=
  let v3389 : Index := Scalar.indexCast v3342
  let c80_530 : Index := 80#32
  ![v3389.toNat, 80]
def k0_off2231 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3395 : Index := Scalar.indexCast v3338
  let c96_531 : Index := 96#32
  ![v3395.toNat, 96]
def k0_off2232 (v3342 : BitVec 32) : Fin 2 → Nat :=
  let v3397 : Index := Scalar.indexCast v3342
  let c96_532 : Index := 96#32
  ![v3397.toNat, 96]
def k0_off2233 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3403 : Index := Scalar.indexCast v3338
  let c112_533 : Index := 112#32
  ![v3403.toNat, 112]
def k0_off2234 (v3342 : BitVec 32) : Fin 2 → Nat :=
  let v3405 : Index := Scalar.indexCast v3342
  let c112_534 : Index := 112#32
  ![v3405.toNat, 112]

def k0_chk111 (v3342 : BitVec 32) : Prop :=
  (∀ a, (k0_off2220 v3342) a + S1x16.size a ≤ S512x128.size a) ∧
  (∀ a, (k0_off2222 v3342) a + S1x16.size a ≤ S512x128.size a) ∧
  (∀ a, (k0_off2224 v3342) a + S1x16.size a ≤ S512x128.size a) ∧
  (∀ a, (k0_off2226 v3342) a + S1x16.size a ≤ S512x128.size a) ∧
  (∀ a, (k0_off2228 v3342) a + S1x16.size a ≤ S512x128.size a) ∧
  (∀ a, (k0_off2230 v3342) a + S1x16.size a ≤ S512x128.size a) ∧
  (∀ a, (k0_off2232 v3342) a + S1x16.size a ≤ S512x128.size a) ∧
  (∀ a, (k0_off2234 v3342) a + S1x16.size a ≤ S512x128.size a)
theorem k0_off2220_inb : ∀ (v3342 : BitVec 32) (k0_hw111 : k0_chk111 v3342), ∀ a, (k0_off2220 v3342) a + S1x16.size a ≤ S512x128.size a := fun v3342 k0_hw111 => k0_hw111.1
theorem k0_off2222_inb : ∀ (v3342 : BitVec 32) (k0_hw111 : k0_chk111 v3342), ∀ a, (k0_off2222 v3342) a + S1x16.size a ≤ S512x128.size a := fun v3342 k0_hw111 => k0_hw111.2.1
theorem k0_off2224_inb : ∀ (v3342 : BitVec 32) (k0_hw111 : k0_chk111 v3342), ∀ a, (k0_off2224 v3342) a + S1x16.size a ≤ S512x128.size a := fun v3342 k0_hw111 => k0_hw111.2.2.1
theorem k0_off2226_inb : ∀ (v3342 : BitVec 32) (k0_hw111 : k0_chk111 v3342), ∀ a, (k0_off2226 v3342) a + S1x16.size a ≤ S512x128.size a := fun v3342 k0_hw111 => k0_hw111.2.2.2.1
theorem k0_off2228_inb : ∀ (v3342 : BitVec 32) (k0_hw111 : k0_chk111 v3342), ∀ a, (k0_off2228 v3342) a + S1x16.size a ≤ S512x128.size a := fun v3342 k0_hw111 => k0_hw111.2.2.2.2.1
theorem k0_off2230_inb : ∀ (v3342 : BitVec 32) (k0_hw111 : k0_chk111 v3342), ∀ a, (k0_off2230 v3342) a + S1x16.size a ≤ S512x128.size a := fun v3342 k0_hw111 => k0_hw111.2.2.2.2.2.1
theorem k0_off2232_inb : ∀ (v3342 : BitVec 32) (k0_hw111 : k0_chk111 v3342), ∀ a, (k0_off2232 v3342) a + S1x16.size a ≤ S512x128.size a := fun v3342 k0_hw111 => k0_hw111.2.2.2.2.2.2.1
theorem k0_off2234_inb : ∀ (v3342 : BitVec 32) (k0_hw111 : k0_chk111 v3342), ∀ a, (k0_off2234 v3342) a + S1x16.size a ≤ S512x128.size a := fun v3342 k0_hw111 => k0_hw111.2.2.2.2.2.2.2

def k0_off2235 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3509 : Index := Scalar.indexCast v3340
  let c0_537 : Index := 0#32
  ![v3509.toNat, 0]
def k0_off2236 (v3344 : BitVec 32) : Fin 2 → Nat :=
  let v3511 : Index := Scalar.indexCast v3344
  let c0_538 : Index := 0#32
  ![v3511.toNat, 0]

def k0_off2237 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3517 : Index := Scalar.indexCast v3340
  let c16_539 : Index := 16#32
  ![v3517.toNat, 16]
def k0_off2238 (v3344 : BitVec 32) : Fin 2 → Nat :=
  let v3519 : Index := Scalar.indexCast v3344
  let c16_540 : Index := 16#32
  ![v3519.toNat, 16]
def k0_off2239 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3525 : Index := Scalar.indexCast v3340
  let c32_541 : Index := 32#32
  ![v3525.toNat, 32]
def k0_off2240 (v3344 : BitVec 32) : Fin 2 → Nat :=
  let v3527 : Index := Scalar.indexCast v3344
  let c32_542 : Index := 32#32
  ![v3527.toNat, 32]
def k0_off2241 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3533 : Index := Scalar.indexCast v3340
  let c48_543 : Index := 48#32
  ![v3533.toNat, 48]
def k0_off2242 (v3344 : BitVec 32) : Fin 2 → Nat :=
  let v3535 : Index := Scalar.indexCast v3344
  let c48_544 : Index := 48#32
  ![v3535.toNat, 48]
def k0_off2243 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3541 : Index := Scalar.indexCast v3340
  let c64_545 : Index := 64#32
  ![v3541.toNat, 64]
def k0_off2244 (v3344 : BitVec 32) : Fin 2 → Nat :=
  let v3543 : Index := Scalar.indexCast v3344
  let c64_546 : Index := 64#32
  ![v3543.toNat, 64]
def k0_off2245 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3549 : Index := Scalar.indexCast v3340
  let c80_547 : Index := 80#32
  ![v3549.toNat, 80]
def k0_off2246 (v3344 : BitVec 32) : Fin 2 → Nat :=
  let v3551 : Index := Scalar.indexCast v3344
  let c80_548 : Index := 80#32
  ![v3551.toNat, 80]
def k0_off2247 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3557 : Index := Scalar.indexCast v3340
  let c96_549 : Index := 96#32
  ![v3557.toNat, 96]
def k0_off2248 (v3344 : BitVec 32) : Fin 2 → Nat :=
  let v3559 : Index := Scalar.indexCast v3344
  let c96_550 : Index := 96#32
  ![v3559.toNat, 96]
def k0_off2249 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3565 : Index := Scalar.indexCast v3340
  let c112_551 : Index := 112#32
  ![v3565.toNat, 112]
def k0_off2250 (v3344 : BitVec 32) : Fin 2 → Nat :=
  let v3567 : Index := Scalar.indexCast v3344
  let c112_552 : Index := 112#32
  ![v3567.toNat, 112]

def k0_chk112 (v3344 : BitVec 32) : Prop :=
  (∀ a, (k0_off2236 v3344) a + S1x16.size a ≤ S512x128.size a) ∧
  (∀ a, (k0_off2238 v3344) a + S1x16.size a ≤ S512x128.size a) ∧
  (∀ a, (k0_off2240 v3344) a + S1x16.size a ≤ S512x128.size a) ∧
  (∀ a, (k0_off2242 v3344) a + S1x16.size a ≤ S512x128.size a) ∧
  (∀ a, (k0_off2244 v3344) a + S1x16.size a ≤ S512x128.size a) ∧
  (∀ a, (k0_off2246 v3344) a + S1x16.size a ≤ S512x128.size a) ∧
  (∀ a, (k0_off2248 v3344) a + S1x16.size a ≤ S512x128.size a) ∧
  (∀ a, (k0_off2250 v3344) a + S1x16.size a ≤ S512x128.size a)
theorem k0_off2236_inb : ∀ (v3344 : BitVec 32) (k0_hw112 : k0_chk112 v3344), ∀ a, (k0_off2236 v3344) a + S1x16.size a ≤ S512x128.size a := fun v3344 k0_hw112 => k0_hw112.1
theorem k0_off2238_inb : ∀ (v3344 : BitVec 32) (k0_hw112 : k0_chk112 v3344), ∀ a, (k0_off2238 v3344) a + S1x16.size a ≤ S512x128.size a := fun v3344 k0_hw112 => k0_hw112.2.1
theorem k0_off2240_inb : ∀ (v3344 : BitVec 32) (k0_hw112 : k0_chk112 v3344), ∀ a, (k0_off2240 v3344) a + S1x16.size a ≤ S512x128.size a := fun v3344 k0_hw112 => k0_hw112.2.2.1
theorem k0_off2242_inb : ∀ (v3344 : BitVec 32) (k0_hw112 : k0_chk112 v3344), ∀ a, (k0_off2242 v3344) a + S1x16.size a ≤ S512x128.size a := fun v3344 k0_hw112 => k0_hw112.2.2.2.1
theorem k0_off2244_inb : ∀ (v3344 : BitVec 32) (k0_hw112 : k0_chk112 v3344), ∀ a, (k0_off2244 v3344) a + S1x16.size a ≤ S512x128.size a := fun v3344 k0_hw112 => k0_hw112.2.2.2.2.1
theorem k0_off2246_inb : ∀ (v3344 : BitVec 32) (k0_hw112 : k0_chk112 v3344), ∀ a, (k0_off2246 v3344) a + S1x16.size a ≤ S512x128.size a := fun v3344 k0_hw112 => k0_hw112.2.2.2.2.2.1
theorem k0_off2248_inb : ∀ (v3344 : BitVec 32) (k0_hw112 : k0_chk112 v3344), ∀ a, (k0_off2248 v3344) a + S1x16.size a ≤ S512x128.size a := fun v3344 k0_hw112 => k0_hw112.2.2.2.2.2.2.1
theorem k0_off2250_inb : ∀ (v3344 : BitVec 32) (k0_hw112 : k0_chk112 v3344), ∀ a, (k0_off2250 v3344) a + S1x16.size a ≤ S512x128.size a := fun v3344 k0_hw112 => k0_hw112.2.2.2.2.2.2.2

def k0_off2251 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3705 : Index := Scalar.indexCast v3338
  let c0_560 : Index := 0#32
  ![v3705.toNat, 0]
def k0_off2252 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3711 : Index := Scalar.indexCast v3338
  let c16_561 : Index := 16#32
  ![v3711.toNat, 16]
def k0_off2253 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3717 : Index := Scalar.indexCast v3338
  let c32_562 : Index := 32#32
  ![v3717.toNat, 32]
def k0_off2254 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3723 : Index := Scalar.indexCast v3338
  let c48_563 : Index := 48#32
  ![v3723.toNat, 48]
def k0_off2255 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3729 : Index := Scalar.indexCast v3338
  let c64_564 : Index := 64#32
  ![v3729.toNat, 64]
def k0_off2256 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3735 : Index := Scalar.indexCast v3338
  let c80_565 : Index := 80#32
  ![v3735.toNat, 80]
def k0_off2257 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3741 : Index := Scalar.indexCast v3338
  let c96_566 : Index := 96#32
  ![v3741.toNat, 96]
def k0_off2258 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32 : BitVec 32 := 14#32
  let v3338 : BitVec 32 := Scalar.addi v79 c14_i32
  let v3747 : Index := Scalar.indexCast v3338
  let c112_567 : Index := 112#32
  ![v3747.toNat, 112]
def k0_off2259 (k0_t8 : Fin k0_t8_loop.trips) : Fin 2 → Nat :=
  let c0_i32_60 : BitVec 32 := 0#32
  let c1_i32_62 : BitVec 32 := 1#32
  let arg28 : BitVec 32 := Scf.iv c0_i32_60 c1_i32_62 k0_t8
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3759 : Index := Scalar.indexCast v3340
  let c0_568 : Index := 0#32
  ![v3759.toNat, 0]
@[reducible] def k0_t9_loop : Scf.Loop 32 :=
  let c0_i32_70 : BitVec 32 := 0#32
  let c4_i32_71 : BitVec 32 := 4#32
  let v67 : BitVec 32 := Scalar.addi c0_i32_70 c4_i32_71
  let c1_i32_72 : BitVec 32 := 1#32
  ⟨c0_i32_70, v67, c1_i32_72⟩
def k0_off2260 (k0_t9 : Fin k0_t9_loop.trips) : Fin 1 → Nat :=
  let c6336_i32_84 : BitVec 32 := 6336#32
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v80 : BitVec 32 := Scalar.addi c6336_i32_84 v79
  let v81 : Index := Scalar.indexCast v80
  ![v81.toNat]
def k0_off2261 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v92 : Index := Scalar.indexCast v83
  let c0_89 : Index := 0#32
  ![v92.toNat, 0]
def k0_off2262 (v87 : BitVec 32) : Fin 2 → Nat :=
  let v94 : Index := Scalar.indexCast v87
  let c0_90 : Index := 0#32
  ![v94.toNat, 0]

def k0_off2263 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v100 : Index := Scalar.indexCast v83
  let c16_91 : Index := 16#32
  ![v100.toNat, 16]
def k0_off2264 (v87 : BitVec 32) : Fin 2 → Nat :=
  let v102 : Index := Scalar.indexCast v87
  let c16_92 : Index := 16#32
  ![v102.toNat, 16]
def k0_off2265 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v108 : Index := Scalar.indexCast v83
  let c32_93 : Index := 32#32
  ![v108.toNat, 32]
def k0_off2266 (v87 : BitVec 32) : Fin 2 → Nat :=
  let v110 : Index := Scalar.indexCast v87
  let c32_94 : Index := 32#32
  ![v110.toNat, 32]
def k0_off2267 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v116 : Index := Scalar.indexCast v83
  let c48_95 : Index := 48#32
  ![v116.toNat, 48]
def k0_off2268 (v87 : BitVec 32) : Fin 2 → Nat :=
  let v118 : Index := Scalar.indexCast v87
  let c48_96 : Index := 48#32
  ![v118.toNat, 48]
def k0_off2269 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v124 : Index := Scalar.indexCast v83
  let c64_97 : Index := 64#32
  ![v124.toNat, 64]
def k0_off2270 (v87 : BitVec 32) : Fin 2 → Nat :=
  let v126 : Index := Scalar.indexCast v87
  let c64_98 : Index := 64#32
  ![v126.toNat, 64]
def k0_off2271 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v132 : Index := Scalar.indexCast v83
  let c80_99 : Index := 80#32
  ![v132.toNat, 80]
def k0_off2272 (v87 : BitVec 32) : Fin 2 → Nat :=
  let v134 : Index := Scalar.indexCast v87
  let c80_100 : Index := 80#32
  ![v134.toNat, 80]
def k0_off2273 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v140 : Index := Scalar.indexCast v83
  let c96_101 : Index := 96#32
  ![v140.toNat, 96]
def k0_off2274 (v87 : BitVec 32) : Fin 2 → Nat :=
  let v142 : Index := Scalar.indexCast v87
  let c96_102 : Index := 96#32
  ![v142.toNat, 96]
def k0_off2275 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v148 : Index := Scalar.indexCast v83
  let c112_103 : Index := 112#32
  ![v148.toNat, 112]
def k0_off2276 (v87 : BitVec 32) : Fin 2 → Nat :=
  let v150 : Index := Scalar.indexCast v87
  let c112_104 : Index := 112#32
  ![v150.toNat, 112]

def k0_chk113 (v87 : BitVec 32) : Prop :=
  (∀ a, (k0_off2262 v87) a + S1x16.size a ≤ S512x128.size a) ∧
  (∀ a, (k0_off2264 v87) a + S1x16.size a ≤ S512x128.size a) ∧
  (∀ a, (k0_off2266 v87) a + S1x16.size a ≤ S512x128.size a) ∧
  (∀ a, (k0_off2268 v87) a + S1x16.size a ≤ S512x128.size a) ∧
  (∀ a, (k0_off2270 v87) a + S1x16.size a ≤ S512x128.size a) ∧
  (∀ a, (k0_off2272 v87) a + S1x16.size a ≤ S512x128.size a) ∧
  (∀ a, (k0_off2274 v87) a + S1x16.size a ≤ S512x128.size a) ∧
  (∀ a, (k0_off2276 v87) a + S1x16.size a ≤ S512x128.size a)
theorem k0_off2262_inb : ∀ (v87 : BitVec 32) (k0_hw113 : k0_chk113 v87), ∀ a, (k0_off2262 v87) a + S1x16.size a ≤ S512x128.size a := fun v87 k0_hw113 => k0_hw113.1
theorem k0_off2264_inb : ∀ (v87 : BitVec 32) (k0_hw113 : k0_chk113 v87), ∀ a, (k0_off2264 v87) a + S1x16.size a ≤ S512x128.size a := fun v87 k0_hw113 => k0_hw113.2.1
theorem k0_off2266_inb : ∀ (v87 : BitVec 32) (k0_hw113 : k0_chk113 v87), ∀ a, (k0_off2266 v87) a + S1x16.size a ≤ S512x128.size a := fun v87 k0_hw113 => k0_hw113.2.2.1
theorem k0_off2268_inb : ∀ (v87 : BitVec 32) (k0_hw113 : k0_chk113 v87), ∀ a, (k0_off2268 v87) a + S1x16.size a ≤ S512x128.size a := fun v87 k0_hw113 => k0_hw113.2.2.2.1
theorem k0_off2270_inb : ∀ (v87 : BitVec 32) (k0_hw113 : k0_chk113 v87), ∀ a, (k0_off2270 v87) a + S1x16.size a ≤ S512x128.size a := fun v87 k0_hw113 => k0_hw113.2.2.2.2.1
theorem k0_off2272_inb : ∀ (v87 : BitVec 32) (k0_hw113 : k0_chk113 v87), ∀ a, (k0_off2272 v87) a + S1x16.size a ≤ S512x128.size a := fun v87 k0_hw113 => k0_hw113.2.2.2.2.2.1
theorem k0_off2274_inb : ∀ (v87 : BitVec 32) (k0_hw113 : k0_chk113 v87), ∀ a, (k0_off2274 v87) a + S1x16.size a ≤ S512x128.size a := fun v87 k0_hw113 => k0_hw113.2.2.2.2.2.2.1
theorem k0_off2276_inb : ∀ (v87 : BitVec 32) (k0_hw113 : k0_chk113 v87), ∀ a, (k0_off2276 v87) a + S1x16.size a ≤ S512x128.size a := fun v87 k0_hw113 => k0_hw113.2.2.2.2.2.2.2

def k0_off2277 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v254 : Index := Scalar.indexCast v85
  let c0_107 : Index := 0#32
  ![v254.toNat, 0]
def k0_off2278 (v89 : BitVec 32) : Fin 2 → Nat :=
  let v256 : Index := Scalar.indexCast v89
  let c0_108 : Index := 0#32
  ![v256.toNat, 0]

def k0_off2279 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v262 : Index := Scalar.indexCast v85
  let c16_109 : Index := 16#32
  ![v262.toNat, 16]
def k0_off2280 (v89 : BitVec 32) : Fin 2 → Nat :=
  let v264 : Index := Scalar.indexCast v89
  let c16_110 : Index := 16#32
  ![v264.toNat, 16]
def k0_off2281 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v270 : Index := Scalar.indexCast v85
  let c32_111 : Index := 32#32
  ![v270.toNat, 32]
def k0_off2282 (v89 : BitVec 32) : Fin 2 → Nat :=
  let v272 : Index := Scalar.indexCast v89
  let c32_112 : Index := 32#32
  ![v272.toNat, 32]
def k0_off2283 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v278 : Index := Scalar.indexCast v85
  let c48_113 : Index := 48#32
  ![v278.toNat, 48]
def k0_off2284 (v89 : BitVec 32) : Fin 2 → Nat :=
  let v280 : Index := Scalar.indexCast v89
  let c48_114 : Index := 48#32
  ![v280.toNat, 48]
def k0_off2285 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v286 : Index := Scalar.indexCast v85
  let c64_115 : Index := 64#32
  ![v286.toNat, 64]
def k0_off2286 (v89 : BitVec 32) : Fin 2 → Nat :=
  let v288 : Index := Scalar.indexCast v89
  let c64_116 : Index := 64#32
  ![v288.toNat, 64]
def k0_off2287 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v294 : Index := Scalar.indexCast v85
  let c80_117 : Index := 80#32
  ![v294.toNat, 80]
def k0_off2288 (v89 : BitVec 32) : Fin 2 → Nat :=
  let v296 : Index := Scalar.indexCast v89
  let c80_118 : Index := 80#32
  ![v296.toNat, 80]
def k0_off2289 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v302 : Index := Scalar.indexCast v85
  let c96_119 : Index := 96#32
  ![v302.toNat, 96]
def k0_off2290 (v89 : BitVec 32) : Fin 2 → Nat :=
  let v304 : Index := Scalar.indexCast v89
  let c96_120 : Index := 96#32
  ![v304.toNat, 96]
def k0_off2291 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v310 : Index := Scalar.indexCast v85
  let c112_121 : Index := 112#32
  ![v310.toNat, 112]
def k0_off2292 (v89 : BitVec 32) : Fin 2 → Nat :=
  let v312 : Index := Scalar.indexCast v89
  let c112_122 : Index := 112#32
  ![v312.toNat, 112]

def k0_chk114 (v89 : BitVec 32) : Prop :=
  (∀ a, (k0_off2278 v89) a + S1x16.size a ≤ S512x128.size a) ∧
  (∀ a, (k0_off2280 v89) a + S1x16.size a ≤ S512x128.size a) ∧
  (∀ a, (k0_off2282 v89) a + S1x16.size a ≤ S512x128.size a) ∧
  (∀ a, (k0_off2284 v89) a + S1x16.size a ≤ S512x128.size a) ∧
  (∀ a, (k0_off2286 v89) a + S1x16.size a ≤ S512x128.size a) ∧
  (∀ a, (k0_off2288 v89) a + S1x16.size a ≤ S512x128.size a) ∧
  (∀ a, (k0_off2290 v89) a + S1x16.size a ≤ S512x128.size a) ∧
  (∀ a, (k0_off2292 v89) a + S1x16.size a ≤ S512x128.size a)
theorem k0_off2278_inb : ∀ (v89 : BitVec 32) (k0_hw114 : k0_chk114 v89), ∀ a, (k0_off2278 v89) a + S1x16.size a ≤ S512x128.size a := fun v89 k0_hw114 => k0_hw114.1
theorem k0_off2280_inb : ∀ (v89 : BitVec 32) (k0_hw114 : k0_chk114 v89), ∀ a, (k0_off2280 v89) a + S1x16.size a ≤ S512x128.size a := fun v89 k0_hw114 => k0_hw114.2.1
theorem k0_off2282_inb : ∀ (v89 : BitVec 32) (k0_hw114 : k0_chk114 v89), ∀ a, (k0_off2282 v89) a + S1x16.size a ≤ S512x128.size a := fun v89 k0_hw114 => k0_hw114.2.2.1
theorem k0_off2284_inb : ∀ (v89 : BitVec 32) (k0_hw114 : k0_chk114 v89), ∀ a, (k0_off2284 v89) a + S1x16.size a ≤ S512x128.size a := fun v89 k0_hw114 => k0_hw114.2.2.2.1
theorem k0_off2286_inb : ∀ (v89 : BitVec 32) (k0_hw114 : k0_chk114 v89), ∀ a, (k0_off2286 v89) a + S1x16.size a ≤ S512x128.size a := fun v89 k0_hw114 => k0_hw114.2.2.2.2.1
theorem k0_off2288_inb : ∀ (v89 : BitVec 32) (k0_hw114 : k0_chk114 v89), ∀ a, (k0_off2288 v89) a + S1x16.size a ≤ S512x128.size a := fun v89 k0_hw114 => k0_hw114.2.2.2.2.2.1
theorem k0_off2290_inb : ∀ (v89 : BitVec 32) (k0_hw114 : k0_chk114 v89), ∀ a, (k0_off2290 v89) a + S1x16.size a ≤ S512x128.size a := fun v89 k0_hw114 => k0_hw114.2.2.2.2.2.2.1
theorem k0_off2292_inb : ∀ (v89 : BitVec 32) (k0_hw114 : k0_chk114 v89), ∀ a, (k0_off2292 v89) a + S1x16.size a ≤ S512x128.size a := fun v89 k0_hw114 => k0_hw114.2.2.2.2.2.2.2

def k0_off2293 (k0_t9 : Fin k0_t9_loop.trips) (c0_i32_85 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v83 : BitVec 32 := Scalar.addi v79 c0_i32_85
  let v450 : Index := Scalar.indexCast v83
  let c0_130 : Index := 0#32
  ![v450.toNat, 0]
def k0_off2294 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v456 : Index := Scalar.indexCast v83
  let c16_131 : Index := 16#32
  ![v456.toNat, 16]
def k0_off2295 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v462 : Index := Scalar.indexCast v83
  let c32_132 : Index := 32#32
  ![v462.toNat, 32]
def k0_off2296 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v468 : Index := Scalar.indexCast v83
  let c48_133 : Index := 48#32
  ![v468.toNat, 48]
def k0_off2297 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v474 : Index := Scalar.indexCast v83
  let c64_134 : Index := 64#32
  ![v474.toNat, 64]
def k0_off2298 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v480 : Index := Scalar.indexCast v83
  let c80_135 : Index := 80#32
  ![v480.toNat, 80]
def k0_off2299 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v486 : Index := Scalar.indexCast v83
  let c96_136 : Index := 96#32
  ![v486.toNat, 96]
def k0_off2300 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_85 : BitVec 32 := 0#32
  let v83 : BitVec 32 := Scalar.addi v79 c0_i32_85
  let v492 : Index := Scalar.indexCast v83
  let c112_137 : Index := 112#32
  ![v492.toNat, 112]
def k0_off2301 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c0_i32_86 : BitVec 32 := 0#32
  let v84 : BitVec 32 := Scalar.addi v79 c0_i32_86
  let c1_i32_87 : BitVec 32 := 1#32
  let v85 : BitVec 32 := Scalar.addi v84 c1_i32_87
  let v504 : Index := Scalar.indexCast v85
  let c0_138 : Index := 0#32
  ![v504.toNat, 0]
def k0_off2302 (v552 : BitVec 32) : Fin 2 → Nat :=
  let v559 : Index := Scalar.indexCast v552
  let c0_152 : Index := 0#32
  ![v559.toNat, 0]

def k0_off2303 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v565 : Index := Scalar.indexCast v548
  let c16_153 : Index := 16#32
  ![v565.toNat, 16]
def k0_off2304 (v552 : BitVec 32) : Fin 2 → Nat :=
  let v567 : Index := Scalar.indexCast v552
  let c16_154 : Index := 16#32
  ![v567.toNat, 16]
def k0_off2305 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v573 : Index := Scalar.indexCast v548
  let c32_155 : Index := 32#32
  ![v573.toNat, 32]
def k0_off2306 (v552 : BitVec 32) : Fin 2 → Nat :=
  let v575 : Index := Scalar.indexCast v552
  let c32_156 : Index := 32#32
  ![v575.toNat, 32]
def k0_off2307 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v581 : Index := Scalar.indexCast v548
  let c48_157 : Index := 48#32
  ![v581.toNat, 48]
def k0_off2308 (v552 : BitVec 32) : Fin 2 → Nat :=
  let v583 : Index := Scalar.indexCast v552
  let c48_158 : Index := 48#32
  ![v583.toNat, 48]
def k0_off2309 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v589 : Index := Scalar.indexCast v548
  let c64_159 : Index := 64#32
  ![v589.toNat, 64]
def k0_off2310 (v552 : BitVec 32) : Fin 2 → Nat :=
  let v591 : Index := Scalar.indexCast v552
  let c64_160 : Index := 64#32
  ![v591.toNat, 64]
def k0_off2311 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v597 : Index := Scalar.indexCast v548
  let c80_161 : Index := 80#32
  ![v597.toNat, 80]
def k0_off2312 (v552 : BitVec 32) : Fin 2 → Nat :=
  let v599 : Index := Scalar.indexCast v552
  let c80_162 : Index := 80#32
  ![v599.toNat, 80]
def k0_off2313 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v605 : Index := Scalar.indexCast v548
  let c96_163 : Index := 96#32
  ![v605.toNat, 96]
def k0_off2314 (v552 : BitVec 32) : Fin 2 → Nat :=
  let v607 : Index := Scalar.indexCast v552
  let c96_164 : Index := 96#32
  ![v607.toNat, 96]
def k0_off2315 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v613 : Index := Scalar.indexCast v548
  let c112_165 : Index := 112#32
  ![v613.toNat, 112]
def k0_off2316 (v552 : BitVec 32) : Fin 2 → Nat :=
  let v615 : Index := Scalar.indexCast v552
  let c112_166 : Index := 112#32
  ![v615.toNat, 112]

def k0_chk115 (v552 : BitVec 32) : Prop :=
  (∀ a, (k0_off2302 v552) a + S1x16.size a ≤ S512x128.size a) ∧
  (∀ a, (k0_off2304 v552) a + S1x16.size a ≤ S512x128.size a) ∧
  (∀ a, (k0_off2306 v552) a + S1x16.size a ≤ S512x128.size a) ∧
  (∀ a, (k0_off2308 v552) a + S1x16.size a ≤ S512x128.size a) ∧
  (∀ a, (k0_off2310 v552) a + S1x16.size a ≤ S512x128.size a) ∧
  (∀ a, (k0_off2312 v552) a + S1x16.size a ≤ S512x128.size a) ∧
  (∀ a, (k0_off2314 v552) a + S1x16.size a ≤ S512x128.size a) ∧
  (∀ a, (k0_off2316 v552) a + S1x16.size a ≤ S512x128.size a)
theorem k0_off2302_inb : ∀ (v552 : BitVec 32) (k0_hw115 : k0_chk115 v552), ∀ a, (k0_off2302 v552) a + S1x16.size a ≤ S512x128.size a := fun v552 k0_hw115 => k0_hw115.1
theorem k0_off2304_inb : ∀ (v552 : BitVec 32) (k0_hw115 : k0_chk115 v552), ∀ a, (k0_off2304 v552) a + S1x16.size a ≤ S512x128.size a := fun v552 k0_hw115 => k0_hw115.2.1
theorem k0_off2306_inb : ∀ (v552 : BitVec 32) (k0_hw115 : k0_chk115 v552), ∀ a, (k0_off2306 v552) a + S1x16.size a ≤ S512x128.size a := fun v552 k0_hw115 => k0_hw115.2.2.1
theorem k0_off2308_inb : ∀ (v552 : BitVec 32) (k0_hw115 : k0_chk115 v552), ∀ a, (k0_off2308 v552) a + S1x16.size a ≤ S512x128.size a := fun v552 k0_hw115 => k0_hw115.2.2.2.1
theorem k0_off2310_inb : ∀ (v552 : BitVec 32) (k0_hw115 : k0_chk115 v552), ∀ a, (k0_off2310 v552) a + S1x16.size a ≤ S512x128.size a := fun v552 k0_hw115 => k0_hw115.2.2.2.2.1
theorem k0_off2312_inb : ∀ (v552 : BitVec 32) (k0_hw115 : k0_chk115 v552), ∀ a, (k0_off2312 v552) a + S1x16.size a ≤ S512x128.size a := fun v552 k0_hw115 => k0_hw115.2.2.2.2.2.1
theorem k0_off2314_inb : ∀ (v552 : BitVec 32) (k0_hw115 : k0_chk115 v552), ∀ a, (k0_off2314 v552) a + S1x16.size a ≤ S512x128.size a := fun v552 k0_hw115 => k0_hw115.2.2.2.2.2.2.1
theorem k0_off2316_inb : ∀ (v552 : BitVec 32) (k0_hw115 : k0_chk115 v552), ∀ a, (k0_off2316 v552) a + S1x16.size a ≤ S512x128.size a := fun v552 k0_hw115 => k0_hw115.2.2.2.2.2.2.2

def k0_off2317 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v719 : Index := Scalar.indexCast v550
  let c0_169 : Index := 0#32
  ![v719.toNat, 0]
def k0_off2318 (v554 : BitVec 32) : Fin 2 → Nat :=
  let v721 : Index := Scalar.indexCast v554
  let c0_170 : Index := 0#32
  ![v721.toNat, 0]

def k0_off2319 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v727 : Index := Scalar.indexCast v550
  let c16_171 : Index := 16#32
  ![v727.toNat, 16]
def k0_off2320 (v554 : BitVec 32) : Fin 2 → Nat :=
  let v729 : Index := Scalar.indexCast v554
  let c16_172 : Index := 16#32
  ![v729.toNat, 16]
def k0_off2321 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v735 : Index := Scalar.indexCast v550
  let c32_173 : Index := 32#32
  ![v735.toNat, 32]
def k0_off2322 (v554 : BitVec 32) : Fin 2 → Nat :=
  let v737 : Index := Scalar.indexCast v554
  let c32_174 : Index := 32#32
  ![v737.toNat, 32]
def k0_off2323 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v743 : Index := Scalar.indexCast v550
  let c48_175 : Index := 48#32
  ![v743.toNat, 48]
def k0_off2324 (v554 : BitVec 32) : Fin 2 → Nat :=
  let v745 : Index := Scalar.indexCast v554
  let c48_176 : Index := 48#32
  ![v745.toNat, 48]
def k0_off2325 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v751 : Index := Scalar.indexCast v550
  let c64_177 : Index := 64#32
  ![v751.toNat, 64]
def k0_off2326 (v554 : BitVec 32) : Fin 2 → Nat :=
  let v753 : Index := Scalar.indexCast v554
  let c64_178 : Index := 64#32
  ![v753.toNat, 64]
def k0_off2327 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v759 : Index := Scalar.indexCast v550
  let c80_179 : Index := 80#32
  ![v759.toNat, 80]
def k0_off2328 (v554 : BitVec 32) : Fin 2 → Nat :=
  let v761 : Index := Scalar.indexCast v554
  let c80_180 : Index := 80#32
  ![v761.toNat, 80]
def k0_off2329 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v767 : Index := Scalar.indexCast v550
  let c96_181 : Index := 96#32
  ![v767.toNat, 96]
def k0_off2330 (v554 : BitVec 32) : Fin 2 → Nat :=
  let v769 : Index := Scalar.indexCast v554
  let c96_182 : Index := 96#32
  ![v769.toNat, 96]
def k0_off2331 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v775 : Index := Scalar.indexCast v550
  let c112_183 : Index := 112#32
  ![v775.toNat, 112]
def k0_off2332 (v554 : BitVec 32) : Fin 2 → Nat :=
  let v777 : Index := Scalar.indexCast v554
  let c112_184 : Index := 112#32
  ![v777.toNat, 112]

def k0_chk116 (v554 : BitVec 32) : Prop :=
  (∀ a, (k0_off2318 v554) a + S1x16.size a ≤ S512x128.size a) ∧
  (∀ a, (k0_off2320 v554) a + S1x16.size a ≤ S512x128.size a) ∧
  (∀ a, (k0_off2322 v554) a + S1x16.size a ≤ S512x128.size a) ∧
  (∀ a, (k0_off2324 v554) a + S1x16.size a ≤ S512x128.size a) ∧
  (∀ a, (k0_off2326 v554) a + S1x16.size a ≤ S512x128.size a) ∧
  (∀ a, (k0_off2328 v554) a + S1x16.size a ≤ S512x128.size a) ∧
  (∀ a, (k0_off2330 v554) a + S1x16.size a ≤ S512x128.size a) ∧
  (∀ a, (k0_off2332 v554) a + S1x16.size a ≤ S512x128.size a)
theorem k0_off2318_inb : ∀ (v554 : BitVec 32) (k0_hw116 : k0_chk116 v554), ∀ a, (k0_off2318 v554) a + S1x16.size a ≤ S512x128.size a := fun v554 k0_hw116 => k0_hw116.1
theorem k0_off2320_inb : ∀ (v554 : BitVec 32) (k0_hw116 : k0_chk116 v554), ∀ a, (k0_off2320 v554) a + S1x16.size a ≤ S512x128.size a := fun v554 k0_hw116 => k0_hw116.2.1
theorem k0_off2322_inb : ∀ (v554 : BitVec 32) (k0_hw116 : k0_chk116 v554), ∀ a, (k0_off2322 v554) a + S1x16.size a ≤ S512x128.size a := fun v554 k0_hw116 => k0_hw116.2.2.1
theorem k0_off2324_inb : ∀ (v554 : BitVec 32) (k0_hw116 : k0_chk116 v554), ∀ a, (k0_off2324 v554) a + S1x16.size a ≤ S512x128.size a := fun v554 k0_hw116 => k0_hw116.2.2.2.1
theorem k0_off2326_inb : ∀ (v554 : BitVec 32) (k0_hw116 : k0_chk116 v554), ∀ a, (k0_off2326 v554) a + S1x16.size a ≤ S512x128.size a := fun v554 k0_hw116 => k0_hw116.2.2.2.2.1
theorem k0_off2328_inb : ∀ (v554 : BitVec 32) (k0_hw116 : k0_chk116 v554), ∀ a, (k0_off2328 v554) a + S1x16.size a ≤ S512x128.size a := fun v554 k0_hw116 => k0_hw116.2.2.2.2.2.1
theorem k0_off2330_inb : ∀ (v554 : BitVec 32) (k0_hw116 : k0_chk116 v554), ∀ a, (k0_off2330 v554) a + S1x16.size a ≤ S512x128.size a := fun v554 k0_hw116 => k0_hw116.2.2.2.2.2.2.1
theorem k0_off2332_inb : ∀ (v554 : BitVec 32) (k0_hw116 : k0_chk116 v554), ∀ a, (k0_off2332 v554) a + S1x16.size a ≤ S512x128.size a := fun v554 k0_hw116 => k0_hw116.2.2.2.2.2.2.2

def k0_off2333 (k0_t9 : Fin k0_t9_loop.trips) (c2_i32_146 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v548 : BitVec 32 := Scalar.addi v79 c2_i32_146
  let v915 : Index := Scalar.indexCast v548
  let c0_192 : Index := 0#32
  ![v915.toNat, 0]
def k0_off2334 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v921 : Index := Scalar.indexCast v548
  let c16_193 : Index := 16#32
  ![v921.toNat, 16]
def k0_off2335 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v927 : Index := Scalar.indexCast v548
  let c32_194 : Index := 32#32
  ![v927.toNat, 32]
def k0_off2336 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v933 : Index := Scalar.indexCast v548
  let c48_195 : Index := 48#32
  ![v933.toNat, 48]
def k0_off2337 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v939 : Index := Scalar.indexCast v548
  let c64_196 : Index := 64#32
  ![v939.toNat, 64]
def k0_off2338 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v945 : Index := Scalar.indexCast v548
  let c80_197 : Index := 80#32
  ![v945.toNat, 80]
def k0_off2339 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v951 : Index := Scalar.indexCast v548
  let c96_198 : Index := 96#32
  ![v951.toNat, 96]
def k0_off2340 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_146 : BitVec 32 := 2#32
  let v548 : BitVec 32 := Scalar.addi v79 c2_i32_146
  let v957 : Index := Scalar.indexCast v548
  let c112_199 : Index := 112#32
  ![v957.toNat, 112]
def k0_off2341 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c2_i32_147 : BitVec 32 := 2#32
  let v549 : BitVec 32 := Scalar.addi v79 c2_i32_147
  let c1_i32_148 : BitVec 32 := 1#32
  let v550 : BitVec 32 := Scalar.addi v549 c1_i32_148
  let v969 : Index := Scalar.indexCast v550
  let c0_200 : Index := 0#32
  ![v969.toNat, 0]
def k0_off2342 (v1017 : BitVec 32) : Fin 2 → Nat :=
  let v1024 : Index := Scalar.indexCast v1017
  let c0_214 : Index := 0#32
  ![v1024.toNat, 0]

def k0_off2343 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1030 : Index := Scalar.indexCast v1013
  let c16_215 : Index := 16#32
  ![v1030.toNat, 16]
def k0_off2344 (v1017 : BitVec 32) : Fin 2 → Nat :=
  let v1032 : Index := Scalar.indexCast v1017
  let c16_216 : Index := 16#32
  ![v1032.toNat, 16]
def k0_off2345 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1038 : Index := Scalar.indexCast v1013
  let c32_217 : Index := 32#32
  ![v1038.toNat, 32]
def k0_off2346 (v1017 : BitVec 32) : Fin 2 → Nat :=
  let v1040 : Index := Scalar.indexCast v1017
  let c32_218 : Index := 32#32
  ![v1040.toNat, 32]
def k0_off2347 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1046 : Index := Scalar.indexCast v1013
  let c48_219 : Index := 48#32
  ![v1046.toNat, 48]
def k0_off2348 (v1017 : BitVec 32) : Fin 2 → Nat :=
  let v1048 : Index := Scalar.indexCast v1017
  let c48_220 : Index := 48#32
  ![v1048.toNat, 48]
def k0_off2349 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1054 : Index := Scalar.indexCast v1013
  let c64_221 : Index := 64#32
  ![v1054.toNat, 64]
def k0_off2350 (v1017 : BitVec 32) : Fin 2 → Nat :=
  let v1056 : Index := Scalar.indexCast v1017
  let c64_222 : Index := 64#32
  ![v1056.toNat, 64]
def k0_off2351 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1062 : Index := Scalar.indexCast v1013
  let c80_223 : Index := 80#32
  ![v1062.toNat, 80]
def k0_off2352 (v1017 : BitVec 32) : Fin 2 → Nat :=
  let v1064 : Index := Scalar.indexCast v1017
  let c80_224 : Index := 80#32
  ![v1064.toNat, 80]
def k0_off2353 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1070 : Index := Scalar.indexCast v1013
  let c96_225 : Index := 96#32
  ![v1070.toNat, 96]
def k0_off2354 (v1017 : BitVec 32) : Fin 2 → Nat :=
  let v1072 : Index := Scalar.indexCast v1017
  let c96_226 : Index := 96#32
  ![v1072.toNat, 96]
def k0_off2355 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1078 : Index := Scalar.indexCast v1013
  let c112_227 : Index := 112#32
  ![v1078.toNat, 112]
def k0_off2356 (v1017 : BitVec 32) : Fin 2 → Nat :=
  let v1080 : Index := Scalar.indexCast v1017
  let c112_228 : Index := 112#32
  ![v1080.toNat, 112]

def k0_chk117 (v1017 : BitVec 32) : Prop :=
  (∀ a, (k0_off2342 v1017) a + S1x16.size a ≤ S512x128.size a) ∧
  (∀ a, (k0_off2344 v1017) a + S1x16.size a ≤ S512x128.size a) ∧
  (∀ a, (k0_off2346 v1017) a + S1x16.size a ≤ S512x128.size a) ∧
  (∀ a, (k0_off2348 v1017) a + S1x16.size a ≤ S512x128.size a) ∧
  (∀ a, (k0_off2350 v1017) a + S1x16.size a ≤ S512x128.size a) ∧
  (∀ a, (k0_off2352 v1017) a + S1x16.size a ≤ S512x128.size a) ∧
  (∀ a, (k0_off2354 v1017) a + S1x16.size a ≤ S512x128.size a) ∧
  (∀ a, (k0_off2356 v1017) a + S1x16.size a ≤ S512x128.size a)
theorem k0_off2342_inb : ∀ (v1017 : BitVec 32) (k0_hw117 : k0_chk117 v1017), ∀ a, (k0_off2342 v1017) a + S1x16.size a ≤ S512x128.size a := fun v1017 k0_hw117 => k0_hw117.1
theorem k0_off2344_inb : ∀ (v1017 : BitVec 32) (k0_hw117 : k0_chk117 v1017), ∀ a, (k0_off2344 v1017) a + S1x16.size a ≤ S512x128.size a := fun v1017 k0_hw117 => k0_hw117.2.1
theorem k0_off2346_inb : ∀ (v1017 : BitVec 32) (k0_hw117 : k0_chk117 v1017), ∀ a, (k0_off2346 v1017) a + S1x16.size a ≤ S512x128.size a := fun v1017 k0_hw117 => k0_hw117.2.2.1
theorem k0_off2348_inb : ∀ (v1017 : BitVec 32) (k0_hw117 : k0_chk117 v1017), ∀ a, (k0_off2348 v1017) a + S1x16.size a ≤ S512x128.size a := fun v1017 k0_hw117 => k0_hw117.2.2.2.1
theorem k0_off2350_inb : ∀ (v1017 : BitVec 32) (k0_hw117 : k0_chk117 v1017), ∀ a, (k0_off2350 v1017) a + S1x16.size a ≤ S512x128.size a := fun v1017 k0_hw117 => k0_hw117.2.2.2.2.1
theorem k0_off2352_inb : ∀ (v1017 : BitVec 32) (k0_hw117 : k0_chk117 v1017), ∀ a, (k0_off2352 v1017) a + S1x16.size a ≤ S512x128.size a := fun v1017 k0_hw117 => k0_hw117.2.2.2.2.2.1
theorem k0_off2354_inb : ∀ (v1017 : BitVec 32) (k0_hw117 : k0_chk117 v1017), ∀ a, (k0_off2354 v1017) a + S1x16.size a ≤ S512x128.size a := fun v1017 k0_hw117 => k0_hw117.2.2.2.2.2.2.1
theorem k0_off2356_inb : ∀ (v1017 : BitVec 32) (k0_hw117 : k0_chk117 v1017), ∀ a, (k0_off2356 v1017) a + S1x16.size a ≤ S512x128.size a := fun v1017 k0_hw117 => k0_hw117.2.2.2.2.2.2.2

def k0_off2357 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1184 : Index := Scalar.indexCast v1015
  let c0_231 : Index := 0#32
  ![v1184.toNat, 0]
def k0_off2358 (v1019 : BitVec 32) : Fin 2 → Nat :=
  let v1186 : Index := Scalar.indexCast v1019
  let c0_232 : Index := 0#32
  ![v1186.toNat, 0]

def k0_off2359 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1192 : Index := Scalar.indexCast v1015
  let c16_233 : Index := 16#32
  ![v1192.toNat, 16]
def k0_off2360 (v1019 : BitVec 32) : Fin 2 → Nat :=
  let v1194 : Index := Scalar.indexCast v1019
  let c16_234 : Index := 16#32
  ![v1194.toNat, 16]
def k0_off2361 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1200 : Index := Scalar.indexCast v1015
  let c32_235 : Index := 32#32
  ![v1200.toNat, 32]
def k0_off2362 (v1019 : BitVec 32) : Fin 2 → Nat :=
  let v1202 : Index := Scalar.indexCast v1019
  let c32_236 : Index := 32#32
  ![v1202.toNat, 32]
def k0_off2363 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1208 : Index := Scalar.indexCast v1015
  let c48_237 : Index := 48#32
  ![v1208.toNat, 48]
def k0_off2364 (v1019 : BitVec 32) : Fin 2 → Nat :=
  let v1210 : Index := Scalar.indexCast v1019
  let c48_238 : Index := 48#32
  ![v1210.toNat, 48]
def k0_off2365 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1216 : Index := Scalar.indexCast v1015
  let c64_239 : Index := 64#32
  ![v1216.toNat, 64]
def k0_off2366 (v1019 : BitVec 32) : Fin 2 → Nat :=
  let v1218 : Index := Scalar.indexCast v1019
  let c64_240 : Index := 64#32
  ![v1218.toNat, 64]
def k0_off2367 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1224 : Index := Scalar.indexCast v1015
  let c80_241 : Index := 80#32
  ![v1224.toNat, 80]
def k0_off2368 (v1019 : BitVec 32) : Fin 2 → Nat :=
  let v1226 : Index := Scalar.indexCast v1019
  let c80_242 : Index := 80#32
  ![v1226.toNat, 80]
def k0_off2369 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1232 : Index := Scalar.indexCast v1015
  let c96_243 : Index := 96#32
  ![v1232.toNat, 96]
def k0_off2370 (v1019 : BitVec 32) : Fin 2 → Nat :=
  let v1234 : Index := Scalar.indexCast v1019
  let c96_244 : Index := 96#32
  ![v1234.toNat, 96]
def k0_off2371 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1240 : Index := Scalar.indexCast v1015
  let c112_245 : Index := 112#32
  ![v1240.toNat, 112]
def k0_off2372 (v1019 : BitVec 32) : Fin 2 → Nat :=
  let v1242 : Index := Scalar.indexCast v1019
  let c112_246 : Index := 112#32
  ![v1242.toNat, 112]

def k0_chk118 (v1019 : BitVec 32) : Prop :=
  (∀ a, (k0_off2358 v1019) a + S1x16.size a ≤ S512x128.size a) ∧
  (∀ a, (k0_off2360 v1019) a + S1x16.size a ≤ S512x128.size a) ∧
  (∀ a, (k0_off2362 v1019) a + S1x16.size a ≤ S512x128.size a) ∧
  (∀ a, (k0_off2364 v1019) a + S1x16.size a ≤ S512x128.size a) ∧
  (∀ a, (k0_off2366 v1019) a + S1x16.size a ≤ S512x128.size a) ∧
  (∀ a, (k0_off2368 v1019) a + S1x16.size a ≤ S512x128.size a) ∧
  (∀ a, (k0_off2370 v1019) a + S1x16.size a ≤ S512x128.size a) ∧
  (∀ a, (k0_off2372 v1019) a + S1x16.size a ≤ S512x128.size a)
theorem k0_off2358_inb : ∀ (v1019 : BitVec 32) (k0_hw118 : k0_chk118 v1019), ∀ a, (k0_off2358 v1019) a + S1x16.size a ≤ S512x128.size a := fun v1019 k0_hw118 => k0_hw118.1
theorem k0_off2360_inb : ∀ (v1019 : BitVec 32) (k0_hw118 : k0_chk118 v1019), ∀ a, (k0_off2360 v1019) a + S1x16.size a ≤ S512x128.size a := fun v1019 k0_hw118 => k0_hw118.2.1
theorem k0_off2362_inb : ∀ (v1019 : BitVec 32) (k0_hw118 : k0_chk118 v1019), ∀ a, (k0_off2362 v1019) a + S1x16.size a ≤ S512x128.size a := fun v1019 k0_hw118 => k0_hw118.2.2.1
theorem k0_off2364_inb : ∀ (v1019 : BitVec 32) (k0_hw118 : k0_chk118 v1019), ∀ a, (k0_off2364 v1019) a + S1x16.size a ≤ S512x128.size a := fun v1019 k0_hw118 => k0_hw118.2.2.2.1
theorem k0_off2366_inb : ∀ (v1019 : BitVec 32) (k0_hw118 : k0_chk118 v1019), ∀ a, (k0_off2366 v1019) a + S1x16.size a ≤ S512x128.size a := fun v1019 k0_hw118 => k0_hw118.2.2.2.2.1
theorem k0_off2368_inb : ∀ (v1019 : BitVec 32) (k0_hw118 : k0_chk118 v1019), ∀ a, (k0_off2368 v1019) a + S1x16.size a ≤ S512x128.size a := fun v1019 k0_hw118 => k0_hw118.2.2.2.2.2.1
theorem k0_off2370_inb : ∀ (v1019 : BitVec 32) (k0_hw118 : k0_chk118 v1019), ∀ a, (k0_off2370 v1019) a + S1x16.size a ≤ S512x128.size a := fun v1019 k0_hw118 => k0_hw118.2.2.2.2.2.2.1
theorem k0_off2372_inb : ∀ (v1019 : BitVec 32) (k0_hw118 : k0_chk118 v1019), ∀ a, (k0_off2372 v1019) a + S1x16.size a ≤ S512x128.size a := fun v1019 k0_hw118 => k0_hw118.2.2.2.2.2.2.2

def k0_off2373 (k0_t9 : Fin k0_t9_loop.trips) (c4_i32_208 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v1013 : BitVec 32 := Scalar.addi v79 c4_i32_208
  let v1380 : Index := Scalar.indexCast v1013
  let c0_254 : Index := 0#32
  ![v1380.toNat, 0]
def k0_off2374 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1386 : Index := Scalar.indexCast v1013
  let c16_255 : Index := 16#32
  ![v1386.toNat, 16]
def k0_off2375 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1392 : Index := Scalar.indexCast v1013
  let c32_256 : Index := 32#32
  ![v1392.toNat, 32]
def k0_off2376 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1398 : Index := Scalar.indexCast v1013
  let c48_257 : Index := 48#32
  ![v1398.toNat, 48]
def k0_off2377 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1404 : Index := Scalar.indexCast v1013
  let c64_258 : Index := 64#32
  ![v1404.toNat, 64]
def k0_off2378 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1410 : Index := Scalar.indexCast v1013
  let c80_259 : Index := 80#32
  ![v1410.toNat, 80]
def k0_off2379 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1416 : Index := Scalar.indexCast v1013
  let c96_260 : Index := 96#32
  ![v1416.toNat, 96]
def k0_off2380 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_208 : BitVec 32 := 4#32
  let v1013 : BitVec 32 := Scalar.addi v79 c4_i32_208
  let v1422 : Index := Scalar.indexCast v1013
  let c112_261 : Index := 112#32
  ![v1422.toNat, 112]
def k0_off2381 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c4_i32_209 : BitVec 32 := 4#32
  let v1014 : BitVec 32 := Scalar.addi v79 c4_i32_209
  let c1_i32_210 : BitVec 32 := 1#32
  let v1015 : BitVec 32 := Scalar.addi v1014 c1_i32_210
  let v1434 : Index := Scalar.indexCast v1015
  let c0_262 : Index := 0#32
  ![v1434.toNat, 0]
def k0_off2382 (v1482 : BitVec 32) : Fin 2 → Nat :=
  let v1489 : Index := Scalar.indexCast v1482
  let c0_275 : Index := 0#32
  ![v1489.toNat, 0]

def k0_off2383 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1495 : Index := Scalar.indexCast v1478
  let c16_276 : Index := 16#32
  ![v1495.toNat, 16]
def k0_off2384 (v1482 : BitVec 32) : Fin 2 → Nat :=
  let v1497 : Index := Scalar.indexCast v1482
  let c16_277 : Index := 16#32
  ![v1497.toNat, 16]
def k0_off2385 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1503 : Index := Scalar.indexCast v1478
  let c32_278 : Index := 32#32
  ![v1503.toNat, 32]
def k0_off2386 (v1482 : BitVec 32) : Fin 2 → Nat :=
  let v1505 : Index := Scalar.indexCast v1482
  let c32_279 : Index := 32#32
  ![v1505.toNat, 32]
def k0_off2387 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1511 : Index := Scalar.indexCast v1478
  let c48_280 : Index := 48#32
  ![v1511.toNat, 48]
def k0_off2388 (v1482 : BitVec 32) : Fin 2 → Nat :=
  let v1513 : Index := Scalar.indexCast v1482
  let c48_281 : Index := 48#32
  ![v1513.toNat, 48]
def k0_off2389 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1519 : Index := Scalar.indexCast v1478
  let c64_282 : Index := 64#32
  ![v1519.toNat, 64]
def k0_off2390 (v1482 : BitVec 32) : Fin 2 → Nat :=
  let v1521 : Index := Scalar.indexCast v1482
  let c64_283 : Index := 64#32
  ![v1521.toNat, 64]
def k0_off2391 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1527 : Index := Scalar.indexCast v1478
  let c80_284 : Index := 80#32
  ![v1527.toNat, 80]
def k0_off2392 (v1482 : BitVec 32) : Fin 2 → Nat :=
  let v1529 : Index := Scalar.indexCast v1482
  let c80_285 : Index := 80#32
  ![v1529.toNat, 80]
def k0_off2393 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1535 : Index := Scalar.indexCast v1478
  let c96_286 : Index := 96#32
  ![v1535.toNat, 96]
def k0_off2394 (v1482 : BitVec 32) : Fin 2 → Nat :=
  let v1537 : Index := Scalar.indexCast v1482
  let c96_287 : Index := 96#32
  ![v1537.toNat, 96]
def k0_off2395 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1543 : Index := Scalar.indexCast v1478
  let c112_288 : Index := 112#32
  ![v1543.toNat, 112]
def k0_off2396 (v1482 : BitVec 32) : Fin 2 → Nat :=
  let v1545 : Index := Scalar.indexCast v1482
  let c112_289 : Index := 112#32
  ![v1545.toNat, 112]

def k0_chk119 (v1482 : BitVec 32) : Prop :=
  (∀ a, (k0_off2382 v1482) a + S1x16.size a ≤ S512x128.size a) ∧
  (∀ a, (k0_off2384 v1482) a + S1x16.size a ≤ S512x128.size a) ∧
  (∀ a, (k0_off2386 v1482) a + S1x16.size a ≤ S512x128.size a) ∧
  (∀ a, (k0_off2388 v1482) a + S1x16.size a ≤ S512x128.size a) ∧
  (∀ a, (k0_off2390 v1482) a + S1x16.size a ≤ S512x128.size a) ∧
  (∀ a, (k0_off2392 v1482) a + S1x16.size a ≤ S512x128.size a) ∧
  (∀ a, (k0_off2394 v1482) a + S1x16.size a ≤ S512x128.size a) ∧
  (∀ a, (k0_off2396 v1482) a + S1x16.size a ≤ S512x128.size a)
theorem k0_off2382_inb : ∀ (v1482 : BitVec 32) (k0_hw119 : k0_chk119 v1482), ∀ a, (k0_off2382 v1482) a + S1x16.size a ≤ S512x128.size a := fun v1482 k0_hw119 => k0_hw119.1
theorem k0_off2384_inb : ∀ (v1482 : BitVec 32) (k0_hw119 : k0_chk119 v1482), ∀ a, (k0_off2384 v1482) a + S1x16.size a ≤ S512x128.size a := fun v1482 k0_hw119 => k0_hw119.2.1
theorem k0_off2386_inb : ∀ (v1482 : BitVec 32) (k0_hw119 : k0_chk119 v1482), ∀ a, (k0_off2386 v1482) a + S1x16.size a ≤ S512x128.size a := fun v1482 k0_hw119 => k0_hw119.2.2.1
theorem k0_off2388_inb : ∀ (v1482 : BitVec 32) (k0_hw119 : k0_chk119 v1482), ∀ a, (k0_off2388 v1482) a + S1x16.size a ≤ S512x128.size a := fun v1482 k0_hw119 => k0_hw119.2.2.2.1
theorem k0_off2390_inb : ∀ (v1482 : BitVec 32) (k0_hw119 : k0_chk119 v1482), ∀ a, (k0_off2390 v1482) a + S1x16.size a ≤ S512x128.size a := fun v1482 k0_hw119 => k0_hw119.2.2.2.2.1
theorem k0_off2392_inb : ∀ (v1482 : BitVec 32) (k0_hw119 : k0_chk119 v1482), ∀ a, (k0_off2392 v1482) a + S1x16.size a ≤ S512x128.size a := fun v1482 k0_hw119 => k0_hw119.2.2.2.2.2.1
theorem k0_off2394_inb : ∀ (v1482 : BitVec 32) (k0_hw119 : k0_chk119 v1482), ∀ a, (k0_off2394 v1482) a + S1x16.size a ≤ S512x128.size a := fun v1482 k0_hw119 => k0_hw119.2.2.2.2.2.2.1
theorem k0_off2396_inb : ∀ (v1482 : BitVec 32) (k0_hw119 : k0_chk119 v1482), ∀ a, (k0_off2396 v1482) a + S1x16.size a ≤ S512x128.size a := fun v1482 k0_hw119 => k0_hw119.2.2.2.2.2.2.2

def k0_off2397 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1649 : Index := Scalar.indexCast v1480
  let c0_292 : Index := 0#32
  ![v1649.toNat, 0]
def k0_off2398 (v1484 : BitVec 32) : Fin 2 → Nat :=
  let v1651 : Index := Scalar.indexCast v1484
  let c0_293 : Index := 0#32
  ![v1651.toNat, 0]

def k0_off2399 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1657 : Index := Scalar.indexCast v1480
  let c16_294 : Index := 16#32
  ![v1657.toNat, 16]
def k0_off2400 (v1484 : BitVec 32) : Fin 2 → Nat :=
  let v1659 : Index := Scalar.indexCast v1484
  let c16_295 : Index := 16#32
  ![v1659.toNat, 16]
def k0_off2401 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1665 : Index := Scalar.indexCast v1480
  let c32_296 : Index := 32#32
  ![v1665.toNat, 32]
def k0_off2402 (v1484 : BitVec 32) : Fin 2 → Nat :=
  let v1667 : Index := Scalar.indexCast v1484
  let c32_297 : Index := 32#32
  ![v1667.toNat, 32]
def k0_off2403 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1673 : Index := Scalar.indexCast v1480
  let c48_298 : Index := 48#32
  ![v1673.toNat, 48]
def k0_off2404 (v1484 : BitVec 32) : Fin 2 → Nat :=
  let v1675 : Index := Scalar.indexCast v1484
  let c48_299 : Index := 48#32
  ![v1675.toNat, 48]
def k0_off2405 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1681 : Index := Scalar.indexCast v1480
  let c64_300 : Index := 64#32
  ![v1681.toNat, 64]
def k0_off2406 (v1484 : BitVec 32) : Fin 2 → Nat :=
  let v1683 : Index := Scalar.indexCast v1484
  let c64_301 : Index := 64#32
  ![v1683.toNat, 64]
def k0_off2407 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1689 : Index := Scalar.indexCast v1480
  let c80_302 : Index := 80#32
  ![v1689.toNat, 80]
def k0_off2408 (v1484 : BitVec 32) : Fin 2 → Nat :=
  let v1691 : Index := Scalar.indexCast v1484
  let c80_303 : Index := 80#32
  ![v1691.toNat, 80]
def k0_off2409 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1697 : Index := Scalar.indexCast v1480
  let c96_304 : Index := 96#32
  ![v1697.toNat, 96]
def k0_off2410 (v1484 : BitVec 32) : Fin 2 → Nat :=
  let v1699 : Index := Scalar.indexCast v1484
  let c96_305 : Index := 96#32
  ![v1699.toNat, 96]
def k0_off2411 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1705 : Index := Scalar.indexCast v1480
  let c112_306 : Index := 112#32
  ![v1705.toNat, 112]
def k0_off2412 (v1484 : BitVec 32) : Fin 2 → Nat :=
  let v1707 : Index := Scalar.indexCast v1484
  let c112_307 : Index := 112#32
  ![v1707.toNat, 112]

def k0_chk120 (v1484 : BitVec 32) : Prop :=
  (∀ a, (k0_off2398 v1484) a + S1x16.size a ≤ S512x128.size a) ∧
  (∀ a, (k0_off2400 v1484) a + S1x16.size a ≤ S512x128.size a) ∧
  (∀ a, (k0_off2402 v1484) a + S1x16.size a ≤ S512x128.size a) ∧
  (∀ a, (k0_off2404 v1484) a + S1x16.size a ≤ S512x128.size a) ∧
  (∀ a, (k0_off2406 v1484) a + S1x16.size a ≤ S512x128.size a) ∧
  (∀ a, (k0_off2408 v1484) a + S1x16.size a ≤ S512x128.size a) ∧
  (∀ a, (k0_off2410 v1484) a + S1x16.size a ≤ S512x128.size a) ∧
  (∀ a, (k0_off2412 v1484) a + S1x16.size a ≤ S512x128.size a)
theorem k0_off2398_inb : ∀ (v1484 : BitVec 32) (k0_hw120 : k0_chk120 v1484), ∀ a, (k0_off2398 v1484) a + S1x16.size a ≤ S512x128.size a := fun v1484 k0_hw120 => k0_hw120.1
theorem k0_off2400_inb : ∀ (v1484 : BitVec 32) (k0_hw120 : k0_chk120 v1484), ∀ a, (k0_off2400 v1484) a + S1x16.size a ≤ S512x128.size a := fun v1484 k0_hw120 => k0_hw120.2.1
theorem k0_off2402_inb : ∀ (v1484 : BitVec 32) (k0_hw120 : k0_chk120 v1484), ∀ a, (k0_off2402 v1484) a + S1x16.size a ≤ S512x128.size a := fun v1484 k0_hw120 => k0_hw120.2.2.1
theorem k0_off2404_inb : ∀ (v1484 : BitVec 32) (k0_hw120 : k0_chk120 v1484), ∀ a, (k0_off2404 v1484) a + S1x16.size a ≤ S512x128.size a := fun v1484 k0_hw120 => k0_hw120.2.2.2.1
theorem k0_off2406_inb : ∀ (v1484 : BitVec 32) (k0_hw120 : k0_chk120 v1484), ∀ a, (k0_off2406 v1484) a + S1x16.size a ≤ S512x128.size a := fun v1484 k0_hw120 => k0_hw120.2.2.2.2.1
theorem k0_off2408_inb : ∀ (v1484 : BitVec 32) (k0_hw120 : k0_chk120 v1484), ∀ a, (k0_off2408 v1484) a + S1x16.size a ≤ S512x128.size a := fun v1484 k0_hw120 => k0_hw120.2.2.2.2.2.1
theorem k0_off2410_inb : ∀ (v1484 : BitVec 32) (k0_hw120 : k0_chk120 v1484), ∀ a, (k0_off2410 v1484) a + S1x16.size a ≤ S512x128.size a := fun v1484 k0_hw120 => k0_hw120.2.2.2.2.2.2.1
theorem k0_off2412_inb : ∀ (v1484 : BitVec 32) (k0_hw120 : k0_chk120 v1484), ∀ a, (k0_off2412 v1484) a + S1x16.size a ≤ S512x128.size a := fun v1484 k0_hw120 => k0_hw120.2.2.2.2.2.2.2

def k0_off2413 (k0_t9 : Fin k0_t9_loop.trips) (c6_i32 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v1478 : BitVec 32 := Scalar.addi v79 c6_i32
  let v1845 : Index := Scalar.indexCast v1478
  let c0_315 : Index := 0#32
  ![v1845.toNat, 0]
def k0_off2414 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1851 : Index := Scalar.indexCast v1478
  let c16_316 : Index := 16#32
  ![v1851.toNat, 16]
def k0_off2415 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1857 : Index := Scalar.indexCast v1478
  let c32_317 : Index := 32#32
  ![v1857.toNat, 32]
def k0_off2416 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1863 : Index := Scalar.indexCast v1478
  let c48_318 : Index := 48#32
  ![v1863.toNat, 48]
def k0_off2417 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1869 : Index := Scalar.indexCast v1478
  let c64_319 : Index := 64#32
  ![v1869.toNat, 64]
def k0_off2418 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1875 : Index := Scalar.indexCast v1478
  let c80_320 : Index := 80#32
  ![v1875.toNat, 80]
def k0_off2419 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1881 : Index := Scalar.indexCast v1478
  let c96_321 : Index := 96#32
  ![v1881.toNat, 96]
def k0_off2420 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32 : BitVec 32 := 6#32
  let v1478 : BitVec 32 := Scalar.addi v79 c6_i32
  let v1887 : Index := Scalar.indexCast v1478
  let c112_322 : Index := 112#32
  ![v1887.toNat, 112]
def k0_off2421 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c6_i32_270 : BitVec 32 := 6#32
  let v1479 : BitVec 32 := Scalar.addi v79 c6_i32_270
  let c1_i32_271 : BitVec 32 := 1#32
  let v1480 : BitVec 32 := Scalar.addi v1479 c1_i32_271
  let v1899 : Index := Scalar.indexCast v1480
  let c0_323 : Index := 0#32
  ![v1899.toNat, 0]
def k0_off2422 (v1947 : BitVec 32) : Fin 2 → Nat :=
  let v1954 : Index := Scalar.indexCast v1947
  let c0_337 : Index := 0#32
  ![v1954.toNat, 0]

def k0_off2423 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v1960 : Index := Scalar.indexCast v1943
  let c16_338 : Index := 16#32
  ![v1960.toNat, 16]
def k0_off2424 (v1947 : BitVec 32) : Fin 2 → Nat :=
  let v1962 : Index := Scalar.indexCast v1947
  let c16_339 : Index := 16#32
  ![v1962.toNat, 16]
def k0_off2425 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v1968 : Index := Scalar.indexCast v1943
  let c32_340 : Index := 32#32
  ![v1968.toNat, 32]
def k0_off2426 (v1947 : BitVec 32) : Fin 2 → Nat :=
  let v1970 : Index := Scalar.indexCast v1947
  let c32_341 : Index := 32#32
  ![v1970.toNat, 32]
def k0_off2427 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v1976 : Index := Scalar.indexCast v1943
  let c48_342 : Index := 48#32
  ![v1976.toNat, 48]
def k0_off2428 (v1947 : BitVec 32) : Fin 2 → Nat :=
  let v1978 : Index := Scalar.indexCast v1947
  let c48_343 : Index := 48#32
  ![v1978.toNat, 48]
def k0_off2429 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v1984 : Index := Scalar.indexCast v1943
  let c64_344 : Index := 64#32
  ![v1984.toNat, 64]
def k0_off2430 (v1947 : BitVec 32) : Fin 2 → Nat :=
  let v1986 : Index := Scalar.indexCast v1947
  let c64_345 : Index := 64#32
  ![v1986.toNat, 64]
def k0_off2431 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v1992 : Index := Scalar.indexCast v1943
  let c80_346 : Index := 80#32
  ![v1992.toNat, 80]
def k0_off2432 (v1947 : BitVec 32) : Fin 2 → Nat :=
  let v1994 : Index := Scalar.indexCast v1947
  let c80_347 : Index := 80#32
  ![v1994.toNat, 80]
def k0_off2433 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2000 : Index := Scalar.indexCast v1943
  let c96_348 : Index := 96#32
  ![v2000.toNat, 96]
def k0_off2434 (v1947 : BitVec 32) : Fin 2 → Nat :=
  let v2002 : Index := Scalar.indexCast v1947
  let c96_349 : Index := 96#32
  ![v2002.toNat, 96]
def k0_off2435 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2008 : Index := Scalar.indexCast v1943
  let c112_350 : Index := 112#32
  ![v2008.toNat, 112]
def k0_off2436 (v1947 : BitVec 32) : Fin 2 → Nat :=
  let v2010 : Index := Scalar.indexCast v1947
  let c112_351 : Index := 112#32
  ![v2010.toNat, 112]

def k0_chk121 (v1947 : BitVec 32) : Prop :=
  (∀ a, (k0_off2422 v1947) a + S1x16.size a ≤ S512x128.size a) ∧
  (∀ a, (k0_off2424 v1947) a + S1x16.size a ≤ S512x128.size a) ∧
  (∀ a, (k0_off2426 v1947) a + S1x16.size a ≤ S512x128.size a) ∧
  (∀ a, (k0_off2428 v1947) a + S1x16.size a ≤ S512x128.size a) ∧
  (∀ a, (k0_off2430 v1947) a + S1x16.size a ≤ S512x128.size a) ∧
  (∀ a, (k0_off2432 v1947) a + S1x16.size a ≤ S512x128.size a) ∧
  (∀ a, (k0_off2434 v1947) a + S1x16.size a ≤ S512x128.size a) ∧
  (∀ a, (k0_off2436 v1947) a + S1x16.size a ≤ S512x128.size a)
theorem k0_off2422_inb : ∀ (v1947 : BitVec 32) (k0_hw121 : k0_chk121 v1947), ∀ a, (k0_off2422 v1947) a + S1x16.size a ≤ S512x128.size a := fun v1947 k0_hw121 => k0_hw121.1
theorem k0_off2424_inb : ∀ (v1947 : BitVec 32) (k0_hw121 : k0_chk121 v1947), ∀ a, (k0_off2424 v1947) a + S1x16.size a ≤ S512x128.size a := fun v1947 k0_hw121 => k0_hw121.2.1
theorem k0_off2426_inb : ∀ (v1947 : BitVec 32) (k0_hw121 : k0_chk121 v1947), ∀ a, (k0_off2426 v1947) a + S1x16.size a ≤ S512x128.size a := fun v1947 k0_hw121 => k0_hw121.2.2.1
theorem k0_off2428_inb : ∀ (v1947 : BitVec 32) (k0_hw121 : k0_chk121 v1947), ∀ a, (k0_off2428 v1947) a + S1x16.size a ≤ S512x128.size a := fun v1947 k0_hw121 => k0_hw121.2.2.2.1
theorem k0_off2430_inb : ∀ (v1947 : BitVec 32) (k0_hw121 : k0_chk121 v1947), ∀ a, (k0_off2430 v1947) a + S1x16.size a ≤ S512x128.size a := fun v1947 k0_hw121 => k0_hw121.2.2.2.2.1
theorem k0_off2432_inb : ∀ (v1947 : BitVec 32) (k0_hw121 : k0_chk121 v1947), ∀ a, (k0_off2432 v1947) a + S1x16.size a ≤ S512x128.size a := fun v1947 k0_hw121 => k0_hw121.2.2.2.2.2.1
theorem k0_off2434_inb : ∀ (v1947 : BitVec 32) (k0_hw121 : k0_chk121 v1947), ∀ a, (k0_off2434 v1947) a + S1x16.size a ≤ S512x128.size a := fun v1947 k0_hw121 => k0_hw121.2.2.2.2.2.2.1
theorem k0_off2436_inb : ∀ (v1947 : BitVec 32) (k0_hw121 : k0_chk121 v1947), ∀ a, (k0_off2436 v1947) a + S1x16.size a ≤ S512x128.size a := fun v1947 k0_hw121 => k0_hw121.2.2.2.2.2.2.2

def k0_off2437 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2114 : Index := Scalar.indexCast v1945
  let c0_354 : Index := 0#32
  ![v2114.toNat, 0]
def k0_off2438 (v1949 : BitVec 32) : Fin 2 → Nat :=
  let v2116 : Index := Scalar.indexCast v1949
  let c0_355 : Index := 0#32
  ![v2116.toNat, 0]

def k0_off2439 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2122 : Index := Scalar.indexCast v1945
  let c16_356 : Index := 16#32
  ![v2122.toNat, 16]
def k0_off2440 (v1949 : BitVec 32) : Fin 2 → Nat :=
  let v2124 : Index := Scalar.indexCast v1949
  let c16_357 : Index := 16#32
  ![v2124.toNat, 16]
def k0_off2441 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2130 : Index := Scalar.indexCast v1945
  let c32_358 : Index := 32#32
  ![v2130.toNat, 32]
def k0_off2442 (v1949 : BitVec 32) : Fin 2 → Nat :=
  let v2132 : Index := Scalar.indexCast v1949
  let c32_359 : Index := 32#32
  ![v2132.toNat, 32]
def k0_off2443 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2138 : Index := Scalar.indexCast v1945
  let c48_360 : Index := 48#32
  ![v2138.toNat, 48]
def k0_off2444 (v1949 : BitVec 32) : Fin 2 → Nat :=
  let v2140 : Index := Scalar.indexCast v1949
  let c48_361 : Index := 48#32
  ![v2140.toNat, 48]
def k0_off2445 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2146 : Index := Scalar.indexCast v1945
  let c64_362 : Index := 64#32
  ![v2146.toNat, 64]
def k0_off2446 (v1949 : BitVec 32) : Fin 2 → Nat :=
  let v2148 : Index := Scalar.indexCast v1949
  let c64_363 : Index := 64#32
  ![v2148.toNat, 64]
def k0_off2447 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2154 : Index := Scalar.indexCast v1945
  let c80_364 : Index := 80#32
  ![v2154.toNat, 80]
def k0_off2448 (v1949 : BitVec 32) : Fin 2 → Nat :=
  let v2156 : Index := Scalar.indexCast v1949
  let c80_365 : Index := 80#32
  ![v2156.toNat, 80]
def k0_off2449 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2162 : Index := Scalar.indexCast v1945
  let c96_366 : Index := 96#32
  ![v2162.toNat, 96]
def k0_off2450 (v1949 : BitVec 32) : Fin 2 → Nat :=
  let v2164 : Index := Scalar.indexCast v1949
  let c96_367 : Index := 96#32
  ![v2164.toNat, 96]
def k0_off2451 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2170 : Index := Scalar.indexCast v1945
  let c112_368 : Index := 112#32
  ![v2170.toNat, 112]
def k0_off2452 (v1949 : BitVec 32) : Fin 2 → Nat :=
  let v2172 : Index := Scalar.indexCast v1949
  let c112_369 : Index := 112#32
  ![v2172.toNat, 112]

def k0_chk122 (v1949 : BitVec 32) : Prop :=
  (∀ a, (k0_off2438 v1949) a + S1x16.size a ≤ S512x128.size a) ∧
  (∀ a, (k0_off2440 v1949) a + S1x16.size a ≤ S512x128.size a) ∧
  (∀ a, (k0_off2442 v1949) a + S1x16.size a ≤ S512x128.size a) ∧
  (∀ a, (k0_off2444 v1949) a + S1x16.size a ≤ S512x128.size a) ∧
  (∀ a, (k0_off2446 v1949) a + S1x16.size a ≤ S512x128.size a) ∧
  (∀ a, (k0_off2448 v1949) a + S1x16.size a ≤ S512x128.size a) ∧
  (∀ a, (k0_off2450 v1949) a + S1x16.size a ≤ S512x128.size a) ∧
  (∀ a, (k0_off2452 v1949) a + S1x16.size a ≤ S512x128.size a)
theorem k0_off2438_inb : ∀ (v1949 : BitVec 32) (k0_hw122 : k0_chk122 v1949), ∀ a, (k0_off2438 v1949) a + S1x16.size a ≤ S512x128.size a := fun v1949 k0_hw122 => k0_hw122.1
theorem k0_off2440_inb : ∀ (v1949 : BitVec 32) (k0_hw122 : k0_chk122 v1949), ∀ a, (k0_off2440 v1949) a + S1x16.size a ≤ S512x128.size a := fun v1949 k0_hw122 => k0_hw122.2.1
theorem k0_off2442_inb : ∀ (v1949 : BitVec 32) (k0_hw122 : k0_chk122 v1949), ∀ a, (k0_off2442 v1949) a + S1x16.size a ≤ S512x128.size a := fun v1949 k0_hw122 => k0_hw122.2.2.1
theorem k0_off2444_inb : ∀ (v1949 : BitVec 32) (k0_hw122 : k0_chk122 v1949), ∀ a, (k0_off2444 v1949) a + S1x16.size a ≤ S512x128.size a := fun v1949 k0_hw122 => k0_hw122.2.2.2.1
theorem k0_off2446_inb : ∀ (v1949 : BitVec 32) (k0_hw122 : k0_chk122 v1949), ∀ a, (k0_off2446 v1949) a + S1x16.size a ≤ S512x128.size a := fun v1949 k0_hw122 => k0_hw122.2.2.2.2.1
theorem k0_off2448_inb : ∀ (v1949 : BitVec 32) (k0_hw122 : k0_chk122 v1949), ∀ a, (k0_off2448 v1949) a + S1x16.size a ≤ S512x128.size a := fun v1949 k0_hw122 => k0_hw122.2.2.2.2.2.1
theorem k0_off2450_inb : ∀ (v1949 : BitVec 32) (k0_hw122 : k0_chk122 v1949), ∀ a, (k0_off2450 v1949) a + S1x16.size a ≤ S512x128.size a := fun v1949 k0_hw122 => k0_hw122.2.2.2.2.2.2.1
theorem k0_off2452_inb : ∀ (v1949 : BitVec 32) (k0_hw122 : k0_chk122 v1949), ∀ a, (k0_off2452 v1949) a + S1x16.size a ≤ S512x128.size a := fun v1949 k0_hw122 => k0_hw122.2.2.2.2.2.2.2

def k0_off2453 (k0_t9 : Fin k0_t9_loop.trips) (c8_i32_331 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v1943 : BitVec 32 := Scalar.addi v79 c8_i32_331
  let v2310 : Index := Scalar.indexCast v1943
  let c0_377 : Index := 0#32
  ![v2310.toNat, 0]
def k0_off2454 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2316 : Index := Scalar.indexCast v1943
  let c16_378 : Index := 16#32
  ![v2316.toNat, 16]
def k0_off2455 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2322 : Index := Scalar.indexCast v1943
  let c32_379 : Index := 32#32
  ![v2322.toNat, 32]
def k0_off2456 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2328 : Index := Scalar.indexCast v1943
  let c48_380 : Index := 48#32
  ![v2328.toNat, 48]
def k0_off2457 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2334 : Index := Scalar.indexCast v1943
  let c64_381 : Index := 64#32
  ![v2334.toNat, 64]
def k0_off2458 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2340 : Index := Scalar.indexCast v1943
  let c80_382 : Index := 80#32
  ![v2340.toNat, 80]
def k0_off2459 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2346 : Index := Scalar.indexCast v1943
  let c96_383 : Index := 96#32
  ![v2346.toNat, 96]
def k0_off2460 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_331 : BitVec 32 := 8#32
  let v1943 : BitVec 32 := Scalar.addi v79 c8_i32_331
  let v2352 : Index := Scalar.indexCast v1943
  let c112_384 : Index := 112#32
  ![v2352.toNat, 112]
def k0_off2461 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c8_i32_332 : BitVec 32 := 8#32
  let v1944 : BitVec 32 := Scalar.addi v79 c8_i32_332
  let c1_i32_333 : BitVec 32 := 1#32
  let v1945 : BitVec 32 := Scalar.addi v1944 c1_i32_333
  let v2364 : Index := Scalar.indexCast v1945
  let c0_385 : Index := 0#32
  ![v2364.toNat, 0]
def k0_off2462 (v2412 : BitVec 32) : Fin 2 → Nat :=
  let v2419 : Index := Scalar.indexCast v2412
  let c0_398 : Index := 0#32
  ![v2419.toNat, 0]

def k0_off2463 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2425 : Index := Scalar.indexCast v2408
  let c16_399 : Index := 16#32
  ![v2425.toNat, 16]
def k0_off2464 (v2412 : BitVec 32) : Fin 2 → Nat :=
  let v2427 : Index := Scalar.indexCast v2412
  let c16_400 : Index := 16#32
  ![v2427.toNat, 16]
def k0_off2465 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2433 : Index := Scalar.indexCast v2408
  let c32_401 : Index := 32#32
  ![v2433.toNat, 32]
def k0_off2466 (v2412 : BitVec 32) : Fin 2 → Nat :=
  let v2435 : Index := Scalar.indexCast v2412
  let c32_402 : Index := 32#32
  ![v2435.toNat, 32]
def k0_off2467 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2441 : Index := Scalar.indexCast v2408
  let c48_403 : Index := 48#32
  ![v2441.toNat, 48]
def k0_off2468 (v2412 : BitVec 32) : Fin 2 → Nat :=
  let v2443 : Index := Scalar.indexCast v2412
  let c48_404 : Index := 48#32
  ![v2443.toNat, 48]
def k0_off2469 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2449 : Index := Scalar.indexCast v2408
  let c64_405 : Index := 64#32
  ![v2449.toNat, 64]
def k0_off2470 (v2412 : BitVec 32) : Fin 2 → Nat :=
  let v2451 : Index := Scalar.indexCast v2412
  let c64_406 : Index := 64#32
  ![v2451.toNat, 64]
def k0_off2471 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2457 : Index := Scalar.indexCast v2408
  let c80_407 : Index := 80#32
  ![v2457.toNat, 80]
def k0_off2472 (v2412 : BitVec 32) : Fin 2 → Nat :=
  let v2459 : Index := Scalar.indexCast v2412
  let c80_408 : Index := 80#32
  ![v2459.toNat, 80]
def k0_off2473 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2465 : Index := Scalar.indexCast v2408
  let c96_409 : Index := 96#32
  ![v2465.toNat, 96]
def k0_off2474 (v2412 : BitVec 32) : Fin 2 → Nat :=
  let v2467 : Index := Scalar.indexCast v2412
  let c96_410 : Index := 96#32
  ![v2467.toNat, 96]
def k0_off2475 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2473 : Index := Scalar.indexCast v2408
  let c112_411 : Index := 112#32
  ![v2473.toNat, 112]
def k0_off2476 (v2412 : BitVec 32) : Fin 2 → Nat :=
  let v2475 : Index := Scalar.indexCast v2412
  let c112_412 : Index := 112#32
  ![v2475.toNat, 112]

def k0_chk123 (v2412 : BitVec 32) : Prop :=
  (∀ a, (k0_off2462 v2412) a + S1x16.size a ≤ S512x128.size a) ∧
  (∀ a, (k0_off2464 v2412) a + S1x16.size a ≤ S512x128.size a) ∧
  (∀ a, (k0_off2466 v2412) a + S1x16.size a ≤ S512x128.size a) ∧
  (∀ a, (k0_off2468 v2412) a + S1x16.size a ≤ S512x128.size a) ∧
  (∀ a, (k0_off2470 v2412) a + S1x16.size a ≤ S512x128.size a) ∧
  (∀ a, (k0_off2472 v2412) a + S1x16.size a ≤ S512x128.size a) ∧
  (∀ a, (k0_off2474 v2412) a + S1x16.size a ≤ S512x128.size a) ∧
  (∀ a, (k0_off2476 v2412) a + S1x16.size a ≤ S512x128.size a)
theorem k0_off2462_inb : ∀ (v2412 : BitVec 32) (k0_hw123 : k0_chk123 v2412), ∀ a, (k0_off2462 v2412) a + S1x16.size a ≤ S512x128.size a := fun v2412 k0_hw123 => k0_hw123.1
theorem k0_off2464_inb : ∀ (v2412 : BitVec 32) (k0_hw123 : k0_chk123 v2412), ∀ a, (k0_off2464 v2412) a + S1x16.size a ≤ S512x128.size a := fun v2412 k0_hw123 => k0_hw123.2.1
theorem k0_off2466_inb : ∀ (v2412 : BitVec 32) (k0_hw123 : k0_chk123 v2412), ∀ a, (k0_off2466 v2412) a + S1x16.size a ≤ S512x128.size a := fun v2412 k0_hw123 => k0_hw123.2.2.1
theorem k0_off2468_inb : ∀ (v2412 : BitVec 32) (k0_hw123 : k0_chk123 v2412), ∀ a, (k0_off2468 v2412) a + S1x16.size a ≤ S512x128.size a := fun v2412 k0_hw123 => k0_hw123.2.2.2.1
theorem k0_off2470_inb : ∀ (v2412 : BitVec 32) (k0_hw123 : k0_chk123 v2412), ∀ a, (k0_off2470 v2412) a + S1x16.size a ≤ S512x128.size a := fun v2412 k0_hw123 => k0_hw123.2.2.2.2.1
theorem k0_off2472_inb : ∀ (v2412 : BitVec 32) (k0_hw123 : k0_chk123 v2412), ∀ a, (k0_off2472 v2412) a + S1x16.size a ≤ S512x128.size a := fun v2412 k0_hw123 => k0_hw123.2.2.2.2.2.1
theorem k0_off2474_inb : ∀ (v2412 : BitVec 32) (k0_hw123 : k0_chk123 v2412), ∀ a, (k0_off2474 v2412) a + S1x16.size a ≤ S512x128.size a := fun v2412 k0_hw123 => k0_hw123.2.2.2.2.2.2.1
theorem k0_off2476_inb : ∀ (v2412 : BitVec 32) (k0_hw123 : k0_chk123 v2412), ∀ a, (k0_off2476 v2412) a + S1x16.size a ≤ S512x128.size a := fun v2412 k0_hw123 => k0_hw123.2.2.2.2.2.2.2

def k0_off2477 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2579 : Index := Scalar.indexCast v2410
  let c0_415 : Index := 0#32
  ![v2579.toNat, 0]
def k0_off2478 (v2414 : BitVec 32) : Fin 2 → Nat :=
  let v2581 : Index := Scalar.indexCast v2414
  let c0_416 : Index := 0#32
  ![v2581.toNat, 0]

def k0_off2479 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2587 : Index := Scalar.indexCast v2410
  let c16_417 : Index := 16#32
  ![v2587.toNat, 16]
def k0_off2480 (v2414 : BitVec 32) : Fin 2 → Nat :=
  let v2589 : Index := Scalar.indexCast v2414
  let c16_418 : Index := 16#32
  ![v2589.toNat, 16]
def k0_off2481 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2595 : Index := Scalar.indexCast v2410
  let c32_419 : Index := 32#32
  ![v2595.toNat, 32]
def k0_off2482 (v2414 : BitVec 32) : Fin 2 → Nat :=
  let v2597 : Index := Scalar.indexCast v2414
  let c32_420 : Index := 32#32
  ![v2597.toNat, 32]
def k0_off2483 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2603 : Index := Scalar.indexCast v2410
  let c48_421 : Index := 48#32
  ![v2603.toNat, 48]
def k0_off2484 (v2414 : BitVec 32) : Fin 2 → Nat :=
  let v2605 : Index := Scalar.indexCast v2414
  let c48_422 : Index := 48#32
  ![v2605.toNat, 48]
def k0_off2485 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2611 : Index := Scalar.indexCast v2410
  let c64_423 : Index := 64#32
  ![v2611.toNat, 64]
def k0_off2486 (v2414 : BitVec 32) : Fin 2 → Nat :=
  let v2613 : Index := Scalar.indexCast v2414
  let c64_424 : Index := 64#32
  ![v2613.toNat, 64]
def k0_off2487 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2619 : Index := Scalar.indexCast v2410
  let c80_425 : Index := 80#32
  ![v2619.toNat, 80]
def k0_off2488 (v2414 : BitVec 32) : Fin 2 → Nat :=
  let v2621 : Index := Scalar.indexCast v2414
  let c80_426 : Index := 80#32
  ![v2621.toNat, 80]
def k0_off2489 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2627 : Index := Scalar.indexCast v2410
  let c96_427 : Index := 96#32
  ![v2627.toNat, 96]
def k0_off2490 (v2414 : BitVec 32) : Fin 2 → Nat :=
  let v2629 : Index := Scalar.indexCast v2414
  let c96_428 : Index := 96#32
  ![v2629.toNat, 96]
def k0_off2491 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2635 : Index := Scalar.indexCast v2410
  let c112_429 : Index := 112#32
  ![v2635.toNat, 112]
def k0_off2492 (v2414 : BitVec 32) : Fin 2 → Nat :=
  let v2637 : Index := Scalar.indexCast v2414
  let c112_430 : Index := 112#32
  ![v2637.toNat, 112]

def k0_chk124 (v2414 : BitVec 32) : Prop :=
  (∀ a, (k0_off2478 v2414) a + S1x16.size a ≤ S512x128.size a) ∧
  (∀ a, (k0_off2480 v2414) a + S1x16.size a ≤ S512x128.size a) ∧
  (∀ a, (k0_off2482 v2414) a + S1x16.size a ≤ S512x128.size a) ∧
  (∀ a, (k0_off2484 v2414) a + S1x16.size a ≤ S512x128.size a) ∧
  (∀ a, (k0_off2486 v2414) a + S1x16.size a ≤ S512x128.size a) ∧
  (∀ a, (k0_off2488 v2414) a + S1x16.size a ≤ S512x128.size a) ∧
  (∀ a, (k0_off2490 v2414) a + S1x16.size a ≤ S512x128.size a) ∧
  (∀ a, (k0_off2492 v2414) a + S1x16.size a ≤ S512x128.size a)
theorem k0_off2478_inb : ∀ (v2414 : BitVec 32) (k0_hw124 : k0_chk124 v2414), ∀ a, (k0_off2478 v2414) a + S1x16.size a ≤ S512x128.size a := fun v2414 k0_hw124 => k0_hw124.1
theorem k0_off2480_inb : ∀ (v2414 : BitVec 32) (k0_hw124 : k0_chk124 v2414), ∀ a, (k0_off2480 v2414) a + S1x16.size a ≤ S512x128.size a := fun v2414 k0_hw124 => k0_hw124.2.1
theorem k0_off2482_inb : ∀ (v2414 : BitVec 32) (k0_hw124 : k0_chk124 v2414), ∀ a, (k0_off2482 v2414) a + S1x16.size a ≤ S512x128.size a := fun v2414 k0_hw124 => k0_hw124.2.2.1
theorem k0_off2484_inb : ∀ (v2414 : BitVec 32) (k0_hw124 : k0_chk124 v2414), ∀ a, (k0_off2484 v2414) a + S1x16.size a ≤ S512x128.size a := fun v2414 k0_hw124 => k0_hw124.2.2.2.1
theorem k0_off2486_inb : ∀ (v2414 : BitVec 32) (k0_hw124 : k0_chk124 v2414), ∀ a, (k0_off2486 v2414) a + S1x16.size a ≤ S512x128.size a := fun v2414 k0_hw124 => k0_hw124.2.2.2.2.1
theorem k0_off2488_inb : ∀ (v2414 : BitVec 32) (k0_hw124 : k0_chk124 v2414), ∀ a, (k0_off2488 v2414) a + S1x16.size a ≤ S512x128.size a := fun v2414 k0_hw124 => k0_hw124.2.2.2.2.2.1
theorem k0_off2490_inb : ∀ (v2414 : BitVec 32) (k0_hw124 : k0_chk124 v2414), ∀ a, (k0_off2490 v2414) a + S1x16.size a ≤ S512x128.size a := fun v2414 k0_hw124 => k0_hw124.2.2.2.2.2.2.1
theorem k0_off2492_inb : ∀ (v2414 : BitVec 32) (k0_hw124 : k0_chk124 v2414), ∀ a, (k0_off2492 v2414) a + S1x16.size a ≤ S512x128.size a := fun v2414 k0_hw124 => k0_hw124.2.2.2.2.2.2.2

def k0_off2493 (k0_t9 : Fin k0_t9_loop.trips) (c10_i32 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v2408 : BitVec 32 := Scalar.addi v79 c10_i32
  let v2775 : Index := Scalar.indexCast v2408
  let c0_438 : Index := 0#32
  ![v2775.toNat, 0]
def k0_off2494 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2781 : Index := Scalar.indexCast v2408
  let c16_439 : Index := 16#32
  ![v2781.toNat, 16]
def k0_off2495 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2787 : Index := Scalar.indexCast v2408
  let c32_440 : Index := 32#32
  ![v2787.toNat, 32]
def k0_off2496 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2793 : Index := Scalar.indexCast v2408
  let c48_441 : Index := 48#32
  ![v2793.toNat, 48]
def k0_off2497 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2799 : Index := Scalar.indexCast v2408
  let c64_442 : Index := 64#32
  ![v2799.toNat, 64]
def k0_off2498 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2805 : Index := Scalar.indexCast v2408
  let c80_443 : Index := 80#32
  ![v2805.toNat, 80]
def k0_off2499 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2811 : Index := Scalar.indexCast v2408
  let c96_444 : Index := 96#32
  ![v2811.toNat, 96]
def k0_off2500 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32 : BitVec 32 := 10#32
  let v2408 : BitVec 32 := Scalar.addi v79 c10_i32
  let v2817 : Index := Scalar.indexCast v2408
  let c112_445 : Index := 112#32
  ![v2817.toNat, 112]
def k0_off2501 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c10_i32_393 : BitVec 32 := 10#32
  let v2409 : BitVec 32 := Scalar.addi v79 c10_i32_393
  let c1_i32_394 : BitVec 32 := 1#32
  let v2410 : BitVec 32 := Scalar.addi v2409 c1_i32_394
  let v2829 : Index := Scalar.indexCast v2410
  let c0_446 : Index := 0#32
  ![v2829.toNat, 0]
def k0_off2502 (v2877 : BitVec 32) : Fin 2 → Nat :=
  let v2884 : Index := Scalar.indexCast v2877
  let c0_459 : Index := 0#32
  ![v2884.toNat, 0]

def k0_off2503 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2890 : Index := Scalar.indexCast v2873
  let c16_460 : Index := 16#32
  ![v2890.toNat, 16]
def k0_off2504 (v2877 : BitVec 32) : Fin 2 → Nat :=
  let v2892 : Index := Scalar.indexCast v2877
  let c16_461 : Index := 16#32
  ![v2892.toNat, 16]
def k0_off2505 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2898 : Index := Scalar.indexCast v2873
  let c32_462 : Index := 32#32
  ![v2898.toNat, 32]
def k0_off2506 (v2877 : BitVec 32) : Fin 2 → Nat :=
  let v2900 : Index := Scalar.indexCast v2877
  let c32_463 : Index := 32#32
  ![v2900.toNat, 32]
def k0_off2507 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2906 : Index := Scalar.indexCast v2873
  let c48_464 : Index := 48#32
  ![v2906.toNat, 48]
def k0_off2508 (v2877 : BitVec 32) : Fin 2 → Nat :=
  let v2908 : Index := Scalar.indexCast v2877
  let c48_465 : Index := 48#32
  ![v2908.toNat, 48]
def k0_off2509 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2914 : Index := Scalar.indexCast v2873
  let c64_466 : Index := 64#32
  ![v2914.toNat, 64]
def k0_off2510 (v2877 : BitVec 32) : Fin 2 → Nat :=
  let v2916 : Index := Scalar.indexCast v2877
  let c64_467 : Index := 64#32
  ![v2916.toNat, 64]
def k0_off2511 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2922 : Index := Scalar.indexCast v2873
  let c80_468 : Index := 80#32
  ![v2922.toNat, 80]
def k0_off2512 (v2877 : BitVec 32) : Fin 2 → Nat :=
  let v2924 : Index := Scalar.indexCast v2877
  let c80_469 : Index := 80#32
  ![v2924.toNat, 80]
def k0_off2513 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2930 : Index := Scalar.indexCast v2873
  let c96_470 : Index := 96#32
  ![v2930.toNat, 96]
def k0_off2514 (v2877 : BitVec 32) : Fin 2 → Nat :=
  let v2932 : Index := Scalar.indexCast v2877
  let c96_471 : Index := 96#32
  ![v2932.toNat, 96]
def k0_off2515 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v2938 : Index := Scalar.indexCast v2873
  let c112_472 : Index := 112#32
  ![v2938.toNat, 112]
def k0_off2516 (v2877 : BitVec 32) : Fin 2 → Nat :=
  let v2940 : Index := Scalar.indexCast v2877
  let c112_473 : Index := 112#32
  ![v2940.toNat, 112]

def k0_chk125 (v2877 : BitVec 32) : Prop :=
  (∀ a, (k0_off2502 v2877) a + S1x16.size a ≤ S512x128.size a) ∧
  (∀ a, (k0_off2504 v2877) a + S1x16.size a ≤ S512x128.size a) ∧
  (∀ a, (k0_off2506 v2877) a + S1x16.size a ≤ S512x128.size a) ∧
  (∀ a, (k0_off2508 v2877) a + S1x16.size a ≤ S512x128.size a) ∧
  (∀ a, (k0_off2510 v2877) a + S1x16.size a ≤ S512x128.size a) ∧
  (∀ a, (k0_off2512 v2877) a + S1x16.size a ≤ S512x128.size a) ∧
  (∀ a, (k0_off2514 v2877) a + S1x16.size a ≤ S512x128.size a) ∧
  (∀ a, (k0_off2516 v2877) a + S1x16.size a ≤ S512x128.size a)
theorem k0_off2502_inb : ∀ (v2877 : BitVec 32) (k0_hw125 : k0_chk125 v2877), ∀ a, (k0_off2502 v2877) a + S1x16.size a ≤ S512x128.size a := fun v2877 k0_hw125 => k0_hw125.1
theorem k0_off2504_inb : ∀ (v2877 : BitVec 32) (k0_hw125 : k0_chk125 v2877), ∀ a, (k0_off2504 v2877) a + S1x16.size a ≤ S512x128.size a := fun v2877 k0_hw125 => k0_hw125.2.1
theorem k0_off2506_inb : ∀ (v2877 : BitVec 32) (k0_hw125 : k0_chk125 v2877), ∀ a, (k0_off2506 v2877) a + S1x16.size a ≤ S512x128.size a := fun v2877 k0_hw125 => k0_hw125.2.2.1
theorem k0_off2508_inb : ∀ (v2877 : BitVec 32) (k0_hw125 : k0_chk125 v2877), ∀ a, (k0_off2508 v2877) a + S1x16.size a ≤ S512x128.size a := fun v2877 k0_hw125 => k0_hw125.2.2.2.1
theorem k0_off2510_inb : ∀ (v2877 : BitVec 32) (k0_hw125 : k0_chk125 v2877), ∀ a, (k0_off2510 v2877) a + S1x16.size a ≤ S512x128.size a := fun v2877 k0_hw125 => k0_hw125.2.2.2.2.1
theorem k0_off2512_inb : ∀ (v2877 : BitVec 32) (k0_hw125 : k0_chk125 v2877), ∀ a, (k0_off2512 v2877) a + S1x16.size a ≤ S512x128.size a := fun v2877 k0_hw125 => k0_hw125.2.2.2.2.2.1
theorem k0_off2514_inb : ∀ (v2877 : BitVec 32) (k0_hw125 : k0_chk125 v2877), ∀ a, (k0_off2514 v2877) a + S1x16.size a ≤ S512x128.size a := fun v2877 k0_hw125 => k0_hw125.2.2.2.2.2.2.1
theorem k0_off2516_inb : ∀ (v2877 : BitVec 32) (k0_hw125 : k0_chk125 v2877), ∀ a, (k0_off2516 v2877) a + S1x16.size a ≤ S512x128.size a := fun v2877 k0_hw125 => k0_hw125.2.2.2.2.2.2.2

def k0_off2517 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3044 : Index := Scalar.indexCast v2875
  let c0_476 : Index := 0#32
  ![v3044.toNat, 0]
def k0_off2518 (v2879 : BitVec 32) : Fin 2 → Nat :=
  let v3046 : Index := Scalar.indexCast v2879
  let c0_477 : Index := 0#32
  ![v3046.toNat, 0]

def k0_off2519 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3052 : Index := Scalar.indexCast v2875
  let c16_478 : Index := 16#32
  ![v3052.toNat, 16]
def k0_off2520 (v2879 : BitVec 32) : Fin 2 → Nat :=
  let v3054 : Index := Scalar.indexCast v2879
  let c16_479 : Index := 16#32
  ![v3054.toNat, 16]
def k0_off2521 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3060 : Index := Scalar.indexCast v2875
  let c32_480 : Index := 32#32
  ![v3060.toNat, 32]
def k0_off2522 (v2879 : BitVec 32) : Fin 2 → Nat :=
  let v3062 : Index := Scalar.indexCast v2879
  let c32_481 : Index := 32#32
  ![v3062.toNat, 32]
def k0_off2523 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3068 : Index := Scalar.indexCast v2875
  let c48_482 : Index := 48#32
  ![v3068.toNat, 48]
def k0_off2524 (v2879 : BitVec 32) : Fin 2 → Nat :=
  let v3070 : Index := Scalar.indexCast v2879
  let c48_483 : Index := 48#32
  ![v3070.toNat, 48]
def k0_off2525 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3076 : Index := Scalar.indexCast v2875
  let c64_484 : Index := 64#32
  ![v3076.toNat, 64]
def k0_off2526 (v2879 : BitVec 32) : Fin 2 → Nat :=
  let v3078 : Index := Scalar.indexCast v2879
  let c64_485 : Index := 64#32
  ![v3078.toNat, 64]
def k0_off2527 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3084 : Index := Scalar.indexCast v2875
  let c80_486 : Index := 80#32
  ![v3084.toNat, 80]
def k0_off2528 (v2879 : BitVec 32) : Fin 2 → Nat :=
  let v3086 : Index := Scalar.indexCast v2879
  let c80_487 : Index := 80#32
  ![v3086.toNat, 80]
def k0_off2529 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3092 : Index := Scalar.indexCast v2875
  let c96_488 : Index := 96#32
  ![v3092.toNat, 96]
def k0_off2530 (v2879 : BitVec 32) : Fin 2 → Nat :=
  let v3094 : Index := Scalar.indexCast v2879
  let c96_489 : Index := 96#32
  ![v3094.toNat, 96]
def k0_off2531 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3100 : Index := Scalar.indexCast v2875
  let c112_490 : Index := 112#32
  ![v3100.toNat, 112]
def k0_off2532 (v2879 : BitVec 32) : Fin 2 → Nat :=
  let v3102 : Index := Scalar.indexCast v2879
  let c112_491 : Index := 112#32
  ![v3102.toNat, 112]

def k0_chk126 (v2879 : BitVec 32) : Prop :=
  (∀ a, (k0_off2518 v2879) a + S1x16.size a ≤ S512x128.size a) ∧
  (∀ a, (k0_off2520 v2879) a + S1x16.size a ≤ S512x128.size a) ∧
  (∀ a, (k0_off2522 v2879) a + S1x16.size a ≤ S512x128.size a) ∧
  (∀ a, (k0_off2524 v2879) a + S1x16.size a ≤ S512x128.size a) ∧
  (∀ a, (k0_off2526 v2879) a + S1x16.size a ≤ S512x128.size a) ∧
  (∀ a, (k0_off2528 v2879) a + S1x16.size a ≤ S512x128.size a) ∧
  (∀ a, (k0_off2530 v2879) a + S1x16.size a ≤ S512x128.size a) ∧
  (∀ a, (k0_off2532 v2879) a + S1x16.size a ≤ S512x128.size a)
theorem k0_off2518_inb : ∀ (v2879 : BitVec 32) (k0_hw126 : k0_chk126 v2879), ∀ a, (k0_off2518 v2879) a + S1x16.size a ≤ S512x128.size a := fun v2879 k0_hw126 => k0_hw126.1
theorem k0_off2520_inb : ∀ (v2879 : BitVec 32) (k0_hw126 : k0_chk126 v2879), ∀ a, (k0_off2520 v2879) a + S1x16.size a ≤ S512x128.size a := fun v2879 k0_hw126 => k0_hw126.2.1
theorem k0_off2522_inb : ∀ (v2879 : BitVec 32) (k0_hw126 : k0_chk126 v2879), ∀ a, (k0_off2522 v2879) a + S1x16.size a ≤ S512x128.size a := fun v2879 k0_hw126 => k0_hw126.2.2.1
theorem k0_off2524_inb : ∀ (v2879 : BitVec 32) (k0_hw126 : k0_chk126 v2879), ∀ a, (k0_off2524 v2879) a + S1x16.size a ≤ S512x128.size a := fun v2879 k0_hw126 => k0_hw126.2.2.2.1
theorem k0_off2526_inb : ∀ (v2879 : BitVec 32) (k0_hw126 : k0_chk126 v2879), ∀ a, (k0_off2526 v2879) a + S1x16.size a ≤ S512x128.size a := fun v2879 k0_hw126 => k0_hw126.2.2.2.2.1
theorem k0_off2528_inb : ∀ (v2879 : BitVec 32) (k0_hw126 : k0_chk126 v2879), ∀ a, (k0_off2528 v2879) a + S1x16.size a ≤ S512x128.size a := fun v2879 k0_hw126 => k0_hw126.2.2.2.2.2.1
theorem k0_off2530_inb : ∀ (v2879 : BitVec 32) (k0_hw126 : k0_chk126 v2879), ∀ a, (k0_off2530 v2879) a + S1x16.size a ≤ S512x128.size a := fun v2879 k0_hw126 => k0_hw126.2.2.2.2.2.2.1
theorem k0_off2532_inb : ∀ (v2879 : BitVec 32) (k0_hw126 : k0_chk126 v2879), ∀ a, (k0_off2532 v2879) a + S1x16.size a ≤ S512x128.size a := fun v2879 k0_hw126 => k0_hw126.2.2.2.2.2.2.2

def k0_off2533 (k0_t9 : Fin k0_t9_loop.trips) (c12_i32 : BitVec 32) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let v2873 : BitVec 32 := Scalar.addi v79 c12_i32
  let v3240 : Index := Scalar.indexCast v2873
  let c0_499 : Index := 0#32
  ![v3240.toNat, 0]
def k0_off2534 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3246 : Index := Scalar.indexCast v2873
  let c16_500 : Index := 16#32
  ![v3246.toNat, 16]
def k0_off2535 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3252 : Index := Scalar.indexCast v2873
  let c32_501 : Index := 32#32
  ![v3252.toNat, 32]
def k0_off2536 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3258 : Index := Scalar.indexCast v2873
  let c48_502 : Index := 48#32
  ![v3258.toNat, 48]
def k0_off2537 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3264 : Index := Scalar.indexCast v2873
  let c64_503 : Index := 64#32
  ![v3264.toNat, 64]
def k0_off2538 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3270 : Index := Scalar.indexCast v2873
  let c80_504 : Index := 80#32
  ![v3270.toNat, 80]
def k0_off2539 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3276 : Index := Scalar.indexCast v2873
  let c96_505 : Index := 96#32
  ![v3276.toNat, 96]
def k0_off2540 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32 : BitVec 32 := 12#32
  let v2873 : BitVec 32 := Scalar.addi v79 c12_i32
  let v3282 : Index := Scalar.indexCast v2873
  let c112_506 : Index := 112#32
  ![v3282.toNat, 112]
def k0_off2541 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c12_i32_454 : BitVec 32 := 12#32
  let v2874 : BitVec 32 := Scalar.addi v79 c12_i32_454
  let c1_i32_455 : BitVec 32 := 1#32
  let v2875 : BitVec 32 := Scalar.addi v2874 c1_i32_455
  let v3294 : Index := Scalar.indexCast v2875
  let c0_507 : Index := 0#32
  ![v3294.toNat, 0]
def k0_off2542 (v3342 : BitVec 32) : Fin 2 → Nat :=
  let v3349 : Index := Scalar.indexCast v3342
  let c0_520 : Index := 0#32
  ![v3349.toNat, 0]

def k0_off2543 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3355 : Index := Scalar.indexCast v3338
  let c16_521 : Index := 16#32
  ![v3355.toNat, 16]
def k0_off2544 (v3342 : BitVec 32) : Fin 2 → Nat :=
  let v3357 : Index := Scalar.indexCast v3342
  let c16_522 : Index := 16#32
  ![v3357.toNat, 16]
def k0_off2545 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3363 : Index := Scalar.indexCast v3338
  let c32_523 : Index := 32#32
  ![v3363.toNat, 32]
def k0_off2546 (v3342 : BitVec 32) : Fin 2 → Nat :=
  let v3365 : Index := Scalar.indexCast v3342
  let c32_524 : Index := 32#32
  ![v3365.toNat, 32]
def k0_off2547 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3371 : Index := Scalar.indexCast v3338
  let c48_525 : Index := 48#32
  ![v3371.toNat, 48]
def k0_off2548 (v3342 : BitVec 32) : Fin 2 → Nat :=
  let v3373 : Index := Scalar.indexCast v3342
  let c48_526 : Index := 48#32
  ![v3373.toNat, 48]
def k0_off2549 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3379 : Index := Scalar.indexCast v3338
  let c64_527 : Index := 64#32
  ![v3379.toNat, 64]
def k0_off2550 (v3342 : BitVec 32) : Fin 2 → Nat :=
  let v3381 : Index := Scalar.indexCast v3342
  let c64_528 : Index := 64#32
  ![v3381.toNat, 64]
def k0_off2551 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3387 : Index := Scalar.indexCast v3338
  let c80_529 : Index := 80#32
  ![v3387.toNat, 80]
def k0_off2552 (v3342 : BitVec 32) : Fin 2 → Nat :=
  let v3389 : Index := Scalar.indexCast v3342
  let c80_530 : Index := 80#32
  ![v3389.toNat, 80]
def k0_off2553 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3395 : Index := Scalar.indexCast v3338
  let c96_531 : Index := 96#32
  ![v3395.toNat, 96]
def k0_off2554 (v3342 : BitVec 32) : Fin 2 → Nat :=
  let v3397 : Index := Scalar.indexCast v3342
  let c96_532 : Index := 96#32
  ![v3397.toNat, 96]
def k0_off2555 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3403 : Index := Scalar.indexCast v3338
  let c112_533 : Index := 112#32
  ![v3403.toNat, 112]
def k0_off2556 (v3342 : BitVec 32) : Fin 2 → Nat :=
  let v3405 : Index := Scalar.indexCast v3342
  let c112_534 : Index := 112#32
  ![v3405.toNat, 112]

def k0_chk127 (v3342 : BitVec 32) : Prop :=
  (∀ a, (k0_off2542 v3342) a + S1x16.size a ≤ S512x128.size a) ∧
  (∀ a, (k0_off2544 v3342) a + S1x16.size a ≤ S512x128.size a) ∧
  (∀ a, (k0_off2546 v3342) a + S1x16.size a ≤ S512x128.size a) ∧
  (∀ a, (k0_off2548 v3342) a + S1x16.size a ≤ S512x128.size a) ∧
  (∀ a, (k0_off2550 v3342) a + S1x16.size a ≤ S512x128.size a) ∧
  (∀ a, (k0_off2552 v3342) a + S1x16.size a ≤ S512x128.size a) ∧
  (∀ a, (k0_off2554 v3342) a + S1x16.size a ≤ S512x128.size a) ∧
  (∀ a, (k0_off2556 v3342) a + S1x16.size a ≤ S512x128.size a)
theorem k0_off2542_inb : ∀ (v3342 : BitVec 32) (k0_hw127 : k0_chk127 v3342), ∀ a, (k0_off2542 v3342) a + S1x16.size a ≤ S512x128.size a := fun v3342 k0_hw127 => k0_hw127.1
theorem k0_off2544_inb : ∀ (v3342 : BitVec 32) (k0_hw127 : k0_chk127 v3342), ∀ a, (k0_off2544 v3342) a + S1x16.size a ≤ S512x128.size a := fun v3342 k0_hw127 => k0_hw127.2.1
theorem k0_off2546_inb : ∀ (v3342 : BitVec 32) (k0_hw127 : k0_chk127 v3342), ∀ a, (k0_off2546 v3342) a + S1x16.size a ≤ S512x128.size a := fun v3342 k0_hw127 => k0_hw127.2.2.1
theorem k0_off2548_inb : ∀ (v3342 : BitVec 32) (k0_hw127 : k0_chk127 v3342), ∀ a, (k0_off2548 v3342) a + S1x16.size a ≤ S512x128.size a := fun v3342 k0_hw127 => k0_hw127.2.2.2.1
theorem k0_off2550_inb : ∀ (v3342 : BitVec 32) (k0_hw127 : k0_chk127 v3342), ∀ a, (k0_off2550 v3342) a + S1x16.size a ≤ S512x128.size a := fun v3342 k0_hw127 => k0_hw127.2.2.2.2.1
theorem k0_off2552_inb : ∀ (v3342 : BitVec 32) (k0_hw127 : k0_chk127 v3342), ∀ a, (k0_off2552 v3342) a + S1x16.size a ≤ S512x128.size a := fun v3342 k0_hw127 => k0_hw127.2.2.2.2.2.1
theorem k0_off2554_inb : ∀ (v3342 : BitVec 32) (k0_hw127 : k0_chk127 v3342), ∀ a, (k0_off2554 v3342) a + S1x16.size a ≤ S512x128.size a := fun v3342 k0_hw127 => k0_hw127.2.2.2.2.2.2.1
theorem k0_off2556_inb : ∀ (v3342 : BitVec 32) (k0_hw127 : k0_chk127 v3342), ∀ a, (k0_off2556 v3342) a + S1x16.size a ≤ S512x128.size a := fun v3342 k0_hw127 => k0_hw127.2.2.2.2.2.2.2

def k0_off2557 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3509 : Index := Scalar.indexCast v3340
  let c0_537 : Index := 0#32
  ![v3509.toNat, 0]
def k0_off2558 (v3344 : BitVec 32) : Fin 2 → Nat :=
  let v3511 : Index := Scalar.indexCast v3344
  let c0_538 : Index := 0#32
  ![v3511.toNat, 0]

def k0_off2559 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3517 : Index := Scalar.indexCast v3340
  let c16_539 : Index := 16#32
  ![v3517.toNat, 16]
def k0_off2560 (v3344 : BitVec 32) : Fin 2 → Nat :=
  let v3519 : Index := Scalar.indexCast v3344
  let c16_540 : Index := 16#32
  ![v3519.toNat, 16]
def k0_off2561 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3525 : Index := Scalar.indexCast v3340
  let c32_541 : Index := 32#32
  ![v3525.toNat, 32]
def k0_off2562 (v3344 : BitVec 32) : Fin 2 → Nat :=
  let v3527 : Index := Scalar.indexCast v3344
  let c32_542 : Index := 32#32
  ![v3527.toNat, 32]
def k0_off2563 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3533 : Index := Scalar.indexCast v3340
  let c48_543 : Index := 48#32
  ![v3533.toNat, 48]
def k0_off2564 (v3344 : BitVec 32) : Fin 2 → Nat :=
  let v3535 : Index := Scalar.indexCast v3344
  let c48_544 : Index := 48#32
  ![v3535.toNat, 48]

variable {F : FTy → Type} [FloatOps F]

def k0_off2565 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3541 : Index := Scalar.indexCast v3340
  let c64_545 : Index := 64#32
  ![v3541.toNat, 64]
def k0_off2566 (v3344 : BitVec 32) : Fin 2 → Nat :=
  let v3543 : Index := Scalar.indexCast v3344
  let c64_546 : Index := 64#32
  ![v3543.toNat, 64]
def k0_off2567 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3549 : Index := Scalar.indexCast v3340
  let c80_547 : Index := 80#32
  ![v3549.toNat, 80]
def k0_off2568 (v3344 : BitVec 32) : Fin 2 → Nat :=
  let v3551 : Index := Scalar.indexCast v3344
  let c80_548 : Index := 80#32
  ![v3551.toNat, 80]
def k0_off2569 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3557 : Index := Scalar.indexCast v3340
  let c96_549 : Index := 96#32
  ![v3557.toNat, 96]
def k0_off2570 (v3344 : BitVec 32) : Fin 2 → Nat :=
  let v3559 : Index := Scalar.indexCast v3344
  let c96_550 : Index := 96#32
  ![v3559.toNat, 96]
def k0_off2571 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3565 : Index := Scalar.indexCast v3340
  let c112_551 : Index := 112#32
  ![v3565.toNat, 112]
def k0_off2572 (v3344 : BitVec 32) : Fin 2 → Nat :=
  let v3567 : Index := Scalar.indexCast v3344
  let c112_552 : Index := 112#32
  ![v3567.toNat, 112]

def k0_chk128 (v3344 : BitVec 32) : Prop :=
  (∀ a, (k0_off2558 v3344) a + S1x16.size a ≤ S512x128.size a) ∧
  (∀ a, (k0_off2560 v3344) a + S1x16.size a ≤ S512x128.size a) ∧
  (∀ a, (k0_off2562 v3344) a + S1x16.size a ≤ S512x128.size a) ∧
  (∀ a, (k0_off2564 v3344) a + S1x16.size a ≤ S512x128.size a) ∧
  (∀ a, (k0_off2566 v3344) a + S1x16.size a ≤ S512x128.size a) ∧
  (∀ a, (k0_off2568 v3344) a + S1x16.size a ≤ S512x128.size a) ∧
  (∀ a, (k0_off2570 v3344) a + S1x16.size a ≤ S512x128.size a) ∧
  (∀ a, (k0_off2572 v3344) a + S1x16.size a ≤ S512x128.size a)
theorem k0_off2558_inb : ∀ (v3344 : BitVec 32) (k0_hw128 : k0_chk128 v3344), ∀ a, (k0_off2558 v3344) a + S1x16.size a ≤ S512x128.size a := fun v3344 k0_hw128 => k0_hw128.1
theorem k0_off2560_inb : ∀ (v3344 : BitVec 32) (k0_hw128 : k0_chk128 v3344), ∀ a, (k0_off2560 v3344) a + S1x16.size a ≤ S512x128.size a := fun v3344 k0_hw128 => k0_hw128.2.1
theorem k0_off2562_inb : ∀ (v3344 : BitVec 32) (k0_hw128 : k0_chk128 v3344), ∀ a, (k0_off2562 v3344) a + S1x16.size a ≤ S512x128.size a := fun v3344 k0_hw128 => k0_hw128.2.2.1
theorem k0_off2564_inb : ∀ (v3344 : BitVec 32) (k0_hw128 : k0_chk128 v3344), ∀ a, (k0_off2564 v3344) a + S1x16.size a ≤ S512x128.size a := fun v3344 k0_hw128 => k0_hw128.2.2.2.1
theorem k0_off2566_inb : ∀ (v3344 : BitVec 32) (k0_hw128 : k0_chk128 v3344), ∀ a, (k0_off2566 v3344) a + S1x16.size a ≤ S512x128.size a := fun v3344 k0_hw128 => k0_hw128.2.2.2.2.1
theorem k0_off2568_inb : ∀ (v3344 : BitVec 32) (k0_hw128 : k0_chk128 v3344), ∀ a, (k0_off2568 v3344) a + S1x16.size a ≤ S512x128.size a := fun v3344 k0_hw128 => k0_hw128.2.2.2.2.2.1
theorem k0_off2570_inb : ∀ (v3344 : BitVec 32) (k0_hw128 : k0_chk128 v3344), ∀ a, (k0_off2570 v3344) a + S1x16.size a ≤ S512x128.size a := fun v3344 k0_hw128 => k0_hw128.2.2.2.2.2.2.1
theorem k0_off2572_inb : ∀ (v3344 : BitVec 32) (k0_hw128 : k0_chk128 v3344), ∀ a, (k0_off2572 v3344) a + S1x16.size a ≤ S512x128.size a := fun v3344 k0_hw128 => k0_hw128.2.2.2.2.2.2.2

def k0_off2573 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3705 : Index := Scalar.indexCast v3338
  let c0_560 : Index := 0#32
  ![v3705.toNat, 0]
def k0_off2574 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3711 : Index := Scalar.indexCast v3338
  let c16_561 : Index := 16#32
  ![v3711.toNat, 16]
def k0_off2575 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3717 : Index := Scalar.indexCast v3338
  let c32_562 : Index := 32#32
  ![v3717.toNat, 32]
def k0_off2576 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3723 : Index := Scalar.indexCast v3338
  let c48_563 : Index := 48#32
  ![v3723.toNat, 48]
def k0_off2577 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3729 : Index := Scalar.indexCast v3338
  let c64_564 : Index := 64#32
  ![v3729.toNat, 64]
def k0_off2578 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3735 : Index := Scalar.indexCast v3338
  let c80_565 : Index := 80#32
  ![v3735.toNat, 80]
def k0_off2579 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3741 : Index := Scalar.indexCast v3338
  let c96_566 : Index := 96#32
  ![v3741.toNat, 96]
def k0_off2580 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32 : BitVec 32 := 14#32
  let v3338 : BitVec 32 := Scalar.addi v79 c14_i32
  let v3747 : Index := Scalar.indexCast v3338
  let c112_567 : Index := 112#32
  ![v3747.toNat, 112]
def k0_off2581 (k0_t9 : Fin k0_t9_loop.trips) : Fin 2 → Nat :=
  let c0_i32_70 : BitVec 32 := 0#32
  let c1_i32_72 : BitVec 32 := 1#32
  let arg28 : BitVec 32 := Scf.iv c0_i32_70 c1_i32_72 k0_t9
  let c16_i32 : BitVec 32 := 16#32
  let v79 : BitVec 32 := Scalar.muli arg28 c16_i32
  let c14_i32_515 : BitVec 32 := 14#32
  let v3339 : BitVec 32 := Scalar.addi v79 c14_i32_515
  let c1_i32_516 : BitVec 32 := 1#32
  let v3340 : BitVec 32 := Scalar.addi v3339 c1_i32_516
  let v3759 : Index := Scalar.indexCast v3340
  let c0_568 : Index := 0#32
  ![v3759.toNat, 0]
def k0_off2582 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_76 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S2x128 : Shape := ⟨2, ![2, 128]⟩
abbrev S512x128 : Shape := ⟨2, ![512, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S2x128, .f32⟩
  | .hbm, ⟨3, _⟩ => ⟨S512x128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S1024x200, .i32⟩
  | .hbm, ⟨8, _⟩ => ⟨S1024x200, .i1⟩
  | .hbm, ⟨9, _⟩ => ⟨S1024x200, .i32⟩
  | .hbm, ⟨10, _⟩ => ⟨S_, .i32⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S_, .i32⟩
  | .hbm, ⟨15, _⟩ => ⟨S1024x200, .i32⟩
  | .hbm, ⟨16, _⟩ => ⟨S1024x200, .i32⟩
  | .hbm, ⟨17, _⟩ => ⟨S_, .i32⟩
  | .hbm, ⟨18, _⟩ => ⟨S1024x200, .i32⟩
  | .hbm, ⟨19, _⟩ => ⟨S_, .i32⟩
  | .hbm, ⟨20, _⟩ => ⟨S1024x200, .i32⟩
  | .hbm, ⟨21, _⟩ => ⟨S1024x200, .i1⟩
  | .hbm, ⟨22, _⟩ => ⟨S_, .i32⟩
  | .hbm, ⟨23, _⟩ => ⟨S1024x200, .i32⟩
  | .hbm, ⟨24, _⟩ => ⟨S1024x200, .i32⟩
  | .hbm, ⟨25, _⟩ => ⟨S1024x200, .i32⟩
  | .hbm, ⟨26, _⟩ => ⟨S1024x200x1, .i32⟩
  | .hbm, ⟨27, _⟩ => ⟨S1, .i32⟩
  | .hbm, ⟨28, _⟩ => ⟨S_, .i32⟩
  | .hbm, ⟨29, _⟩ => ⟨S1024x200x1, .i32⟩
  | .hbm, ⟨30, _⟩ => ⟨S1024x200x1, .i1⟩
  | .hbm, ⟨31, _⟩ => ⟨S1x1x1, .i32⟩
  | .hbm, ⟨32, _⟩ => ⟨S1024x200x1, .i32⟩
  | .hbm, ⟨33, _⟩ => ⟨S1024x200x1, .i1⟩
  | .hbm, ⟨34, _⟩ => ⟨S1024x200x1, .i1⟩
  | .hbm, ⟨35, _⟩ => ⟨S_, .i1⟩
  | .hbm, ⟨36, _⟩ => ⟨S1024x200, .i1⟩
  | .hbm, ⟨37, _⟩ => ⟨S1024x200x128, .f32⟩
  | .hbm, ⟨38, _⟩ => ⟨S1024x200x128, .i1⟩
  | .hbm, ⟨39, _⟩ => ⟨S_, .f32⟩
  | .hbm, ⟨40, _⟩ => ⟨S1024x200x128, .f32⟩
  | .hbm, ⟨41, _⟩ => ⟨S1024x200x128, .f32⟩
  | .hbm, ⟨42, _⟩ => ⟨S_, .i32⟩
  | .hbm, ⟨43, _⟩ => ⟨S1024x200, .i32⟩
  | .hbm, ⟨44, _⟩ => ⟨S1024x200, .i1⟩
  | .hbm, ⟨45, _⟩ => ⟨S_, .i32⟩
  | .hbm, ⟨46, _⟩ => ⟨S1024x200, .i32⟩
  | .hbm, ⟨47, _⟩ => ⟨S1024x200, .i32⟩
  | .hbm, ⟨48, _⟩ => ⟨S1024x200, .i32⟩
  | .hbm, ⟨49, _⟩ => ⟨S1024x200x1, .i32⟩
  | .hbm, ⟨50, _⟩ => ⟨S1, .i32⟩
  | .hbm, ⟨51, _⟩ => ⟨S_, .i32⟩
  | .hbm, ⟨52, _⟩ => ⟨S1024x200x1, .i32⟩
  | .hbm, ⟨53, _⟩ => ⟨S1024x200x1, .i1⟩
  | .hbm, ⟨54, _⟩ => ⟨S1x1x1, .i32⟩
  | .hbm, ⟨55, _⟩ => ⟨S1024x200x1, .i32⟩
  | .hbm, ⟨56, _⟩ => ⟨S1024x200x1, .i1⟩
  | .hbm, ⟨57, _⟩ => ⟨S1024x200x1, .i1⟩
  | .hbm, ⟨58, _⟩ => ⟨S_, .i1⟩
  | .hbm, ⟨59, _⟩ => ⟨S1024x200, .i1⟩
  | .hbm, ⟨60, _⟩ => ⟨S1024x200x128, .f32⟩
  | .hbm, ⟨61, _⟩ => ⟨S1024x200x128, .i1⟩
  | .hbm, ⟨62, _⟩ => ⟨S_, .f32⟩
  | .hbm, ⟨63, _⟩ => ⟨S1024x200x128, .f32⟩
  | .hbm, ⟨64, _⟩ => ⟨S1024x200x128, .f32⟩
  | .hbm, ⟨65, _⟩ => ⟨S1024x200x128, .f32⟩
  | .hbm, ⟨66, _⟩ => ⟨S_, .i32⟩
  | .hbm, ⟨67, _⟩ => ⟨S1024x200, .i32⟩
  | .hbm, ⟨68, _⟩ => ⟨S1024x200, .i1⟩
  | .hbm, ⟨69, _⟩ => ⟨S_, .i32⟩
  | .hbm, ⟨70, _⟩ => ⟨S1024x200, .i32⟩
  | .hbm, ⟨71, _⟩ => ⟨S1024x200, .i32⟩
  | .hbm, ⟨72, _⟩ => ⟨S1024x200, .i32⟩
  | .hbm, ⟨73, _⟩ => ⟨S1024x200x1, .i32⟩
  | .hbm, ⟨74, _⟩ => ⟨S1, .i32⟩
  | .hbm, ⟨75, _⟩ => ⟨S_, .i32⟩
  | .hbm, ⟨76, _⟩ => ⟨S1024x200x1, .i32⟩
  | .hbm, ⟨77, _⟩ => ⟨S1024x200x1, .i1⟩
  | .hbm, ⟨78, _⟩ => ⟨S1x1x1, .i32⟩
  | .hbm, ⟨79, _⟩ => ⟨S1024x200x1, .i32⟩
  | .hbm, ⟨80, _⟩ => ⟨S1024x200x1, .i1⟩
  | .hbm, ⟨81, _⟩ => ⟨S1024x200x1, .i1⟩
  | .hbm, ⟨82, _⟩ => ⟨S_, .i1⟩
  | .hbm, ⟨83, _⟩ => ⟨S1024x200, .i1⟩
  | .hbm, ⟨84, _⟩ => ⟨S1024x200x128, .f32⟩
  | .hbm, ⟨85, _⟩ => ⟨S1024x200x128, .i1⟩
  | .hbm, ⟨86, _⟩ => ⟨S_, .f32⟩
  | .hbm, ⟨87, _⟩ => ⟨S1024x200x128, .f32⟩
  | .hbm, ⟨88, _⟩ => ⟨S1024x200x128, .f32⟩
  | .hbm, ⟨89, _⟩ => ⟨S1024x200x128, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x128, .f32⟩
  | .hbm, ⟨97, _⟩ => ⟨S1024x200x128, .f32⟩
  | .hbm, ⟨98, _⟩ => ⟨S1024x200x128, .f32⟩
  | .hbm, ⟨99, _⟩ => ⟨S_, .f32⟩
  | .hbm, ⟨100, _⟩ => ⟨S1024x200, .f32⟩
  | .hbm, ⟨101, _⟩ => ⟨S1024x200x1, .f32⟩
  | .hbm, ⟨102, _⟩ => ⟨S_, .f32⟩
  | .hbm, ⟨103, _⟩ => ⟨S1024x200x1, .f32⟩
  | .hbm, ⟨104, _⟩ => ⟨S1024x200x1, .f32⟩
  | .hbm, ⟨105, _⟩ => ⟨S1024x200x128, .f32⟩
  | .hbm, ⟨106, _⟩ => ⟨S1024x200x128, .f32⟩
  | .hbm, ⟨107, _⟩ => ⟨S_, .f32⟩
  | .hbm, ⟨108, _⟩ => ⟨S1024x200x1, .f32⟩
  | .hbm, ⟨109, _⟩ => ⟨S1024x200x1, .f32⟩
  | .hbm, ⟨110, _⟩ => ⟨S1024x200x1, .f32⟩
  | .hbm, ⟨111, _⟩ => ⟨S1024x200x128, .f32⟩
  | .hbm, ⟨112, _⟩ => ⟨S1024x200x128, .f32⟩
  | .hbm, ⟨113, _⟩ => ⟨S1x1x128, .f32⟩
  | .hbm, ⟨114, _⟩ => ⟨S1024x200x128, .f32⟩
  | .hbm, ⟨115, _⟩ => ⟨S1024x200x128, .f32⟩
  | .hbm, ⟨116, _⟩ => ⟨S1x1x128, .f32⟩
  | .hbm, ⟨117, _⟩ => ⟨S1024x200x128, .f32⟩
  | .hbm, ⟨118, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_c : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v8 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v9 : Ref sig .tc := ⟨.hbm, 64, rfl⟩
abbrev main_v10 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v11 : Ref sig .tc := ⟨.hbm, 88, rfl⟩
abbrev main_v12 : Ref sig .tc := ⟨.hbm, 89, rfl⟩
abbrev main_cst : Ref sig .tc := ⟨.hbm, 90, rfl⟩
abbrev main_v13 : Ref sig .tc := ⟨.hbm, 91, rfl⟩
abbrev main_v14 : Ref sig .tc := ⟨.hbm, 92, rfl⟩
abbrev main_cst_2 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_cst_3 : Ref sig .tc := ⟨.hbm, 99, rfl⟩
abbrev main_v20 : Ref sig .tc := ⟨.hbm, 100, rfl⟩
abbrev main_v21 : Ref sig .tc := ⟨.hbm, 101, rfl⟩
abbrev main_cst_4 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_cst_5 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩

abbrev nD : Nat := 1
abbrev τ : Topo := Topo.v7x

variable {F : FTy → Type} [FloatOps F]
-- ==== Proof.Pair.lean ====
module

public import proofs.«01_k».proof.Defs
public import Idealize.ShloMosaic.Lib.Tactic
public import proofs.«01_k».proof.Proof.Gen.KernelIdeal

@[expose] public section

noncomputable section

namespace Cert.Proof

open Cert.KernelIdeal Cert.KernelIdeal.Gen
open Idealize.ShloMosaic Idealize.SL.Sem

variable {F : FTy → Type} [FloatOps F]

/-! ## The values of a pair of tokens -/

/-- Lane `k` of a vector. -/
def lane (k : Nat) (h : S16.Slices ![k] S1) (v : FVec F S16 .f32) : F .f32 :=
  extractAt ![0] (extractStridedSlice S1 ![k] v h) inpos_S1_p0

/-- The sum of a vector's sixteen lanes, from the left. -/
def total (v : FVec F S16 .f32) : F .f32 :=
  Scalar.addf (Scalar.addf (Scalar.addf (Scalar.addf (Scalar.addf (Scalar.addf (Scalar.addf (Scalar.addf (Scalar.addf (Scalar.addf (Scalar.addf (Scalar.addf (Scalar.addf (Scalar.addf (Scalar.addf (lane 0 slices_S16_o0_S1 v) (lane 1 slices_S16_o1_S1 v)) (lane 2 slices_S16_o2_S1 v)) (lane 3 slices_S16_o3_S1 v)) (lane 4 slices_S16_o4_S1 v)) (lane 5 slices_S16_o5_S1 v)) (lane 6 slices_S16_o6_S1 v)) (lane 7 slices_S16_o7_S1 v)) (lane 8 slices_S16_o8_S1 v)) (lane 9 slices_S16_o9_S1 v)) (lane 10 slices_S16_o10_S1 v)) (lane 11 slices_S16_o11_S1 v)) (lane 12 slices_S16_o12_S1 v)) (lane 13 slices_S16_o13_S1 v)) (lane 14 slices_S16_o14_S1 v)) (lane 15 slices_S16_o15_S1 v)

/-- A float constant in every lane. -/
def cst (w : BitVec 32) : FVec F S16 .f32 := broadcast S16 (Scalar.ofBits .f32 w)

/-- The eight slices of a row added up, lane by lane. -/
def sumV (x : Fin 8 → FVec F S16 .f32) : FVec F S16 .f32 :=
  addf (addf (addf (addf (addf (addf (addf (addf (cst 0x00000000#32) (x 0)) (x 1)) (x 2)) (x 3)) (x 4)) (x 5)) (x 6)) (x 7)

/-- The squares of the eight slices of a row added up, lane by lane. -/
def sqV (x : Fin 8 → FVec F S16 .f32) : FVec F S16 .f32 :=
  addf (addf (addf (addf (addf (addf (addf (addf (cst 0x00000000#32) (mulf (x 0) (x 0))) (mulf (x 1) (x 1))) (mulf (x 2) (x 2))) (mulf (x 3) (x 3))) (mulf (x 4) (x 4))) (mulf (x 5) (x 5))) (mulf (x 6) (x 6))) (mulf (x 7) (x 7))

/-- The mean: the sum times 1/128. -/
def meanV (s : FVec F S16 .f32) : FVec F S16 .f32 := mulf s (cst 0x3C000000#32)

/-- The variance plus epsilon: the mean of the squares less the square of the mean. -/
def varV (s q : FVec F S16 .f32) : FVec F S16 .f32 :=
  addf (subf (mulf q (cst 0x3C000000#32)) (mulf (meanV s) (meanV s))) (cst 0x2B8CBCCC#32)

/-- One Newton step towards the reciprocal square root of `v`. -/
def newtonV (v y : FVec F S16 .f32) : FVec F S16 .f32 :=
  mulf y (subf (cst 0x3FC00000#32) (mulf (mulf (mulf (cst 0x3F000000#32) v) y) y))

/-- The reciprocal standard deviation: the reciprocal square root and two Newton steps. -/
def rstdV (v : FVec F S16 .f32) : FVec F S16 .f32 := newtonV v (newtonV v (rsqrt v))

/-- A normalized slice. -/
def outV (x : FVec F S16 .f32) (y my : F .f32) (g b : FVec F S16 .f32) : FVec F S16 .f32 :=
  addf (mulf (subf (mulf x (broadcast S16 y)) (broadcast S16 my)) g) b

/-- Both tokens' value in one vector: the first's in the low lanes. -/
def both (lo : IVec S16 1) (a b : F .f32) : FVec F S16 .f32 := select lo (broadcast S16 a) (broadcast S16 b)

/-- The reciprocal standard deviations of two tokens, in one vector. -/
def pairY (lo : IVec S16 1) (xa xb : Fin 8 → FVec F S16 .f32) : FVec F S16 .f32 :=
  rstdV (varV (both lo (total (sumV xa)) (total (sumV xb))) (both lo (total (sqV xa)) (total (sqV xb))))

/-- The means of two tokens times their reciprocal standard deviations. -/
def pairMY (lo : IVec S16 1) (xa xb : Fin 8 → FVec F S16 .f32) : FVec F S16 .f32 :=
  mulf (meanV (both lo (total (sumV xa)) (total (sumV xb)))) (pairY lo xa xb)

/-! ## The program of a pair of tokens -/

/-- Where a loop's pair of tokens lies: the offsets of the accesses, and what is assumed of the two position ids. -/
structure PairAt where
  la : Fin 8 → Fin 2 → Nat
  lb : Fin 8 → Fin 2 → Nat
  sa : Fin 8 → Fin 2 → Nat
  sb : Fin 8 → Fin 2 → Nat
  hla : ∀ j a, la j a + S1x16.size a ≤ S64x128.size a
  hlb : ∀ j a, lb j a + S1x16.size a ≤ S64x128.size a
  hsa : ∀ j a, sa j a + S1x16.size a ≤ S64x128.size a
  hsb : ∀ j a, sb j a + S1x16.size a ≤ S64x128.size a
  ca : BitVec 32 → Prop
  cb : BitVec 32 → Prop
  da : ∀ v, Decidable (ca v)
  db : ∀ v, Decidable (cb v)
  pa : Fin 8 → BitVec 32 → Fin 2 → Nat
  pb : Fin 8 → BitVec 32 → Fin 2 → Nat
  hpa : ∀ v, ca v → ∀ j a, pa j v a + S1x16.size a ≤ S512x128.size a
  hpb : ∀ v, cb v → ∀ j a, pb j v a + S1x16.size a ≤ S512x128.size a

variable {c : Fin τ.nSC} {s : Fin τ.nSub}

/-- The program of a pair of tokens: their rows of the buffer and of the table read, normalized, and stored back. -/
def pairG (buf : Memref sig .scVector .vmem S64x128 .f32) (ptt : Memref sig .scVector .vmem S512x128 .f32)
    (gam bet : Fin 8 → FVec F S16 .f32) (lo : IVec S16 1) (A : PairAt) (wa wb : BitVec 32) :
    Prog (TpuEff nD τ sig (Elt F) Λ₀ (.scVector c s)) PUnit := do
  have ha : A.ca wa := (← Prog.lift (TpuEff.assume (A.ca wa) (A.da wa))).down
  have hb : A.cb wb := (← Prog.lift (TpuEff.assume (A.cb wb) (A.db wb))).down
  let wa0 : Vec F S1x16 .f32 ← Prog.lift (.load buf (Rect.unit (s := S64x128) (A.la 0) S1x16.size (A.hla 0)).toLoadRect (View.loadsAt_vmem h_S1x16))
  let pa0 : Vec F S1x16 .f32 ← Prog.lift (.load ptt (Rect.unit (s := S512x128) (A.pa 0 wa) S1x16.size (A.hpa wa ha 0)).toLoadRect (View.loadsAt_vmem h_S1x16))
  let wa1 : Vec F S1x16 .f32 ← Prog.lift (.load buf (Rect.unit (s := S64x128) (A.la 1) S1x16.size (A.hla 1)).toLoadRect (View.loadsAt_vmem h_S1x16))
  let pa1 : Vec F S1x16 .f32 ← Prog.lift (.load ptt (Rect.unit (s := S512x128) (A.pa 1 wa) S1x16.size (A.hpa wa ha 1)).toLoadRect (View.loadsAt_vmem h_S1x16))
  let wa2 : Vec F S1x16 .f32 ← Prog.lift (.load buf (Rect.unit (s := S64x128) (A.la 2) S1x16.size (A.hla 2)).toLoadRect (View.loadsAt_vmem h_S1x16))
  let pa2 : Vec F S1x16 .f32 ← Prog.lift (.load ptt (Rect.unit (s := S512x128) (A.pa 2 wa) S1x16.size (A.hpa wa ha 2)).toLoadRect (View.loadsAt_vmem h_S1x16))
  let wa3 : Vec F S1x16 .f32 ← Prog.lift (.load buf (Rect.unit (s := S64x128) (A.la 3) S1x16.size (A.hla 3)).toLoadRect (View.loadsAt_vmem h_S1x16))
  let pa3 : Vec F S1x16 .f32 ← Prog.lift (.load ptt (Rect.unit (s := S512x128) (A.pa 3 wa) S1x16.size (A.hpa wa ha 3)).toLoadRect (View.loadsAt_vmem h_S1x16))
  let wa4 : Vec F S1x16 .f32 ← Prog.lift (.load buf (Rect.unit (s := S64x128) (A.la 4) S1x16.size (A.hla 4)).toLoadRect (View.loadsAt_vmem h_S1x16))
  let pa4 : Vec F S1x16 .f32 ← Prog.lift (.load ptt (Rect.unit (s := S512x128) (A.pa 4 wa) S1x16.size (A.hpa wa ha 4)).toLoadRect (View.loadsAt_vmem h_S1x16))
  let wa5 : Vec F S1x16 .f32 ← Prog.lift (.load buf (Rect.unit (s := S64x128) (A.la 5) S1x16.size (A.hla 5)).toLoadRect (View.loadsAt_vmem h_S1x16))
  let pa5 : Vec F S1x16 .f32 ← Prog.lift (.load ptt (Rect.unit (s := S512x128) (A.pa 5 wa) S1x16.size (A.hpa wa ha 5)).toLoadRect (View.loadsAt_vmem h_S1x16))
  let wa6 : Vec F S1x16 .f32 ← Prog.lift (.load buf (Rect.unit (s := S64x128) (A.la 6) S1x16.size (A.hla 6)).toLoadRect (View.loadsAt_vmem h_S1x16))
  let pa6 : Vec F S1x16 .f32 ← Prog.lift (.load ptt (Rect.unit (s := S512x128) (A.pa 6 wa) S1x16.size (A.hpa wa ha 6)).toLoadRect (View.loadsAt_vmem h_S1x16))
  let wa7 : Vec F S1x16 .f32 ← Prog.lift (.load buf (Rect.unit (s := S64x128) (A.la 7) S1x16.size (A.hla 7)).toLoadRect (View.loadsAt_vmem h_S1x16))
  let pa7 : Vec F S1x16 .f32 ← Prog.lift (.load ptt (Rect.unit (s := S512x128) (A.pa 7 wa) S1x16.size (A.hpa wa ha 7)).toLoadRect (View.loadsAt_vmem h_S1x16))
  let wb0 : Vec F S1x16 .f32 ← Prog.lift (.load buf (Rect.unit (s := S64x128) (A.lb 0) S1x16.size (A.hlb 0)).toLoadRect (View.loadsAt_vmem h_S1x16))
  let pb0 : Vec F S1x16 .f32 ← Prog.lift (.load ptt (Rect.unit (s := S512x128) (A.pb 0 wb) S1x16.size (A.hpb wb hb 0)).toLoadRect (View.loadsAt_vmem h_S1x16))
  let wb1 : Vec F S1x16 .f32 ← Prog.lift (.load buf (Rect.unit (s := S64x128) (A.lb 1) S1x16.size (A.hlb 1)).toLoadRect (View.loadsAt_vmem h_S1x16))
  let pb1 : Vec F S1x16 .f32 ← Prog.lift (.load ptt (Rect.unit (s := S512x128) (A.pb 1 wb) S1x16.size (A.hpb wb hb 1)).toLoadRect (View.loadsAt_vmem h_S1x16))
  let wb2 : Vec F S1x16 .f32 ← Prog.lift (.load buf (Rect.unit (s := S64x128) (A.lb 2) S1x16.size (A.hlb 2)).toLoadRect (View.loadsAt_vmem h_S1x16))
  let pb2 : Vec F S1x16 .f32 ← Prog.lift (.load ptt (Rect.unit (s := S512x128) (A.pb 2 wb) S1x16.size (A.hpb wb hb 2)).toLoadRect (View.loadsAt_vmem h_S1x16))
  let wb3 : Vec F S1x16 .f32 ← Prog.lift (.load buf (Rect.unit (s := S64x128) (A.lb 3) S1x16.size (A.hlb 3)).toLoadRect (View.loadsAt_vmem h_S1x16))
  let pb3 : Vec F S1x16 .f32 ← Prog.lift (.load ptt (Rect.unit (s := S512x128) (A.pb 3 wb) S1x16.size (A.hpb wb hb 3)).toLoadRect (View.loadsAt_vmem h_S1x16))
  let wb4 : Vec F S1x16 .f32 ← Prog.lift (.load buf (Rect.unit (s := S64x128) (A.lb 4) S1x16.size (A.hlb 4)).toLoadRect (View.loadsAt_vmem h_S1x16))
  let pb4 : Vec F S1x16 .f32 ← Prog.lift (.load ptt (Rect.unit (s := S512x128) (A.pb 4 wb) S1x16.size (A.hpb wb hb 4)).toLoadRect (View.loadsAt_vmem h_S1x16))
  let wb5 : Vec F S1x16 .f32 ← Prog.lift (.load buf (Rect.unit (s := S64x128) (A.lb 5) S1x16.size (A.hlb 5)).toLoadRect (View.loadsAt_vmem h_S1x16))
  let pb5 : Vec F S1x16 .f32 ← Prog.lift (.load ptt (Rect.unit (s := S512x128) (A.pb 5 wb) S1x16.size (A.hpb wb hb 5)).toLoadRect (View.loadsAt_vmem h_S1x16))
  let wb6 : Vec F S1x16 .f32 ← Prog.lift (.load buf (Rect.unit (s := S64x128) (A.lb 6) S1x16.size (A.hlb 6)).toLoadRect (View.loadsAt_vmem h_S1x16))
  let pb6 : Vec F S1x16 .f32 ← Prog.lift (.load ptt (Rect.unit (s := S512x128) (A.pb 6 wb) S1x16.size (A.hpb wb hb 6)).toLoadRect (View.loadsAt_vmem h_S1x16))
  let wb7 : Vec F S1x16 .f32 ← Prog.lift (.load buf (Rect.unit (s := S64x128) (A.lb 7) S1x16.size (A.hlb 7)).toLoadRect (View.loadsAt_vmem h_S1x16))
  let pb7 : Vec F S1x16 .f32 ← Prog.lift (.load ptt (Rect.unit (s := S512x128) (A.pb 7 wb) S1x16.size (A.hpb wb hb 7)).toLoadRect (View.loadsAt_vmem h_S1x16))
  let xa : Fin 8 → FVec F S16 .f32 := ![addf (shapeCast S16 wa0 shapeCasts_S1x16_S16) (shapeCast S16 pa0 shapeCasts_S1x16_S16), addf (shapeCast S16 wa1 shapeCasts_S1x16_S16) (shapeCast S16 pa1 shapeCasts_S1x16_S16), addf (shapeCast S16 wa2 shapeCasts_S1x16_S16) (shapeCast S16 pa2 shapeCasts_S1x16_S16), addf (shapeCast S16 wa3 shapeCasts_S1x16_S16) (shapeCast S16 pa3 shapeCasts_S1x16_S16), addf (shapeCast S16 wa4 shapeCasts_S1x16_S16) (shapeCast S16 pa4 shapeCasts_S1x16_S16), addf (shapeCast S16 wa5 shapeCasts_S1x16_S16) (shapeCast S16 pa5 shapeCasts_S1x16_S16), addf (shapeCast S16 wa6 shapeCasts_S1x16_S16) (shapeCast S16 pa6 shapeCasts_S1x16_S16), addf (shapeCast S16 wa7 shapeCasts_S1x16_S16) (shapeCast S16 pa7 shapeCasts_S1x16_S16)]
  let xb : Fin 8 → FVec F S16 .f32 := ![addf (shapeCast S16 wb0 shapeCasts_S1x16_S16) (shapeCast S16 pb0 shapeCasts_S1x16_S16), addf (shapeCast S16 wb1 shapeCasts_S1x16_S16) (shapeCast S16 pb1 shapeCasts_S1x16_S16), addf (shapeCast S16 wb2 shapeCasts_S1x16_S16) (shapeCast S16 pb2 shapeCasts_S1x16_S16), addf (shapeCast S16 wb3 shapeCasts_S1x16_S16) (shapeCast S16 pb3 shapeCasts_S1x16_S16), addf (shapeCast S16 wb4 shapeCasts_S1x16_S16) (shapeCast S16 pb4 shapeCasts_S1x16_S16), addf (shapeCast S16 wb5 shapeCasts_S1x16_S16) (shapeCast S16 pb5 shapeCasts_S1x16_S16), addf (shapeCast S16 wb6 shapeCasts_S1x16_S16) (shapeCast S16 pb6 shapeCasts_S1x16_S16), addf (shapeCast S16 wb7 shapeCasts_S1x16_S16) (shapeCast S16 pb7 shapeCasts_S1x16_S16)]
  let _ ← Prog.lift (.load buf (Rect.unit (s := S64x128) (A.sa 0) S1x16.size (A.hsa 0)).toLoadRect (View.loadsAt_vmem h_S1x16))
  Prog.lift (.store buf (Rect.unit (s := S64x128) (A.sa 0) S1x16.size (A.hsa 0)) (shapeCast S1x16 (outV (xa 0) (lane 0 slices_S16_o0_S1 (pairY lo xa xb)) (lane 0 slices_S16_o0_S1 (pairMY lo xa xb)) (gam 0) (bet 0)) shapeCasts_S16_S1x16) Finset.univ (View.stores_vmem_bits_univ h_S1x16 rfl) (.inl rfl))
  let _ ← Prog.lift (.load buf (Rect.unit (s := S64x128) (A.sa 1) S1x16.size (A.hsa 1)).toLoadRect (View.loadsAt_vmem h_S1x16))
  Prog.lift (.store buf (Rect.unit (s := S64x128) (A.sa 1) S1x16.size (A.hsa 1)) (shapeCast S1x16 (outV (xa 1) (lane 0 slices_S16_o0_S1 (pairY lo xa xb)) (lane 0 slices_S16_o0_S1 (pairMY lo xa xb)) (gam 1) (bet 1)) shapeCasts_S16_S1x16) Finset.univ (View.stores_vmem_bits_univ h_S1x16 rfl) (.inl rfl))
  let _ ← Prog.lift (.load buf (Rect.unit (s := S64x128) (A.sa 2) S1x16.size (A.hsa 2)).toLoadRect (View.loadsAt_vmem h_S1x16))
  Prog.lift (.store buf (Rect.unit (s := S64x128) (A.sa 2) S1x16.size (A.hsa 2)) (shapeCast S1x16 (outV (xa 2) (lane 0 slices_S16_o0_S1 (pairY lo xa xb)) (lane 0 slices_S16_o0_S1 (pairMY lo xa xb)) (gam 2) (bet 2)) shapeCasts_S16_S1x16) Finset.univ (View.stores_vmem_bits_univ h_S1x16 rfl) (.inl rfl))
  let _ ← Prog.lift (.load buf (Rect.unit (s := S64x128) (A.sa 3) S1x16.size (A.hsa 3)).toLoadRect (View.loadsAt_vmem h_S1x16))
  Prog.lift (.store buf (Rect.unit (s := S64x128) (A.sa 3) S1x16.size (A.hsa 3)) (shapeCast S1x16 (outV (xa 3) (lane 0 slices_S16_o0_S1 (pairY lo xa xb)) (lane 0 slices_S16_o0_S1 (pairMY lo xa xb)) (gam 3) (bet 3)) shapeCasts_S16_S1x16) Finset.univ (View.stores_vmem_bits_univ h_S1x16 rfl) (.inl rfl))
  let _ ← Prog.lift (.load buf (Rect.unit (s := S64x128) (A.sa 4) S1x16.size (A.hsa 4)).toLoadRect (View.loadsAt_vmem h_S1x16))
  Prog.lift (.store buf (Rect.unit (s := S64x128) (A.sa 4) S1x16.size (A.hsa 4)) (shapeCast S1x16 (outV (xa 4) (lane 0 slices_S16_o0_S1 (pairY lo xa xb)) (lane 0 slices_S16_o0_S1 (pairMY lo xa xb)) (gam 4) (bet 4)) shapeCasts_S16_S1x16) Finset.univ (View.stores_vmem_bits_univ h_S1x16 rfl) (.inl rfl))
  let _ ← Prog.lift (.load buf (Rect.unit (s := S64x128) (A.sa 5) S1x16.size (A.hsa 5)).toLoadRect (View.loadsAt_vmem h_S1x16))
  Prog.lift (.store buf (Rect.unit (s := S64x128) (A.sa 5) S1x16.size (A.hsa 5)) (shapeCast S1x16 (outV (xa 5) (lane 0 slices_S16_o0_S1 (pairY lo xa xb)) (lane 0 slices_S16_o0_S1 (pairMY lo xa xb)) (gam 5) (bet 5)) shapeCasts_S16_S1x16) Finset.univ (View.stores_vmem_bits_univ h_S1x16 rfl) (.inl rfl))
  let _ ← Prog.lift (.load buf (Rect.unit (s := S64x128) (A.sa 6) S1x16.size (A.hsa 6)).toLoadRect (View.loadsAt_vmem h_S1x16))
  Prog.lift (.store buf (Rect.unit (s := S64x128) (A.sa 6) S1x16.size (A.hsa 6)) (shapeCast S1x16 (outV (xa 6) (lane 0 slices_S16_o0_S1 (pairY lo xa xb)) (lane 0 slices_S16_o0_S1 (pairMY lo xa xb)) (gam 6) (bet 6)) shapeCasts_S16_S1x16) Finset.univ (View.stores_vmem_bits_univ h_S1x16 rfl) (.inl rfl))
  let _ ← Prog.lift (.load buf (Rect.unit (s := S64x128) (A.sa 7) S1x16.size (A.hsa 7)).toLoadRect (View.loadsAt_vmem h_S1x16))
  Prog.lift (.store buf (Rect.unit (s := S64x128) (A.sa 7) S1x16.size (A.hsa 7)) (shapeCast S1x16 (outV (xa 7) (lane 0 slices_S16_o0_S1 (pairY lo xa xb)) (lane 0 slices_S16_o0_S1 (pairMY lo xa xb)) (gam 7) (bet 7)) shapeCasts_S16_S1x16) Finset.univ (View.stores_vmem_bits_univ h_S1x16 rfl) (.inl rfl))
  let _ ← Prog.lift (.load buf (Rect.unit (s := S64x128) (A.sb 0) S1x16.size (A.hsb 0)).toLoadRect (View.loadsAt_vmem h_S1x16))
  Prog.lift (.store buf (Rect.unit (s := S64x128) (A.sb 0) S1x16.size (A.hsb 0)) (shapeCast S1x16 (outV (xb 0) (lane 15 slices_S16_o15_S1 (pairY lo xa xb)) (lane 15 slices_S16_o15_S1 (pairMY lo xa xb)) (gam 0) (bet 0)) shapeCasts_S16_S1x16) Finset.univ (View.stores_vmem_bits_univ h_S1x16 rfl) (.inl rfl))
  let _ ← Prog.lift (.load buf (Rect.unit (s := S64x128) (A.sb 1) S1x16.size (A.hsb 1)).toLoadRect (View.loadsAt_vmem h_S1x16))
  Prog.lift (.store buf (Rect.unit (s := S64x128) (A.sb 1) S1x16.size (A.hsb 1)) (shapeCast S1x16 (outV (xb 1) (lane 15 slices_S16_o15_S1 (pairY lo xa xb)) (lane 15 slices_S16_o15_S1 (pairMY lo xa xb)) (gam 1) (bet 1)) shapeCasts_S16_S1x16) Finset.univ (View.stores_vmem_bits_univ h_S1x16 rfl) (.inl rfl))
  let _ ← Prog.lift (.load buf (Rect.unit (s := S64x128) (A.sb 2) S1x16.size (A.hsb 2)).toLoadRect (View.loadsAt_vmem h_S1x16))
  Prog.lift (.store buf (Rect.unit (s := S64x128) (A.sb 2) S1x16.size (A.hsb 2)) (shapeCast S1x16 (outV (xb 2) (lane 15 slices_S16_o15_S1 (pairY lo xa xb)) (lane 15 slices_S16_o15_S1 (pairMY lo xa xb)) (gam 2) (bet 2)) shapeCasts_S16_S1x16) Finset.univ (View.stores_vmem_bits_univ h_S1x16 rfl) (.inl rfl))
  let _ ← Prog.lift (.load buf (Rect.unit (s := S64x128) (A.sb 3) S1x16.size (A.hsb 3)).toLoadRect (View.loadsAt_vmem h_S1x16))
  Prog.lift (.store buf (Rect.unit (s := S64x128) (A.sb 3) S1x16.size (A.hsb 3)) (shapeCast S1x16 (outV (xb 3) (lane 15 slices_S16_o15_S1 (pairY lo xa xb)) (lane 15 slices_S16_o15_S1 (pairMY lo xa xb)) (gam 3) (bet 3)) shapeCasts_S16_S1x16) Finset.univ (View.stores_vmem_bits_univ h_S1x16 rfl) (.inl rfl))
  let _ ← Prog.lift (.load buf (Rect.unit (s := S64x128) (A.sb 4) S1x16.size (A.hsb 4)).toLoadRect (View.loadsAt_vmem h_S1x16))
  Prog.lift (.store buf (Rect.unit (s := S64x128) (A.sb 4) S1x16.size (A.hsb 4)) (shapeCast S1x16 (outV (xb 4) (lane 15 slices_S16_o15_S1 (pairY lo xa xb)) (lane 15 slices_S16_o15_S1 (pairMY lo xa xb)) (gam 4) (bet 4)) shapeCasts_S16_S1x16) Finset.univ (View.stores_vmem_bits_univ h_S1x16 rfl) (.inl rfl))
  let _ ← Prog.lift (.load buf (Rect.unit (s := S64x128) (A.sb 5) S1x16.size (A.hsb 5)).toLoadRect (View.loadsAt_vmem h_S1x16))
  Prog.lift (.store buf (Rect.unit (s := S64x128) (A.sb 5) S1x16.size (A.hsb 5)) (shapeCast S1x16 (outV (xb 5) (lane 15 slices_S16_o15_S1 (pairY lo xa xb)) (lane 15 slices_S16_o15_S1 (pairMY lo xa xb)) (gam 5) (bet 5)) shapeCasts_S16_S1x16) Finset.univ (View.stores_vmem_bits_univ h_S1x16 rfl) (.inl rfl))
  let _ ← Prog.lift (.load buf (Rect.unit (s := S64x128) (A.sb 6) S1x16.size (A.hsb 6)).toLoadRect (View.loadsAt_vmem h_S1x16))
  Prog.lift (.store buf (Rect.unit (s := S64x128) (A.sb 6) S1x16.size (A.hsb 6)) (shapeCast S1x16 (outV (xb 6) (lane 15 slices_S16_o15_S1 (pairY lo xa xb)) (lane 15 slices_S16_o15_S1 (pairMY lo xa xb)) (gam 6) (bet 6)) shapeCasts_S16_S1x16) Finset.univ (View.stores_vmem_bits_univ h_S1x16 rfl) (.inl rfl))
  let _ ← Prog.lift (.load buf (Rect.unit (s := S64x128) (A.sb 7) S1x16.size (A.hsb 7)).toLoadRect (View.loadsAt_vmem h_S1x16))
  Prog.lift (.store buf (Rect.unit (s := S64x128) (A.sb 7) S1x16.size (A.hsb 7)) (shapeCast S1x16 (outV (xb 7) (lane 15 slices_S16_o15_S1 (pairY lo xa xb)) (lane 15 slices_S16_o15_S1 (pairMY lo xa xb)) (gam 7) (bet 7)) shapeCasts_S16_S1x16) Finset.univ (View.stores_vmem_bits_univ h_S1x16 rfl) (.inl rfl))

/-- The accesses of a pair are where they should be: trip `t` of a loop normalizes the rows `16 t + 2 u` and `16 t + 2 u + 1`
    of its buffer, and reads the rows of the position table that the position ids name. -/
structure PairAt.Ok (A : PairAt) (t : Fin k0_t1_loop.trips) (u : Nat) : Prop where
  la : ∀ j, A.la j = ![16 * t.val + 2 * u, 16 * j.val]
  lb : ∀ j, A.lb j = ![16 * t.val + 2 * u + 1, 16 * j.val]
  sa : ∀ j, A.sa j = ![16 * t.val + 2 * u, 16 * j.val]
  sb : ∀ j, A.sb j = ![16 * t.val + 2 * u + 1, 16 * j.val]
  ca : ∀ v : BitVec 32, v.toNat < 512 → A.ca v
  cb : ∀ v : BitVec 32, v.toNat < 512 → A.cb v
  pa : ∀ (v : BitVec 32) (j : Fin 8), A.pa j v = ![v.toNat, 16 * j.val]
  pb : ∀ (v : BitVec 32) (j : Fin 8), A.pb j v = ![v.toNat, 16 * j.val]

/-- A slice of a row of the position table is inside it. -/
theorem inb_row (v : BitVec 32) (h : v.toNat < 512) (j : Fin 8) (a : Fin 2) :
    (![v.toNat, 16 * j.val] : Fin 2 → Nat) a + S1x16.size a ≤ S512x128.size a := by
  fin_cases a <;> simp [S1x16, S512x128, Shape.size] <;> omega

end Cert.Proof
-- ==== Proof.Loops1.lean ====
module

public import proofs.«01_k».proof.Proof.Pair

@[expose] public section

noncomputable section

namespace Cert.Proof

open Cert.KernelIdeal Cert.KernelIdeal.Gen
open Idealize.ShloMosaic Idealize.SL.Sem

variable {F : FTy → Type} [FloatOps F]

/-- A fact of the eight slices, from one fact of each. -/
theorem all8 {p : Fin 8 → Prop} (h0 : p 0) (h1 : p 1) (h2 : p 2) (h3 : p 3) (h4 : p 4) (h5 : p 5) (h6 : p 6)
    (h7 : p 7) : ∀ j, p j := fun j =>
  match j with
  | 0 => h0 | 1 => h1 | 2 => h2 | 3 => h3 | 4 => h4 | 5 => h5 | 6 => h6 | 7 => h7

/-- A loop over a chunk, sixteen tokens at a time: where it reads their position ids, and where each pair lies. -/
structure CompAt where
  off : Fin k0_t1_loop.trips → Fin 1 → Nat
  hoff : ∀ t a, off t a + S16.size a ≤ S6400.size a
  pair : Fin k0_t1_loop.trips → Fin 8 → PairAt

/-! ## Loop 1 -/

def pairAt1_0 (t : Fin k0_t1_loop.trips) : PairAt where
  la := ![k0_off3 t, k0_off5 t, k0_off7 t, k0_off9 t, k0_off11 t, k0_off13 t, k0_off15 t, k0_off17 t]
  lb := ![k0_off19 t, k0_off21 t, k0_off23 t, k0_off25 t, k0_off27 t, k0_off29 t, k0_off31 t, k0_off33 t]
  sa := ![k0_off35 t 0#32, k0_off36 t, k0_off37 t, k0_off38 t, k0_off39 t, k0_off40 t, k0_off41 t, k0_off42 t]
  sb := ![k0_off43 t, k0_off21 t, k0_off23 t, k0_off25 t, k0_off27 t, k0_off29 t, k0_off31 t, k0_off33 t]
  hla := all8 (k0_off3_inb t) (k0_off5_inb t) (k0_off7_inb t) (k0_off9_inb t) (k0_off11_inb t) (k0_off13_inb t) (k0_off15_inb t) (k0_off17_inb t)
  hlb := all8 (k0_off19_inb t) (k0_off21_inb t) (k0_off23_inb t) (k0_off25_inb t) (k0_off27_inb t) (k0_off29_inb t) (k0_off31_inb t) (k0_off33_inb t)
  hsa := all8 (k0_off35_inb t 0) (k0_off36_inb t) (k0_off37_inb t) (k0_off38_inb t) (k0_off39_inb t) (k0_off40_inb t) (k0_off41_inb t) (k0_off42_inb t)
  hsb := all8 (k0_off43_inb t) (k0_off21_inb t) (k0_off23_inb t) (k0_off25_inb t) (k0_off27_inb t) (k0_off29_inb t) (k0_off31_inb t) (k0_off33_inb t)
  ca := k0_chk1
  cb := k0_chk2
  da := k0_chk1.dec
  db := k0_chk2.dec
  pa := ![k0_off4, k0_off6, k0_off8, k0_off10, k0_off12, k0_off14, k0_off16, k0_off18]
  pb := ![k0_off20, k0_off22, k0_off24, k0_off26, k0_off28, k0_off30, k0_off32, k0_off34]
  hpa := fun v h => all8 (k0_off4_inb v h) (k0_off6_inb v h) (k0_off8_inb v h) (k0_off10_inb v h) (k0_off12_inb v h) (k0_off14_inb v h) (k0_off16_inb v h) (k0_off18_inb v h)
  hpb := fun v h => all8 (k0_off20_inb v h) (k0_off22_inb v h) (k0_off24_inb v h) (k0_off26_inb v h) (k0_off28_inb v h) (k0_off30_inb v h) (k0_off32_inb v h) (k0_off34_inb v h)

theorem pairAt1_0_ok : ∀ t, (pairAt1_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_1 (t : Fin k0_t1_loop.trips) : PairAt where
  la := ![k0_off35 t 2#32, k0_off45 t, k0_off47 t, k0_off49 t, k0_off51 t, k0_off53 t, k0_off55 t, k0_off57 t]
  lb := ![k0_off59 t, k0_off61 t, k0_off63 t, k0_off65 t, k0_off67 t, k0_off69 t, k0_off71 t, k0_off73 t]
  sa := ![k0_off75 t 2#32, k0_off76 t, k0_off77 t, k0_off78 t, k0_off79 t, k0_off80 t, k0_off81 t, k0_off82 t]
  sb := ![k0_off83 t, k0_off61 t, k0_off63 t, k0_off65 t, k0_off67 t, k0_off69 t, k0_off71 t, k0_off73 t]
  hla := all8 (k0_off35_inb t 1) (k0_off45_inb t) (k0_off47_inb t) (k0_off49_inb t) (k0_off51_inb t) (k0_off53_inb t) (k0_off55_inb t) (k0_off57_inb t)
  hlb := all8 (k0_off59_inb t) (k0_off61_inb t) (k0_off63_inb t) (k0_off65_inb t) (k0_off67_inb t) (k0_off69_inb t) (k0_off71_inb t) (k0_off73_inb t)
  hsa := all8 (k0_off75_inb t 0) (k0_off76_inb t) (k0_off77_inb t) (k0_off78_inb t) (k0_off79_inb t) (k0_off80_inb t) (k0_off81_inb t) (k0_off82_inb t)
  hsb := all8 (k0_off83_inb t) (k0_off61_inb t) (k0_off63_inb t) (k0_off65_inb t) (k0_off67_inb t) (k0_off69_inb t) (k0_off71_inb t) (k0_off73_inb t)
  ca := k0_chk3
  cb := k0_chk4
  da := k0_chk3.dec
  db := k0_chk4.dec
  pa := ![k0_off44, k0_off46, k0_off48, k0_off50, k0_off52, k0_off54, k0_off56, k0_off58]
  pb := ![k0_off60, k0_off62, k0_off64, k0_off66, k0_off68, k0_off70, k0_off72, k0_off74]
  hpa := fun v h => all8 (k0_off44_inb v h) (k0_off46_inb v h) (k0_off48_inb v h) (k0_off50_inb v h) (k0_off52_inb v h) (k0_off54_inb v h) (k0_off56_inb v h) (k0_off58_inb v h)
  hpb := fun v h => all8 (k0_off60_inb v h) (k0_off62_inb v h) (k0_off64_inb v h) (k0_off66_inb v h) (k0_off68_inb v h) (k0_off70_inb v h) (k0_off72_inb v h) (k0_off74_inb v h)

theorem pairAt1_1_ok : ∀ t, (pairAt1_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_2 (t : Fin k0_t1_loop.trips) : PairAt where
  la := ![k0_off75 t 4#32, k0_off85 t, k0_off87 t, k0_off89 t, k0_off91 t, k0_off93 t, k0_off95 t, k0_off97 t]
  lb := ![k0_off99 t, k0_off101 t, k0_off103 t, k0_off105 t, k0_off107 t, k0_off109 t, k0_off111 t, k0_off113 t]
  sa := ![k0_off115 t 4#32, k0_off116 t, k0_off117 t, k0_off118 t, k0_off119 t, k0_off120 t, k0_off121 t, k0_off122 t]
  sb := ![k0_off123 t, k0_off101 t, k0_off103 t, k0_off105 t, k0_off107 t, k0_off109 t, k0_off111 t, k0_off113 t]
  hla := all8 (k0_off75_inb t 1) (k0_off85_inb t) (k0_off87_inb t) (k0_off89_inb t) (k0_off91_inb t) (k0_off93_inb t) (k0_off95_inb t) (k0_off97_inb t)
  hlb := all8 (k0_off99_inb t) (k0_off101_inb t) (k0_off103_inb t) (k0_off105_inb t) (k0_off107_inb t) (k0_off109_inb t) (k0_off111_inb t) (k0_off113_inb t)
  hsa := all8 (k0_off115_inb t 0) (k0_off116_inb t) (k0_off117_inb t) (k0_off118_inb t) (k0_off119_inb t) (k0_off120_inb t) (k0_off121_inb t) (k0_off122_inb t)
  hsb := all8 (k0_off123_inb t) (k0_off101_inb t) (k0_off103_inb t) (k0_off105_inb t) (k0_off107_inb t) (k0_off109_inb t) (k0_off111_inb t) (k0_off113_inb t)
  ca := k0_chk5
  cb := k0_chk6
  da := k0_chk5.dec
  db := k0_chk6.dec
  pa := ![k0_off84, k0_off86, k0_off88, k0_off90, k0_off92, k0_off94, k0_off96, k0_off98]
  pb := ![k0_off100, k0_off102, k0_off104, k0_off106, k0_off108, k0_off110, k0_off112, k0_off114]
  hpa := fun v h => all8 (k0_off84_inb v h) (k0_off86_inb v h) (k0_off88_inb v h) (k0_off90_inb v h) (k0_off92_inb v h) (k0_off94_inb v h) (k0_off96_inb v h) (k0_off98_inb v h)
  hpb := fun v h => all8 (k0_off100_inb v h) (k0_off102_inb v h) (k0_off104_inb v h) (k0_off106_inb v h) (k0_off108_inb v h) (k0_off110_inb v h) (k0_off112_inb v h) (k0_off114_inb v h)

theorem pairAt1_2_ok : ∀ t, (pairAt1_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_3 (t : Fin k0_t1_loop.trips) : PairAt where
  la := ![k0_off115 t 6#32, k0_off125 t, k0_off127 t, k0_off129 t, k0_off131 t, k0_off133 t, k0_off135 t, k0_off137 t]
  lb := ![k0_off139 t, k0_off141 t, k0_off143 t, k0_off145 t, k0_off147 t, k0_off149 t, k0_off151 t, k0_off153 t]
  sa := ![k0_off155 t 6#32, k0_off156 t, k0_off157 t, k0_off158 t, k0_off159 t, k0_off160 t, k0_off161 t, k0_off162 t]
  sb := ![k0_off163 t, k0_off141 t, k0_off143 t, k0_off145 t, k0_off147 t, k0_off149 t, k0_off151 t, k0_off153 t]
  hla := all8 (k0_off115_inb t 1) (k0_off125_inb t) (k0_off127_inb t) (k0_off129_inb t) (k0_off131_inb t) (k0_off133_inb t) (k0_off135_inb t) (k0_off137_inb t)
  hlb := all8 (k0_off139_inb t) (k0_off141_inb t) (k0_off143_inb t) (k0_off145_inb t) (k0_off147_inb t) (k0_off149_inb t) (k0_off151_inb t) (k0_off153_inb t)
  hsa := all8 (k0_off155_inb t 0) (k0_off156_inb t) (k0_off157_inb t) (k0_off158_inb t) (k0_off159_inb t) (k0_off160_inb t) (k0_off161_inb t) (k0_off162_inb t)
  hsb := all8 (k0_off163_inb t) (k0_off141_inb t) (k0_off143_inb t) (k0_off145_inb t) (k0_off147_inb t) (k0_off149_inb t) (k0_off151_inb t) (k0_off153_inb t)
  ca := k0_chk7
  cb := k0_chk8
  da := k0_chk7.dec
  db := k0_chk8.dec
  pa := ![k0_off124, k0_off126, k0_off128, k0_off130, k0_off132, k0_off134, k0_off136, k0_off138]
  pb := ![k0_off140, k0_off142, k0_off144, k0_off146, k0_off148, k0_off150, k0_off152, k0_off154]
  hpa := fun v h => all8 (k0_off124_inb v h) (k0_off126_inb v h) (k0_off128_inb v h) (k0_off130_inb v h) (k0_off132_inb v h) (k0_off134_inb v h) (k0_off136_inb v h) (k0_off138_inb v h)
  hpb := fun v h => all8 (k0_off140_inb v h) (k0_off142_inb v h) (k0_off144_inb v h) (k0_off146_inb v h) (k0_off148_inb v h) (k0_off150_inb v h) (k0_off152_inb v h) (k0_off154_inb v h)

theorem pairAt1_3_ok : ∀ t, (pairAt1_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_4 (t : Fin k0_t1_loop.trips) : PairAt where
  la := ![k0_off155 t 8#32, k0_off165 t, k0_off167 t, k0_off169 t, k0_off171 t, k0_off173 t, k0_off175 t, k0_off177 t]
  lb := ![k0_off179 t, k0_off181 t, k0_off183 t, k0_off185 t, k0_off187 t, k0_off189 t, k0_off191 t, k0_off193 t]
  sa := ![k0_off195 t 8#32, k0_off196 t, k0_off197 t, k0_off198 t, k0_off199 t, k0_off200 t, k0_off201 t, k0_off202 t]
  sb := ![k0_off203 t, k0_off181 t, k0_off183 t, k0_off185 t, k0_off187 t, k0_off189 t, k0_off191 t, k0_off193 t]
  hla := all8 (k0_off155_inb t 1) (k0_off165_inb t) (k0_off167_inb t) (k0_off169_inb t) (k0_off171_inb t) (k0_off173_inb t) (k0_off175_inb t) (k0_off177_inb t)
  hlb := all8 (k0_off179_inb t) (k0_off181_inb t) (k0_off183_inb t) (k0_off185_inb t) (k0_off187_inb t) (k0_off189_inb t) (k0_off191_inb t) (k0_off193_inb t)
  hsa := all8 (k0_off195_inb t 0) (k0_off196_inb t) (k0_off197_inb t) (k0_off198_inb t) (k0_off199_inb t) (k0_off200_inb t) (k0_off201_inb t) (k0_off202_inb t)
  hsb := all8 (k0_off203_inb t) (k0_off181_inb t) (k0_off183_inb t) (k0_off185_inb t) (k0_off187_inb t) (k0_off189_inb t) (k0_off191_inb t) (k0_off193_inb t)
  ca := k0_chk9
  cb := k0_chk10
  da := k0_chk9.dec
  db := k0_chk10.dec
  pa := ![k0_off164, k0_off166, k0_off168, k0_off170, k0_off172, k0_off174, k0_off176, k0_off178]
  pb := ![k0_off180, k0_off182, k0_off184, k0_off186, k0_off188, k0_off190, k0_off192, k0_off194]
  hpa := fun v h => all8 (k0_off164_inb v h) (k0_off166_inb v h) (k0_off168_inb v h) (k0_off170_inb v h) (k0_off172_inb v h) (k0_off174_inb v h) (k0_off176_inb v h) (k0_off178_inb v h)
  hpb := fun v h => all8 (k0_off180_inb v h) (k0_off182_inb v h) (k0_off184_inb v h) (k0_off186_inb v h) (k0_off188_inb v h) (k0_off190_inb v h) (k0_off192_inb v h) (k0_off194_inb v h)

theorem pairAt1_4_ok : ∀ t, (pairAt1_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_5 (t : Fin k0_t1_loop.trips) : PairAt where
  la := ![k0_off195 t 10#32, k0_off205 t, k0_off207 t, k0_off209 t, k0_off211 t, k0_off213 t, k0_off215 t, k0_off217 t]
  lb := ![k0_off219 t, k0_off221 t, k0_off223 t, k0_off225 t, k0_off227 t, k0_off229 t, k0_off231 t, k0_off233 t]
  sa := ![k0_off235 t 10#32, k0_off236 t, k0_off237 t, k0_off238 t, k0_off239 t, k0_off240 t, k0_off241 t, k0_off242 t]
  sb := ![k0_off243 t, k0_off221 t, k0_off223 t, k0_off225 t, k0_off227 t, k0_off229 t, k0_off231 t, k0_off233 t]
  hla := all8 (k0_off195_inb t 1) (k0_off205_inb t) (k0_off207_inb t) (k0_off209_inb t) (k0_off211_inb t) (k0_off213_inb t) (k0_off215_inb t) (k0_off217_inb t)
  hlb := all8 (k0_off219_inb t) (k0_off221_inb t) (k0_off223_inb t) (k0_off225_inb t) (k0_off227_inb t) (k0_off229_inb t) (k0_off231_inb t) (k0_off233_inb t)
  hsa := all8 (k0_off235_inb t 0) (k0_off236_inb t) (k0_off237_inb t) (k0_off238_inb t) (k0_off239_inb t) (k0_off240_inb t) (k0_off241_inb t) (k0_off242_inb t)
  hsb := all8 (k0_off243_inb t) (k0_off221_inb t) (k0_off223_inb t) (k0_off225_inb t) (k0_off227_inb t) (k0_off229_inb t) (k0_off231_inb t) (k0_off233_inb t)
  ca := k0_chk11
  cb := k0_chk12
  da := k0_chk11.dec
  db := k0_chk12.dec
  pa := ![k0_off204, k0_off206, k0_off208, k0_off210, k0_off212, k0_off214, k0_off216, k0_off218]
  pb := ![k0_off220, k0_off222, k0_off224, k0_off226, k0_off228, k0_off230, k0_off232, k0_off234]
  hpa := fun v h => all8 (k0_off204_inb v h) (k0_off206_inb v h) (k0_off208_inb v h) (k0_off210_inb v h) (k0_off212_inb v h) (k0_off214_inb v h) (k0_off216_inb v h) (k0_off218_inb v h)
  hpb := fun v h => all8 (k0_off220_inb v h) (k0_off222_inb v h) (k0_off224_inb v h) (k0_off226_inb v h) (k0_off228_inb v h) (k0_off230_inb v h) (k0_off232_inb v h) (k0_off234_inb v h)

theorem pairAt1_5_ok : ∀ t, (pairAt1_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_6 (t : Fin k0_t1_loop.trips) : PairAt where
  la := ![k0_off235 t 12#32, k0_off245 t, k0_off247 t, k0_off249 t, k0_off251 t, k0_off253 t, k0_off255 t, k0_off257 t]
  lb := ![k0_off259 t, k0_off261 t, k0_off263 t, k0_off265 t, k0_off267 t, k0_off269 t, k0_off271 t, k0_off273 t]
  sa := ![k0_off275 t 12#32, k0_off276 t, k0_off277 t, k0_off278 t, k0_off279 t, k0_off280 t, k0_off281 t, k0_off282 t]
  sb := ![k0_off283 t, k0_off261 t, k0_off263 t, k0_off265 t, k0_off267 t, k0_off269 t, k0_off271 t, k0_off273 t]
  hla := all8 (k0_off235_inb t 1) (k0_off245_inb t) (k0_off247_inb t) (k0_off249_inb t) (k0_off251_inb t) (k0_off253_inb t) (k0_off255_inb t) (k0_off257_inb t)
  hlb := all8 (k0_off259_inb t) (k0_off261_inb t) (k0_off263_inb t) (k0_off265_inb t) (k0_off267_inb t) (k0_off269_inb t) (k0_off271_inb t) (k0_off273_inb t)
  hsa := all8 (k0_off275_inb t 0) (k0_off276_inb t) (k0_off277_inb t) (k0_off278_inb t) (k0_off279_inb t) (k0_off280_inb t) (k0_off281_inb t) (k0_off282_inb t)
  hsb := all8 (k0_off283_inb t) (k0_off261_inb t) (k0_off263_inb t) (k0_off265_inb t) (k0_off267_inb t) (k0_off269_inb t) (k0_off271_inb t) (k0_off273_inb t)
  ca := k0_chk13
  cb := k0_chk14
  da := k0_chk13.dec
  db := k0_chk14.dec
  pa := ![k0_off244, k0_off246, k0_off248, k0_off250, k0_off252, k0_off254, k0_off256, k0_off258]
  pb := ![k0_off260, k0_off262, k0_off264, k0_off266, k0_off268, k0_off270, k0_off272, k0_off274]
  hpa := fun v h => all8 (k0_off244_inb v h) (k0_off246_inb v h) (k0_off248_inb v h) (k0_off250_inb v h) (k0_off252_inb v h) (k0_off254_inb v h) (k0_off256_inb v h) (k0_off258_inb v h)
  hpb := fun v h => all8 (k0_off260_inb v h) (k0_off262_inb v h) (k0_off264_inb v h) (k0_off266_inb v h) (k0_off268_inb v h) (k0_off270_inb v h) (k0_off272_inb v h) (k0_off274_inb v h)

theorem pairAt1_6_ok : ∀ t, (pairAt1_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt1_7 (t : Fin k0_t1_loop.trips) : PairAt where
  la := ![k0_off275 t 14#32, k0_off285 t, k0_off287 t, k0_off289 t, k0_off291 t, k0_off293 t, k0_off295 t, k0_off297 t]
  lb := ![k0_off299 t, k0_off301 t, k0_off303 t, k0_off305 t, k0_off307 t, k0_off309 t, k0_off311 t, k0_off313 t]
  sa := ![k0_off315 t, k0_off316 t, k0_off317 t, k0_off318 t, k0_off319 t, k0_off320 t, k0_off321 t, k0_off322 t]
  sb := ![k0_off323 t, k0_off301 t, k0_off303 t, k0_off305 t, k0_off307 t, k0_off309 t, k0_off311 t, k0_off313 t]
  hla := all8 (k0_off275_inb t 1) (k0_off285_inb t) (k0_off287_inb t) (k0_off289_inb t) (k0_off291_inb t) (k0_off293_inb t) (k0_off295_inb t) (k0_off297_inb t)
  hlb := all8 (k0_off299_inb t) (k0_off301_inb t) (k0_off303_inb t) (k0_off305_inb t) (k0_off307_inb t) (k0_off309_inb t) (k0_off311_inb t) (k0_off313_inb t)
  hsa := all8 (k0_off315_inb t) (k0_off316_inb t) (k0_off317_inb t) (k0_off318_inb t) (k0_off319_inb t) (k0_off320_inb t) (k0_off321_inb t) (k0_off322_inb t)
  hsb := all8 (k0_off323_inb t) (k0_off301_inb t) (k0_off303_inb t) (k0_off305_inb t) (k0_off307_inb t) (k0_off309_inb t) (k0_off311_inb t) (k0_off313_inb t)
  ca := k0_chk15
  cb := k0_chk16
  da := k0_chk15.dec
  db := k0_chk16.dec
  pa := ![k0_off284, k0_off286, k0_off288, k0_off290, k0_off292, k0_off294, k0_off296, k0_off298]
  pb := ![k0_off300, k0_off302, k0_off304, k0_off306, k0_off308, k0_off310, k0_off312, k0_off314]
  hpa := fun v h => all8 (k0_off284_inb v h) (k0_off286_inb v h) (k0_off288_inb v h) (k0_off290_inb v h) (k0_off292_inb v h) (k0_off294_inb v h) (k0_off296_inb v h) (k0_off298_inb v h)
  hpb := fun v h => all8 (k0_off300_inb v h) (k0_off302_inb v h) (k0_off304_inb v h) (k0_off306_inb v h) (k0_off308_inb v h) (k0_off310_inb v h) (k0_off312_inb v h) (k0_off314_inb v h)

theorem pairAt1_7_ok : ∀ t, (pairAt1_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt1 : CompAt := ⟨fun t => k0_off2 t, fun t => k0_off2_inb t,
  fun t => ![pairAt1_0 t, pairAt1_1 t, pairAt1_2 t, pairAt1_3 t, pairAt1_4 t, pairAt1_5 t, pairAt1_6 t, pairAt1_7 t]⟩

/-! ## Loop 2 -/

def pairAt2_0 (t : Fin k0_t1_loop.trips) : PairAt where
  la := ![k0_off326 t, k0_off328 t, k0_off330 t, k0_off332 t, k0_off334 t, k0_off336 t, k0_off338 t, k0_off340 t]
  lb := ![k0_off342 t, k0_off344 t, k0_off346 t, k0_off348 t, k0_off350 t, k0_off352 t, k0_off354 t, k0_off356 t]
  sa := ![k0_off358 t 0#32, k0_off359 t, k0_off360 t, k0_off361 t, k0_off362 t, k0_off363 t, k0_off364 t, k0_off365 t]
  sb := ![k0_off366 t, k0_off344 t, k0_off346 t, k0_off348 t, k0_off350 t, k0_off352 t, k0_off354 t, k0_off356 t]
  hla := all8 (k0_off326_inb t) (k0_off328_inb t) (k0_off330_inb t) (k0_off332_inb t) (k0_off334_inb t) (k0_off336_inb t) (k0_off338_inb t) (k0_off340_inb t)
  hlb := all8 (k0_off342_inb t) (k0_off344_inb t) (k0_off346_inb t) (k0_off348_inb t) (k0_off350_inb t) (k0_off352_inb t) (k0_off354_inb t) (k0_off356_inb t)
  hsa := all8 (k0_off358_inb t 0) (k0_off359_inb t) (k0_off360_inb t) (k0_off361_inb t) (k0_off362_inb t) (k0_off363_inb t) (k0_off364_inb t) (k0_off365_inb t)
  hsb := all8 (k0_off366_inb t) (k0_off344_inb t) (k0_off346_inb t) (k0_off348_inb t) (k0_off350_inb t) (k0_off352_inb t) (k0_off354_inb t) (k0_off356_inb t)
  ca := k0_chk17
  cb := k0_chk18
  da := k0_chk17.dec
  db := k0_chk18.dec
  pa := ![k0_off327, k0_off329, k0_off331, k0_off333, k0_off335, k0_off337, k0_off339, k0_off341]
  pb := ![k0_off343, k0_off345, k0_off347, k0_off349, k0_off351, k0_off353, k0_off355, k0_off357]
  hpa := fun v h => all8 (k0_off327_inb v h) (k0_off329_inb v h) (k0_off331_inb v h) (k0_off333_inb v h) (k0_off335_inb v h) (k0_off337_inb v h) (k0_off339_inb v h) (k0_off341_inb v h)
  hpb := fun v h => all8 (k0_off343_inb v h) (k0_off345_inb v h) (k0_off347_inb v h) (k0_off349_inb v h) (k0_off351_inb v h) (k0_off353_inb v h) (k0_off355_inb v h) (k0_off357_inb v h)

theorem pairAt2_0_ok : ∀ t, (pairAt2_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_1 (t : Fin k0_t1_loop.trips) : PairAt where
  la := ![k0_off358 t 2#32, k0_off368 t, k0_off370 t, k0_off372 t, k0_off374 t, k0_off376 t, k0_off378 t, k0_off380 t]
  lb := ![k0_off382 t, k0_off384 t, k0_off386 t, k0_off388 t, k0_off390 t, k0_off392 t, k0_off394 t, k0_off396 t]
  sa := ![k0_off398 t 2#32, k0_off399 t, k0_off400 t, k0_off401 t, k0_off402 t, k0_off403 t, k0_off404 t, k0_off405 t]
  sb := ![k0_off406 t, k0_off384 t, k0_off386 t, k0_off388 t, k0_off390 t, k0_off392 t, k0_off394 t, k0_off396 t]
  hla := all8 (k0_off358_inb t 1) (k0_off368_inb t) (k0_off370_inb t) (k0_off372_inb t) (k0_off374_inb t) (k0_off376_inb t) (k0_off378_inb t) (k0_off380_inb t)
  hlb := all8 (k0_off382_inb t) (k0_off384_inb t) (k0_off386_inb t) (k0_off388_inb t) (k0_off390_inb t) (k0_off392_inb t) (k0_off394_inb t) (k0_off396_inb t)
  hsa := all8 (k0_off398_inb t 0) (k0_off399_inb t) (k0_off400_inb t) (k0_off401_inb t) (k0_off402_inb t) (k0_off403_inb t) (k0_off404_inb t) (k0_off405_inb t)
  hsb := all8 (k0_off406_inb t) (k0_off384_inb t) (k0_off386_inb t) (k0_off388_inb t) (k0_off390_inb t) (k0_off392_inb t) (k0_off394_inb t) (k0_off396_inb t)
  ca := k0_chk19
  cb := k0_chk20
  da := k0_chk19.dec
  db := k0_chk20.dec
  pa := ![k0_off367, k0_off369, k0_off371, k0_off373, k0_off375, k0_off377, k0_off379, k0_off381]
  pb := ![k0_off383, k0_off385, k0_off387, k0_off389, k0_off391, k0_off393, k0_off395, k0_off397]
  hpa := fun v h => all8 (k0_off367_inb v h) (k0_off369_inb v h) (k0_off371_inb v h) (k0_off373_inb v h) (k0_off375_inb v h) (k0_off377_inb v h) (k0_off379_inb v h) (k0_off381_inb v h)
  hpb := fun v h => all8 (k0_off383_inb v h) (k0_off385_inb v h) (k0_off387_inb v h) (k0_off389_inb v h) (k0_off391_inb v h) (k0_off393_inb v h) (k0_off395_inb v h) (k0_off397_inb v h)

theorem pairAt2_1_ok : ∀ t, (pairAt2_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_2 (t : Fin k0_t1_loop.trips) : PairAt where
  la := ![k0_off398 t 4#32, k0_off408 t, k0_off410 t, k0_off412 t, k0_off414 t, k0_off416 t, k0_off418 t, k0_off420 t]
  lb := ![k0_off422 t, k0_off424 t, k0_off426 t, k0_off428 t, k0_off430 t, k0_off432 t, k0_off434 t, k0_off436 t]
  sa := ![k0_off438 t 4#32, k0_off439 t, k0_off440 t, k0_off441 t, k0_off442 t, k0_off443 t, k0_off444 t, k0_off445 t]
  sb := ![k0_off446 t, k0_off424 t, k0_off426 t, k0_off428 t, k0_off430 t, k0_off432 t, k0_off434 t, k0_off436 t]
  hla := all8 (k0_off398_inb t 1) (k0_off408_inb t) (k0_off410_inb t) (k0_off412_inb t) (k0_off414_inb t) (k0_off416_inb t) (k0_off418_inb t) (k0_off420_inb t)
  hlb := all8 (k0_off422_inb t) (k0_off424_inb t) (k0_off426_inb t) (k0_off428_inb t) (k0_off430_inb t) (k0_off432_inb t) (k0_off434_inb t) (k0_off436_inb t)
  hsa := all8 (k0_off438_inb t 0) (k0_off439_inb t) (k0_off440_inb t) (k0_off441_inb t) (k0_off442_inb t) (k0_off443_inb t) (k0_off444_inb t) (k0_off445_inb t)
  hsb := all8 (k0_off446_inb t) (k0_off424_inb t) (k0_off426_inb t) (k0_off428_inb t) (k0_off430_inb t) (k0_off432_inb t) (k0_off434_inb t) (k0_off436_inb t)
  ca := k0_chk21
  cb := k0_chk22
  da := k0_chk21.dec
  db := k0_chk22.dec
  pa := ![k0_off407, k0_off409, k0_off411, k0_off413, k0_off415, k0_off417, k0_off419, k0_off421]
  pb := ![k0_off423, k0_off425, k0_off427, k0_off429, k0_off431, k0_off433, k0_off435, k0_off437]
  hpa := fun v h => all8 (k0_off407_inb v h) (k0_off409_inb v h) (k0_off411_inb v h) (k0_off413_inb v h) (k0_off415_inb v h) (k0_off417_inb v h) (k0_off419_inb v h) (k0_off421_inb v h)
  hpb := fun v h => all8 (k0_off423_inb v h) (k0_off425_inb v h) (k0_off427_inb v h) (k0_off429_inb v h) (k0_off431_inb v h) (k0_off433_inb v h) (k0_off435_inb v h) (k0_off437_inb v h)

theorem pairAt2_2_ok : ∀ t, (pairAt2_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_3 (t : Fin k0_t1_loop.trips) : PairAt where
  la := ![k0_off438 t 6#32, k0_off448 t, k0_off450 t, k0_off452 t, k0_off454 t, k0_off456 t, k0_off458 t, k0_off460 t]
  lb := ![k0_off462 t, k0_off464 t, k0_off466 t, k0_off468 t, k0_off470 t, k0_off472 t, k0_off474 t, k0_off476 t]
  sa := ![k0_off478 t 6#32, k0_off479 t, k0_off480 t, k0_off481 t, k0_off482 t, k0_off483 t, k0_off484 t, k0_off485 t]
  sb := ![k0_off486 t, k0_off464 t, k0_off466 t, k0_off468 t, k0_off470 t, k0_off472 t, k0_off474 t, k0_off476 t]
  hla := all8 (k0_off438_inb t 1) (k0_off448_inb t) (k0_off450_inb t) (k0_off452_inb t) (k0_off454_inb t) (k0_off456_inb t) (k0_off458_inb t) (k0_off460_inb t)
  hlb := all8 (k0_off462_inb t) (k0_off464_inb t) (k0_off466_inb t) (k0_off468_inb t) (k0_off470_inb t) (k0_off472_inb t) (k0_off474_inb t) (k0_off476_inb t)
  hsa := all8 (k0_off478_inb t 0) (k0_off479_inb t) (k0_off480_inb t) (k0_off481_inb t) (k0_off482_inb t) (k0_off483_inb t) (k0_off484_inb t) (k0_off485_inb t)
  hsb := all8 (k0_off486_inb t) (k0_off464_inb t) (k0_off466_inb t) (k0_off468_inb t) (k0_off470_inb t) (k0_off472_inb t) (k0_off474_inb t) (k0_off476_inb t)
  ca := k0_chk23
  cb := k0_chk24
  da := k0_chk23.dec
  db := k0_chk24.dec
  pa := ![k0_off447, k0_off449, k0_off451, k0_off453, k0_off455, k0_off457, k0_off459, k0_off461]
  pb := ![k0_off463, k0_off465, k0_off467, k0_off469, k0_off471, k0_off473, k0_off475, k0_off477]
  hpa := fun v h => all8 (k0_off447_inb v h) (k0_off449_inb v h) (k0_off451_inb v h) (k0_off453_inb v h) (k0_off455_inb v h) (k0_off457_inb v h) (k0_off459_inb v h) (k0_off461_inb v h)
  hpb := fun v h => all8 (k0_off463_inb v h) (k0_off465_inb v h) (k0_off467_inb v h) (k0_off469_inb v h) (k0_off471_inb v h) (k0_off473_inb v h) (k0_off475_inb v h) (k0_off477_inb v h)

theorem pairAt2_3_ok : ∀ t, (pairAt2_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_4 (t : Fin k0_t1_loop.trips) : PairAt where
  la := ![k0_off478 t 8#32, k0_off488 t, k0_off490 t, k0_off492 t, k0_off494 t, k0_off496 t, k0_off498 t, k0_off500 t]
  lb := ![k0_off502 t, k0_off504 t, k0_off506 t, k0_off508 t, k0_off510 t, k0_off512 t, k0_off514 t, k0_off516 t]
  sa := ![k0_off518 t 8#32, k0_off519 t, k0_off520 t, k0_off521 t, k0_off522 t, k0_off523 t, k0_off524 t, k0_off525 t]
  sb := ![k0_off526 t, k0_off504 t, k0_off506 t, k0_off508 t, k0_off510 t, k0_off512 t, k0_off514 t, k0_off516 t]
  hla := all8 (k0_off478_inb t 1) (k0_off488_inb t) (k0_off490_inb t) (k0_off492_inb t) (k0_off494_inb t) (k0_off496_inb t) (k0_off498_inb t) (k0_off500_inb t)
  hlb := all8 (k0_off502_inb t) (k0_off504_inb t) (k0_off506_inb t) (k0_off508_inb t) (k0_off510_inb t) (k0_off512_inb t) (k0_off514_inb t) (k0_off516_inb t)
  hsa := all8 (k0_off518_inb t 0) (k0_off519_inb t) (k0_off520_inb t) (k0_off521_inb t) (k0_off522_inb t) (k0_off523_inb t) (k0_off524_inb t) (k0_off525_inb t)
  hsb := all8 (k0_off526_inb t) (k0_off504_inb t) (k0_off506_inb t) (k0_off508_inb t) (k0_off510_inb t) (k0_off512_inb t) (k0_off514_inb t) (k0_off516_inb t)
  ca := k0_chk25
  cb := k0_chk26
  da := k0_chk25.dec
  db := k0_chk26.dec
  pa := ![k0_off487, k0_off489, k0_off491, k0_off493, k0_off495, k0_off497, k0_off499, k0_off501]
  pb := ![k0_off503, k0_off505, k0_off507, k0_off509, k0_off511, k0_off513, k0_off515, k0_off517]
  hpa := fun v h => all8 (k0_off487_inb v h) (k0_off489_inb v h) (k0_off491_inb v h) (k0_off493_inb v h) (k0_off495_inb v h) (k0_off497_inb v h) (k0_off499_inb v h) (k0_off501_inb v h)
  hpb := fun v h => all8 (k0_off503_inb v h) (k0_off505_inb v h) (k0_off507_inb v h) (k0_off509_inb v h) (k0_off511_inb v h) (k0_off513_inb v h) (k0_off515_inb v h) (k0_off517_inb v h)

theorem pairAt2_4_ok : ∀ t, (pairAt2_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_5 (t : Fin k0_t1_loop.trips) : PairAt where
  la := ![k0_off518 t 10#32, k0_off528 t, k0_off530 t, k0_off532 t, k0_off534 t, k0_off536 t, k0_off538 t, k0_off540 t]
  lb := ![k0_off542 t, k0_off544 t, k0_off546 t, k0_off548 t, k0_off550 t, k0_off552 t, k0_off554 t, k0_off556 t]
  sa := ![k0_off558 t 10#32, k0_off559 t, k0_off560 t, k0_off561 t, k0_off562 t, k0_off563 t, k0_off564 t, k0_off565 t]
  sb := ![k0_off566 t, k0_off544 t, k0_off546 t, k0_off548 t, k0_off550 t, k0_off552 t, k0_off554 t, k0_off556 t]
  hla := all8 (k0_off518_inb t 1) (k0_off528_inb t) (k0_off530_inb t) (k0_off532_inb t) (k0_off534_inb t) (k0_off536_inb t) (k0_off538_inb t) (k0_off540_inb t)
  hlb := all8 (k0_off542_inb t) (k0_off544_inb t) (k0_off546_inb t) (k0_off548_inb t) (k0_off550_inb t) (k0_off552_inb t) (k0_off554_inb t) (k0_off556_inb t)
  hsa := all8 (k0_off558_inb t 0) (k0_off559_inb t) (k0_off560_inb t) (k0_off561_inb t) (k0_off562_inb t) (k0_off563_inb t) (k0_off564_inb t) (k0_off565_inb t)
  hsb := all8 (k0_off566_inb t) (k0_off544_inb t) (k0_off546_inb t) (k0_off548_inb t) (k0_off550_inb t) (k0_off552_inb t) (k0_off554_inb t) (k0_off556_inb t)
  ca := k0_chk27
  cb := k0_chk28
  da := k0_chk27.dec
  db := k0_chk28.dec
  pa := ![k0_off527, k0_off529, k0_off531, k0_off533, k0_off535, k0_off537, k0_off539, k0_off541]
  pb := ![k0_off543, k0_off545, k0_off547, k0_off549, k0_off551, k0_off553, k0_off555, k0_off557]
  hpa := fun v h => all8 (k0_off527_inb v h) (k0_off529_inb v h) (k0_off531_inb v h) (k0_off533_inb v h) (k0_off535_inb v h) (k0_off537_inb v h) (k0_off539_inb v h) (k0_off541_inb v h)
  hpb := fun v h => all8 (k0_off543_inb v h) (k0_off545_inb v h) (k0_off547_inb v h) (k0_off549_inb v h) (k0_off551_inb v h) (k0_off553_inb v h) (k0_off555_inb v h) (k0_off557_inb v h)

theorem pairAt2_5_ok : ∀ t, (pairAt2_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_6 (t : Fin k0_t1_loop.trips) : PairAt where
  la := ![k0_off558 t 12#32, k0_off568 t, k0_off570 t, k0_off572 t, k0_off574 t, k0_off576 t, k0_off578 t, k0_off580 t]
  lb := ![k0_off582 t, k0_off584 t, k0_off586 t, k0_off588 t, k0_off590 t, k0_off592 t, k0_off594 t, k0_off596 t]
  sa := ![k0_off598 t 12#32, k0_off599 t, k0_off600 t, k0_off601 t, k0_off602 t, k0_off603 t, k0_off604 t, k0_off605 t]
  sb := ![k0_off606 t, k0_off584 t, k0_off586 t, k0_off588 t, k0_off590 t, k0_off592 t, k0_off594 t, k0_off596 t]
  hla := all8 (k0_off558_inb t 1) (k0_off568_inb t) (k0_off570_inb t) (k0_off572_inb t) (k0_off574_inb t) (k0_off576_inb t) (k0_off578_inb t) (k0_off580_inb t)
  hlb := all8 (k0_off582_inb t) (k0_off584_inb t) (k0_off586_inb t) (k0_off588_inb t) (k0_off590_inb t) (k0_off592_inb t) (k0_off594_inb t) (k0_off596_inb t)
  hsa := all8 (k0_off598_inb t 0) (k0_off599_inb t) (k0_off600_inb t) (k0_off601_inb t) (k0_off602_inb t) (k0_off603_inb t) (k0_off604_inb t) (k0_off605_inb t)
  hsb := all8 (k0_off606_inb t) (k0_off584_inb t) (k0_off586_inb t) (k0_off588_inb t) (k0_off590_inb t) (k0_off592_inb t) (k0_off594_inb t) (k0_off596_inb t)
  ca := k0_chk29
  cb := k0_chk30
  da := k0_chk29.dec
  db := k0_chk30.dec
  pa := ![k0_off567, k0_off569, k0_off571, k0_off573, k0_off575, k0_off577, k0_off579, k0_off581]
  pb := ![k0_off583, k0_off585, k0_off587, k0_off589, k0_off591, k0_off593, k0_off595, k0_off597]
  hpa := fun v h => all8 (k0_off567_inb v h) (k0_off569_inb v h) (k0_off571_inb v h) (k0_off573_inb v h) (k0_off575_inb v h) (k0_off577_inb v h) (k0_off579_inb v h) (k0_off581_inb v h)
  hpb := fun v h => all8 (k0_off583_inb v h) (k0_off585_inb v h) (k0_off587_inb v h) (k0_off589_inb v h) (k0_off591_inb v h) (k0_off593_inb v h) (k0_off595_inb v h) (k0_off597_inb v h)

theorem pairAt2_6_ok : ∀ t, (pairAt2_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt2_7 (t : Fin k0_t1_loop.trips) : PairAt where
  la := ![k0_off598 t 14#32, k0_off608 t, k0_off610 t, k0_off612 t, k0_off614 t, k0_off616 t, k0_off618 t, k0_off620 t]
  lb := ![k0_off622 t, k0_off624 t, k0_off626 t, k0_off628 t, k0_off630 t, k0_off632 t, k0_off634 t, k0_off636 t]
  sa := ![k0_off638 t, k0_off639 t, k0_off640 t, k0_off641 t, k0_off642 t, k0_off643 t, k0_off644 t, k0_off645 t]
  sb := ![k0_off646 t, k0_off624 t, k0_off626 t, k0_off628 t, k0_off630 t, k0_off632 t, k0_off634 t, k0_off636 t]
  hla := all8 (k0_off598_inb t 1) (k0_off608_inb t) (k0_off610_inb t) (k0_off612_inb t) (k0_off614_inb t) (k0_off616_inb t) (k0_off618_inb t) (k0_off620_inb t)
  hlb := all8 (k0_off622_inb t) (k0_off624_inb t) (k0_off626_inb t) (k0_off628_inb t) (k0_off630_inb t) (k0_off632_inb t) (k0_off634_inb t) (k0_off636_inb t)
  hsa := all8 (k0_off638_inb t) (k0_off639_inb t) (k0_off640_inb t) (k0_off641_inb t) (k0_off642_inb t) (k0_off643_inb t) (k0_off644_inb t) (k0_off645_inb t)
  hsb := all8 (k0_off646_inb t) (k0_off624_inb t) (k0_off626_inb t) (k0_off628_inb t) (k0_off630_inb t) (k0_off632_inb t) (k0_off634_inb t) (k0_off636_inb t)
  ca := k0_chk31
  cb := k0_chk32
  da := k0_chk31.dec
  db := k0_chk32.dec
  pa := ![k0_off607, k0_off609, k0_off611, k0_off613, k0_off615, k0_off617, k0_off619, k0_off621]
  pb := ![k0_off623, k0_off625, k0_off627, k0_off629, k0_off631, k0_off633, k0_off635, k0_off637]
  hpa := fun v h => all8 (k0_off607_inb v h) (k0_off609_inb v h) (k0_off611_inb v h) (k0_off613_inb v h) (k0_off615_inb v h) (k0_off617_inb v h) (k0_off619_inb v h) (k0_off621_inb v h)
  hpb := fun v h => all8 (k0_off623_inb v h) (k0_off625_inb v h) (k0_off627_inb v h) (k0_off629_inb v h) (k0_off631_inb v h) (k0_off633_inb v h) (k0_off635_inb v h) (k0_off637_inb v h)

theorem pairAt2_7_ok : ∀ t, (pairAt2_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt2 : CompAt := ⟨fun t => k0_off325 t, fun t => k0_off325_inb t,
  fun t => ![pairAt2_0 t, pairAt2_1 t, pairAt2_2 t, pairAt2_3 t, pairAt2_4 t, pairAt2_5 t, pairAt2_6 t, pairAt2_7 t]⟩

/-! ## Loop 4 -/

def pairAt4_0 (t : Fin k0_t1_loop.trips) : PairAt where
  la := ![k0_off650 t, k0_off652 t, k0_off654 t, k0_off656 t, k0_off658 t, k0_off660 t, k0_off662 t, k0_off664 t]
  lb := ![k0_off666 t, k0_off668 t, k0_off670 t, k0_off672 t, k0_off674 t, k0_off676 t, k0_off678 t, k0_off680 t]
  sa := ![k0_off682 t 0#32, k0_off683 t, k0_off684 t, k0_off685 t, k0_off686 t, k0_off687 t, k0_off688 t, k0_off689 t]
  sb := ![k0_off690 t, k0_off668 t, k0_off670 t, k0_off672 t, k0_off674 t, k0_off676 t, k0_off678 t, k0_off680 t]
  hla := all8 (k0_off650_inb t) (k0_off652_inb t) (k0_off654_inb t) (k0_off656_inb t) (k0_off658_inb t) (k0_off660_inb t) (k0_off662_inb t) (k0_off664_inb t)
  hlb := all8 (k0_off666_inb t) (k0_off668_inb t) (k0_off670_inb t) (k0_off672_inb t) (k0_off674_inb t) (k0_off676_inb t) (k0_off678_inb t) (k0_off680_inb t)
  hsa := all8 (k0_off682_inb t 0) (k0_off683_inb t) (k0_off684_inb t) (k0_off685_inb t) (k0_off686_inb t) (k0_off687_inb t) (k0_off688_inb t) (k0_off689_inb t)
  hsb := all8 (k0_off690_inb t) (k0_off668_inb t) (k0_off670_inb t) (k0_off672_inb t) (k0_off674_inb t) (k0_off676_inb t) (k0_off678_inb t) (k0_off680_inb t)
  ca := k0_chk33
  cb := k0_chk34
  da := k0_chk33.dec
  db := k0_chk34.dec
  pa := ![k0_off651, k0_off653, k0_off655, k0_off657, k0_off659, k0_off661, k0_off663, k0_off665]
  pb := ![k0_off667, k0_off669, k0_off671, k0_off673, k0_off675, k0_off677, k0_off679, k0_off681]
  hpa := fun v h => all8 (k0_off651_inb v h) (k0_off653_inb v h) (k0_off655_inb v h) (k0_off657_inb v h) (k0_off659_inb v h) (k0_off661_inb v h) (k0_off663_inb v h) (k0_off665_inb v h)
  hpb := fun v h => all8 (k0_off667_inb v h) (k0_off669_inb v h) (k0_off671_inb v h) (k0_off673_inb v h) (k0_off675_inb v h) (k0_off677_inb v h) (k0_off679_inb v h) (k0_off681_inb v h)

theorem pairAt4_0_ok : ∀ t, (pairAt4_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_1 (t : Fin k0_t1_loop.trips) : PairAt where
  la := ![k0_off682 t 2#32, k0_off692 t, k0_off694 t, k0_off696 t, k0_off698 t, k0_off700 t, k0_off702 t, k0_off704 t]
  lb := ![k0_off706 t, k0_off708 t, k0_off710 t, k0_off712 t, k0_off714 t, k0_off716 t, k0_off718 t, k0_off720 t]
  sa := ![k0_off722 t 2#32, k0_off723 t, k0_off724 t, k0_off725 t, k0_off726 t, k0_off727 t, k0_off728 t, k0_off729 t]
  sb := ![k0_off730 t, k0_off708 t, k0_off710 t, k0_off712 t, k0_off714 t, k0_off716 t, k0_off718 t, k0_off720 t]
  hla := all8 (k0_off682_inb t 1) (k0_off692_inb t) (k0_off694_inb t) (k0_off696_inb t) (k0_off698_inb t) (k0_off700_inb t) (k0_off702_inb t) (k0_off704_inb t)
  hlb := all8 (k0_off706_inb t) (k0_off708_inb t) (k0_off710_inb t) (k0_off712_inb t) (k0_off714_inb t) (k0_off716_inb t) (k0_off718_inb t) (k0_off720_inb t)
  hsa := all8 (k0_off722_inb t 0) (k0_off723_inb t) (k0_off724_inb t) (k0_off725_inb t) (k0_off726_inb t) (k0_off727_inb t) (k0_off728_inb t) (k0_off729_inb t)
  hsb := all8 (k0_off730_inb t) (k0_off708_inb t) (k0_off710_inb t) (k0_off712_inb t) (k0_off714_inb t) (k0_off716_inb t) (k0_off718_inb t) (k0_off720_inb t)
  ca := k0_chk35
  cb := k0_chk36
  da := k0_chk35.dec
  db := k0_chk36.dec
  pa := ![k0_off691, k0_off693, k0_off695, k0_off697, k0_off699, k0_off701, k0_off703, k0_off705]
  pb := ![k0_off707, k0_off709, k0_off711, k0_off713, k0_off715, k0_off717, k0_off719, k0_off721]
  hpa := fun v h => all8 (k0_off691_inb v h) (k0_off693_inb v h) (k0_off695_inb v h) (k0_off697_inb v h) (k0_off699_inb v h) (k0_off701_inb v h) (k0_off703_inb v h) (k0_off705_inb v h)
  hpb := fun v h => all8 (k0_off707_inb v h) (k0_off709_inb v h) (k0_off711_inb v h) (k0_off713_inb v h) (k0_off715_inb v h) (k0_off717_inb v h) (k0_off719_inb v h) (k0_off721_inb v h)

theorem pairAt4_1_ok : ∀ t, (pairAt4_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_2 (t : Fin k0_t1_loop.trips) : PairAt where
  la := ![k0_off722 t 4#32, k0_off732 t, k0_off734 t, k0_off736 t, k0_off738 t, k0_off740 t, k0_off742 t, k0_off744 t]
  lb := ![k0_off746 t, k0_off748 t, k0_off750 t, k0_off752 t, k0_off754 t, k0_off756 t, k0_off758 t, k0_off760 t]
  sa := ![k0_off762 t 4#32, k0_off763 t, k0_off764 t, k0_off765 t, k0_off766 t, k0_off767 t, k0_off768 t, k0_off769 t]
  sb := ![k0_off770 t, k0_off748 t, k0_off750 t, k0_off752 t, k0_off754 t, k0_off756 t, k0_off758 t, k0_off760 t]
  hla := all8 (k0_off722_inb t 1) (k0_off732_inb t) (k0_off734_inb t) (k0_off736_inb t) (k0_off738_inb t) (k0_off740_inb t) (k0_off742_inb t) (k0_off744_inb t)
  hlb := all8 (k0_off746_inb t) (k0_off748_inb t) (k0_off750_inb t) (k0_off752_inb t) (k0_off754_inb t) (k0_off756_inb t) (k0_off758_inb t) (k0_off760_inb t)
  hsa := all8 (k0_off762_inb t 0) (k0_off763_inb t) (k0_off764_inb t) (k0_off765_inb t) (k0_off766_inb t) (k0_off767_inb t) (k0_off768_inb t) (k0_off769_inb t)
  hsb := all8 (k0_off770_inb t) (k0_off748_inb t) (k0_off750_inb t) (k0_off752_inb t) (k0_off754_inb t) (k0_off756_inb t) (k0_off758_inb t) (k0_off760_inb t)
  ca := k0_chk37
  cb := k0_chk38
  da := k0_chk37.dec
  db := k0_chk38.dec
  pa := ![k0_off731, k0_off733, k0_off735, k0_off737, k0_off739, k0_off741, k0_off743, k0_off745]
  pb := ![k0_off747, k0_off749, k0_off751, k0_off753, k0_off755, k0_off757, k0_off759, k0_off761]
  hpa := fun v h => all8 (k0_off731_inb v h) (k0_off733_inb v h) (k0_off735_inb v h) (k0_off737_inb v h) (k0_off739_inb v h) (k0_off741_inb v h) (k0_off743_inb v h) (k0_off745_inb v h)
  hpb := fun v h => all8 (k0_off747_inb v h) (k0_off749_inb v h) (k0_off751_inb v h) (k0_off753_inb v h) (k0_off755_inb v h) (k0_off757_inb v h) (k0_off759_inb v h) (k0_off761_inb v h)

theorem pairAt4_2_ok : ∀ t, (pairAt4_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_3 (t : Fin k0_t1_loop.trips) : PairAt where
  la := ![k0_off762 t 6#32, k0_off772 t, k0_off774 t, k0_off776 t, k0_off778 t, k0_off780 t, k0_off782 t, k0_off784 t]
  lb := ![k0_off786 t, k0_off788 t, k0_off790 t, k0_off792 t, k0_off794 t, k0_off796 t, k0_off798 t, k0_off800 t]
  sa := ![k0_off802 t 6#32, k0_off803 t, k0_off804 t, k0_off805 t, k0_off806 t, k0_off807 t, k0_off808 t, k0_off809 t]
  sb := ![k0_off810 t, k0_off788 t, k0_off790 t, k0_off792 t, k0_off794 t, k0_off796 t, k0_off798 t, k0_off800 t]
  hla := all8 (k0_off762_inb t 1) (k0_off772_inb t) (k0_off774_inb t) (k0_off776_inb t) (k0_off778_inb t) (k0_off780_inb t) (k0_off782_inb t) (k0_off784_inb t)
  hlb := all8 (k0_off786_inb t) (k0_off788_inb t) (k0_off790_inb t) (k0_off792_inb t) (k0_off794_inb t) (k0_off796_inb t) (k0_off798_inb t) (k0_off800_inb t)
  hsa := all8 (k0_off802_inb t 0) (k0_off803_inb t) (k0_off804_inb t) (k0_off805_inb t) (k0_off806_inb t) (k0_off807_inb t) (k0_off808_inb t) (k0_off809_inb t)
  hsb := all8 (k0_off810_inb t) (k0_off788_inb t) (k0_off790_inb t) (k0_off792_inb t) (k0_off794_inb t) (k0_off796_inb t) (k0_off798_inb t) (k0_off800_inb t)
  ca := k0_chk39
  cb := k0_chk40
  da := k0_chk39.dec
  db := k0_chk40.dec
  pa := ![k0_off771, k0_off773, k0_off775, k0_off777, k0_off779, k0_off781, k0_off783, k0_off785]
  pb := ![k0_off787, k0_off789, k0_off791, k0_off793, k0_off795, k0_off797, k0_off799, k0_off801]
  hpa := fun v h => all8 (k0_off771_inb v h) (k0_off773_inb v h) (k0_off775_inb v h) (k0_off777_inb v h) (k0_off779_inb v h) (k0_off781_inb v h) (k0_off783_inb v h) (k0_off785_inb v h)
  hpb := fun v h => all8 (k0_off787_inb v h) (k0_off789_inb v h) (k0_off791_inb v h) (k0_off793_inb v h) (k0_off795_inb v h) (k0_off797_inb v h) (k0_off799_inb v h) (k0_off801_inb v h)

theorem pairAt4_3_ok : ∀ t, (pairAt4_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_4 (t : Fin k0_t1_loop.trips) : PairAt where
  la := ![k0_off802 t 8#32, k0_off812 t, k0_off814 t, k0_off816 t, k0_off818 t, k0_off820 t, k0_off822 t, k0_off824 t]
  lb := ![k0_off826 t, k0_off828 t, k0_off830 t, k0_off832 t, k0_off834 t, k0_off836 t, k0_off838 t, k0_off840 t]
  sa := ![k0_off842 t 8#32, k0_off843 t, k0_off844 t, k0_off845 t, k0_off846 t, k0_off847 t, k0_off848 t, k0_off849 t]
  sb := ![k0_off850 t, k0_off828 t, k0_off830 t, k0_off832 t, k0_off834 t, k0_off836 t, k0_off838 t, k0_off840 t]
  hla := all8 (k0_off802_inb t 1) (k0_off812_inb t) (k0_off814_inb t) (k0_off816_inb t) (k0_off818_inb t) (k0_off820_inb t) (k0_off822_inb t) (k0_off824_inb t)
  hlb := all8 (k0_off826_inb t) (k0_off828_inb t) (k0_off830_inb t) (k0_off832_inb t) (k0_off834_inb t) (k0_off836_inb t) (k0_off838_inb t) (k0_off840_inb t)
  hsa := all8 (k0_off842_inb t 0) (k0_off843_inb t) (k0_off844_inb t) (k0_off845_inb t) (k0_off846_inb t) (k0_off847_inb t) (k0_off848_inb t) (k0_off849_inb t)
  hsb := all8 (k0_off850_inb t) (k0_off828_inb t) (k0_off830_inb t) (k0_off832_inb t) (k0_off834_inb t) (k0_off836_inb t) (k0_off838_inb t) (k0_off840_inb t)
  ca := k0_chk41
  cb := k0_chk42
  da := k0_chk41.dec
  db := k0_chk42.dec
  pa := ![k0_off811, k0_off813, k0_off815, k0_off817, k0_off819, k0_off821, k0_off823, k0_off825]
  pb := ![k0_off827, k0_off829, k0_off831, k0_off833, k0_off835, k0_off837, k0_off839, k0_off841]
  hpa := fun v h => all8 (k0_off811_inb v h) (k0_off813_inb v h) (k0_off815_inb v h) (k0_off817_inb v h) (k0_off819_inb v h) (k0_off821_inb v h) (k0_off823_inb v h) (k0_off825_inb v h)
  hpb := fun v h => all8 (k0_off827_inb v h) (k0_off829_inb v h) (k0_off831_inb v h) (k0_off833_inb v h) (k0_off835_inb v h) (k0_off837_inb v h) (k0_off839_inb v h) (k0_off841_inb v h)

theorem pairAt4_4_ok : ∀ t, (pairAt4_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_5 (t : Fin k0_t1_loop.trips) : PairAt where
  la := ![k0_off842 t 10#32, k0_off852 t, k0_off854 t, k0_off856 t, k0_off858 t, k0_off860 t, k0_off862 t, k0_off864 t]
  lb := ![k0_off866 t, k0_off868 t, k0_off870 t, k0_off872 t, k0_off874 t, k0_off876 t, k0_off878 t, k0_off880 t]
  sa := ![k0_off882 t 10#32, k0_off883 t, k0_off884 t, k0_off885 t, k0_off886 t, k0_off887 t, k0_off888 t, k0_off889 t]
  sb := ![k0_off890 t, k0_off868 t, k0_off870 t, k0_off872 t, k0_off874 t, k0_off876 t, k0_off878 t, k0_off880 t]
  hla := all8 (k0_off842_inb t 1) (k0_off852_inb t) (k0_off854_inb t) (k0_off856_inb t) (k0_off858_inb t) (k0_off860_inb t) (k0_off862_inb t) (k0_off864_inb t)
  hlb := all8 (k0_off866_inb t) (k0_off868_inb t) (k0_off870_inb t) (k0_off872_inb t) (k0_off874_inb t) (k0_off876_inb t) (k0_off878_inb t) (k0_off880_inb t)
  hsa := all8 (k0_off882_inb t 0) (k0_off883_inb t) (k0_off884_inb t) (k0_off885_inb t) (k0_off886_inb t) (k0_off887_inb t) (k0_off888_inb t) (k0_off889_inb t)
  hsb := all8 (k0_off890_inb t) (k0_off868_inb t) (k0_off870_inb t) (k0_off872_inb t) (k0_off874_inb t) (k0_off876_inb t) (k0_off878_inb t) (k0_off880_inb t)
  ca := k0_chk43
  cb := k0_chk44
  da := k0_chk43.dec
  db := k0_chk44.dec
  pa := ![k0_off851, k0_off853, k0_off855, k0_off857, k0_off859, k0_off861, k0_off863, k0_off865]
  pb := ![k0_off867, k0_off869, k0_off871, k0_off873, k0_off875, k0_off877, k0_off879, k0_off881]
  hpa := fun v h => all8 (k0_off851_inb v h) (k0_off853_inb v h) (k0_off855_inb v h) (k0_off857_inb v h) (k0_off859_inb v h) (k0_off861_inb v h) (k0_off863_inb v h) (k0_off865_inb v h)
  hpb := fun v h => all8 (k0_off867_inb v h) (k0_off869_inb v h) (k0_off871_inb v h) (k0_off873_inb v h) (k0_off875_inb v h) (k0_off877_inb v h) (k0_off879_inb v h) (k0_off881_inb v h)

theorem pairAt4_5_ok : ∀ t, (pairAt4_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_6 (t : Fin k0_t1_loop.trips) : PairAt where
  la := ![k0_off882 t 12#32, k0_off892 t, k0_off894 t, k0_off896 t, k0_off898 t, k0_off900 t, k0_off902 t, k0_off904 t]
  lb := ![k0_off906 t, k0_off908 t, k0_off910 t, k0_off912 t, k0_off914 t, k0_off916 t, k0_off918 t, k0_off920 t]
  sa := ![k0_off922 t 12#32, k0_off923 t, k0_off924 t, k0_off925 t, k0_off926 t, k0_off927 t, k0_off928 t, k0_off929 t]
  sb := ![k0_off930 t, k0_off908 t, k0_off910 t, k0_off912 t, k0_off914 t, k0_off916 t, k0_off918 t, k0_off920 t]
  hla := all8 (k0_off882_inb t 1) (k0_off892_inb t) (k0_off894_inb t) (k0_off896_inb t) (k0_off898_inb t) (k0_off900_inb t) (k0_off902_inb t) (k0_off904_inb t)
  hlb := all8 (k0_off906_inb t) (k0_off908_inb t) (k0_off910_inb t) (k0_off912_inb t) (k0_off914_inb t) (k0_off916_inb t) (k0_off918_inb t) (k0_off920_inb t)
  hsa := all8 (k0_off922_inb t 0) (k0_off923_inb t) (k0_off924_inb t) (k0_off925_inb t) (k0_off926_inb t) (k0_off927_inb t) (k0_off928_inb t) (k0_off929_inb t)
  hsb := all8 (k0_off930_inb t) (k0_off908_inb t) (k0_off910_inb t) (k0_off912_inb t) (k0_off914_inb t) (k0_off916_inb t) (k0_off918_inb t) (k0_off920_inb t)
  ca := k0_chk45
  cb := k0_chk46
  da := k0_chk45.dec
  db := k0_chk46.dec
  pa := ![k0_off891, k0_off893, k0_off895, k0_off897, k0_off899, k0_off901, k0_off903, k0_off905]
  pb := ![k0_off907, k0_off909, k0_off911, k0_off913, k0_off915, k0_off917, k0_off919, k0_off921]
  hpa := fun v h => all8 (k0_off891_inb v h) (k0_off893_inb v h) (k0_off895_inb v h) (k0_off897_inb v h) (k0_off899_inb v h) (k0_off901_inb v h) (k0_off903_inb v h) (k0_off905_inb v h)
  hpb := fun v h => all8 (k0_off907_inb v h) (k0_off909_inb v h) (k0_off911_inb v h) (k0_off913_inb v h) (k0_off915_inb v h) (k0_off917_inb v h) (k0_off919_inb v h) (k0_off921_inb v h)

theorem pairAt4_6_ok : ∀ t, (pairAt4_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt4_7 (t : Fin k0_t1_loop.trips) : PairAt where
  la := ![k0_off922 t 14#32, k0_off932 t, k0_off934 t, k0_off936 t, k0_off938 t, k0_off940 t, k0_off942 t, k0_off944 t]
  lb := ![k0_off946 t, k0_off948 t, k0_off950 t, k0_off952 t, k0_off954 t, k0_off956 t, k0_off958 t, k0_off960 t]
  sa := ![k0_off962 t, k0_off963 t, k0_off964 t, k0_off965 t, k0_off966 t, k0_off967 t, k0_off968 t, k0_off969 t]
  sb := ![k0_off970 t, k0_off948 t, k0_off950 t, k0_off952 t, k0_off954 t, k0_off956 t, k0_off958 t, k0_off960 t]
  hla := all8 (k0_off922_inb t 1) (k0_off932_inb t) (k0_off934_inb t) (k0_off936_inb t) (k0_off938_inb t) (k0_off940_inb t) (k0_off942_inb t) (k0_off944_inb t)
  hlb := all8 (k0_off946_inb t) (k0_off948_inb t) (k0_off950_inb t) (k0_off952_inb t) (k0_off954_inb t) (k0_off956_inb t) (k0_off958_inb t) (k0_off960_inb t)
  hsa := all8 (k0_off962_inb t) (k0_off963_inb t) (k0_off964_inb t) (k0_off965_inb t) (k0_off966_inb t) (k0_off967_inb t) (k0_off968_inb t) (k0_off969_inb t)
  hsb := all8 (k0_off970_inb t) (k0_off948_inb t) (k0_off950_inb t) (k0_off952_inb t) (k0_off954_inb t) (k0_off956_inb t) (k0_off958_inb t) (k0_off960_inb t)
  ca := k0_chk47
  cb := k0_chk48
  da := k0_chk47.dec
  db := k0_chk48.dec
  pa := ![k0_off931, k0_off933, k0_off935, k0_off937, k0_off939, k0_off941, k0_off943, k0_off945]
  pb := ![k0_off947, k0_off949, k0_off951, k0_off953, k0_off955, k0_off957, k0_off959, k0_off961]
  hpa := fun v h => all8 (k0_off931_inb v h) (k0_off933_inb v h) (k0_off935_inb v h) (k0_off937_inb v h) (k0_off939_inb v h) (k0_off941_inb v h) (k0_off943_inb v h) (k0_off945_inb v h)
  hpb := fun v h => all8 (k0_off947_inb v h) (k0_off949_inb v h) (k0_off951_inb v h) (k0_off953_inb v h) (k0_off955_inb v h) (k0_off957_inb v h) (k0_off959_inb v h) (k0_off961_inb v h)

theorem pairAt4_7_ok : ∀ t, (pairAt4_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt4 (p : Fin k0_t3_loop.trips) : CompAt := ⟨fun t => k0_off649 p t, fun t => k0_off649_inb p t,
  fun t => ![pairAt4_0 t, pairAt4_1 t, pairAt4_2 t, pairAt4_3 t, pairAt4_4 t, pairAt4_5 t, pairAt4_6 t, pairAt4_7 t]⟩

/-! ## Loop 5 -/

def pairAt5_0 (t : Fin k0_t1_loop.trips) : PairAt where
  la := ![k0_off973 t, k0_off975 t, k0_off977 t, k0_off979 t, k0_off981 t, k0_off983 t, k0_off985 t, k0_off987 t]
  lb := ![k0_off989 t, k0_off991 t, k0_off993 t, k0_off995 t, k0_off997 t, k0_off999 t, k0_off1001 t, k0_off1003 t]
  sa := ![k0_off1005 t 0#32, k0_off1006 t, k0_off1007 t, k0_off1008 t, k0_off1009 t, k0_off1010 t, k0_off1011 t, k0_off1012 t]
  sb := ![k0_off1013 t, k0_off991 t, k0_off993 t, k0_off995 t, k0_off997 t, k0_off999 t, k0_off1001 t, k0_off1003 t]
  hla := all8 (k0_off973_inb t) (k0_off975_inb t) (k0_off977_inb t) (k0_off979_inb t) (k0_off981_inb t) (k0_off983_inb t) (k0_off985_inb t) (k0_off987_inb t)
  hlb := all8 (k0_off989_inb t) (k0_off991_inb t) (k0_off993_inb t) (k0_off995_inb t) (k0_off997_inb t) (k0_off999_inb t) (k0_off1001_inb t) (k0_off1003_inb t)
  hsa := all8 (k0_off1005_inb t 0) (k0_off1006_inb t) (k0_off1007_inb t) (k0_off1008_inb t) (k0_off1009_inb t) (k0_off1010_inb t) (k0_off1011_inb t) (k0_off1012_inb t)
  hsb := all8 (k0_off1013_inb t) (k0_off991_inb t) (k0_off993_inb t) (k0_off995_inb t) (k0_off997_inb t) (k0_off999_inb t) (k0_off1001_inb t) (k0_off1003_inb t)
  ca := k0_chk49
  cb := k0_chk50
  da := k0_chk49.dec
  db := k0_chk50.dec
  pa := ![k0_off974, k0_off976, k0_off978, k0_off980, k0_off982, k0_off984, k0_off986, k0_off988]
  pb := ![k0_off990, k0_off992, k0_off994, k0_off996, k0_off998, k0_off1000, k0_off1002, k0_off1004]
  hpa := fun v h => all8 (k0_off974_inb v h) (k0_off976_inb v h) (k0_off978_inb v h) (k0_off980_inb v h) (k0_off982_inb v h) (k0_off984_inb v h) (k0_off986_inb v h) (k0_off988_inb v h)
  hpb := fun v h => all8 (k0_off990_inb v h) (k0_off992_inb v h) (k0_off994_inb v h) (k0_off996_inb v h) (k0_off998_inb v h) (k0_off1000_inb v h) (k0_off1002_inb v h) (k0_off1004_inb v h)

theorem pairAt5_0_ok : ∀ t, (pairAt5_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_1 (t : Fin k0_t1_loop.trips) : PairAt where
  la := ![k0_off1005 t 2#32, k0_off1015 t, k0_off1017 t, k0_off1019 t, k0_off1021 t, k0_off1023 t, k0_off1025 t, k0_off1027 t]
  lb := ![k0_off1029 t, k0_off1031 t, k0_off1033 t, k0_off1035 t, k0_off1037 t, k0_off1039 t, k0_off1041 t, k0_off1043 t]
  sa := ![k0_off1045 t 2#32, k0_off1046 t, k0_off1047 t, k0_off1048 t, k0_off1049 t, k0_off1050 t, k0_off1051 t, k0_off1052 t]
  sb := ![k0_off1053 t, k0_off1031 t, k0_off1033 t, k0_off1035 t, k0_off1037 t, k0_off1039 t, k0_off1041 t, k0_off1043 t]
  hla := all8 (k0_off1005_inb t 1) (k0_off1015_inb t) (k0_off1017_inb t) (k0_off1019_inb t) (k0_off1021_inb t) (k0_off1023_inb t) (k0_off1025_inb t) (k0_off1027_inb t)
  hlb := all8 (k0_off1029_inb t) (k0_off1031_inb t) (k0_off1033_inb t) (k0_off1035_inb t) (k0_off1037_inb t) (k0_off1039_inb t) (k0_off1041_inb t) (k0_off1043_inb t)
  hsa := all8 (k0_off1045_inb t 0) (k0_off1046_inb t) (k0_off1047_inb t) (k0_off1048_inb t) (k0_off1049_inb t) (k0_off1050_inb t) (k0_off1051_inb t) (k0_off1052_inb t)
  hsb := all8 (k0_off1053_inb t) (k0_off1031_inb t) (k0_off1033_inb t) (k0_off1035_inb t) (k0_off1037_inb t) (k0_off1039_inb t) (k0_off1041_inb t) (k0_off1043_inb t)
  ca := k0_chk51
  cb := k0_chk52
  da := k0_chk51.dec
  db := k0_chk52.dec
  pa := ![k0_off1014, k0_off1016, k0_off1018, k0_off1020, k0_off1022, k0_off1024, k0_off1026, k0_off1028]
  pb := ![k0_off1030, k0_off1032, k0_off1034, k0_off1036, k0_off1038, k0_off1040, k0_off1042, k0_off1044]
  hpa := fun v h => all8 (k0_off1014_inb v h) (k0_off1016_inb v h) (k0_off1018_inb v h) (k0_off1020_inb v h) (k0_off1022_inb v h) (k0_off1024_inb v h) (k0_off1026_inb v h) (k0_off1028_inb v h)
  hpb := fun v h => all8 (k0_off1030_inb v h) (k0_off1032_inb v h) (k0_off1034_inb v h) (k0_off1036_inb v h) (k0_off1038_inb v h) (k0_off1040_inb v h) (k0_off1042_inb v h) (k0_off1044_inb v h)

theorem pairAt5_1_ok : ∀ t, (pairAt5_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_2 (t : Fin k0_t1_loop.trips) : PairAt where
  la := ![k0_off1045 t 4#32, k0_off1055 t, k0_off1057 t, k0_off1059 t, k0_off1061 t, k0_off1063 t, k0_off1065 t, k0_off1067 t]
  lb := ![k0_off1069 t, k0_off1071 t, k0_off1073 t, k0_off1075 t, k0_off1077 t, k0_off1079 t, k0_off1081 t, k0_off1083 t]
  sa := ![k0_off1085 t 4#32, k0_off1086 t, k0_off1087 t, k0_off1088 t, k0_off1089 t, k0_off1090 t, k0_off1091 t, k0_off1092 t]
  sb := ![k0_off1093 t, k0_off1071 t, k0_off1073 t, k0_off1075 t, k0_off1077 t, k0_off1079 t, k0_off1081 t, k0_off1083 t]
  hla := all8 (k0_off1045_inb t 1) (k0_off1055_inb t) (k0_off1057_inb t) (k0_off1059_inb t) (k0_off1061_inb t) (k0_off1063_inb t) (k0_off1065_inb t) (k0_off1067_inb t)
  hlb := all8 (k0_off1069_inb t) (k0_off1071_inb t) (k0_off1073_inb t) (k0_off1075_inb t) (k0_off1077_inb t) (k0_off1079_inb t) (k0_off1081_inb t) (k0_off1083_inb t)
  hsa := all8 (k0_off1085_inb t 0) (k0_off1086_inb t) (k0_off1087_inb t) (k0_off1088_inb t) (k0_off1089_inb t) (k0_off1090_inb t) (k0_off1091_inb t) (k0_off1092_inb t)
  hsb := all8 (k0_off1093_inb t) (k0_off1071_inb t) (k0_off1073_inb t) (k0_off1075_inb t) (k0_off1077_inb t) (k0_off1079_inb t) (k0_off1081_inb t) (k0_off1083_inb t)
  ca := k0_chk53
  cb := k0_chk54
  da := k0_chk53.dec
  db := k0_chk54.dec
  pa := ![k0_off1054, k0_off1056, k0_off1058, k0_off1060, k0_off1062, k0_off1064, k0_off1066, k0_off1068]
  pb := ![k0_off1070, k0_off1072, k0_off1074, k0_off1076, k0_off1078, k0_off1080, k0_off1082, k0_off1084]
  hpa := fun v h => all8 (k0_off1054_inb v h) (k0_off1056_inb v h) (k0_off1058_inb v h) (k0_off1060_inb v h) (k0_off1062_inb v h) (k0_off1064_inb v h) (k0_off1066_inb v h) (k0_off1068_inb v h)
  hpb := fun v h => all8 (k0_off1070_inb v h) (k0_off1072_inb v h) (k0_off1074_inb v h) (k0_off1076_inb v h) (k0_off1078_inb v h) (k0_off1080_inb v h) (k0_off1082_inb v h) (k0_off1084_inb v h)

theorem pairAt5_2_ok : ∀ t, (pairAt5_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_3 (t : Fin k0_t1_loop.trips) : PairAt where
  la := ![k0_off1085 t 6#32, k0_off1095 t, k0_off1097 t, k0_off1099 t, k0_off1101 t, k0_off1103 t, k0_off1105 t, k0_off1107 t]
  lb := ![k0_off1109 t, k0_off1111 t, k0_off1113 t, k0_off1115 t, k0_off1117 t, k0_off1119 t, k0_off1121 t, k0_off1123 t]
  sa := ![k0_off1125 t 6#32, k0_off1126 t, k0_off1127 t, k0_off1128 t, k0_off1129 t, k0_off1130 t, k0_off1131 t, k0_off1132 t]
  sb := ![k0_off1133 t, k0_off1111 t, k0_off1113 t, k0_off1115 t, k0_off1117 t, k0_off1119 t, k0_off1121 t, k0_off1123 t]
  hla := all8 (k0_off1085_inb t 1) (k0_off1095_inb t) (k0_off1097_inb t) (k0_off1099_inb t) (k0_off1101_inb t) (k0_off1103_inb t) (k0_off1105_inb t) (k0_off1107_inb t)
  hlb := all8 (k0_off1109_inb t) (k0_off1111_inb t) (k0_off1113_inb t) (k0_off1115_inb t) (k0_off1117_inb t) (k0_off1119_inb t) (k0_off1121_inb t) (k0_off1123_inb t)
  hsa := all8 (k0_off1125_inb t 0) (k0_off1126_inb t) (k0_off1127_inb t) (k0_off1128_inb t) (k0_off1129_inb t) (k0_off1130_inb t) (k0_off1131_inb t) (k0_off1132_inb t)
  hsb := all8 (k0_off1133_inb t) (k0_off1111_inb t) (k0_off1113_inb t) (k0_off1115_inb t) (k0_off1117_inb t) (k0_off1119_inb t) (k0_off1121_inb t) (k0_off1123_inb t)
  ca := k0_chk55
  cb := k0_chk56
  da := k0_chk55.dec
  db := k0_chk56.dec
  pa := ![k0_off1094, k0_off1096, k0_off1098, k0_off1100, k0_off1102, k0_off1104, k0_off1106, k0_off1108]
  pb := ![k0_off1110, k0_off1112, k0_off1114, k0_off1116, k0_off1118, k0_off1120, k0_off1122, k0_off1124]
  hpa := fun v h => all8 (k0_off1094_inb v h) (k0_off1096_inb v h) (k0_off1098_inb v h) (k0_off1100_inb v h) (k0_off1102_inb v h) (k0_off1104_inb v h) (k0_off1106_inb v h) (k0_off1108_inb v h)
  hpb := fun v h => all8 (k0_off1110_inb v h) (k0_off1112_inb v h) (k0_off1114_inb v h) (k0_off1116_inb v h) (k0_off1118_inb v h) (k0_off1120_inb v h) (k0_off1122_inb v h) (k0_off1124_inb v h)

theorem pairAt5_3_ok : ∀ t, (pairAt5_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_4 (t : Fin k0_t1_loop.trips) : PairAt where
  la := ![k0_off1125 t 8#32, k0_off1135 t, k0_off1137 t, k0_off1139 t, k0_off1141 t, k0_off1143 t, k0_off1145 t, k0_off1147 t]
  lb := ![k0_off1149 t, k0_off1151 t, k0_off1153 t, k0_off1155 t, k0_off1157 t, k0_off1159 t, k0_off1161 t, k0_off1163 t]
  sa := ![k0_off1165 t 8#32, k0_off1166 t, k0_off1167 t, k0_off1168 t, k0_off1169 t, k0_off1170 t, k0_off1171 t, k0_off1172 t]
  sb := ![k0_off1173 t, k0_off1151 t, k0_off1153 t, k0_off1155 t, k0_off1157 t, k0_off1159 t, k0_off1161 t, k0_off1163 t]
  hla := all8 (k0_off1125_inb t 1) (k0_off1135_inb t) (k0_off1137_inb t) (k0_off1139_inb t) (k0_off1141_inb t) (k0_off1143_inb t) (k0_off1145_inb t) (k0_off1147_inb t)
  hlb := all8 (k0_off1149_inb t) (k0_off1151_inb t) (k0_off1153_inb t) (k0_off1155_inb t) (k0_off1157_inb t) (k0_off1159_inb t) (k0_off1161_inb t) (k0_off1163_inb t)
  hsa := all8 (k0_off1165_inb t 0) (k0_off1166_inb t) (k0_off1167_inb t) (k0_off1168_inb t) (k0_off1169_inb t) (k0_off1170_inb t) (k0_off1171_inb t) (k0_off1172_inb t)
  hsb := all8 (k0_off1173_inb t) (k0_off1151_inb t) (k0_off1153_inb t) (k0_off1155_inb t) (k0_off1157_inb t) (k0_off1159_inb t) (k0_off1161_inb t) (k0_off1163_inb t)
  ca := k0_chk57
  cb := k0_chk58
  da := k0_chk57.dec
  db := k0_chk58.dec
  pa := ![k0_off1134, k0_off1136, k0_off1138, k0_off1140, k0_off1142, k0_off1144, k0_off1146, k0_off1148]
  pb := ![k0_off1150, k0_off1152, k0_off1154, k0_off1156, k0_off1158, k0_off1160, k0_off1162, k0_off1164]
  hpa := fun v h => all8 (k0_off1134_inb v h) (k0_off1136_inb v h) (k0_off1138_inb v h) (k0_off1140_inb v h) (k0_off1142_inb v h) (k0_off1144_inb v h) (k0_off1146_inb v h) (k0_off1148_inb v h)
  hpb := fun v h => all8 (k0_off1150_inb v h) (k0_off1152_inb v h) (k0_off1154_inb v h) (k0_off1156_inb v h) (k0_off1158_inb v h) (k0_off1160_inb v h) (k0_off1162_inb v h) (k0_off1164_inb v h)

theorem pairAt5_4_ok : ∀ t, (pairAt5_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_5 (t : Fin k0_t1_loop.trips) : PairAt where
  la := ![k0_off1165 t 10#32, k0_off1175 t, k0_off1177 t, k0_off1179 t, k0_off1181 t, k0_off1183 t, k0_off1185 t, k0_off1187 t]
  lb := ![k0_off1189 t, k0_off1191 t, k0_off1193 t, k0_off1195 t, k0_off1197 t, k0_off1199 t, k0_off1201 t, k0_off1203 t]
  sa := ![k0_off1205 t 10#32, k0_off1206 t, k0_off1207 t, k0_off1208 t, k0_off1209 t, k0_off1210 t, k0_off1211 t, k0_off1212 t]
  sb := ![k0_off1213 t, k0_off1191 t, k0_off1193 t, k0_off1195 t, k0_off1197 t, k0_off1199 t, k0_off1201 t, k0_off1203 t]
  hla := all8 (k0_off1165_inb t 1) (k0_off1175_inb t) (k0_off1177_inb t) (k0_off1179_inb t) (k0_off1181_inb t) (k0_off1183_inb t) (k0_off1185_inb t) (k0_off1187_inb t)
  hlb := all8 (k0_off1189_inb t) (k0_off1191_inb t) (k0_off1193_inb t) (k0_off1195_inb t) (k0_off1197_inb t) (k0_off1199_inb t) (k0_off1201_inb t) (k0_off1203_inb t)
  hsa := all8 (k0_off1205_inb t 0) (k0_off1206_inb t) (k0_off1207_inb t) (k0_off1208_inb t) (k0_off1209_inb t) (k0_off1210_inb t) (k0_off1211_inb t) (k0_off1212_inb t)
  hsb := all8 (k0_off1213_inb t) (k0_off1191_inb t) (k0_off1193_inb t) (k0_off1195_inb t) (k0_off1197_inb t) (k0_off1199_inb t) (k0_off1201_inb t) (k0_off1203_inb t)
  ca := k0_chk59
  cb := k0_chk60
  da := k0_chk59.dec
  db := k0_chk60.dec
  pa := ![k0_off1174, k0_off1176, k0_off1178, k0_off1180, k0_off1182, k0_off1184, k0_off1186, k0_off1188]
  pb := ![k0_off1190, k0_off1192, k0_off1194, k0_off1196, k0_off1198, k0_off1200, k0_off1202, k0_off1204]
  hpa := fun v h => all8 (k0_off1174_inb v h) (k0_off1176_inb v h) (k0_off1178_inb v h) (k0_off1180_inb v h) (k0_off1182_inb v h) (k0_off1184_inb v h) (k0_off1186_inb v h) (k0_off1188_inb v h)
  hpb := fun v h => all8 (k0_off1190_inb v h) (k0_off1192_inb v h) (k0_off1194_inb v h) (k0_off1196_inb v h) (k0_off1198_inb v h) (k0_off1200_inb v h) (k0_off1202_inb v h) (k0_off1204_inb v h)

theorem pairAt5_5_ok : ∀ t, (pairAt5_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_6 (t : Fin k0_t1_loop.trips) : PairAt where
  la := ![k0_off1205 t 12#32, k0_off1215 t, k0_off1217 t, k0_off1219 t, k0_off1221 t, k0_off1223 t, k0_off1225 t, k0_off1227 t]
  lb := ![k0_off1229 t, k0_off1231 t, k0_off1233 t, k0_off1235 t, k0_off1237 t, k0_off1239 t, k0_off1241 t, k0_off1243 t]
  sa := ![k0_off1245 t 12#32, k0_off1246 t, k0_off1247 t, k0_off1248 t, k0_off1249 t, k0_off1250 t, k0_off1251 t, k0_off1252 t]
  sb := ![k0_off1253 t, k0_off1231 t, k0_off1233 t, k0_off1235 t, k0_off1237 t, k0_off1239 t, k0_off1241 t, k0_off1243 t]
  hla := all8 (k0_off1205_inb t 1) (k0_off1215_inb t) (k0_off1217_inb t) (k0_off1219_inb t) (k0_off1221_inb t) (k0_off1223_inb t) (k0_off1225_inb t) (k0_off1227_inb t)
  hlb := all8 (k0_off1229_inb t) (k0_off1231_inb t) (k0_off1233_inb t) (k0_off1235_inb t) (k0_off1237_inb t) (k0_off1239_inb t) (k0_off1241_inb t) (k0_off1243_inb t)
  hsa := all8 (k0_off1245_inb t 0) (k0_off1246_inb t) (k0_off1247_inb t) (k0_off1248_inb t) (k0_off1249_inb t) (k0_off1250_inb t) (k0_off1251_inb t) (k0_off1252_inb t)
  hsb := all8 (k0_off1253_inb t) (k0_off1231_inb t) (k0_off1233_inb t) (k0_off1235_inb t) (k0_off1237_inb t) (k0_off1239_inb t) (k0_off1241_inb t) (k0_off1243_inb t)
  ca := k0_chk61
  cb := k0_chk62
  da := k0_chk61.dec
  db := k0_chk62.dec
  pa := ![k0_off1214, k0_off1216, k0_off1218, k0_off1220, k0_off1222, k0_off1224, k0_off1226, k0_off1228]
  pb := ![k0_off1230, k0_off1232, k0_off1234, k0_off1236, k0_off1238, k0_off1240, k0_off1242, k0_off1244]
  hpa := fun v h => all8 (k0_off1214_inb v h) (k0_off1216_inb v h) (k0_off1218_inb v h) (k0_off1220_inb v h) (k0_off1222_inb v h) (k0_off1224_inb v h) (k0_off1226_inb v h) (k0_off1228_inb v h)
  hpb := fun v h => all8 (k0_off1230_inb v h) (k0_off1232_inb v h) (k0_off1234_inb v h) (k0_off1236_inb v h) (k0_off1238_inb v h) (k0_off1240_inb v h) (k0_off1242_inb v h) (k0_off1244_inb v h)

theorem pairAt5_6_ok : ∀ t, (pairAt5_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt5_7 (t : Fin k0_t1_loop.trips) : PairAt where
  la := ![k0_off1245 t 14#32, k0_off1255 t, k0_off1257 t, k0_off1259 t, k0_off1261 t, k0_off1263 t, k0_off1265 t, k0_off1267 t]
  lb := ![k0_off1269 t, k0_off1271 t, k0_off1273 t, k0_off1275 t, k0_off1277 t, k0_off1279 t, k0_off1281 t, k0_off1283 t]
  sa := ![k0_off1285 t, k0_off1286 t, k0_off1287 t, k0_off1288 t, k0_off1289 t, k0_off1290 t, k0_off1291 t, k0_off1292 t]
  sb := ![k0_off1293 t, k0_off1271 t, k0_off1273 t, k0_off1275 t, k0_off1277 t, k0_off1279 t, k0_off1281 t, k0_off1283 t]
  hla := all8 (k0_off1245_inb t 1) (k0_off1255_inb t) (k0_off1257_inb t) (k0_off1259_inb t) (k0_off1261_inb t) (k0_off1263_inb t) (k0_off1265_inb t) (k0_off1267_inb t)
  hlb := all8 (k0_off1269_inb t) (k0_off1271_inb t) (k0_off1273_inb t) (k0_off1275_inb t) (k0_off1277_inb t) (k0_off1279_inb t) (k0_off1281_inb t) (k0_off1283_inb t)
  hsa := all8 (k0_off1285_inb t) (k0_off1286_inb t) (k0_off1287_inb t) (k0_off1288_inb t) (k0_off1289_inb t) (k0_off1290_inb t) (k0_off1291_inb t) (k0_off1292_inb t)
  hsb := all8 (k0_off1293_inb t) (k0_off1271_inb t) (k0_off1273_inb t) (k0_off1275_inb t) (k0_off1277_inb t) (k0_off1279_inb t) (k0_off1281_inb t) (k0_off1283_inb t)
  ca := k0_chk63
  cb := k0_chk64
  da := k0_chk63.dec
  db := k0_chk64.dec
  pa := ![k0_off1254, k0_off1256, k0_off1258, k0_off1260, k0_off1262, k0_off1264, k0_off1266, k0_off1268]
  pb := ![k0_off1270, k0_off1272, k0_off1274, k0_off1276, k0_off1278, k0_off1280, k0_off1282, k0_off1284]
  hpa := fun v h => all8 (k0_off1254_inb v h) (k0_off1256_inb v h) (k0_off1258_inb v h) (k0_off1260_inb v h) (k0_off1262_inb v h) (k0_off1264_inb v h) (k0_off1266_inb v h) (k0_off1268_inb v h)
  hpb := fun v h => all8 (k0_off1270_inb v h) (k0_off1272_inb v h) (k0_off1274_inb v h) (k0_off1276_inb v h) (k0_off1278_inb v h) (k0_off1280_inb v h) (k0_off1282_inb v h) (k0_off1284_inb v h)

theorem pairAt5_7_ok : ∀ t, (pairAt5_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt5 (p : Fin k0_t3_loop.trips) : CompAt := ⟨fun t => k0_off972 p t, fun t => k0_off972_inb p t,
  fun t => ![pairAt5_0 t, pairAt5_1 t, pairAt5_2 t, pairAt5_3 t, pairAt5_4 t, pairAt5_5 t, pairAt5_6 t, pairAt5_7 t]⟩

end Cert.Proof
-- ==== Proof.Loops.lean ====
module

public import proofs.«01_k».proof.Proof.Loops1

@[expose] public section

noncomputable section

namespace Cert.Proof

open Cert.KernelIdeal Cert.KernelIdeal.Gen
open Idealize.ShloMosaic Idealize.SL.Sem

variable {F : FTy → Type} [FloatOps F]

/-! ## Loop 6 -/

def pairAt6_0 (t : Fin k0_t1_loop.trips) : PairAt where
  la := ![k0_off1295 t, k0_off1297 t, k0_off1299 t, k0_off1301 t, k0_off1303 t, k0_off1305 t, k0_off1307 t, k0_off1309 t]
  lb := ![k0_off1311 t, k0_off1313 t, k0_off1315 t, k0_off1317 t, k0_off1319 t, k0_off1321 t, k0_off1323 t, k0_off1325 t]
  sa := ![k0_off1327 t 0#32, k0_off1328 t, k0_off1329 t, k0_off1330 t, k0_off1331 t, k0_off1332 t, k0_off1333 t, k0_off1334 t]
  sb := ![k0_off1335 t, k0_off1313 t, k0_off1315 t, k0_off1317 t, k0_off1319 t, k0_off1321 t, k0_off1323 t, k0_off1325 t]
  hla := all8 (k0_off1295_inb t) (k0_off1297_inb t) (k0_off1299_inb t) (k0_off1301_inb t) (k0_off1303_inb t) (k0_off1305_inb t) (k0_off1307_inb t) (k0_off1309_inb t)
  hlb := all8 (k0_off1311_inb t) (k0_off1313_inb t) (k0_off1315_inb t) (k0_off1317_inb t) (k0_off1319_inb t) (k0_off1321_inb t) (k0_off1323_inb t) (k0_off1325_inb t)
  hsa := all8 (k0_off1327_inb t 0) (k0_off1328_inb t) (k0_off1329_inb t) (k0_off1330_inb t) (k0_off1331_inb t) (k0_off1332_inb t) (k0_off1333_inb t) (k0_off1334_inb t)
  hsb := all8 (k0_off1335_inb t) (k0_off1313_inb t) (k0_off1315_inb t) (k0_off1317_inb t) (k0_off1319_inb t) (k0_off1321_inb t) (k0_off1323_inb t) (k0_off1325_inb t)
  ca := k0_chk65
  cb := k0_chk66
  da := k0_chk65.dec
  db := k0_chk66.dec
  pa := ![k0_off1296, k0_off1298, k0_off1300, k0_off1302, k0_off1304, k0_off1306, k0_off1308, k0_off1310]
  pb := ![k0_off1312, k0_off1314, k0_off1316, k0_off1318, k0_off1320, k0_off1322, k0_off1324, k0_off1326]
  hpa := fun v h => all8 (k0_off1296_inb v h) (k0_off1298_inb v h) (k0_off1300_inb v h) (k0_off1302_inb v h) (k0_off1304_inb v h) (k0_off1306_inb v h) (k0_off1308_inb v h) (k0_off1310_inb v h)
  hpb := fun v h => all8 (k0_off1312_inb v h) (k0_off1314_inb v h) (k0_off1316_inb v h) (k0_off1318_inb v h) (k0_off1320_inb v h) (k0_off1322_inb v h) (k0_off1324_inb v h) (k0_off1326_inb v h)

theorem pairAt6_0_ok : ∀ t, (pairAt6_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_1 (t : Fin k0_t1_loop.trips) : PairAt where
  la := ![k0_off1327 t 2#32, k0_off1337 t, k0_off1339 t, k0_off1341 t, k0_off1343 t, k0_off1345 t, k0_off1347 t, k0_off1349 t]
  lb := ![k0_off1351 t, k0_off1353 t, k0_off1355 t, k0_off1357 t, k0_off1359 t, k0_off1361 t, k0_off1363 t, k0_off1365 t]
  sa := ![k0_off1367 t 2#32, k0_off1368 t, k0_off1369 t, k0_off1370 t, k0_off1371 t, k0_off1372 t, k0_off1373 t, k0_off1374 t]
  sb := ![k0_off1375 t, k0_off1353 t, k0_off1355 t, k0_off1357 t, k0_off1359 t, k0_off1361 t, k0_off1363 t, k0_off1365 t]
  hla := all8 (k0_off1327_inb t 1) (k0_off1337_inb t) (k0_off1339_inb t) (k0_off1341_inb t) (k0_off1343_inb t) (k0_off1345_inb t) (k0_off1347_inb t) (k0_off1349_inb t)
  hlb := all8 (k0_off1351_inb t) (k0_off1353_inb t) (k0_off1355_inb t) (k0_off1357_inb t) (k0_off1359_inb t) (k0_off1361_inb t) (k0_off1363_inb t) (k0_off1365_inb t)
  hsa := all8 (k0_off1367_inb t 0) (k0_off1368_inb t) (k0_off1369_inb t) (k0_off1370_inb t) (k0_off1371_inb t) (k0_off1372_inb t) (k0_off1373_inb t) (k0_off1374_inb t)
  hsb := all8 (k0_off1375_inb t) (k0_off1353_inb t) (k0_off1355_inb t) (k0_off1357_inb t) (k0_off1359_inb t) (k0_off1361_inb t) (k0_off1363_inb t) (k0_off1365_inb t)
  ca := k0_chk67
  cb := k0_chk68
  da := k0_chk67.dec
  db := k0_chk68.dec
  pa := ![k0_off1336, k0_off1338, k0_off1340, k0_off1342, k0_off1344, k0_off1346, k0_off1348, k0_off1350]
  pb := ![k0_off1352, k0_off1354, k0_off1356, k0_off1358, k0_off1360, k0_off1362, k0_off1364, k0_off1366]
  hpa := fun v h => all8 (k0_off1336_inb v h) (k0_off1338_inb v h) (k0_off1340_inb v h) (k0_off1342_inb v h) (k0_off1344_inb v h) (k0_off1346_inb v h) (k0_off1348_inb v h) (k0_off1350_inb v h)
  hpb := fun v h => all8 (k0_off1352_inb v h) (k0_off1354_inb v h) (k0_off1356_inb v h) (k0_off1358_inb v h) (k0_off1360_inb v h) (k0_off1362_inb v h) (k0_off1364_inb v h) (k0_off1366_inb v h)

theorem pairAt6_1_ok : ∀ t, (pairAt6_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_2 (t : Fin k0_t1_loop.trips) : PairAt where
  la := ![k0_off1367 t 4#32, k0_off1377 t, k0_off1379 t, k0_off1381 t, k0_off1383 t, k0_off1385 t, k0_off1387 t, k0_off1389 t]
  lb := ![k0_off1391 t, k0_off1393 t, k0_off1395 t, k0_off1397 t, k0_off1399 t, k0_off1401 t, k0_off1403 t, k0_off1405 t]
  sa := ![k0_off1407 t 4#32, k0_off1408 t, k0_off1409 t, k0_off1410 t, k0_off1411 t, k0_off1412 t, k0_off1413 t, k0_off1414 t]
  sb := ![k0_off1415 t, k0_off1393 t, k0_off1395 t, k0_off1397 t, k0_off1399 t, k0_off1401 t, k0_off1403 t, k0_off1405 t]
  hla := all8 (k0_off1367_inb t 1) (k0_off1377_inb t) (k0_off1379_inb t) (k0_off1381_inb t) (k0_off1383_inb t) (k0_off1385_inb t) (k0_off1387_inb t) (k0_off1389_inb t)
  hlb := all8 (k0_off1391_inb t) (k0_off1393_inb t) (k0_off1395_inb t) (k0_off1397_inb t) (k0_off1399_inb t) (k0_off1401_inb t) (k0_off1403_inb t) (k0_off1405_inb t)
  hsa := all8 (k0_off1407_inb t 0) (k0_off1408_inb t) (k0_off1409_inb t) (k0_off1410_inb t) (k0_off1411_inb t) (k0_off1412_inb t) (k0_off1413_inb t) (k0_off1414_inb t)
  hsb := all8 (k0_off1415_inb t) (k0_off1393_inb t) (k0_off1395_inb t) (k0_off1397_inb t) (k0_off1399_inb t) (k0_off1401_inb t) (k0_off1403_inb t) (k0_off1405_inb t)
  ca := k0_chk69
  cb := k0_chk70
  da := k0_chk69.dec
  db := k0_chk70.dec
  pa := ![k0_off1376, k0_off1378, k0_off1380, k0_off1382, k0_off1384, k0_off1386, k0_off1388, k0_off1390]
  pb := ![k0_off1392, k0_off1394, k0_off1396, k0_off1398, k0_off1400, k0_off1402, k0_off1404, k0_off1406]
  hpa := fun v h => all8 (k0_off1376_inb v h) (k0_off1378_inb v h) (k0_off1380_inb v h) (k0_off1382_inb v h) (k0_off1384_inb v h) (k0_off1386_inb v h) (k0_off1388_inb v h) (k0_off1390_inb v h)
  hpb := fun v h => all8 (k0_off1392_inb v h) (k0_off1394_inb v h) (k0_off1396_inb v h) (k0_off1398_inb v h) (k0_off1400_inb v h) (k0_off1402_inb v h) (k0_off1404_inb v h) (k0_off1406_inb v h)

theorem pairAt6_2_ok : ∀ t, (pairAt6_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_3 (t : Fin k0_t1_loop.trips) : PairAt where
  la := ![k0_off1407 t 6#32, k0_off1417 t, k0_off1419 t, k0_off1421 t, k0_off1423 t, k0_off1425 t, k0_off1427 t, k0_off1429 t]
  lb := ![k0_off1431 t, k0_off1433 t, k0_off1435 t, k0_off1437 t, k0_off1439 t, k0_off1441 t, k0_off1443 t, k0_off1445 t]
  sa := ![k0_off1447 t 6#32, k0_off1448 t, k0_off1449 t, k0_off1450 t, k0_off1451 t, k0_off1452 t, k0_off1453 t, k0_off1454 t]
  sb := ![k0_off1455 t, k0_off1433 t, k0_off1435 t, k0_off1437 t, k0_off1439 t, k0_off1441 t, k0_off1443 t, k0_off1445 t]
  hla := all8 (k0_off1407_inb t 1) (k0_off1417_inb t) (k0_off1419_inb t) (k0_off1421_inb t) (k0_off1423_inb t) (k0_off1425_inb t) (k0_off1427_inb t) (k0_off1429_inb t)
  hlb := all8 (k0_off1431_inb t) (k0_off1433_inb t) (k0_off1435_inb t) (k0_off1437_inb t) (k0_off1439_inb t) (k0_off1441_inb t) (k0_off1443_inb t) (k0_off1445_inb t)
  hsa := all8 (k0_off1447_inb t 0) (k0_off1448_inb t) (k0_off1449_inb t) (k0_off1450_inb t) (k0_off1451_inb t) (k0_off1452_inb t) (k0_off1453_inb t) (k0_off1454_inb t)
  hsb := all8 (k0_off1455_inb t) (k0_off1433_inb t) (k0_off1435_inb t) (k0_off1437_inb t) (k0_off1439_inb t) (k0_off1441_inb t) (k0_off1443_inb t) (k0_off1445_inb t)
  ca := k0_chk71
  cb := k0_chk72
  da := k0_chk71.dec
  db := k0_chk72.dec
  pa := ![k0_off1416, k0_off1418, k0_off1420, k0_off1422, k0_off1424, k0_off1426, k0_off1428, k0_off1430]
  pb := ![k0_off1432, k0_off1434, k0_off1436, k0_off1438, k0_off1440, k0_off1442, k0_off1444, k0_off1446]
  hpa := fun v h => all8 (k0_off1416_inb v h) (k0_off1418_inb v h) (k0_off1420_inb v h) (k0_off1422_inb v h) (k0_off1424_inb v h) (k0_off1426_inb v h) (k0_off1428_inb v h) (k0_off1430_inb v h)
  hpb := fun v h => all8 (k0_off1432_inb v h) (k0_off1434_inb v h) (k0_off1436_inb v h) (k0_off1438_inb v h) (k0_off1440_inb v h) (k0_off1442_inb v h) (k0_off1444_inb v h) (k0_off1446_inb v h)

theorem pairAt6_3_ok : ∀ t, (pairAt6_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_4 (t : Fin k0_t1_loop.trips) : PairAt where
  la := ![k0_off1447 t 8#32, k0_off1457 t, k0_off1459 t, k0_off1461 t, k0_off1463 t, k0_off1465 t, k0_off1467 t, k0_off1469 t]
  lb := ![k0_off1471 t, k0_off1473 t, k0_off1475 t, k0_off1477 t, k0_off1479 t, k0_off1481 t, k0_off1483 t, k0_off1485 t]
  sa := ![k0_off1487 t 8#32, k0_off1488 t, k0_off1489 t, k0_off1490 t, k0_off1491 t, k0_off1492 t, k0_off1493 t, k0_off1494 t]
  sb := ![k0_off1495 t, k0_off1473 t, k0_off1475 t, k0_off1477 t, k0_off1479 t, k0_off1481 t, k0_off1483 t, k0_off1485 t]
  hla := all8 (k0_off1447_inb t 1) (k0_off1457_inb t) (k0_off1459_inb t) (k0_off1461_inb t) (k0_off1463_inb t) (k0_off1465_inb t) (k0_off1467_inb t) (k0_off1469_inb t)
  hlb := all8 (k0_off1471_inb t) (k0_off1473_inb t) (k0_off1475_inb t) (k0_off1477_inb t) (k0_off1479_inb t) (k0_off1481_inb t) (k0_off1483_inb t) (k0_off1485_inb t)
  hsa := all8 (k0_off1487_inb t 0) (k0_off1488_inb t) (k0_off1489_inb t) (k0_off1490_inb t) (k0_off1491_inb t) (k0_off1492_inb t) (k0_off1493_inb t) (k0_off1494_inb t)
  hsb := all8 (k0_off1495_inb t) (k0_off1473_inb t) (k0_off1475_inb t) (k0_off1477_inb t) (k0_off1479_inb t) (k0_off1481_inb t) (k0_off1483_inb t) (k0_off1485_inb t)
  ca := k0_chk73
  cb := k0_chk74
  da := k0_chk73.dec
  db := k0_chk74.dec
  pa := ![k0_off1456, k0_off1458, k0_off1460, k0_off1462, k0_off1464, k0_off1466, k0_off1468, k0_off1470]
  pb := ![k0_off1472, k0_off1474, k0_off1476, k0_off1478, k0_off1480, k0_off1482, k0_off1484, k0_off1486]
  hpa := fun v h => all8 (k0_off1456_inb v h) (k0_off1458_inb v h) (k0_off1460_inb v h) (k0_off1462_inb v h) (k0_off1464_inb v h) (k0_off1466_inb v h) (k0_off1468_inb v h) (k0_off1470_inb v h)
  hpb := fun v h => all8 (k0_off1472_inb v h) (k0_off1474_inb v h) (k0_off1476_inb v h) (k0_off1478_inb v h) (k0_off1480_inb v h) (k0_off1482_inb v h) (k0_off1484_inb v h) (k0_off1486_inb v h)

theorem pairAt6_4_ok : ∀ t, (pairAt6_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_5 (t : Fin k0_t1_loop.trips) : PairAt where
  la := ![k0_off1487 t 10#32, k0_off1497 t, k0_off1499 t, k0_off1501 t, k0_off1503 t, k0_off1505 t, k0_off1507 t, k0_off1509 t]
  lb := ![k0_off1511 t, k0_off1513 t, k0_off1515 t, k0_off1517 t, k0_off1519 t, k0_off1521 t, k0_off1523 t, k0_off1525 t]
  sa := ![k0_off1527 t 10#32, k0_off1528 t, k0_off1529 t, k0_off1530 t, k0_off1531 t, k0_off1532 t, k0_off1533 t, k0_off1534 t]
  sb := ![k0_off1535 t, k0_off1513 t, k0_off1515 t, k0_off1517 t, k0_off1519 t, k0_off1521 t, k0_off1523 t, k0_off1525 t]
  hla := all8 (k0_off1487_inb t 1) (k0_off1497_inb t) (k0_off1499_inb t) (k0_off1501_inb t) (k0_off1503_inb t) (k0_off1505_inb t) (k0_off1507_inb t) (k0_off1509_inb t)
  hlb := all8 (k0_off1511_inb t) (k0_off1513_inb t) (k0_off1515_inb t) (k0_off1517_inb t) (k0_off1519_inb t) (k0_off1521_inb t) (k0_off1523_inb t) (k0_off1525_inb t)
  hsa := all8 (k0_off1527_inb t 0) (k0_off1528_inb t) (k0_off1529_inb t) (k0_off1530_inb t) (k0_off1531_inb t) (k0_off1532_inb t) (k0_off1533_inb t) (k0_off1534_inb t)
  hsb := all8 (k0_off1535_inb t) (k0_off1513_inb t) (k0_off1515_inb t) (k0_off1517_inb t) (k0_off1519_inb t) (k0_off1521_inb t) (k0_off1523_inb t) (k0_off1525_inb t)
  ca := k0_chk75
  cb := k0_chk76
  da := k0_chk75.dec
  db := k0_chk76.dec
  pa := ![k0_off1496, k0_off1498, k0_off1500, k0_off1502, k0_off1504, k0_off1506, k0_off1508, k0_off1510]
  pb := ![k0_off1512, k0_off1514, k0_off1516, k0_off1518, k0_off1520, k0_off1522, k0_off1524, k0_off1526]
  hpa := fun v h => all8 (k0_off1496_inb v h) (k0_off1498_inb v h) (k0_off1500_inb v h) (k0_off1502_inb v h) (k0_off1504_inb v h) (k0_off1506_inb v h) (k0_off1508_inb v h) (k0_off1510_inb v h)
  hpb := fun v h => all8 (k0_off1512_inb v h) (k0_off1514_inb v h) (k0_off1516_inb v h) (k0_off1518_inb v h) (k0_off1520_inb v h) (k0_off1522_inb v h) (k0_off1524_inb v h) (k0_off1526_inb v h)

theorem pairAt6_5_ok : ∀ t, (pairAt6_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_6 (t : Fin k0_t1_loop.trips) : PairAt where
  la := ![k0_off1527 t 12#32, k0_off1537 t, k0_off1539 t, k0_off1541 t, k0_off1543 t, k0_off1545 t, k0_off1547 t, k0_off1549 t]
  lb := ![k0_off1551 t, k0_off1553 t, k0_off1555 t, k0_off1557 t, k0_off1559 t, k0_off1561 t, k0_off1563 t, k0_off1565 t]
  sa := ![k0_off1567 t 12#32, k0_off1568 t, k0_off1569 t, k0_off1570 t, k0_off1571 t, k0_off1572 t, k0_off1573 t, k0_off1574 t]
  sb := ![k0_off1575 t, k0_off1553 t, k0_off1555 t, k0_off1557 t, k0_off1559 t, k0_off1561 t, k0_off1563 t, k0_off1565 t]
  hla := all8 (k0_off1527_inb t 1) (k0_off1537_inb t) (k0_off1539_inb t) (k0_off1541_inb t) (k0_off1543_inb t) (k0_off1545_inb t) (k0_off1547_inb t) (k0_off1549_inb t)
  hlb := all8 (k0_off1551_inb t) (k0_off1553_inb t) (k0_off1555_inb t) (k0_off1557_inb t) (k0_off1559_inb t) (k0_off1561_inb t) (k0_off1563_inb t) (k0_off1565_inb t)
  hsa := all8 (k0_off1567_inb t 0) (k0_off1568_inb t) (k0_off1569_inb t) (k0_off1570_inb t) (k0_off1571_inb t) (k0_off1572_inb t) (k0_off1573_inb t) (k0_off1574_inb t)
  hsb := all8 (k0_off1575_inb t) (k0_off1553_inb t) (k0_off1555_inb t) (k0_off1557_inb t) (k0_off1559_inb t) (k0_off1561_inb t) (k0_off1563_inb t) (k0_off1565_inb t)
  ca := k0_chk77
  cb := k0_chk78
  da := k0_chk77.dec
  db := k0_chk78.dec
  pa := ![k0_off1536, k0_off1538, k0_off1540, k0_off1542, k0_off1544, k0_off1546, k0_off1548, k0_off1550]
  pb := ![k0_off1552, k0_off1554, k0_off1556, k0_off1558, k0_off1560, k0_off1562, k0_off1564, k0_off1566]
  hpa := fun v h => all8 (k0_off1536_inb v h) (k0_off1538_inb v h) (k0_off1540_inb v h) (k0_off1542_inb v h) (k0_off1544_inb v h) (k0_off1546_inb v h) (k0_off1548_inb v h) (k0_off1550_inb v h)
  hpb := fun v h => all8 (k0_off1552_inb v h) (k0_off1554_inb v h) (k0_off1556_inb v h) (k0_off1558_inb v h) (k0_off1560_inb v h) (k0_off1562_inb v h) (k0_off1564_inb v h) (k0_off1566_inb v h)

theorem pairAt6_6_ok : ∀ t, (pairAt6_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt6_7 (t : Fin k0_t1_loop.trips) : PairAt where
  la := ![k0_off1567 t 14#32, k0_off1577 t, k0_off1579 t, k0_off1581 t, k0_off1583 t, k0_off1585 t, k0_off1587 t, k0_off1589 t]
  lb := ![k0_off1591 t, k0_off1593 t, k0_off1595 t, k0_off1597 t, k0_off1599 t, k0_off1601 t, k0_off1603 t, k0_off1605 t]
  sa := ![k0_off1607 t, k0_off1608 t, k0_off1609 t, k0_off1610 t, k0_off1611 t, k0_off1612 t, k0_off1613 t, k0_off1614 t]
  sb := ![k0_off1615 t, k0_off1593 t, k0_off1595 t, k0_off1597 t, k0_off1599 t, k0_off1601 t, k0_off1603 t, k0_off1605 t]
  hla := all8 (k0_off1567_inb t 1) (k0_off1577_inb t) (k0_off1579_inb t) (k0_off1581_inb t) (k0_off1583_inb t) (k0_off1585_inb t) (k0_off1587_inb t) (k0_off1589_inb t)
  hlb := all8 (k0_off1591_inb t) (k0_off1593_inb t) (k0_off1595_inb t) (k0_off1597_inb t) (k0_off1599_inb t) (k0_off1601_inb t) (k0_off1603_inb t) (k0_off1605_inb t)
  hsa := all8 (k0_off1607_inb t) (k0_off1608_inb t) (k0_off1609_inb t) (k0_off1610_inb t) (k0_off1611_inb t) (k0_off1612_inb t) (k0_off1613_inb t) (k0_off1614_inb t)
  hsb := all8 (k0_off1615_inb t) (k0_off1593_inb t) (k0_off1595_inb t) (k0_off1597_inb t) (k0_off1599_inb t) (k0_off1601_inb t) (k0_off1603_inb t) (k0_off1605_inb t)
  ca := k0_chk79
  cb := k0_chk80
  da := k0_chk79.dec
  db := k0_chk80.dec
  pa := ![k0_off1576, k0_off1578, k0_off1580, k0_off1582, k0_off1584, k0_off1586, k0_off1588, k0_off1590]
  pb := ![k0_off1592, k0_off1594, k0_off1596, k0_off1598, k0_off1600, k0_off1602, k0_off1604, k0_off1606]
  hpa := fun v h => all8 (k0_off1576_inb v h) (k0_off1578_inb v h) (k0_off1580_inb v h) (k0_off1582_inb v h) (k0_off1584_inb v h) (k0_off1586_inb v h) (k0_off1588_inb v h) (k0_off1590_inb v h)
  hpb := fun v h => all8 (k0_off1592_inb v h) (k0_off1594_inb v h) (k0_off1596_inb v h) (k0_off1598_inb v h) (k0_off1600_inb v h) (k0_off1602_inb v h) (k0_off1604_inb v h) (k0_off1606_inb v h)

theorem pairAt6_7_ok : ∀ t, (pairAt6_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt6 (p : Fin k0_t3_loop.trips) : CompAt := ⟨fun t => k0_off1294 p t, fun t => k0_off1294_inb p t,
  fun t => ![pairAt6_0 t, pairAt6_1 t, pairAt6_2 t, pairAt6_3 t, pairAt6_4 t, pairAt6_5 t, pairAt6_6 t, pairAt6_7 t]⟩

/-! ## Loop 7 -/

def pairAt7_0 (t : Fin k0_t1_loop.trips) : PairAt where
  la := ![k0_off1617 t, k0_off1619 t, k0_off1621 t, k0_off1623 t, k0_off1625 t, k0_off1627 t, k0_off1629 t, k0_off1631 t]
  lb := ![k0_off1633 t, k0_off1635 t, k0_off1637 t, k0_off1639 t, k0_off1641 t, k0_off1643 t, k0_off1645 t, k0_off1647 t]
  sa := ![k0_off1649 t 0#32, k0_off1650 t, k0_off1651 t, k0_off1652 t, k0_off1653 t, k0_off1654 t, k0_off1655 t, k0_off1656 t]
  sb := ![k0_off1657 t, k0_off1635 t, k0_off1637 t, k0_off1639 t, k0_off1641 t, k0_off1643 t, k0_off1645 t, k0_off1647 t]
  hla := all8 (k0_off1617_inb t) (k0_off1619_inb t) (k0_off1621_inb t) (k0_off1623_inb t) (k0_off1625_inb t) (k0_off1627_inb t) (k0_off1629_inb t) (k0_off1631_inb t)
  hlb := all8 (k0_off1633_inb t) (k0_off1635_inb t) (k0_off1637_inb t) (k0_off1639_inb t) (k0_off1641_inb t) (k0_off1643_inb t) (k0_off1645_inb t) (k0_off1647_inb t)
  hsa := all8 (k0_off1649_inb t 0) (k0_off1650_inb t) (k0_off1651_inb t) (k0_off1652_inb t) (k0_off1653_inb t) (k0_off1654_inb t) (k0_off1655_inb t) (k0_off1656_inb t)
  hsb := all8 (k0_off1657_inb t) (k0_off1635_inb t) (k0_off1637_inb t) (k0_off1639_inb t) (k0_off1641_inb t) (k0_off1643_inb t) (k0_off1645_inb t) (k0_off1647_inb t)
  ca := k0_chk81
  cb := k0_chk82
  da := k0_chk81.dec
  db := k0_chk82.dec
  pa := ![k0_off1618, k0_off1620, k0_off1622, k0_off1624, k0_off1626, k0_off1628, k0_off1630, k0_off1632]
  pb := ![k0_off1634, k0_off1636, k0_off1638, k0_off1640, k0_off1642, k0_off1644, k0_off1646, k0_off1648]
  hpa := fun v h => all8 (k0_off1618_inb v h) (k0_off1620_inb v h) (k0_off1622_inb v h) (k0_off1624_inb v h) (k0_off1626_inb v h) (k0_off1628_inb v h) (k0_off1630_inb v h) (k0_off1632_inb v h)
  hpb := fun v h => all8 (k0_off1634_inb v h) (k0_off1636_inb v h) (k0_off1638_inb v h) (k0_off1640_inb v h) (k0_off1642_inb v h) (k0_off1644_inb v h) (k0_off1646_inb v h) (k0_off1648_inb v h)

theorem pairAt7_0_ok : ∀ t, (pairAt7_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_1 (t : Fin k0_t1_loop.trips) : PairAt where
  la := ![k0_off1649 t 2#32, k0_off1659 t, k0_off1661 t, k0_off1663 t, k0_off1665 t, k0_off1667 t, k0_off1669 t, k0_off1671 t]
  lb := ![k0_off1673 t, k0_off1675 t, k0_off1677 t, k0_off1679 t, k0_off1681 t, k0_off1683 t, k0_off1685 t, k0_off1687 t]
  sa := ![k0_off1689 t 2#32, k0_off1690 t, k0_off1691 t, k0_off1692 t, k0_off1693 t, k0_off1694 t, k0_off1695 t, k0_off1696 t]
  sb := ![k0_off1697 t, k0_off1675 t, k0_off1677 t, k0_off1679 t, k0_off1681 t, k0_off1683 t, k0_off1685 t, k0_off1687 t]
  hla := all8 (k0_off1649_inb t 1) (k0_off1659_inb t) (k0_off1661_inb t) (k0_off1663_inb t) (k0_off1665_inb t) (k0_off1667_inb t) (k0_off1669_inb t) (k0_off1671_inb t)
  hlb := all8 (k0_off1673_inb t) (k0_off1675_inb t) (k0_off1677_inb t) (k0_off1679_inb t) (k0_off1681_inb t) (k0_off1683_inb t) (k0_off1685_inb t) (k0_off1687_inb t)
  hsa := all8 (k0_off1689_inb t 0) (k0_off1690_inb t) (k0_off1691_inb t) (k0_off1692_inb t) (k0_off1693_inb t) (k0_off1694_inb t) (k0_off1695_inb t) (k0_off1696_inb t)
  hsb := all8 (k0_off1697_inb t) (k0_off1675_inb t) (k0_off1677_inb t) (k0_off1679_inb t) (k0_off1681_inb t) (k0_off1683_inb t) (k0_off1685_inb t) (k0_off1687_inb t)
  ca := k0_chk83
  cb := k0_chk84
  da := k0_chk83.dec
  db := k0_chk84.dec
  pa := ![k0_off1658, k0_off1660, k0_off1662, k0_off1664, k0_off1666, k0_off1668, k0_off1670, k0_off1672]
  pb := ![k0_off1674, k0_off1676, k0_off1678, k0_off1680, k0_off1682, k0_off1684, k0_off1686, k0_off1688]
  hpa := fun v h => all8 (k0_off1658_inb v h) (k0_off1660_inb v h) (k0_off1662_inb v h) (k0_off1664_inb v h) (k0_off1666_inb v h) (k0_off1668_inb v h) (k0_off1670_inb v h) (k0_off1672_inb v h)
  hpb := fun v h => all8 (k0_off1674_inb v h) (k0_off1676_inb v h) (k0_off1678_inb v h) (k0_off1680_inb v h) (k0_off1682_inb v h) (k0_off1684_inb v h) (k0_off1686_inb v h) (k0_off1688_inb v h)

theorem pairAt7_1_ok : ∀ t, (pairAt7_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_2 (t : Fin k0_t1_loop.trips) : PairAt where
  la := ![k0_off1689 t 4#32, k0_off1699 t, k0_off1701 t, k0_off1703 t, k0_off1705 t, k0_off1707 t, k0_off1709 t, k0_off1711 t]
  lb := ![k0_off1713 t, k0_off1715 t, k0_off1717 t, k0_off1719 t, k0_off1721 t, k0_off1723 t, k0_off1725 t, k0_off1727 t]
  sa := ![k0_off1729 t 4#32, k0_off1730 t, k0_off1731 t, k0_off1732 t, k0_off1733 t, k0_off1734 t, k0_off1735 t, k0_off1736 t]
  sb := ![k0_off1737 t, k0_off1715 t, k0_off1717 t, k0_off1719 t, k0_off1721 t, k0_off1723 t, k0_off1725 t, k0_off1727 t]
  hla := all8 (k0_off1689_inb t 1) (k0_off1699_inb t) (k0_off1701_inb t) (k0_off1703_inb t) (k0_off1705_inb t) (k0_off1707_inb t) (k0_off1709_inb t) (k0_off1711_inb t)
  hlb := all8 (k0_off1713_inb t) (k0_off1715_inb t) (k0_off1717_inb t) (k0_off1719_inb t) (k0_off1721_inb t) (k0_off1723_inb t) (k0_off1725_inb t) (k0_off1727_inb t)
  hsa := all8 (k0_off1729_inb t 0) (k0_off1730_inb t) (k0_off1731_inb t) (k0_off1732_inb t) (k0_off1733_inb t) (k0_off1734_inb t) (k0_off1735_inb t) (k0_off1736_inb t)
  hsb := all8 (k0_off1737_inb t) (k0_off1715_inb t) (k0_off1717_inb t) (k0_off1719_inb t) (k0_off1721_inb t) (k0_off1723_inb t) (k0_off1725_inb t) (k0_off1727_inb t)
  ca := k0_chk85
  cb := k0_chk86
  da := k0_chk85.dec
  db := k0_chk86.dec
  pa := ![k0_off1698, k0_off1700, k0_off1702, k0_off1704, k0_off1706, k0_off1708, k0_off1710, k0_off1712]
  pb := ![k0_off1714, k0_off1716, k0_off1718, k0_off1720, k0_off1722, k0_off1724, k0_off1726, k0_off1728]
  hpa := fun v h => all8 (k0_off1698_inb v h) (k0_off1700_inb v h) (k0_off1702_inb v h) (k0_off1704_inb v h) (k0_off1706_inb v h) (k0_off1708_inb v h) (k0_off1710_inb v h) (k0_off1712_inb v h)
  hpb := fun v h => all8 (k0_off1714_inb v h) (k0_off1716_inb v h) (k0_off1718_inb v h) (k0_off1720_inb v h) (k0_off1722_inb v h) (k0_off1724_inb v h) (k0_off1726_inb v h) (k0_off1728_inb v h)

theorem pairAt7_2_ok : ∀ t, (pairAt7_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_3 (t : Fin k0_t1_loop.trips) : PairAt where
  la := ![k0_off1729 t 6#32, k0_off1739 t, k0_off1741 t, k0_off1743 t, k0_off1745 t, k0_off1747 t, k0_off1749 t, k0_off1751 t]
  lb := ![k0_off1753 t, k0_off1755 t, k0_off1757 t, k0_off1759 t, k0_off1761 t, k0_off1763 t, k0_off1765 t, k0_off1767 t]
  sa := ![k0_off1769 t 6#32, k0_off1770 t, k0_off1771 t, k0_off1772 t, k0_off1773 t, k0_off1774 t, k0_off1775 t, k0_off1776 t]
  sb := ![k0_off1777 t, k0_off1755 t, k0_off1757 t, k0_off1759 t, k0_off1761 t, k0_off1763 t, k0_off1765 t, k0_off1767 t]
  hla := all8 (k0_off1729_inb t 1) (k0_off1739_inb t) (k0_off1741_inb t) (k0_off1743_inb t) (k0_off1745_inb t) (k0_off1747_inb t) (k0_off1749_inb t) (k0_off1751_inb t)
  hlb := all8 (k0_off1753_inb t) (k0_off1755_inb t) (k0_off1757_inb t) (k0_off1759_inb t) (k0_off1761_inb t) (k0_off1763_inb t) (k0_off1765_inb t) (k0_off1767_inb t)
  hsa := all8 (k0_off1769_inb t 0) (k0_off1770_inb t) (k0_off1771_inb t) (k0_off1772_inb t) (k0_off1773_inb t) (k0_off1774_inb t) (k0_off1775_inb t) (k0_off1776_inb t)
  hsb := all8 (k0_off1777_inb t) (k0_off1755_inb t) (k0_off1757_inb t) (k0_off1759_inb t) (k0_off1761_inb t) (k0_off1763_inb t) (k0_off1765_inb t) (k0_off1767_inb t)
  ca := k0_chk87
  cb := k0_chk88
  da := k0_chk87.dec
  db := k0_chk88.dec
  pa := ![k0_off1738, k0_off1740, k0_off1742, k0_off1744, k0_off1746, k0_off1748, k0_off1750, k0_off1752]
  pb := ![k0_off1754, k0_off1756, k0_off1758, k0_off1760, k0_off1762, k0_off1764, k0_off1766, k0_off1768]
  hpa := fun v h => all8 (k0_off1738_inb v h) (k0_off1740_inb v h) (k0_off1742_inb v h) (k0_off1744_inb v h) (k0_off1746_inb v h) (k0_off1748_inb v h) (k0_off1750_inb v h) (k0_off1752_inb v h)
  hpb := fun v h => all8 (k0_off1754_inb v h) (k0_off1756_inb v h) (k0_off1758_inb v h) (k0_off1760_inb v h) (k0_off1762_inb v h) (k0_off1764_inb v h) (k0_off1766_inb v h) (k0_off1768_inb v h)

theorem pairAt7_3_ok : ∀ t, (pairAt7_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_4 (t : Fin k0_t1_loop.trips) : PairAt where
  la := ![k0_off1769 t 8#32, k0_off1779 t, k0_off1781 t, k0_off1783 t, k0_off1785 t, k0_off1787 t, k0_off1789 t, k0_off1791 t]
  lb := ![k0_off1793 t, k0_off1795 t, k0_off1797 t, k0_off1799 t, k0_off1801 t, k0_off1803 t, k0_off1805 t, k0_off1807 t]
  sa := ![k0_off1809 t 8#32, k0_off1810 t, k0_off1811 t, k0_off1812 t, k0_off1813 t, k0_off1814 t, k0_off1815 t, k0_off1816 t]
  sb := ![k0_off1817 t, k0_off1795 t, k0_off1797 t, k0_off1799 t, k0_off1801 t, k0_off1803 t, k0_off1805 t, k0_off1807 t]
  hla := all8 (k0_off1769_inb t 1) (k0_off1779_inb t) (k0_off1781_inb t) (k0_off1783_inb t) (k0_off1785_inb t) (k0_off1787_inb t) (k0_off1789_inb t) (k0_off1791_inb t)
  hlb := all8 (k0_off1793_inb t) (k0_off1795_inb t) (k0_off1797_inb t) (k0_off1799_inb t) (k0_off1801_inb t) (k0_off1803_inb t) (k0_off1805_inb t) (k0_off1807_inb t)
  hsa := all8 (k0_off1809_inb t 0) (k0_off1810_inb t) (k0_off1811_inb t) (k0_off1812_inb t) (k0_off1813_inb t) (k0_off1814_inb t) (k0_off1815_inb t) (k0_off1816_inb t)
  hsb := all8 (k0_off1817_inb t) (k0_off1795_inb t) (k0_off1797_inb t) (k0_off1799_inb t) (k0_off1801_inb t) (k0_off1803_inb t) (k0_off1805_inb t) (k0_off1807_inb t)
  ca := k0_chk89
  cb := k0_chk90
  da := k0_chk89.dec
  db := k0_chk90.dec
  pa := ![k0_off1778, k0_off1780, k0_off1782, k0_off1784, k0_off1786, k0_off1788, k0_off1790, k0_off1792]
  pb := ![k0_off1794, k0_off1796, k0_off1798, k0_off1800, k0_off1802, k0_off1804, k0_off1806, k0_off1808]
  hpa := fun v h => all8 (k0_off1778_inb v h) (k0_off1780_inb v h) (k0_off1782_inb v h) (k0_off1784_inb v h) (k0_off1786_inb v h) (k0_off1788_inb v h) (k0_off1790_inb v h) (k0_off1792_inb v h)
  hpb := fun v h => all8 (k0_off1794_inb v h) (k0_off1796_inb v h) (k0_off1798_inb v h) (k0_off1800_inb v h) (k0_off1802_inb v h) (k0_off1804_inb v h) (k0_off1806_inb v h) (k0_off1808_inb v h)

theorem pairAt7_4_ok : ∀ t, (pairAt7_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_5 (t : Fin k0_t1_loop.trips) : PairAt where
  la := ![k0_off1809 t 10#32, k0_off1819 t, k0_off1821 t, k0_off1823 t, k0_off1825 t, k0_off1827 t, k0_off1829 t, k0_off1831 t]
  lb := ![k0_off1833 t, k0_off1835 t, k0_off1837 t, k0_off1839 t, k0_off1841 t, k0_off1843 t, k0_off1845 t, k0_off1847 t]
  sa := ![k0_off1849 t 10#32, k0_off1850 t, k0_off1851 t, k0_off1852 t, k0_off1853 t, k0_off1854 t, k0_off1855 t, k0_off1856 t]
  sb := ![k0_off1857 t, k0_off1835 t, k0_off1837 t, k0_off1839 t, k0_off1841 t, k0_off1843 t, k0_off1845 t, k0_off1847 t]
  hla := all8 (k0_off1809_inb t 1) (k0_off1819_inb t) (k0_off1821_inb t) (k0_off1823_inb t) (k0_off1825_inb t) (k0_off1827_inb t) (k0_off1829_inb t) (k0_off1831_inb t)
  hlb := all8 (k0_off1833_inb t) (k0_off1835_inb t) (k0_off1837_inb t) (k0_off1839_inb t) (k0_off1841_inb t) (k0_off1843_inb t) (k0_off1845_inb t) (k0_off1847_inb t)
  hsa := all8 (k0_off1849_inb t 0) (k0_off1850_inb t) (k0_off1851_inb t) (k0_off1852_inb t) (k0_off1853_inb t) (k0_off1854_inb t) (k0_off1855_inb t) (k0_off1856_inb t)
  hsb := all8 (k0_off1857_inb t) (k0_off1835_inb t) (k0_off1837_inb t) (k0_off1839_inb t) (k0_off1841_inb t) (k0_off1843_inb t) (k0_off1845_inb t) (k0_off1847_inb t)
  ca := k0_chk91
  cb := k0_chk92
  da := k0_chk91.dec
  db := k0_chk92.dec
  pa := ![k0_off1818, k0_off1820, k0_off1822, k0_off1824, k0_off1826, k0_off1828, k0_off1830, k0_off1832]
  pb := ![k0_off1834, k0_off1836, k0_off1838, k0_off1840, k0_off1842, k0_off1844, k0_off1846, k0_off1848]
  hpa := fun v h => all8 (k0_off1818_inb v h) (k0_off1820_inb v h) (k0_off1822_inb v h) (k0_off1824_inb v h) (k0_off1826_inb v h) (k0_off1828_inb v h) (k0_off1830_inb v h) (k0_off1832_inb v h)
  hpb := fun v h => all8 (k0_off1834_inb v h) (k0_off1836_inb v h) (k0_off1838_inb v h) (k0_off1840_inb v h) (k0_off1842_inb v h) (k0_off1844_inb v h) (k0_off1846_inb v h) (k0_off1848_inb v h)

theorem pairAt7_5_ok : ∀ t, (pairAt7_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_6 (t : Fin k0_t1_loop.trips) : PairAt where
  la := ![k0_off1849 t 12#32, k0_off1859 t, k0_off1861 t, k0_off1863 t, k0_off1865 t, k0_off1867 t, k0_off1869 t, k0_off1871 t]
  lb := ![k0_off1873 t, k0_off1875 t, k0_off1877 t, k0_off1879 t, k0_off1881 t, k0_off1883 t, k0_off1885 t, k0_off1887 t]
  sa := ![k0_off1889 t 12#32, k0_off1890 t, k0_off1891 t, k0_off1892 t, k0_off1893 t, k0_off1894 t, k0_off1895 t, k0_off1896 t]
  sb := ![k0_off1897 t, k0_off1875 t, k0_off1877 t, k0_off1879 t, k0_off1881 t, k0_off1883 t, k0_off1885 t, k0_off1887 t]
  hla := all8 (k0_off1849_inb t 1) (k0_off1859_inb t) (k0_off1861_inb t) (k0_off1863_inb t) (k0_off1865_inb t) (k0_off1867_inb t) (k0_off1869_inb t) (k0_off1871_inb t)
  hlb := all8 (k0_off1873_inb t) (k0_off1875_inb t) (k0_off1877_inb t) (k0_off1879_inb t) (k0_off1881_inb t) (k0_off1883_inb t) (k0_off1885_inb t) (k0_off1887_inb t)
  hsa := all8 (k0_off1889_inb t 0) (k0_off1890_inb t) (k0_off1891_inb t) (k0_off1892_inb t) (k0_off1893_inb t) (k0_off1894_inb t) (k0_off1895_inb t) (k0_off1896_inb t)
  hsb := all8 (k0_off1897_inb t) (k0_off1875_inb t) (k0_off1877_inb t) (k0_off1879_inb t) (k0_off1881_inb t) (k0_off1883_inb t) (k0_off1885_inb t) (k0_off1887_inb t)
  ca := k0_chk93
  cb := k0_chk94
  da := k0_chk93.dec
  db := k0_chk94.dec
  pa := ![k0_off1858, k0_off1860, k0_off1862, k0_off1864, k0_off1866, k0_off1868, k0_off1870, k0_off1872]
  pb := ![k0_off1874, k0_off1876, k0_off1878, k0_off1880, k0_off1882, k0_off1884, k0_off1886, k0_off1888]
  hpa := fun v h => all8 (k0_off1858_inb v h) (k0_off1860_inb v h) (k0_off1862_inb v h) (k0_off1864_inb v h) (k0_off1866_inb v h) (k0_off1868_inb v h) (k0_off1870_inb v h) (k0_off1872_inb v h)
  hpb := fun v h => all8 (k0_off1874_inb v h) (k0_off1876_inb v h) (k0_off1878_inb v h) (k0_off1880_inb v h) (k0_off1882_inb v h) (k0_off1884_inb v h) (k0_off1886_inb v h) (k0_off1888_inb v h)

theorem pairAt7_6_ok : ∀ t, (pairAt7_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt7_7 (t : Fin k0_t1_loop.trips) : PairAt where
  la := ![k0_off1889 t 14#32, k0_off1899 t, k0_off1901 t, k0_off1903 t, k0_off1905 t, k0_off1907 t, k0_off1909 t, k0_off1911 t]
  lb := ![k0_off1913 t, k0_off1915 t, k0_off1917 t, k0_off1919 t, k0_off1921 t, k0_off1923 t, k0_off1925 t, k0_off1927 t]
  sa := ![k0_off1929 t, k0_off1930 t, k0_off1931 t, k0_off1932 t, k0_off1933 t, k0_off1934 t, k0_off1935 t, k0_off1936 t]
  sb := ![k0_off1937 t, k0_off1915 t, k0_off1917 t, k0_off1919 t, k0_off1921 t, k0_off1923 t, k0_off1925 t, k0_off1927 t]
  hla := all8 (k0_off1889_inb t 1) (k0_off1899_inb t) (k0_off1901_inb t) (k0_off1903_inb t) (k0_off1905_inb t) (k0_off1907_inb t) (k0_off1909_inb t) (k0_off1911_inb t)
  hlb := all8 (k0_off1913_inb t) (k0_off1915_inb t) (k0_off1917_inb t) (k0_off1919_inb t) (k0_off1921_inb t) (k0_off1923_inb t) (k0_off1925_inb t) (k0_off1927_inb t)
  hsa := all8 (k0_off1929_inb t) (k0_off1930_inb t) (k0_off1931_inb t) (k0_off1932_inb t) (k0_off1933_inb t) (k0_off1934_inb t) (k0_off1935_inb t) (k0_off1936_inb t)
  hsb := all8 (k0_off1937_inb t) (k0_off1915_inb t) (k0_off1917_inb t) (k0_off1919_inb t) (k0_off1921_inb t) (k0_off1923_inb t) (k0_off1925_inb t) (k0_off1927_inb t)
  ca := k0_chk95
  cb := k0_chk96
  da := k0_chk95.dec
  db := k0_chk96.dec
  pa := ![k0_off1898, k0_off1900, k0_off1902, k0_off1904, k0_off1906, k0_off1908, k0_off1910, k0_off1912]
  pb := ![k0_off1914, k0_off1916, k0_off1918, k0_off1920, k0_off1922, k0_off1924, k0_off1926, k0_off1928]
  hpa := fun v h => all8 (k0_off1898_inb v h) (k0_off1900_inb v h) (k0_off1902_inb v h) (k0_off1904_inb v h) (k0_off1906_inb v h) (k0_off1908_inb v h) (k0_off1910_inb v h) (k0_off1912_inb v h)
  hpb := fun v h => all8 (k0_off1914_inb v h) (k0_off1916_inb v h) (k0_off1918_inb v h) (k0_off1920_inb v h) (k0_off1922_inb v h) (k0_off1924_inb v h) (k0_off1926_inb v h) (k0_off1928_inb v h)

theorem pairAt7_7_ok : ∀ t, (pairAt7_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt7 (p : Fin k0_t3_loop.trips) : CompAt := ⟨fun t => k0_off1616 p t, fun t => k0_off1616_inb p t,
  fun t => ![pairAt7_0 t, pairAt7_1 t, pairAt7_2 t, pairAt7_3 t, pairAt7_4 t, pairAt7_5 t, pairAt7_6 t, pairAt7_7 t]⟩

/-! ## Loop 8 -/

def pairAt8_0 (t : Fin k0_t1_loop.trips) : PairAt where
  la := ![k0_off1939 t, k0_off1941 t, k0_off1943 t, k0_off1945 t, k0_off1947 t, k0_off1949 t, k0_off1951 t, k0_off1953 t]
  lb := ![k0_off1955 t, k0_off1957 t, k0_off1959 t, k0_off1961 t, k0_off1963 t, k0_off1965 t, k0_off1967 t, k0_off1969 t]
  sa := ![k0_off1971 t 0#32, k0_off1972 t, k0_off1973 t, k0_off1974 t, k0_off1975 t, k0_off1976 t, k0_off1977 t, k0_off1978 t]
  sb := ![k0_off1979 t, k0_off1957 t, k0_off1959 t, k0_off1961 t, k0_off1963 t, k0_off1965 t, k0_off1967 t, k0_off1969 t]
  hla := all8 (k0_off1939_inb t) (k0_off1941_inb t) (k0_off1943_inb t) (k0_off1945_inb t) (k0_off1947_inb t) (k0_off1949_inb t) (k0_off1951_inb t) (k0_off1953_inb t)
  hlb := all8 (k0_off1955_inb t) (k0_off1957_inb t) (k0_off1959_inb t) (k0_off1961_inb t) (k0_off1963_inb t) (k0_off1965_inb t) (k0_off1967_inb t) (k0_off1969_inb t)
  hsa := all8 (k0_off1971_inb t 0) (k0_off1972_inb t) (k0_off1973_inb t) (k0_off1974_inb t) (k0_off1975_inb t) (k0_off1976_inb t) (k0_off1977_inb t) (k0_off1978_inb t)
  hsb := all8 (k0_off1979_inb t) (k0_off1957_inb t) (k0_off1959_inb t) (k0_off1961_inb t) (k0_off1963_inb t) (k0_off1965_inb t) (k0_off1967_inb t) (k0_off1969_inb t)
  ca := k0_chk97
  cb := k0_chk98
  da := k0_chk97.dec
  db := k0_chk98.dec
  pa := ![k0_off1940, k0_off1942, k0_off1944, k0_off1946, k0_off1948, k0_off1950, k0_off1952, k0_off1954]
  pb := ![k0_off1956, k0_off1958, k0_off1960, k0_off1962, k0_off1964, k0_off1966, k0_off1968, k0_off1970]
  hpa := fun v h => all8 (k0_off1940_inb v h) (k0_off1942_inb v h) (k0_off1944_inb v h) (k0_off1946_inb v h) (k0_off1948_inb v h) (k0_off1950_inb v h) (k0_off1952_inb v h) (k0_off1954_inb v h)
  hpb := fun v h => all8 (k0_off1956_inb v h) (k0_off1958_inb v h) (k0_off1960_inb v h) (k0_off1962_inb v h) (k0_off1964_inb v h) (k0_off1966_inb v h) (k0_off1968_inb v h) (k0_off1970_inb v h)

theorem pairAt8_0_ok : ∀ t, (pairAt8_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_1 (t : Fin k0_t1_loop.trips) : PairAt where
  la := ![k0_off1971 t 2#32, k0_off1981 t, k0_off1983 t, k0_off1985 t, k0_off1987 t, k0_off1989 t, k0_off1991 t, k0_off1993 t]
  lb := ![k0_off1995 t, k0_off1997 t, k0_off1999 t, k0_off2001 t, k0_off2003 t, k0_off2005 t, k0_off2007 t, k0_off2009 t]
  sa := ![k0_off2011 t 2#32, k0_off2012 t, k0_off2013 t, k0_off2014 t, k0_off2015 t, k0_off2016 t, k0_off2017 t, k0_off2018 t]
  sb := ![k0_off2019 t, k0_off1997 t, k0_off1999 t, k0_off2001 t, k0_off2003 t, k0_off2005 t, k0_off2007 t, k0_off2009 t]
  hla := all8 (k0_off1971_inb t 1) (k0_off1981_inb t) (k0_off1983_inb t) (k0_off1985_inb t) (k0_off1987_inb t) (k0_off1989_inb t) (k0_off1991_inb t) (k0_off1993_inb t)
  hlb := all8 (k0_off1995_inb t) (k0_off1997_inb t) (k0_off1999_inb t) (k0_off2001_inb t) (k0_off2003_inb t) (k0_off2005_inb t) (k0_off2007_inb t) (k0_off2009_inb t)
  hsa := all8 (k0_off2011_inb t 0) (k0_off2012_inb t) (k0_off2013_inb t) (k0_off2014_inb t) (k0_off2015_inb t) (k0_off2016_inb t) (k0_off2017_inb t) (k0_off2018_inb t)
  hsb := all8 (k0_off2019_inb t) (k0_off1997_inb t) (k0_off1999_inb t) (k0_off2001_inb t) (k0_off2003_inb t) (k0_off2005_inb t) (k0_off2007_inb t) (k0_off2009_inb t)
  ca := k0_chk99
  cb := k0_chk100
  da := k0_chk99.dec
  db := k0_chk100.dec
  pa := ![k0_off1980, k0_off1982, k0_off1984, k0_off1986, k0_off1988, k0_off1990, k0_off1992, k0_off1994]
  pb := ![k0_off1996, k0_off1998, k0_off2000, k0_off2002, k0_off2004, k0_off2006, k0_off2008, k0_off2010]
  hpa := fun v h => all8 (k0_off1980_inb v h) (k0_off1982_inb v h) (k0_off1984_inb v h) (k0_off1986_inb v h) (k0_off1988_inb v h) (k0_off1990_inb v h) (k0_off1992_inb v h) (k0_off1994_inb v h)
  hpb := fun v h => all8 (k0_off1996_inb v h) (k0_off1998_inb v h) (k0_off2000_inb v h) (k0_off2002_inb v h) (k0_off2004_inb v h) (k0_off2006_inb v h) (k0_off2008_inb v h) (k0_off2010_inb v h)

theorem pairAt8_1_ok : ∀ t, (pairAt8_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_2 (t : Fin k0_t1_loop.trips) : PairAt where
  la := ![k0_off2011 t 4#32, k0_off2021 t, k0_off2023 t, k0_off2025 t, k0_off2027 t, k0_off2029 t, k0_off2031 t, k0_off2033 t]
  lb := ![k0_off2035 t, k0_off2037 t, k0_off2039 t, k0_off2041 t, k0_off2043 t, k0_off2045 t, k0_off2047 t, k0_off2049 t]
  sa := ![k0_off2051 t 4#32, k0_off2052 t, k0_off2053 t, k0_off2054 t, k0_off2055 t, k0_off2056 t, k0_off2057 t, k0_off2058 t]
  sb := ![k0_off2059 t, k0_off2037 t, k0_off2039 t, k0_off2041 t, k0_off2043 t, k0_off2045 t, k0_off2047 t, k0_off2049 t]
  hla := all8 (k0_off2011_inb t 1) (k0_off2021_inb t) (k0_off2023_inb t) (k0_off2025_inb t) (k0_off2027_inb t) (k0_off2029_inb t) (k0_off2031_inb t) (k0_off2033_inb t)
  hlb := all8 (k0_off2035_inb t) (k0_off2037_inb t) (k0_off2039_inb t) (k0_off2041_inb t) (k0_off2043_inb t) (k0_off2045_inb t) (k0_off2047_inb t) (k0_off2049_inb t)
  hsa := all8 (k0_off2051_inb t 0) (k0_off2052_inb t) (k0_off2053_inb t) (k0_off2054_inb t) (k0_off2055_inb t) (k0_off2056_inb t) (k0_off2057_inb t) (k0_off2058_inb t)
  hsb := all8 (k0_off2059_inb t) (k0_off2037_inb t) (k0_off2039_inb t) (k0_off2041_inb t) (k0_off2043_inb t) (k0_off2045_inb t) (k0_off2047_inb t) (k0_off2049_inb t)
  ca := k0_chk101
  cb := k0_chk102
  da := k0_chk101.dec
  db := k0_chk102.dec
  pa := ![k0_off2020, k0_off2022, k0_off2024, k0_off2026, k0_off2028, k0_off2030, k0_off2032, k0_off2034]
  pb := ![k0_off2036, k0_off2038, k0_off2040, k0_off2042, k0_off2044, k0_off2046, k0_off2048, k0_off2050]
  hpa := fun v h => all8 (k0_off2020_inb v h) (k0_off2022_inb v h) (k0_off2024_inb v h) (k0_off2026_inb v h) (k0_off2028_inb v h) (k0_off2030_inb v h) (k0_off2032_inb v h) (k0_off2034_inb v h)
  hpb := fun v h => all8 (k0_off2036_inb v h) (k0_off2038_inb v h) (k0_off2040_inb v h) (k0_off2042_inb v h) (k0_off2044_inb v h) (k0_off2046_inb v h) (k0_off2048_inb v h) (k0_off2050_inb v h)

theorem pairAt8_2_ok : ∀ t, (pairAt8_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_3 (t : Fin k0_t1_loop.trips) : PairAt where
  la := ![k0_off2051 t 6#32, k0_off2061 t, k0_off2063 t, k0_off2065 t, k0_off2067 t, k0_off2069 t, k0_off2071 t, k0_off2073 t]
  lb := ![k0_off2075 t, k0_off2077 t, k0_off2079 t, k0_off2081 t, k0_off2083 t, k0_off2085 t, k0_off2087 t, k0_off2089 t]
  sa := ![k0_off2091 t 6#32, k0_off2092 t, k0_off2093 t, k0_off2094 t, k0_off2095 t, k0_off2096 t, k0_off2097 t, k0_off2098 t]
  sb := ![k0_off2099 t, k0_off2077 t, k0_off2079 t, k0_off2081 t, k0_off2083 t, k0_off2085 t, k0_off2087 t, k0_off2089 t]
  hla := all8 (k0_off2051_inb t 1) (k0_off2061_inb t) (k0_off2063_inb t) (k0_off2065_inb t) (k0_off2067_inb t) (k0_off2069_inb t) (k0_off2071_inb t) (k0_off2073_inb t)
  hlb := all8 (k0_off2075_inb t) (k0_off2077_inb t) (k0_off2079_inb t) (k0_off2081_inb t) (k0_off2083_inb t) (k0_off2085_inb t) (k0_off2087_inb t) (k0_off2089_inb t)
  hsa := all8 (k0_off2091_inb t 0) (k0_off2092_inb t) (k0_off2093_inb t) (k0_off2094_inb t) (k0_off2095_inb t) (k0_off2096_inb t) (k0_off2097_inb t) (k0_off2098_inb t)
  hsb := all8 (k0_off2099_inb t) (k0_off2077_inb t) (k0_off2079_inb t) (k0_off2081_inb t) (k0_off2083_inb t) (k0_off2085_inb t) (k0_off2087_inb t) (k0_off2089_inb t)
  ca := k0_chk103
  cb := k0_chk104
  da := k0_chk103.dec
  db := k0_chk104.dec
  pa := ![k0_off2060, k0_off2062, k0_off2064, k0_off2066, k0_off2068, k0_off2070, k0_off2072, k0_off2074]
  pb := ![k0_off2076, k0_off2078, k0_off2080, k0_off2082, k0_off2084, k0_off2086, k0_off2088, k0_off2090]
  hpa := fun v h => all8 (k0_off2060_inb v h) (k0_off2062_inb v h) (k0_off2064_inb v h) (k0_off2066_inb v h) (k0_off2068_inb v h) (k0_off2070_inb v h) (k0_off2072_inb v h) (k0_off2074_inb v h)
  hpb := fun v h => all8 (k0_off2076_inb v h) (k0_off2078_inb v h) (k0_off2080_inb v h) (k0_off2082_inb v h) (k0_off2084_inb v h) (k0_off2086_inb v h) (k0_off2088_inb v h) (k0_off2090_inb v h)

theorem pairAt8_3_ok : ∀ t, (pairAt8_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_4 (t : Fin k0_t1_loop.trips) : PairAt where
  la := ![k0_off2091 t 8#32, k0_off2101 t, k0_off2103 t, k0_off2105 t, k0_off2107 t, k0_off2109 t, k0_off2111 t, k0_off2113 t]
  lb := ![k0_off2115 t, k0_off2117 t, k0_off2119 t, k0_off2121 t, k0_off2123 t, k0_off2125 t, k0_off2127 t, k0_off2129 t]
  sa := ![k0_off2131 t 8#32, k0_off2132 t, k0_off2133 t, k0_off2134 t, k0_off2135 t, k0_off2136 t, k0_off2137 t, k0_off2138 t]
  sb := ![k0_off2139 t, k0_off2117 t, k0_off2119 t, k0_off2121 t, k0_off2123 t, k0_off2125 t, k0_off2127 t, k0_off2129 t]
  hla := all8 (k0_off2091_inb t 1) (k0_off2101_inb t) (k0_off2103_inb t) (k0_off2105_inb t) (k0_off2107_inb t) (k0_off2109_inb t) (k0_off2111_inb t) (k0_off2113_inb t)
  hlb := all8 (k0_off2115_inb t) (k0_off2117_inb t) (k0_off2119_inb t) (k0_off2121_inb t) (k0_off2123_inb t) (k0_off2125_inb t) (k0_off2127_inb t) (k0_off2129_inb t)
  hsa := all8 (k0_off2131_inb t 0) (k0_off2132_inb t) (k0_off2133_inb t) (k0_off2134_inb t) (k0_off2135_inb t) (k0_off2136_inb t) (k0_off2137_inb t) (k0_off2138_inb t)
  hsb := all8 (k0_off2139_inb t) (k0_off2117_inb t) (k0_off2119_inb t) (k0_off2121_inb t) (k0_off2123_inb t) (k0_off2125_inb t) (k0_off2127_inb t) (k0_off2129_inb t)
  ca := k0_chk105
  cb := k0_chk106
  da := k0_chk105.dec
  db := k0_chk106.dec
  pa := ![k0_off2100, k0_off2102, k0_off2104, k0_off2106, k0_off2108, k0_off2110, k0_off2112, k0_off2114]
  pb := ![k0_off2116, k0_off2118, k0_off2120, k0_off2122, k0_off2124, k0_off2126, k0_off2128, k0_off2130]
  hpa := fun v h => all8 (k0_off2100_inb v h) (k0_off2102_inb v h) (k0_off2104_inb v h) (k0_off2106_inb v h) (k0_off2108_inb v h) (k0_off2110_inb v h) (k0_off2112_inb v h) (k0_off2114_inb v h)
  hpb := fun v h => all8 (k0_off2116_inb v h) (k0_off2118_inb v h) (k0_off2120_inb v h) (k0_off2122_inb v h) (k0_off2124_inb v h) (k0_off2126_inb v h) (k0_off2128_inb v h) (k0_off2130_inb v h)

theorem pairAt8_4_ok : ∀ t, (pairAt8_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_5 (t : Fin k0_t1_loop.trips) : PairAt where
  la := ![k0_off2131 t 10#32, k0_off2141 t, k0_off2143 t, k0_off2145 t, k0_off2147 t, k0_off2149 t, k0_off2151 t, k0_off2153 t]
  lb := ![k0_off2155 t, k0_off2157 t, k0_off2159 t, k0_off2161 t, k0_off2163 t, k0_off2165 t, k0_off2167 t, k0_off2169 t]
  sa := ![k0_off2171 t 10#32, k0_off2172 t, k0_off2173 t, k0_off2174 t, k0_off2175 t, k0_off2176 t, k0_off2177 t, k0_off2178 t]
  sb := ![k0_off2179 t, k0_off2157 t, k0_off2159 t, k0_off2161 t, k0_off2163 t, k0_off2165 t, k0_off2167 t, k0_off2169 t]
  hla := all8 (k0_off2131_inb t 1) (k0_off2141_inb t) (k0_off2143_inb t) (k0_off2145_inb t) (k0_off2147_inb t) (k0_off2149_inb t) (k0_off2151_inb t) (k0_off2153_inb t)
  hlb := all8 (k0_off2155_inb t) (k0_off2157_inb t) (k0_off2159_inb t) (k0_off2161_inb t) (k0_off2163_inb t) (k0_off2165_inb t) (k0_off2167_inb t) (k0_off2169_inb t)
  hsa := all8 (k0_off2171_inb t 0) (k0_off2172_inb t) (k0_off2173_inb t) (k0_off2174_inb t) (k0_off2175_inb t) (k0_off2176_inb t) (k0_off2177_inb t) (k0_off2178_inb t)
  hsb := all8 (k0_off2179_inb t) (k0_off2157_inb t) (k0_off2159_inb t) (k0_off2161_inb t) (k0_off2163_inb t) (k0_off2165_inb t) (k0_off2167_inb t) (k0_off2169_inb t)
  ca := k0_chk107
  cb := k0_chk108
  da := k0_chk107.dec
  db := k0_chk108.dec
  pa := ![k0_off2140, k0_off2142, k0_off2144, k0_off2146, k0_off2148, k0_off2150, k0_off2152, k0_off2154]
  pb := ![k0_off2156, k0_off2158, k0_off2160, k0_off2162, k0_off2164, k0_off2166, k0_off2168, k0_off2170]
  hpa := fun v h => all8 (k0_off2140_inb v h) (k0_off2142_inb v h) (k0_off2144_inb v h) (k0_off2146_inb v h) (k0_off2148_inb v h) (k0_off2150_inb v h) (k0_off2152_inb v h) (k0_off2154_inb v h)
  hpb := fun v h => all8 (k0_off2156_inb v h) (k0_off2158_inb v h) (k0_off2160_inb v h) (k0_off2162_inb v h) (k0_off2164_inb v h) (k0_off2166_inb v h) (k0_off2168_inb v h) (k0_off2170_inb v h)

theorem pairAt8_5_ok : ∀ t, (pairAt8_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_6 (t : Fin k0_t1_loop.trips) : PairAt where
  la := ![k0_off2171 t 12#32, k0_off2181 t, k0_off2183 t, k0_off2185 t, k0_off2187 t, k0_off2189 t, k0_off2191 t, k0_off2193 t]
  lb := ![k0_off2195 t, k0_off2197 t, k0_off2199 t, k0_off2201 t, k0_off2203 t, k0_off2205 t, k0_off2207 t, k0_off2209 t]
  sa := ![k0_off2211 t 12#32, k0_off2212 t, k0_off2213 t, k0_off2214 t, k0_off2215 t, k0_off2216 t, k0_off2217 t, k0_off2218 t]
  sb := ![k0_off2219 t, k0_off2197 t, k0_off2199 t, k0_off2201 t, k0_off2203 t, k0_off2205 t, k0_off2207 t, k0_off2209 t]
  hla := all8 (k0_off2171_inb t 1) (k0_off2181_inb t) (k0_off2183_inb t) (k0_off2185_inb t) (k0_off2187_inb t) (k0_off2189_inb t) (k0_off2191_inb t) (k0_off2193_inb t)
  hlb := all8 (k0_off2195_inb t) (k0_off2197_inb t) (k0_off2199_inb t) (k0_off2201_inb t) (k0_off2203_inb t) (k0_off2205_inb t) (k0_off2207_inb t) (k0_off2209_inb t)
  hsa := all8 (k0_off2211_inb t 0) (k0_off2212_inb t) (k0_off2213_inb t) (k0_off2214_inb t) (k0_off2215_inb t) (k0_off2216_inb t) (k0_off2217_inb t) (k0_off2218_inb t)
  hsb := all8 (k0_off2219_inb t) (k0_off2197_inb t) (k0_off2199_inb t) (k0_off2201_inb t) (k0_off2203_inb t) (k0_off2205_inb t) (k0_off2207_inb t) (k0_off2209_inb t)
  ca := k0_chk109
  cb := k0_chk110
  da := k0_chk109.dec
  db := k0_chk110.dec
  pa := ![k0_off2180, k0_off2182, k0_off2184, k0_off2186, k0_off2188, k0_off2190, k0_off2192, k0_off2194]
  pb := ![k0_off2196, k0_off2198, k0_off2200, k0_off2202, k0_off2204, k0_off2206, k0_off2208, k0_off2210]
  hpa := fun v h => all8 (k0_off2180_inb v h) (k0_off2182_inb v h) (k0_off2184_inb v h) (k0_off2186_inb v h) (k0_off2188_inb v h) (k0_off2190_inb v h) (k0_off2192_inb v h) (k0_off2194_inb v h)
  hpb := fun v h => all8 (k0_off2196_inb v h) (k0_off2198_inb v h) (k0_off2200_inb v h) (k0_off2202_inb v h) (k0_off2204_inb v h) (k0_off2206_inb v h) (k0_off2208_inb v h) (k0_off2210_inb v h)

theorem pairAt8_6_ok : ∀ t, (pairAt8_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt8_7 (t : Fin k0_t1_loop.trips) : PairAt where
  la := ![k0_off2211 t 14#32, k0_off2221 t, k0_off2223 t, k0_off2225 t, k0_off2227 t, k0_off2229 t, k0_off2231 t, k0_off2233 t]
  lb := ![k0_off2235 t, k0_off2237 t, k0_off2239 t, k0_off2241 t, k0_off2243 t, k0_off2245 t, k0_off2247 t, k0_off2249 t]
  sa := ![k0_off2251 t, k0_off2252 t, k0_off2253 t, k0_off2254 t, k0_off2255 t, k0_off2256 t, k0_off2257 t, k0_off2258 t]
  sb := ![k0_off2259 t, k0_off2237 t, k0_off2239 t, k0_off2241 t, k0_off2243 t, k0_off2245 t, k0_off2247 t, k0_off2249 t]
  hla := all8 (k0_off2211_inb t 1) (k0_off2221_inb t) (k0_off2223_inb t) (k0_off2225_inb t) (k0_off2227_inb t) (k0_off2229_inb t) (k0_off2231_inb t) (k0_off2233_inb t)
  hlb := all8 (k0_off2235_inb t) (k0_off2237_inb t) (k0_off2239_inb t) (k0_off2241_inb t) (k0_off2243_inb t) (k0_off2245_inb t) (k0_off2247_inb t) (k0_off2249_inb t)
  hsa := all8 (k0_off2251_inb t) (k0_off2252_inb t) (k0_off2253_inb t) (k0_off2254_inb t) (k0_off2255_inb t) (k0_off2256_inb t) (k0_off2257_inb t) (k0_off2258_inb t)
  hsb := all8 (k0_off2259_inb t) (k0_off2237_inb t) (k0_off2239_inb t) (k0_off2241_inb t) (k0_off2243_inb t) (k0_off2245_inb t) (k0_off2247_inb t) (k0_off2249_inb t)
  ca := k0_chk111
  cb := k0_chk112
  da := k0_chk111.dec
  db := k0_chk112.dec
  pa := ![k0_off2220, k0_off2222, k0_off2224, k0_off2226, k0_off2228, k0_off2230, k0_off2232, k0_off2234]
  pb := ![k0_off2236, k0_off2238, k0_off2240, k0_off2242, k0_off2244, k0_off2246, k0_off2248, k0_off2250]
  hpa := fun v h => all8 (k0_off2220_inb v h) (k0_off2222_inb v h) (k0_off2224_inb v h) (k0_off2226_inb v h) (k0_off2228_inb v h) (k0_off2230_inb v h) (k0_off2232_inb v h) (k0_off2234_inb v h)
  hpb := fun v h => all8 (k0_off2236_inb v h) (k0_off2238_inb v h) (k0_off2240_inb v h) (k0_off2242_inb v h) (k0_off2244_inb v h) (k0_off2246_inb v h) (k0_off2248_inb v h) (k0_off2250_inb v h)

theorem pairAt8_7_ok : ∀ t, (pairAt8_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt8 : CompAt := ⟨fun t => k0_off1938 t, fun t => k0_off1938_inb t,
  fun t => ![pairAt8_0 t, pairAt8_1 t, pairAt8_2 t, pairAt8_3 t, pairAt8_4 t, pairAt8_5 t, pairAt8_6 t, pairAt8_7 t]⟩

/-! ## Loop 9 -/

def pairAt9_0 (t : Fin k0_t1_loop.trips) : PairAt where
  la := ![k0_off2261 t, k0_off2263 t, k0_off2265 t, k0_off2267 t, k0_off2269 t, k0_off2271 t, k0_off2273 t, k0_off2275 t]
  lb := ![k0_off2277 t, k0_off2279 t, k0_off2281 t, k0_off2283 t, k0_off2285 t, k0_off2287 t, k0_off2289 t, k0_off2291 t]
  sa := ![k0_off2293 t 0#32, k0_off2294 t, k0_off2295 t, k0_off2296 t, k0_off2297 t, k0_off2298 t, k0_off2299 t, k0_off2300 t]
  sb := ![k0_off2301 t, k0_off2279 t, k0_off2281 t, k0_off2283 t, k0_off2285 t, k0_off2287 t, k0_off2289 t, k0_off2291 t]
  hla := all8 (k0_off2261_inb t) (k0_off2263_inb t) (k0_off2265_inb t) (k0_off2267_inb t) (k0_off2269_inb t) (k0_off2271_inb t) (k0_off2273_inb t) (k0_off2275_inb t)
  hlb := all8 (k0_off2277_inb t) (k0_off2279_inb t) (k0_off2281_inb t) (k0_off2283_inb t) (k0_off2285_inb t) (k0_off2287_inb t) (k0_off2289_inb t) (k0_off2291_inb t)
  hsa := all8 (k0_off2293_inb t 0) (k0_off2294_inb t) (k0_off2295_inb t) (k0_off2296_inb t) (k0_off2297_inb t) (k0_off2298_inb t) (k0_off2299_inb t) (k0_off2300_inb t)
  hsb := all8 (k0_off2301_inb t) (k0_off2279_inb t) (k0_off2281_inb t) (k0_off2283_inb t) (k0_off2285_inb t) (k0_off2287_inb t) (k0_off2289_inb t) (k0_off2291_inb t)
  ca := k0_chk113
  cb := k0_chk114
  da := k0_chk113.dec
  db := k0_chk114.dec
  pa := ![k0_off2262, k0_off2264, k0_off2266, k0_off2268, k0_off2270, k0_off2272, k0_off2274, k0_off2276]
  pb := ![k0_off2278, k0_off2280, k0_off2282, k0_off2284, k0_off2286, k0_off2288, k0_off2290, k0_off2292]
  hpa := fun v h => all8 (k0_off2262_inb v h) (k0_off2264_inb v h) (k0_off2266_inb v h) (k0_off2268_inb v h) (k0_off2270_inb v h) (k0_off2272_inb v h) (k0_off2274_inb v h) (k0_off2276_inb v h)
  hpb := fun v h => all8 (k0_off2278_inb v h) (k0_off2280_inb v h) (k0_off2282_inb v h) (k0_off2284_inb v h) (k0_off2286_inb v h) (k0_off2288_inb v h) (k0_off2290_inb v h) (k0_off2292_inb v h)

theorem pairAt9_0_ok : ∀ t, (pairAt9_0 t).Ok t 0 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_1 (t : Fin k0_t1_loop.trips) : PairAt where
  la := ![k0_off2293 t 2#32, k0_off2303 t, k0_off2305 t, k0_off2307 t, k0_off2309 t, k0_off2311 t, k0_off2313 t, k0_off2315 t]
  lb := ![k0_off2317 t, k0_off2319 t, k0_off2321 t, k0_off2323 t, k0_off2325 t, k0_off2327 t, k0_off2329 t, k0_off2331 t]
  sa := ![k0_off2333 t 2#32, k0_off2334 t, k0_off2335 t, k0_off2336 t, k0_off2337 t, k0_off2338 t, k0_off2339 t, k0_off2340 t]
  sb := ![k0_off2341 t, k0_off2319 t, k0_off2321 t, k0_off2323 t, k0_off2325 t, k0_off2327 t, k0_off2329 t, k0_off2331 t]
  hla := all8 (k0_off2293_inb t 1) (k0_off2303_inb t) (k0_off2305_inb t) (k0_off2307_inb t) (k0_off2309_inb t) (k0_off2311_inb t) (k0_off2313_inb t) (k0_off2315_inb t)
  hlb := all8 (k0_off2317_inb t) (k0_off2319_inb t) (k0_off2321_inb t) (k0_off2323_inb t) (k0_off2325_inb t) (k0_off2327_inb t) (k0_off2329_inb t) (k0_off2331_inb t)
  hsa := all8 (k0_off2333_inb t 0) (k0_off2334_inb t) (k0_off2335_inb t) (k0_off2336_inb t) (k0_off2337_inb t) (k0_off2338_inb t) (k0_off2339_inb t) (k0_off2340_inb t)
  hsb := all8 (k0_off2341_inb t) (k0_off2319_inb t) (k0_off2321_inb t) (k0_off2323_inb t) (k0_off2325_inb t) (k0_off2327_inb t) (k0_off2329_inb t) (k0_off2331_inb t)
  ca := k0_chk115
  cb := k0_chk116
  da := k0_chk115.dec
  db := k0_chk116.dec
  pa := ![k0_off2302, k0_off2304, k0_off2306, k0_off2308, k0_off2310, k0_off2312, k0_off2314, k0_off2316]
  pb := ![k0_off2318, k0_off2320, k0_off2322, k0_off2324, k0_off2326, k0_off2328, k0_off2330, k0_off2332]
  hpa := fun v h => all8 (k0_off2302_inb v h) (k0_off2304_inb v h) (k0_off2306_inb v h) (k0_off2308_inb v h) (k0_off2310_inb v h) (k0_off2312_inb v h) (k0_off2314_inb v h) (k0_off2316_inb v h)
  hpb := fun v h => all8 (k0_off2318_inb v h) (k0_off2320_inb v h) (k0_off2322_inb v h) (k0_off2324_inb v h) (k0_off2326_inb v h) (k0_off2328_inb v h) (k0_off2330_inb v h) (k0_off2332_inb v h)

theorem pairAt9_1_ok : ∀ t, (pairAt9_1 t).Ok t 1 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_2 (t : Fin k0_t1_loop.trips) : PairAt where
  la := ![k0_off2333 t 4#32, k0_off2343 t, k0_off2345 t, k0_off2347 t, k0_off2349 t, k0_off2351 t, k0_off2353 t, k0_off2355 t]
  lb := ![k0_off2357 t, k0_off2359 t, k0_off2361 t, k0_off2363 t, k0_off2365 t, k0_off2367 t, k0_off2369 t, k0_off2371 t]
  sa := ![k0_off2373 t 4#32, k0_off2374 t, k0_off2375 t, k0_off2376 t, k0_off2377 t, k0_off2378 t, k0_off2379 t, k0_off2380 t]
  sb := ![k0_off2381 t, k0_off2359 t, k0_off2361 t, k0_off2363 t, k0_off2365 t, k0_off2367 t, k0_off2369 t, k0_off2371 t]
  hla := all8 (k0_off2333_inb t 1) (k0_off2343_inb t) (k0_off2345_inb t) (k0_off2347_inb t) (k0_off2349_inb t) (k0_off2351_inb t) (k0_off2353_inb t) (k0_off2355_inb t)
  hlb := all8 (k0_off2357_inb t) (k0_off2359_inb t) (k0_off2361_inb t) (k0_off2363_inb t) (k0_off2365_inb t) (k0_off2367_inb t) (k0_off2369_inb t) (k0_off2371_inb t)
  hsa := all8 (k0_off2373_inb t 0) (k0_off2374_inb t) (k0_off2375_inb t) (k0_off2376_inb t) (k0_off2377_inb t) (k0_off2378_inb t) (k0_off2379_inb t) (k0_off2380_inb t)
  hsb := all8 (k0_off2381_inb t) (k0_off2359_inb t) (k0_off2361_inb t) (k0_off2363_inb t) (k0_off2365_inb t) (k0_off2367_inb t) (k0_off2369_inb t) (k0_off2371_inb t)
  ca := k0_chk117
  cb := k0_chk118
  da := k0_chk117.dec
  db := k0_chk118.dec
  pa := ![k0_off2342, k0_off2344, k0_off2346, k0_off2348, k0_off2350, k0_off2352, k0_off2354, k0_off2356]
  pb := ![k0_off2358, k0_off2360, k0_off2362, k0_off2364, k0_off2366, k0_off2368, k0_off2370, k0_off2372]
  hpa := fun v h => all8 (k0_off2342_inb v h) (k0_off2344_inb v h) (k0_off2346_inb v h) (k0_off2348_inb v h) (k0_off2350_inb v h) (k0_off2352_inb v h) (k0_off2354_inb v h) (k0_off2356_inb v h)
  hpb := fun v h => all8 (k0_off2358_inb v h) (k0_off2360_inb v h) (k0_off2362_inb v h) (k0_off2364_inb v h) (k0_off2366_inb v h) (k0_off2368_inb v h) (k0_off2370_inb v h) (k0_off2372_inb v h)

theorem pairAt9_2_ok : ∀ t, (pairAt9_2 t).Ok t 2 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_3 (t : Fin k0_t1_loop.trips) : PairAt where
  la := ![k0_off2373 t 6#32, k0_off2383 t, k0_off2385 t, k0_off2387 t, k0_off2389 t, k0_off2391 t, k0_off2393 t, k0_off2395 t]
  lb := ![k0_off2397 t, k0_off2399 t, k0_off2401 t, k0_off2403 t, k0_off2405 t, k0_off2407 t, k0_off2409 t, k0_off2411 t]
  sa := ![k0_off2413 t 6#32, k0_off2414 t, k0_off2415 t, k0_off2416 t, k0_off2417 t, k0_off2418 t, k0_off2419 t, k0_off2420 t]
  sb := ![k0_off2421 t, k0_off2399 t, k0_off2401 t, k0_off2403 t, k0_off2405 t, k0_off2407 t, k0_off2409 t, k0_off2411 t]
  hla := all8 (k0_off2373_inb t 1) (k0_off2383_inb t) (k0_off2385_inb t) (k0_off2387_inb t) (k0_off2389_inb t) (k0_off2391_inb t) (k0_off2393_inb t) (k0_off2395_inb t)
  hlb := all8 (k0_off2397_inb t) (k0_off2399_inb t) (k0_off2401_inb t) (k0_off2403_inb t) (k0_off2405_inb t) (k0_off2407_inb t) (k0_off2409_inb t) (k0_off2411_inb t)
  hsa := all8 (k0_off2413_inb t 0) (k0_off2414_inb t) (k0_off2415_inb t) (k0_off2416_inb t) (k0_off2417_inb t) (k0_off2418_inb t) (k0_off2419_inb t) (k0_off2420_inb t)
  hsb := all8 (k0_off2421_inb t) (k0_off2399_inb t) (k0_off2401_inb t) (k0_off2403_inb t) (k0_off2405_inb t) (k0_off2407_inb t) (k0_off2409_inb t) (k0_off2411_inb t)
  ca := k0_chk119
  cb := k0_chk120
  da := k0_chk119.dec
  db := k0_chk120.dec
  pa := ![k0_off2382, k0_off2384, k0_off2386, k0_off2388, k0_off2390, k0_off2392, k0_off2394, k0_off2396]
  pb := ![k0_off2398, k0_off2400, k0_off2402, k0_off2404, k0_off2406, k0_off2408, k0_off2410, k0_off2412]
  hpa := fun v h => all8 (k0_off2382_inb v h) (k0_off2384_inb v h) (k0_off2386_inb v h) (k0_off2388_inb v h) (k0_off2390_inb v h) (k0_off2392_inb v h) (k0_off2394_inb v h) (k0_off2396_inb v h)
  hpb := fun v h => all8 (k0_off2398_inb v h) (k0_off2400_inb v h) (k0_off2402_inb v h) (k0_off2404_inb v h) (k0_off2406_inb v h) (k0_off2408_inb v h) (k0_off2410_inb v h) (k0_off2412_inb v h)

theorem pairAt9_3_ok : ∀ t, (pairAt9_3 t).Ok t 3 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_4 (t : Fin k0_t1_loop.trips) : PairAt where
  la := ![k0_off2413 t 8#32, k0_off2423 t, k0_off2425 t, k0_off2427 t, k0_off2429 t, k0_off2431 t, k0_off2433 t, k0_off2435 t]
  lb := ![k0_off2437 t, k0_off2439 t, k0_off2441 t, k0_off2443 t, k0_off2445 t, k0_off2447 t, k0_off2449 t, k0_off2451 t]
  sa := ![k0_off2453 t 8#32, k0_off2454 t, k0_off2455 t, k0_off2456 t, k0_off2457 t, k0_off2458 t, k0_off2459 t, k0_off2460 t]
  sb := ![k0_off2461 t, k0_off2439 t, k0_off2441 t, k0_off2443 t, k0_off2445 t, k0_off2447 t, k0_off2449 t, k0_off2451 t]
  hla := all8 (k0_off2413_inb t 1) (k0_off2423_inb t) (k0_off2425_inb t) (k0_off2427_inb t) (k0_off2429_inb t) (k0_off2431_inb t) (k0_off2433_inb t) (k0_off2435_inb t)
  hlb := all8 (k0_off2437_inb t) (k0_off2439_inb t) (k0_off2441_inb t) (k0_off2443_inb t) (k0_off2445_inb t) (k0_off2447_inb t) (k0_off2449_inb t) (k0_off2451_inb t)
  hsa := all8 (k0_off2453_inb t 0) (k0_off2454_inb t) (k0_off2455_inb t) (k0_off2456_inb t) (k0_off2457_inb t) (k0_off2458_inb t) (k0_off2459_inb t) (k0_off2460_inb t)
  hsb := all8 (k0_off2461_inb t) (k0_off2439_inb t) (k0_off2441_inb t) (k0_off2443_inb t) (k0_off2445_inb t) (k0_off2447_inb t) (k0_off2449_inb t) (k0_off2451_inb t)
  ca := k0_chk121
  cb := k0_chk122
  da := k0_chk121.dec
  db := k0_chk122.dec
  pa := ![k0_off2422, k0_off2424, k0_off2426, k0_off2428, k0_off2430, k0_off2432, k0_off2434, k0_off2436]
  pb := ![k0_off2438, k0_off2440, k0_off2442, k0_off2444, k0_off2446, k0_off2448, k0_off2450, k0_off2452]
  hpa := fun v h => all8 (k0_off2422_inb v h) (k0_off2424_inb v h) (k0_off2426_inb v h) (k0_off2428_inb v h) (k0_off2430_inb v h) (k0_off2432_inb v h) (k0_off2434_inb v h) (k0_off2436_inb v h)
  hpb := fun v h => all8 (k0_off2438_inb v h) (k0_off2440_inb v h) (k0_off2442_inb v h) (k0_off2444_inb v h) (k0_off2446_inb v h) (k0_off2448_inb v h) (k0_off2450_inb v h) (k0_off2452_inb v h)

theorem pairAt9_4_ok : ∀ t, (pairAt9_4 t).Ok t 4 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_5 (t : Fin k0_t1_loop.trips) : PairAt where
  la := ![k0_off2453 t 10#32, k0_off2463 t, k0_off2465 t, k0_off2467 t, k0_off2469 t, k0_off2471 t, k0_off2473 t, k0_off2475 t]
  lb := ![k0_off2477 t, k0_off2479 t, k0_off2481 t, k0_off2483 t, k0_off2485 t, k0_off2487 t, k0_off2489 t, k0_off2491 t]
  sa := ![k0_off2493 t 10#32, k0_off2494 t, k0_off2495 t, k0_off2496 t, k0_off2497 t, k0_off2498 t, k0_off2499 t, k0_off2500 t]
  sb := ![k0_off2501 t, k0_off2479 t, k0_off2481 t, k0_off2483 t, k0_off2485 t, k0_off2487 t, k0_off2489 t, k0_off2491 t]
  hla := all8 (k0_off2453_inb t 1) (k0_off2463_inb t) (k0_off2465_inb t) (k0_off2467_inb t) (k0_off2469_inb t) (k0_off2471_inb t) (k0_off2473_inb t) (k0_off2475_inb t)
  hlb := all8 (k0_off2477_inb t) (k0_off2479_inb t) (k0_off2481_inb t) (k0_off2483_inb t) (k0_off2485_inb t) (k0_off2487_inb t) (k0_off2489_inb t) (k0_off2491_inb t)
  hsa := all8 (k0_off2493_inb t 0) (k0_off2494_inb t) (k0_off2495_inb t) (k0_off2496_inb t) (k0_off2497_inb t) (k0_off2498_inb t) (k0_off2499_inb t) (k0_off2500_inb t)
  hsb := all8 (k0_off2501_inb t) (k0_off2479_inb t) (k0_off2481_inb t) (k0_off2483_inb t) (k0_off2485_inb t) (k0_off2487_inb t) (k0_off2489_inb t) (k0_off2491_inb t)
  ca := k0_chk123
  cb := k0_chk124
  da := k0_chk123.dec
  db := k0_chk124.dec
  pa := ![k0_off2462, k0_off2464, k0_off2466, k0_off2468, k0_off2470, k0_off2472, k0_off2474, k0_off2476]
  pb := ![k0_off2478, k0_off2480, k0_off2482, k0_off2484, k0_off2486, k0_off2488, k0_off2490, k0_off2492]
  hpa := fun v h => all8 (k0_off2462_inb v h) (k0_off2464_inb v h) (k0_off2466_inb v h) (k0_off2468_inb v h) (k0_off2470_inb v h) (k0_off2472_inb v h) (k0_off2474_inb v h) (k0_off2476_inb v h)
  hpb := fun v h => all8 (k0_off2478_inb v h) (k0_off2480_inb v h) (k0_off2482_inb v h) (k0_off2484_inb v h) (k0_off2486_inb v h) (k0_off2488_inb v h) (k0_off2490_inb v h) (k0_off2492_inb v h)

theorem pairAt9_5_ok : ∀ t, (pairAt9_5 t).Ok t 5 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_6 (t : Fin k0_t1_loop.trips) : PairAt where
  la := ![k0_off2493 t 12#32, k0_off2503 t, k0_off2505 t, k0_off2507 t, k0_off2509 t, k0_off2511 t, k0_off2513 t, k0_off2515 t]
  lb := ![k0_off2517 t, k0_off2519 t, k0_off2521 t, k0_off2523 t, k0_off2525 t, k0_off2527 t, k0_off2529 t, k0_off2531 t]
  sa := ![k0_off2533 t 12#32, k0_off2534 t, k0_off2535 t, k0_off2536 t, k0_off2537 t, k0_off2538 t, k0_off2539 t, k0_off2540 t]
  sb := ![k0_off2541 t, k0_off2519 t, k0_off2521 t, k0_off2523 t, k0_off2525 t, k0_off2527 t, k0_off2529 t, k0_off2531 t]
  hla := all8 (k0_off2493_inb t 1) (k0_off2503_inb t) (k0_off2505_inb t) (k0_off2507_inb t) (k0_off2509_inb t) (k0_off2511_inb t) (k0_off2513_inb t) (k0_off2515_inb t)
  hlb := all8 (k0_off2517_inb t) (k0_off2519_inb t) (k0_off2521_inb t) (k0_off2523_inb t) (k0_off2525_inb t) (k0_off2527_inb t) (k0_off2529_inb t) (k0_off2531_inb t)
  hsa := all8 (k0_off2533_inb t 0) (k0_off2534_inb t) (k0_off2535_inb t) (k0_off2536_inb t) (k0_off2537_inb t) (k0_off2538_inb t) (k0_off2539_inb t) (k0_off2540_inb t)
  hsb := all8 (k0_off2541_inb t) (k0_off2519_inb t) (k0_off2521_inb t) (k0_off2523_inb t) (k0_off2525_inb t) (k0_off2527_inb t) (k0_off2529_inb t) (k0_off2531_inb t)
  ca := k0_chk125
  cb := k0_chk126
  da := k0_chk125.dec
  db := k0_chk126.dec
  pa := ![k0_off2502, k0_off2504, k0_off2506, k0_off2508, k0_off2510, k0_off2512, k0_off2514, k0_off2516]
  pb := ![k0_off2518, k0_off2520, k0_off2522, k0_off2524, k0_off2526, k0_off2528, k0_off2530, k0_off2532]
  hpa := fun v h => all8 (k0_off2502_inb v h) (k0_off2504_inb v h) (k0_off2506_inb v h) (k0_off2508_inb v h) (k0_off2510_inb v h) (k0_off2512_inb v h) (k0_off2514_inb v h) (k0_off2516_inb v h)
  hpb := fun v h => all8 (k0_off2518_inb v h) (k0_off2520_inb v h) (k0_off2522_inb v h) (k0_off2524_inb v h) (k0_off2526_inb v h) (k0_off2528_inb v h) (k0_off2530_inb v h) (k0_off2532_inb v h)

theorem pairAt9_6_ok : ∀ t, (pairAt9_6 t).Ok t 6 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def pairAt9_7 (t : Fin k0_t1_loop.trips) : PairAt where
  la := ![k0_off2533 t 14#32, k0_off2543 t, k0_off2545 t, k0_off2547 t, k0_off2549 t, k0_off2551 t, k0_off2553 t, k0_off2555 t]
  lb := ![k0_off2557 t, k0_off2559 t, k0_off2561 t, k0_off2563 t, k0_off2565 t, k0_off2567 t, k0_off2569 t, k0_off2571 t]
  sa := ![k0_off2573 t, k0_off2574 t, k0_off2575 t, k0_off2576 t, k0_off2577 t, k0_off2578 t, k0_off2579 t, k0_off2580 t]
  sb := ![k0_off2581 t, k0_off2559 t, k0_off2561 t, k0_off2563 t, k0_off2565 t, k0_off2567 t, k0_off2569 t, k0_off2571 t]
  hla := all8 (k0_off2533_inb t 1) (k0_off2543_inb t) (k0_off2545_inb t) (k0_off2547_inb t) (k0_off2549_inb t) (k0_off2551_inb t) (k0_off2553_inb t) (k0_off2555_inb t)
  hlb := all8 (k0_off2557_inb t) (k0_off2559_inb t) (k0_off2561_inb t) (k0_off2563_inb t) (k0_off2565_inb t) (k0_off2567_inb t) (k0_off2569_inb t) (k0_off2571_inb t)
  hsa := all8 (k0_off2573_inb t) (k0_off2574_inb t) (k0_off2575_inb t) (k0_off2576_inb t) (k0_off2577_inb t) (k0_off2578_inb t) (k0_off2579_inb t) (k0_off2580_inb t)
  hsb := all8 (k0_off2581_inb t) (k0_off2559_inb t) (k0_off2561_inb t) (k0_off2563_inb t) (k0_off2565_inb t) (k0_off2567_inb t) (k0_off2569_inb t) (k0_off2571_inb t)
  ca := k0_chk127
  cb := k0_chk128
  da := k0_chk127.dec
  db := k0_chk128.dec
  pa := ![k0_off2542, k0_off2544, k0_off2546, k0_off2548, k0_off2550, k0_off2552, k0_off2554, k0_off2556]
  pb := ![k0_off2558, k0_off2560, k0_off2562, k0_off2564, k0_off2566, k0_off2568, k0_off2570, k0_off2572]
  hpa := fun v h => all8 (k0_off2542_inb v h) (k0_off2544_inb v h) (k0_off2546_inb v h) (k0_off2548_inb v h) (k0_off2550_inb v h) (k0_off2552_inb v h) (k0_off2554_inb v h) (k0_off2556_inb v h)
  hpb := fun v h => all8 (k0_off2558_inb v h) (k0_off2560_inb v h) (k0_off2562_inb v h) (k0_off2564_inb v h) (k0_off2566_inb v h) (k0_off2568_inb v h) (k0_off2570_inb v h) (k0_off2572_inb v h)

theorem pairAt9_7_ok : ∀ t, (pairAt9_7 t).Ok t 7 := fun t =>
  ⟨by revert t; decide +kernel, by revert t; decide +kernel, by revert t; decide +kernel, by revert t; decide +kernel,
    fun v h => ⟨inb_row v h 0, inb_row v h 1, inb_row v h 2, inb_row v h 3, inb_row v h 4, inb_row v h 5, inb_row v h 6, inb_row v h 7⟩,
    fun v h => ⟨inb_row v h 0, inb_row v h 1, inb_row v h 2, inb_row v h 3, inb_row v h 4, inb_row v h 5, inb_row v h 6, inb_row v h 7⟩,
    fun v => all8 rfl rfl rfl rfl rfl rfl rfl rfl, fun v => all8 rfl rfl rfl rfl rfl rfl rfl rfl⟩

def compAt9 : CompAt := ⟨fun t => k0_off2260 t, fun t => k0_off2260_inb t,
  fun t => ![pairAt9_0 t, pairAt9_1 t, pairAt9_2 t, pairAt9_3 t, pairAt9_4 t, pairAt9_5 t, pairAt9_6 t, pairAt9_7 t]⟩

end Cert.Proof
-- ==== Proof.Body.lean ====
module

public import proofs.«01_k».proof.Proof.Loops

@[expose] public section

noncomputable section

namespace Cert.Proof

open Cert.KernelIdeal Cert.KernelIdeal.Gen
open Idealize.ShloMosaic Idealize.SL.Sem

variable {F : FTy → Type} [FloatOps F]

/-! ## The memory of a tile, by name -/

abbrev idsM : Memref sig .scVector .hbm S204800 .i32 := Memref.whole main_v15_scv
abbrev pidM : Memref sig .scVector .hbm S204800 .i32 := Memref.whole main_v16_scv
abbrev wordM : Memref sig .scVector .hbm S100000x128 .f32 := Memref.whole main_arg1_scv
abbrev pttM : Memref sig .scVector .hbm S512x128 .f32 := Memref.whole main_v11_scv
abbrev gbHM : Memref sig .scVector .hbm S2x128 .f32 := Memref.whole main_v14_scv
abbrev outM : Memref sig .scVector .hbm S204800x128 .f32 := Memref.whole main_v17_scv
abbrev idsV : Memref sig .scVector .vmem S6400 .i32 := Memref.whole cc0_scratch0
abbrev pidV : Memref sig .scVector .vmem S6400 .i32 := Memref.whole cc0_scratch1
abbrev pttV : Memref sig .scVector .vmem S512x128 .f32 := Memref.whole cc0_scratch2
abbrev gbM : Memref sig .scVector .vmem S2x128 .f32 := Memref.whole cc0_scratch3
abbrev bufM0 : Memref sig .scVector .vmem S64x128 .f32 := Memref.whole cc0_scratch4
abbrev bufM1 : Memref sig .scVector .vmem S64x128 .f32 := Memref.whole cc0_scratch5
abbrev bufM2 : Memref sig .scVector .vmem S64x128 .f32 := Memref.whole cc0_scratch6
abbrev bufM3 : Memref sig .scVector .vmem S64x128 .f32 := Memref.whole cc0_scratch7

/-- The rows of the word table that a copy may read: all of them. -/
abbrev wordS : Memref sig .scVector .hbm S100000x128 .f32 :=
  wordM.slice (Rect.unit (s := S100000x128) ![0, 0] S100000x128.size inb_S100000x128_S100000x128_0_0) (fun _ => rfl)

/-- A tile's words of a list of one word per token. -/
abbrev listS (m : Memref sig .scVector .hbm S204800 .i32) (i : grid0.Coords) : Memref sig .scVector .hbm S6400 .i32 :=
  m.slice (Rect.unit (s := S204800) (k0_off1 i) S6400.size (k0_off1_inb i)) (fun _ => rfl)

/-- Sixty-four of the tile's token ids. -/
abbrev idsS (o : Fin 1 → Nat) (h : ∀ a, o a + S64.size a ≤ S6400.size a) : Memref sig .scVector .vmem S64 .i32 :=
  idsV.slice (Rect.unit (s := S6400) o S64.size h) (fun _ => rfl)

/-- Sixty-four rows of the result. -/
abbrev outS (o : Fin 2 → Nat) (h : ∀ a, o a + S64x128.size a ≤ S204800x128.size a) :
    Memref sig .scVector .hbm S64x128 .f32 :=
  outM.slice (Rect.unit (s := S204800x128) o S64x128.size h) (fun _ => rfl)

/-! ## The steps of a tile -/

variable {c : Fin τ.nSC} {s : Fin τ.nSub}

/-- Sixteen tokens: their position ids read, then the eight pairs' programs. -/
def bodyG (buf : Memref sig .scVector .vmem S64x128 .f32) (gam bet : Fin 8 → FVec F S16 .f32) (lo : IVec S16 1)
    (C : CompAt) (t : Fin k0_t1_loop.trips) : Prog (TpuEff nD τ sig (Elt F) Λ₀ (.scVector c s)) PUnit := do
  let w : Vec F S16 .i32 ← Prog.lift (.load pidV (Rect.unit (s := S6400) (C.off t) S16.size (C.hoff t)).toLoadRect (View.loadsAt_vmem h_S16))
  pairG buf pttV gam bet lo (C.pair t 0) (extractAt ![0] (extractStridedSlice S1 ![0] w slices_S16_o0_S1) inpos_S1_p0) (extractAt ![0] (extractStridedSlice S1 ![1] w slices_S16_o1_S1) inpos_S1_p0)
  pairG buf pttV gam bet lo (C.pair t 1) (extractAt ![0] (extractStridedSlice S1 ![2] w slices_S16_o2_S1) inpos_S1_p0) (extractAt ![0] (extractStridedSlice S1 ![3] w slices_S16_o3_S1) inpos_S1_p0)
  pairG buf pttV gam bet lo (C.pair t 2) (extractAt ![0] (extractStridedSlice S1 ![4] w slices_S16_o4_S1) inpos_S1_p0) (extractAt ![0] (extractStridedSlice S1 ![5] w slices_S16_o5_S1) inpos_S1_p0)
  pairG buf pttV gam bet lo (C.pair t 3) (extractAt ![0] (extractStridedSlice S1 ![6] w slices_S16_o6_S1) inpos_S1_p0) (extractAt ![0] (extractStridedSlice S1 ![7] w slices_S16_o7_S1) inpos_S1_p0)
  pairG buf pttV gam bet lo (C.pair t 4) (extractAt ![0] (extractStridedSlice S1 ![8] w slices_S16_o8_S1) inpos_S1_p0) (extractAt ![0] (extractStridedSlice S1 ![9] w slices_S16_o9_S1) inpos_S1_p0)
  pairG buf pttV gam bet lo (C.pair t 5) (extractAt ![0] (extractStridedSlice S1 ![10] w slices_S16_o10_S1) inpos_S1_p0) (extractAt ![0] (extractStridedSlice S1 ![11] w slices_S16_o11_S1) inpos_S1_p0)
  pairG buf pttV gam bet lo (C.pair t 6) (extractAt ![0] (extractStridedSlice S1 ![12] w slices_S16_o12_S1) inpos_S1_p0) (extractAt ![0] (extractStridedSlice S1 ![13] w slices_S16_o13_S1) inpos_S1_p0)
  pairG buf pttV gam bet lo (C.pair t 7) (extractAt ![0] (extractStridedSlice S1 ![14] w slices_S16_o14_S1) inpos_S1_p0) (extractAt ![0] (extractStridedSlice S1 ![15] w slices_S16_o15_S1) inpos_S1_p0)

/-- A chunk of sixty-four tokens normalized in its buffer. -/
def compG (buf : Memref sig .scVector .vmem S64x128 .f32) (gam bet : Fin 8 → FVec F S16 .f32) (lo : IVec S16 1)
    (C : CompAt) : Prog (TpuEff nD τ sig (Elt F) Λ₀ (.scVector c s)) PUnit :=
  Scf.Loop.for k0_t1_loop k0_t1_ok ⟨⟩ fun t _ => bodyG buf gam bet lo C t

/-- A chunk's rows of the word table start on their way into a buffer. -/
def gatherG (buf : Memref sig .scVector .vmem S64x128 .f32) (hb : buf.IsWhole) (sem : DmaSems sig S_) (o : Fin 1 → Nat)
    (h : ∀ a, o a + S64.size a ≤ S6400.size a) : Prog (TpuEff nD τ sig (Elt F) Λ₀ (.scVector c s)) PUnit :=
  SparseCore.enqueueIndirectGather rfl wordS buf gathers_S100000x128_S64x128 (idsS o h) rfl sem.sem (View.wordExact_bits rfl) rfl (Or.inl rfl)

/-- They have arrived. -/
def waitG (buf : Memref sig .scVector .vmem S64x128 .f32) (hb : buf.IsWhole) (sem : DmaSems sig S_) :
    Prog (TpuEff nD τ sig (Elt F) Λ₀ (.scVector c s)) PUnit :=
  SparseCore.waitIndirectGather sem.sem wordS buf (View.wordExact_bits rfl) hb.wordExact

/-- A buffer starts on its way out to the result. -/
def outG (buf : Memref sig .scVector .vmem S64x128 .f32) (hb : buf.IsWhole) (sem : DmaSems sig S_) (o : Fin 2 → Nat)
    (h : ∀ a, o a + S64x128.size a ≤ S204800x128.size a) : Prog (TpuEff nD τ sig (Elt F) Λ₀ (.scVector c s)) PUnit :=
  Prog.lift (.enqueueDma buf (.here (outS o h)) (.dma sem.sem) hb.wordExact (View.wordExact_bits rfl) ⟨Or.inl rfl, trivial⟩)

/-- It has arrived. -/
def waitO (buf : Memref sig .scVector .vmem S64x128 .f32) (hb : buf.IsWhole) (sem : DmaSems sig S_) (o : Fin 2 → Nat)
    (h : ∀ a, o a + S64x128.size a ≤ S204800x128.size a) : Prog (TpuEff nD τ sig (Elt F) Λ₀ (.scVector c s)) PUnit :=
  Prog.lift (.waitDma2 sem.sem buf (outS o h) hb.wordExact (View.wordExact_bits rfl))

/-- The start of a section of the ring: the gather of the chunk in `b` has arrived; the way out of the buffer `bn` has
    ended, and the gather of the chunk two further starts into it. -/
def nextG (b bn : Memref sig .scVector .vmem S64x128 .f32) (hb : b.IsWhole) (hbn : bn.IsWhole) (g gn on : DmaSems sig S_)
    (i : grid0.Coords) (p : Fin k0_t3_loop.trips) (r : Fin 4) :
    Prog (TpuEff nD τ sig (Elt F) Λ₀ (.scVector c s)) PUnit := do
  waitG b hb g
  waitO bn hbn on (k0_off647 i) (k0_off647_inb i)
  gatherG bn hbn gn (k0_off648 p (BitVec.ofNat 32 r.val)) (k0_off648_inb p r)

/-- The tile's tables: its token ids, its position ids, the position table, and gamma and beta. -/
def tablesG (i : grid0.Coords) : Prog (TpuEff nD τ sig (Elt F) Λ₀ (.scVector c s)) PUnit := do
  Prog.lift (.enqueueDma (listS idsM i) (.here idsV) (.dma cc0_scoped0.sem) (View.wordExact_bits rfl) (Memref.isWhole_whole _).wordExact ⟨Or.inl rfl, trivial⟩)
  Prog.lift (.waitDma2 cc0_scoped0.sem (listS idsM i) idsV (View.wordExact_bits rfl) (Memref.isWhole_whole _).wordExact)
  Prog.lift (.enqueueDma (listS pidM i) (.here pidV) (.dma cc0_scoped1.sem) (View.wordExact_bits rfl) (Memref.isWhole_whole _).wordExact ⟨Or.inl rfl, trivial⟩)
  Prog.lift (.waitDma2 cc0_scoped1.sem (listS pidM i) pidV (View.wordExact_bits rfl) (Memref.isWhole_whole _).wordExact)
  Prog.lift (.enqueueDma pttM (.here pttV) (.dma cc0_scoped2.sem) (Memref.isWhole_whole _).wordExact (Memref.isWhole_whole _).wordExact ⟨Or.inl rfl, trivial⟩)
  Prog.lift (.waitDma2 cc0_scoped2.sem pttM pttV (Memref.isWhole_whole _).wordExact (Memref.isWhole_whole _).wordExact)
  Prog.lift (.enqueueDma gbHM (.here gbM) (.dma cc0_scoped3.sem) (Memref.isWhole_whole _).wordExact (Memref.isWhole_whole _).wordExact ⟨Or.inl rfl, trivial⟩)
  Prog.lift (.waitDma2 cc0_scoped3.sem gbHM gbM (Memref.isWhole_whole _).wordExact (Memref.isWhole_whole _).wordExact)

/-- The lanes of the first token of a pair. -/
def loV : IVec S16 1 := cmpi .slt (iota .scVector S16 32 [0] iota_S16_d0_w32_scVector) (broadcast S16 8#32)

/-- The chunks of the tile, once gamma and beta are in vectors. -/
def chunksG (gam bet : Fin 8 → FVec F S16 .f32) (lo : IVec S16 1) (i : grid0.Coords) :
    Prog (TpuEff nD τ sig (Elt F) Λ₀ (.scVector c s)) PUnit := do
  gatherG bufM0 (Memref.isWhole_whole _) cc0_scratch12 ![0] inb_S6400_S64_0
  gatherG bufM1 (Memref.isWhole_whole _) cc0_scratch13 ![64] inb_S6400_S64_64
  waitG bufM0 (Memref.isWhole_whole _) cc0_scratch12
  gatherG bufM2 (Memref.isWhole_whole _) cc0_scratch14 ![128] inb_S6400_S64_128
  compG bufM0 gam bet lo compAt1
  outG bufM0 (Memref.isWhole_whole _) cc0_scratch16 (k0_off324 i 0#32) (k0_off324_inb i 0)
  waitG bufM1 (Memref.isWhole_whole _) cc0_scratch13
  gatherG bufM3 (Memref.isWhole_whole _) cc0_scratch15 ![192] inb_S6400_S64_192
  compG bufM1 gam bet lo compAt2
  outG bufM1 (Memref.isWhole_whole _) cc0_scratch17 (k0_off324 i 64#32) (k0_off324_inb i 1)
  Scf.Loop.for k0_t3_loop k0_t3_ok ⟨⟩ fun p _ => do
    nextG bufM2 bufM0 (Memref.isWhole_whole _) (Memref.isWhole_whole _) cc0_scratch14 cc0_scratch12 cc0_scratch16 i p 0
    compG bufM2 gam bet lo (compAt4 p)
    outG bufM2 (Memref.isWhole_whole _) cc0_scratch18 (k0_off971 i p (BitVec.ofNat 32 ((0 : Fin 4)).val)) (k0_off971_inb i p 0)
    nextG bufM3 bufM1 (Memref.isWhole_whole _) (Memref.isWhole_whole _) cc0_scratch15 cc0_scratch13 cc0_scratch17 i p 1
    compG bufM3 gam bet lo (compAt5 p)
    outG bufM3 (Memref.isWhole_whole _) cc0_scratch19 (k0_off971 i p (BitVec.ofNat 32 ((1 : Fin 4)).val)) (k0_off971_inb i p 1)
    nextG bufM0 bufM2 (Memref.isWhole_whole _) (Memref.isWhole_whole _) cc0_scratch12 cc0_scratch14 cc0_scratch18 i p 2
    compG bufM0 gam bet lo (compAt6 p)
    outG bufM0 (Memref.isWhole_whole _) cc0_scratch16 (k0_off971 i p (BitVec.ofNat 32 ((2 : Fin 4)).val)) (k0_off971_inb i p 2)
    nextG bufM1 bufM3 (Memref.isWhole_whole _) (Memref.isWhole_whole _) cc0_scratch13 cc0_scratch15 cc0_scratch19 i p 3
    compG bufM1 gam bet lo (compAt7 p)
    outG bufM1 (Memref.isWhole_whole _) cc0_scratch17 (k0_off971 i p (BitVec.ofNat 32 ((3 : Fin 4)).val)) (k0_off971_inb i p 3)
  waitG bufM2 (Memref.isWhole_whole _) cc0_scratch14
  compG bufM2 gam bet lo compAt8
  outG bufM2 (Memref.isWhole_whole _) cc0_scratch18 (k0_off324 i 6272#32) (k0_off324_inb i 2)
  waitG bufM3 (Memref.isWhole_whole _) cc0_scratch15
  compG bufM3 gam bet lo compAt9
  outG bufM3 (Memref.isWhole_whole _) cc0_scratch19 (k0_off324 i 6336#32) (k0_off324_inb i 3)
  waitO bufM0 (Memref.isWhole_whole _) cc0_scratch16 (k0_off2582 i) (k0_off2582_inb i)
  waitO bufM1 (Memref.isWhole_whole _) cc0_scratch17 (k0_off2582 i) (k0_off2582_inb i)
  waitO bufM2 (Memref.isWhole_whole _) cc0_scratch18 (k0_off2582 i) (k0_off2582_inb i)
  waitO bufM3 (Memref.isWhole_whole _) cc0_scratch19 (k0_off2582 i) (k0_off2582_inb i)

/-- The tile's program: the tables, gamma and beta, and the chunks. -/
def tileG (i : grid0.Coords) : Prog (TpuEff nD τ sig (Elt F) Λ₀ (.scVector c s)) PUnit := do
  tablesG i
  let g0 : Vec F S1x16 .f32 ← Prog.lift (.load gbM (Rect.unit (s := S2x128) ![0, 0] S1x16.size inb_S2x128_S1x16_0_0).toLoadRect (View.loadsAt_vmem h_S1x16))
  let g1 : Vec F S1x16 .f32 ← Prog.lift (.load gbM (Rect.unit (s := S2x128) ![0, 16] S1x16.size inb_S2x128_S1x16_0_16).toLoadRect (View.loadsAt_vmem h_S1x16))
  let g2 : Vec F S1x16 .f32 ← Prog.lift (.load gbM (Rect.unit (s := S2x128) ![0, 32] S1x16.size inb_S2x128_S1x16_0_32).toLoadRect (View.loadsAt_vmem h_S1x16))
  let g3 : Vec F S1x16 .f32 ← Prog.lift (.load gbM (Rect.unit (s := S2x128) ![0, 48] S1x16.size inb_S2x128_S1x16_0_48).toLoadRect (View.loadsAt_vmem h_S1x16))
  let g4 : Vec F S1x16 .f32 ← Prog.lift (.load gbM (Rect.unit (s := S2x128) ![0, 64] S1x16.size inb_S2x128_S1x16_0_64).toLoadRect (View.loadsAt_vmem h_S1x16))
  let g5 : Vec F S1x16 .f32 ← Prog.lift (.load gbM (Rect.unit (s := S2x128) ![0, 80] S1x16.size inb_S2x128_S1x16_0_80).toLoadRect (View.loadsAt_vmem h_S1x16))
  let g6 : Vec F S1x16 .f32 ← Prog.lift (.load gbM (Rect.unit (s := S2x128) ![0, 96] S1x16.size inb_S2x128_S1x16_0_96).toLoadRect (View.loadsAt_vmem h_S1x16))
  let g7 : Vec F S1x16 .f32 ← Prog.lift (.load gbM (Rect.unit (s := S2x128) ![0, 112] S1x16.size inb_S2x128_S1x16_0_112).toLoadRect (View.loadsAt_vmem h_S1x16))
  let b0 : Vec F S1x16 .f32 ← Prog.lift (.load gbM (Rect.unit (s := S2x128) ![1, 0] S1x16.size inb_S2x128_S1x16_1_0).toLoadRect (View.loadsAt_vmem h_S1x16))
  let b1 : Vec F S1x16 .f32 ← Prog.lift (.load gbM (Rect.unit (s := S2x128) ![1, 16] S1x16.size inb_S2x128_S1x16_1_16).toLoadRect (View.loadsAt_vmem h_S1x16))
  let b2 : Vec F S1x16 .f32 ← Prog.lift (.load gbM (Rect.unit (s := S2x128) ![1, 32] S1x16.size inb_S2x128_S1x16_1_32).toLoadRect (View.loadsAt_vmem h_S1x16))
  let b3 : Vec F S1x16 .f32 ← Prog.lift (.load gbM (Rect.unit (s := S2x128) ![1, 48] S1x16.size inb_S2x128_S1x16_1_48).toLoadRect (View.loadsAt_vmem h_S1x16))
  let b4 : Vec F S1x16 .f32 ← Prog.lift (.load gbM (Rect.unit (s := S2x128) ![1, 64] S1x16.size inb_S2x128_S1x16_1_64).toLoadRect (View.loadsAt_vmem h_S1x16))
  let b5 : Vec F S1x16 .f32 ← Prog.lift (.load gbM (Rect.unit (s := S2x128) ![1, 80] S1x16.size inb_S2x128_S1x16_1_80).toLoadRect (View.loadsAt_vmem h_S1x16))
  let b6 : Vec F S1x16 .f32 ← Prog.lift (.load gbM (Rect.unit (s := S2x128) ![1, 96] S1x16.size inb_S2x128_S1x16_1_96).toLoadRect (View.loadsAt_vmem h_S1x16))
  let b7 : Vec F S1x16 .f32 ← Prog.lift (.load gbM (Rect.unit (s := S2x128) ![1, 112] S1x16.size inb_S2x128_S1x16_1_112).toLoadRect (View.loadsAt_vmem h_S1x16))
  chunksG ![shapeCast S16 g0 shapeCasts_S1x16_S16, shapeCast S16 g1 shapeCasts_S1x16_S16, shapeCast S16 g2 shapeCasts_S1x16_S16, shapeCast S16 g3 shapeCasts_S1x16_S16, shapeCast S16 g4 shapeCasts_S1x16_S16, shapeCast S16 g5 shapeCasts_S1x16_S16, shapeCast S16 g6 shapeCasts_S1x16_S16, shapeCast S16 g7 shapeCasts_S1x16_S16]
    ![shapeCast S16 b0 shapeCasts_S1x16_S16, shapeCast S16 b1 shapeCasts_S1x16_S16, shapeCast S16 b2 shapeCasts_S1x16_S16, shapeCast S16 b3 shapeCasts_S1x16_S16, shapeCast S16 b4 shapeCasts_S1x16_S16, shapeCast S16 b5 shapeCasts_S1x16_S16, shapeCast S16 b6 shapeCasts_S1x16_S16, shapeCast S16 b7 shapeCasts_S1x16_S16] loV i

end Cert.Proof
-- ==== Proof.Spec.lean ====
module

public import proofs.«01_k».proof.Proof.Body
public import Idealize.ShloMosaic.Lib.ValueLayout

@[expose] public section

noncomputable section

namespace Cert.Proof

open Cert.KernelIdeal Cert.KernelIdeal.Gen
open Idealize.ShloMosaic Idealize.ShloMosaic.ValueIdx Idealize.SL.Sem

variable {F : FTy → Type} [FloatOps F]

/-! ## The value of one token -/

/-- The scalar of a float word. -/
def cst1 (w : BitVec 32) : F .f32 := Scalar.ofBits .f32 w

def mean1 (s : F .f32) : F .f32 := FloatOps.mulf s (cst1 0x3C000000#32)
def var1 (s q : F .f32) : F .f32 :=
  FloatOps.addf (FloatOps.subf (FloatOps.mulf q (cst1 0x3C000000#32)) (FloatOps.mulf (mean1 s) (mean1 s))) (cst1 0x2B8CBCCC#32)
def newton1 (v y : F .f32) : F .f32 :=
  FloatOps.mulf y (FloatOps.subf (cst1 0x3FC00000#32) (FloatOps.mulf (FloatOps.mulf (FloatOps.mulf (cst1 0x3F000000#32) v) y) y))
def rstd1 (v : F .f32) : F .f32 := newton1 v (newton1 v (FloatOps.rsqrt v))

/-- The reciprocal standard deviation of a token. -/
def tokY (x : Fin 8 → FVec F S16 .f32) : F .f32 := rstd1 (var1 (total (sumV x)) (total (sqV x)))

/-- The mean of a token times its reciprocal standard deviation. -/
def tokMY (x : Fin 8 → FVec F S16 .f32) : F .f32 := FloatOps.mulf (mean1 (total (sumV x))) (tokY x)

/-- A token's row before it is normalized: its word's row and its position's row added, in eight slices. -/
def tokX (w p : Fin 128 → F .f32) (j : Fin 8) : FVec F S16 .f32 :=
  fun l => FloatOps.addf (w ⟨16 * j.val + (l 0).val, by have := (l 0).isLt; simp [S16] at this; omega⟩)
    (p ⟨16 * j.val + (l 0).val, by have := (l 0).isLt; simp [S16] at this; omega⟩)

/-- A token's row. -/
def rowV (gam bet : Fin 8 → FVec F S16 .f32) (w p : Fin 128 → F .f32) (e : Fin 128) : F .f32 :=
  outV (tokX w p ⟨e.val / 16, by omega⟩) (tokY (tokX w p)) (tokMY (tokX w p)) (gam ⟨e.val / 16, by omega⟩)
    (bet ⟨e.val / 16, by omega⟩) (ix1 (⟨e.val % 16, by omega⟩ : Fin 16))

/-- A lane of a vector is its value there. -/
theorem lane_eq (k : Nat) (hk : k < 16) (h : S16.Slices ![k] S1) (v : FVec F S16 .f32) : lane k h v = v (ix1 (⟨k, hk⟩ : Fin 16)) :=
  congrArg v (funext fun a => Fin.ext (by fin_cases a; rfl))

theorem both_lo (i : S16.Idx) (h : loV i = 1) (a b : F .f32) : both loV a b i = a := if_pos h
theorem both_hi (i : S16.Idx) (h : ¬ loV i = 1) (a b : F .f32) : both loV a b i = b := if_neg h

/-- Where the two tokens' sums are known, so is the reciprocal standard deviation. -/
theorem pairY_apply (xa xb : Fin 8 → FVec F S16 .f32) (i : S16.Idx) : pairY loV xa xb i
    = rstd1 (var1 (both loV (total (sumV xa)) (total (sumV xb)) i) (both loV (total (sqV xa)) (total (sqV xb)) i)) := rfl

theorem pairMY_apply (xa xb : Fin 8 → FVec F S16 .f32) (i : S16.Idx) : pairMY loV xa xb i
    = FloatOps.mulf (mean1 (both loV (total (sumV xa)) (total (sumV xb)) i)) (pairY loV xa xb i) := rfl

theorem lo_0 : loV (ix1 (⟨0, by decide⟩ : Fin 16)) = 1 := by decide
theorem lo_15 : ¬ loV (ix1 (⟨15, by decide⟩ : Fin 16)) = 1 := by decide

/-- Lane 0 holds the first token's value. -/
theorem lane0_pairY (xa xb : Fin 8 → FVec F S16 .f32) : lane 0 slices_S16_o0_S1 (pairY loV xa xb) = tokY xa := by
  rw [lane_eq 0 (by decide), pairY_apply, both_lo _ lo_0, both_lo _ lo_0]; rfl

/-- Lane 15 holds the second token's value. -/
theorem lane15_pairY (xa xb : Fin 8 → FVec F S16 .f32) : lane 15 slices_S16_o15_S1 (pairY loV xa xb) = tokY xb := by
  rw [lane_eq 15 (by decide), pairY_apply, both_hi _ lo_15, both_hi _ lo_15]; rfl

theorem lane0_pairMY (xa xb : Fin 8 → FVec F S16 .f32) : lane 0 slices_S16_o0_S1 (pairMY loV xa xb) = tokMY xa := by
  rw [lane_eq 0 (by decide), pairMY_apply, both_lo _ lo_0, ← lane_eq 0 (by decide) slices_S16_o0_S1 (pairY loV xa xb), lane0_pairY]; rfl

theorem lane15_pairMY (xa xb : Fin 8 → FVec F S16 .f32) : lane 15 slices_S16_o15_S1 (pairMY loV xa xb) = tokMY xb := by
  rw [lane_eq 15 (by decide), pairMY_apply, both_hi _ lo_15, ← lane_eq 15 (by decide) slices_S16_o15_S1 (pairY loV xa xb), lane15_pairY]; rfl

end Cert.Proof
-- ==== Proof.Setup.lean ====
module

public import proofs.«01_k».proof.Proof.Spec
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

end Cert.Proof
-- ==== Proof.PairWp.lean ====
module

public import proofs.«01_k».proof.Proof.Setup
public import Idealize.ShloMosaic.Lib.Writes

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A buffer of rows, its first rows normalized -/

/-- The buffer's first `k` rows are `Y`'s, and its others `X`'s. -/
def St (buf : Memref sig .scVector .vmem S64x128 .f32) (X Y : S64x128.Idx → F .f32) (f : buf.view.ty.Contents (Elt F)) (k : Nat) : Prop :=
  ∀ y : S64x128.Idx, buf.view.read (Elt F) f y = if (y 0).val < k then Y y else X y

/-- What `Y`'s row `n` should be: `X`'s row and the row `w` of the table, added and normalized. -/
def RowOk (gam bet : Fin 8 → FVec F S16 .f32) (P : S512x128.Idx → F .f32) (X Y : S64x128.Idx → F .f32) (n : Fin 64) (w : BitVec 32) : Prop :=
  ∃ h : w.toNat < 512, ∀ e : Fin 128, Y (ix2 n e) = rowV gam bet (fun e => X (ix2 n e)) (fun e => P (ix2 ⟨w.toNat, h⟩ e)) e

variable {buf : Memref sig .scVector .vmem S64x128 .f32} {ptt : Memref sig .scVector .vmem S512x128 .f32}
variable {X Y : S64x128.Idx → F .f32} {f : buf.view.ty.Contents (Elt F)} {fp : ptt.view.ty.Contents (Elt F)} {k : Nat}

/-- The slice `j` of a row, as the pair's program reads it. -/
theorem x_eq (hf : St buf X Y f k) (n : Fin 64) (hn : k ≤ n.val) (w : Fin 512) (j : Fin 8) (la pa : Fin 2 → Nat)
    (hla : ∀ a, la a + S1x16.size a ≤ S64x128.size a) (hpa : ∀ a, pa a + S1x16.size a ≤ S512x128.size a)
    (ea : la = ![n.val, 16 * j.val]) (eb : pa = ![w.val, 16 * j.val]) :
    addf (shapeCast S16 ((buf.access (Rect.unit (s := S64x128) la S1x16.size hla)).read (Elt F) f) shapeCasts_S1x16_S16)
      (shapeCast S16 ((ptt.access (Rect.unit (s := S512x128) pa S1x16.size hpa)).read (Elt F) fp) shapeCasts_S1x16_S16)
    = tokX (fun e => X (ix2 n e)) (fun e => ptt.view.read (Elt F) fp (ix2 w e)) j := by
  subst ea eb
  funext l
  obtain ⟨l, rfl⟩ : ∃ l' : Fin 16, l = ix1 l' := ⟨l 0, funext fun a => by fin_cases a; rfl⟩
  show FloatOps.addf (shapeCast S16 _ _ (ix1 l)) (shapeCast S16 _ _ (ix1 l)) = _
  rw [shapeCast_1a_a_apply, shapeCast_1a_a_apply]
  show FloatOps.addf (buf.view.read (Elt F) f _) (ptt.view.read (Elt F) fp _) = FloatOps.addf _ _
  congr 1
  · rw [hf, if_neg (by show ¬ n.val + 1 * 0 < k; omega)]
    congr 1; funext a; fin_cases a <;> apply Fin.ext
    · show n.val + 1 * 0 = n.val; omega
    · show 16 * j.val + 1 * l.val = 16 * j.val + l.val; omega
  · congr 1; funext a; fin_cases a <;> apply Fin.ext
    · show w.val + 1 * 0 = w.val; omega
    · show 16 * j.val + 1 * l.val = 16 * j.val + l.val; omega

/-- A slice that the pair's program stores is the row's. -/
theorem out_eq (gam bet : Fin 8 → FVec F S16 .f32) (P : S512x128.Idx → F .f32) (n : Fin 64) (w : BitVec 32) (hY : RowOk gam bet P X Y n w)
    (xs : Fin 8 → FVec F S16 .f32) (hx : xs = tokX (fun e => X (ix2 n e)) (fun e => P (ix2 ⟨w.toNat, hY.1⟩ e)))
    (j : Fin 8) (sa : Fin 2 → Nat) (hsa : ∀ a, sa a + S1x16.size a ≤ S64x128.size a) (ea : sa = ![n.val, 16 * j.val])
    (x : (Rect.unit (s := S64x128) sa S1x16.size hsa).shape.Idx) :
    shapeCast S1x16 (outV (xs j) (tokY xs) (tokMY xs) (gam j) (bet j)) shapeCasts_S16_S1x16 x
      = Y ((Rect.unit (s := S64x128) sa S1x16.size hsa).emb x) := by
  subst ea hx
  have hxl : (x 1).val < 16 := (x 1).isLt
  have hx0 : (x 0).val < 1 := (x 0).isLt
  have e1 : x = ix2 (⟨(x 0).val, hx0⟩ : Fin 1) (⟨(x 1).val, hxl⟩ : Fin 16) := by
    funext a; fin_cases a <;> rfl
  have e2 : (Rect.unit (s := S64x128) ![n.val, 16 * j.val] S1x16.size hsa).emb x
      = ix2 n (⟨16 * j.val + (x 1).val, by omega⟩ : Fin 128) := by
    funext a; fin_cases a <;> apply Fin.ext
    · show n.val + 1 * (x 0).val = n.val; omega
    · show 16 * j.val + 1 * (x 1).val = 16 * j.val + (x 1).val; omega
  rw [e2, hY.2]
  conv_lhs => rw [e1]
  refine (shapeCast_a_1a_apply _ _ _ _).trans ?_
  have e3 : (⟨(16 * j.val + (x 1).val) / 16, by omega⟩ : Fin 8) = j := Fin.ext (by show (16 * j.val + (x 1).val) / 16 = j.val; omega)
  have e4 : (⟨(16 * j.val + (x 1).val) % 16, by omega⟩ : Fin 16) = ⟨(x 1).val, hxl⟩ := Fin.ext (by show (16 * j.val + (x 1).val) % 16 = (x 1).val; omega)
  unfold rowV
  simp only [e3, e4]

/-- The sixteen stores of a pair leave both its rows normalized. -/
theorem St_pair (gam bet : Fin 8 → FVec F S16 .f32) (P : S512x128.Idx → F .f32) (A : PairAt) (t : Fin k0_t1_loop.trips) (u : Nat)
    (hA : A.Ok t u) (n : Fin 64) (n' : Fin 64) (hn : n.val = 16 * t.val + 2 * u) (hn' : n'.val = 16 * t.val + 2 * u + 1)
    (wa wb : BitVec 32) (hYa : RowOk gam bet P X Y n wa) (hYb : RowOk gam bet P X Y n' wb)
    (hf : St buf X Y f (16 * t.val + 2 * u)) (xa xb : Fin 8 → FVec F S16 .f32)
    (hxa : xa = tokX (fun e => X (ix2 n e)) (fun e => P (ix2 ⟨wa.toNat, hYa.1⟩ e)))
    (hxb : xb = tokX (fun e => X (ix2 n' e)) (fun e => P (ix2 ⟨wb.toNat, hYb.1⟩ e))) :
    St buf X Y (buf.view.writes (Elt F) f
      (([7, 6, 5, 4, 3, 2, 1, 0] : List (Fin 8)).map (fun j => ⟨Rect.unit (s := S64x128) (A.sb j) S1x16.size (A.hsb j),
          shapeCast S1x16 (outV (xb j) (lane 15 slices_S16_o15_S1 (pairY loV xa xb)) (lane 15 slices_S16_o15_S1 (pairMY loV xa xb)) (gam j) (bet j)) shapeCasts_S16_S1x16⟩)
        ++ ([7, 6, 5, 4, 3, 2, 1, 0] : List (Fin 8)).map (fun j => ⟨Rect.unit (s := S64x128) (A.sa j) S1x16.size (A.hsa j),
          shapeCast S1x16 (outV (xa j) (lane 0 slices_S16_o0_S1 (pairY loV xa xb)) (lane 0 slices_S16_o0_S1 (pairMY loV xa xb)) (gam j) (bet j)) shapeCasts_S16_S1x16⟩)))
      (16 * t.val + 2 * u + 2) := by
  intro y
  have hy1 : (y 1).val < 128 := (y 1).isLt
  have hall : ∀ j : Fin 8, j ∈ ([7, 6, 5, 4, 3, 2, 1, 0] : List (Fin 8)) := by decide
  rw [lane0_pairY, lane15_pairY, lane0_pairMY, lane15_pairMY]
  by_cases h : (y 0).val = n.val ∨ (y 0).val = n'.val
  · rw [if_pos (by omega)]
    refine View.read_writes_apply_of_pieces (Val := Elt F) buf.view f (fun y => (Y y : Elt F _)) _ ?_ y ?_
    · intro p hp x
      rcases List.mem_append.mp hp with hp | hp <;> obtain ⟨j, -, rfl⟩ := List.mem_map.mp hp
      · exact out_eq gam bet P n' wb hYb xb hxb j _ (A.hsb j) (by rw [hA.sb, hn']) x
      · exact out_eq gam bet P n wa hYa xa hxa j _ (A.hsa j) (by rw [hA.sa, hn]) x
    · rcases h with h | h
      · refine ⟨_, List.mem_append.mpr (.inr (List.mem_map.mpr ⟨⟨(y 1).val / 16, by omega⟩, hall _, rfl⟩)), ?_⟩
        refine (Rect.mem_set_unit (inb := A.hsa _)).mpr fun a => ?_
        rw [hA.sa]
        fin_cases a
        · exact ⟨by show 16 * t.val + 2 * u ≤ (y 0).val; omega, by show (y 0).val < 16 * t.val + 2 * u + 1; omega⟩
        · exact ⟨by show 16 * ((y 1).val / 16) ≤ (y 1).val; omega, by show (y 1).val < 16 * ((y 1).val / 16) + 16; omega⟩
      · refine ⟨_, List.mem_append.mpr (.inl (List.mem_map.mpr ⟨⟨(y 1).val / 16, by omega⟩, hall _, rfl⟩)), ?_⟩
        refine (Rect.mem_set_unit (inb := A.hsb _)).mpr fun a => ?_
        rw [hA.sb]
        fin_cases a
        · exact ⟨by show 16 * t.val + 2 * u + 1 ≤ (y 0).val; omega, by show (y 0).val < 16 * t.val + 2 * u + 1 + 1; omega⟩
        · exact ⟨by show 16 * ((y 1).val / 16) ≤ (y 1).val; omega, by show (y 1).val < 16 * ((y 1).val / 16) + 16; omega⟩
  · rw [View.read_writes_apply_of_forall_not_mem, hf]
    · congr 1; apply propext; omega
    · intro p hp
      rcases List.mem_append.mp hp with hp | hp <;> obtain ⟨j, -, rfl⟩ := List.mem_map.mp hp
      · exact Rect.not_mem_set_of_axis _ _ 0 n'.val 1 (by show A.sb j 0 = _; rw [hA.sb, hn']; rfl) rfl rfl (by omega)
      · exact Rect.not_mem_set_of_axis _ _ 0 n.val 1 (by show A.sa j 0 = _; rw [hA.sa, hn]; rfl) rfl rfl (by omega)

section
variable {d : Dev nD} {c : Fin τ.nSC} {s : Fin τ.nSub}

local notation "𝕄" => MT nD τ sig (HIx 1) (Elt F) ℕ UU ℕ

/-- A pair's program, run from a buffer whose rows before the pair's are normalized. -/
theorem wp_pairG {q : PosShare TreeShare} (gam bet : Fin 8 → FVec F S16 .f32) (A : PairAt) (t : Fin k0_t1_loop.trips) (u : Nat)
    (hA : A.Ok t u) (hu : u < 8) (wa wb : BitVec 32)
    (hYa : RowOk gam bet (ptt.view.read (Elt F) fp) X Y ⟨16 * t.val + 2 * u, by have := t.isLt; have : k0_t1_loop.trips = 4 := rfl; omega⟩ wa)
    (hYb : RowOk gam bet (ptt.view.read (Elt F) fp) X Y ⟨16 * t.val + 2 * u + 1, by have := t.isLt; have : k0_t1_loop.trips = 4 := rfl; omega⟩ wb)
    (hf : St buf X Y f (16 * t.val + 2 * u)) (Q : PUnit → sProp 𝕄) :
    iprop((buf.view.loc (V d c s) ↦{fullShare} f) ∗ (ptt.view.loc (V d c s) ↦{q} fp)
        ∗ (∀ f', ⌜St buf X Y f' (16 * t.val + 2 * u + 2)⌝ -∗ (buf.view.loc (V d c s) ↦{fullShare} f') -∗ (ptt.view.loc (V d c s) ↦{q} fp) -∗ Q ⟨⟩))
      ⊢ wp frame (wpE (defs₀ (F := F)) 𝒱₀ (V d c s) none) Set.univ (pairG buf ptt gam bet loV A wa wb) Q := by
  iintro ⟨Hb, Hp, HQ⟩
  have ha := hA.ca wa hYa.1
  have hb := hA.cb wb hYb.1
  sl_unfold [pairG]
  sl_exec
  sl_step
  iapply HQ $$ %_ %?_ Hb Hp
  refine St_pair gam bet (ptt.view.read (Elt F) fp) A t u hA _ _ rfl rfl wa wb hYa hYb hf _ _ ?_ ?_
  · have key := fun j => x_eq (fp := fp) hf ⟨16 * t.val + 2 * u, by have := t.isLt; have : k0_t1_loop.trips = 4 := rfl; omega⟩ (Nat.le_refl _)
      ⟨wa.toNat, hYa.1⟩ j (A.la j) (A.pa j wa) (A.hla j) (A.hpa wa ha j) (hA.la j) (hA.pa wa j)
    funext j; fin_cases j; exacts [key 0, key 1, key 2, key 3, key 4, key 5, key 6, key 7]
  · have key := fun j => x_eq (fp := fp) hf ⟨16 * t.val + 2 * u + 1, by have := t.isLt; have : k0_t1_loop.trips = 4 := rfl; omega⟩ (Nat.le_succ _)
      ⟨wb.toNat, hYb.1⟩ j (A.lb j) (A.pb j wb) (A.hlb j) (A.hpb wb hb j) (hA.lb j) (hA.pb wb j)
    funext j; fin_cases j; exacts [key 0, key 1, key 2, key 3, key 4, key 5, key 6, key 7]
end

end Cert.Proof
-- ==== Proof.CompWp.lean ====
module

public import proofs.«01_k».proof.Proof.PairWp
public import Idealize.ShloMosaic.Lib.Scf

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A chunk of tokens normalized in its buffer -/

/-- A chunk's accesses: its position ids start at `base`, and its pairs' accesses are theirs. -/
structure CompAt.Ok (C : CompAt) (base : Nat) : Prop where
  off : ∀ t, C.off t = ![base + 16 * t.val]
  pair : ∀ t u, (C.pair t u).Ok t u.val

theorem compAt1_ok : compAt1.Ok 0 :=
  ⟨fun t => (k0_off2_eq t).trans (by simp), fun t u => by
    fin_cases u; exacts [pairAt1_0_ok t, pairAt1_1_ok t, pairAt1_2_ok t, pairAt1_3_ok t, pairAt1_4_ok t, pairAt1_5_ok t, pairAt1_6_ok t, pairAt1_7_ok t]⟩
theorem compAt2_ok : compAt2.Ok 64 :=
  ⟨fun t => (k0_off325_eq t).trans (by congr 1; omega), fun t u => by
    fin_cases u; exacts [pairAt2_0_ok t, pairAt2_1_ok t, pairAt2_2_ok t, pairAt2_3_ok t, pairAt2_4_ok t, pairAt2_5_ok t, pairAt2_6_ok t, pairAt2_7_ok t]⟩
theorem compAt4_ok (p : Fin k0_t3_loop.trips) : (compAt4 p).Ok (256 * p.val + 128) :=
  ⟨fun t => (k0_off649_eq p t).trans (by congr 1; omega), fun t u => by
    fin_cases u; exacts [pairAt4_0_ok t, pairAt4_1_ok t, pairAt4_2_ok t, pairAt4_3_ok t, pairAt4_4_ok t, pairAt4_5_ok t, pairAt4_6_ok t, pairAt4_7_ok t]⟩
theorem compAt5_ok (p : Fin k0_t3_loop.trips) : (compAt5 p).Ok (256 * p.val + 192) :=
  ⟨fun t => (k0_off972_eq p t).trans (by congr 1; omega), fun t u => by
    fin_cases u; exacts [pairAt5_0_ok t, pairAt5_1_ok t, pairAt5_2_ok t, pairAt5_3_ok t, pairAt5_4_ok t, pairAt5_5_ok t, pairAt5_6_ok t, pairAt5_7_ok t]⟩
theorem compAt6_ok (p : Fin k0_t3_loop.trips) : (compAt6 p).Ok (256 * p.val + 256) :=
  ⟨fun t => (k0_off1294_eq p t).trans (by congr 1; omega), fun t u => by
    fin_cases u; exacts [pairAt6_0_ok t, pairAt6_1_ok t, pairAt6_2_ok t, pairAt6_3_ok t, pairAt6_4_ok t, pairAt6_5_ok t, pairAt6_6_ok t, pairAt6_7_ok t]⟩
theorem compAt7_ok (p : Fin k0_t3_loop.trips) : (compAt7 p).Ok (256 * p.val + 320) :=
  ⟨fun t => (k0_off1616_eq p t).trans (by congr 1; omega), fun t u => by
    fin_cases u; exacts [pairAt7_0_ok t, pairAt7_1_ok t, pairAt7_2_ok t, pairAt7_3_ok t, pairAt7_4_ok t, pairAt7_5_ok t, pairAt7_6_ok t, pairAt7_7_ok t]⟩
theorem compAt8_ok : compAt8.Ok 6272 :=
  ⟨fun t => (k0_off1938_eq t).trans (by congr 1; omega), fun t u => by
    fin_cases u; exacts [pairAt8_0_ok t, pairAt8_1_ok t, pairAt8_2_ok t, pairAt8_3_ok t, pairAt8_4_ok t, pairAt8_5_ok t, pairAt8_6_ok t, pairAt8_7_ok t]⟩
theorem compAt9_ok : compAt9.Ok 6336 :=
  ⟨fun t => (k0_off2260_eq t).trans (by congr 1; omega), fun t u => by
    fin_cases u; exacts [pairAt9_0_ok t, pairAt9_1_ok t, pairAt9_2_ok t, pairAt9_3_ok t, pairAt9_4_ok t, pairAt9_5_ok t, pairAt9_6_ok t, pairAt9_7_ok t]⟩

/-- What the chunk's rows should be, position ids `ids` from `base` on naming the rows of the table `P`. -/
def RowsOk (gam bet : Fin 8 → FVec F S16 .f32) (P : S512x128.Idx → F .f32) (ids : S6400.Idx → BitVec 32) (X Y : S64x128.Idx → F .f32) (base : Nat) : Prop :=
  ∀ n : Fin 64, ∃ h : base + n.val < 6400, RowOk gam bet P X Y n (ids (ix1 ⟨base + n.val, h⟩))

variable {buf : Memref sig .scVector .vmem S64x128 .f32}
variable {X Y : S64x128.Idx → F .f32} {f : buf.view.ty.Contents (Elt F)} {fp : pttV.view.ty.Contents (Elt F)} {fi : pidV.view.ty.Contents (Elt F)}

/-- A word taken from the sixteen that a trip loads is the position id of its token. -/
theorem word_ok {gam bet : Fin 8 → FVec F S16 .f32} {P : S512x128.Idx → F .f32} {base : Nat}
    (hR : RowsOk gam bet P (pidV.view.read (Elt F) fi) X Y base) (C : CompAt) (hC : C.Ok base) (t : Fin k0_t1_loop.trips) (k : Nat) (hk : k < 16)
    (h : S16.Slices ![k] S1) (n : Fin 64) (hn : n.val = 16 * t.val + k) :
    RowOk gam bet P X Y n
      (extractAt ![0] (extractStridedSlice (s := S16) S1 ![k] (View.readAt (Elt F) pidV.view (Rect.unit (s := S6400) (C.off t) S16.size (C.hoff t)).toLoadRect fi : Vec F S16 .i32) h) inpos_S1_p0) := by
  obtain ⟨hb, hrow⟩ := hR n
  have e : extractAt ![0] (extractStridedSlice (s := S16) S1 ![k] (View.readAt (Elt F) pidV.view (Rect.unit (s := S6400) (C.off t) S16.size (C.hoff t)).toLoadRect fi : Vec F S16 .i32) h) inpos_S1_p0
      = pidV.view.read (Elt F) fi (ix1 ⟨base + n.val, hb⟩) := by
    show pidV.view.read (Elt F) fi _ = _
    congr 1; funext a; fin_cases a; apply Fin.ext
    show C.off t 0 + 1 * (k + 1 * 0) = base + n.val
    rw [hC.off, hn]; show base + 16 * t.val + _ = _; omega
  rw [e]; exact hrow

section
variable {d : Dev nD} {c : Fin τ.nSC} {s : Fin τ.nSub}

local notation "𝕄" => MT nD τ sig (HIx 1) (Elt F) ℕ UU ℕ

/-- A load, its continuation apart. -/
theorem wp_loadG {sp : CoreSpace} {sh : Shape} {e : EltTy} {m : Memref sig .scVector sp sh e} {q : PosShare TreeShare} {f : m.view.ty.Contents (Elt F)}
    (r : LoadRect sh) (hl : m.view.LoadsAt r) (Q : (r.shape.Idx → Elt F e) → sProp 𝕄) :
    (m.view.loc (V d c s) ↦{q} f : sProp 𝕄)
      ⊢ iprop(((m.view.loc (V d c s) ↦{q} f) -∗ Q (View.readAt (Elt F) m.view r f))
        -∗ wp frame (wpE (defs₀ (F := F)) 𝒱₀ (V d c s) none) Set.univ (Prog.lift (.load m r hl)) Q) := by
  iintro H HQ
  sl_exec
  sl_step
  iapply HQ $$ H

/-- Sixteen tokens normalized. -/
theorem wp_bodyG {gam bet : Fin 8 → FVec F S16 .f32} {base : Nat}
    (hR : RowsOk gam bet (pttV.view.read (Elt F) fp) (pidV.view.read (Elt F) fi) X Y base) (C : CompAt) (hC : C.Ok base) (t : Fin k0_t1_loop.trips)
    (hf : St buf X Y f (16 * t.val)) (Q : PUnit → sProp 𝕄) :
    iprop((buf.view.loc (V d c s) ↦{fullShare} f) ∗ (pttV.view.loc (V d c s) ↦{fullShare} fp) ∗ (pidV.view.loc (V d c s) ↦{fullShare} fi)
        ∗ (∀ f', ⌜St buf X Y f' (16 * (t.val + 1))⌝ -∗ (buf.view.loc (V d c s) ↦{fullShare} f') -∗ (pttV.view.loc (V d c s) ↦{fullShare} fp)
            -∗ (pidV.view.loc (V d c s) ↦{fullShare} fi) -∗ Q ⟨⟩))
      ⊢ wp frame (wpE (defs₀ (F := F)) 𝒱₀ (V d c s) none) Set.univ (bodyG buf gam bet loV C t) Q := by
  have ht : t.val < 4 := t.isLt
  iintro ⟨Hb, Hp, Hi, HQ⟩
  unfold bodyG
  rw [wp_bind]
  iapply (wp_loadG _ _ _) $$ Hi
  iintro Hi
  rw [wp_bind]
  iapply (wp_pairG gam bet (C.pair t 0) t 0 (hC.pair t 0) (by decide) _ _ (word_ok hR C hC t 0 (by decide) _ _ rfl) (word_ok hR C hC t 1 (by decide) _ _ (Nat.add_assoc _ _ _)) hf _)
  isplitl [Hb]; · iexact Hb
  isplitl [Hp]; · iexact Hp
  iintro %f1 %h1 Hb Hp
  rw [wp_bind]
  iapply (wp_pairG gam bet (C.pair t 1) t 1 (hC.pair t 1) (by decide) _ _ (word_ok hR C hC t 2 (by decide) _ _ rfl) (word_ok hR C hC t 3 (by decide) _ _ (Nat.add_assoc _ _ _)) h1 _)
  isplitl [Hb]; · iexact Hb
  isplitl [Hp]; · iexact Hp
  iintro %f2 %h2 Hb Hp
  rw [wp_bind]
  iapply (wp_pairG gam bet (C.pair t 2) t 2 (hC.pair t 2) (by decide) _ _ (word_ok hR C hC t 4 (by decide) _ _ rfl) (word_ok hR C hC t 5 (by decide) _ _ (Nat.add_assoc _ _ _)) h2 _)
  isplitl [Hb]; · iexact Hb
  isplitl [Hp]; · iexact Hp
  iintro %f3 %h3 Hb Hp
  rw [wp_bind]
  iapply (wp_pairG gam bet (C.pair t 3) t 3 (hC.pair t 3) (by decide) _ _ (word_ok hR C hC t 6 (by decide) _ _ rfl) (word_ok hR C hC t 7 (by decide) _ _ (Nat.add_assoc _ _ _)) h3 _)
  isplitl [Hb]; · iexact Hb
  isplitl [Hp]; · iexact Hp
  iintro %f4 %h4 Hb Hp
  rw [wp_bind]
  iapply (wp_pairG gam bet (C.pair t 4) t 4 (hC.pair t 4) (by decide) _ _ (word_ok hR C hC t 8 (by decide) _ _ rfl) (word_ok hR C hC t 9 (by decide) _ _ (Nat.add_assoc _ _ _)) h4 _)
  isplitl [Hb]; · iexact Hb
  isplitl [Hp]; · iexact Hp
  iintro %f5 %h5 Hb Hp
  rw [wp_bind]
  iapply (wp_pairG gam bet (C.pair t 5) t 5 (hC.pair t 5) (by decide) _ _ (word_ok hR C hC t 10 (by decide) _ _ rfl) (word_ok hR C hC t 11 (by decide) _ _ (Nat.add_assoc _ _ _)) h5 _)
  isplitl [Hb]; · iexact Hb
  isplitl [Hp]; · iexact Hp
  iintro %f6 %h6 Hb Hp
  rw [wp_bind]
  iapply (wp_pairG gam bet (C.pair t 6) t 6 (hC.pair t 6) (by decide) _ _ (word_ok hR C hC t 12 (by decide) _ _ rfl) (word_ok hR C hC t 13 (by decide) _ _ (Nat.add_assoc _ _ _)) h6 _)
  isplitl [Hb]; · iexact Hb
  isplitl [Hp]; · iexact Hp
  iintro %f7 %h7 Hb Hp
  iapply (wp_pairG gam bet (C.pair t 7) t 7 (hC.pair t 7) (by decide) _ _ (word_ok hR C hC t 14 (by decide) _ _ rfl) (word_ok hR C hC t 15 (by decide) _ _ (Nat.add_assoc _ _ _)) h7 _)
  isplitl [Hb]; · iexact Hb
  isplitl [Hp]; · iexact Hp
  iintro %f8 %h8 Hb Hp
  iapply HQ $$ %_ %(by simpa [Nat.mul_add] using h8) Hb Hp Hi

/-- A chunk normalized. -/
theorem wp_compG {gam bet : Fin 8 → FVec F S16 .f32} {base : Nat}
    (hR : RowsOk gam bet (pttV.view.read (Elt F) fp) (pidV.view.read (Elt F) fi) X Y base) (C : CompAt) (hC : C.Ok base)
    (hf : buf.view.read (Elt F) f = X) (Q : PUnit → sProp 𝕄) :
    iprop((buf.view.loc (V d c s) ↦{fullShare} f) ∗ (pttV.view.loc (V d c s) ↦{fullShare} fp) ∗ (pidV.view.loc (V d c s) ↦{fullShare} fi)
        ∗ (∀ f', ⌜buf.view.read (Elt F) f' = Y⌝ -∗ (buf.view.loc (V d c s) ↦{fullShare} f') -∗ (pttV.view.loc (V d c s) ↦{fullShare} fp)
            -∗ (pidV.view.loc (V d c s) ↦{fullShare} fi) -∗ Q ⟨⟩))
      ⊢ wp frame (wpE (defs₀ (F := F)) 𝒱₀ (V d c s) none) Set.univ (compG buf gam bet loV C) Q := by
  iintro ⟨Hb, Hp, Hi, HQ⟩
  unfold compG
  iapply (Scf.wp_for frame (wpE (defs₀ (F := F)) 𝒱₀ (V d c s) none) Set.univ _ _ _ _ _ _
    (fun k _ => iprop(∃ f', ⌜St buf X Y f' (16 * k)⌝ ∗ (buf.view.loc (V d c s) ↦{fullShare} f') ∗ (pttV.view.loc (V d c s) ↦{fullShare} fp)
      ∗ (pidV.view.loc (V d c s) ↦{fullShare} fi))) ?_) $$ [Hb Hp Hi HQ]
  · intro t _
    iintro ⟨%f', %hf', Hb, Hp, Hi⟩
    iapply (wp_bodyG hR C hC t hf' _)
    isplitl [Hb]; · iexact Hb
    isplitl [Hp]; · iexact Hp
    isplitl [Hi]; · iexact Hi
    iintro %f'' %hf'' Hb Hp Hi
    iexists f''
    isplit; · ipureintro; exact hf''
    isplitl [Hb]; · iexact Hb
    isplitl [Hp]; · iexact Hp
    iexact Hi
  · isplitl [Hb Hp Hi]
    · iexists f
      isplit; · ipureintro; intro y; rw [hf, if_neg (by omega)]
      isplitl [Hb]; · iexact Hb
      isplitl [Hp]; · iexact Hp
      iexact Hi
    · iintro %_ ⟨%f', %hf', Hb, Hp, Hi⟩
      iapply HQ $$ %f' %(funext fun y => (hf' y).trans (if_pos (by have : (y 0).val < 64 := (y 0).isLt; show (y 0).val < 16 * 4; omega))) Hb Hp Hi
end

end Cert.Proof
-- ==== Proof.CopyWp.lean ====
module

public import proofs.«01_k».proof.Proof.CompWp

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The copies of a tile: rows gathered into a buffer, and a buffer out to the result -/

/-- What the rules of a copy ask of a buffer: it is a whole one, and its credit is that of sixty-four rows. -/
structure BufOk (buf : Memref sig .scVector .vmem S64x128 .f32) : Prop where
  whole : buf.IsWhole
  set : buf.view.set = Finset.univ
  sum : ∑ j, (buf.slice (S64x128.rowRect gathers_S100000x128_S64x128.axis' j) (S64x128.stride_rowRect gathers_S100000x128_S64x128.axis' j)).view.dmaCredit
    = bufM0.view.dmaCredit
  credit : buf.view.dmaCredit = bufM0.view.dmaCredit

theorem bufOk0 : BufOk bufM0 := ⟨Memref.isWhole_whole _, View.set_whole _, by decide, rfl⟩
theorem bufOk1 : BufOk bufM1 := ⟨Memref.isWhole_whole _, View.set_whole _, by decide, rfl⟩
theorem bufOk2 : BufOk bufM2 := ⟨Memref.isWhole_whole _, View.set_whole _, by decide, rfl⟩
theorem bufOk3 : BufOk bufM3 := ⟨Memref.isWhole_whole _, View.set_whole _, by decide, rfl⟩

/-- The rows of the word table that sixty-four token ids from `b` on name. -/
def rowsAt (w : S100000x128.Idx → F .f32) (ids : S6400.Idx → BitVec 32) (hin : ∀ x, (ids x).toNat < 100000) (b : Nat) (y : S64x128.Idx) : F .f32 :=
  w (ix2 ⟨(ids (ix1 ⟨(b + (y 0).val) % 6400, Nat.mod_lt _ (by decide)⟩)).toNat, hin _⟩ (y 1))

/-- What a gather delivers. -/
theorem gather_eq {fw : wordM.view.ty.Contents (Elt F)} {fi : idsV.view.ty.Contents (Elt F)} (hin : ∀ x, (idsV.view.read (Elt F) fi x).toNat < 100000)
    (b : Nat) (hb : b + 64 ≤ 6400) (o : Fin 1 → Nat) (h : ∀ a, o a + S64.size a ≤ S6400.size a) (ho : o = ![b])
    (hin' : ∀ x, ((idsS o h).view.read (Elt F) fi x).toNat < S100000x128.size gathers_S100000x128_S64x128.axis) (hn) :
    SparseCore.gatherPayload gathers_S100000x128_S64x128 (wordS.view.read (Elt F) fw) (SparseCore.rows ((idsS o h).view.read (Elt F) fi) hn hin')
      = rowsAt (wordM.view.read (Elt F) fw) (idsV.view.read (Elt F) fi) hin b := by
  subst ho
  funext y
  have hy : (y 0).val < 64 := (y 0).isLt
  show wordM.view.read (Elt F) fw _ = wordM.view.read (Elt F) fw _
  congr 1
  have e : ∀ k : Fin 64, S64.rowMajor.symm (k.cast hn.symm) = ix1 k := fun k => by
    rw [Equiv.symm_apply_eq]; exact Fin.ext (show k.val = _ from (Shape.rowMajor_val_one (d := ![64]) (ix1 k)).symm)
  funext a
  apply Fin.ext
  fin_cases a
  · show 0 + 1 * (gathers_S100000x128_S64x128.idx _ y gathers_S100000x128_S64x128.axis).val = _
    rw [Shape.Gathers.idx_axis]
    show 0 + 1 * (idsV.view.read (Elt F) fi _).toNat = (idsV.view.read (Elt F) fi _).toNat
    rw [Nat.zero_add, Nat.one_mul]
    congr 2
    funext a'; fin_cases a'; apply Fin.ext
    show b + 1 * (S64.rowMajor.symm ((⟨(y 0).val, hy⟩ : Fin 64).cast hn.symm) 0).val = (b + (y 0).val) % 6400
    rw [e, Nat.mod_eq_of_lt (by omega)]
    show b + 1 * (y 0).val = _; omega
  · show 0 + 1 * (gathers_S100000x128_S64x128.idx _ y 1).val = (y 1).val
    rw [Shape.Gathers.idx_of_ne _ _ _ _ (by decide)]
    show 0 + 1 * (y 1).val = (y 1).val; omega

section
variable {d : Dev nD} {c : Fin τ.nSC} {s : Fin τ.nSub}
variable {buf : Memref sig .scVector .vmem S64x128 .f32}

local notation "𝕄" => MT nD τ sig (HIx 1) (Elt F) ℕ UU ℕ

variable (d c s) in
/-- A share of the word table, and one of the tile's token ids. -/
def lent (q qi : PosShare TreeShare) (fw : wordM.view.ty.Contents (Elt F)) (fi : idsV.view.ty.Contents (Elt F)) : sProp 𝕄 :=
  iprop((wordM.view.loc (V d c s) ↦{q} fw) ∗ (idsV.view.loc (V d c s) ↦{qi} fi))

variable (d c s) in
/-- A buffer at some contents that read `X`. -/
def holds (buf : Memref sig .scVector .vmem S64x128 .f32) (X : S64x128.Idx → F .f32) : sProp 𝕄 :=
  iprop(∃ f, ⌜buf.view.read (Elt F) f = X⌝ ∗ (buf.view.loc (V d c s) ↦{fullShare} f))

variable (d c s) in
/-- A buffer at some contents. -/
def free (buf : Memref sig .scVector .vmem S64x128 .f32) : sProp 𝕄 :=
  iprop(∃ f, (buf.view.loc (V d c s) ↦{fullShare} f))

variable (d c s) in
/-- Rows on their way into a buffer, with what was lent for it. -/
def inFlight (buf : Memref sig .scVector .vmem S64x128 .f32) (sem : DmaSems sig S_) (q qi : PosShare TreeShare) (fw : wordM.view.ty.Contents (Elt F))
    (fi : idsV.view.ty.Contents (Elt F)) (X : S64x128.Idx → F .f32) : sProp 𝕄 :=
  iprop(∃ I J, ⌜I ⊆ Finset.univ ∧ J ⊆ Finset.univ⌝
    ∗ Transfers.Flight countersEmb (V d c s) (.dma sem.sem) (default : HIx 1) bufM0.view.dmaCredit
        iprop(holds d c s buf X ∗ (wordM.view.loc (V d c s) ↦[I]{q} fw) ∗ (idsV.view.loc (V d c s) ↦[J]{qi} fi))
    ∗ (wordM.view.loc (V d c s) ↦[Finset.univ \ I]{q} fw) ∗ (idsV.view.loc (V d c s) ↦[Finset.univ \ J]{qi} fi))

variable (d c s) in
/-- A buffer on its way out to the elements `I` of the result, which will then be `w`'s. -/
def outFlight (buf : Memref sig .scVector .vmem S64x128 .f32) (sem : DmaSems sig S_) (I : Finset (Idx (outM.view.loc (V d c s))))
    (w : Buf (Elt F) (outM.view.loc (V d c s))) : sProp 𝕄 :=
  Transfers.Flight countersEmb (V d c s) (.dma sem.sem) (default : HIx 1) bufM0.view.dmaCredit
    iprop((outM.view.loc (V d c s) ↦[I]{fullShare} w) ∗ free d c s buf)

variable (d c s) in
/-- What the tile owes, its waits those of `W` and the tile's own. -/
def owing (O : CellTallies nD τ sig (HIx 1)) (W : Waits sig (HIx 1)) : sProp 𝕄 :=
  iprop(∃ W', ⌜∀ p ∈ W', p ∈ W ∨ p.2 = none ∨ p.2 = some (0 : Fin 1)⌝ ∗ owes (V d c s) O W')

theorem wp_gatherG (hb : BufOk buf) (hw : buf.IsWhole) (sem : DmaSems sig S_) {q qi : PosShare TreeShare} {fw : wordM.view.ty.Contents (Elt F)} {fi : idsV.view.ty.Contents (Elt F)}
    (hin : ∀ x, (idsV.view.read (Elt F) fi x).toNat < 100000)
    (b : Nat) (hb64 : b + 64 ≤ 6400) (o : Fin 1 → Nat) (h : ∀ a, o a + S64.size a ≤ S6400.size a) (ho : o = ![b]) (Q : PUnit → sProp 𝕄) :
    iprop(free d c s buf ∗ lent d c s q qi fw fi ∗ semVal (V d c s, SemLoc.dma sem.sem) 0
        ∗ (inFlight d c s buf sem q qi fw fi (rowsAt (wordM.view.read (Elt F) fw) (idsV.view.read (Elt F) fi) hin b) -∗ Q ⟨⟩))
      ⊢ wp frame (wpE (defs₀ (F := F)) 𝒱₀ (V d c s) none) Set.univ (gatherG buf hw sem o h) Q := by
  unfold free lent
  iintro ⟨⟨%f, Hb⟩, ⟨Hw, Hi⟩, Hs, HQ⟩
  ihave Hw := (pointsTo_split_subset (q := q) (f := fw) (S := Finset.univ) (Finset.subset_univ wordS.view.set)).1 $$ Hw
  icases Hw with ⟨Hw, Hwr⟩
  ihave Hi := (pointsTo_split_subset (q := qi) (f := fi) (S := Finset.univ) (Finset.subset_univ (idsS o h).view.set)).1 $$ Hi
  icases Hi with ⟨Hi, Hir⟩
  ihave Hb := (Entails.of_eq (show (buf.view.loc (V d c s) ↦{fullShare} f : sProp 𝕄) = buf.view.loc (V d c s) ↦[buf.view.set]{fullShare} f by rw [hb.set])) $$ Hb
  have hin' : ∀ x, ((idsS o h).view.read (Elt F) fi x).toNat < S100000x128.size gathers_S100000x128_S64x128.axis := fun x => hin _
  rw [show gatherG (F := F) (c := c) (s := s) buf hw sem o h
    = SparseCore.enqueueIndirectGather rfl wordS buf gathers_S100000x128_S64x128 (idsS o h) rfl sem.sem (View.wordExact_bits rfl) rfl (Or.inl rfl) >>= fun x => .ret x from rfl]
  iapply (SparseCore.wp_indirectGatherLocal countersEmb 𝒱₀ (V d c s) none (hg := gathers_S100000x128_S64x128) (default : HIx 1)
    bufM0.view.dmaCredit hb.sum (by decide) hin') $$ [Hb Hw Hi Hs]
  · isplitl [Hw]; · iexact Hw
    isplitl [Hb]; · iexact Hb
    isplitl [Hi]; · iexact Hi
    iexact Hs
  iintro Hfl
  iapply (le_wp_ret _ _ _ _ Q)
  iapply HQ
  unfold inFlight
  iexists wordS.view.set; iexists (idsS o h).view.set
  isplit; · ipureintro; exact ⟨Finset.subset_univ _, Finset.subset_univ _⟩
  isplitl [Hfl]
  · iapply (Transfers.Flight_mono countersEmb (V d c s) ?_) $$ Hfl
    iintro ⟨Hb, Hw, Hi⟩
    isplitl [Hb]
    · unfold holds
      iexists _
      isplit
      swap
      · iapply (Entails.of_eq (show (buf.view.loc (V d c s) ↦[buf.view.set]{fullShare} _ : sProp 𝕄) = buf.view.loc (V d c s) ↦{fullShare} _ by rw [hb.set])) $$ Hb
      · ipureintro
        rw [View.read_write_univ]
        exact gather_eq hin b hb64 o h ho hin' _
    isplitl [Hw]; · iexact Hw
    iexact Hi
  isplitl [Hwr]; · iexact Hwr
  iexact Hir

theorem wp_waitG (hb : BufOk buf) (hw : buf.IsWhole) (sem : DmaSems sig S_) {q qi : PosShare TreeShare} {fw : wordM.view.ty.Contents (Elt F)} {fi : idsV.view.ty.Contents (Elt F)}
    {X : S64x128.Idx → F .f32} {O : CellTallies nD τ sig (HIx 1)} {W : Waits sig (HIx 1)} (Q : PUnit → sProp 𝕄) :
    iprop(Transfers.MayWaits (V d c s) (default : HIx 1) O ∗ inFlight d c s buf sem q qi fw fi X ∗ owing d c s O W
        ∗ (holds d c s buf X -∗ lent d c s q qi fw fi -∗ semVal (V d c s, SemLoc.dma sem.sem) 0 -∗ owing d c s O W -∗ Q ⟨⟩))
      ⊢ wp frame (wpE (defs₀ (F := F)) 𝒱₀ (V d c s) none) Set.univ (waitG buf hw sem) Q := by
  unfold inFlight owing
  iintro ⟨#Hmw, ⟨%I, %J, %hIJ, Hfl, Hwr, Hir⟩, ⟨%W', %hW', HO⟩, HQ⟩
  unfold waitG SparseCore.waitIndirectGather
  iapply (Transfers.wp_waitLocalO countersEmb 𝒱₀ (V d c s) none (default : HIx 1) hb.credit) $$ [Hfl HO]
  · isplitl [Hfl]; · iexact Hfl
    isplitl [HO]; · iexact HO
    iapply (Transfers.MayWaits.elim (SemLoc.dma sem.sem)) $$ Hmw
  iintro ⟨⟨Hb, Hw, Hi⟩, Hs, HO⟩
  iapply (le_wp_ret _ _ _ _ Q)
  iapply HQ $$ Hb [Hw Hi Hwr Hir] Hs [HO]
  · unfold lent
    isplitl [Hw Hwr]
    · iapply (pointsTo_split_subset (q := q) (f := fw) (S := Finset.univ) hIJ.1).2
      isplitl [Hw] <;> iassumption
    · iapply (pointsTo_split_subset (q := qi) (f := fi) (S := Finset.univ) hIJ.2).2
      isplitl [Hi] <;> iassumption
  · iexists _
    isplit
    swap; · iexact HO
    ipureintro; intro p hp
    rcases Finset.mem_insert.mp hp with rfl | hp
    · exact .inr (.inl rfl)
    · exact hW' p hp

theorem wp_outG (hb : BufOk buf) (hw : buf.IsWhole) (sem : DmaSems sig S_) {Y : S64x128.Idx → F .f32} {fo w : Buf (Elt F) (outM.view.loc (V d c s))}
    (o : Fin 2 → Nat) (h : ∀ a, o a + S64x128.size a ≤ S204800x128.size a) (I : Finset (Idx (outM.view.loc (V d c s)))) (hI : (outS o h).view.set = I)
    (hY : (outS o h).view.read (Elt F) w = Y) (Q : PUnit → sProp 𝕄) :
    iprop(holds d c s buf Y ∗ (outM.view.loc (V d c s) ↦[I]{fullShare} fo) ∗ semVal (V d c s, SemLoc.dma sem.sem) 0
        ∗ (outFlight d c s buf sem I w -∗ Q ⟨⟩))
      ⊢ wp frame (wpE (defs₀ (F := F)) 𝒱₀ (V d c s) none) Set.univ (outG buf hw sem o h) Q := by
  subst hI
  unfold holds
  iintro ⟨⟨%f, %hf, Hb⟩, Ho, Hs, HQ⟩
  ihave Hb := (Entails.of_eq (show (buf.view.loc (V d c s) ↦{fullShare} f : sProp 𝕄) = buf.view.loc (V d c s) ↦[buf.view.set]{fullShare} f by rw [hb.set])) $$ Hb
  unfold outG
  iapply (Transfers.wp_dmaLocal countersEmb 𝒱₀ (V d c s) none (src := buf) (via := .same) (dst := outS o h) (default : HIx 1) bufM0.view.dmaCredit rfl (by decide) (Finset.Subset.refl _)) $$ [Hb Ho Hs]
  · isplitl [Hb]; · iexact Hb
    isplitl [Ho]; · iexact Ho
    iexact Hs
  iintro Hfl
  iapply (le_wp_ret _ _ _ _ Q)
  iapply HQ
  unfold outFlight
  iapply (Transfers.Flight_mono countersEmb (V d c s) ?_) $$ Hfl
  iintro ⟨Ho, Hb⟩
  isplitl [Ho]
  · iapply (Entails.of_eq (pointsTo_congr ?_)) $$ Ho
    intro i hi
    obtain ⟨x, -, rfl⟩ := Finset.mem_map.mp hi
    have e1 := congrFun (View.read_write_univ (v := (outS o h).view) (Val := Elt F) fo (buf.view.read (Elt F) f)) x
    have e2 := congrFun hY x
    exact e1.trans ((congrFun hf x).trans e2.symm)
  · unfold free
    iexists f
    iapply (Entails.of_eq (show (buf.view.loc (V d c s) ↦[buf.view.set]{fullShare} f : sProp 𝕄) = buf.view.loc (V d c s) ↦{fullShare} f by rw [hb.set])) $$ Hb

theorem wp_waitO (hw : buf.IsWhole) (sem : DmaSems sig S_) {I : Finset (Idx (outM.view.loc (V d c s)))} {w : Buf (Elt F) (outM.view.loc (V d c s))}
    (o : Fin 2 → Nat) (h : ∀ a, o a + S64x128.size a ≤ S204800x128.size a) {O : CellTallies nD τ sig (HIx 1)} {W : Waits sig (HIx 1)} (Q : PUnit → sProp 𝕄) :
    iprop(Transfers.MayWaits (V d c s) (default : HIx 1) O ∗ outFlight d c s buf sem I w ∗ owing d c s O W
        ∗ (free d c s buf -∗ (outM.view.loc (V d c s) ↦[I]{fullShare} w) -∗ semVal (V d c s, SemLoc.dma sem.sem) 0 -∗ owing d c s O W -∗ Q ⟨⟩))
      ⊢ wp frame (wpE (defs₀ (F := F)) 𝒱₀ (V d c s) none) Set.univ (waitO buf hw sem o h) Q := by
  unfold outFlight owing
  iintro ⟨#Hmw, Hfl, ⟨%W', %hW', HO⟩, HQ⟩
  unfold waitO
  iapply (Transfers.wp_waitLocalO countersEmb 𝒱₀ (V d c s) none (dstw := outS o h) (default : HIx 1) rfl) $$ [Hfl HO]
  · isplitl [Hfl]; · iexact Hfl
    isplitl [HO]; · iexact HO
    iapply (Transfers.MayWaits.elim (SemLoc.dma sem.sem)) $$ Hmw
  iintro ⟨⟨Ho, Hb⟩, Hs, HO⟩
  iapply (le_wp_ret _ _ _ _ Q)
  iapply HQ $$ Hb Ho Hs [HO]
  iexists _
  isplit
  swap; · iexact HO
  ipureintro; intro p hp
  rcases Finset.mem_insert.mp hp with rfl | hp
  · exact .inr (.inl rfl)
  · exact hW' p hp
end

end Cert.Proof
-- ==== Proof.RingWp.lean ====
module

public import proofs.«01_k».proof.Proof.CopyWp

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The ring of buffers: a tile's hundred chunks -/

/-- The first row of the result that a tile writes. -/
def tbase (i : grid0.Coords) : Nat := 12800 * (i 1).val + 6400 * (i 0).val

/-- The chunk that the copy out at each place outside the loop carries. -/
theorem k0_off324_eq : ∀ (i : grid0.Coords) (r : Fin 4),
    k0_off324 i (k0_off324_at r) = ![tbase i + 64 * (![0, 1, 98, 99] : Fin 4 → Nat) r, 0] := by
  unfold tbase; decide +kernel

/-- The rows from `lo` to before `hi` of the result. -/
def rowsIn (lo hi : Nat) : Finset S204800x128.Idx := Finset.univ.filter fun y => lo ≤ (y 0).val ∧ (y 0).val < hi

theorem mem_rowsIn {lo hi : Nat} {y : S204800x128.Idx} : y ∈ rowsIn lo hi ↔ lo ≤ (y 0).val ∧ (y 0).val < hi := by
  simp [rowsIn]

theorem outS_set (b : Nat) (o : Fin 2 → Nat) (h : ∀ a, o a + S64x128.size a ≤ S204800x128.size a) (ho : o = ![b, 0]) :
    (outS o h).view.set = rowsIn b (b + 64) := by
  subst ho
  refine (View.set_slice_whole _ _).trans ?_
  ext y
  have hy : (y 1).val < 128 := (y 1).isLt
  rw [mem_rowsIn]
  refine Rect.mem_set_unit.trans ⟨fun h => h 0, fun h a => ?_⟩
  fin_cases a
  · exact h
  · exact ⟨Nat.zero_le _, by show (y 1).val < 0 + 128; omega⟩

variable (F) in
/-- A tile's tables, and the rows it should leave in the result. -/
structure Tile where
  fw : wordM.view.ty.Contents (Elt F)
  fi : idsV.view.ty.Contents (Elt F)
  fp : pttV.view.ty.Contents (Elt F)
  fq : pidV.view.ty.Contents (Elt F)
  fo : outM.view.ty.Contents (Elt F)
  w : outM.view.ty.Contents (Elt F)
  gam : Fin 8 → FVec F S16 .f32
  bet : Fin 8 → FVec F S16 .f32
  base : Nat
  hin : ∀ x, (idsV.view.read (Elt F) fi x).toNat < 100000
  Y : Nat → S64x128.Idx → F .f32
  hR : ∀ k < 100, RowsOk gam bet (pttV.view.read (Elt F) fp) (pidV.view.read (Elt F) fq)
    (rowsAt (wordM.view.read (Elt F) fw) (idsV.view.read (Elt F) fi) hin (64 * k)) (Y k) (64 * k)
  hY : ∀ k < 100, ∀ (o : Fin 2 → Nat) (h : ∀ a, o a + S64x128.size a ≤ S204800x128.size a), o = ![base + 64 * k, 0] →
    (outS o h).view.read (Elt F) w = Y k

/-- The rows of the word table that the chunk's token ids name. -/
def Tile.X (t : Tile F) (k : Nat) : S64x128.Idx → F .f32 :=
  rowsAt (wordM.view.read (Elt F) t.fw) (idsV.view.read (Elt F) t.fi) t.hin (64 * k)

section
variable (d : Dev nD) (c : Fin τ.nSC) (s : Fin τ.nSub) (q : PosShare TreeShare) (t : Tile F)

local notation "𝕄" => MT nD τ sig (HIx 1) (Elt F) ℕ UU ℕ

/-- The chunk's rows of the result, as they should be. -/
def chunk (k : Nat) : sProp 𝕄 :=
  iprop(outM.view.loc (V d c s) ↦[rowsIn (t.base + 64 * k) (t.base + 64 * (k + 1))]{fullShare} t.w)
/-- The rows of the tile that the chunks from `k` on are yet to write. -/
def todo (k : Nat) : sProp 𝕄 :=
  iprop(outM.view.loc (V d c s) ↦[rowsIn (t.base + 64 * k) (t.base + 6400)]{fullShare} t.fo)
/-- The rows of the tile that the chunks before `k` have written. -/
def gone (k : Nat) : sProp 𝕄 :=
  iprop(outM.view.loc (V d c s) ↦[rowsIn t.base (t.base + 64 * k)]{fullShare} t.w)
/-- The position table and the tile's position ids. -/
def tabs : sProp 𝕄 :=
  iprop((pttV.view.loc (V d c s) ↦{fullShare} t.fp) ∗ (pidV.view.loc (V d c s) ↦{fullShare} t.fq))
/-- A semaphore at rest. -/
def rest (sem : DmaSems sig S_) : sProp 𝕄 := semVal (V d c s, SemLoc.dma sem.sem) 0
/-- What is lent for the gathers of buffer `b`. -/
def lentB (b : Fin 4) : sProp 𝕄 :=
  lent d c s (pieceOf q 4 (by decide) b) (pieceOf fullShare 4 (by decide) b) t.fw t.fi
/-- A chunk's rows on their way into buffer `b`. -/
def flightB (b : Fin 4) (buf : Memref sig .scVector .vmem S64x128 .f32) (sem : DmaSems sig S_) (k : Nat) : sProp 𝕄 :=
  inFlight d c s buf sem (pieceOf q 4 (by decide) b) (pieceOf fullShare 4 (by decide) b) t.fw t.fi (t.X k)
/-- A chunk on its way out of a buffer. -/
def leaves (buf : Memref sig .scVector .vmem S64x128 .f32) (sem : DmaSems sig S_) (k : Nat) : sProp 𝕄 :=
  outFlight d c s buf sem (rowsIn (t.base + 64 * k) (t.base + 64 * (k + 1))) t.w

variable {d c s q t}

theorem todo_pop (k : Nat) (hk : k < 100) : (todo d c s t k : sProp 𝕄)
    ⊢ iprop((outM.view.loc (V d c s) ↦[rowsIn (t.base + 64 * k) (t.base + 64 * (k + 1))]{fullShare} t.fo) ∗ todo d c s t (k + 1)) := by
  have hs : rowsIn (t.base + 64 * k) (t.base + 64 * (k + 1)) ⊆ rowsIn (t.base + 64 * k) (t.base + 6400) := by
    intro y; rw [mem_rowsIn, mem_rowsIn]; omega
  have hd : rowsIn (t.base + 64 * (k + 1)) (t.base + 6400)
      = rowsIn (t.base + 64 * k) (t.base + 6400) \ rowsIn (t.base + 64 * k) (t.base + 64 * (k + 1)) := by
    ext y; rw [Finset.mem_sdiff, mem_rowsIn, mem_rowsIn, mem_rowsIn]; omega
  unfold todo
  rw [hd]
  exact (pointsTo_split_subset (ℓ := outM.view.loc (V d c s)) (q := fullShare) (f := t.fo) hs).1

theorem gone_push (k : Nat) : iprop(gone d c s t k ∗ chunk d c s t k) ⊢ (gone d c s t (k + 1) : sProp 𝕄) := by
  have hs : rowsIn t.base (t.base + 64 * k) ⊆ rowsIn t.base (t.base + 64 * (k + 1)) := by
    intro y; rw [mem_rowsIn, mem_rowsIn]; omega
  have hd : rowsIn (t.base + 64 * k) (t.base + 64 * (k + 1)) = rowsIn t.base (t.base + 64 * (k + 1)) \ rowsIn t.base (t.base + 64 * k) := by
    ext y; rw [Finset.mem_sdiff, mem_rowsIn, mem_rowsIn, mem_rowsIn]; omega
  unfold gone chunk
  rw [hd]
  exact (pointsTo_split_subset (ℓ := outM.view.loc (V d c s)) (q := fullShare) (f := t.w) hs).2

theorem gone_zero : (BI.emp : sProp 𝕄) ⊢ gone d c s t 0 := by
  have : rowsIn t.base (t.base + 64 * 0) = ∅ := by
    ext y; rw [mem_rowsIn]; simp
  unfold gone
  rw [this, pointsTo_empty]
  exact .rfl

theorem lent_split : (lent d c s q fullShare t.fw t.fi : sProp 𝕄)
    ⊣⊢ iprop(lentB d c s q t 0 ∗ lentB d c s q t 1 ∗ lentB d c s q t 2 ∗ lentB d c s q t 3) := by
  unfold lentB lent
  rw [pointsTo_piecesOf (ℓ := wordM.view.loc (V d c s)) Finset.univ t.fw (o := 4) (by decide) q,
    pointsTo_piecesOf (ℓ := idsV.view.loc (V d c s)) Finset.univ t.fi (o := 4) (by decide) fullShare]
  simp only [bigSep_univ_succ, Finset.univ_eq_empty, bigSep_empty]
  constructor
  · iintro ⟨⟨A0, A1, A2, A3, -⟩, ⟨B0, B1, B2, B3, -⟩⟩
    isplitl [A0 B0]; · isplitl [A0] <;> iassumption
    isplitl [A1 B1]
    · isplitl [A1]; · iexact A1
      iexact B1
    isplitl [A2 B2]
    · isplitl [A2]; · iexact A2
      iexact B2
    isplitl [A3]; · iexact A3
    iexact B3
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2]; · iexact A2
      isplitl [A3]; · iexact A3
      iempintro
    · isplitl [B0]; · iexact B0
      isplitl [B1]; · iexact B1
      isplitl [B2]; · iexact B2
      isplitl [B3]; · iexact B3
      iempintro

variable {buf bn : Memref sig .scVector .vmem S64x128 .f32}

/-- The gather of chunk `k` starts. -/
theorem wp_gatherB (b : Fin 4) (hb : BufOk buf) (hw : buf.IsWhole) (sem : DmaSems sig S_) (k : Nat) (hk : k < 100) (o : Fin 1 → Nat)
    (h : ∀ a, o a + S64.size a ≤ S6400.size a) (ho : o = ![64 * k]) (Q : PUnit → sProp 𝕄) :
    iprop(free d c s buf ∗ lentB d c s q t b ∗ rest d c s sem ∗ (flightB d c s q t b buf sem k -∗ Q ⟨⟩))
      ⊢ wp frame (wpE (defs₀ (F := F)) 𝒱₀ (V d c s) none) Set.univ (gatherG buf hw sem o h) Q :=
  wp_gatherG hb hw sem t.hin (64 * k) (by omega) o h ho Q

/-- The gather of chunk `k` ends. -/
theorem wp_waitB (b : Fin 4) (hb : BufOk buf) (hw : buf.IsWhole) (sem : DmaSems sig S_) (k : Nat)
    {O : CellTallies nD τ sig (HIx 1)} {W : Waits sig (HIx 1)} (Q : PUnit → sProp 𝕄) :
    iprop(Transfers.MayWaits (V d c s) (default : HIx 1) O ∗ flightB d c s q t b buf sem k ∗ owing d c s O W
        ∗ (holds d c s buf (t.X k) -∗ lentB d c s q t b -∗ rest d c s sem -∗ owing d c s O W -∗ Q ⟨⟩))
      ⊢ wp frame (wpE (defs₀ (F := F)) 𝒱₀ (V d c s) none) Set.univ (waitG buf hw sem) Q :=
  wp_waitG hb hw sem Q

/-- The way out of chunk `k` ends. -/
theorem wp_leftB (hw : buf.IsWhole) (sem : DmaSems sig S_) (k : Nat) (o : Fin 2 → Nat) (h : ∀ a, o a + S64x128.size a ≤ S204800x128.size a)
    {O : CellTallies nD τ sig (HIx 1)} {W : Waits sig (HIx 1)} (Q : PUnit → sProp 𝕄) :
    iprop(Transfers.MayWaits (V d c s) (default : HIx 1) O ∗ leaves d c s t buf sem k ∗ gone d c s t k ∗ owing d c s O W
        ∗ (free d c s buf -∗ gone d c s t (k + 1) -∗ rest d c s sem -∗ owing d c s O W -∗ Q ⟨⟩))
      ⊢ wp frame (wpE (defs₀ (F := F)) 𝒱₀ (V d c s) none) Set.univ (waitO buf hw sem o h) Q := by
  iintro ⟨#Hmw, Hl, Hg, HO, HQ⟩
  iapply (wp_waitO hw sem o h Q)
  isplitr; · iexact Hmw
  isplitl [Hl]; · unfold leaves; iexact Hl
  isplitl [HO]; · iexact HO
  iintro Hf Hc Hs HO
  iapply HQ $$ Hf [Hg Hc] [Hs] HO
  rotate_left
  · unfold rest; iexact Hs
  iapply (gone_push k)
  isplitl [Hg]; · iexact Hg
  unfold chunk; iexact Hc

/-- Chunk `k` is normalized in its buffer, and starts on its way out. -/
theorem wp_sendB (hb : BufOk buf) (hw : buf.IsWhole) (sem : DmaSems sig S_) (k : Nat) (hk : k < 100) (C : CompAt) (hC : C.Ok (64 * k))
    (o : Fin 2 → Nat) (h : ∀ a, o a + S64x128.size a ≤ S204800x128.size a) (ho : o = ![t.base + 64 * k, 0]) (Q : PUnit → sProp 𝕄) :
    iprop(holds d c s buf (t.X k) ∗ todo d c s t k ∗ rest d c s sem ∗ tabs d c s t
        ∗ (leaves d c s t buf sem k -∗ todo d c s t (k + 1) -∗ tabs d c s t -∗ Q ⟨⟩))
      ⊢ wp frame (wpE (defs₀ (F := F)) 𝒱₀ (V d c s) none) Set.univ (compG buf t.gam t.bet loV C)
          fun _ => wp frame (wpE (defs₀ (F := F)) 𝒱₀ (V d c s) none) Set.univ (outG buf hw sem o h) Q := by
  unfold holds tabs
  iintro ⟨⟨%f, %hf, Hb⟩, Ht, Hs, ⟨Hp, Hi⟩, HQ⟩
  iapply (wp_compG (t.hR k hk) C hC hf _)
  isplitl [Hb]; · iexact Hb
  isplitl [Hp]; · iexact Hp
  isplitl [Hi]; · iexact Hi
  iintro %f' %hf' Hb Hp Hi
  ihave Ht := (todo_pop k hk) $$ Ht
  icases Ht with ⟨Hc, Ht⟩
  iapply (wp_outG hb hw sem o h _ ((outS_set _ o h ho).trans (congrArg (rowsIn _) (show t.base + 64 * k + 64 = t.base + 64 * (k + 1) by omega))) (t.hY k hk o h ho) Q)
  isplitl [Hb]
  · unfold holds; iexists f'; isplit; · ipureintro; exact hf'
    iexact Hb
  isplitl [Hc]; · iexact Hc
  isplitl [Hs]; · unfold rest; iexact Hs
  iintro Hl
  iapply HQ $$ [Hl] Ht [Hp Hi]
  · unfold leaves; iexact Hl
  isplitl [Hp] <;> iassumption

/-- A section of the ring. -/
theorem wp_section (b b' : Fin 4) (hb : BufOk buf) (hbn : BufOk bn) (hw : buf.IsWhole) (hwn : bn.IsWhole) (g gn on ob : DmaSems sig S_) (i : grid0.Coords)
    (p : Fin k0_t3_loop.trips) (r : Fin 4) (C : CompAt) (hC : C.Ok (64 * (4 * p.val + r.val + 2))) (hi : t.base = tbase i)
    {O : CellTallies nD τ sig (HIx 1)} {W : Waits sig (HIx 1)} (Q : PUnit → sProp 𝕄) :
    iprop(Transfers.MayWaits (V d c s) (default : HIx 1) O ∗ flightB d c s q t b buf g (4 * p.val + r.val + 2) ∗ leaves d c s t bn on (4 * p.val + r.val)
        ∗ gone d c s t (4 * p.val + r.val) ∗ todo d c s t (4 * p.val + r.val + 2) ∗ lentB d c s q t b' ∗ rest d c s gn ∗ rest d c s ob ∗ tabs d c s t ∗ owing d c s O W
        ∗ (flightB d c s q t b' bn gn (4 * p.val + r.val + 4) -∗ leaves d c s t buf ob (4 * p.val + r.val + 2) -∗ gone d c s t (4 * p.val + r.val + 1)
            -∗ todo d c s t (4 * p.val + r.val + 3) -∗ lentB d c s q t b -∗ rest d c s g -∗ rest d c s on -∗ tabs d c s t -∗ owing d c s O W -∗ Q ⟨⟩))
      ⊢ wp frame (wpE (defs₀ (F := F)) 𝒱₀ (V d c s) none) Set.univ (nextG buf bn hw hwn g gn on i p r) fun _ =>
          wp frame (wpE (defs₀ (F := F)) 𝒱₀ (V d c s) none) Set.univ (compG buf t.gam t.bet loV C) fun _ =>
            wp frame (wpE (defs₀ (F := F)) 𝒱₀ (V d c s) none) Set.univ (outG buf hw ob (k0_off971 i p (BitVec.ofNat 32 r.val)) (k0_off971_inb i p r)) Q := by
  have hp : p.val < 24 := p.isLt
  have hr : r.val < 4 := r.isLt
  iintro ⟨#Hmw, Hfl, Hlv, Hg, Ht, Hle, Hgn, Hob, Htab, HO, HQ⟩
  unfold nextG
  rw [wp_bind, wp_bind]
  iapply (wp_waitB b hb hw g (4 * p.val + r.val + 2) _)
  isplitr; · iexact Hmw
  isplitl [Hfl]; · iexact Hfl
  isplitl [HO]; · iexact HO
  iintro Hh Hleb Hgs HO
  iapply (wp_leftB hwn on (4 * p.val + r.val) _ _ _)
  isplitr; · iexact Hmw
  isplitl [Hlv]; · iexact Hlv
  isplitl [Hg]; · iexact Hg
  isplitl [HO]; · iexact HO
  iintro Hf Hg Hon HO
  iapply (wp_gatherB b' hbn hwn gn (4 * p.val + r.val + 4) (by omega) _ _ ((k0_off648_eq p r).trans (by congr 1; omega)) _)
  isplitl [Hf]; · iexact Hf
  isplitl [Hle]; · iexact Hle
  isplitl [Hgn]; · iexact Hgn
  iintro Hfn
  iapply (wp_sendB hb hw ob (4 * p.val + r.val + 2) (by omega) C hC _ _ ((k0_off971_eq i p r).trans (by rw [hi]; unfold tbase; congr 1; omega)) Q)
  isplitl [Hh]; · iexact Hh
  isplitl [Ht]; · iexact Ht
  isplitl [Hob]; · iexact Hob
  isplitl [Htab]; · iexact Htab
  iintro Hlv Ht Htab
  iapply HQ $$ Hfn Hlv Hg Ht Hleb Hgs Hon Htab HO

variable (d c s q t) in
/-- What holds before each trip of the ring: the rows of two chunks on their way in, and two chunks on their way out. -/
def ringInv (O : CellTallies nD τ sig (HIx 1)) (W : Waits sig (HIx 1)) (p : Nat) : sProp 𝕄 :=
  iprop(flightB d c s q t 2 bufM2 cc0_scratch14 (4 * p + 2) ∗ flightB d c s q t 3 bufM3 cc0_scratch15 (4 * p + 3) ∗ leaves d c s t bufM0 cc0_scratch16 (4 * p)
    ∗ leaves d c s t bufM1 cc0_scratch17 (4 * p + 1) ∗ gone d c s t (4 * p) ∗ todo d c s t (4 * p + 2) ∗ lentB d c s q t 0 ∗ lentB d c s q t 1 ∗ rest d c s cc0_scratch12
    ∗ rest d c s cc0_scratch13 ∗ rest d c s cc0_scratch18 ∗ rest d c s cc0_scratch19 ∗ tabs d c s t ∗ owing d c s O W)

/-- A trip of the ring. -/
theorem wp_trip (i : grid0.Coords) (hi : t.base = tbase i) (p : Fin k0_t3_loop.trips) {O : CellTallies nD τ sig (HIx 1)} {W : Waits sig (HIx 1)}
    (Q : PUnit → sProp 𝕄) :
    iprop(Transfers.MayWaits (V d c s) (default : HIx 1) O ∗ ringInv d c s q t O W p.val ∗ (ringInv d c s q t O W (p.val + 1) -∗ Q ⟨⟩))
      ⊢ wp frame (wpE (defs₀ (F := F)) 𝒱₀ (V d c s) none) Set.univ (do
          nextG bufM2 bufM0 (Memref.isWhole_whole _) (Memref.isWhole_whole _) cc0_scratch14 cc0_scratch12 cc0_scratch16 i p 0
          compG bufM2 t.gam t.bet loV (compAt4 p)
          outG bufM2 (Memref.isWhole_whole _) cc0_scratch18 (k0_off971 i p (BitVec.ofNat 32 ((0 : Fin 4)).val)) (k0_off971_inb i p 0)
          nextG bufM3 bufM1 (Memref.isWhole_whole _) (Memref.isWhole_whole _) cc0_scratch15 cc0_scratch13 cc0_scratch17 i p 1
          compG bufM3 t.gam t.bet loV (compAt5 p)
          outG bufM3 (Memref.isWhole_whole _) cc0_scratch19 (k0_off971 i p (BitVec.ofNat 32 ((1 : Fin 4)).val)) (k0_off971_inb i p 1)
          nextG bufM0 bufM2 (Memref.isWhole_whole _) (Memref.isWhole_whole _) cc0_scratch12 cc0_scratch14 cc0_scratch18 i p 2
          compG bufM0 t.gam t.bet loV (compAt6 p)
          outG bufM0 (Memref.isWhole_whole _) cc0_scratch16 (k0_off971 i p (BitVec.ofNat 32 ((2 : Fin 4)).val)) (k0_off971_inb i p 2)
          nextG bufM1 bufM3 (Memref.isWhole_whole _) (Memref.isWhole_whole _) cc0_scratch13 cc0_scratch15 cc0_scratch19 i p 3
          compG bufM1 t.gam t.bet loV (compAt7 p)
          outG bufM1 (Memref.isWhole_whole _) cc0_scratch17 (k0_off971 i p (BitVec.ofNat 32 ((3 : Fin 4)).val)) (k0_off971_inb i p 3)) Q := by
  have hC0 : (compAt4 p).Ok (64 * (4 * p.val + ((0 : Fin 4)).val + 2)) := by
    rw [show 64 * (4 * p.val + ((0 : Fin 4)).val + 2) = 256 * p.val + 128 by simp; omega]; exact compAt4_ok p
  have hC1 : (compAt5 p).Ok (64 * (4 * p.val + ((1 : Fin 4)).val + 2)) := by
    rw [show 64 * (4 * p.val + ((1 : Fin 4)).val + 2) = 256 * p.val + 192 by simp; omega]; exact compAt5_ok p
  have hC2 : (compAt6 p).Ok (64 * (4 * p.val + ((2 : Fin 4)).val + 2)) := by
    rw [show 64 * (4 * p.val + ((2 : Fin 4)).val + 2) = 256 * p.val + 256 by simp; omega]; exact compAt6_ok p
  have hC3 : (compAt7 p).Ok (64 * (4 * p.val + ((3 : Fin 4)).val + 2)) := by
    rw [show 64 * (4 * p.val + ((3 : Fin 4)).val + 2) = 256 * p.val + 320 by simp; omega]; exact compAt7_ok p
  simp only [wp_bind]
  unfold ringInv
  iintro ⟨#Hmw, ⟨Hx2, Hx3, Hv0, Hv1, Hd, Ht, Hl0, Hl1, Hg0, Hg1, Ho2, Ho3, Htab, HO⟩, HQ⟩
  iapply (wp_section (t := t) 2 0 bufOk2 bufOk0 (Memref.isWhole_whole _) (Memref.isWhole_whole _) cc0_scratch14 cc0_scratch12 cc0_scratch16 cc0_scratch18 i p 0 _ (hC0) hi _)
  isplitr; · iexact Hmw
  isplitl [Hx2]; · iexact Hx2
  isplitl [Hv0]; · iexact Hv0
  isplitl [Hd]; · iexact Hd
  isplitl [Ht]; · iexact Ht
  isplitl [Hl0]; · iexact Hl0
  isplitl [Hg0]; · iexact Hg0
  isplitl [Ho2]; · iexact Ho2
  isplitl [Htab]; · iexact Htab
  isplitl [HO]; · iexact HO
  iintro Hx0 Hv2 Hd Ht Hl2 Hg2 Ho0 Htab HO
  iapply (wp_section (t := t) 3 1 bufOk3 bufOk1 (Memref.isWhole_whole _) (Memref.isWhole_whole _) cc0_scratch15 cc0_scratch13 cc0_scratch17 cc0_scratch19 i p 1 _ (hC1) hi _)
  isplitr; · iexact Hmw
  isplitl [Hx3]; · iexact Hx3
  isplitl [Hv1]; · iexact Hv1
  isplitl [Hd]; · iexact Hd
  isplitl [Ht]; · iexact Ht
  isplitl [Hl1]; · iexact Hl1
  isplitl [Hg1]; · iexact Hg1
  isplitl [Ho3]; · iexact Ho3
  isplitl [Htab]; · iexact Htab
  isplitl [HO]; · iexact HO
  iintro Hx1 Hv3 Hd Ht Hl3 Hg3 Ho1 Htab HO
  iapply (wp_section (t := t) 0 2 bufOk0 bufOk2 (Memref.isWhole_whole _) (Memref.isWhole_whole _) cc0_scratch12 cc0_scratch14 cc0_scratch18 cc0_scratch16 i p 2 _ (hC2) hi _)
  isplitr; · iexact Hmw
  isplitl [Hx0]; · iexact Hx0
  isplitl [Hv2]; · iexact Hv2
  isplitl [Hd]; · iexact Hd
  isplitl [Ht]; · iexact Ht
  isplitl [Hl2]; · iexact Hl2
  isplitl [Hg2]; · iexact Hg2
  isplitl [Ho0]; · iexact Ho0
  isplitl [Htab]; · iexact Htab
  isplitl [HO]; · iexact HO
  iintro Hx2 Hv0 Hd Ht Hl0 Hg0 Ho2 Htab HO
  iapply (wp_section (t := t) 1 3 bufOk1 bufOk3 (Memref.isWhole_whole _) (Memref.isWhole_whole _) cc0_scratch13 cc0_scratch15 cc0_scratch19 cc0_scratch17 i p 3 _ (hC3) hi _)
  isplitr; · iexact Hmw
  isplitl [Hx1]; · iexact Hx1
  isplitl [Hv3]; · iexact Hv3
  isplitl [Hd]; · iexact Hd
  isplitl [Ht]; · iexact Ht
  isplitl [Hl3]; · iexact Hl3
  isplitl [Hg3]; · iexact Hg3
  isplitl [Ho1]; · iexact Ho1
  isplitl [Htab]; · iexact Htab
  isplitl [HO]; · iexact HO
  iintro Hx3 Hv1 Hd Ht Hl1 Hg1 Ho3 Htab HO
  iapply HQ
  rw [show 4 * (p.val + 1) = 4 * p.val + 4 by omega]
  isplitl [Hx2]; · iexact Hx2
  isplitl [Hx3]; · iexact Hx3
  isplitl [Hv0]; · iexact Hv0
  isplitl [Hv1]; · iexact Hv1
  isplitl [Hd]; · iexact Hd
  isplitl [Ht]; · iexact Ht
  isplitl [Hl0]; · iexact Hl0
  isplitl [Hl1]; · iexact Hl1
  isplitl [Hg0]; · iexact Hg0
  isplitl [Hg1]; · iexact Hg1
  isplitl [Ho2]; · iexact Ho2
  isplitl [Ho3]; · iexact Ho3
  isplitl [Htab]; · iexact Htab
  iexact HO

/-- The tile's chunks: every row of the tile is left as it should be. -/
theorem wp_chunksG (i : grid0.Coords) (hi : t.base = tbase i) {O : CellTallies nD τ sig (HIx 1)} {W : Waits sig (HIx 1)} (Q : PUnit → sProp 𝕄) :
    iprop(Transfers.MayWaits (V d c s) (default : HIx 1) O ∗ lent d c s q fullShare t.fw t.fi ∗ todo d c s t 0 ∗ tabs d c s t ∗ owing d c s O W
        ∗ (free d c s bufM0 ∗ free d c s bufM1 ∗ free d c s bufM2 ∗ free d c s bufM3)
        ∗ (rest d c s cc0_scratch12 ∗ rest d c s cc0_scratch13 ∗ rest d c s cc0_scratch14 ∗ rest d c s cc0_scratch15 ∗ rest d c s cc0_scratch16 ∗ rest d c s cc0_scratch17 ∗ rest d c s cc0_scratch18 ∗ rest d c s cc0_scratch19)
        ∗ (lent d c s q fullShare t.fw t.fi -∗ gone d c s t 100 -∗ tabs d c s t -∗ owing d c s O W
            -∗ (free d c s bufM0 ∗ free d c s bufM1 ∗ free d c s bufM2 ∗ free d c s bufM3)
            -∗ (rest d c s cc0_scratch12 ∗ rest d c s cc0_scratch13 ∗ rest d c s cc0_scratch14 ∗ rest d c s cc0_scratch15 ∗ rest d c s cc0_scratch16 ∗ rest d c s cc0_scratch17 ∗ rest d c s cc0_scratch18 ∗ rest d c s cc0_scratch19) -∗ Q ⟨⟩))
      ⊢ wp frame (wpE (defs₀ (F := F)) 𝒱₀ (V d c s) none) Set.univ (chunksG t.gam t.bet loV i) Q := by
  unfold chunksG
  simp only [wp_bind]
  iintro ⟨#Hmw, Hl, Ht, Htab, HO, ⟨Hf0, Hf1, Hf2, Hf3⟩, ⟨Hg0, Hg1, Hg2, Hg3, Ho0, Ho1, Ho2, Ho3⟩, HQ⟩
  ihave Hl := lent_split.1 $$ Hl
  icases Hl with ⟨Hl0, Hl1, Hl2, Hl3⟩
  iapply (wp_gatherB (t := t) 0 bufOk0 (Memref.isWhole_whole _) cc0_scratch12 0 (by decide) _ _ rfl _)
  isplitl [Hf0]; · iexact Hf0
  isplitl [Hl0]; · iexact Hl0
  isplitl [Hg0]; · iexact Hg0
  iintro Hx0
  iapply (wp_gatherB (t := t) 1 bufOk1 (Memref.isWhole_whole _) cc0_scratch13 1 (by decide) _ _ rfl _)
  isplitl [Hf1]; · iexact Hf1
  isplitl [Hl1]; · iexact Hl1
  isplitl [Hg1]; · iexact Hg1
  iintro Hx1
  iapply (wp_waitB (t := t) 0 bufOk0 (Memref.isWhole_whole _) cc0_scratch12 0 _)
  isplitr; · iexact Hmw
  isplitl [Hx0]; · iexact Hx0
  isplitl [HO]; · iexact HO
  iintro Hh0 Hl0 Hg0 HO
  iapply (wp_gatherB (t := t) 2 bufOk2 (Memref.isWhole_whole _) cc0_scratch14 2 (by decide) _ _ rfl _)
  isplitl [Hf2]; · iexact Hf2
  isplitl [Hl2]; · iexact Hl2
  isplitl [Hg2]; · iexact Hg2
  iintro Hx2
  iapply (wp_sendB (t := t) bufOk0 (Memref.isWhole_whole _) cc0_scratch16 0 (by decide) _ compAt1_ok _ _ ((k0_off324_eq i 0).trans (by rw [hi]; rfl)) _)
  isplitl [Hh0]; · iexact Hh0
  isplitl [Ht]; · iexact Ht
  isplitl [Ho0]; · iexact Ho0
  isplitl [Htab]; · iexact Htab
  iintro Hv0 Ht Htab
  iapply (wp_waitB (t := t) 1 bufOk1 (Memref.isWhole_whole _) cc0_scratch13 1 _)
  isplitr; · iexact Hmw
  isplitl [Hx1]; · iexact Hx1
  isplitl [HO]; · iexact HO
  iintro Hh1 Hl1 Hg1 HO
  iapply (wp_gatherB (t := t) 3 bufOk3 (Memref.isWhole_whole _) cc0_scratch15 3 (by decide) _ _ rfl _)
  isplitl [Hf3]; · iexact Hf3
  isplitl [Hl3]; · iexact Hl3
  isplitl [Hg3]; · iexact Hg3
  iintro Hx3
  iapply (wp_sendB (t := t) bufOk1 (Memref.isWhole_whole _) cc0_scratch17 1 (by decide) _ compAt2_ok _ _ ((k0_off324_eq i 1).trans (by rw [hi]; rfl)) _)
  isplitl [Hh1]; · iexact Hh1
  isplitl [Ht]; · iexact Ht
  isplitl [Ho1]; · iexact Ho1
  isplitl [Htab]; · iexact Htab
  iintro Hv1 Ht Htab
  iapply (Scf.wp_for frame (wpE (defs₀ (F := F)) 𝒱₀ (V d c s) none) Set.univ _ _ _ _ _ _ (fun p _ => iprop(Transfers.MayWaits (V d c s) (default : HIx 1) O ∗ ringInv d c s q t O W p)) ?_)
  · intro p _
    iintro ⟨#Hmw, Hinv⟩
    iapply (wp_trip (t := t) i hi p _)
    isplitr; · iexact Hmw
    isplitl [Hinv]; · iexact Hinv
    iintro Hinv
    isplitr; · iexact Hmw
    iexact Hinv
  isplitl [Hx2 Hx3 Hv0 Hv1 Ht Hl0 Hl1 Hg0 Hg1 Ho2 Ho3 Htab HO]
  · unfold ringInv
    isplitr; · iexact Hmw
    isplitl [Hx2]; · iexact Hx2
    isplitl [Hx3]; · iexact Hx3
    isplitl [Hv0]; · iexact Hv0
    isplitl [Hv1]; · iexact Hv1
    isplitr
    · iapply gone_zero; iempintro
    isplitl [Ht]; · iexact Ht
    isplitl [Hl0]; · iexact Hl0
    isplitl [Hl1]; · iexact Hl1
    isplitl [Hg0]; · iexact Hg0
    isplitl [Hg1]; · iexact Hg1
    isplitl [Ho2]; · iexact Ho2
    isplitl [Ho3]; · iexact Ho3
    isplitl [Htab]; · iexact Htab
    iexact HO
  iintro %_ ⟨-, Hinv⟩
  unfold ringInv
  icases Hinv with ⟨Hx2, Hx3, Hv0, Hv1, Hd, Ht, Hl0, Hl1, Hg0, Hg1, Ho2, Ho3, Htab, HO⟩
  iapply (wp_waitB (t := t) 2 bufOk2 (Memref.isWhole_whole _) cc0_scratch14 98 _)
  isplitr; · iexact Hmw
  isplitl [Hx2]; · iexact Hx2
  isplitl [HO]; · iexact HO
  iintro Hh2 Hl2 Hg2 HO
  iapply (wp_sendB (t := t) bufOk2 (Memref.isWhole_whole _) cc0_scratch18 98 (by decide) _ compAt8_ok _ _ ((k0_off324_eq i 2).trans (by rw [hi]; rfl)) _)
  isplitl [Hh2]; · iexact Hh2
  isplitl [Ht]; · iexact Ht
  isplitl [Ho2]; · iexact Ho2
  isplitl [Htab]; · iexact Htab
  iintro Hv2 Ht Htab
  iapply (wp_waitB (t := t) 3 bufOk3 (Memref.isWhole_whole _) cc0_scratch15 99 _)
  isplitr; · iexact Hmw
  isplitl [Hx3]; · iexact Hx3
  isplitl [HO]; · iexact HO
  iintro Hh3 Hl3 Hg3 HO
  iapply (wp_sendB (t := t) bufOk3 (Memref.isWhole_whole _) cc0_scratch19 99 (by decide) _ compAt9_ok _ _ ((k0_off324_eq i 3).trans (by rw [hi]; rfl)) _)
  isplitl [Hh3]; · iexact Hh3
  isplitl [Ht]; · iexact Ht
  isplitl [Ho3]; · iexact Ho3
  isplitl [Htab]; · iexact Htab
  iintro Hv3 Ht Htab
  iapply (wp_leftB (t := t) (Memref.isWhole_whole _) cc0_scratch16 96 _ _ _)
  isplitr; · iexact Hmw
  isplitl [Hv0]; · iexact Hv0
  isplitl [Hd]; · iexact Hd
  isplitl [HO]; · iexact HO
  iintro Hf0 Hd Ho0 HO
  iapply (wp_leftB (t := t) (Memref.isWhole_whole _) cc0_scratch17 97 _ _ _)
  isplitr; · iexact Hmw
  isplitl [Hv1]; · iexact Hv1
  isplitl [Hd]; · iexact Hd
  isplitl [HO]; · iexact HO
  iintro Hf1 Hd Ho1 HO
  iapply (wp_leftB (t := t) (Memref.isWhole_whole _) cc0_scratch18 98 _ _ _)
  isplitr; · iexact Hmw
  isplitl [Hv2]; · iexact Hv2
  isplitl [Hd]; · iexact Hd
  isplitl [HO]; · iexact HO
  iintro Hf2 Hd Ho2 HO
  iapply (wp_leftB (t := t) (Memref.isWhole_whole _) cc0_scratch19 99 _ _ _)
  isplitr; · iexact Hmw
  isplitl [Hv3]; · iexact Hv3
  isplitl [Hd]; · iexact Hd
  isplitl [HO]; · iexact HO
  iintro Hf3 Hd Ho3 HO
  iapply HQ $$ [Hl0 Hl1 Hl2 Hl3] Hd Htab HO [Hf0 Hf1 Hf2 Hf3]
  · iapply lent_split.2
    isplitl [Hl0]; · iexact Hl0
    isplitl [Hl1]; · iexact Hl1
    isplitl [Hl2]; · iexact Hl2
    iexact Hl3
  · isplitl [Hf0]; · iexact Hf0
    isplitl [Hf1]; · iexact Hf1
    isplitl [Hf2]; · iexact Hf2
    iexact Hf3
  isplitl [Hg0]; · iexact Hg0
  isplitl [Hg1]; · iexact Hg1
  isplitl [Hg2]; · iexact Hg2
  isplitl [Hg3]; · iexact Hg3
  isplitl [Ho0]; · iexact Ho0
  isplitl [Ho1]; · iexact Ho1
  isplitl [Ho2]; · iexact Ho2
  iexact Ho3
end

end Cert.Proof
-- ==== Proof.TileWp.lean ====
module

public import proofs.«01_k».proof.Proof.RingWp

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A tile's program, from its tables to its rows of the result -/

/-- Row `r` of the stacked gamma and beta, in slices of sixteen. -/
def gbV (gb : S2x128.Idx → F .f32) (r : Fin 2) : Fin 8 → FVec F S16 .f32 :=
  fun g x => gb (ix2 r ⟨16 * g.val + (x 0).val, by have : (x 0).val < 16 := (x 0).isLt; omega⟩)

/-- The result as the launch should leave it: each token's row of the word table and its row of the position table, added and normalized. -/
def want (word : S100000x128.Idx → F .f32) (ids pid : S204800.Idx → BitVec 32) (ptt : S512x128.Idx → F .f32) (gb : S2x128.Idx → F .f32)
    (y : S204800x128.Idx) : F .f32 :=
  rowV (gbV gb 0) (gbV gb 1) (fun e => word (ix2 ⟨(ids (ix1 (y 0))).toNat % 100000, Nat.mod_lt _ (by decide)⟩ e))
    (fun e => ptt (ix2 ⟨(pid (ix1 (y 0))).toNat % 512, Nat.mod_lt _ (by decide)⟩ e)) (y 1)

theorem tbase_le : ∀ i : grid0.Coords, tbase i + 6400 ≤ 204800 := by
  unfold tbase; decide +kernel

/-- A tile's word of a list, as the tile's copy reads it. -/
theorem list_read {m : Memref sig .scVector .hbm S204800 .i32} (i : grid0.Coords) (f : m.view.ty.Contents (Elt F)) (n : Nat) (hn : n < 6400) :
    (listS m i).view.read (Elt F) f (ix1 ⟨n, hn⟩) = m.view.read (Elt F) f (ix1 ⟨tbase i + n, by have := tbase_le i; omega⟩) := by
  show m.view.read (Elt F) f _ = _
  congr 1
  funext a; fin_cases a; apply Fin.ext
  show k0_off1 i 0 + 1 * n = tbase i + n
  rw [k0_off1_eq]; show 12800 * (i 1).val + 6400 * (i 0).val + 1 * n = _; unfold tbase; omega

/-- The tile's tables and its rows of the result. -/
def tileOf (i : grid0.Coords) (word : wordM.view.ty.Contents (Elt F)) (ids : idsM.view.ty.Contents (Elt F)) (pid : pidM.view.ty.Contents (Elt F))
    (ptt : pttM.view.ty.Contents (Elt F)) (gb : gbHM.view.ty.Contents (Elt F)) (fo : outM.view.ty.Contents (Elt F))
    (hids : ∀ x, (ids x).toNat < 100000) (hpid : ∀ x, (pid x).toNat < 512)
    (fi : idsV.view.ty.Contents (Elt F)) (fp : pttV.view.ty.Contents (Elt F)) (fq : pidV.view.ty.Contents (Elt F))
    (hi : idsV.view.read (Elt F) fi = (listS idsM i).view.read (Elt F) ids) (hp : pttV.view.read (Elt F) fp = pttM.view.read (Elt F) ptt)
    (hq : pidV.view.read (Elt F) fq = (listS pidM i).view.read (Elt F) pid) : Tile F where
  fw := word
  fi := fi
  fp := fp
  fq := fq
  fo := fo
  w := want word ids pid ptt gb
  gam := gbV gb 0
  bet := gbV gb 1
  base := tbase i
  hin := fun x => by rw [hi]; exact hids _
  Y := fun k y => want word ids pid ptt gb (ix2 ⟨(tbase i + 64 * k + (y 0).val) % 204800, Nat.mod_lt _ (by decide)⟩ (y 1))
  hR := fun k hk n => by
    have hn : n.val < 64 := n.isLt
    have hb := tbase_le i
    refine ⟨by omega, ?_⟩
    have e1 : idsV.view.read (Elt F) fi (ix1 ⟨(64 * k + n.val) % 6400, Nat.mod_lt _ (by decide)⟩)
        = ids (ix1 ⟨(tbase i + 64 * k + n.val) % 204800, Nat.mod_lt _ (by decide)⟩) := by
      rw [hi, list_read]
      show ids _ = ids _
      congr 1; funext a; fin_cases a; apply Fin.ext
      show tbase i + (64 * k + n.val) % 6400 = (tbase i + 64 * k + n.val) % 204800
      rw [Nat.mod_eq_of_lt (by omega), Nat.mod_eq_of_lt (by omega)]; omega
    have e2 : pidV.view.read (Elt F) fq (ix1 ⟨64 * k + n.val, by omega⟩)
        = pid (ix1 ⟨(tbase i + 64 * k + n.val) % 204800, Nat.mod_lt _ (by decide)⟩) := by
      rw [hq, list_read]
      show pid _ = pid _
      congr 1; funext a; fin_cases a; apply Fin.ext
      show tbase i + (64 * k + n.val) = (tbase i + 64 * k + n.val) % 204800
      rw [Nat.mod_eq_of_lt (by omega)]; omega
    refine ⟨by rw [e2]; exact hpid _, fun e => ?_⟩
    have h1 : (ids (ix1 ⟨(tbase i + 64 * k + n.val) % 204800, Nat.mod_lt _ (by decide)⟩)).toNat < 100000 := hids _
    have h2 : (pid (ix1 ⟨(tbase i + 64 * k + n.val) % 204800, Nat.mod_lt _ (by decide)⟩)).toNat < 512 := hpid _
    show rowV (gbV gb 0) (gbV gb 1) _ _ e = rowV _ _ _ _ e
    congr 1
    · funext e'
      show word _ = word _
      congr 2; apply Fin.ext
      refine (Nat.mod_eq_of_lt h1).trans ?_
      exact congrArg BitVec.toNat e1.symm
    · funext e'
      rw [hp]
      show ptt _ = ptt _
      congr 2; apply Fin.ext
      refine (Nat.mod_eq_of_lt h2).trans ?_
      exact congrArg BitVec.toNat e2.symm
  hY := fun k hk o h ho => by
    subst ho
    have hb := tbase_le i
    funext y
    have hy : (y 0).val < 64 := (y 0).isLt
    show want word ids pid ptt gb _ = want word ids pid ptt gb _
    congr 1
    funext a; fin_cases a <;> apply Fin.ext
    · show tbase i + 64 * k + 1 * (y 0).val = (tbase i + 64 * k + (y 0).val) % 204800
      rw [Nat.mod_eq_of_lt (by omega)]; omega
    · show 0 + 1 * (y 1).val = (y 1).val; omega

/-- Sixteen words of gamma or beta, as loaded. -/
theorem gb_read (gb : gbHM.view.ty.Contents (Elt F)) (fg : gbM.view.ty.Contents (Elt F)) (hg : gbM.view.read (Elt F) fg = gbHM.view.read (Elt F) gb)
    (r : Fin 2) (g : Fin 8) (o : Fin 2 → Nat) (h : ∀ a, o a + S1x16.size a ≤ S2x128.size a) (ho : o = ![r.val, 16 * g.val]) :
    shapeCast S16 (View.readAt (Elt F) gbM.view (Rect.unit (s := S2x128) o S1x16.size h).toLoadRect fg) shapeCasts_S1x16_S16 = gbV gb r g := by
  subst ho
  funext l
  obtain ⟨l, rfl⟩ : ∃ l' : Fin 16, l = ix1 l' := ⟨l 0, funext fun a => by fin_cases a; rfl⟩
  refine (shapeCast_1a_a_apply _ _ _).trans ?_
  show gbM.view.read (Elt F) fg _ = gb _
  rw [hg]
  show gb _ = gb _
  congr 1; funext a; fin_cases a <;> apply Fin.ext
  · show r.val + 1 * 0 = r.val; omega
  · show 16 * g.val + 1 * l.val = 16 * g.val + l.val; omega

section
variable {d : Dev nD} {c : Fin τ.nSC} {s : Fin τ.nSub}

local notation "𝕄" => MT nD τ sig (HIx 1) (Elt F) ℕ UU ℕ

/-- A memory at some contents. -/
def some' {sp : CoreSpace} {sh : Shape} {e : EltTy} (d : Dev nD) (c : Fin τ.nSC) (s : Fin τ.nSub) (m : Memref sig .scVector sp sh e) : sProp 𝕄 :=
  iprop(∃ f, (m.view.loc (V d c s) ↦{fullShare} f))

/-- The tile's tables copied in. -/
theorem wp_tablesG (i : grid0.Coords) (q : PosShare TreeShare) (ids : idsM.view.ty.Contents (Elt F)) (pid : pidM.view.ty.Contents (Elt F))
    (ptt : pttM.view.ty.Contents (Elt F)) (gb : gbHM.view.ty.Contents (Elt F)) {O : CellTallies nD τ sig (HIx 1)} {W : Waits sig (HIx 1)} (Q : PUnit → sProp 𝕄) :
    iprop(Transfers.MayWaits (V d c s) (default : HIx 1) O ∗ (idsM.view.loc (V d c s) ↦{q} ids) ∗ (pidM.view.loc (V d c s) ↦{q} pid)
        ∗ (pttM.view.loc (V d c s) ↦{q} ptt) ∗ (gbHM.view.loc (V d c s) ↦{q} gb)
        ∗ some' d c s idsV ∗ some' d c s pidV ∗ some' d c s pttV ∗ some' d c s gbM
        ∗ rest d c s cc0_scoped0 ∗ rest d c s cc0_scoped1 ∗ rest d c s cc0_scoped2 ∗ rest d c s cc0_scoped3 ∗ owes (V d c s) O W
        ∗ (∀ fi fq fp fg, ⌜idsV.view.read (Elt F) fi = (listS idsM i).view.read (Elt F) ids ∧ pidV.view.read (Elt F) fq = (listS pidM i).view.read (Elt F) pid
              ∧ pttV.view.read (Elt F) fp = pttM.view.read (Elt F) ptt ∧ gbM.view.read (Elt F) fg = gbHM.view.read (Elt F) gb⌝
            -∗ (idsM.view.loc (V d c s) ↦{q} ids) -∗ (pidM.view.loc (V d c s) ↦{q} pid) -∗ (pttM.view.loc (V d c s) ↦{q} ptt) -∗ (gbHM.view.loc (V d c s) ↦{q} gb)
            -∗ (idsV.view.loc (V d c s) ↦{fullShare} fi) -∗ (pidV.view.loc (V d c s) ↦{fullShare} fq) -∗ (pttV.view.loc (V d c s) ↦{fullShare} fp)
            -∗ (gbM.view.loc (V d c s) ↦{fullShare} fg)
            -∗ (rest d c s cc0_scoped0 ∗ rest d c s cc0_scoped1 ∗ rest d c s cc0_scoped2 ∗ rest d c s cc0_scoped3) -∗ owing d c s O W -∗ Q ⟨⟩))
      ⊢ wp frame (wpE (defs₀ (F := F)) 𝒱₀ (V d c s) none) Set.univ (tablesG i) Q := by
  unfold some' rest
  iintro ⟨#Hmw, Hids, Hpid, Hptt, Hgb, ⟨%f0, H0⟩, ⟨%f1, H1⟩, ⟨%f2, H2⟩, ⟨%f3, H3⟩, S0, S1, S2, S3, HO, HQ⟩
  unfold tablesG
  sl_exec
  sl_step
  iapply HQ $$ %_ %_ %_ %_ %?_ Hids Hpid Hptt Hgb H0 H1 H2 H3 [S0 S1 S2 S3] [HO]
  · refine ⟨?_, ?_, ?_, ?_⟩ <;> exact View.read_write_univ _ _
  · isplitl [S0]; · iexact S0
    isplitl [S1]; · iexact S1
    isplitl [S2]; · iexact S2
    iexact S3
  · unfold owing
    iexists _
    isplitr
    swap; · iexact HO
    ipureintro
    intro p _
    rcases p.2 with _ | q
    · exact .inr (.inl rfl)
    · exact .inr (.inr (congrArg some (Subsingleton.elim q 0)))

/-- What a tile is dealt of the arrays it reads. -/
def dealt (d : Dev nD) (c : Fin τ.nSC) (s : Fin τ.nSub) (q : PosShare TreeShare) (word : wordM.view.ty.Contents (Elt F)) (ids : idsM.view.ty.Contents (Elt F))
    (pid : pidM.view.ty.Contents (Elt F)) (ptt : pttM.view.ty.Contents (Elt F)) (gb : gbHM.view.ty.Contents (Elt F)) : sProp 𝕄 :=
  iprop((idsM.view.loc (V d c s) ↦{q} ids) ∗ (pidM.view.loc (V d c s) ↦{q} pid) ∗ (wordM.view.loc (V d c s) ↦{q} word)
    ∗ (pttM.view.loc (V d c s) ↦{q} ptt) ∗ (gbHM.view.loc (V d c s) ↦{q} gb))

/-- The tile's own memory that its program uses. -/
def ownMem (d : Dev nD) (c : Fin τ.nSC) (s : Fin τ.nSub) : sProp 𝕄 :=
  iprop((some' d c s idsV ∗ some' d c s pidV ∗ some' d c s pttV ∗ some' d c s gbM)
    ∗ (free d c s bufM0 ∗ free d c s bufM1 ∗ free d c s bufM2 ∗ free d c s bufM3))

/-- The tile's semaphores that its program uses, at rest. -/
def ownSem (d : Dev nD) (c : Fin τ.nSC) (s : Fin τ.nSub) : sProp 𝕄 :=
  iprop((rest d c s cc0_scoped0 ∗ rest d c s cc0_scoped1 ∗ rest d c s cc0_scoped2 ∗ rest d c s cc0_scoped3)
    ∗ (rest d c s cc0_scratch12 ∗ rest d c s cc0_scratch13 ∗ rest d c s cc0_scratch14 ∗ rest d c s cc0_scratch15 ∗ rest d c s cc0_scratch16 ∗ rest d c s cc0_scratch17 ∗ rest d c s cc0_scratch18 ∗ rest d c s cc0_scratch19))

set_option maxHeartbeats 4000000 in
/-- The tile's program leaves the tile's rows of the result as they should be. -/
theorem wp_tileG (i : grid0.Coords) (q : PosShare TreeShare) (word : wordM.view.ty.Contents (Elt F)) (ids : idsM.view.ty.Contents (Elt F))
    (pid : pidM.view.ty.Contents (Elt F)) (ptt : pttM.view.ty.Contents (Elt F)) (gb : gbHM.view.ty.Contents (Elt F)) (fo : outM.view.ty.Contents (Elt F))
    (hids : ∀ x, (ids x).toNat < 100000) (hpid : ∀ x, (pid x).toNat < 512)
    {O : CellTallies nD τ sig (HIx 1)} {W : Waits sig (HIx 1)} (Q : PUnit → sProp 𝕄) :
    iprop(Transfers.MayWaits (V d c s) (default : HIx 1) O ∗ dealt d c s q word ids pid ptt gb
        ∗ (outM.view.loc (V d c s) ↦[rowsIn (tbase i) (tbase i + 6400)]{fullShare} fo) ∗ ownMem d c s ∗ ownSem d c s ∗ owes (V d c s) O W
        ∗ (dealt d c s q word ids pid ptt gb -∗ (outM.view.loc (V d c s) ↦[rowsIn (tbase i) (tbase i + 6400)]{fullShare} want word ids pid ptt gb)
            -∗ ownMem d c s -∗ ownSem d c s -∗ owing d c s O W -∗ Q ⟨⟩))
      ⊢ wp frame (wpE (defs₀ (F := F)) 𝒱₀ (V d c s) none) Set.univ (tileG i) Q := by
  unfold tileG dealt ownMem ownSem
  simp only [wp_bind]
  iintro ⟨#Hmw, ⟨Hids, Hpid, Hw, Hptt, Hgb⟩, Ho, ⟨⟨H0, H1, H2, H3⟩, Hfree⟩, ⟨⟨S0, S1, S2, S3⟩, Hsems⟩, HO, HQ⟩
  iapply (wp_tablesG i q ids pid ptt gb _)
  isplitr; · iexact Hmw
  isplitl [Hids]; · iexact Hids
  isplitl [Hpid]; · iexact Hpid
  isplitl [Hptt]; · iexact Hptt
  isplitl [Hgb]; · iexact Hgb
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [HO]; · iexact HO
  iintro %fi %fq %fp %fg %hfs Hids Hpid Hptt Hgb H0 H1 H2 Hg Hsc HO
  obtain ⟨hfi, hfq, hfp, hfg⟩ := hfs
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  iapply (wp_loadG _ _ _) $$ Hg
  iintro Hg
  rw [gb_read gb fg hfg 0 0 _ inb_S2x128_S1x16_0_0 rfl, gb_read gb fg hfg 0 1 _ inb_S2x128_S1x16_0_16 rfl, gb_read gb fg hfg 0 2 _ inb_S2x128_S1x16_0_32 rfl, gb_read gb fg hfg 0 3 _ inb_S2x128_S1x16_0_48 rfl, gb_read gb fg hfg 0 4 _ inb_S2x128_S1x16_0_64 rfl, gb_read gb fg hfg 0 5 _ inb_S2x128_S1x16_0_80 rfl, gb_read gb fg hfg 0 6 _ inb_S2x128_S1x16_0_96 rfl, gb_read gb fg hfg 0 7 _ inb_S2x128_S1x16_0_112 rfl, gb_read gb fg hfg 1 0 _ inb_S2x128_S1x16_1_0 rfl, gb_read gb fg hfg 1 1 _ inb_S2x128_S1x16_1_16 rfl, gb_read gb fg hfg 1 2 _ inb_S2x128_S1x16_1_32 rfl, gb_read gb fg hfg 1 3 _ inb_S2x128_S1x16_1_48 rfl, gb_read gb fg hfg 1 4 _ inb_S2x128_S1x16_1_64 rfl, gb_read gb fg hfg 1 5 _ inb_S2x128_S1x16_1_80 rfl, gb_read gb fg hfg 1 6 _ inb_S2x128_S1x16_1_96 rfl, gb_read gb fg hfg 1 7 _ inb_S2x128_S1x16_1_112 rfl,
    show ![gbV gb 0 0, gbV gb 0 1, gbV gb 0 2, gbV gb 0 3, gbV gb 0 4, gbV gb 0 5, gbV gb 0 6, gbV gb 0 7] = gbV gb 0 from funext fun j => by fin_cases j <;> rfl,
    show ![gbV gb 1 0, gbV gb 1 1, gbV gb 1 2, gbV gb 1 3, gbV gb 1 4, gbV gb 1 5, gbV gb 1 6, gbV gb 1 7] = gbV gb 1 from funext fun j => by fin_cases j <;> rfl]
  iapply (wp_chunksG (t := tileOf i word ids pid ptt gb fo hids hpid fi fp fq hfi hfp hfq) (q := q) i rfl Q)
  isplitr; · iexact Hmw
  isplitl [Hw H0]; · unfold lent; isplitl [Hw]; · iexact Hw
                     iexact H0
  isplitl [Ho]; · unfold todo; iexact Ho
  isplitl [H1 H2]; · unfold tabs; isplitl [H2]; · iexact H2
                     iexact H1
  isplitl [HO]; · iexact HO
  isplitl [Hfree]; · iexact Hfree
  isplitl [Hsems]; · iexact Hsems
  iintro Hl Ho Ht HO Hfree Hsems
  unfold lent tabs gone
  icases Hl with ⟨Hw, H0⟩
  icases Ht with ⟨H2, H1⟩
  iapply HQ $$ [Hids Hpid Hptt Hgb Hw] [Ho] [H0 H1 H2 Hg Hfree] [Hsc Hsems] HO
  · isplitl [Hids]; · iexact Hids
    isplitl [Hpid]; · iexact Hpid
    isplitl [Hw]; · iexact Hw
    isplitl [Hptt]; · iexact Hptt
    iexact Hgb
  · iexact Ho
  · isplitr [Hfree]
    · unfold some'
      isplitl [H0]; · iexists _; iexact H0
      isplitl [H1]; · iexists _; iexact H1
      isplitl [H2]; · iexists _; iexact H2
      iexists _; iexact Hg
    · iexact Hfree
  · isplitl [Hsc]; · iexact Hsc
    iexact Hsems
end

end Cert.Proof
-- ==== Proof.Eq0.lean ====
module

public import proofs.«01_k».proof.Proof.Body

@[expose] public section

noncomputable section

namespace Cert.Proof

open Cert.KernelIdeal Cert.KernelIdeal.Gen
open Idealize.ShloMosaic Idealize.SL.Sem

variable {F : FTy → Type} [FloatOps F]

set_option maxRecDepth 100000
set_option maxHeartbeats 4000000

/-- Two programs that start with equal steps and go on as equal programs are equal. -/
theorem op_congr {E : Type → Type} {α β : Type} {e e' : E β} {k k' : β → Prog E α} (h : e = e') (hk : ∀ x, k x = k' x) :
    Prog.op e k = Prog.op e' k' := by rw [h, funext hk]

/-- Two programs that start with equal programs and go on as equal programs are equal. -/
theorem bind_congr' {E : Type → Type} {α β : Type} {p p' : Prog E β} {k k' : β → Prog E α} (h : p = p')
    (hk : ∀ x, k x = k' x) : Prog.bind p k = Prog.bind p' k' := by rw [h, funext hk]

/-- Two programs that start with a loop over equal bodies and go on as equal programs are equal. -/
theorem for_congr {E : Type → Type} {γ α : Type} {n : Nat} {L : Scf.Loop n} {ok : L.OK} {a : γ}
    {b b' : Fin L.trips → γ → Prog E γ} {k k' : γ → Prog E α} (hb : ∀ t x, b t x = b' t x) (hk : ∀ x, k x = k' x) :
    Prog.bind (Scf.Loop.for L ok a b) k = Prog.bind (Scf.Loop.for L ok a b') k' := by
  rw [funext fun t => funext (hb t), funext hk]

/-- The first section of the ring, as printed. -/
theorem part481_eq (i : grid0.Coords) (v2 : BitVec 32) (v5 : Vec F S16 .f32) (v7 : Vec F S16 .f32) (v9 : Vec F S16 .f32) (v11 : Vec F S16 .f32) (v13 : Vec F S16 .f32) (v15 : Vec F S16 .f32) (v17 : Vec F S16 .f32) (v19 : Vec F S16 .f32) (v21 : Vec F S16 .f32) (v23 : Vec F S16 .f32) (v25 : Vec F S16 .f32) (v27 : Vec F S16 .f32) (v29 : Vec F S16 .f32) (v31 : Vec F S16 .f32) (v33 : Vec F S16 .f32) (v35 : Vec F S16 .f32) (v37 : IVec S16 1) (c0_i32_53 : BitVec 32) (c1_i32_54 : BitVec 32) (k0_t3 : Fin k0_t3_loop.trips) :
    k0_part481 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 v2 v5 v7 v9 v11 v13 v15 v17 v19 v21 v23 v25 v27 v29 v31 v33 v35 v37 c0_i32_53 c1_i32_54 k0_t3 = (do
  nextG bufM2 bufM0 (Memref.isWhole_whole _) (Memref.isWhole_whole _) cc0_scratch14 cc0_scratch12 cc0_scratch16 i k0_t3 0
  compG bufM2 ![v5,v7,v9,v11,v13,v15,v17,v19] ![v21,v23,v25,v27,v29,v31,v33,v35] v37 (compAt4 k0_t3)
  outG bufM2 (Memref.isWhole_whole _) cc0_scratch18 (k0_off971 i k0_t3 0#32) (k0_off971_inb i k0_t3 0)
  waitG bufM3 (Memref.isWhole_whole _) cc0_scratch15
  pure ⟨Scf.iv c0_i32_53 c1_i32_54 k0_t3, Scalar.addi (Scalar.addi (Scalar.muli 4#32 (Scf.iv c0_i32_53 c1_i32_54 k0_t3)) 2#32) 1#32⟩) := by
  repeat refine op_congr rfl fun _ => ?_
  conv_lhs => whnf
  conv_rhs => whnf
  try unfold compG
  refine for_congr (ok := k0_t1_ok) (fun t _ => ?_) fun _ => ?_
  · repeat refine op_congr rfl fun _ => ?_
    rfl
  rfl

end Cert.Proof
-- ==== Proof.Eq1.lean ====
module

public import proofs.«01_k».proof.Proof.Eq0

@[expose] public section

noncomputable section

namespace Cert.Proof

open Cert.KernelIdeal Cert.KernelIdeal.Gen
open Idealize.ShloMosaic Idealize.SL.Sem

variable {F : FTy → Type} [FloatOps F]

set_option maxRecDepth 100000
set_option maxHeartbeats 4000000

/-- The second section of the ring and the start of the third, as printed. -/
theorem part482_eq (i : grid0.Coords) (v2 : BitVec 32) (v5 : Vec F S16 .f32) (v7 : Vec F S16 .f32) (v9 : Vec F S16 .f32) (v11 : Vec F S16 .f32) (v13 : Vec F S16 .f32) (v15 : Vec F S16 .f32) (v17 : Vec F S16 .f32) (v19 : Vec F S16 .f32) (v21 : Vec F S16 .f32) (v23 : Vec F S16 .f32) (v25 : Vec F S16 .f32) (v27 : Vec F S16 .f32) (v29 : Vec F S16 .f32) (v31 : Vec F S16 .f32) (v33 : Vec F S16 .f32) (v35 : Vec F S16 .f32) (v37 : IVec S16 1) (k0_t3 : Fin k0_t3_loop.trips) (arg28 : BitVec 32) (v98 : BitVec 32) :
    k0_part482 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 v2 v5 v7 v9 v11 v13 v15 v17 v19 v21 v23 v25 v27 v29 v31 v33 v35 v37 k0_t3 arg28 v98 = (do
  waitO bufM1 (Memref.isWhole_whole _) cc0_scratch17 (k0_off647 i) (k0_off647_inb i)
  gatherG bufM1 (Memref.isWhole_whole _) cc0_scratch13 (k0_off648 k0_t3 1#32) (k0_off648_inb k0_t3 1)
  compG bufM3 ![v5,v7,v9,v11,v13,v15,v17,v19] ![v21,v23,v25,v27,v29,v31,v33,v35] v37 (compAt5 k0_t3)
  outG bufM3 (Memref.isWhole_whole _) cc0_scratch19 (k0_off971 i k0_t3 1#32) (k0_off971_inb i k0_t3 1)
  nextG bufM0 bufM2 (Memref.isWhole_whole _) (Memref.isWhole_whole _) cc0_scratch12 cc0_scratch14 cc0_scratch18 i k0_t3 2
  pure ⟨Scalar.addi (Scalar.addi (Scalar.muli 4#32 arg28) 2#32) 2#32, Scalar.muli (Scalar.addi (Scalar.addi (Scalar.muli 4#32 arg28) 2#32) 2#32) 64#32, 0#32, 1#32⟩) := by
  repeat refine op_congr rfl fun _ => ?_
  conv_lhs => whnf
  conv_rhs => whnf
  try unfold compG
  refine for_congr (ok := k0_t1_ok) (fun t _ => ?_) fun _ => ?_
  · repeat refine op_congr rfl fun _ => ?_
    rfl
  rfl

end Cert.Proof
-- ==== Proof.Eq2.lean ====
module

public import proofs.«01_k».proof.Proof.Eq0

@[expose] public section

noncomputable section

namespace Cert.Proof

open Cert.KernelIdeal Cert.KernelIdeal.Gen
open Idealize.ShloMosaic Idealize.SL.Sem

variable {F : FTy → Type} [FloatOps F]

set_option maxRecDepth 100000
set_option maxHeartbeats 4000000

/-- The first two chunks and the ring, as printed. -/
theorem part645_eq (i : grid0.Coords) (v2 : BitVec 32) (v5 : Vec F S16 .f32) (v7 : Vec F S16 .f32) (v9 : Vec F S16 .f32) (v11 : Vec F S16 .f32) (v13 : Vec F S16 .f32) (v15 : Vec F S16 .f32) (v17 : Vec F S16 .f32) (v19 : Vec F S16 .f32) (v21 : Vec F S16 .f32) (v23 : Vec F S16 .f32) (v25 : Vec F S16 .f32) (v27 : Vec F S16 .f32) (v29 : Vec F S16 .f32) (v31 : Vec F S16 .f32) (v33 : Vec F S16 .f32) (v35 : Vec F S16 .f32) (v37 : IVec S16 1) :
    k0_part645 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 v2 v5 v7 v9 v11 v13 v15 v17 v19 v21 v23 v25 v27 v29 v31 v33 v35 v37 = (do
  waitG bufM0 (Memref.isWhole_whole _) cc0_scratch12
  gatherG bufM2 (Memref.isWhole_whole _) cc0_scratch14 ![128] inb_S6400_S64_128
  compG bufM0 ![v5,v7,v9,v11,v13,v15,v17,v19] ![v21,v23,v25,v27,v29,v31,v33,v35] v37 compAt1
  outG bufM0 (Memref.isWhole_whole _) cc0_scratch16 (k0_off324 i 0#32) (k0_off324_inb i 0)
  waitG bufM1 (Memref.isWhole_whole _) cc0_scratch13
  gatherG bufM3 (Memref.isWhole_whole _) cc0_scratch15 ![192] inb_S6400_S64_192
  compG bufM1 ![v5,v7,v9,v11,v13,v15,v17,v19] ![v21,v23,v25,v27,v29,v31,v33,v35] v37 compAt2
  outG bufM1 (Memref.isWhole_whole _) cc0_scratch17 (k0_off324 i 64#32) (k0_off324_inb i 1)
  Scf.Loop.for k0_t3_loop k0_t3_ok ⟨⟩ fun k0_t3 _ => do
    let x ← k0_part481 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 v2 v5 v7 v9 v11 v13 v15 v17 v19 v21 v23 v25 v27 v29 v31 v33 v35 v37 0#32 1#32 k0_t3
    let y ← k0_part482 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 v2 v5 v7 v9 v11 v13 v15 v17 v19 v21 v23 v25 v27 v29 v31 v33 v35 v37 k0_t3 x.1 x.2
    compG bufM0 ![v5,v7,v9,v11,v13,v15,v17,v19] ![v21,v23,v25,v27,v29,v31,v33,v35] v37 (compAt6 k0_t3)
    outG bufM0 (Memref.isWhole_whole _) cc0_scratch16 (k0_off971 i k0_t3 2#32) (k0_off971_inb i k0_t3 2)
    nextG bufM1 bufM3 (Memref.isWhole_whole _) (Memref.isWhole_whole _) cc0_scratch13 cc0_scratch15 cc0_scratch19 i k0_t3 3
    compG bufM1 ![v5,v7,v9,v11,v13,v15,v17,v19] ![v21,v23,v25,v27,v29,v31,v33,v35] v37 (compAt7 k0_t3)
    outG bufM1 (Memref.isWhole_whole _) cc0_scratch17 (k0_off971 i k0_t3 3#32) (k0_off971_inb i k0_t3 3)
    pure ⟨⟩
  pure ⟨⟩) := by
  repeat refine op_congr rfl fun _ => ?_
  conv_lhs => whnf
  conv_rhs => whnf
  try unfold compG
  refine for_congr (ok := k0_t1_ok) (fun t _ => ?_) fun _ => ?_
  · repeat refine op_congr rfl fun _ => ?_
    rfl
  repeat refine op_congr rfl fun _ => ?_
  conv_lhs => whnf
  conv_rhs => whnf
  try unfold compG
  refine for_congr (ok := k0_t1_ok) (fun t _ => ?_) fun _ => ?_
  · repeat refine op_congr rfl fun _ => ?_
    rfl
  repeat refine op_congr rfl fun _ => ?_
  conv_lhs => whnf
  conv_rhs => whnf
  refine for_congr (ok := k0_t3_ok) (fun t _ => ?_) fun _ => ?_
  · refine bind_congr' rfl fun _ => ?_
    refine bind_congr' rfl fun _ => ?_
    conv_lhs => whnf
    conv_rhs => whnf
    try unfold compG
    refine for_congr (ok := k0_t1_ok) (fun t _ => ?_) fun _ => ?_
    · repeat refine op_congr rfl fun _ => ?_
      rfl
    repeat refine op_congr rfl fun _ => ?_
    conv_lhs => whnf
    conv_rhs => whnf
    try unfold compG
    refine for_congr (ok := k0_t1_ok) (fun t _ => ?_) fun _ => ?_
    · repeat refine op_congr rfl fun _ => ?_
      rfl
    repeat refine op_congr rfl fun _ => ?_
    rfl
  rfl

end Cert.Proof
-- ==== Proof.Eq3.lean ====
module

public import proofs.«01_k».proof.Proof.Eq0

@[expose] public section

noncomputable section

namespace Cert.Proof

open Cert.KernelIdeal Cert.KernelIdeal.Gen
open Idealize.ShloMosaic Idealize.SL.Sem

variable {F : FTy → Type} [FloatOps F]

set_option maxRecDepth 100000
set_option maxHeartbeats 4000000

/-- The whole body but for its last wait, as printed. -/
theorem part646_eq (i : grid0.Coords)  :
    k0_part646 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3  = (do
  let x ← k0_part643 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3
  let y ← k0_part644 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 x.2.1 x.2.2.2.2.2.2.2.2.2
  k0_part645 (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 x.1 x.2.2.1 x.2.2.2.1 x.2.2.2.2.1 x.2.2.2.2.2.1 x.2.2.2.2.2.2.1 x.2.2.2.2.2.2.2.1 x.2.2.2.2.2.2.2.2.1 y.1 y.2.1 y.2.2.1 y.2.2.2.1 y.2.2.2.2.1 y.2.2.2.2.2.1 y.2.2.2.2.2.2.1 y.2.2.2.2.2.2.2.1 y.2.2.2.2.2.2.2.2.1 y.2.2.2.2.2.2.2.2.2
  waitG bufM2 (Memref.isWhole_whole _) cc0_scratch14
  compG bufM2 ![x.2.2.1,x.2.2.2.1,x.2.2.2.2.1,x.2.2.2.2.2.1,x.2.2.2.2.2.2.1,x.2.2.2.2.2.2.2.1,x.2.2.2.2.2.2.2.2.1,y.1] ![y.2.1,y.2.2.1,y.2.2.2.1,y.2.2.2.2.1,y.2.2.2.2.2.1,y.2.2.2.2.2.2.1,y.2.2.2.2.2.2.2.1,y.2.2.2.2.2.2.2.2.1] y.2.2.2.2.2.2.2.2.2 compAt8
  outG bufM2 (Memref.isWhole_whole _) cc0_scratch18 (k0_off324 i 6272#32) (k0_off324_inb i 2)
  waitG bufM3 (Memref.isWhole_whole _) cc0_scratch15
  compG bufM3 ![x.2.2.1,x.2.2.2.1,x.2.2.2.2.1,x.2.2.2.2.2.1,x.2.2.2.2.2.2.1,x.2.2.2.2.2.2.2.1,x.2.2.2.2.2.2.2.2.1,y.1] ![y.2.1,y.2.2.1,y.2.2.2.1,y.2.2.2.2.1,y.2.2.2.2.2.1,y.2.2.2.2.2.2.1,y.2.2.2.2.2.2.2.1,y.2.2.2.2.2.2.2.2.1] y.2.2.2.2.2.2.2.2.2 compAt9
  outG bufM3 (Memref.isWhole_whole _) cc0_scratch19 (k0_off324 i 6336#32) (k0_off324_inb i 3)
  waitO bufM0 (Memref.isWhole_whole _) cc0_scratch16 (k0_off2582 i) (k0_off2582_inb i)
  waitO bufM1 (Memref.isWhole_whole _) cc0_scratch17 (k0_off2582 i) (k0_off2582_inb i)
  waitO bufM2 (Memref.isWhole_whole _) cc0_scratch18 (k0_off2582 i) (k0_off2582_inb i)) := by
  refine bind_congr' rfl fun _ => ?_
  refine bind_congr' rfl fun _ => ?_
  refine bind_congr' rfl fun _ => ?_
  repeat refine op_congr rfl fun _ => ?_
  conv_lhs => whnf
  conv_rhs => whnf
  try unfold compG
  refine for_congr (ok := k0_t1_ok) (fun t _ => ?_) fun _ => ?_
  · repeat refine op_congr rfl fun _ => ?_
    rfl
  repeat refine op_congr rfl fun _ => ?_
  conv_lhs => whnf
  conv_rhs => whnf
  try unfold compG
  refine for_congr (ok := k0_t1_ok) (fun t _ => ?_) fun _ => ?_
  · repeat refine op_congr rfl fun _ => ?_
    rfl
  repeat refine op_congr rfl fun _ => ?_
  rfl

end Cert.Proof
-- ==== Proof.Eq.lean ====
module

public import proofs.«01_k».proof.Proof.Eq1
public import proofs.«01_k».proof.Proof.Eq2
public import proofs.«01_k».proof.Proof.Eq3

@[expose] public section

noncomputable section

namespace Cert.Proof

open Cert.KernelIdeal Cert.KernelIdeal.Gen
open Idealize.ShloMosaic Idealize.SL.Sem

variable {F : FTy → Type} [FloatOps F]

set_option maxRecDepth 100000
set_option maxHeartbeats 4000000

/-- The printed body of a tile is the program above. -/
theorem body_eq (i : grid0.Coords) :
    cc0__sc_body (F := F) i (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _) (Memref.whole main_v17_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scoped0 cc0_scoped1 cc0_scoped2 cc0_scoped3 = tileG i := by
  unfold cc0__sc_body tileG chunksG
  simp only [part645_eq, part646_eq, part481_eq, part482_eq, bind_assoc, pure_bind]
  rfl

end Cert.Proof
-- ==== Proof.Launch.lean ====
module

public import proofs.«01_k».proof.Proof.TileWp
public import proofs.«01_k».proof.Proof.Eq

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

/-! ## The call: what each tile is given, and what it gives back -/

variable (F) in
/-- The arrays the call reads, with ids in range of the tables they index, and what the result holds before it. -/
structure Arrays where
  word : S100000x128.Idx → F .f32
  ids : S204800.Idx → BitVec 32
  pid : S204800.Idx → BitVec 32
  ptt : S512x128.Idx → F .f32
  gb : S2x128.Idx → F .f32
  out : S204800x128.Idx → F .f32
  hids : ∀ x, (ids x).toNat < 100000
  hpid : ∀ x, (pid x).toNat < 512

/-- The result after the call. -/
abbrev Arrays.want (a : Arrays F) : S204800x128.Idx → F .f32 := Cert.Proof.want a.word a.ids a.pid a.ptt a.gb

/-- The rows of the result that tile `i` of core `c` writes. -/
def tileRows (c : Fin 2) (i : Fin 16) : Finset S204800x128.Idx :=
  rowsIn (12800 * i.val + 6400 * c.val) (12800 * i.val + 6400 * c.val + 6400)

/-- The rows of the result that core `c` writes. -/
def coreRows (c : Fin 2) : Finset S204800x128.Idx := Finset.univ.biUnion (tileRows c)

theorem tileRows_disjoint (c : Fin 2) : ∀ i ∈ (Finset.univ : Finset (Fin 16)), ∀ j ∈ (Finset.univ : Finset (Fin 16)), i ≠ j →
    Disjoint (tileRows c i) (tileRows c j) := by
  intro i _ j _ h
  rw [Finset.disjoint_left]
  intro y hi hj
  unfold tileRows at hi hj
  rw [mem_rowsIn] at hi hj
  exact h (Fin.ext (by omega))

theorem coreRows_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro y hi hj
  unfold coreRows at hi hj
  rw [Finset.mem_biUnion] at hi hj
  obtain ⟨i, -, hi⟩ := hi
  obtain ⟨j, -, hj⟩ := hj
  unfold tileRows at hi hj
  rw [mem_rowsIn] at hi hj
  exact h (Fin.ext (by have := c.isLt; have := c'.isLt; omega))

theorem coreRows_cover : (Finset.univ : Finset (Fin 2)).biUnion coreRows = Finset.univ := by
  ext y
  have hy : (y 0).val < 204800 := (y 0).isLt
  simp only [Finset.mem_biUnion, Finset.mem_univ, true_and, iff_true, coreRows, tileRows, mem_rowsIn]
  exact ⟨⟨(y 0).val / 6400 % 2, by omega⟩, ⟨(y 0).val / 12800, by omega⟩, by simp only []; omega⟩

section
variable (d : Dev nD)

local notation "𝕄" => MT nD τ sig (HIx 1) (Elt F) ℕ UU ℕ

abbrev wordL : Loc nD τ sig := (SparseCore.T d).loc main_arg1
abbrev idsL : Loc nD τ sig := (SparseCore.T d).loc main_v15
abbrev pidL : Loc nD τ sig := (SparseCore.T d).loc main_v16
abbrev pttL : Loc nD τ sig := (SparseCore.T d).loc main_v11
abbrev gbL : Loc nD τ sig := (SparseCore.T d).loc main_v14
abbrev outL : Loc nD τ sig := (SparseCore.T d).loc main_v17

/-- The five arrays that the call reads, at a share. -/
def reads (q : PosShare TreeShare) (a : Arrays F) : sProp 𝕄 :=
  iprop((idsL d ↦{q} a.ids) ∗ (pidL d ↦{q} a.pid) ∗ (wordL d ↦{q} a.word) ∗ (pttL d ↦{q} a.ptt) ∗ (gbL d ↦{q} a.gb))

theorem reads_cut (q : PosShare TreeShare) (a : Arrays F) (n : Nat) (hn : 0 < n) :
    (reads d q a : sProp 𝕄) = bigSep Finset.univ fun j : Fin n => reads d (pieceOf q n hn j) a := by
  unfold reads
  rw [bigSep_sep', bigSep_sep', bigSep_sep', bigSep_sep']
  rw [← pointsTo_piecesOf (ℓ := idsL d), ← pointsTo_piecesOf (ℓ := pidL d), ← pointsTo_piecesOf (ℓ := wordL d), ← pointsTo_piecesOf (ℓ := pttL d),
    ← pointsTo_piecesOf (ℓ := gbL d)]

/-- Core `c`'s share of an array it reads. -/
abbrev coreQ (c : Fin 2) : PosShare TreeShare := pieceOf fullShare 2 (by decide) c
/-- Tile `i`'s part of its core's share. -/
abbrev tileQ (c : Fin 2) (i : Fin 16) : PosShare TreeShare := pieceOf (coreQ c) 16 (by decide) i

/-- What a core takes: its share of the arrays read, its rows of the result. -/
def coreIn (c : Fin 2) (a : Arrays F) (f : S204800x128.Idx → F .f32) : sProp 𝕄 := iprop(reads d (coreQ c) a ∗ (outL d ↦[coreRows c]{fullShare} f))
/-- What a tile takes: its part of that share, its rows of the result. -/
def tileIn (c : Fin 2) (i : Fin 16) (a : Arrays F) (f : S204800x128.Idx → F .f32) : sProp 𝕄 :=
  iprop(reads d (tileQ c i) a ∗ (outL d ↦[tileRows c i]{fullShare} f))

theorem coreIn_tiles (c : Fin 2) (a : Arrays F) (f : S204800x128.Idx → F .f32) :
    (coreIn d c a f : sProp 𝕄) = bigSep Finset.univ fun i : Fin 16 => tileIn d c i a f := by
  unfold coreIn tileIn
  rw [bigSep_sep', ← reads_cut, ← pointsTo_biUnion Finset.univ (ℓ := outL d) (tileRows c) (tileRows_disjoint c)]
  rfl

theorem whole_cores (a : Arrays F) (f : S204800x128.Idx → F .f32) :
    (iprop(reads d fullShare a ∗ (outL d ↦{fullShare} f)) : sProp 𝕄) = bigSep Finset.univ fun c : Fin 2 => coreIn d c a f := by
  unfold coreIn
  rw [bigSep_sep', ← reads_cut, ← pointsTo_biUnion Finset.univ (ℓ := outL d) coreRows coreRows_disjoint, coreRows_cover]

end

section
variable (A : Dev nD → Arrays F)

local notation "𝕄" => MT nD τ sig (HIx 1) (Elt F) ℕ UU ℕ

/-- The call takes the arrays and the result, and brings them back with the result at what it should be. -/
def P : (K (F := F)).Pay (nD := nD) (Val := Elt F) (Name := ℕ) (U := UU) where
  st := fun q d c => match q with | 0 => coreIn d (Fin.cast nCore_zero c) (A d) (A d).out
  dn := fun q d c => match q with | 0 => coreIn d (Fin.cast nCore_zero c) (A d) (A d).want
  go := fun q d c i => match q with | 0 => tileIn d (Fin.cast nCore_zero c) (Fin.cast nSub_zero i) (A d) (A d).out
  td := fun q d c i => match q with | 0 => tileIn d (Fin.cast nCore_zero c) (Fin.cast nSub_zero i) (A d) (A d).want
  x := fun _ _ => iprop(emp)

instance (d : Dev nD) (q : PosShare TreeShare) (a : Arrays F) : BI.Storable (upEmb : UEmb _ 𝕄) (reads d q a) := by unfold reads; infer_instance
instance (d : Dev nD) (c : Fin 2) (a : Arrays F) (f : S204800x128.Idx → F .f32) : BI.Storable (upEmb : UEmb _ 𝕄) (coreIn d c a f) := by
  unfold coreIn; infer_instance
instance (d : Dev nD) (c : Fin 2) (i : Fin 16) (a : Arrays F) (f : S204800x128.Idx → F .f32) : BI.Storable (upEmb : UEmb _ 𝕄) (tileIn d c i a f) := by
  unfold tileIn; infer_instance

instance P_storable : (P A).IsStorable where
  st q d c := match q with | 0 => (inferInstance : BI.Storable (upEmb : UEmb _ 𝕄) (coreIn d (Fin.cast nCore_zero c) (A d) (A d).out))
  dn q d c := match q with | 0 => (inferInstance : BI.Storable (upEmb : UEmb _ 𝕄) (coreIn d (Fin.cast nCore_zero c) (A d) (A d).want))
  go q d c i := match q with
    | 0 => (inferInstance : BI.Storable (upEmb : UEmb _ 𝕄) (tileIn d (Fin.cast nCore_zero c) (Fin.cast nSub_zero i) (A d) (A d).out))
  td q d c i := match q with
    | 0 => (inferInstance : BI.Storable (upEmb : UEmb _ 𝕄) (tileIn d (Fin.cast nCore_zero c) (Fin.cast nSub_zero i) (A d) (A d).want))

/-! ## A tile's own memory and semaphores, out of what it has -/

/-- The semaphores that a tile's program uses. -/
def semList : Finset (SemLoc sig) := {.dma cc0_scoped0.sem, .dma cc0_scoped1.sem, .dma cc0_scoped2.sem, .dma cc0_scoped3.sem, .dma cc0_scratch12.sem, .dma cc0_scratch13.sem, .dma cc0_scratch14.sem, .dma cc0_scratch15.sem, .dma cc0_scratch16.sem, .dma cc0_scratch17.sem, .dma cc0_scratch18.sem, .dma cc0_scratch19.sem}
/-- The memory that a tile's program uses. -/
def bufList : Finset (Ref sig .scVector) := {cc0_scratch0, cc0_scratch1, cc0_scratch2, cc0_scratch3, cc0_scratch4, cc0_scratch5, cc0_scratch6, cc0_scratch7}

theorem semList_scoped : ∀ l ∈ semList, l.isScoped .scVector = true := by unfold semList; decide

theorem sep_group (A B C E R : sProp 𝕄) : iprop(A ∗ B ∗ C ∗ E ∗ R) = iprop((A ∗ B ∗ C ∗ E) ∗ R) := by
  have h (X Y Z : sProp 𝕄) : iprop((X ∗ Y) ∗ Z) = iprop(X ∗ Y ∗ Z) :=
    equiv_iff.mp ⟨_root_.Idealize.SL.BI.sep_assoc, _root_.Idealize.SL.BI.sep_assoc'⟩
  rw [h, h, h]

theorem bigSep_semList (Φ : SemLoc sig → sProp 𝕄) :
    bigSep semList Φ = iprop((Φ (.dma cc0_scoped0.sem) ∗ Φ (.dma cc0_scoped1.sem) ∗ Φ (.dma cc0_scoped2.sem) ∗ Φ (.dma cc0_scoped3.sem))
      ∗ (Φ (.dma cc0_scratch12.sem) ∗ Φ (.dma cc0_scratch13.sem) ∗ Φ (.dma cc0_scratch14.sem) ∗ Φ (.dma cc0_scratch15.sem) ∗ Φ (.dma cc0_scratch16.sem) ∗ Φ (.dma cc0_scratch17.sem) ∗ Φ (.dma cc0_scratch18.sem) ∗ Φ (.dma cc0_scratch19.sem))) := by
  unfold semList
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  exact sep_group _ _ _ _ _

theorem bigSep_bufList (Φ : Ref sig .scVector → sProp 𝕄) :
    bigSep bufList Φ = iprop((Φ cc0_scratch0 ∗ Φ cc0_scratch1 ∗ Φ cc0_scratch2 ∗ Φ cc0_scratch3)
      ∗ (Φ cc0_scratch4 ∗ Φ cc0_scratch5 ∗ Φ cc0_scratch6 ∗ Φ cc0_scratch7)) := by
  unfold bufList
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  exact sep_group _ _ _ _ _

theorem ownSems0_V (d : Dev nD) (c : Fin τ.nSC) (s : Fin τ.nSub) :
    (ownSems0 (V d c s) : sProp 𝕄) = iprop(ownSem d c s
      ∗ bigSep (ownCells (V d c s) \ semList.map ⟨fun l => ((V d c s, l) : GSem nD τ sig), fun _ _ h => (Prod.mk.inj h).2⟩) fun g => semVal g 0) := by
  have hs : semList.map ⟨fun l => ((V d c s, l) : GSem nD τ sig), fun _ _ h => (Prod.mk.inj h).2⟩ ⊆ ownCells (V d c s) := by
    intro g hg
    obtain ⟨l, hl, rfl⟩ := Finset.mem_map.mp hg
    refine mem_ownCells.mpr ⟨rfl, ?_⟩
    exact semList_scoped l hl
  unfold ownSems0
  conv_lhs => rw [← Finset.union_sdiff_of_subset hs]
  refine (bigSep_union Finset.disjoint_sdiff).trans ?_
  congr 1
  rw [bigSep_map]
  exact bigSep_semList _

theorem ownBufs_V (d : Dev nD) (c : Fin τ.nSC) (s : Fin τ.nSub) :
    (ownBufs (V d c s) : sProp 𝕄) = iprop(ownMem d c s
      ∗ bigSep (ownRefs (τ := τ) (.scVector c s) \ bufList.map ⟨(Proc.scVector c s).devRef, Proc.devRef_injective _⟩)
          fun b => iprop(∃ f, ((d, b) : Loc nD τ sig) ↦{fullShare} f)) := by
  have hs : bufList.map ⟨(Proc.scVector c s).devRef, Proc.devRef_injective _⟩ ⊆ ownRefs (τ := τ) (sig := sig) (.scVector c s) := by
    intro g hg
    obtain ⟨l, hl, rfl⟩ := Finset.mem_map.mp hg
    unfold bufList at hl
    simp only [Finset.mem_insert, Finset.mem_singleton] at hl
    rcases hl with rfl | rfl | rfl | rfl | rfl | rfl | rfl | rfl <;> exact SparseCore.Cfg.mem_ownRefs_of_owner rfl
  unfold ownBufs
  conv_lhs => rw [← Finset.union_sdiff_of_subset hs]
  refine (bigSep_union Finset.disjoint_sdiff).trans ?_
  congr 1
  rw [bigSep_map]
  exact bigSep_bufList _

/-! ## The tile's task -/

abbrev cV (L : grid0.Coords) : Fin τ.nSC := (L 0).castLE hcore0
abbrev jV (L : grid0.Coords) : Fin τ.nSub := (L 1).castLE hsub0

/-- A tile's program, from what the launch gives the tile to what it gives back. -/
theorem tile_body (d : Dev nD) (L : grid0.Coords) (q : PosShare TreeShare) (a : Arrays F) (hF : (K (F := F)).Facts)
    (O : CellTallies nD τ sig (HIx 1)) (W : Waits sig (HIx 1)) (hO : ∀ g, O g none = 0) :
    iprop(levAts (K (F := F)).L (K (F := F)).lev ∗ emp
        ∗ (reads d q a ∗ (outL d ↦[rowsIn (tbase L) (tbase L + 6400)]{fullShare} a.out))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileG L)
          fun _ => iprop((reads d q a ∗ (outL d ↦[rowsIn (tbase L) (tbase L + 6400)]{fullShare} a.want))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hr, Ho⟩, ⟨Hm, Hbufs⟩, ⟨Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_tileG L q a.word a.ids a.pid a.ptt a.gb a.out a.hids a.hpid _)
  isplitr; · iexact Hmw
  isplitl [Hr]; · unfold dealt reads; iexact Hr
  isplitl [Ho]; · iexact Ho
  isplitl [Hm]; · iexact Hm
  isplitl [Hs]; · iexact Hs
  isplitl [HO]; · iexact HO
  iintro Hr Ho Hm Hs HO
  isplitl [Hr Ho]
  · isplitl [Hr]; · unfold dealt reads; iexact Hr
    iexact Ho
  isplitl [Hm Hbufs]
  · isplitl [Hm]; · iexact Hm
    iexact Hbufs
  isplitl [Hs Hsems]
  · isplitl [Hs]; · iexact Hs
    iexact Hsems
  unfold owing
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v15_scv) (Memref.isWhole_whole _) (Memref.whole main_v16_scv) (Memref.isWhole_whole _) (Memref.whole main_arg1_scv) (Memref.isWhole_whole _) (Memref.whole main_v11_scv) (Memref.isWhole_whole _) (Memref.whole main_v14_scv) (Memref.isWhole_whole _)
          (Memref.whole main_v17_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
          cc0_scratch12 cc0_scratch13 cc0_scratch14 cc0_scratch15 cc0_scratch16 cc0_scratch17 cc0_scratch18 cc0_scratch19 cc0_scoped0 cc0_scoped1 cc0_scoped2 cc0_scoped3) ⟨⟩ c s := rfl

theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact tile_body d (coordsV ⟨_, hci.1⟩ ⟨_, hci.2⟩) (tileQ (Fin.cast nCore_zero c) (Fin.cast nSub_zero i)) (A d) hF O W hO

/-! ## A core's part is its tiles' -/

theorem vecSplit : (K (F := F)).VecSplit' (P A) 0 := by
  intro d c
  show coreIn d (Fin.cast nCore_zero c) (A d) (A d).out ⊢ |={Set.univ}=> iprop(
      (bigSep Finset.univ fun i : Fin ((K (F := F)).nSub 0) => tileIn d (Fin.cast nCore_zero c) (Fin.cast nSub_zero i) (A d) (A d).out)
      ∗ ((bigSep Finset.univ fun i : Fin ((K (F := F)).nSub 0) => tileIn d (Fin.cast nCore_zero c) (Fin.cast nSub_zero i) (A d) (A d).want)
          -∗ coreIn d (Fin.cast nCore_zero c) (A d) (A d).want))
  rw [coreIn_tiles, coreIn_tiles]
  iintro H; imodintro
  isplitl [H]; · iexact H
  iintro H; iexact H

/-- What the launch starts from: the call's handshakes. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

end

end Cert.Proof
-- ==== Proof.Main.lean ====
module

public import proofs.«01_k».proof.Proof.Launch

@[expose] public section

noncomputable section

namespace Cert.Proof

open Cert.KernelIdeal Cert.KernelIdeal.Shapes1.Facts₀
open Idealize.ShloMosaic Idealize.ShloMosaic.ValueIdx
open Idealize.ShloMosaic.StableHlo (nullary unary binary reshape seq after held tcRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

/-! ## The host's operations around the call -/

/-- The operations before the call. -/
abbrev opsPre : List (HloOp τ sig (Elt F)) :=
  [ nullary main_c (constantI S_ 32 0#32),
    unary main_c main_v0 (broadcastInDim S1024x200 ![] bcast_S_S1024x200 : (⟨S_, .i32⟩ : BufTy).Contents (Elt F) → (⟨S1024x200, .i32⟩ : BufTy).Contents (Elt F)),
    binary main_arg0 main_v0 main_v1 (cmpi .ne : (⟨S1024x200, .i32⟩ : BufTy).Contents (Elt F) → (⟨S1024x200, .i32⟩ : BufTy).Contents (Elt F) → (⟨S1024x200, .i1⟩ : BufTy).Contents (Elt F)),
    unary main_v1 main_v2 ((extui 32 · natLt_1_32) : (⟨S1024x200, .i1⟩ : BufTy).Contents (Elt F) → (⟨S1024x200, .i32⟩ : BufTy).Contents (Elt F)),
    StableHlo.TRef.nullary main_call0_call0.c (constantI S_ 32 0#32),
    StableHlo.TRef.unary main_call0_call0.c main_call0_call0.v0 (broadcastInDim S_ ![] bcast_S_S_),
    StableHlo.TRef.binary (.of main_v2) main_call0_call0.v0 main_call0_call0.v1 (fun x v => Host.reduceWindow IntOp.addi ![1, 200] ![1, 1] ![0, 199] ![0, 0] x v reduceWindows_S1024x200_S1024x200_w1s1p0_0_w200s1p199_0 h_S_),
    binary main_v3 main_v2 main_v4 (muli : (⟨S1024x200, .i32⟩ : BufTy).Contents (Elt F) → (⟨S1024x200, .i32⟩ : BufTy).Contents (Elt F) → (⟨S1024x200, .i32⟩ : BufTy).Contents (Elt F)),
    nullary main_c_0 (constantI S_ 32 0#32),
    unary main_c_0 main_v5 (broadcastInDim S1024x200 ![] bcast_S_S1024x200 : (⟨S_, .i32⟩ : BufTy).Contents (Elt F) → (⟨S1024x200, .i32⟩ : BufTy).Contents (Elt F)),
    binary main_v4 main_v5 main_v6 (addi : (⟨S1024x200, .i32⟩ : BufTy).Contents (Elt F) → (⟨S1024x200, .i32⟩ : BufTy).Contents (Elt F) → (⟨S1024x200, .i32⟩ : BufTy).Contents (Elt F)),
    unary main_arg2 main_v7 ((extractStridedSlice S1x128 ![0, 0] · slices_S2x128_S1x128_0_0) : (⟨S2x128, .f32⟩ : BufTy).Contents (Elt F) → (⟨S1x128, .f32⟩ : BufTy).Contents (Elt F)),
    reshape main_v7 main_v8 (rfl : (.f32 : EltTy) = .f32) shapeCasts_S1x128_S128,
    unary main_v8 main_v9 (broadcastInDim S1x128 ![1] bcast_S128_S1x128_1 : (⟨S128, .f32⟩ : BufTy).Contents (Elt F) → (⟨S1x128, .f32⟩ : BufTy).Contents (Elt F)),
    unary main_v9 main_v10 (broadcastInDim S512x128 ![0, 1] bcast_S1x128_S512x128_0_1 : (⟨S1x128, .f32⟩ : BufTy).Contents (Elt F) → (⟨S512x128, .f32⟩ : BufTy).Contents (Elt F)),
    binary main_arg3 main_v10 main_v11 (addf : (⟨S512x128, .f32⟩ : BufTy).Contents (Elt F) → (⟨S512x128, .f32⟩ : BufTy).Contents (Elt F) → (⟨S512x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_arg5 main_v13 (broadcastInDim S1x128 ![1] bcast_S128_S1x128_1 : (⟨S128, .f32⟩ : BufTy).Contents (Elt F) → (⟨S1x128, .f32⟩ : BufTy).Contents (Elt F)),
    binary main_v12 main_v13 main_v14 ((fun a b => concatenate S2x128 0 [⟨S1x128, a⟩, ⟨S1x128, b⟩] concatenates_S1x128_S1x128_S2x128_d0) : (⟨S1x128, .f32⟩ : BufTy).Contents (Elt F) → (⟨S1x128, .f32⟩ : BufTy).Contents (Elt F) → (⟨S2x128, .f32⟩ : BufTy).Contents (Elt F)),
    reshape main_arg0 main_v15 (rfl : (.i32 : EltTy) = .i32) shapeCasts_S1024x200_S204800,
    reshape main_v6 main_v16 (rfl : (.i32 : EltTy) = .i32) shapeCasts_S1024x200_S204800 ]

/-- The operation after the call. -/
abbrev opsPost : List (HloOp τ sig (Elt F)) :=
  [ reshape main_v17 main_v18 (rfl : (.f32 : EltTy) = .f32) shapeCasts_S204800x128_S1024x200x128 ]

theorem main_eq (d : Dev nD) : main (F := F) d = (seq opsPre >>= fun _ => (sc.run d 0 >>= fun _ => (seq opsPost >>= fun u => pure u))) := by
  simp only [main, fn_cumsum.body, fn_cumsum_0.body, seq, bind_assoc, pure_bind]

theorem pre_sub : (opsPre : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.reshape_bufs_sub ..⟩
theorem post_sub : (opsPost : List (HloOp τ sig (Elt F))).Forall fun op => op.bufs ⊆ tcRefs τ sig := StableHlo.reshape_bufs_sub ..
theorem pre_fresh : (opsPre : List (HloOp τ sig (Elt F))).Forall fun op => op.fresh = ∅ := StableHlo.forall_fresh_of_map rfl
theorem post_fresh : (opsPost : List (HloOp τ sig (Elt F))).Forall fun op => op.fresh = ∅ := StableHlo.forall_fresh_of_map rfl

section
variable (m : (ℓ : Loc nD τ sig) → Buf (Elt F) ℓ) (ρ : Dev nD → PrngReg)

local notation "𝕄" => MT nD τ sig (HIx 1) (Elt F) ℕ UU ℕ

/-- A buffer of the device, by its name. -/
abbrev ref (b : Ref sig .tc) : DevRef τ sig := Proc.devRef .tc b

/-- What the device's buffers hold when the call starts. -/
def V1 (d : Dev nD) : Valuation τ sig (Elt F) := after opsPre (fun b => m (d, b))

/-- The ids that index the tables are in range when the call starts. -/
def InRange : Prop := ∀ d : Dev nD, (∀ x : S204800.Idx, ((V1 m d (ref main_v15) : S204800.Idx → BitVec 32) x).toNat < 100000)
  ∧ ∀ x : S204800.Idx, ((V1 m d (ref main_v16) : S204800.Idx → BitVec 32) x).toNat < 512

variable (hm : InRange m)

/-- The call's arrays. -/
def arr (d : Dev nD) : Arrays F where
  word := V1 m d (ref main_arg1)
  ids := V1 m d (ref main_v15)
  pid := V1 m d (ref main_v16)
  ptt := V1 m d (ref main_v11)
  gb := V1 m d (ref main_v14)
  out := V1 m d (ref main_v17)
  hids := (hm d).1
  hpid := (hm d).2

/-- What the device's buffers hold after the call. -/
def V2 (d : Dev nD) : Valuation τ sig (Elt F) := Function.update (V1 m d) (ref main_v17) (arr m hm d).want
/-- What they hold at the end. -/
def V3 (d : Dev nD) : Valuation τ sig (Elt F) := after opsPost (V2 m hm d)

/-- The call's six arrays. -/
def callRefs : Finset (DevRef τ sig) := {ref main_v15, ref main_v16, ref main_arg1, ref main_v11, ref main_v14, ref main_v17}

theorem callRefs_sub : callRefs ⊆ tcRefs τ sig := by
  intro b hb
  unfold callRefs at hb
  simp only [Finset.mem_insert, Finset.mem_singleton] at hb
  rcases hb with rfl | rfl | rfl | rfl | rfl | rfl <;> exact StableHlo.devRef_mem_tcRefs _

theorem held_callRefs (d : Dev nD) (W : Valuation τ sig (Elt F)) :
    (held (SparseCore.T d) callRefs W : sProp 𝕄)
      = iprop((idsL d ↦{fullShare} W (ref main_v15)) ∗ (pidL d ↦{fullShare} W (ref main_v16)) ∗ (wordL d ↦{fullShare} W (ref main_arg1))
          ∗ (pttL d ↦{fullShare} W (ref main_v11)) ∗ (gbL d ↦{fullShare} W (ref main_v14)) ∗ outL d ↦{fullShare} W (ref main_v17)) := by
  unfold held callRefs
  rw [SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) :
    (unscopedBufs d (fun b => m ((SparseCore.T d).loc b)) : sProp 𝕄) = held (SparseCore.T d) (tcRefs τ sig) (fun b => m (d, b)) := by
  unfold unscopedBufs held tcRefs
  rw [show (Finset.univ.filter fun b : Ref sig .tc => ¬ b.isScoped) = Finset.univ by decide, bigSep_map]
  rfl

theorem sep_group5 (A B C E G R : sProp 𝕄) : iprop(A ∗ B ∗ C ∗ E ∗ G ∗ R) = iprop((A ∗ B ∗ C ∗ E ∗ G) ∗ R) := by
  have h (X Y Z : sProp 𝕄) : iprop((X ∗ Y) ∗ Z) = iprop(X ∗ Y ∗ Z) :=
    equiv_iff.mp ⟨_root_.Idealize.SL.BI.sep_assoc, _root_.Idealize.SL.BI.sep_assoc'⟩
  rw [h, h, h, h]

theorem call_in (d : Dev nD) : (held (SparseCore.T d) callRefs (V1 m d) : sProp 𝕄)
    = iprop(reads d fullShare (arr m hm d) ∗ (outL d ↦{fullShare} (arr m hm d).out)) := by
  rw [held_callRefs]; unfold reads
  exact sep_group5 _ _ _ _ _ _

theorem V2_of_ne (d : Dev nD) {b : DevRef τ sig} (h : b ≠ ref main_v17) : V2 m hm d b = V1 m d b := Function.update_of_ne h _ _

theorem call_out (d : Dev nD) : (held (SparseCore.T d) callRefs (V2 m hm d) : sProp 𝕄)
    = iprop(reads d fullShare (arr m hm d) ∗ (outL d ↦{fullShare} (arr m hm d).want)) := by
  rw [held_callRefs, V2_of_ne m hm d (b := ref main_v15) (by decide), V2_of_ne m hm d (b := ref main_v16) (by decide),
    V2_of_ne m hm d (b := ref main_arg1) (by decide), V2_of_ne m hm d (b := ref main_v11) (by decide), V2_of_ne m hm d (b := ref main_v14) (by decide),
    show V2 m hm d (ref main_v17) = (arr m hm d).want from Function.update_self _ _ _]
  unfold reads
  exact sep_group5 _ _ _ _ _ _

theorem rest_kept (d : Dev nD) : (held (SparseCore.T d) (tcRefs τ sig \ callRefs) (V1 m d) : sProp 𝕄)
    = held (SparseCore.T d) (tcRefs τ sig \ callRefs) (V2 m hm d) :=
  StableHlo.held_congr _ fun b hb => (V2_of_ne m hm d fun e => (Finset.mem_sdiff.mp hb).2 (by rw [e]; unfold callRefs; decide)).symm

theorem st0_eq (d : Dev nD) : (bigSep Finset.univ fun c : Fin ((K (F := F)).nCore 0) => (P (arr m hm)).st 0 d c)
    = iprop(reads d fullShare (arr m hm d) ∗ (outL d ↦{fullShare} (arr m hm d).out)) := (whole_cores d _ _).symm
theorem dn0_eq (d : Dev nD) : (bigSep Finset.univ fun c : Fin ((K (F := F)).nCore 0) => (P (arr m hm)).dn 0 d c)
    = iprop(reads d fullShare (arr m hm d) ∗ (outL d ↦{fullShare} (arr m hm d).want)) := (whole_cores d _ _).symm

/-- What @main leaves: the device's buffers. -/
abbrev FIN (d : Dev nD) : sProp 𝕄 := held (SparseCore.T d) (tcRefs τ sig) (V3 m hm d)

set_option backward.isDefEq.respectTransparency.types false in
/-- @main: the operations before the call, the call, the operation after it. -/
theorem hmain (κ : GSem nD τ sig → ℕ) (d : Dev nD) :
    iprop((K (F := F)).ctx EH (P (arr m hm)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (tcRefs τ sig) _ opsPre (List.forall_iff_forall_mem.mp pre_sub) (List.forall_iff_forall_mem.mp pre_fresh)
    (fun b => m (d, b))) $$ [Hb Hheld]
  · isplitl [Hb]; · iexact Hb
    iexact Hheld
  iintro ⟨Hb, Hheld⟩
  ihave Hh := (Entails.of_eq (StableHlo.held_sub_split (SparseCore.T d) callRefs_sub (V1 m d))) $$ [Hheld]
  · unfold V1; iexact Hheld
  icases Hh with ⟨Hcall, Hrest⟩
  ihave Hin := (Entails.of_eq (call_in m hm d)) $$ Hcall
  rw [wp_bind]
  iapply ((K (F := F)).wp_run (D (F := F)) 𝒱 (EH := EH) (P := P (arr m hm)) κ d 0) $$ [Hst Hin Hb Hrest Hts]
  isplitr; · iexact Hctx
  isplitl [Hst]; · iexact Hst
  isplitl [Hin]
  · rw [st0_eq]; iexact Hin
  iintro ⟨Hst, Hdn⟩
  ihave Hout := (Entails.of_eq ((dn0_eq m hm d).trans (call_out m hm d).symm)) $$ Hdn
  ihave Hrest' := (Entails.of_eq (rest_kept m hm d)) $$ Hrest
  ihave Hheld := (Entails.of_eq (StableHlo.held_sub_split (SparseCore.T d) callRefs_sub (V2 m hm d)).symm) $$ [Hout Hrest']
  · isplitl [Hout]; · iexact Hout
    iexact Hrest'
  iapply (StableHlo.wp_seq 𝒱 none Set.univ d (tcRefs τ sig) _ opsPost (List.forall_iff_forall_mem.mp post_sub) (List.forall_iff_forall_mem.mp post_fresh)
    (V2 m hm d)) $$ [Hb Hheld]
  · isplitl [Hb]; · iexact Hb
    iexact Hheld
  iintro ⟨Hb, Hheld⟩
  rw [wp_pure]; imodintro
  isplitl [Hst]; · iexact Hst
  isplitl [Hheld]; · unfold FIN V3; iexact Hheld
  isplitl [Hb]; · iexact Hb
  iexact Hts

def fq (d : Dev nD) (s' : Phys nD τ sig (Elt F)) : Prop := ∀ b : Ref sig .tc, s'.mem.mem ((SparseCore.T d).loc b) = V3 m hm d (ref b)

theorem hfin (d : Dev nD) (s' : Phys nD τ sig (Elt F)) : iprop(FIN m hm d ∗ SI s') ⊢ (⌜fq m hm d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-! ## The program's run -/

/-- Every buffer of the TensorCore ends at what the operations and the call make of the launch's contents, and every semaphore at zero. -/
def QC : PUnit × MemSt nD τ sig (Elt F) → Prop :=
  fun r => (∀ (d : Dev nD) (b : Ref sig .tc), r.2.mem ((d.tc : Thread nD τ).loc b) = V3 m hm d (ref b)) ∧ r.2.sem = fun _ => 0

theorem run_main [∀ e, Nonempty (Elt F e)] :
    θ_run (Cert.KernelIdeal.defs (F := F)) (Cert.KernelIdeal.threads (F := F)) ⟨m, fun _ => 0, ρ⟩ (QC m hm) :=
  SparseCore.Cfg.θ_run_sc_quiescent (K := K (F := F)) (D := D (F := F)) (𝒱 := 𝒱) (EH := EH) (P := P (arr m hm)) (A := ∅) facts v₀
    (fun q hq => match q with | 0 => nomatch hq)
    (fun q _ => match q with | 0 => tileObl (arr m hm) facts)
    (fun q _ => match q with | 0 => SparseCore.Cfg.VecSplit.of_plain (vecSplit (arr m hm)))
    m ρ main (fun _ => iprop(emp)) (FIN m hm) (u₀ (F := F)) (sep_elim_left.trans (hu₀ (arr m hm))) (hmain m ρ hm) (fq m hm) (hfin m hm) (QC m hm)
    (fun _ h hz => ⟨h, hz⟩)

end

end Cert.Proof
-- ==== Proof.Host.lean ====
module

public import proofs.«01_k».proof.Proof.Main

@[expose] public section

noncomputable section

namespace Cert.Proof

open Cert.KernelIdeal Cert.KernelIdeal.Shapes1.Facts₀
open Idealize.ShloMosaic Idealize.ShloMosaic.ValueIdx
open Idealize.ShloMosaic.StableHlo
open Idealize.SL Idealize.SL.Sem

variable {F : FTy → Type} [FloatOps F]

/-! ## What the host's operations compute -/

/-- One where an id is not the padding's. -/
def mask (ids : IVec S1024x200 32) : IVec S1024x200 32 :=
  extui 32 (cmpi .ne ids (broadcastInDim S1024x200 ![] bcast_S_S1024x200 (constantI S_ 32 0#32))) natLt_1_32

/-- The mask's running sums along a row. -/
def running (ids : IVec S1024x200 32) : IVec S1024x200 32 :=
  Host.reduceWindow IntOp.addi ![1, 200] ![1, 1] ![0, 199] ![0, 0] (mask ids) (broadcastInDim S_ ![] bcast_S_S_ (constantI S_ 32 0#32))
    reduceWindows_S1024x200_S1024x200_w1s1p0_0_w200s1p199_0 h_S_

/-- The position ids. -/
def posIds (ids : IVec S1024x200 32) : IVec S1024x200 32 :=
  addi (muli (running ids) (mask ids)) (broadcastInDim S1024x200 ![] bcast_S_S1024x200 (constantI S_ 32 0#32))

/-- The position table with the first token type added to each row. -/
def posType (typ : FVec F S2x128 .f32) (pos : FVec F S512x128 .f32) : FVec F S512x128 .f32 :=
  addf pos (broadcastInDim S512x128 ![0, 1] bcast_S1x128_S512x128_0_1
    (broadcastInDim S1x128 ![1] bcast_S128_S1x128_1
      (shapeCast S128 (extractStridedSlice S1x128 ![0, 0] typ slices_S2x128_S1x128_0_0) shapeCasts_S1x128_S128)))

/-- The scale's row and the shift's, one under the other. -/
def scaleShift (g b : FVec F S128 .f32) : FVec F S2x128 .f32 :=
  concatenate S2x128 0 [⟨S1x128, broadcastInDim S1x128 ![1] bcast_S128_S1x128_1 g⟩, ⟨S1x128, broadcastInDim S1x128 ![1] bcast_S128_S1x128_1 b⟩]
    concatenates_S1x128_S1x128_S2x128_d0

theorem pre_kept (V : Valuation τ sig (Elt F)) {r : Ref sig .tc}
    (hr : r ∉ [main_c, main_v0, main_v1, main_v2, main_call0_call0_c, main_call0_call0_v0, main_v3, main_v4, main_c_0, main_v5, main_v6,
      main_v7, main_v8, main_v9, main_v10, main_v11, main_v12, main_v13, main_v14, main_v15, main_v16]) :
    after opsPre V (ref r) = V (ref r) := after_of_writes_sub _ _ (forall_writes_sub_of_map rfl) hr

theorem pre_v15 (V : Valuation τ sig (Elt F)) :
    after opsPre V (ref main_v15) = shapeCast S204800 (V (ref main_arg0)) shapeCasts_S1024x200_S204800 := by
  after_results_simp; rfl
theorem pre_v16 (V : Valuation τ sig (Elt F)) :
    after opsPre V (ref main_v16) = shapeCast S204800 (posIds (V (ref main_arg0))) shapeCasts_S1024x200_S204800 := by
  after_results_simp
  unfold posIds running mask
  simp only [TRef.ofBuf, TRef.toBuf, cast_eq]
  rfl
theorem pre_v11 (V : Valuation τ sig (Elt F)) :
    after opsPre V (ref main_v11) = posType (V (ref main_arg2)) (V (ref main_arg3)) := by
  after_results_simp; rfl
theorem pre_v14 (V : Valuation τ sig (Elt F)) :
    after opsPre V (ref main_v14) = scaleShift (V (ref main_arg4)) (V (ref main_arg5)) := by
  after_results_simp; rfl
theorem post_kept (V : Valuation τ sig (Elt F)) {r : Ref sig .tc} (hr : r ∉ [main_v18]) :
    after opsPost V (ref r) = V (ref r) := after_of_writes_sub _ _ (forall_writes_sub_of_map rfl) hr
theorem post_v18 (V : Valuation τ sig (Elt F)) :
    after opsPost V (ref main_v18) = shapeCast S1024x200x128 (V (ref main_v17)) shapeCasts_S204800x128_S1024x200x128 := by
  after_results_simp; rfl

end Cert.Proof
-- ==== Proof.Range.lean ====
module

public import proofs.«01_k».proof.Proof.Host
public import proofs.«01_k».proof.Pre_ids_ok
public import proofs.«01_k».proof.Pre_inputs_ok
public import Idealize.ShloMosaic.Lib.ReduceAll
public import Idealize.ShloMosaic.Lib.StableHlo.Predicate
public import Idealize.ShloMosaic.PureOps.Ideal.Laws

@[expose] public section

noncomputable section

namespace Cert.Proof

open Cert.KernelIdeal Cert.KernelIdeal.Shapes1.Facts₀
open Idealize.ShloMosaic Idealize.ShloMosaic.ValueIdx
open Idealize.ShloMosaic.StableHlo
open Idealize.SL Idealize.SL.Sem

variable {F : FTy → Type} [FloatOps F]

/-! ## What the preconditions say -/

/-- A word between the two bounds is a row of the word table. -/
theorem row_of_bounds {x : BitVec 32} (h : IntOp.cmpi .sge x 0#32 = 1#1 ∧ IntOp.cmpi .slt x 100000#32 = 1#1) : x.toNat < 100000 := by
  have h0 := IntOp.cmpi_sge.1 h.1
  have h1 := IntOp.cmpi_slt.1 h.2
  rw [show (0#32 : BitVec 32).toInt = 0 by decide] at h0
  rw [show (100000#32 : BitVec 32).toInt = 100000 by decide] at h1
  rw [BitVec.toInt_eq_toNat_cond] at h0 h1
  split at h0 <;> omega

section
variable [Cert.Pre_ids_ok.Facts]

instance : Subsingleton Cert.Pre_ids_ok.S_.Idx := ⟨fun a b => funext fun k => k.elim0⟩

/-- The frames' precondition: the ids are rows of the word table. -/
theorem ids_rows {ids : IVec S1024x200 32} {word : FVec F S100000x128 .f32} {typ : FVec F S2x128 .f32} {pos : FVec F S512x128 .f32}
    {g b : FVec F S128 .f32} (h : Cert.Pre_ids_ok.fn (F := F) ids word typ pos g b = fun _ => 1#1) (x : S1024x200.Idx) :
    (ids x).toNat < 100000 := by
  have e := congrFun h ix0
  unfold Cert.Pre_ids_ok.fn at e
  exact row_of_bounds (IntOp.andi_eq_one.1 (Host.reduce_andi_all _ _ _ _ _ e x))

end

section
variable [Cert.Pre_inputs_ok.Facts]

instance : Subsingleton Cert.Pre_inputs_ok.S_.Idx := ⟨fun a b => funext fun k => k.elim0⟩

/-- The value claim's precondition: its four conjuncts, each at an index. -/
theorem pre_parts {ids : IVec S1024x200 32} {word : FVec F S100000x128 .f32} {typ : FVec F S2x128 .f32} {pos : FVec F S512x128 .f32}
    {g b : FVec F S128 .f32} (h : Cert.Pre_inputs_ok.fn (F := F) ids word typ pos g b = fun _ => 1#1) :
    (∀ x, IntOp.cmpi .sge (ids x) 0#32 = 1#1 ∧ IntOp.cmpi .slt (ids x) 100000#32 = 1#1)
    ∧ (∀ x, FloatOps.cmpf .olt (Host.absf word x) (Scalar.ofBits .f32 0x7F800000#32 : F .f32) = 1#1)
    ∧ (∀ x, FloatOps.cmpf .olt (Host.absf typ x) (Scalar.ofBits .f32 0x7F800000#32 : F .f32) = 1#1)
    ∧ (∀ x, FloatOps.cmpf .olt (Host.absf pos x) (Scalar.ofBits .f32 0x7F800000#32 : F .f32) = 1#1) := by
  have e := congrFun h ix0
  unfold Cert.Pre_inputs_ok.fn Cert.Pre_inputs_ok.fn_part1 at e
  obtain ⟨e, e4⟩ := IntOp.andi_eq_one.1 e
  obtain ⟨e, e3⟩ := IntOp.andi_eq_one.1 e
  obtain ⟨e1, e2⟩ := IntOp.andi_eq_one.1 e
  exact ⟨fun x => IntOp.andi_eq_one.1 (Host.reduce_andi_all _ _ _ _ _ e1 x), fun x => Host.reduce_andi_all _ _ _ _ _ e2 x,
    fun x => Host.reduce_andi_all _ _ _ _ _ e3 x, fun x => Host.reduce_andi_all _ _ _ _ _ e4 x⟩

/-- The ids are rows of the word table. -/
theorem pre_ids {ids : IVec S1024x200 32} {word : FVec F S100000x128 .f32} {typ : FVec F S2x128 .f32} {pos : FVec F S512x128 .f32}
    {g b : FVec F S128 .f32} (h : Cert.Pre_inputs_ok.fn (F := F) ids word typ pos g b = fun _ => 1#1) (x : S1024x200.Idx) :
    (ids x).toNat < 100000 := row_of_bounds ((pre_parts h).1 x)

end

/-! ## The position ids -/

/-- A running sum of words that are each at most one is at most their number. -/
theorem fold_le {ι : Type} (l : List ι) (f : ι → BitVec 32) (hf : ∀ n, (f n).toNat ≤ 1) (r : BitVec 32) :
    (l.foldl (fun r n => IntOp.addi r (f n)) r).toNat ≤ r.toNat + l.length := by
  induction l generalizing r with
  | nil => simp
  | cons a l ih =>
    refine (ih _).trans ?_
    have h1 : (IntOp.addi r (f a)).toNat ≤ r.toNat + (f a).toNat := by
      show (r + f a).toNat ≤ _
      rw [BitVec.toNat_add]; exact Nat.mod_le _ _
    have := hf a
    simp only [List.length_cons]; omega

theorem mask_le (ids : IVec S1024x200 32) (x : S1024x200.Idx) : (mask ids x).toNat ≤ 1 := by
  show ((cmpi .ne ids _ x).setWidth 32).toNat ≤ 1
  rw [Predicate.toNat_setWidth_bit]; split <;> omega

theorem running_le (ids : IVec S1024x200 32) (x : S1024x200.Idx) : (running ids x).toNat ≤ 200 := by
  unfold running Host.reduceWindow
  refine (fold_le _ _ (fun n => ?_) _).trans ?_
  · split
    · exact mask_le ids _
    · exact Nat.zero_le _
  · rw [List.length_finRange]
    exact Nat.le_of_eq rfl

/-- A position id is a row of the position table. -/
theorem posIds_le (ids : IVec S1024x200 32) (x : S1024x200.Idx) : (posIds ids x).toNat ≤ 200 := by
  show (running ids x * mask ids x + 0#32).toNat ≤ 200
  rw [BitVec.add_zero, BitVec.toNat_mul]
  refine (Nat.mod_le _ _).trans ?_
  calc (running ids x).toNat * (mask ids x).toNat ≤ 200 * 1 := Nat.mul_le_mul (running_le ids x) (mask_le ids x)
    _ = 200 := rfl

/-! ## The frames -/

section
variable (m : (ℓ : Loc nD τ sig) → Buf (Elt F) ℓ)

/-- Where the ids are rows of the word table, the call's indices are in range. -/
theorem inRange (h : ∀ (d : Dev nD) (x : S1024x200.Idx), ((m (d, ref main_arg0) : IVec S1024x200 32) x).toNat < 100000) : InRange m :=
  fun d => ⟨fun x => by unfold V1; rw [pre_v15]; exact h d _,
    fun x => by unfold V1; rw [pre_v16]; exact (posIds_le _ _).trans_lt (by decide)⟩

/-- No operation writes an argument. -/
theorem V3_arg (hm : InRange m) (d : Dev nD) {r : Ref sig .tc} (h1 : r ∉ [main_v18]) (h2 : r ≠ main_v17)
    (h3 : r ∉ [main_c, main_v0, main_v1, main_v2, main_call0_call0_c, main_call0_call0_v0, main_v3, main_v4, main_c_0, main_v5, main_v6,
      main_v7, main_v8, main_v9, main_v10, main_v11, main_v12, main_v13, main_v14, main_v15, main_v16]) :
    V3 m hm d (ref r) = m (d, ref r) := by
  unfold V3
  rw [post_kept _ h1, V2_of_ne m hm d fun e => h2 (Proc.devRef_injective _ e)]
  exact pre_kept _ h3

/-- The arguments end unchanged, and every semaphore at zero. -/
theorem run_frame [∀ e, Nonempty (Elt F e)] (ρ : Dev nD → PrngReg) (hm : InRange m) :
    θ_run (Cert.KernelIdeal.defs (F := F)) (Cert.KernelIdeal.threads (F := F)) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run (Cert.KernelIdeal.defs (F := F)) _ _).mono
    (fun _ h => ⟨fun c => ⟨(h.1 c main_arg0).trans (V3_arg m hm c (by decide) (by decide) (by decide)),
      (h.1 c main_arg1).trans (V3_arg m hm c (by decide) (by decide) (by decide)),
      (h.1 c main_arg2).trans (V3_arg m hm c (by decide) (by decide) (by decide)),
      (h.1 c main_arg3).trans (V3_arg m hm c (by decide) (by decide) (by decide)),
      (h.1 c main_arg4).trans (V3_arg m hm c (by decide) (by decide) (by decide)),
      (h.1 c main_arg5).trans (V3_arg m hm c (by decide) (by decide) (by decide))⟩, h.2⟩) (run_main m ρ hm)

end

end Cert.Proof
-- ==== Proof.Frames.lean ====
module

public import proofs.«01_k».proof.Proof.Range
public import proofs.«01_k».proof.Defs
public import proofs.«01_k».proof.Proof.Gen.Kernel
public import proofs.«01_k».proof.Proof.Gen.KernelIdeal
public import proofs.«01_k».proof.Proof.Gen.Pre_ids_ok

@[expose] public section

noncomputable section

namespace Cert.Proof

open Idealize.ShloMosaic Idealize.SL.Sem

/-! ## The kernel's frames, over the extended reals and over the floats' bits -/

theorem frame_kernelIdeal : Cert.quiescent_KernelIdeal := fun m ρ h =>
  run_frame m ρ (inRange m fun d x => ids_rows (h d) x)

set_option maxHeartbeats 0 in
theorem frame_kernel : Cert.quiescent_Kernel := fun m ρ h =>
  run_frame (F := Bits) m ρ (inRange (F := Bits) m fun d x => ids_rows (F := Bits) (h d) x)

end Cert.Proof
-- ==== Proof.RefRun.lean ====
module

public import proofs.«01_k».proof.Defs
public import proofs.«01_k».proof.Proof.Gen.ReferenceIdeal.Run
public import proofs.«01_k».proof.Proof.Gen.Pre_inputs_ok
public import Idealize.ShloMosaic.Adequacy
public import Idealize.ShloMosaic.Lib.Quiescent

@[expose] public section

noncomputable section

namespace Cert.Proof

open Idealize.ShloMosaic Idealize.SL.Sem

/-! ## The reference's frames -/

/-- The reference ends on every memory, with its arguments unchanged, and it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_inputs_ok := fun m ρ _ => frame_reference m ρ trivial

end Cert.Proof
-- ==== Proof.KerValue.lean ====
module

public import proofs.«01_k».proof.Proof.Range
public import Idealize.ShloMosaic.Lib.Pipeline.Value

@[expose] public section

noncomputable section

namespace Cert.Proof

open Cert.KernelIdeal Cert.KernelIdeal.Shapes1.Facts₀
open Idealize.ShloMosaic Idealize.ShloMosaic.ValueIdx
open Idealize.ShloMosaic.StableHlo

variable {F : FTy → Type} [FloatOps F]

/-! ## What the kernel's result holds -/

/-- The scale's row. -/
theorem scaleShift_0 (g b : FVec F S128 .f32) (e : Fin 128) : scaleShift g b (ix2 (0 : Fin 2) e) = g (ix1 e) :=
  (concatenate_pair_apply_left (s₁ := S1x128) (s₂ := S1x128) (0 : Fin S2x128.rank) _ _ _ _ rfl (ix2 (0 : Fin 1) e) fun a => by
    match a with
    | ⟨0, _⟩ => rfl
    | ⟨1, _⟩ => rfl).trans
  (broadcastInDim_apply _ _ _ _ (ix1 e) fun a => by
    match a with
    | ⟨0, _⟩ => rfl)

/-- The shift's row. -/
theorem scaleShift_1 (g b : FVec F S128 .f32) (e : Fin 128) : scaleShift g b (ix2 (1 : Fin 2) e) = b (ix1 e) :=
  (concatenate_pair_apply_right (s₁ := S1x128) (s₂ := S1x128) (0 : Fin S2x128.rank) _ _ _ _ rfl rfl (ix2 (0 : Fin 1) e) (fun a ha => by
    match a with
    | ⟨0, _⟩ => exact absurd rfl ha
    | ⟨1, _⟩ => rfl) rfl).trans
  (broadcastInDim_apply _ _ _ _ (ix1 e) fun a => by
    match a with
    | ⟨0, _⟩ => rfl)

/-- The position table's rows, the first type's row added to each. -/
theorem posType_apply (typ : FVec F S2x128 .f32) (pos : FVec F S512x128 .f32) (p : Fin 512) (e : Fin 128) :
    posType typ pos (ix2 p e) = FloatOps.addf (pos (ix2 p e)) (typ (ix2 (0 : Fin 2) e)) := by
  show FloatOps.addf (pos (ix2 p e)) _ = _
  refine congrArg _ ?_
  refine (broadcastInDim_apply _ _ _ _ (ix2 (0 : Fin 1) e) fun a => by
    match a with
    | ⟨0, _⟩ => rfl
    | ⟨1, _⟩ => rfl).trans ?_
  refine (broadcastInDim_apply _ _ _ _ (ix1 e) fun a => by
    match a with
    | ⟨0, _⟩ => rfl).trans ?_
  refine (shapeCast_1a_a_apply _ _ e).trans ?_
  exact extractStridedSlice_apply _ _ _ _ _ fun a => by
    match a with
    | ⟨0, _⟩ => rfl
    | ⟨1, _⟩ => exact (Nat.zero_add _).symm

/-- A token's number in the flat lists. -/
def flat (b : Fin 1024) (s : Fin 200) : Fin 204800 := ⟨200 * b.val + s.val, by omega⟩

theorem flat_apply {α : Type} (ids : S1024x200.Idx → α) (b : Fin 1024) (s : Fin 200) :
    shapeCast S204800 ids shapeCasts_S1024x200_S204800 (ix1 (flat b s)) = ids (ix2 b s) :=
  shapeCast_apply _ _ _ _ (by
    rw [Shape.rowMajor_val_two, Shape.rowMajor_val_one]
    show b.val * 200 + s.val = 200 * b.val + s.val
    omega)

theorem unflat_apply {α : Type} (v : S204800x128.Idx → α) (b : Fin 1024) (s : Fin 200) (e : Fin 128) :
    shapeCast S1024x200x128 v shapeCasts_S204800x128_S1024x200x128 (ix3 b s e) = v (ix2 (flat b s) e) :=
  shapeCast_apply _ _ _ _ (by
    rw [Shape.rowMajor_val_two, Shape.rowMajor_val_three]
    show (200 * b.val + s.val) * 128 + e.val = (b.val * 200 + s.val) * 128 + e.val
    omega)

variable (m : (ℓ : Loc nD τ sig) → Buf (Elt F) ℓ)

/-- An entry of the kernel's result: of its token's word's row and its position's row, added and normalized. -/
theorem result_apply (hm : InRange m) (d : Dev nD)
    (hids : ∀ x : S1024x200.Idx, ((m (d, ref main_arg0) : IVec S1024x200 32) x).toNat < 100000) (b : Fin 1024) (s : Fin 200) (e : Fin 128) :
    (V3 m hm d (ref main_v18) : FVec F S1024x200x128 .f32) (ix3 b s e)
      = rowV (gbV (scaleShift (m (d, ref main_arg4)) (m (d, ref main_arg5))) 0) (gbV (scaleShift (m (d, ref main_arg4)) (m (d, ref main_arg5))) 1)
        (fun e => (m (d, ref main_arg1) : FVec F S100000x128 .f32) (ix2 ⟨((m (d, ref main_arg0) : IVec S1024x200 32) (ix2 b s)).toNat, hids _⟩ e))
        (fun e => posType (m (d, ref main_arg2)) (m (d, ref main_arg3))
          (ix2 ⟨(posIds (m (d, ref main_arg0)) (ix2 b s)).toNat, (posIds_le _ _).trans_lt (by decide)⟩ e)) e := by
  have e1 : V1 m d (ref main_arg1) = m (d, ref main_arg1) := pre_kept _ (by decide)
  have e15 : V1 m d (ref main_v15) = _ := pre_v15 _
  have e16 : V1 m d (ref main_v16) = _ := pre_v16 _
  have e11 : V1 m d (ref main_v11) = _ := pre_v11 _
  have e14 : V1 m d (ref main_v14) = _ := pre_v14 _
  unfold V3
  rw [post_v18]
  refine (unflat_apply _ b s e).trans ?_
  unfold V2
  rw [Function.update_self]
  show want (V1 m d (ref main_arg1)) (V1 m d (ref main_v15)) (V1 m d (ref main_v16)) (V1 m d (ref main_v11)) (V1 m d (ref main_v14))
    (ix2 (flat b s) e) = _
  rw [e1, e15, e16, e11, e14]
  unfold want
  have f15 := flat_apply (m (d, ref main_arg0) : IVec S1024x200 32) b s
  have f16 := flat_apply (posIds (m (d, ref main_arg0))) b s
  refine congr (congr (congrArg _ ?_) ?_) rfl
  · funext k
    refine congrArg (fun r => (m (d, ref main_arg1) : FVec F S100000x128 .f32) (ix2 r k)) (Fin.ext ?_)
    exact (congrArg (fun v : BitVec 32 => v.toNat % 100000) f15).trans (Nat.mod_eq_of_lt (hids _))
  · funext k
    refine congrArg (fun r => posType (m (d, ref main_arg2)) (m (d, ref main_arg3)) (ix2 r k)) (Fin.ext ?_)
    exact (congrArg (fun v : BitVec 32 => v.toNat % 512) f16).trans (Nat.mod_eq_of_lt ((posIds_le _ _).trans_lt (by decide)))

end Cert.Proof
-- ==== Proof.Lookup.lean ====
module

public import proofs.«01_k».proof.Proof.Gen.ReferenceIdeal.Run
public import Idealize.ShloMosaic.Lib.ReduceAll
public import Idealize.ShloMosaic.Lib.Affine
public import Idealize.ShloMosaic.Lib.ValueIdxCore
public import Idealize.ShloMosaic.Lib.Pipeline.Value
public import Idealize.ShloMosaic.Lib.StableHlo.Predicate

@[expose] public section

noncomputable section

namespace Cert.Proof

open Cert.ReferenceIdeal Cert.ReferenceIdeal.Gen
open Idealize.ShloMosaic Idealize.ShloMosaic.ValueIdx Idealize.ShloMosaic.StableHlo

variable {F : FTy → Type} [FloatOps F]

/-! ## A table's rows, looked up by the reference -/

/-- The dimensions of a lookup of whole rows of a table with `N` rows. -/
abbrev rowDims (N : Nat) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- The lookup reads the row that the index names, brought into the table. -/
theorem gather_rows {α : Type} {N : Nat} (hN : 0 < N)
    (wf : GatherDims.WF ⟨2, ![N, 128]⟩ S1024x200x1 S1024x200x128 [2] [0] [] [0] [] 2 ![1, 128])
    (x : (⟨2, ![N, 128]⟩ : Shape).Idx → α) (idx : IVec S1024x200x1 32) (b : Fin 1024) (s : Fin 200) (e : Fin 128) :
    Host.gather (rowDims N wf) x idx (ix3 b s e) = x (ix2 ⟨min (idx (ix3 b s (0 : Fin 1))).toInt.toNat (N - 1), by omega⟩ e) := by
  refine congrArg x (funext fun a => Fin.ext ?_)
  show (rowDims N wf).start (ix3 b s e) idx a + (rowDims N wf).batchCoord (ix3 b s e) a + (rowDims N wf).offCoord (ix3 b s e) a = _
  rw [GatherDims.batchCoord_eq_zero _ _ _ (List.not_mem_nil), Nat.add_zero]
  match a with
  | ⟨0, _⟩ =>
    have h0 : (0 : Fin 2) ∈ (rowDims N wf).startIndexMap := List.mem_singleton.mpr rfl
    have hsi : (rowDims N wf).siIdx (ix3 b s e) ⟨List.idxOf (0 : Fin 2) (rowDims N wf).startIndexMap, List.idxOf_lt_length_iff.2 h0⟩
        = ix3 b s (0 : Fin 1) := by
      funext k
      match k with
      | ⟨0, _⟩ => rfl
      | ⟨1, _⟩ => rfl
      | ⟨2, _⟩ => rfl
    have hs : (rowDims N wf).start (ix3 b s e) idx 0 = min (idx (ix3 b s (0 : Fin 1))).toInt.toNat (N - 1) := by
      unfold GatherDims.start
      rw [dif_pos h0, hsi]
      rfl
    have ho : (rowDims N wf).offCoord (ix3 b s e) 0 = 0 :=
      GatherDims.offCoord_eq_zero _ _ _ fun h => ((GatherDims.mem_sKept _ _).mp h).1 (List.mem_singleton.mpr rfl)
    show (rowDims N wf).start (ix3 b s e) idx 0 + (rowDims N wf).offCoord (ix3 b s e) 0 = _
    rw [hs, ho]; rfl
  | ⟨1, _⟩ =>
    have hs : (rowDims N wf).start (ix3 b s e) idx 1 = 0 := by
      unfold GatherDims.start
      rw [dif_neg fun h => by simp at h]
    have ho : (rowDims N wf).offCoord (ix3 b s e) 1 = e.val := by
      unfold GatherDims.offCoord
      rw [dif_pos ((GatherDims.mem_sKept _ _).mpr ⟨fun h => by simp at h, List.not_mem_nil⟩)]
      rfl
    show (rowDims N wf).start (ix3 b s e) idx 1 + (rowDims N wf).offCoord (ix3 b s e) 1 = _
    rw [hs, ho, Nat.zero_add]

/-- The ids, a negative one counted from the table's end. -/
def wrapped (n : BitVec 32) (ids : IVec S1024x200 32) : IVec S1024x200x1 32 :=
  broadcastInDim S1024x200x1 ![0, 1] bcast_S1024x200_S1024x200x1_0_1
    (select (cmpi .slt ids (broadcastInDim S1024x200 ![] bcast_S_S1024x200 (constantI S_ 32 0#32)))
      (addi ids (broadcastInDim S1024x200 ![] bcast_S_S1024x200 (constantI S_ 32 n))) ids)

/-- One where the wrapped id names a row. -/
def inTable (n l : BitVec 32) (ids : IVec S1024x200 32) : IVec S1024x200 1 :=
  Host.reduce IntOp.andi
    (andi (cmpi .sge (wrapped n ids) (broadcastInDim S1024x200x1 ![] bcast_S_S1024x200x1 (constantI S_ 32 0#32)))
      (cmpi .sle (wrapped n ids) (broadcastInDim S1024x200x1 ![0, 1, 2] bcast_S1x1x1_S1024x200x1_0_1_2
        (broadcastInDim S1x1x1 ![2] bcast_S1_S1x1x1_2 (constantI S1 32 l)))))
    (constantI S_ 1 1#1) reducesTo_S1024x200x1_S1024x200_d2 h_S_

/-- The rows of a table of `n` rows, `l` the last, at the ids. -/
def lookup {N : Nat} (wf : GatherDims.WF ⟨2, ![N, 128]⟩ S1024x200x1 S1024x200x128 [2] [0] [] [0] [] 2 ![1, 128]) (n l : BitVec 32)
    (table : FVec F ⟨2, ![N, 128]⟩ .f32) (ids : IVec S1024x200 32) : FVec F S1024x200x128 .f32 :=
  select (broadcastInDim S1024x200x128 ![0, 1] bcast_S1024x200_S1024x200x128_0_1 (inTable n l ids))
    (Host.gather (rowDims N wf) table (wrapped n ids))
    (broadcastInDim S1024x200x128 ![] bcast_S_S1024x200x128 (constant S_ .f32 0x7FC00000#32))

theorem toInt_eq {x : BitVec 32} {N : Nat} (hx : x.toNat < N) (hN : N ≤ 2 ^ 31) : x.toInt = x.toNat := by
  rw [BitVec.toInt_eq_toNat_cond, if_pos (by omega)]

section
variable {N : Nat} (n : BitVec 32) (ids : IVec S1024x200 32) (hN : N ≤ 2 ^ 31) (hids : ∀ x, (ids x).toNat < N)
include hN hids

theorem unwrapped (x : S1024x200.Idx) :
    select (cmpi .slt ids (broadcastInDim S1024x200 ![] bcast_S_S1024x200 (constantI S_ 32 0#32)))
      (addi ids (broadcastInDim S1024x200 ![] bcast_S_S1024x200 (constantI S_ 32 n))) ids x = ids x := by
  refine if_neg fun h => ?_
  have h := IntOp.cmpi_slt.1 h
  rw [toInt_eq (hids x) hN] at h
  have h : ((ids x).toNat : Int) < (0#32 : BitVec 32).toInt := h
  simp at h
  omega

theorem wrapped_apply (b : Fin 1024) (s : Fin 200) : wrapped n ids (ix3 b s (0 : Fin 1)) = ids (ix2 b s) :=
  (broadcastInDim_apply _ _ _ _ (ix2 b s) fun a => by
    match a with
    | ⟨0, _⟩ => rfl
    | ⟨1, _⟩ => rfl).trans (unwrapped n ids hN hids _)

theorem inTable_eq (l : BitVec 32) (hl : l.toNat + 1 = N) (x : S1024x200.Idx) : inTable n l ids x = 1#1 := by
  refine Host.reduce_andi_one _ _ _ _ _ rfl fun i => ?_
  have hi : i = ix3 (n0 := 1024) (n1 := 200) (n2 := 1) (i 0) (i 1) (0 : Fin 1) := by
    rw [eq_ix3 i]; exact congrArg (ix3 (i 0) (i 1)) (Fin.ext (by have h : (i 2).val < 1 := (i 2).isLt; show (i 2).val = 0; omega))
  have hw : wrapped n ids i = ids (ix2 (n0 := 1024) (n1 := 200) (i 0) (i 1)) := by
    rw [hi]; exact wrapped_apply n ids hN hids _ _
  have hb := hids (ix2 (n0 := 1024) (n1 := 200) (i 0) (i 1))
  refine IntOp.andi_eq_one.2 ⟨IntOp.cmpi_sge.2 ?_, IntOp.cmpi_sle.2 ?_⟩
  · rw [hw, toInt_eq hb hN]
    show (0#32 : BitVec 32).toInt ≤ _
    simp
  · rw [hw, toInt_eq hb hN]
    show _ ≤ l.toInt
    rw [toInt_eq (x := l) (N := N) (by omega) hN]; omega

/-- Where the ids name rows of the table, the lookup reads those rows. -/
theorem lookup_apply (wf : GatherDims.WF ⟨2, ![N, 128]⟩ S1024x200x1 S1024x200x128 [2] [0] [] [0] [] 2 ![1, 128])
    (l : BitVec 32) (hl : l.toNat + 1 = N) (table : FVec F ⟨2, ![N, 128]⟩ .f32) (b : Fin 1024) (s : Fin 200) (e : Fin 128) :
    lookup wf n l table ids (ix3 b s e) = table (ix2 ⟨(ids (ix2 b s)).toNat, hids _⟩ e) := by
  have hc : broadcastInDim S1024x200x128 ![0, 1] bcast_S1024x200_S1024x200x128_0_1 (inTable n l ids) (ix3 b s e) = 1#1 :=
    (broadcastInDim_apply _ _ _ _ (ix2 b s) fun a => by
      match a with
      | ⟨0, _⟩ => rfl
      | ⟨1, _⟩ => rfl).trans (inTable_eq n ids hN hids l hl _)
  unfold lookup select Scalar.select
  rw [hc, if_pos (show (1#1 : BitVec 1) = 1 from rfl), gather_rows (by omega)]
  refine congrArg (fun r => table (ix2 r e)) (Fin.ext ?_)
  have hb := hids (ix2 b s)
  show min (wrapped n ids (ix3 b s (0 : Fin 1))).toInt.toNat (N - 1) = _
  rw [wrapped_apply n ids hN hids, toInt_eq hb hN]
  show min ((ids (ix2 b s)).toNat : Int).toNat (N - 1) = (ids (ix2 b s)).toNat
  omega

end

end Cert.Proof
-- ==== Proof.Alg.lean ====
module

public import proofs.«01_k».proof.Proof.Spec
public import Idealize.ShloMosaic.Lib.IdealHost
public import Idealize.ShloMosaic.PureOps.Ideal.Laws

@[expose] public section

noncomputable section

namespace Cert.Proof

open Cert.KernelIdeal Cert.KernelIdeal.Gen
open Idealize.ShloMosaic Idealize.ShloMosaic.ValueIdx

/-! ## A row's normalization over the real numbers -/

/-- The mean of a row. -/
def mean (x : Fin 128 → ℝ) : ℝ := (∑ k, x k) / 128

/-- The constant under the root. -/
def eps : ℝ := 9223372 / 2 ^ 63

/-- The variance of a row plus the constant under the root. -/
def varEps (x : Fin 128 → ℝ) : ℝ := (∑ k, (x k - mean x) * (x k - mean x)) / 128 + eps

theorem eps_pos : 0 < eps := by unfold eps; positivity

theorem varEps_pos (x : Fin 128 → ℝ) : 0 < varEps x :=
  add_pos_of_nonneg_of_pos (div_nonneg (Finset.sum_nonneg fun _ _ => mul_self_nonneg _) (by norm_num)) eps_pos

/-- The mean of the squares less the square of the mean is the variance. -/
theorem var_eq (x : Fin 128 → ℝ) :
    (∑ k, x k * x k) * (1 / 128) - (∑ k, x k) * (1 / 128) * ((∑ k, x k) * (1 / 128)) + eps = varEps x := by
  have h : ∑ k, (x k - mean x) * (x k - mean x) = ∑ k, x k * x k - 2 * mean x * ∑ k, x k + 128 * (mean x * mean x) := by
    have e : ∀ k, (x k - mean x) * (x k - mean x) = x k * x k - 2 * mean x * x k + mean x * mean x := fun k => by ring
    simp only [e, Finset.sum_add_distrib, Finset.sum_sub_distrib, ← Finset.mul_sum, Finset.sum_const, Finset.card_univ, Fintype.card_fin,
      nsmul_eq_mul]
    norm_num; ring
  unfold varEps
  rw [h]; unfold mean; ring

/-- A Newton step leaves the reciprocal of the root where it is. -/
theorem newton_fix {v : ℝ} (hv : 0 < v) :
    (Real.sqrt v)⁻¹ * (3 / 2 - 1 / 2 * v * (Real.sqrt v)⁻¹ * (Real.sqrt v)⁻¹) = (Real.sqrt v)⁻¹ := by
  have hs : Real.sqrt v ≠ 0 := (Real.sqrt_pos.2 hv).ne'
  have e : v * (Real.sqrt v)⁻¹ * (Real.sqrt v)⁻¹ = 1 := by
    nth_rewrite 1 [← Real.mul_self_sqrt hv.le]; field_simp
  have e' : (1 : ℝ) / 2 * v * (Real.sqrt v)⁻¹ * (Real.sqrt v)⁻¹ = 1 / 2 := by
    rw [show (1 : ℝ) / 2 * v * (Real.sqrt v)⁻¹ * (Real.sqrt v)⁻¹ = 1 / 2 * (v * (Real.sqrt v)⁻¹ * (Real.sqrt v)⁻¹) by ring, e, mul_one]
  rw [e']; ring

/-- A row's normalized entry, before it is scaled and shifted. -/
def normal (x : Fin 128 → ℝ) (e : Fin 128) : ℝ := (x e - mean x) * (Real.sqrt (varEps x))⁻¹

/-! ## The constants -/

theorem cst1_inv128 : (cst1 0x3C000000#32 : Ideal .f32) = ((1 / 128 : ℝ) : EReal) := by
  show Ideal.ieee 8 23 (0x3C000000#32 : BitVec 32) = _
  simp [Ideal.ieee, -EReal.coe_mul]; norm_num
theorem cst1_eps : (cst1 0x2B8CBCCC#32 : Ideal .f32) = ((eps : ℝ) : EReal) := by
  show Ideal.ieee 8 23 (0x2B8CBCCC#32 : BitVec 32) = _
  simp [Ideal.ieee, eps, -EReal.coe_mul]; norm_num
theorem cst1_three_halves : (cst1 0x3FC00000#32 : Ideal .f32) = ((3 / 2 : ℝ) : EReal) := by
  show Ideal.ieee 8 23 (0x3FC00000#32 : BitVec 32) = _
  simp [Ideal.ieee, -EReal.coe_mul]; norm_num
theorem cst1_half : (cst1 0x3F000000#32 : Ideal .f32) = ((1 / 2 : ℝ) : EReal) := by
  show Ideal.ieee 8 23 (0x3F000000#32 : BitVec 32) = _
  simp [Ideal.ieee, -EReal.coe_mul]; norm_num
theorem cst1_128 : (cst1 0x43000000#32 : Ideal .f32) = ((128 : ℝ) : EReal) := by
  show Ideal.ieee 8 23 (0x43000000#32 : BitVec 32) = _
  simp [Ideal.ieee, -EReal.coe_mul]; norm_num

/-! ## The kernel's sums -/

/-- The sum of the lanes. -/
theorem total_eq (v : FVec Ideal S16 .f32) : total v = ∑ l : Fin 16, v (ix1 l) := by
  unfold total
  rw [lane_eq 0 (by decide), lane_eq 1 (by decide), lane_eq 2 (by decide), lane_eq 3 (by decide), lane_eq 4 (by decide), lane_eq 5 (by decide),
    lane_eq 6 (by decide), lane_eq 7 (by decide), lane_eq 8 (by decide), lane_eq 9 (by decide), lane_eq 10 (by decide), lane_eq 11 (by decide),
    lane_eq 12 (by decide), lane_eq 13 (by decide), lane_eq 14 (by decide), lane_eq 15 (by decide)]
  simp only [Fin.sum_univ_castSucc, Finset.univ_eq_empty, Finset.sum_empty, zero_add]
  rfl

theorem sumV_eq (x : Fin 8 → FVec Ideal S16 .f32) (i : S16.Idx) : sumV x i = ∑ j, x j i := by
  rw [Fin.sum_univ_eight]
  show (Ideal.ofBits .f32 0x00000000#32 : EReal) + x 0 i + x 1 i + x 2 i + x 3 i + x 4 i + x 5 i + x 6 i + x 7 i = _
  rw [Ideal.ofBits_zero_f32, zero_add]

theorem sqV_eq (x : Fin 8 → FVec Ideal S16 .f32) : sqV x = sumV fun j i => FloatOps.mulf (x j i) (x j i) := rfl

/-- The sum over slices and lanes is the sum over the row. -/
theorem total_sumV (f : Fin 128 → EReal) (x : Fin 8 → FVec Ideal S16 .f32)
    (hx : ∀ (j : Fin 8) (l : Fin 16), x j (ix1 l) = f ⟨16 * j.val + l.val, by omega⟩) : total (sumV x) = ∑ e, f e := by
  rw [total_eq]
  simp only [sumV_eq, hx]
  rw [Finset.sum_comm, ← Fintype.sum_prod_type' (f := fun (j : Fin 8) (l : Fin 16) => f ⟨16 * j.val + l.val, by omega⟩)]
  refine Fintype.sum_equiv (finProdFinEquiv (m := 8) (n := 16)) _ _ fun z => congrArg f (Fin.ext ?_)
  show _ = z.2.val + 16 * z.1.val
  exact Nat.add_comm _ _

/-! ## The kernel's row -/

theorem coe_sum (f : Fin 128 → ℝ) : ∑ e, ((f e : ℝ) : EReal) = ((∑ e, f e : ℝ) : EReal) :=
  (map_sum (⟨⟨fun r : ℝ => (r : EReal), EReal.coe_zero⟩, EReal.coe_add⟩ : ℝ →+ EReal) f Finset.univ).symm

theorem newton1_coe {v : ℝ} (hv : 0 < v) :
    newton1 (F := Ideal) ((v : ℝ) : EReal) (((Real.sqrt v)⁻¹ : ℝ) : EReal) = (((Real.sqrt v)⁻¹ : ℝ) : EReal) := by
  show (((Real.sqrt v)⁻¹ : ℝ) : EReal) * ((cst1 0x3FC00000#32 : Ideal .f32)
    - (cst1 0x3F000000#32 : Ideal .f32) * ((v : ℝ) : EReal) * (((Real.sqrt v)⁻¹ : ℝ) : EReal) * (((Real.sqrt v)⁻¹ : ℝ) : EReal)) = _
  rw [cst1_three_halves, cst1_half, ← EReal.coe_mul, ← EReal.coe_mul, ← EReal.coe_mul, ← EReal.coe_sub, ← EReal.coe_mul, newton_fix hv]

section
variable (w p : Fin 128 → Ideal .f32) (x : Fin 128 → ℝ) (hx : ∀ e, (w e : EReal) + p e = ((x e : ℝ) : EReal))
include hx

theorem tokX_coe (j : Fin 8) (l : Fin 16) : tokX w p j (ix1 l) = ((x ⟨16 * j.val + l.val, by omega⟩ : ℝ) : EReal) := hx _

theorem mean1_coe : mean1 (total (sumV (tokX w p))) = ((mean x : ℝ) : EReal) := by
  rw [total_sumV (fun e => ((x e : ℝ) : EReal)) _ (tokX_coe w p x hx), coe_sum]
  show ((∑ e, x e : ℝ) : EReal) * (cst1 0x3C000000#32 : Ideal .f32) = _
  rw [cst1_inv128, ← EReal.coe_mul, mean, mul_one_div]

theorem var1_coe : var1 (total (sumV (tokX w p))) (total (sqV (tokX w p))) = ((varEps x : ℝ) : EReal) := by
  unfold var1
  rw [mean1_coe w p x hx, sqV_eq, total_sumV (fun e => ((x e * x e : ℝ) : EReal)) _ fun j l => by
    rw [tokX_coe w p x hx, EReal.coe_mul]; rfl, coe_sum, ← var_eq]
  show ((∑ e, x e * x e : ℝ) : EReal) * (cst1 0x3C000000#32 : Ideal .f32) - ((mean x : ℝ) : EReal) * ((mean x : ℝ) : EReal)
    + (cst1 0x2B8CBCCC#32 : Ideal .f32) = _
  rw [cst1_inv128, cst1_eps, ← EReal.coe_mul, ← EReal.coe_mul, ← EReal.coe_sub, ← EReal.coe_add, mean, mul_one_div, mul_one_div]

theorem tokY_coe : tokY (tokX w p) = (((Real.sqrt (varEps x))⁻¹ : ℝ) : EReal) := by
  have hv := varEps_pos x
  unfold tokY rstd1
  rw [var1_coe w p x hx]
  have e : FloatOps.rsqrt (F := Ideal) (φ := .f32) ((varEps x : ℝ) : EReal) = (((Real.sqrt (varEps x))⁻¹ : ℝ) : EReal) := by
    show (if varEps x < 0 then ⊥ else if varEps x = 0 then ⊤ else (((Real.sqrt (varEps x))⁻¹ : ℝ) : EReal)) = _
    rw [if_neg hv.le.not_gt, if_neg hv.ne']
  rw [e, newton1_coe hv, newton1_coe hv]

/-- The kernel's row: each entry less the mean, over the root of the variance, scaled and shifted. -/
theorem rowV_coe (gam bet : Fin 8 → FVec Ideal S16 .f32) (e : Fin 128) : rowV gam bet w p e
    = (((normal x e : ℝ) : EReal) * gam ⟨e.val / 16, by omega⟩ (ix1 (⟨e.val % 16, by omega⟩ : Fin 16))
      + bet ⟨e.val / 16, by omega⟩ (ix1 (⟨e.val % 16, by omega⟩ : Fin 16)) : EReal) := by
  show ((tokX w p ⟨e.val / 16, _⟩ (ix1 (⟨e.val % 16, _⟩ : Fin 16)) : EReal) * tokY (tokX w p)
    - mean1 (total (sumV (tokX w p))) * tokY (tokX w p)) * _ + _ = _
  have he : (⟨16 * (e.val / 16) + e.val % 16, by omega⟩ : Fin 128) = e := Fin.ext (by show 16 * (e.val / 16) + e.val % 16 = e.val; omega)
  rw [tokX_coe w p x hx, tokY_coe w p x hx, mean1_coe w p x hx, ← EReal.coe_mul, ← EReal.coe_mul, ← EReal.coe_sub]
  simp only [he]
  rw [normal, sub_mul]

end

end Cert.Proof
-- ==== Proof.NormRef.lean ====
module

public import proofs.«01_k».proof.Proof.Alg
public import proofs.«01_k».proof.Proof.Gen.ReferenceIdeal.Run
public import Idealize.ShloMosaic.Lib.IdealHost
public import Idealize.ShloMosaic.Lib.Pipeline.Value

@[expose] public section

noncomputable section

namespace Cert.Proof

open Cert.ReferenceIdeal Cert.ReferenceIdeal.Gen
open Idealize.ShloMosaic Idealize.ShloMosaic.ValueIdx

/-! ## The reference's normalization -/

section
variable {F : FTy → Type} [FloatOps F]

/-- The means of the rows. -/
def rowMean (x : FVec F S1024x200x128 .f32) : FVec F S1024x200x1 .f32 :=
  Host.divf (broadcastInDim S1024x200x1 ![0, 1] bcast_S1024x200_S1024x200x1_0_1
      (Host.reduceAdd x (constant S_ .f32 0x00000000#32) reducesTo_S1024x200x128_S1024x200_d2 h_S_))
    (broadcastInDim S1024x200x1 ![] bcast_S_S1024x200x1 (constant S_ .f32 0x43000000#32))

/-- The rows less their means. -/
def centred (x : FVec F S1024x200x128 .f32) : FVec F S1024x200x128 .f32 :=
  subf x (broadcastInDim S1024x200x128 ![0, 1, 2] bcast_S1024x200x1_S1024x200x128_0_1_2 (rowMean x))

/-- The roots of the rows' variances. -/
def rowRoot (x : FVec F S1024x200x128 .f32) : FVec F S1024x200x1 .f32 :=
  Host.sqrt (addf (rowMean (mulf (centred x) (centred x)))
    (broadcastInDim S1024x200x1 ![] bcast_S_S1024x200x1 (constant S_ .f32 0x2B8CBCCC#32)))

/-- The rows normalized, scaled and shifted. -/
def layerNorm (x : FVec F S1024x200x128 .f32) (g b : FVec F S128 .f32) : FVec F S1024x200x128 .f32 :=
  addf (mulf (Host.divf (centred x) (broadcastInDim S1024x200x128 ![0, 1, 2] bcast_S1024x200x1_S1024x200x128_0_1_2 (rowRoot x)))
      (broadcastInDim S1024x200x128 ![0, 1, 2] bcast_S1x1x128_S1024x200x128_0_1_2 (broadcastInDim S1x1x128 ![2] bcast_S128_S1x1x128_2 g)))
    (broadcastInDim S1024x200x128 ![0, 1, 2] bcast_S1x1x128_S1024x200x128_0_1_2 (broadcastInDim S1x1x128 ![2] bcast_S128_S1x1x128_2 b))

/-- One number of each row, as an array of the rows' shape reads it. -/
theorem perRow_apply (v : FVec F S1024x200x1 .f32) (b : Fin 1024) (s : Fin 200) (e : Fin 128) :
    broadcastInDim S1024x200x128 ![0, 1, 2] bcast_S1024x200x1_S1024x200x128_0_1_2 v (ix3 b s e) = v (ix3 b s (0 : Fin 1)) :=
  broadcastInDim_apply _ _ _ _ _ fun a => by
    match a with
    | ⟨0, _⟩ => rfl
    | ⟨1, _⟩ => rfl
    | ⟨2, _⟩ => rfl

/-- One number of each column, as an array of the rows' shape reads it. -/
theorem perCol_apply (v : FVec F S128 .f32) (b : Fin 1024) (s : Fin 200) (e : Fin 128) :
    broadcastInDim S1024x200x128 ![0, 1, 2] bcast_S1x1x128_S1024x200x128_0_1_2 (broadcastInDim S1x1x128 ![2] bcast_S128_S1x1x128_2 v)
      (ix3 b s e) = v (ix1 e) :=
  (broadcastInDim_apply _ _ _ _ (ix3 (0 : Fin 1) (0 : Fin 1) e) fun a => by
    match a with
    | ⟨0, _⟩ => rfl
    | ⟨1, _⟩ => rfl
    | ⟨2, _⟩ => rfl).trans
  (broadcastInDim_apply _ _ _ _ (ix1 e) fun a => by
    match a with
    | ⟨0, _⟩ => rfl)

end

theorem div_coe_pos (r : ℝ) {s : ℝ} (hs : 0 < s) : Ideal.div (r : EReal) (s : EReal) = ((r * s⁻¹ : ℝ) : EReal) := by
  unfold Ideal.div
  rw [if_neg (by simpa using hs.ne'), ← EReal.coe_inv, ← EReal.coe_mul]

section
variable (x : FVec Ideal S1024x200x128 .f32) (b : Fin 1024) (s : Fin 200) (r : Fin 128 → ℝ)

/-- The mean of a row of real numbers. -/
theorem rowMean_coe (h : ∀ e, x (ix3 b s e) = ((r e : ℝ) : EReal)) :
    rowMean x (ix3 b s (0 : Fin 1)) = (((∑ e, r e) / 128 : ℝ) : EReal) := by
  have h1 : broadcastInDim S1024x200x1 ![0, 1] bcast_S1024x200_S1024x200x1_0_1
      (Host.reduceAdd x (constant S_ .f32 0x00000000#32) reducesTo_S1024x200x128_S1024x200_d2 h_S_) (ix3 b s (0 : Fin 1))
      = ((∑ e, r e : ℝ) : EReal) := by
    refine (broadcastInDim_apply _ _ _ _ (ix2 b s) fun a => by
      match a with
      | ⟨0, _⟩ => rfl
      | ⟨1, _⟩ => rfl).trans ?_
    rw [hostReduceAdd_apply, Ideal.hostReduceAdd_single (a := 2) _ (by decide)]
    show (Ideal.ofBits .f32 0x00000000#32 : EReal) + _ = _
    rw [Ideal.ofBits_zero_f32, zero_add, ← coe_sum]
    refine Finset.sum_congr rfl fun e _ => ?_
    rw [← h e]
    refine congrArg x (funext fun a => Fin.ext ?_)
    match a with
    | ⟨0, _⟩ => rfl
    | ⟨1, _⟩ => rfl
    | ⟨2, _⟩ => rfl
  unfold rowMean
  rw [hostDivf_apply, h1]
  show Ideal.div _ (cst1 0x43000000#32 : Ideal .f32) = _
  rw [cst1_128, div_coe_pos _ (by norm_num), div_eq_mul_inv]

variable (h : ∀ e, x (ix3 b s e) = ((r e : ℝ) : EReal))
include h

theorem centred_coe (e : Fin 128) : centred x (ix3 b s e) = ((r e - mean r : ℝ) : EReal) := by
  show (x (ix3 b s e) : EReal) - _ = _
  rw [perRow_apply, rowMean_coe x b s r h, h e, ← EReal.coe_sub]; rfl

theorem rowRoot_coe : rowRoot x (ix3 b s (0 : Fin 1)) = ((Real.sqrt (varEps r) : ℝ) : EReal) := by
  show Ideal.sqrt ((rowMean (mulf (centred x) (centred x)) (ix3 b s (0 : Fin 1)) : EReal) + (cst1 0x2B8CBCCC#32 : Ideal .f32)) = _
  rw [rowMean_coe _ b s (fun e => (r e - mean r) * (r e - mean r)) fun e => by
    show (centred x (ix3 b s e) : EReal) * centred x (ix3 b s e) = _
    rw [centred_coe x b s r h, ← EReal.coe_mul], cst1_eps, ← EReal.coe_add]
  show (if varEps r < 0 then ⊥ else ((Real.sqrt (varEps r) : ℝ) : EReal)) = _
  rw [if_neg (varEps_pos r).le.not_gt]

/-- The reference's row: each entry less the mean, over the root of the variance, scaled and shifted. -/
theorem layerNorm_coe (g bt : FVec Ideal S128 .f32) (e : Fin 128) :
    layerNorm x g bt (ix3 b s e) = (((normal r e : ℝ) : EReal) * g (ix1 e) + bt (ix1 e) : EReal) := by
  show (Ideal.div (centred x (ix3 b s e)) _ * _ + _ : EReal) = _
  rw [perCol_apply, perCol_apply, perRow_apply, centred_coe x b s r h, rowRoot_coe x b s r h,
    div_coe_pos _ (Real.sqrt_pos.2 (varEps_pos r))]
  rfl

end

end Cert.Proof
-- ==== Proof.RefValue.lean ====
module

public import proofs.«01_k».proof.Proof.Lookup
public import proofs.«01_k».proof.Proof.NormRef
public import proofs.«01_k».proof.Proof.Range

@[expose] public section

noncomputable section

namespace Cert.Proof

open Cert.ReferenceIdeal Cert.ReferenceIdeal.Gen
open Idealize.ShloMosaic Idealize.ShloMosaic.ValueIdx

/-! ## What the reference computes -/

section
variable {F : FTy → Type} [FloatOps F]

/-- The type ids: all the first. -/
def typeIds : IVec S1024x200 32 := broadcastInDim S1024x200 ![] bcast_S_S1024x200 (constantI S_ 32 0#32)

/-- The sum of the three tables' rows. -/
def embedded (ids : IVec S1024x200 32) (word : FVec F S100000x128 .f32) (typ : FVec F S2x128 .f32) (pos : FVec F S512x128 .f32) :
    FVec F S1024x200x128 .f32 :=
  addf (addf
      (lookup (N := 100000) gather_S100000x128_S1024x200x1_S1024x200x128_2_0_n_n_0_2_1128_wf 100000#32 99999#32 word ids)
      (lookup (N := 2) gather_S2x128_S1024x200x1_S1024x200x128_2_0_n_n_0_2_1128_wf 2#32 1#32 typ typeIds))
    (lookup (N := 512) gather_S512x128_S1024x200x1_S1024x200x128_2_0_n_n_0_2_1128_wf 512#32 511#32 pos (posIds ids))

set_option maxRecDepth 8192 in
/-- The reference's result is the normalized sum of the three tables' rows. -/
theorem reference_eq (m : (ℓ : Loc nD τ sig) → Buf (Elt F) ℓ) (c : Dev nD) :
    Value.res_main_v36 m c
      = layerNorm (embedded (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg4)) (m ((c.tc : Thread nD τ).loc main_arg5)) := by
  unfold Value.res_main_v36
  rfl

end

section
variable {F : FTy → Type} [FloatOps F]

/-- An entry of the sum. -/
theorem embedded_apply (ids : IVec S1024x200 32) (hids : ∀ x, (ids x).toNat < 100000) (word : FVec F S100000x128 .f32)
    (typ : FVec F S2x128 .f32) (pos : FVec F S512x128 .f32) (b : Fin 1024) (s : Fin 200) (e : Fin 128) :
    embedded ids word typ pos (ix3 b s e)
      = FloatOps.addf (FloatOps.addf (word (ix2 ⟨(ids (ix2 b s)).toNat, hids _⟩ e)) (typ (ix2 (0 : Fin 2) e)))
          (pos (ix2 ⟨(posIds ids (ix2 b s)).toNat, (posIds_le ids _).trans_lt (by decide)⟩ e)) := by
  show FloatOps.addf (FloatOps.addf (lookup _ _ _ _ _ _) (lookup _ _ _ _ _ _)) (lookup _ _ _ _ _ _) = _
  rw [lookup_apply (N := 100000) _ ids (by decide) hids _ _ rfl, lookup_apply (N := 2) _ typeIds (by decide) (fun _ => by show (0#32 : BitVec 32).toNat < 2; decide) _ _ rfl,
    lookup_apply (N := 512) _ (posIds ids) (by decide) (fun x => (posIds_le ids x).trans_lt (by decide)) _ _ rfl]
  rfl

end

end Cert.Proof
-- ==== Proof.Value.lean ====
module

public import proofs.«01_k».proof.Proof.KerValue
public import proofs.«01_k».proof.Proof.RefValue
public import proofs.«01_k».proof.Defs
public import proofs.«01_k».proof.Proof.Gen.KernelIdeal
public import proofs.«01_k».proof.Proof.Gen.Pre_inputs_ok

@[expose] public section

noncomputable section

namespace Cert.Proof

open Idealize.ShloMosaic Idealize.ShloMosaic.ValueIdx Idealize.SL.Sem

/-! ## The kernel's result is the reference's -/

/-- An extended real whose absolute value is below infinity is a real number. -/
theorem real_of_lt {x : EReal} (h : FloatOps.cmpf (F := Ideal) (φ := .f32) .olt (FloatOps.absf (F := Ideal) (φ := .f32) x)
    (Scalar.ofBits .f32 0x7F800000#32 : Ideal .f32) = 1#1) : ∃ r : ℝ, x = (r : EReal) := by
  rw [Ideal.cmpf_def] at h
  have ht : (Scalar.ofBits .f32 0x7F800000#32 : Ideal .f32) = (⊤ : EReal) := by
    show Ideal.ieee 8 23 (0x7F800000#32 : BitVec 32) = _
    simp [Ideal.ieee]
  rw [ht] at h
  have hl : max x (-x) < ⊤ := by
    by_contra hn
    simp [Ideal.cmp, FloatOps.absf, hn] at h
  induction x with
  | bot => simp at hl
  | top => simp at hl
  | coe r => exact ⟨r, rfl⟩

/-- A row of the two tables that is given by real numbers. -/
theorem rows_real {ids : IVec Cert.KernelIdeal.S1024x200 32} {word : FVec Ideal Cert.KernelIdeal.S100000x128 .f32}
    {typ : FVec Ideal Cert.KernelIdeal.S2x128 .f32} {pos : FVec Ideal Cert.KernelIdeal.S512x128 .f32} {g b : FVec Ideal Cert.KernelIdeal.S128 .f32}
    (h : Cert.Pre_inputs_ok.fn (F := Ideal) ids word typ pos g b = fun _ => 1#1) (i : Fin 100000) (j : Fin 512) :
    ∃ r : Fin 128 → ℝ, (∀ e, (word (ix2 i e) : EReal) + posType typ pos (ix2 j e) = ((r e : ℝ) : EReal))
      ∧ ∀ e, (word (ix2 i e) + typ (ix2 (0 : Fin 2) e) + pos (ix2 j e) : EReal) = ((r e : ℝ) : EReal) := by
  obtain ⟨-, hw, ht, hp⟩ := pre_parts h
  choose w hw using fun e => real_of_lt (hw (ix2 i e))
  choose t ht using fun e => real_of_lt (ht (ix2 (0 : Fin 2) e))
  choose p hp using fun e => real_of_lt (hp (ix2 j e))
  refine ⟨fun e => w e + t e + p e, fun e => ?_, fun e => ?_⟩
  · rw [posType_apply]
    show (word (ix2 i e) : EReal) + ((pos (ix2 j e) : EReal) + typ (ix2 (0 : Fin 2) e)) = _
    rw [hw, hp, ht, ← EReal.coe_add, ← EReal.coe_add, add_comm (p e), ← add_assoc]
  · rw [hw, hp, ht, ← EReal.coe_add, ← EReal.coe_add]

open Cert.KernelIdeal in
/-- Where the tables are finite and the ids in range, the kernel's result is the reference's. -/
theorem value_eq (m : (ℓ : Loc nD τ sig) → Buf (Elt Ideal) ℓ) (hm : InRange m) (d : Dev nD)
    (h : Cert.Pre_inputs_ok.fn (F := Ideal) (m (d, ref main_arg0)) (m (d, ref main_arg1)) (m (d, ref main_arg2)) (m (d, ref main_arg3))
      (m (d, ref main_arg4)) (m (d, ref main_arg5)) = fun _ => 1#1) :
    (V3 m hm d (ref main_v18) : FVec Ideal S1024x200x128 .f32)
      = layerNorm (F := Ideal) (embedded (F := Ideal) (m (d, ref main_arg0)) (m (d, ref main_arg1)) (m (d, ref main_arg2)) (m (d, ref main_arg3)))
        (m (d, ref main_arg4)) (m (d, ref main_arg5)) := by
  funext x
  obtain ⟨b, s, e, rfl⟩ : ∃ b s e, x = ix3 b s e := ⟨_, _, _, eq_ix3 x⟩
  have hids := pre_ids h
  obtain ⟨r, hk, hr⟩ := rows_real h ⟨((m (d, ref main_arg0) : IVec S1024x200 32) (ix2 b s)).toNat, hids _⟩
    ⟨(posIds (m (d, ref main_arg0)) (ix2 b s)).toNat, (posIds_le _ _).trans_lt (by decide)⟩
  refine (result_apply m hm d hids b s e).trans ?_
  refine (rowV_coe _ _ r hk _ _ e).trans ?_
  refine Eq.trans ?_ (layerNorm_coe _ b s r (fun e => (embedded_apply _ hids _ _ _ b s e).trans (hr e)) _ _ e).symm
  have ee : (⟨16 * (e.val / 16) + e.val % 16, by omega⟩ : Fin 128) = e := Fin.ext (Nat.div_add_mod _ _)
  have h0 := scaleShift_0 (F := Ideal) (m (d, ref main_arg4)) (m (d, ref main_arg5)) e
  have h1 := scaleShift_1 (F := Ideal) (m (d, ref main_arg4)) (m (d, ref main_arg5)) e
  refine congr (congrArg _ (congrArg _ ?_)) ?_
  · refine Eq.trans ?_ h0
    exact congrArg (fun k => scaleShift (F := Ideal) (m (d, ref main_arg4)) (m (d, ref main_arg5)) (ix2 (0 : Fin 2) k)) ee
  · refine Eq.trans ?_ h1
    exact congrArg (fun k => scaleShift (F := Ideal) (m (d, ref main_arg4)) (m (d, ref main_arg5)) (ix2 (1 : Fin 2) k)) ee

/-- The kernel's frame where the value is claimed: there too the ids are in range. -/
theorem frame_kernelIdeal_pre : Cert.quiescent_KernelIdeal_pre_inputs_ok := fun m ρ h =>
  run_frame m ρ (inRange m fun d x => pre_ids (h d) x)

/-- On equal arguments, the kernel and the reference end with equal results. -/
theorem algebraic : Cert.algebraic_KernelIdeal_ReferenceIdeal_pre_inputs_ok := fun m ρ m' ρ' h hagree => by
  have hm : InRange m := inRange m fun d x => pre_ids (h d) x
  refine ⟨fun c => V3 m hm c (ref Cert.KernelIdeal.main_v18), ?_, ?_⟩
  · exact (θ_run Cert.KernelIdeal.defs _ _).mono (fun r hr c => ⟨hr.1 c _,
      (hr.1 c _).trans (V3_arg m hm c (by decide) (by decide) (by decide)),
      (hr.1 c _).trans (V3_arg m hm c (by decide) (by decide) (by decide)),
      (hr.1 c _).trans (V3_arg m hm c (by decide) (by decide) (by decide)),
      (hr.1 c _).trans (V3_arg m hm c (by decide) (by decide) (by decide)),
      (hr.1 c _).trans (V3_arg m hm c (by decide) (by decide) (by decide)),
      (hr.1 c _).trans (V3_arg m hm c (by decide) (by decide) (by decide))⟩) (run_main m ρ hm)
  · refine (θ_run Cert.ReferenceIdeal.defs _ _).mono (fun r hr c => ⟨(hr c).1.trans ?_, (hr c).2⟩)
      (Cert.ReferenceIdeal.Value.run (F := Ideal) m' ρ')
    obtain ⟨e0, e1, e2, e3, e4, e5⟩ := hagree c
    rw [reference_eq, e0, e1, e2, e3, e4, e5]
    exact (value_eq m hm c (h c)).symm

end Cert.Proof
-- ==== Proof.lean ====
/- The claim: the frames of the kernel and of the reference, that the ideal program is the kernel, and that its result is the reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_ok
public import proofs.«01_k».proof.Proof.Gen.Pre_inputs_ok
public import proofs.«01_k».proof.Proof.Frames
public import proofs.«01_k».proof.Proof.RefRun
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_ids_ok.Gen.facts,
  Cert.Pre_inputs_ok.Gen.facts, frame_kernel, frame_kernelIdeal, frame_kernelIdeal_pre, frame_reference, frame_reference_pre, trivial, algebraic⟩

end Cert.Proof

end
